-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ffn_finite [hPre_ffn_finite : Cert.Pre_ffn_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ffn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_ffn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_ffn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ffn_finite [hPre_ffn_finite : Cert.Pre_ffn_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ffn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_ffn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_ffn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_DH2RefIdeal (m : (ℓ : Loc Cert.DH2RefIdeal.nD Cert.DH2RefIdeal.τ Cert.DH2RefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_DH1RefIdeal (m : (ℓ : Loc Cert.DH1RefIdeal.nD Cert.DH1RefIdeal.τ Cert.DH1RefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DAttn (m : (ℓ : Loc Cert.DAttn.nD Cert.DAttn.τ Cert.DAttn.sig) → Buf (Elt Bits) ℓ) : Prop :=
  True

def Pre_DAttnIdeal (m : (ℓ : Loc Cert.DAttnIdeal.nD Cert.DAttnIdeal.τ Cert.DAttnIdeal.sig) → Buf (Elt Ideal) ℓ) : Prop :=
  True

def Pre_DAttnRefIdeal (m : (ℓ : Loc Cert.DAttnRefIdeal.nD Cert.DAttnRefIdeal.τ Cert.DAttnRefIdeal.sig) → Buf (Elt Ideal) ℓ) : Prop :=
  True

def Pre_DwBa (m : (ℓ : Loc Cert.DwBa.nD Cert.DwBa.τ Cert.DwBa.sig) → Buf (Elt Bits) ℓ) : Prop :=
  True

def Pre_DwBaIdeal (m : (ℓ : Loc Cert.DwBaIdeal.nD Cert.DwBaIdeal.τ Cert.DwBaIdeal.sig) → Buf (Elt Ideal) ℓ) : Prop :=
  True

def Pre_DwBaRefIdeal (m : (ℓ : Loc Cert.DwBaRefIdeal.nD Cert.DwBaRefIdeal.τ Cert.DwBaRefIdeal.sig) → Buf (Elt Ideal) ℓ) : Prop :=
  True

def Pre_DwBs (m : (ℓ : Loc Cert.DwBs.nD Cert.DwBs.τ Cert.DwBs.sig) → Buf (Elt Bits) ℓ) : Prop :=
  True

def Pre_DwBsIdeal (m : (ℓ : Loc Cert.DwBsIdeal.nD Cert.DwBsIdeal.τ Cert.DwBsIdeal.sig) → Buf (Elt Ideal) ℓ) : Prop :=
  True

def Pre_DwBsRefIdeal (m : (ℓ : Loc Cert.DwBsRefIdeal.nD Cert.DwBsRefIdeal.τ Cert.DwBsRefIdeal.sig) → Buf (Elt Ideal) ℓ) : Prop :=
  True

def Pre_DwGlu (m : (ℓ : Loc Cert.DwGlu.nD Cert.DwGlu.τ Cert.DwGlu.sig) → Buf (Elt Bits) ℓ) : Prop :=
  True

def Pre_DwGluIdeal (m : (ℓ : Loc Cert.DwGluIdeal.nD Cert.DwGluIdeal.τ Cert.DwGluIdeal.sig) → Buf (Elt Ideal) ℓ) : Prop :=
  True

def Pre_DwGluRefIdeal (m : (ℓ : Loc Cert.DwGluRefIdeal.nD Cert.DwGluRefIdeal.τ Cert.DwGluRefIdeal.sig) → Buf (Elt Ideal) ℓ) : Prop :=
  True

def Pre_DGy (m : (ℓ : Loc Cert.DGy.nD Cert.DGy.τ Cert.DGy.sig) → Buf (Elt Bits) ℓ) : Prop :=
  True

def Pre_DGyIdeal (m : (ℓ : Loc Cert.DGyIdeal.nD Cert.DGyIdeal.τ Cert.DGyIdeal.sig) → Buf (Elt Ideal) ℓ) : Prop :=
  True

def Pre_DGyRefIdeal (m : (ℓ : Loc Cert.DGyRefIdeal.nD Cert.DGyRefIdeal.τ Cert.DGyRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_BranchA (m : (ℓ : Loc Cert.BranchA.nD Cert.BranchA.τ Cert.BranchA.sig) → Buf (Elt Bits) ℓ) : Prop :=
  True

def Pre_BranchAIdeal (m : (ℓ : Loc Cert.BranchAIdeal.nD Cert.BranchAIdeal.τ Cert.BranchAIdeal.sig) → Buf (Elt Ideal) ℓ) : Prop :=
  True

def Pre_BranchARefIdeal (m : (ℓ : Loc Cert.BranchARefIdeal.nD Cert.BranchARefIdeal.τ Cert.BranchARefIdeal.sig) → Buf (Elt Ideal) ℓ) : Prop :=
  True

def Pre_BranchS (m : (ℓ : Loc Cert.BranchS.nD Cert.BranchS.τ Cert.BranchS.sig) → Buf (Elt Bits) ℓ) : Prop :=
  True

def Pre_BranchSIdeal (m : (ℓ : Loc Cert.BranchSIdeal.nD Cert.BranchSIdeal.τ Cert.BranchSIdeal.sig) → Buf (Elt Ideal) ℓ) : Prop :=
  True

def Pre_BranchSRefIdeal (m : (ℓ : Loc Cert.BranchSRefIdeal.nD Cert.BranchSRefIdeal.τ Cert.BranchSRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_ProjUp (m : (ℓ : Loc Cert.ProjUp.nD Cert.ProjUp.τ Cert.ProjUp.sig) → Buf (Elt Bits) ℓ) : Prop :=
  True

def Pre_ProjUpIdeal (m : (ℓ : Loc Cert.ProjUpIdeal.nD Cert.ProjUpIdeal.τ Cert.ProjUpIdeal.sig) → Buf (Elt Ideal) ℓ) : Prop :=
  True

def Pre_ProjUpRefIdeal (m : (ℓ : Loc Cert.ProjUpRefIdeal.nD Cert.ProjUpRefIdeal.τ Cert.ProjUpRefIdeal.sig) → Buf (Elt Ideal) ℓ) : Prop :=
  True

def Pre_ProjDown (m : (ℓ : Loc Cert.ProjDown.nD Cert.ProjDown.τ Cert.ProjDown.sig) → Buf (Elt Bits) ℓ) : Prop :=
  True

def Pre_ProjDownIdeal (m : (ℓ : Loc Cert.ProjDownIdeal.nD Cert.ProjDownIdeal.τ Cert.ProjDownIdeal.sig) → Buf (Elt Ideal) ℓ) : Prop :=
  True

def Pre_ProjDownRefIdeal (m : (ℓ : Loc Cert.ProjDownRefIdeal.nD Cert.ProjDownRefIdeal.τ Cert.ProjDownRefIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedRefIdeal (m : (ℓ : Loc Cert.DMergedRefIdeal.nD Cert.DMergedRefIdeal.τ Cert.DMergedRefIdeal.sig) → Buf (Elt Ideal) ℓ) : Prop :=
  True

def Pre_Rms2Bwd (m : (ℓ : Loc Cert.Rms2Bwd.nD Cert.Rms2Bwd.τ Cert.Rms2Bwd.sig) → Buf (Elt Bits) ℓ) : Prop :=
  True

def Pre_Rms2BwdIdeal (m : (ℓ : Loc Cert.Rms2BwdIdeal.nD Cert.Rms2BwdIdeal.τ Cert.Rms2BwdIdeal.sig) → Buf (Elt Ideal) ℓ) : Prop :=
  True

def Pre_Rms2BwdRefIdeal (m : (ℓ : Loc Cert.Rms2BwdRefIdeal.nD Cert.Rms2BwdRefIdeal.τ Cert.Rms2BwdRefIdeal.sig) → Buf (Elt Ideal) ℓ) : Prop :=
  True

def Pre_Rms1Bwd (m : (ℓ : Loc Cert.Rms1Bwd.nD Cert.Rms1Bwd.τ Cert.Rms1Bwd.sig) → Buf (Elt Bits) ℓ) : Prop :=
  True

def Pre_Rms1BwdIdeal (m : (ℓ : Loc Cert.Rms1BwdIdeal.nD Cert.Rms1BwdIdeal.τ Cert.Rms1BwdIdeal.sig) → Buf (Elt Ideal) ℓ) : Prop :=
  True

def Pre_Rms1BwdRefIdeal (m : (ℓ : Loc Cert.Rms1BwdRefIdeal.nD Cert.Rms1BwdRefIdeal.τ Cert.Rms1BwdRefIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossRefIdeal (m : (ℓ : Loc Cert.FinalLossRefIdeal.nD Cert.FinalLossRefIdeal.τ Cert.FinalLossRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_DSsm (m : (ℓ : Loc Cert.DSsm.nD Cert.DSsm.τ Cert.DSsm.sig) → Buf (Elt Bits) ℓ) : Prop :=
  True

def Pre_DSsmIdeal (m : (ℓ : Loc Cert.DSsmIdeal.nD Cert.DSsmIdeal.τ Cert.DSsmIdeal.sig) → Buf (Elt Ideal) ℓ) : Prop :=
  True

def Pre_DSsmRefIdeal (m : (ℓ : Loc Cert.DSsmRefIdeal.nD Cert.DSsmRefIdeal.τ Cert.DSsmRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_finite [hPre_attn_finite : Cert.Pre_attn_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).2.2 = (fun _ => 1#1)

def Pre_SsmDiscBwd (m : (ℓ : Loc Cert.SsmDiscBwd.nD Cert.SsmDiscBwd.τ Cert.SsmDiscBwd.sig) → Buf (Elt Bits) ℓ) : Prop :=
  True

def Pre_SsmDiscBwdIdeal (m : (ℓ : Loc Cert.SsmDiscBwdIdeal.nD Cert.SsmDiscBwdIdeal.τ Cert.SsmDiscBwdIdeal.sig) → Buf (Elt Ideal) ℓ) : Prop :=
  True

def Pre_SsmDiscBwdRefIdeal (m : (ℓ : Loc Cert.SsmDiscBwdRefIdeal.nD Cert.SsmDiscBwdRefIdeal.τ Cert.SsmDiscBwdRefIdeal.sig) → Buf (Elt Ideal) ℓ) : Prop :=
  True

def Pre_SsmDiscFwd (m : (ℓ : Loc Cert.SsmDiscFwd.nD Cert.SsmDiscFwd.τ Cert.SsmDiscFwd.sig) → Buf (Elt Bits) ℓ) : Prop :=
  True

def Pre_SsmDiscFwdIdeal (m : (ℓ : Loc Cert.SsmDiscFwdIdeal.nD Cert.SsmDiscFwdIdeal.τ Cert.SsmDiscFwdIdeal.sig) → Buf (Elt Ideal) ℓ) : Prop :=
  True

def Pre_SsmDiscFwdRefIdeal (m : (ℓ : Loc Cert.SsmDiscFwdRefIdeal.nD Cert.SsmDiscFwdRefIdeal.τ Cert.SsmDiscFwdRefIdeal.sig) → Buf (Elt Ideal) ℓ) : Prop :=
  True

def Pre_JoinDproj (m : (ℓ : Loc Cert.JoinDproj.nD Cert.JoinDproj.τ Cert.JoinDproj.sig) → Buf (Elt Bits) ℓ) : Prop :=
  True

def Pre_JoinDprojIdeal (m : (ℓ : Loc Cert.JoinDprojIdeal.nD Cert.JoinDprojIdeal.τ Cert.JoinDprojIdeal.sig) → Buf (Elt Ideal) ℓ) : Prop :=
  True

def Pre_JoinDprojRefIdeal (m : (ℓ : Loc Cert.JoinDprojRefIdeal.nD Cert.JoinDprojRefIdeal.τ Cert.JoinDprojRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ffn_finite [hKernelIdeal : Cert.KernelIdeal.Facts] [hPre_ffn_finite : Cert.Pre_ffn_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ffn_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ffn_finite [hReferenceIdeal : Cert.ReferenceIdeal.Facts] [hPre_ffn_finite : Cert.Pre_ffn_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ffn_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ r.2.sem = fun _ => 0)

def quiescent_DH2RefIdeal [hDH2RefIdeal : Cert.DH2RefIdeal.Facts] : Prop :=
  ∀ (m : (ℓ : Loc Cert.DH2RefIdeal.nD Cert.DH2RefIdeal.τ Cert.DH2RefIdeal.sig) → Buf (Elt Ideal) ℓ) (g : Dev Cert.DH2RefIdeal.nD → PrngReg), Pre_DH2RefIdeal m →
    θ_run (Cert.DH2RefIdeal.defs (F := Ideal)) (onTc (τ := Cert.DH2RefIdeal.τ) (Cert.DH2RefIdeal.main (F := Ideal))) ⟨m, fun _ => 0, g⟩ (fun r => (∀ c : Dev Cert.DH2RefIdeal.nD,
      r.2.mem ((c.tc : Thread Cert.DH2RefIdeal.nD Cert.DH2RefIdeal.τ).loc Cert.DH2RefIdeal.main_arg0) = m ((c.tc : Thread Cert.DH2RefIdeal.nD Cert.DH2RefIdeal.τ).loc Cert.DH2RefIdeal.main_arg0)
      ∧ r.2.mem ((c.tc : Thread Cert.DH2RefIdeal.nD Cert.DH2RefIdeal.τ).loc Cert.DH2RefIdeal.main_arg1) = m ((c.tc : Thread Cert.DH2RefIdeal.nD Cert.DH2RefIdeal.τ).loc Cert.DH2RefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1))
      ∧ r.2.sem = fun _ => 0)

def quiescent_DH1RefIdeal [hDH1RefIdeal : Cert.DH1RefIdeal.Facts] : Prop :=
  ∀ (m : (ℓ : Loc Cert.DH1RefIdeal.nD Cert.DH1RefIdeal.τ Cert.DH1RefIdeal.sig) → Buf (Elt Ideal) ℓ) (g : Dev Cert.DH1RefIdeal.nD → PrngReg), Pre_DH1RefIdeal m →
    θ_run (Cert.DH1RefIdeal.defs (F := Ideal)) (onTc (τ := Cert.DH1RefIdeal.τ) (Cert.DH1RefIdeal.main (F := Ideal))) ⟨m, fun _ => 0, g⟩ (fun r => (∀ c : Dev Cert.DH1RefIdeal.nD,
      r.2.mem ((c.tc : Thread Cert.DH1RefIdeal.nD Cert.DH1RefIdeal.τ).loc Cert.DH1RefIdeal.main_arg0) = m ((c.tc : Thread Cert.DH1RefIdeal.nD Cert.DH1RefIdeal.τ).loc Cert.DH1RefIdeal.main_arg0)
      ∧ r.2.mem ((c.tc : Thread Cert.DH1RefIdeal.nD Cert.DH1RefIdeal.τ).loc Cert.DH1RefIdeal.main_arg1) = m ((c.tc : Thread Cert.DH1RefIdeal.nD Cert.DH1RefIdeal.τ).loc Cert.DH1RefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DAttn [hDAttn : Cert.DAttn.Facts] : Prop :=
  ∀ (m : (ℓ : Loc Cert.DAttn.nD Cert.DAttn.τ Cert.DAttn.sig) → Buf (Elt Bits) ℓ) (g : Dev Cert.DAttn.nD → PrngReg), Pre_DAttn m →
    θ_run (Cert.DAttn.defs (F := Bits)) (onTc (τ := Cert.DAttn.τ) (Cert.DAttn.main (F := Bits))) ⟨m, fun _ => 0, g⟩ (fun r => (∀ c : Dev Cert.DAttn.nD,
      r.2.mem ((c.tc : Thread Cert.DAttn.nD Cert.DAttn.τ).loc Cert.DAttn.main_arg0) = m ((c.tc : Thread Cert.DAttn.nD Cert.DAttn.τ).loc Cert.DAttn.main_arg0)
      ∧ r.2.mem ((c.tc : Thread Cert.DAttn.nD Cert.DAttn.τ).loc Cert.DAttn.main_arg1) = m ((c.tc : Thread Cert.DAttn.nD Cert.DAttn.τ).loc Cert.DAttn.main_arg1))
      ∧ r.2.sem = fun _ => 0)

def quiescent_DAttnIdeal [hDAttnIdeal : Cert.DAttnIdeal.Facts] : Prop :=
  ∀ (m : (ℓ : Loc Cert.DAttnIdeal.nD Cert.DAttnIdeal.τ Cert.DAttnIdeal.sig) → Buf (Elt Ideal) ℓ) (g : Dev Cert.DAttnIdeal.nD → PrngReg), Pre_DAttnIdeal m →
    θ_run (Cert.DAttnIdeal.defs (F := Ideal)) (onTc (τ := Cert.DAttnIdeal.τ) (Cert.DAttnIdeal.main (F := Ideal))) ⟨m, fun _ => 0, g⟩ (fun r => (∀ c : Dev Cert.DAttnIdeal.nD,
      r.2.mem ((c.tc : Thread Cert.DAttnIdeal.nD Cert.DAttnIdeal.τ).loc Cert.DAttnIdeal.main_arg0) = m ((c.tc : Thread Cert.DAttnIdeal.nD Cert.DAttnIdeal.τ).loc Cert.DAttnIdeal.main_arg0)
      ∧ r.2.mem ((c.tc : Thread Cert.DAttnIdeal.nD Cert.DAttnIdeal.τ).loc Cert.DAttnIdeal.main_arg1) = m ((c.tc : Thread Cert.DAttnIdeal.nD Cert.DAttnIdeal.τ).loc Cert.DAttnIdeal.main_arg1))
      ∧ r.2.sem = fun _ => 0)

def quiescent_DAttnRefIdeal [hDAttnRefIdeal : Cert.DAttnRefIdeal.Facts] : Prop :=
  ∀ (m : (ℓ : Loc Cert.DAttnRefIdeal.nD Cert.DAttnRefIdeal.τ Cert.DAttnRefIdeal.sig) → Buf (Elt Ideal) ℓ) (g : Dev Cert.DAttnRefIdeal.nD → PrngReg), Pre_DAttnRefIdeal m →
    θ_run (Cert.DAttnRefIdeal.defs (F := Ideal)) (onTc (τ := Cert.DAttnRefIdeal.τ) (Cert.DAttnRefIdeal.main (F := Ideal))) ⟨m, fun _ => 0, g⟩ (fun r => (∀ c : Dev Cert.DAttnRefIdeal.nD,
      r.2.mem ((c.tc : Thread Cert.DAttnRefIdeal.nD Cert.DAttnRefIdeal.τ).loc Cert.DAttnRefIdeal.main_arg0) = m ((c.tc : Thread Cert.DAttnRefIdeal.nD Cert.DAttnRefIdeal.τ).loc Cert.DAttnRefIdeal.main_arg0)
      ∧ r.2.mem ((c.tc : Thread Cert.DAttnRefIdeal.nD Cert.DAttnRefIdeal.τ).loc Cert.DAttnRefIdeal.main_arg1) = m ((c.tc : Thread Cert.DAttnRefIdeal.nD Cert.DAttnRefIdeal.τ).loc Cert.DAttnRefIdeal.main_arg1))
      ∧ r.2.sem = fun _ => 0)

def quiescent_DwBa [hDwBa : Cert.DwBa.Facts] : Prop :=
  ∀ (m : (ℓ : Loc Cert.DwBa.nD Cert.DwBa.τ Cert.DwBa.sig) → Buf (Elt Bits) ℓ) (g : Dev Cert.DwBa.nD → PrngReg), Pre_DwBa m →
    θ_run (Cert.DwBa.defs (F := Bits)) (onTc (τ := Cert.DwBa.τ) (Cert.DwBa.main (F := Bits))) ⟨m, fun _ => 0, g⟩ (fun r => (∀ c : Dev Cert.DwBa.nD,
      r.2.mem ((c.tc : Thread Cert.DwBa.nD Cert.DwBa.τ).loc Cert.DwBa.main_arg0) = m ((c.tc : Thread Cert.DwBa.nD Cert.DwBa.τ).loc Cert.DwBa.main_arg0)
      ∧ r.2.mem ((c.tc : Thread Cert.DwBa.nD Cert.DwBa.τ).loc Cert.DwBa.main_arg1) = m ((c.tc : Thread Cert.DwBa.nD Cert.DwBa.τ).loc Cert.DwBa.main_arg1))
      ∧ r.2.sem = fun _ => 0)

def quiescent_DwBaIdeal [hDwBaIdeal : Cert.DwBaIdeal.Facts] : Prop :=
  ∀ (m : (ℓ : Loc Cert.DwBaIdeal.nD Cert.DwBaIdeal.τ Cert.DwBaIdeal.sig) → Buf (Elt Ideal) ℓ) (g : Dev Cert.DwBaIdeal.nD → PrngReg), Pre_DwBaIdeal m →
    θ_run (Cert.DwBaIdeal.defs (F := Ideal)) (onTc (τ := Cert.DwBaIdeal.τ) (Cert.DwBaIdeal.main (F := Ideal))) ⟨m, fun _ => 0, g⟩ (fun r => (∀ c : Dev Cert.DwBaIdeal.nD,
      r.2.mem ((c.tc : Thread Cert.DwBaIdeal.nD Cert.DwBaIdeal.τ).loc Cert.DwBaIdeal.main_arg0) = m ((c.tc : Thread Cert.DwBaIdeal.nD Cert.DwBaIdeal.τ).loc Cert.DwBaIdeal.main_arg0)
      ∧ r.2.mem ((c.tc : Thread Cert.DwBaIdeal.nD Cert.DwBaIdeal.τ).loc Cert.DwBaIdeal.main_arg1) = m ((c.tc : Thread Cert.DwBaIdeal.nD Cert.DwBaIdeal.τ).loc Cert.DwBaIdeal.main_arg1))
      ∧ r.2.sem = fun _ => 0)

def quiescent_DwBaRefIdeal [hDwBaRefIdeal : Cert.DwBaRefIdeal.Facts] : Prop :=
  ∀ (m : (ℓ : Loc Cert.DwBaRefIdeal.nD Cert.DwBaRefIdeal.τ Cert.DwBaRefIdeal.sig) → Buf (Elt Ideal) ℓ) (g : Dev Cert.DwBaRefIdeal.nD → PrngReg), Pre_DwBaRefIdeal m →
    θ_run (Cert.DwBaRefIdeal.defs (F := Ideal)) (onTc (τ := Cert.DwBaRefIdeal.τ) (Cert.DwBaRefIdeal.main (F := Ideal))) ⟨m, fun _ => 0, g⟩ (fun r => (∀ c : Dev Cert.DwBaRefIdeal.nD,
      r.2.mem ((c.tc : Thread Cert.DwBaRefIdeal.nD Cert.DwBaRefIdeal.τ).loc Cert.DwBaRefIdeal.main_arg0) = m ((c.tc : Thread Cert.DwBaRefIdeal.nD Cert.DwBaRefIdeal.τ).loc Cert.DwBaRefIdeal.main_arg0)
      ∧ r.2.mem ((c.tc : Thread Cert.DwBaRefIdeal.nD Cert.DwBaRefIdeal.τ).loc Cert.DwBaRefIdeal.main_arg1) = m ((c.tc : Thread Cert.DwBaRefIdeal.nD Cert.DwBaRefIdeal.τ).loc Cert.DwBaRefIdeal.main_arg1))
      ∧ r.2.sem = fun _ => 0)

def quiescent_DwBs [hDwBs : Cert.DwBs.Facts] : Prop :=
  ∀ (m : (ℓ : Loc Cert.DwBs.nD Cert.DwBs.τ Cert.DwBs.sig) → Buf (Elt Bits) ℓ) (g : Dev Cert.DwBs.nD → PrngReg), Pre_DwBs m →
    θ_run (Cert.DwBs.defs (F := Bits)) (onTc (τ := Cert.DwBs.τ) (Cert.DwBs.main (F := Bits))) ⟨m, fun _ => 0, g⟩ (fun r => (∀ c : Dev Cert.DwBs.nD,
      r.2.mem ((c.tc : Thread Cert.DwBs.nD Cert.DwBs.τ).loc Cert.DwBs.main_arg0) = m ((c.tc : Thread Cert.DwBs.nD Cert.DwBs.τ).loc Cert.DwBs.main_arg0)
      ∧ r.2.mem ((c.tc : Thread Cert.DwBs.nD Cert.DwBs.τ).loc Cert.DwBs.main_arg1) = m ((c.tc : Thread Cert.DwBs.nD Cert.DwBs.τ).loc Cert.DwBs.main_arg1))
      ∧ r.2.sem = fun _ => 0)

def quiescent_DwBsIdeal [hDwBsIdeal : Cert.DwBsIdeal.Facts] : Prop :=
  ∀ (m : (ℓ : Loc Cert.DwBsIdeal.nD Cert.DwBsIdeal.τ Cert.DwBsIdeal.sig) → Buf (Elt Ideal) ℓ) (g : Dev Cert.DwBsIdeal.nD → PrngReg), Pre_DwBsIdeal m →
    θ_run (Cert.DwBsIdeal.defs (F := Ideal)) (onTc (τ := Cert.DwBsIdeal.τ) (Cert.DwBsIdeal.main (F := Ideal))) ⟨m, fun _ => 0, g⟩ (fun r => (∀ c : Dev Cert.DwBsIdeal.nD,
      r.2.mem ((c.tc : Thread Cert.DwBsIdeal.nD Cert.DwBsIdeal.τ).loc Cert.DwBsIdeal.main_arg0) = m ((c.tc : Thread Cert.DwBsIdeal.nD Cert.DwBsIdeal.τ).loc Cert.DwBsIdeal.main_arg0)
      ∧ r.2.mem ((c.tc : Thread Cert.DwBsIdeal.nD Cert.DwBsIdeal.τ).loc Cert.DwBsIdeal.main_arg1) = m ((c.tc : Thread Cert.DwBsIdeal.nD Cert.DwBsIdeal.τ).loc Cert.DwBsIdeal.main_arg1))
      ∧ r.2.sem = fun _ => 0)

def quiescent_DwBsRefIdeal [hDwBsRefIdeal : Cert.DwBsRefIdeal.Facts] : Prop :=
  ∀ (m : (ℓ : Loc Cert.DwBsRefIdeal.nD Cert.DwBsRefIdeal.τ Cert.DwBsRefIdeal.sig) → Buf (Elt Ideal) ℓ) (g : Dev Cert.DwBsRefIdeal.nD → PrngReg), Pre_DwBsRefIdeal m →
    θ_run (Cert.DwBsRefIdeal.defs (F := Ideal)) (onTc (τ := Cert.DwBsRefIdeal.τ) (Cert.DwBsRefIdeal.main (F := Ideal))) ⟨m, fun _ => 0, g⟩ (fun r => (∀ c : Dev Cert.DwBsRefIdeal.nD,
      r.2.mem ((c.tc : Thread Cert.DwBsRefIdeal.nD Cert.DwBsRefIdeal.τ).loc Cert.DwBsRefIdeal.main_arg0) = m ((c.tc : Thread Cert.DwBsRefIdeal.nD Cert.DwBsRefIdeal.τ).loc Cert.DwBsRefIdeal.main_arg0)
      ∧ r.2.mem ((c.tc : Thread Cert.DwBsRefIdeal.nD Cert.DwBsRefIdeal.τ).loc Cert.DwBsRefIdeal.main_arg1) = m ((c.tc : Thread Cert.DwBsRefIdeal.nD Cert.DwBsRefIdeal.τ).loc Cert.DwBsRefIdeal.main_arg1))
      ∧ r.2.sem = fun _ => 0)

def quiescent_DwGlu [hDwGlu : Cert.DwGlu.Facts] : Prop :=
  ∀ (m : (ℓ : Loc Cert.DwGlu.nD Cert.DwGlu.τ Cert.DwGlu.sig) → Buf (Elt Bits) ℓ) (g : Dev Cert.DwGlu.nD → PrngReg), Pre_DwGlu m →
    θ_run (Cert.DwGlu.defs (F := Bits)) (onTc (τ := Cert.DwGlu.τ) (Cert.DwGlu.main (F := Bits))) ⟨m, fun _ => 0, g⟩ (fun r => (∀ c : Dev Cert.DwGlu.nD,
      r.2.mem ((c.tc : Thread Cert.DwGlu.nD Cert.DwGlu.τ).loc Cert.DwGlu.main_arg0) = m ((c.tc : Thread Cert.DwGlu.nD Cert.DwGlu.τ).loc Cert.DwGlu.main_arg0)
      ∧ r.2.mem ((c.tc : Thread Cert.DwGlu.nD Cert.DwGlu.τ).loc Cert.DwGlu.main_arg1) = m ((c.tc : Thread Cert.DwGlu.nD Cert.DwGlu.τ).loc Cert.DwGlu.main_arg1))
      ∧ r.2.sem = fun _ => 0)

def quiescent_DwGluIdeal [hDwGluIdeal : Cert.DwGluIdeal.Facts] : Prop :=
  ∀ (m : (ℓ : Loc Cert.DwGluIdeal.nD Cert.DwGluIdeal.τ Cert.DwGluIdeal.sig) → Buf (Elt Ideal) ℓ) (g : Dev Cert.DwGluIdeal.nD → PrngReg), Pre_DwGluIdeal m →
    θ_run (Cert.DwGluIdeal.defs (F := Ideal)) (onTc (τ := Cert.DwGluIdeal.τ) (Cert.DwGluIdeal.main (F := Ideal))) ⟨m, fun _ => 0, g⟩ (fun r => (∀ c : Dev Cert.DwGluIdeal.nD,
      r.2.mem ((c.tc : Thread Cert.DwGluIdeal.nD Cert.DwGluIdeal.τ).loc Cert.DwGluIdeal.main_arg0) = m ((c.tc : Thread Cert.DwGluIdeal.nD Cert.DwGluIdeal.τ).loc Cert.DwGluIdeal.main_arg0)
      ∧ r.2.mem ((c.tc : Thread Cert.DwGluIdeal.nD Cert.DwGluIdeal.τ).loc Cert.DwGluIdeal.main_arg1) = m ((c.tc : Thread Cert.DwGluIdeal.nD Cert.DwGluIdeal.τ).loc Cert.DwGluIdeal.main_arg1))
      ∧ r.2.sem = fun _ => 0)

def quiescent_DwGluRefIdeal [hDwGluRefIdeal : Cert.DwGluRefIdeal.Facts] : Prop :=
  ∀ (m : (ℓ : Loc Cert.DwGluRefIdeal.nD Cert.DwGluRefIdeal.τ Cert.DwGluRefIdeal.sig) → Buf (Elt Ideal) ℓ) (g : Dev Cert.DwGluRefIdeal.nD → PrngReg), Pre_DwGluRefIdeal m →
    θ_run (Cert.DwGluRefIdeal.defs (F := Ideal)) (onTc (τ := Cert.DwGluRefIdeal.τ) (Cert.DwGluRefIdeal.main (F := Ideal))) ⟨m, fun _ => 0, g⟩ (fun r => (∀ c : Dev Cert.DwGluRefIdeal.nD,
      r.2.mem ((c.tc : Thread Cert.DwGluRefIdeal.nD Cert.DwGluRefIdeal.τ).loc Cert.DwGluRefIdeal.main_arg0) = m ((c.tc : Thread Cert.DwGluRefIdeal.nD Cert.DwGluRefIdeal.τ).loc Cert.DwGluRefIdeal.main_arg0)
      ∧ r.2.mem ((c.tc : Thread Cert.DwGluRefIdeal.nD Cert.DwGluRefIdeal.τ).loc Cert.DwGluRefIdeal.main_arg1) = m ((c.tc : Thread Cert.DwGluRefIdeal.nD Cert.DwGluRefIdeal.τ).loc Cert.DwGluRefIdeal.main_arg1))
      ∧ r.2.sem = fun _ => 0)

def quiescent_DGy [hDGy : Cert.DGy.Facts] : Prop :=
  ∀ (m : (ℓ : Loc Cert.DGy.nD Cert.DGy.τ Cert.DGy.sig) → Buf (Elt Bits) ℓ) (g : Dev Cert.DGy.nD → PrngReg), Pre_DGy m →
    θ_run (Cert.DGy.defs (F := Bits)) (onTc (τ := Cert.DGy.τ) (Cert.DGy.main (F := Bits))) ⟨m, fun _ => 0, g⟩ (fun r => (∀ c : Dev Cert.DGy.nD,
      r.2.mem ((c.tc : Thread Cert.DGy.nD Cert.DGy.τ).loc Cert.DGy.main_arg0) = m ((c.tc : Thread Cert.DGy.nD Cert.DGy.τ).loc Cert.DGy.main_arg0)
      ∧ r.2.mem ((c.tc : Thread Cert.DGy.nD Cert.DGy.τ).loc Cert.DGy.main_arg1) = m ((c.tc : Thread Cert.DGy.nD Cert.DGy.τ).loc Cert.DGy.main_arg1))
      ∧ r.2.sem = fun _ => 0)

def quiescent_DGyIdeal [hDGyIdeal : Cert.DGyIdeal.Facts] : Prop :=
  ∀ (m : (ℓ : Loc Cert.DGyIdeal.nD Cert.DGyIdeal.τ Cert.DGyIdeal.sig) → Buf (Elt Ideal) ℓ) (g : Dev Cert.DGyIdeal.nD → PrngReg), Pre_DGyIdeal m →
    θ_run (Cert.DGyIdeal.defs (F := Ideal)) (onTc (τ := Cert.DGyIdeal.τ) (Cert.DGyIdeal.main (F := Ideal))) ⟨m, fun _ => 0, g⟩ (fun r => (∀ c : Dev Cert.DGyIdeal.nD,
      r.2.mem ((c.tc : Thread Cert.DGyIdeal.nD Cert.DGyIdeal.τ).loc Cert.DGyIdeal.main_arg0) = m ((c.tc : Thread Cert.DGyIdeal.nD Cert.DGyIdeal.τ).loc Cert.DGyIdeal.main_arg0)
      ∧ r.2.mem ((c.tc : Thread Cert.DGyIdeal.nD Cert.DGyIdeal.τ).loc Cert.DGyIdeal.main_arg1) = m ((c.tc : Thread Cert.DGyIdeal.nD Cert.DGyIdeal.τ).loc Cert.DGyIdeal.main_arg1))
      ∧ r.2.sem = fun _ => 0)

def quiescent_DGyRefIdeal [hDGyRefIdeal : Cert.DGyRefIdeal.Facts] : Prop :=
  ∀ (m : (ℓ : Loc Cert.DGyRefIdeal.nD Cert.DGyRefIdeal.τ Cert.DGyRefIdeal.sig) → Buf (Elt Ideal) ℓ) (g : Dev Cert.DGyRefIdeal.nD → PrngReg), Pre_DGyRefIdeal m →
    θ_run (Cert.DGyRefIdeal.defs (F := Ideal)) (onTc (τ := Cert.DGyRefIdeal.τ) (Cert.DGyRefIdeal.main (F := Ideal))) ⟨m, fun _ => 0, g⟩ (fun r => (∀ c : Dev Cert.DGyRefIdeal.nD,
      r.2.mem ((c.tc : Thread Cert.DGyRefIdeal.nD Cert.DGyRefIdeal.τ).loc Cert.DGyRefIdeal.main_arg0) = m ((c.tc : Thread Cert.DGyRefIdeal.nD Cert.DGyRefIdeal.τ).loc Cert.DGyRefIdeal.main_arg0)
      ∧ r.2.mem ((c.tc : Thread Cert.DGyRefIdeal.nD Cert.DGyRefIdeal.τ).loc Cert.DGyRefIdeal.main_arg1) = m ((c.tc : Thread Cert.DGyRefIdeal.nD Cert.DGyRefIdeal.τ).loc Cert.DGyRefIdeal.main_arg1))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1)
      ∧ r.2.mem ((c.tc : Thread Cert.ProjInRefIdeal.nD Cert.ProjInRefIdeal.τ).loc Cert.ProjInRefIdeal.main_arg2) = m ((c.tc : Thread Cert.ProjInRefIdeal.nD Cert.ProjInRefIdeal.τ).loc Cert.ProjInRefIdeal.main_arg2))
      ∧ r.2.sem = fun _ => 0)

def quiescent_BranchA [hBranchA : Cert.BranchA.Facts] : Prop :=
  ∀ (m : (ℓ : Loc Cert.BranchA.nD Cert.BranchA.τ Cert.BranchA.sig) → Buf (Elt Bits) ℓ) (g : Dev Cert.BranchA.nD → PrngReg), Pre_BranchA m →
    θ_run (Cert.BranchA.defs (F := Bits)) (onTc (τ := Cert.BranchA.τ) (Cert.BranchA.main (F := Bits))) ⟨m, fun _ => 0, g⟩ (fun r => (∀ c : Dev Cert.BranchA.nD,
      r.2.mem ((c.tc : Thread Cert.BranchA.nD Cert.BranchA.τ).loc Cert.BranchA.main_arg0) = m ((c.tc : Thread Cert.BranchA.nD Cert.BranchA.τ).loc Cert.BranchA.main_arg0)
      ∧ r.2.mem ((c.tc : Thread Cert.BranchA.nD Cert.BranchA.τ).loc Cert.BranchA.main_arg1) = m ((c.tc : Thread Cert.BranchA.nD Cert.BranchA.τ).loc Cert.BranchA.main_arg1))
      ∧ r.2.sem = fun _ => 0)

def quiescent_BranchAIdeal [hBranchAIdeal : Cert.BranchAIdeal.Facts] : Prop :=
  ∀ (m : (ℓ : Loc Cert.BranchAIdeal.nD Cert.BranchAIdeal.τ Cert.BranchAIdeal.sig) → Buf (Elt Ideal) ℓ) (g : Dev Cert.BranchAIdeal.nD → PrngReg), Pre_BranchAIdeal m →
    θ_run (Cert.BranchAIdeal.defs (F := Ideal)) (onTc (τ := Cert.BranchAIdeal.τ) (Cert.BranchAIdeal.main (F := Ideal))) ⟨m, fun _ => 0, g⟩ (fun r => (∀ c : Dev Cert.BranchAIdeal.nD,
      r.2.mem ((c.tc : Thread Cert.BranchAIdeal.nD Cert.BranchAIdeal.τ).loc Cert.BranchAIdeal.main_arg0) = m ((c.tc : Thread Cert.BranchAIdeal.nD Cert.BranchAIdeal.τ).loc Cert.BranchAIdeal.main_arg0)
      ∧ r.2.mem ((c.tc : Thread Cert.BranchAIdeal.nD Cert.BranchAIdeal.τ).loc Cert.BranchAIdeal.main_arg1) = m ((c.tc : Thread Cert.BranchAIdeal.nD Cert.BranchAIdeal.τ).loc Cert.BranchAIdeal.main_arg1))
      ∧ r.2.sem = fun _ => 0)

def quiescent_BranchARefIdeal [hBranchARefIdeal : Cert.BranchARefIdeal.Facts] : Prop :=
  ∀ (m : (ℓ : Loc Cert.BranchARefIdeal.nD Cert.BranchARefIdeal.τ Cert.BranchARefIdeal.sig) → Buf (Elt Ideal) ℓ) (g : Dev Cert.BranchARefIdeal.nD → PrngReg), Pre_BranchARefIdeal m →
    θ_run (Cert.BranchARefIdeal.defs (F := Ideal)) (onTc (τ := Cert.BranchARefIdeal.τ) (Cert.BranchARefIdeal.main (F := Ideal))) ⟨m, fun _ => 0, g⟩ (fun r => (∀ c : Dev Cert.BranchARefIdeal.nD,
      r.2.mem ((c.tc : Thread Cert.BranchARefIdeal.nD Cert.BranchARefIdeal.τ).loc Cert.BranchARefIdeal.main_arg0) = m ((c.tc : Thread Cert.BranchARefIdeal.nD Cert.BranchARefIdeal.τ).loc Cert.BranchARefIdeal.main_arg0)
      ∧ r.2.mem ((c.tc : Thread Cert.BranchARefIdeal.nD Cert.BranchARefIdeal.τ).loc Cert.BranchARefIdeal.main_arg1) = m ((c.tc : Thread Cert.BranchARefIdeal.nD Cert.BranchARefIdeal.τ).loc Cert.BranchARefIdeal.main_arg1))
      ∧ r.2.sem = fun _ => 0)

def quiescent_BranchS [hBranchS : Cert.BranchS.Facts] : Prop :=
  ∀ (m : (ℓ : Loc Cert.BranchS.nD Cert.BranchS.τ Cert.BranchS.sig) → Buf (Elt Bits) ℓ) (g : Dev Cert.BranchS.nD → PrngReg), Pre_BranchS m →
    θ_run (Cert.BranchS.defs (F := Bits)) (onTc (τ := Cert.BranchS.τ) (Cert.BranchS.main (F := Bits))) ⟨m, fun _ => 0, g⟩ (fun r => (∀ c : Dev Cert.BranchS.nD,
      r.2.mem ((c.tc : Thread Cert.BranchS.nD Cert.BranchS.τ).loc Cert.BranchS.main_arg0) = m ((c.tc : Thread Cert.BranchS.nD Cert.BranchS.τ).loc Cert.BranchS.main_arg0)
      ∧ r.2.mem ((c.tc : Thread Cert.BranchS.nD Cert.BranchS.τ).loc Cert.BranchS.main_arg1) = m ((c.tc : Thread Cert.BranchS.nD Cert.BranchS.τ).loc Cert.BranchS.main_arg1))
      ∧ r.2.sem = fun _ => 0)

def quiescent_BranchSIdeal [hBranchSIdeal : Cert.BranchSIdeal.Facts] : Prop :=
  ∀ (m : (ℓ : Loc Cert.BranchSIdeal.nD Cert.BranchSIdeal.τ Cert.BranchSIdeal.sig) → Buf (Elt Ideal) ℓ) (g : Dev Cert.BranchSIdeal.nD → PrngReg), Pre_BranchSIdeal m →
    θ_run (Cert.BranchSIdeal.defs (F := Ideal)) (onTc (τ := Cert.BranchSIdeal.τ) (Cert.BranchSIdeal.main (F := Ideal))) ⟨m, fun _ => 0, g⟩ (fun r => (∀ c : Dev Cert.BranchSIdeal.nD,
      r.2.mem ((c.tc : Thread Cert.BranchSIdeal.nD Cert.BranchSIdeal.τ).loc Cert.BranchSIdeal.main_arg0) = m ((c.tc : Thread Cert.BranchSIdeal.nD Cert.BranchSIdeal.τ).loc Cert.BranchSIdeal.main_arg0)
      ∧ r.2.mem ((c.tc : Thread Cert.BranchSIdeal.nD Cert.BranchSIdeal.τ).loc Cert.BranchSIdeal.main_arg1) = m ((c.tc : Thread Cert.BranchSIdeal.nD Cert.BranchSIdeal.τ).loc Cert.BranchSIdeal.main_arg1))
      ∧ r.2.sem = fun _ => 0)

def quiescent_BranchSRefIdeal [hBranchSRefIdeal : Cert.BranchSRefIdeal.Facts] : Prop :=
  ∀ (m : (ℓ : Loc Cert.BranchSRefIdeal.nD Cert.BranchSRefIdeal.τ Cert.BranchSRefIdeal.sig) → Buf (Elt Ideal) ℓ) (g : Dev Cert.BranchSRefIdeal.nD → PrngReg), Pre_BranchSRefIdeal m →
    θ_run (Cert.BranchSRefIdeal.defs (F := Ideal)) (onTc (τ := Cert.BranchSRefIdeal.τ) (Cert.BranchSRefIdeal.main (F := Ideal))) ⟨m, fun _ => 0, g⟩ (fun r => (∀ c : Dev Cert.BranchSRefIdeal.nD,
      r.2.mem ((c.tc : Thread Cert.BranchSRefIdeal.nD Cert.BranchSRefIdeal.τ).loc Cert.BranchSRefIdeal.main_arg0) = m ((c.tc : Thread Cert.BranchSRefIdeal.nD Cert.BranchSRefIdeal.τ).loc Cert.BranchSRefIdeal.main_arg0)
      ∧ r.2.mem ((c.tc : Thread Cert.BranchSRefIdeal.nD Cert.BranchSRefIdeal.τ).loc Cert.BranchSRefIdeal.main_arg1) = m ((c.tc : Thread Cert.BranchSRefIdeal.nD Cert.BranchSRefIdeal.τ).loc Cert.BranchSRefIdeal.main_arg1))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1)
      ∧ r.2.mem ((c.tc : Thread Cert.ProjOutRefIdeal.nD Cert.ProjOutRefIdeal.τ).loc Cert.ProjOutRefIdeal.main_arg2) = m ((c.tc : Thread Cert.ProjOutRefIdeal.nD Cert.ProjOutRefIdeal.τ).loc Cert.ProjOutRefIdeal.main_arg2))
      ∧ r.2.sem = fun _ => 0)

def quiescent_ProjUp [hProjUp : Cert.ProjUp.Facts] : Prop :=
  ∀ (m : (ℓ : Loc Cert.ProjUp.nD Cert.ProjUp.τ Cert.ProjUp.sig) → Buf (Elt Bits) ℓ) (g : Dev Cert.ProjUp.nD → PrngReg), Pre_ProjUp m →
    θ_run (Cert.ProjUp.defs (F := Bits)) (onTc (τ := Cert.ProjUp.τ) (Cert.ProjUp.main (F := Bits))) ⟨m, fun _ => 0, g⟩ (fun r => (∀ c : Dev Cert.ProjUp.nD,
      r.2.mem ((c.tc : Thread Cert.ProjUp.nD Cert.ProjUp.τ).loc Cert.ProjUp.main_arg0) = m ((c.tc : Thread Cert.ProjUp.nD Cert.ProjUp.τ).loc Cert.ProjUp.main_arg0)
      ∧ r.2.mem ((c.tc : Thread Cert.ProjUp.nD Cert.ProjUp.τ).loc Cert.ProjUp.main_arg1) = m ((c.tc : Thread Cert.ProjUp.nD Cert.ProjUp.τ).loc Cert.ProjUp.main_arg1))
      ∧ r.2.sem = fun _ => 0)

def quiescent_ProjUpIdeal [hProjUpIdeal : Cert.ProjUpIdeal.Facts] : Prop :=
  ∀ (m : (ℓ : Loc Cert.ProjUpIdeal.nD Cert.ProjUpIdeal.τ Cert.ProjUpIdeal.sig) → Buf (Elt Ideal) ℓ) (g : Dev Cert.ProjUpIdeal.nD → PrngReg), Pre_ProjUpIdeal m →
    θ_run (Cert.ProjUpIdeal.defs (F := Ideal)) (onTc (τ := Cert.ProjUpIdeal.τ) (Cert.ProjUpIdeal.main (F := Ideal))) ⟨m, fun _ => 0, g⟩ (fun r => (∀ c : Dev Cert.ProjUpIdeal.nD,
      r.2.mem ((c.tc : Thread Cert.ProjUpIdeal.nD Cert.ProjUpIdeal.τ).loc Cert.ProjUpIdeal.main_arg0) = m ((c.tc : Thread Cert.ProjUpIdeal.nD Cert.ProjUpIdeal.τ).loc Cert.ProjUpIdeal.main_arg0)
      ∧ r.2.mem ((c.tc : Thread Cert.ProjUpIdeal.nD Cert.ProjUpIdeal.τ).loc Cert.ProjUpIdeal.main_arg1) = m ((c.tc : Thread Cert.ProjUpIdeal.nD Cert.ProjUpIdeal.τ).loc Cert.ProjUpIdeal.main_arg1))
      ∧ r.2.sem = fun _ => 0)

def quiescent_ProjUpRefIdeal [hProjUpRefIdeal : Cert.ProjUpRefIdeal.Facts] : Prop :=
  ∀ (m : (ℓ : Loc Cert.ProjUpRefIdeal.nD Cert.ProjUpRefIdeal.τ Cert.ProjUpRefIdeal.sig) → Buf (Elt Ideal) ℓ) (g : Dev Cert.ProjUpRefIdeal.nD → PrngReg), Pre_ProjUpRefIdeal m →
    θ_run (Cert.ProjUpRefIdeal.defs (F := Ideal)) (onTc (τ := Cert.ProjUpRefIdeal.τ) (Cert.ProjUpRefIdeal.main (F := Ideal))) ⟨m, fun _ => 0, g⟩ (fun r => (∀ c : Dev Cert.ProjUpRefIdeal.nD,
      r.2.mem ((c.tc : Thread Cert.ProjUpRefIdeal.nD Cert.ProjUpRefIdeal.τ).loc Cert.ProjUpRefIdeal.main_arg0) = m ((c.tc : Thread Cert.ProjUpRefIdeal.nD Cert.ProjUpRefIdeal.τ).loc Cert.ProjUpRefIdeal.main_arg0)
      ∧ r.2.mem ((c.tc : Thread Cert.ProjUpRefIdeal.nD Cert.ProjUpRefIdeal.τ).loc Cert.ProjUpRefIdeal.main_arg1) = m ((c.tc : Thread Cert.ProjUpRefIdeal.nD Cert.ProjUpRefIdeal.τ).loc Cert.ProjUpRefIdeal.main_arg1))
      ∧ r.2.sem = fun _ => 0)

def quiescent_ProjDown [hProjDown : Cert.ProjDown.Facts] : Prop :=
  ∀ (m : (ℓ : Loc Cert.ProjDown.nD Cert.ProjDown.τ Cert.ProjDown.sig) → Buf (Elt Bits) ℓ) (g : Dev Cert.ProjDown.nD → PrngReg), Pre_ProjDown m →
    θ_run (Cert.ProjDown.defs (F := Bits)) (onTc (τ := Cert.ProjDown.τ) (Cert.ProjDown.main (F := Bits))) ⟨m, fun _ => 0, g⟩ (fun r => (∀ c : Dev Cert.ProjDown.nD,
      r.2.mem ((c.tc : Thread Cert.ProjDown.nD Cert.ProjDown.τ).loc Cert.ProjDown.main_arg0) = m ((c.tc : Thread Cert.ProjDown.nD Cert.ProjDown.τ).loc Cert.ProjDown.main_arg0)
      ∧ r.2.mem ((c.tc : Thread Cert.ProjDown.nD Cert.ProjDown.τ).loc Cert.ProjDown.main_arg1) = m ((c.tc : Thread Cert.ProjDown.nD Cert.ProjDown.τ).loc Cert.ProjDown.main_arg1)
      ∧ r.2.mem ((c.tc : Thread Cert.ProjDown.nD Cert.ProjDown.τ).loc Cert.ProjDown.main_arg2) = m ((c.tc : Thread Cert.ProjDown.nD Cert.ProjDown.τ).loc Cert.ProjDown.main_arg2))
      ∧ r.2.sem = fun _ => 0)

def quiescent_ProjDownIdeal [hProjDownIdeal : Cert.ProjDownIdeal.Facts] : Prop :=
  ∀ (m : (ℓ : Loc Cert.ProjDownIdeal.nD Cert.ProjDownIdeal.τ Cert.ProjDownIdeal.sig) → Buf (Elt Ideal) ℓ) (g : Dev Cert.ProjDownIdeal.nD → PrngReg), Pre_ProjDownIdeal m →
    θ_run (Cert.ProjDownIdeal.defs (F := Ideal)) (onTc (τ := Cert.ProjDownIdeal.τ) (Cert.ProjDownIdeal.main (F := Ideal))) ⟨m, fun _ => 0, g⟩ (fun r => (∀ c : Dev Cert.ProjDownIdeal.nD,
      r.2.mem ((c.tc : Thread Cert.ProjDownIdeal.nD Cert.ProjDownIdeal.τ).loc Cert.ProjDownIdeal.main_arg0) = m ((c.tc : Thread Cert.ProjDownIdeal.nD Cert.ProjDownIdeal.τ).loc Cert.ProjDownIdeal.main_arg0)
      ∧ r.2.mem ((c.tc : Thread Cert.ProjDownIdeal.nD Cert.ProjDownIdeal.τ).loc Cert.ProjDownIdeal.main_arg1) = m ((c.tc : Thread Cert.ProjDownIdeal.nD Cert.ProjDownIdeal.τ).loc Cert.ProjDownIdeal.main_arg1)
      ∧ r.2.mem ((c.tc : Thread Cert.ProjDownIdeal.nD Cert.ProjDownIdeal.τ).loc Cert.ProjDownIdeal.main_arg2) = m ((c.tc : Thread Cert.ProjDownIdeal.nD Cert.ProjDownIdeal.τ).loc Cert.ProjDownIdeal.main_arg2))
      ∧ r.2.sem = fun _ => 0)

def quiescent_ProjDownRefIdeal [hProjDownRefIdeal : Cert.ProjDownRefIdeal.Facts] : Prop :=
  ∀ (m : (ℓ : Loc Cert.ProjDownRefIdeal.nD Cert.ProjDownRefIdeal.τ Cert.ProjDownRefIdeal.sig) → Buf (Elt Ideal) ℓ) (g : Dev Cert.ProjDownRefIdeal.nD → PrngReg), Pre_ProjDownRefIdeal m →
    θ_run (Cert.ProjDownRefIdeal.defs (F := Ideal)) (onTc (τ := Cert.ProjDownRefIdeal.τ) (Cert.ProjDownRefIdeal.main (F := Ideal))) ⟨m, fun _ => 0, g⟩ (fun r => (∀ c : Dev Cert.ProjDownRefIdeal.nD,
      r.2.mem ((c.tc : Thread Cert.ProjDownRefIdeal.nD Cert.ProjDownRefIdeal.τ).loc Cert.ProjDownRefIdeal.main_arg0) = m ((c.tc : Thread Cert.ProjDownRefIdeal.nD Cert.ProjDownRefIdeal.τ).loc Cert.ProjDownRefIdeal.main_arg0)
      ∧ r.2.mem ((c.tc : Thread Cert.ProjDownRefIdeal.nD Cert.ProjDownRefIdeal.τ).loc Cert.ProjDownRefIdeal.main_arg1) = m ((c.tc : Thread Cert.ProjDownRefIdeal.nD Cert.ProjDownRefIdeal.τ).loc Cert.ProjDownRefIdeal.main_arg1)
      ∧ r.2.mem ((c.tc : Thread Cert.ProjDownRefIdeal.nD Cert.ProjDownRefIdeal.τ).loc Cert.ProjDownRefIdeal.main_arg2) = m ((c.tc : Thread Cert.ProjDownRefIdeal.nD Cert.ProjDownRefIdeal.τ).loc Cert.ProjDownRefIdeal.main_arg2))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1)
      ∧ r.2.mem ((c.tc : Thread Cert.DMerged.nD Cert.DMerged.τ).loc Cert.DMerged.main_arg2) = m ((c.tc : Thread Cert.DMerged.nD Cert.DMerged.τ).loc Cert.DMerged.main_arg2)
      ∧ r.2.mem ((c.tc : Thread Cert.DMerged.nD Cert.DMerged.τ).loc Cert.DMerged.main_arg3) = m ((c.tc : Thread Cert.DMerged.nD Cert.DMerged.τ).loc Cert.DMerged.main_arg3)
      ∧ r.2.mem ((c.tc : Thread Cert.DMerged.nD Cert.DMerged.τ).loc Cert.DMerged.main_arg4) = m ((c.tc : Thread Cert.DMerged.nD Cert.DMerged.τ).loc Cert.DMerged.main_arg4))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1)
      ∧ r.2.mem ((c.tc : Thread Cert.DMergedIdeal.nD Cert.DMergedIdeal.τ).loc Cert.DMergedIdeal.main_arg2) = m ((c.tc : Thread Cert.DMergedIdeal.nD Cert.DMergedIdeal.τ).loc Cert.DMergedIdeal.main_arg2)
      ∧ r.2.mem ((c.tc : Thread Cert.DMergedIdeal.nD Cert.DMergedIdeal.τ).loc Cert.DMergedIdeal.main_arg3) = m ((c.tc : Thread Cert.DMergedIdeal.nD Cert.DMergedIdeal.τ).loc Cert.DMergedIdeal.main_arg3)
      ∧ r.2.mem ((c.tc : Thread Cert.DMergedIdeal.nD Cert.DMergedIdeal.τ).loc Cert.DMergedIdeal.main_arg4) = m ((c.tc : Thread Cert.DMergedIdeal.nD Cert.DMergedIdeal.τ).loc Cert.DMergedIdeal.main_arg4))
      ∧ r.2.sem = fun _ => 0)

def quiescent_DMergedRefIdeal [hDMergedRefIdeal : Cert.DMergedRefIdeal.Facts] : Prop :=
  ∀ (m : (ℓ : Loc Cert.DMergedRefIdeal.nD Cert.DMergedRefIdeal.τ Cert.DMergedRefIdeal.sig) → Buf (Elt Ideal) ℓ) (g : Dev Cert.DMergedRefIdeal.nD → PrngReg), Pre_DMergedRefIdeal m →
    θ_run (Cert.DMergedRefIdeal.defs (F := Ideal)) (onTc (τ := Cert.DMergedRefIdeal.τ) (Cert.DMergedRefIdeal.main (F := Ideal))) ⟨m, fun _ => 0, g⟩ (fun r => (∀ c : Dev Cert.DMergedRefIdeal.nD,
      r.2.mem ((c.tc : Thread Cert.DMergedRefIdeal.nD Cert.DMergedRefIdeal.τ).loc Cert.DMergedRefIdeal.main_arg0) = m ((c.tc : Thread Cert.DMergedRefIdeal.nD Cert.DMergedRefIdeal.τ).loc Cert.DMergedRefIdeal.main_arg0)
      ∧ r.2.mem ((c.tc : Thread Cert.DMergedRefIdeal.nD Cert.DMergedRefIdeal.τ).loc Cert.DMergedRefIdeal.main_arg1) = m ((c.tc : Thread Cert.DMergedRefIdeal.nD Cert.DMergedRefIdeal.τ).loc Cert.DMergedRefIdeal.main_arg1)
      ∧ r.2.mem ((c.tc : Thread Cert.DMergedRefIdeal.nD Cert.DMergedRefIdeal.τ).loc Cert.DMergedRefIdeal.main_arg2) = m ((c.tc : Thread Cert.DMergedRefIdeal.nD Cert.DMergedRefIdeal.τ).loc Cert.DMergedRefIdeal.main_arg2)
      ∧ r.2.mem ((c.tc : Thread Cert.DMergedRefIdeal.nD Cert.DMergedRefIdeal.τ).loc Cert.DMergedRefIdeal.main_arg3) = m ((c.tc : Thread Cert.DMergedRefIdeal.nD Cert.DMergedRefIdeal.τ).loc Cert.DMergedRefIdeal.main_arg3)
      ∧ r.2.mem ((c.tc : Thread Cert.DMergedRefIdeal.nD Cert.DMergedRefIdeal.τ).loc Cert.DMergedRefIdeal.main_arg4) = m ((c.tc : Thread Cert.DMergedRefIdeal.nD Cert.DMergedRefIdeal.τ).loc Cert.DMergedRefIdeal.main_arg4))
      ∧ r.2.sem = fun _ => 0)

def quiescent_Rms2Bwd [hRms2Bwd : Cert.Rms2Bwd.Facts] : Prop :=
  ∀ (m : (ℓ : Loc Cert.Rms2Bwd.nD Cert.Rms2Bwd.τ Cert.Rms2Bwd.sig) → Buf (Elt Bits) ℓ) (g : Dev Cert.Rms2Bwd.nD → PrngReg), Pre_Rms2Bwd m →
    θ_run (Cert.Rms2Bwd.defs (F := Bits)) (onTc (τ := Cert.Rms2Bwd.τ) (Cert.Rms2Bwd.main (F := Bits))) ⟨m, fun _ => 0, g⟩ (fun r => (∀ c : Dev Cert.Rms2Bwd.nD,
      r.2.mem ((c.tc : Thread Cert.Rms2Bwd.nD Cert.Rms2Bwd.τ).loc Cert.Rms2Bwd.main_arg0) = m ((c.tc : Thread Cert.Rms2Bwd.nD Cert.Rms2Bwd.τ).loc Cert.Rms2Bwd.main_arg0)
      ∧ r.2.mem ((c.tc : Thread Cert.Rms2Bwd.nD Cert.Rms2Bwd.τ).loc Cert.Rms2Bwd.main_arg1) = m ((c.tc : Thread Cert.Rms2Bwd.nD Cert.Rms2Bwd.τ).loc Cert.Rms2Bwd.main_arg1)
      ∧ r.2.mem ((c.tc : Thread Cert.Rms2Bwd.nD Cert.Rms2Bwd.τ).loc Cert.Rms2Bwd.main_arg2) = m ((c.tc : Thread Cert.Rms2Bwd.nD Cert.Rms2Bwd.τ).loc Cert.Rms2Bwd.main_arg2)
      ∧ r.2.mem ((c.tc : Thread Cert.Rms2Bwd.nD Cert.Rms2Bwd.τ).loc Cert.Rms2Bwd.main_arg3) = m ((c.tc : Thread Cert.Rms2Bwd.nD Cert.Rms2Bwd.τ).loc Cert.Rms2Bwd.main_arg3))
      ∧ r.2.sem = fun _ => 0)

def quiescent_Rms2BwdIdeal [hRms2BwdIdeal : Cert.Rms2BwdIdeal.Facts] : Prop :=
  ∀ (m : (ℓ : Loc Cert.Rms2BwdIdeal.nD Cert.Rms2BwdIdeal.τ Cert.Rms2BwdIdeal.sig) → Buf (Elt Ideal) ℓ) (g : Dev Cert.Rms2BwdIdeal.nD → PrngReg), Pre_Rms2BwdIdeal m →
    θ_run (Cert.Rms2BwdIdeal.defs (F := Ideal)) (onTc (τ := Cert.Rms2BwdIdeal.τ) (Cert.Rms2BwdIdeal.main (F := Ideal))) ⟨m, fun _ => 0, g⟩ (fun r => (∀ c : Dev Cert.Rms2BwdIdeal.nD,
      r.2.mem ((c.tc : Thread Cert.Rms2BwdIdeal.nD Cert.Rms2BwdIdeal.τ).loc Cert.Rms2BwdIdeal.main_arg0) = m ((c.tc : Thread Cert.Rms2BwdIdeal.nD Cert.Rms2BwdIdeal.τ).loc Cert.Rms2BwdIdeal.main_arg0)
      ∧ r.2.mem ((c.tc : Thread Cert.Rms2BwdIdeal.nD Cert.Rms2BwdIdeal.τ).loc Cert.Rms2BwdIdeal.main_arg1) = m ((c.tc : Thread Cert.Rms2BwdIdeal.nD Cert.Rms2BwdIdeal.τ).loc Cert.Rms2BwdIdeal.main_arg1)
      ∧ r.2.mem ((c.tc : Thread Cert.Rms2BwdIdeal.nD Cert.Rms2BwdIdeal.τ).loc Cert.Rms2BwdIdeal.main_arg2) = m ((c.tc : Thread Cert.Rms2BwdIdeal.nD Cert.Rms2BwdIdeal.τ).loc Cert.Rms2BwdIdeal.main_arg2)
      ∧ r.2.mem ((c.tc : Thread Cert.Rms2BwdIdeal.nD Cert.Rms2BwdIdeal.τ).loc Cert.Rms2BwdIdeal.main_arg3) = m ((c.tc : Thread Cert.Rms2BwdIdeal.nD Cert.Rms2BwdIdeal.τ).loc Cert.Rms2BwdIdeal.main_arg3))
      ∧ r.2.sem = fun _ => 0)

def quiescent_Rms2BwdRefIdeal [hRms2BwdRefIdeal : Cert.Rms2BwdRefIdeal.Facts] : Prop :=
  ∀ (m : (ℓ : Loc Cert.Rms2BwdRefIdeal.nD Cert.Rms2BwdRefIdeal.τ Cert.Rms2BwdRefIdeal.sig) → Buf (Elt Ideal) ℓ) (g : Dev Cert.Rms2BwdRefIdeal.nD → PrngReg), Pre_Rms2BwdRefIdeal m →
    θ_run (Cert.Rms2BwdRefIdeal.defs (F := Ideal)) (onTc (τ := Cert.Rms2BwdRefIdeal.τ) (Cert.Rms2BwdRefIdeal.main (F := Ideal))) ⟨m, fun _ => 0, g⟩ (fun r => (∀ c : Dev Cert.Rms2BwdRefIdeal.nD,
      r.2.mem ((c.tc : Thread Cert.Rms2BwdRefIdeal.nD Cert.Rms2BwdRefIdeal.τ).loc Cert.Rms2BwdRefIdeal.main_arg0) = m ((c.tc : Thread Cert.Rms2BwdRefIdeal.nD Cert.Rms2BwdRefIdeal.τ).loc Cert.Rms2BwdRefIdeal.main_arg0)
      ∧ r.2.mem ((c.tc : Thread Cert.Rms2BwdRefIdeal.nD Cert.Rms2BwdRefIdeal.τ).loc Cert.Rms2BwdRefIdeal.main_arg1) = m ((c.tc : Thread Cert.Rms2BwdRefIdeal.nD Cert.Rms2BwdRefIdeal.τ).loc Cert.Rms2BwdRefIdeal.main_arg1)
      ∧ r.2.mem ((c.tc : Thread Cert.Rms2BwdRefIdeal.nD Cert.Rms2BwdRefIdeal.τ).loc Cert.Rms2BwdRefIdeal.main_arg2) = m ((c.tc : Thread Cert.Rms2BwdRefIdeal.nD Cert.Rms2BwdRefIdeal.τ).loc Cert.Rms2BwdRefIdeal.main_arg2)
      ∧ r.2.mem ((c.tc : Thread Cert.Rms2BwdRefIdeal.nD Cert.Rms2BwdRefIdeal.τ).loc Cert.Rms2BwdRefIdeal.main_arg3) = m ((c.tc : Thread Cert.Rms2BwdRefIdeal.nD Cert.Rms2BwdRefIdeal.τ).loc Cert.Rms2BwdRefIdeal.main_arg3))
      ∧ r.2.sem = fun _ => 0)

def quiescent_Rms1Bwd [hRms1Bwd : Cert.Rms1Bwd.Facts] : Prop :=
  ∀ (m : (ℓ : Loc Cert.Rms1Bwd.nD Cert.Rms1Bwd.τ Cert.Rms1Bwd.sig) → Buf (Elt Bits) ℓ) (g : Dev Cert.Rms1Bwd.nD → PrngReg), Pre_Rms1Bwd m →
    θ_run (Cert.Rms1Bwd.defs (F := Bits)) (onTc (τ := Cert.Rms1Bwd.τ) (Cert.Rms1Bwd.main (F := Bits))) ⟨m, fun _ => 0, g⟩ (fun r => (∀ c : Dev Cert.Rms1Bwd.nD,
      r.2.mem ((c.tc : Thread Cert.Rms1Bwd.nD Cert.Rms1Bwd.τ).loc Cert.Rms1Bwd.main_arg0) = m ((c.tc : Thread Cert.Rms1Bwd.nD Cert.Rms1Bwd.τ).loc Cert.Rms1Bwd.main_arg0)
      ∧ r.2.mem ((c.tc : Thread Cert.Rms1Bwd.nD Cert.Rms1Bwd.τ).loc Cert.Rms1Bwd.main_arg1) = m ((c.tc : Thread Cert.Rms1Bwd.nD Cert.Rms1Bwd.τ).loc Cert.Rms1Bwd.main_arg1)
      ∧ r.2.mem ((c.tc : Thread Cert.Rms1Bwd.nD Cert.Rms1Bwd.τ).loc Cert.Rms1Bwd.main_arg2) = m ((c.tc : Thread Cert.Rms1Bwd.nD Cert.Rms1Bwd.τ).loc Cert.Rms1Bwd.main_arg2)
      ∧ r.2.mem ((c.tc : Thread Cert.Rms1Bwd.nD Cert.Rms1Bwd.τ).loc Cert.Rms1Bwd.main_arg3) = m ((c.tc : Thread Cert.Rms1Bwd.nD Cert.Rms1Bwd.τ).loc Cert.Rms1Bwd.main_arg3))
      ∧ r.2.sem = fun _ => 0)

def quiescent_Rms1BwdIdeal [hRms1BwdIdeal : Cert.Rms1BwdIdeal.Facts] : Prop :=
  ∀ (m : (ℓ : Loc Cert.Rms1BwdIdeal.nD Cert.Rms1BwdIdeal.τ Cert.Rms1BwdIdeal.sig) → Buf (Elt Ideal) ℓ) (g : Dev Cert.Rms1BwdIdeal.nD → PrngReg), Pre_Rms1BwdIdeal m →
    θ_run (Cert.Rms1BwdIdeal.defs (F := Ideal)) (onTc (τ := Cert.Rms1BwdIdeal.τ) (Cert.Rms1BwdIdeal.main (F := Ideal))) ⟨m, fun _ => 0, g⟩ (fun r => (∀ c : Dev Cert.Rms1BwdIdeal.nD,
      r.2.mem ((c.tc : Thread Cert.Rms1BwdIdeal.nD Cert.Rms1BwdIdeal.τ).loc Cert.Rms1BwdIdeal.main_arg0) = m ((c.tc : Thread Cert.Rms1BwdIdeal.nD Cert.Rms1BwdIdeal.τ).loc Cert.Rms1BwdIdeal.main_arg0)
      ∧ r.2.mem ((c.tc : Thread Cert.Rms1BwdIdeal.nD Cert.Rms1BwdIdeal.τ).loc Cert.Rms1BwdIdeal.main_arg1) = m ((c.tc : Thread Cert.Rms1BwdIdeal.nD Cert.Rms1BwdIdeal.τ).loc Cert.Rms1BwdIdeal.main_arg1)
      ∧ r.2.mem ((c.tc : Thread Cert.Rms1BwdIdeal.nD Cert.Rms1BwdIdeal.τ).loc Cert.Rms1BwdIdeal.main_arg2) = m ((c.tc : Thread Cert.Rms1BwdIdeal.nD Cert.Rms1BwdIdeal.τ).loc Cert.Rms1BwdIdeal.main_arg2)
      ∧ r.2.mem ((c.tc : Thread Cert.Rms1BwdIdeal.nD Cert.Rms1BwdIdeal.τ).loc Cert.Rms1BwdIdeal.main_arg3) = m ((c.tc : Thread Cert.Rms1BwdIdeal.nD Cert.Rms1BwdIdeal.τ).loc Cert.Rms1BwdIdeal.main_arg3))
      ∧ r.2.sem = fun _ => 0)

def quiescent_Rms1BwdRefIdeal [hRms1BwdRefIdeal : Cert.Rms1BwdRefIdeal.Facts] : Prop :=
  ∀ (m : (ℓ : Loc Cert.Rms1BwdRefIdeal.nD Cert.Rms1BwdRefIdeal.τ Cert.Rms1BwdRefIdeal.sig) → Buf (Elt Ideal) ℓ) (g : Dev Cert.Rms1BwdRefIdeal.nD → PrngReg), Pre_Rms1BwdRefIdeal m →
    θ_run (Cert.Rms1BwdRefIdeal.defs (F := Ideal)) (onTc (τ := Cert.Rms1BwdRefIdeal.τ) (Cert.Rms1BwdRefIdeal.main (F := Ideal))) ⟨m, fun _ => 0, g⟩ (fun r => (∀ c : Dev Cert.Rms1BwdRefIdeal.nD,
      r.2.mem ((c.tc : Thread Cert.Rms1BwdRefIdeal.nD Cert.Rms1BwdRefIdeal.τ).loc Cert.Rms1BwdRefIdeal.main_arg0) = m ((c.tc : Thread Cert.Rms1BwdRefIdeal.nD Cert.Rms1BwdRefIdeal.τ).loc Cert.Rms1BwdRefIdeal.main_arg0)
      ∧ r.2.mem ((c.tc : Thread Cert.Rms1BwdRefIdeal.nD Cert.Rms1BwdRefIdeal.τ).loc Cert.Rms1BwdRefIdeal.main_arg1) = m ((c.tc : Thread Cert.Rms1BwdRefIdeal.nD Cert.Rms1BwdRefIdeal.τ).loc Cert.Rms1BwdRefIdeal.main_arg1)
      ∧ r.2.mem ((c.tc : Thread Cert.Rms1BwdRefIdeal.nD Cert.Rms1BwdRefIdeal.τ).loc Cert.Rms1BwdRefIdeal.main_arg2) = m ((c.tc : Thread Cert.Rms1BwdRefIdeal.nD Cert.Rms1BwdRefIdeal.τ).loc Cert.Rms1BwdRefIdeal.main_arg2)
      ∧ r.2.mem ((c.tc : Thread Cert.Rms1BwdRefIdeal.nD Cert.Rms1BwdRefIdeal.τ).loc Cert.Rms1BwdRefIdeal.main_arg3) = m ((c.tc : Thread Cert.Rms1BwdRefIdeal.nD Cert.Rms1BwdRefIdeal.τ).loc Cert.Rms1BwdRefIdeal.main_arg3))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ r.2.sem = fun _ => 0)

def quiescent_FinalLossRefIdeal [hFinalLossRefIdeal : Cert.FinalLossRefIdeal.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_DSsm [hDSsm : Cert.DSsm.Facts] : Prop :=
  ∀ (m : (ℓ : Loc Cert.DSsm.nD Cert.DSsm.τ Cert.DSsm.sig) → Buf (Elt Bits) ℓ) (g : Dev Cert.DSsm.nD → PrngReg), Pre_DSsm m →
    θ_run (Cert.DSsm.defs (F := Bits)) (onTc (τ := Cert.DSsm.τ) (Cert.DSsm.main (F := Bits))) ⟨m, fun _ => 0, g⟩ (fun r => (∀ c : Dev Cert.DSsm.nD,
      r.2.mem ((c.tc : Thread Cert.DSsm.nD Cert.DSsm.τ).loc Cert.DSsm.main_arg0) = m ((c.tc : Thread Cert.DSsm.nD Cert.DSsm.τ).loc Cert.DSsm.main_arg0)
      ∧ r.2.mem ((c.tc : Thread Cert.DSsm.nD Cert.DSsm.τ).loc Cert.DSsm.main_arg1) = m ((c.tc : Thread Cert.DSsm.nD Cert.DSsm.τ).loc Cert.DSsm.main_arg1)
      ∧ r.2.mem ((c.tc : Thread Cert.DSsm.nD Cert.DSsm.τ).loc Cert.DSsm.main_arg2) = m ((c.tc : Thread Cert.DSsm.nD Cert.DSsm.τ).loc Cert.DSsm.main_arg2))
      ∧ r.2.sem = fun _ => 0)

def quiescent_DSsmIdeal [hDSsmIdeal : Cert.DSsmIdeal.Facts] : Prop :=
  ∀ (m : (ℓ : Loc Cert.DSsmIdeal.nD Cert.DSsmIdeal.τ Cert.DSsmIdeal.sig) → Buf (Elt Ideal) ℓ) (g : Dev Cert.DSsmIdeal.nD → PrngReg), Pre_DSsmIdeal m →
    θ_run (Cert.DSsmIdeal.defs (F := Ideal)) (onTc (τ := Cert.DSsmIdeal.τ) (Cert.DSsmIdeal.main (F := Ideal))) ⟨m, fun _ => 0, g⟩ (fun r => (∀ c : Dev Cert.DSsmIdeal.nD,
      r.2.mem ((c.tc : Thread Cert.DSsmIdeal.nD Cert.DSsmIdeal.τ).loc Cert.DSsmIdeal.main_arg0) = m ((c.tc : Thread Cert.DSsmIdeal.nD Cert.DSsmIdeal.τ).loc Cert.DSsmIdeal.main_arg0)
      ∧ r.2.mem ((c.tc : Thread Cert.DSsmIdeal.nD Cert.DSsmIdeal.τ).loc Cert.DSsmIdeal.main_arg1) = m ((c.tc : Thread Cert.DSsmIdeal.nD Cert.DSsmIdeal.τ).loc Cert.DSsmIdeal.main_arg1)
      ∧ r.2.mem ((c.tc : Thread Cert.DSsmIdeal.nD Cert.DSsmIdeal.τ).loc Cert.DSsmIdeal.main_arg2) = m ((c.tc : Thread Cert.DSsmIdeal.nD Cert.DSsmIdeal.τ).loc Cert.DSsmIdeal.main_arg2))
      ∧ r.2.sem = fun _ => 0)

def quiescent_DSsmRefIdeal [hDSsmRefIdeal : Cert.DSsmRefIdeal.Facts] : Prop :=
  ∀ (m : (ℓ : Loc Cert.DSsmRefIdeal.nD Cert.DSsmRefIdeal.τ Cert.DSsmRefIdeal.sig) → Buf (Elt Ideal) ℓ) (g : Dev Cert.DSsmRefIdeal.nD → PrngReg), Pre_DSsmRefIdeal m →
    θ_run (Cert.DSsmRefIdeal.defs (F := Ideal)) (onTc (τ := Cert.DSsmRefIdeal.τ) (Cert.DSsmRefIdeal.main (F := Ideal))) ⟨m, fun _ => 0, g⟩ (fun r => (∀ c : Dev Cert.DSsmRefIdeal.nD,
      r.2.mem ((c.tc : Thread Cert.DSsmRefIdeal.nD Cert.DSsmRefIdeal.τ).loc Cert.DSsmRefIdeal.main_arg0) = m ((c.tc : Thread Cert.DSsmRefIdeal.nD Cert.DSsmRefIdeal.τ).loc Cert.DSsmRefIdeal.main_arg0)
      ∧ r.2.mem ((c.tc : Thread Cert.DSsmRefIdeal.nD Cert.DSsmRefIdeal.τ).loc Cert.DSsmRefIdeal.main_arg1) = m ((c.tc : Thread Cert.DSsmRefIdeal.nD Cert.DSsmRefIdeal.τ).loc Cert.DSsmRefIdeal.main_arg1)
      ∧ r.2.mem ((c.tc : Thread Cert.DSsmRefIdeal.nD Cert.DSsmRefIdeal.τ).loc Cert.DSsmRefIdeal.main_arg2) = m ((c.tc : Thread Cert.DSsmRefIdeal.nD Cert.DSsmRefIdeal.τ).loc Cert.DSsmRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_AttnBwdRefIdeal_pre_attn_finite [hAttnBwdRefIdeal : Cert.AttnBwdRefIdeal.Facts] [hPre_attn_finite : Cert.Pre_attn_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_SsmDiscBwd [hSsmDiscBwd : Cert.SsmDiscBwd.Facts] : Prop :=
  ∀ (m : (ℓ : Loc Cert.SsmDiscBwd.nD Cert.SsmDiscBwd.τ Cert.SsmDiscBwd.sig) → Buf (Elt Bits) ℓ) (g : Dev Cert.SsmDiscBwd.nD → PrngReg), Pre_SsmDiscBwd m →
    θ_run (Cert.SsmDiscBwd.defs (F := Bits)) (onTc (τ := Cert.SsmDiscBwd.τ) (Cert.SsmDiscBwd.main (F := Bits))) ⟨m, fun _ => 0, g⟩ (fun r => (∀ c : Dev Cert.SsmDiscBwd.nD,
      r.2.mem ((c.tc : Thread Cert.SsmDiscBwd.nD Cert.SsmDiscBwd.τ).loc Cert.SsmDiscBwd.main_arg0) = m ((c.tc : Thread Cert.SsmDiscBwd.nD Cert.SsmDiscBwd.τ).loc Cert.SsmDiscBwd.main_arg0)
      ∧ r.2.mem ((c.tc : Thread Cert.SsmDiscBwd.nD Cert.SsmDiscBwd.τ).loc Cert.SsmDiscBwd.main_arg1) = m ((c.tc : Thread Cert.SsmDiscBwd.nD Cert.SsmDiscBwd.τ).loc Cert.SsmDiscBwd.main_arg1)
      ∧ r.2.mem ((c.tc : Thread Cert.SsmDiscBwd.nD Cert.SsmDiscBwd.τ).loc Cert.SsmDiscBwd.main_arg2) = m ((c.tc : Thread Cert.SsmDiscBwd.nD Cert.SsmDiscBwd.τ).loc Cert.SsmDiscBwd.main_arg2)
      ∧ r.2.mem ((c.tc : Thread Cert.SsmDiscBwd.nD Cert.SsmDiscBwd.τ).loc Cert.SsmDiscBwd.main_arg3) = m ((c.tc : Thread Cert.SsmDiscBwd.nD Cert.SsmDiscBwd.τ).loc Cert.SsmDiscBwd.main_arg3)
      ∧ r.2.mem ((c.tc : Thread Cert.SsmDiscBwd.nD Cert.SsmDiscBwd.τ).loc Cert.SsmDiscBwd.main_arg4) = m ((c.tc : Thread Cert.SsmDiscBwd.nD Cert.SsmDiscBwd.τ).loc Cert.SsmDiscBwd.main_arg4)
      ∧ r.2.mem ((c.tc : Thread Cert.SsmDiscBwd.nD Cert.SsmDiscBwd.τ).loc Cert.SsmDiscBwd.main_arg5) = m ((c.tc : Thread Cert.SsmDiscBwd.nD Cert.SsmDiscBwd.τ).loc Cert.SsmDiscBwd.main_arg5)
      ∧ r.2.mem ((c.tc : Thread Cert.SsmDiscBwd.nD Cert.SsmDiscBwd.τ).loc Cert.SsmDiscBwd.main_arg6) = m ((c.tc : Thread Cert.SsmDiscBwd.nD Cert.SsmDiscBwd.τ).loc Cert.SsmDiscBwd.main_arg6)
      ∧ r.2.mem ((c.tc : Thread Cert.SsmDiscBwd.nD Cert.SsmDiscBwd.τ).loc Cert.SsmDiscBwd.main_arg7) = m ((c.tc : Thread Cert.SsmDiscBwd.nD Cert.SsmDiscBwd.τ).loc Cert.SsmDiscBwd.main_arg7)
      ∧ r.2.mem ((c.tc : Thread Cert.SsmDiscBwd.nD Cert.SsmDiscBwd.τ).loc Cert.SsmDiscBwd.main_arg8) = m ((c.tc : Thread Cert.SsmDiscBwd.nD Cert.SsmDiscBwd.τ).loc Cert.SsmDiscBwd.main_arg8))
      ∧ r.2.sem = fun _ => 0)

def quiescent_SsmDiscBwdIdeal [hSsmDiscBwdIdeal : Cert.SsmDiscBwdIdeal.Facts] : Prop :=
  ∀ (m : (ℓ : Loc Cert.SsmDiscBwdIdeal.nD Cert.SsmDiscBwdIdeal.τ Cert.SsmDiscBwdIdeal.sig) → Buf (Elt Ideal) ℓ) (g : Dev Cert.SsmDiscBwdIdeal.nD → PrngReg), Pre_SsmDiscBwdIdeal m →
    θ_run (Cert.SsmDiscBwdIdeal.defs (F := Ideal)) (onTc (τ := Cert.SsmDiscBwdIdeal.τ) (Cert.SsmDiscBwdIdeal.main (F := Ideal))) ⟨m, fun _ => 0, g⟩ (fun r => (∀ c : Dev Cert.SsmDiscBwdIdeal.nD,
      r.2.mem ((c.tc : Thread Cert.SsmDiscBwdIdeal.nD Cert.SsmDiscBwdIdeal.τ).loc Cert.SsmDiscBwdIdeal.main_arg0) = m ((c.tc : Thread Cert.SsmDiscBwdIdeal.nD Cert.SsmDiscBwdIdeal.τ).loc Cert.SsmDiscBwdIdeal.main_arg0)
      ∧ r.2.mem ((c.tc : Thread Cert.SsmDiscBwdIdeal.nD Cert.SsmDiscBwdIdeal.τ).loc Cert.SsmDiscBwdIdeal.main_arg1) = m ((c.tc : Thread Cert.SsmDiscBwdIdeal.nD Cert.SsmDiscBwdIdeal.τ).loc Cert.SsmDiscBwdIdeal.main_arg1)
      ∧ r.2.mem ((c.tc : Thread Cert.SsmDiscBwdIdeal.nD Cert.SsmDiscBwdIdeal.τ).loc Cert.SsmDiscBwdIdeal.main_arg2) = m ((c.tc : Thread Cert.SsmDiscBwdIdeal.nD Cert.SsmDiscBwdIdeal.τ).loc Cert.SsmDiscBwdIdeal.main_arg2)
      ∧ r.2.mem ((c.tc : Thread Cert.SsmDiscBwdIdeal.nD Cert.SsmDiscBwdIdeal.τ).loc Cert.SsmDiscBwdIdeal.main_arg3) = m ((c.tc : Thread Cert.SsmDiscBwdIdeal.nD Cert.SsmDiscBwdIdeal.τ).loc Cert.SsmDiscBwdIdeal.main_arg3)
      ∧ r.2.mem ((c.tc : Thread Cert.SsmDiscBwdIdeal.nD Cert.SsmDiscBwdIdeal.τ).loc Cert.SsmDiscBwdIdeal.main_arg4) = m ((c.tc : Thread Cert.SsmDiscBwdIdeal.nD Cert.SsmDiscBwdIdeal.τ).loc Cert.SsmDiscBwdIdeal.main_arg4)
      ∧ r.2.mem ((c.tc : Thread Cert.SsmDiscBwdIdeal.nD Cert.SsmDiscBwdIdeal.τ).loc Cert.SsmDiscBwdIdeal.main_arg5) = m ((c.tc : Thread Cert.SsmDiscBwdIdeal.nD Cert.SsmDiscBwdIdeal.τ).loc Cert.SsmDiscBwdIdeal.main_arg5)
      ∧ r.2.mem ((c.tc : Thread Cert.SsmDiscBwdIdeal.nD Cert.SsmDiscBwdIdeal.τ).loc Cert.SsmDiscBwdIdeal.main_arg6) = m ((c.tc : Thread Cert.SsmDiscBwdIdeal.nD Cert.SsmDiscBwdIdeal.τ).loc Cert.SsmDiscBwdIdeal.main_arg6)
      ∧ r.2.mem ((c.tc : Thread Cert.SsmDiscBwdIdeal.nD Cert.SsmDiscBwdIdeal.τ).loc Cert.SsmDiscBwdIdeal.main_arg7) = m ((c.tc : Thread Cert.SsmDiscBwdIdeal.nD Cert.SsmDiscBwdIdeal.τ).loc Cert.SsmDiscBwdIdeal.main_arg7)
      ∧ r.2.mem ((c.tc : Thread Cert.SsmDiscBwdIdeal.nD Cert.SsmDiscBwdIdeal.τ).loc Cert.SsmDiscBwdIdeal.main_arg8) = m ((c.tc : Thread Cert.SsmDiscBwdIdeal.nD Cert.SsmDiscBwdIdeal.τ).loc Cert.SsmDiscBwdIdeal.main_arg8))
      ∧ r.2.sem = fun _ => 0)

def quiescent_SsmDiscBwdRefIdeal [hSsmDiscBwdRefIdeal : Cert.SsmDiscBwdRefIdeal.Facts] : Prop :=
  ∀ (m : (ℓ : Loc Cert.SsmDiscBwdRefIdeal.nD Cert.SsmDiscBwdRefIdeal.τ Cert.SsmDiscBwdRefIdeal.sig) → Buf (Elt Ideal) ℓ) (g : Dev Cert.SsmDiscBwdRefIdeal.nD → PrngReg), Pre_SsmDiscBwdRefIdeal m →
    θ_run (Cert.SsmDiscBwdRefIdeal.defs (F := Ideal)) (onTc (τ := Cert.SsmDiscBwdRefIdeal.τ) (Cert.SsmDiscBwdRefIdeal.main (F := Ideal))) ⟨m, fun _ => 0, g⟩ (fun r => (∀ c : Dev Cert.SsmDiscBwdRefIdeal.nD,
      r.2.mem ((c.tc : Thread Cert.SsmDiscBwdRefIdeal.nD Cert.SsmDiscBwdRefIdeal.τ).loc Cert.SsmDiscBwdRefIdeal.main_arg0) = m ((c.tc : Thread Cert.SsmDiscBwdRefIdeal.nD Cert.SsmDiscBwdRefIdeal.τ).loc Cert.SsmDiscBwdRefIdeal.main_arg0)
      ∧ r.2.mem ((c.tc : Thread Cert.SsmDiscBwdRefIdeal.nD Cert.SsmDiscBwdRefIdeal.τ).loc Cert.SsmDiscBwdRefIdeal.main_arg1) = m ((c.tc : Thread Cert.SsmDiscBwdRefIdeal.nD Cert.SsmDiscBwdRefIdeal.τ).loc Cert.SsmDiscBwdRefIdeal.main_arg1)
      ∧ r.2.mem ((c.tc : Thread Cert.SsmDiscBwdRefIdeal.nD Cert.SsmDiscBwdRefIdeal.τ).loc Cert.SsmDiscBwdRefIdeal.main_arg2) = m ((c.tc : Thread Cert.SsmDiscBwdRefIdeal.nD Cert.SsmDiscBwdRefIdeal.τ).loc Cert.SsmDiscBwdRefIdeal.main_arg2)
      ∧ r.2.mem ((c.tc : Thread Cert.SsmDiscBwdRefIdeal.nD Cert.SsmDiscBwdRefIdeal.τ).loc Cert.SsmDiscBwdRefIdeal.main_arg3) = m ((c.tc : Thread Cert.SsmDiscBwdRefIdeal.nD Cert.SsmDiscBwdRefIdeal.τ).loc Cert.SsmDiscBwdRefIdeal.main_arg3)
      ∧ r.2.mem ((c.tc : Thread Cert.SsmDiscBwdRefIdeal.nD Cert.SsmDiscBwdRefIdeal.τ).loc Cert.SsmDiscBwdRefIdeal.main_arg4) = m ((c.tc : Thread Cert.SsmDiscBwdRefIdeal.nD Cert.SsmDiscBwdRefIdeal.τ).loc Cert.SsmDiscBwdRefIdeal.main_arg4)
      ∧ r.2.mem ((c.tc : Thread Cert.SsmDiscBwdRefIdeal.nD Cert.SsmDiscBwdRefIdeal.τ).loc Cert.SsmDiscBwdRefIdeal.main_arg5) = m ((c.tc : Thread Cert.SsmDiscBwdRefIdeal.nD Cert.SsmDiscBwdRefIdeal.τ).loc Cert.SsmDiscBwdRefIdeal.main_arg5)
      ∧ r.2.mem ((c.tc : Thread Cert.SsmDiscBwdRefIdeal.nD Cert.SsmDiscBwdRefIdeal.τ).loc Cert.SsmDiscBwdRefIdeal.main_arg6) = m ((c.tc : Thread Cert.SsmDiscBwdRefIdeal.nD Cert.SsmDiscBwdRefIdeal.τ).loc Cert.SsmDiscBwdRefIdeal.main_arg6)
      ∧ r.2.mem ((c.tc : Thread Cert.SsmDiscBwdRefIdeal.nD Cert.SsmDiscBwdRefIdeal.τ).loc Cert.SsmDiscBwdRefIdeal.main_arg7) = m ((c.tc : Thread Cert.SsmDiscBwdRefIdeal.nD Cert.SsmDiscBwdRefIdeal.τ).loc Cert.SsmDiscBwdRefIdeal.main_arg7)
      ∧ r.2.mem ((c.tc : Thread Cert.SsmDiscBwdRefIdeal.nD Cert.SsmDiscBwdRefIdeal.τ).loc Cert.SsmDiscBwdRefIdeal.main_arg8) = m ((c.tc : Thread Cert.SsmDiscBwdRefIdeal.nD Cert.SsmDiscBwdRefIdeal.τ).loc Cert.SsmDiscBwdRefIdeal.main_arg8))
      ∧ r.2.sem = fun _ => 0)

def quiescent_SsmDiscFwd [hSsmDiscFwd : Cert.SsmDiscFwd.Facts] : Prop :=
  ∀ (m : (ℓ : Loc Cert.SsmDiscFwd.nD Cert.SsmDiscFwd.τ Cert.SsmDiscFwd.sig) → Buf (Elt Bits) ℓ) (g : Dev Cert.SsmDiscFwd.nD → PrngReg), Pre_SsmDiscFwd m →
    θ_run (Cert.SsmDiscFwd.defs (F := Bits)) (onTc (τ := Cert.SsmDiscFwd.τ) (Cert.SsmDiscFwd.main (F := Bits))) ⟨m, fun _ => 0, g⟩ (fun r => (∀ c : Dev Cert.SsmDiscFwd.nD,
      r.2.mem ((c.tc : Thread Cert.SsmDiscFwd.nD Cert.SsmDiscFwd.τ).loc Cert.SsmDiscFwd.main_arg0) = m ((c.tc : Thread Cert.SsmDiscFwd.nD Cert.SsmDiscFwd.τ).loc Cert.SsmDiscFwd.main_arg0)
      ∧ r.2.mem ((c.tc : Thread Cert.SsmDiscFwd.nD Cert.SsmDiscFwd.τ).loc Cert.SsmDiscFwd.main_arg1) = m ((c.tc : Thread Cert.SsmDiscFwd.nD Cert.SsmDiscFwd.τ).loc Cert.SsmDiscFwd.main_arg1)
      ∧ r.2.mem ((c.tc : Thread Cert.SsmDiscFwd.nD Cert.SsmDiscFwd.τ).loc Cert.SsmDiscFwd.main_arg2) = m ((c.tc : Thread Cert.SsmDiscFwd.nD Cert.SsmDiscFwd.τ).loc Cert.SsmDiscFwd.main_arg2)
      ∧ r.2.mem ((c.tc : Thread Cert.SsmDiscFwd.nD Cert.SsmDiscFwd.τ).loc Cert.SsmDiscFwd.main_arg3) = m ((c.tc : Thread Cert.SsmDiscFwd.nD Cert.SsmDiscFwd.τ).loc Cert.SsmDiscFwd.main_arg3)
      ∧ r.2.mem ((c.tc : Thread Cert.SsmDiscFwd.nD Cert.SsmDiscFwd.τ).loc Cert.SsmDiscFwd.main_arg4) = m ((c.tc : Thread Cert.SsmDiscFwd.nD Cert.SsmDiscFwd.τ).loc Cert.SsmDiscFwd.main_arg4))
      ∧ r.2.sem = fun _ => 0)

def quiescent_SsmDiscFwdIdeal [hSsmDiscFwdIdeal : Cert.SsmDiscFwdIdeal.Facts] : Prop :=
  ∀ (m : (ℓ : Loc Cert.SsmDiscFwdIdeal.nD Cert.SsmDiscFwdIdeal.τ Cert.SsmDiscFwdIdeal.sig) → Buf (Elt Ideal) ℓ) (g : Dev Cert.SsmDiscFwdIdeal.nD → PrngReg), Pre_SsmDiscFwdIdeal m →
    θ_run (Cert.SsmDiscFwdIdeal.defs (F := Ideal)) (onTc (τ := Cert.SsmDiscFwdIdeal.τ) (Cert.SsmDiscFwdIdeal.main (F := Ideal))) ⟨m, fun _ => 0, g⟩ (fun r => (∀ c : Dev Cert.SsmDiscFwdIdeal.nD,
      r.2.mem ((c.tc : Thread Cert.SsmDiscFwdIdeal.nD Cert.SsmDiscFwdIdeal.τ).loc Cert.SsmDiscFwdIdeal.main_arg0) = m ((c.tc : Thread Cert.SsmDiscFwdIdeal.nD Cert.SsmDiscFwdIdeal.τ).loc Cert.SsmDiscFwdIdeal.main_arg0)
      ∧ r.2.mem ((c.tc : Thread Cert.SsmDiscFwdIdeal.nD Cert.SsmDiscFwdIdeal.τ).loc Cert.SsmDiscFwdIdeal.main_arg1) = m ((c.tc : Thread Cert.SsmDiscFwdIdeal.nD Cert.SsmDiscFwdIdeal.τ).loc Cert.SsmDiscFwdIdeal.main_arg1)
      ∧ r.2.mem ((c.tc : Thread Cert.SsmDiscFwdIdeal.nD Cert.SsmDiscFwdIdeal.τ).loc Cert.SsmDiscFwdIdeal.main_arg2) = m ((c.tc : Thread Cert.SsmDiscFwdIdeal.nD Cert.SsmDiscFwdIdeal.τ).loc Cert.SsmDiscFwdIdeal.main_arg2)
      ∧ r.2.mem ((c.tc : Thread Cert.SsmDiscFwdIdeal.nD Cert.SsmDiscFwdIdeal.τ).loc Cert.SsmDiscFwdIdeal.main_arg3) = m ((c.tc : Thread Cert.SsmDiscFwdIdeal.nD Cert.SsmDiscFwdIdeal.τ).loc Cert.SsmDiscFwdIdeal.main_arg3)
      ∧ r.2.mem ((c.tc : Thread Cert.SsmDiscFwdIdeal.nD Cert.SsmDiscFwdIdeal.τ).loc Cert.SsmDiscFwdIdeal.main_arg4) = m ((c.tc : Thread Cert.SsmDiscFwdIdeal.nD Cert.SsmDiscFwdIdeal.τ).loc Cert.SsmDiscFwdIdeal.main_arg4))
      ∧ r.2.sem = fun _ => 0)

def quiescent_SsmDiscFwdRefIdeal [hSsmDiscFwdRefIdeal : Cert.SsmDiscFwdRefIdeal.Facts] : Prop :=
  ∀ (m : (ℓ : Loc Cert.SsmDiscFwdRefIdeal.nD Cert.SsmDiscFwdRefIdeal.τ Cert.SsmDiscFwdRefIdeal.sig) → Buf (Elt Ideal) ℓ) (g : Dev Cert.SsmDiscFwdRefIdeal.nD → PrngReg), Pre_SsmDiscFwdRefIdeal m →
    θ_run (Cert.SsmDiscFwdRefIdeal.defs (F := Ideal)) (onTc (τ := Cert.SsmDiscFwdRefIdeal.τ) (Cert.SsmDiscFwdRefIdeal.main (F := Ideal))) ⟨m, fun _ => 0, g⟩ (fun r => (∀ c : Dev Cert.SsmDiscFwdRefIdeal.nD,
      r.2.mem ((c.tc : Thread Cert.SsmDiscFwdRefIdeal.nD Cert.SsmDiscFwdRefIdeal.τ).loc Cert.SsmDiscFwdRefIdeal.main_arg0) = m ((c.tc : Thread Cert.SsmDiscFwdRefIdeal.nD Cert.SsmDiscFwdRefIdeal.τ).loc Cert.SsmDiscFwdRefIdeal.main_arg0)
      ∧ r.2.mem ((c.tc : Thread Cert.SsmDiscFwdRefIdeal.nD Cert.SsmDiscFwdRefIdeal.τ).loc Cert.SsmDiscFwdRefIdeal.main_arg1) = m ((c.tc : Thread Cert.SsmDiscFwdRefIdeal.nD Cert.SsmDiscFwdRefIdeal.τ).loc Cert.SsmDiscFwdRefIdeal.main_arg1)
      ∧ r.2.mem ((c.tc : Thread Cert.SsmDiscFwdRefIdeal.nD Cert.SsmDiscFwdRefIdeal.τ).loc Cert.SsmDiscFwdRefIdeal.main_arg2) = m ((c.tc : Thread Cert.SsmDiscFwdRefIdeal.nD Cert.SsmDiscFwdRefIdeal.τ).loc Cert.SsmDiscFwdRefIdeal.main_arg2)
      ∧ r.2.mem ((c.tc : Thread Cert.SsmDiscFwdRefIdeal.nD Cert.SsmDiscFwdRefIdeal.τ).loc Cert.SsmDiscFwdRefIdeal.main_arg3) = m ((c.tc : Thread Cert.SsmDiscFwdRefIdeal.nD Cert.SsmDiscFwdRefIdeal.τ).loc Cert.SsmDiscFwdRefIdeal.main_arg3)
      ∧ r.2.mem ((c.tc : Thread Cert.SsmDiscFwdRefIdeal.nD Cert.SsmDiscFwdRefIdeal.τ).loc Cert.SsmDiscFwdRefIdeal.main_arg4) = m ((c.tc : Thread Cert.SsmDiscFwdRefIdeal.nD Cert.SsmDiscFwdRefIdeal.τ).loc Cert.SsmDiscFwdRefIdeal.main_arg4))
      ∧ r.2.sem = fun _ => 0)

def quiescent_JoinDproj [hJoinDproj : Cert.JoinDproj.Facts] : Prop :=
  ∀ (m : (ℓ : Loc Cert.JoinDproj.nD Cert.JoinDproj.τ Cert.JoinDproj.sig) → Buf (Elt Bits) ℓ) (g : Dev Cert.JoinDproj.nD → PrngReg), Pre_JoinDproj m →
    θ_run (Cert.JoinDproj.defs (F := Bits)) (onTc (τ := Cert.JoinDproj.τ) (Cert.JoinDproj.main (F := Bits))) ⟨m, fun _ => 0, g⟩ (fun r => (∀ c : Dev Cert.JoinDproj.nD,
      r.2.mem ((c.tc : Thread Cert.JoinDproj.nD Cert.JoinDproj.τ).loc Cert.JoinDproj.main_arg0) = m ((c.tc : Thread Cert.JoinDproj.nD Cert.JoinDproj.τ).loc Cert.JoinDproj.main_arg0)
      ∧ r.2.mem ((c.tc : Thread Cert.JoinDproj.nD Cert.JoinDproj.τ).loc Cert.JoinDproj.main_arg1) = m ((c.tc : Thread Cert.JoinDproj.nD Cert.JoinDproj.τ).loc Cert.JoinDproj.main_arg1)
      ∧ r.2.mem ((c.tc : Thread Cert.JoinDproj.nD Cert.JoinDproj.τ).loc Cert.JoinDproj.main_arg2) = m ((c.tc : Thread Cert.JoinDproj.nD Cert.JoinDproj.τ).loc Cert.JoinDproj.main_arg2)
      ∧ r.2.mem ((c.tc : Thread Cert.JoinDproj.nD Cert.JoinDproj.τ).loc Cert.JoinDproj.main_arg3) = m ((c.tc : Thread Cert.JoinDproj.nD Cert.JoinDproj.τ).loc Cert.JoinDproj.main_arg3)
      ∧ r.2.mem ((c.tc : Thread Cert.JoinDproj.nD Cert.JoinDproj.τ).loc Cert.JoinDproj.main_arg4) = m ((c.tc : Thread Cert.JoinDproj.nD Cert.JoinDproj.τ).loc Cert.JoinDproj.main_arg4)
      ∧ r.2.mem ((c.tc : Thread Cert.JoinDproj.nD Cert.JoinDproj.τ).loc Cert.JoinDproj.main_arg5) = m ((c.tc : Thread Cert.JoinDproj.nD Cert.JoinDproj.τ).loc Cert.JoinDproj.main_arg5)
      ∧ r.2.mem ((c.tc : Thread Cert.JoinDproj.nD Cert.JoinDproj.τ).loc Cert.JoinDproj.main_arg6) = m ((c.tc : Thread Cert.JoinDproj.nD Cert.JoinDproj.τ).loc Cert.JoinDproj.main_arg6)
      ∧ r.2.mem ((c.tc : Thread Cert.JoinDproj.nD Cert.JoinDproj.τ).loc Cert.JoinDproj.main_arg7) = m ((c.tc : Thread Cert.JoinDproj.nD Cert.JoinDproj.τ).loc Cert.JoinDproj.main_arg7))
      ∧ r.2.sem = fun _ => 0)

def quiescent_JoinDprojIdeal [hJoinDprojIdeal : Cert.JoinDprojIdeal.Facts] : Prop :=
  ∀ (m : (ℓ : Loc Cert.JoinDprojIdeal.nD Cert.JoinDprojIdeal.τ Cert.JoinDprojIdeal.sig) → Buf (Elt Ideal) ℓ) (g : Dev Cert.JoinDprojIdeal.nD → PrngReg), Pre_JoinDprojIdeal m →
    θ_run (Cert.JoinDprojIdeal.defs (F := Ideal)) (onTc (τ := Cert.JoinDprojIdeal.τ) (Cert.JoinDprojIdeal.main (F := Ideal))) ⟨m, fun _ => 0, g⟩ (fun r => (∀ c : Dev Cert.JoinDprojIdeal.nD,
      r.2.mem ((c.tc : Thread Cert.JoinDprojIdeal.nD Cert.JoinDprojIdeal.τ).loc Cert.JoinDprojIdeal.main_arg0) = m ((c.tc : Thread Cert.JoinDprojIdeal.nD Cert.JoinDprojIdeal.τ).loc Cert.JoinDprojIdeal.main_arg0)
      ∧ r.2.mem ((c.tc : Thread Cert.JoinDprojIdeal.nD Cert.JoinDprojIdeal.τ).loc Cert.JoinDprojIdeal.main_arg1) = m ((c.tc : Thread Cert.JoinDprojIdeal.nD Cert.JoinDprojIdeal.τ).loc Cert.JoinDprojIdeal.main_arg1)
      ∧ r.2.mem ((c.tc : Thread Cert.JoinDprojIdeal.nD Cert.JoinDprojIdeal.τ).loc Cert.JoinDprojIdeal.main_arg2) = m ((c.tc : Thread Cert.JoinDprojIdeal.nD Cert.JoinDprojIdeal.τ).loc Cert.JoinDprojIdeal.main_arg2)
      ∧ r.2.mem ((c.tc : Thread Cert.JoinDprojIdeal.nD Cert.JoinDprojIdeal.τ).loc Cert.JoinDprojIdeal.main_arg3) = m ((c.tc : Thread Cert.JoinDprojIdeal.nD Cert.JoinDprojIdeal.τ).loc Cert.JoinDprojIdeal.main_arg3)
      ∧ r.2.mem ((c.tc : Thread Cert.JoinDprojIdeal.nD Cert.JoinDprojIdeal.τ).loc Cert.JoinDprojIdeal.main_arg4) = m ((c.tc : Thread Cert.JoinDprojIdeal.nD Cert.JoinDprojIdeal.τ).loc Cert.JoinDprojIdeal.main_arg4)
      ∧ r.2.mem ((c.tc : Thread Cert.JoinDprojIdeal.nD Cert.JoinDprojIdeal.τ).loc Cert.JoinDprojIdeal.main_arg5) = m ((c.tc : Thread Cert.JoinDprojIdeal.nD Cert.JoinDprojIdeal.τ).loc Cert.JoinDprojIdeal.main_arg5)
      ∧ r.2.mem ((c.tc : Thread Cert.JoinDprojIdeal.nD Cert.JoinDprojIdeal.τ).loc Cert.JoinDprojIdeal.main_arg6) = m ((c.tc : Thread Cert.JoinDprojIdeal.nD Cert.JoinDprojIdeal.τ).loc Cert.JoinDprojIdeal.main_arg6)
      ∧ r.2.mem ((c.tc : Thread Cert.JoinDprojIdeal.nD Cert.JoinDprojIdeal.τ).loc Cert.JoinDprojIdeal.main_arg7) = m ((c.tc : Thread Cert.JoinDprojIdeal.nD Cert.JoinDprojIdeal.τ).loc Cert.JoinDprojIdeal.main_arg7))
      ∧ r.2.sem = fun _ => 0)

def quiescent_JoinDprojRefIdeal [hJoinDprojRefIdeal : Cert.JoinDprojRefIdeal.Facts] : Prop :=
  ∀ (m : (ℓ : Loc Cert.JoinDprojRefIdeal.nD Cert.JoinDprojRefIdeal.τ Cert.JoinDprojRefIdeal.sig) → Buf (Elt Ideal) ℓ) (g : Dev Cert.JoinDprojRefIdeal.nD → PrngReg), Pre_JoinDprojRefIdeal m →
    θ_run (Cert.JoinDprojRefIdeal.defs (F := Ideal)) (onTc (τ := Cert.JoinDprojRefIdeal.τ) (Cert.JoinDprojRefIdeal.main (F := Ideal))) ⟨m, fun _ => 0, g⟩ (fun r => (∀ c : Dev Cert.JoinDprojRefIdeal.nD,
      r.2.mem ((c.tc : Thread Cert.JoinDprojRefIdeal.nD Cert.JoinDprojRefIdeal.τ).loc Cert.JoinDprojRefIdeal.main_arg0) = m ((c.tc : Thread Cert.JoinDprojRefIdeal.nD Cert.JoinDprojRefIdeal.τ).loc Cert.JoinDprojRefIdeal.main_arg0)
      ∧ r.2.mem ((c.tc : Thread Cert.JoinDprojRefIdeal.nD Cert.JoinDprojRefIdeal.τ).loc Cert.JoinDprojRefIdeal.main_arg1) = m ((c.tc : Thread Cert.JoinDprojRefIdeal.nD Cert.JoinDprojRefIdeal.τ).loc Cert.JoinDprojRefIdeal.main_arg1)
      ∧ r.2.mem ((c.tc : Thread Cert.JoinDprojRefIdeal.nD Cert.JoinDprojRefIdeal.τ).loc Cert.JoinDprojRefIdeal.main_arg2) = m ((c.tc : Thread Cert.JoinDprojRefIdeal.nD Cert.JoinDprojRefIdeal.τ).loc Cert.JoinDprojRefIdeal.main_arg2)
      ∧ r.2.mem ((c.tc : Thread Cert.JoinDprojRefIdeal.nD Cert.JoinDprojRefIdeal.τ).loc Cert.JoinDprojRefIdeal.main_arg3) = m ((c.tc : Thread Cert.JoinDprojRefIdeal.nD Cert.JoinDprojRefIdeal.τ).loc Cert.JoinDprojRefIdeal.main_arg3)
      ∧ r.2.mem ((c.tc : Thread Cert.JoinDprojRefIdeal.nD Cert.JoinDprojRefIdeal.τ).loc Cert.JoinDprojRefIdeal.main_arg4) = m ((c.tc : Thread Cert.JoinDprojRefIdeal.nD Cert.JoinDprojRefIdeal.τ).loc Cert.JoinDprojRefIdeal.main_arg4)
      ∧ r.2.mem ((c.tc : Thread Cert.JoinDprojRefIdeal.nD Cert.JoinDprojRefIdeal.τ).loc Cert.JoinDprojRefIdeal.main_arg5) = m ((c.tc : Thread Cert.JoinDprojRefIdeal.nD Cert.JoinDprojRefIdeal.τ).loc Cert.JoinDprojRefIdeal.main_arg5)
      ∧ r.2.mem ((c.tc : Thread Cert.JoinDprojRefIdeal.nD Cert.JoinDprojRefIdeal.τ).loc Cert.JoinDprojRefIdeal.main_arg6) = m ((c.tc : Thread Cert.JoinDprojRefIdeal.nD Cert.JoinDprojRefIdeal.τ).loc Cert.JoinDprojRefIdeal.main_arg6)
      ∧ r.2.mem ((c.tc : Thread Cert.JoinDprojRefIdeal.nD Cert.JoinDprojRefIdeal.τ).loc Cert.JoinDprojRefIdeal.main_arg7) = m ((c.tc : Thread Cert.JoinDprojRefIdeal.nD Cert.JoinDprojRefIdeal.τ).loc Cert.JoinDprojRefIdeal.main_arg7))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt2pi" .f32 0x3ECC422A#32 (((Real.sqrt (2 * Real.pi))⁻¹ : ℝ) : EReal)

def algebraic_KernelIdeal_ReferenceIdeal_pre_ffn_finite [hKernelIdeal : Cert.KernelIdeal.Facts] [hReferenceIdeal : Cert.ReferenceIdeal.Facts] [hPre_ffn_finite : Cert.Pre_ffn_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ffn_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v7) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v7) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_DH2_DH2Ideal : Prop :=
  True

def algebraic_DH2Ideal_DH2RefIdeal [hDH2Ideal : Cert.DH2Ideal.Facts] [hDH2RefIdeal : Cert.DH2RefIdeal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.DH2RefIdeal.nD Cert.DH2RefIdeal.τ Cert.DH2RefIdeal.sig) → Buf (Elt Ideal) ℓ) (g' : Dev Cert.DH2RefIdeal.nD → PrngReg), Pre_DH2Ideal m →
    (∀ c : Dev Cert.DH2Ideal.nD,
      m' ((c.tc : Thread Cert.DH2RefIdeal.nD Cert.DH2RefIdeal.τ).loc Cert.DH2RefIdeal.main_arg0) = m ((c.tc : Thread Cert.DH2Ideal.nD Cert.DH2Ideal.τ).loc Cert.DH2Ideal.main_arg0)
      ∧ m' ((c.tc : Thread Cert.DH2RefIdeal.nD Cert.DH2RefIdeal.τ).loc Cert.DH2RefIdeal.main_arg1) = m ((c.tc : Thread Cert.DH2Ideal.nD Cert.DH2Ideal.τ).loc Cert.DH2Ideal.main_arg1)) →
    ∃ (v0 : (c : Dev Cert.DH2Ideal.nD) → Buf (Elt Ideal) ((c.tc : Thread Cert.DH2Ideal.nD Cert.DH2Ideal.τ).loc Cert.DH2Ideal.main_v0)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v0) = v0 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ θ_run (Cert.DH2RefIdeal.defs (F := Ideal)) (onTc (τ := Cert.DH2RefIdeal.τ) (Cert.DH2RefIdeal.main (F := Ideal))) ⟨m', fun _ => 0, g'⟩ (fun r => ∀ c : Dev Cert.DH2RefIdeal.nD,
          r.2.mem ((c.tc : Thread Cert.DH2RefIdeal.nD Cert.DH2RefIdeal.τ).loc Cert.DH2RefIdeal.main_v7) = v0 c
          ∧ r.2.mem ((c.tc : Thread Cert.DH2RefIdeal.nD Cert.DH2RefIdeal.τ).loc Cert.DH2RefIdeal.main_arg0) = m' ((c.tc : Thread Cert.DH2RefIdeal.nD Cert.DH2RefIdeal.τ).loc Cert.DH2RefIdeal.main_arg0)
          ∧ r.2.mem ((c.tc : Thread Cert.DH2RefIdeal.nD Cert.DH2RefIdeal.τ).loc Cert.DH2RefIdeal.main_arg1) = m' ((c.tc : Thread Cert.DH2RefIdeal.nD Cert.DH2RefIdeal.τ).loc Cert.DH2RefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v7) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v9) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DH1_DH1Ideal : Prop :=
  True

def algebraic_DH1Ideal_DH1RefIdeal [hDH1Ideal : Cert.DH1Ideal.Facts] [hDH1RefIdeal : Cert.DH1RefIdeal.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.DH1RefIdeal.nD Cert.DH1RefIdeal.τ Cert.DH1RefIdeal.sig) → Buf (Elt Ideal) ℓ) (g' : Dev Cert.DH1RefIdeal.nD → PrngReg), Pre_DH1Ideal m →
    (∀ c : Dev Cert.DH1Ideal.nD,
      m' ((c.tc : Thread Cert.DH1RefIdeal.nD Cert.DH1RefIdeal.τ).loc Cert.DH1RefIdeal.main_arg0) = m ((c.tc : Thread Cert.DH1Ideal.nD Cert.DH1Ideal.τ).loc Cert.DH1Ideal.main_arg0)
      ∧ m' ((c.tc : Thread Cert.DH1RefIdeal.nD Cert.DH1RefIdeal.τ).loc Cert.DH1RefIdeal.main_arg1) = m ((c.tc : Thread Cert.DH1Ideal.nD Cert.DH1Ideal.τ).loc Cert.DH1Ideal.main_arg1)) →
    ∃ (v0 : (c : Dev Cert.DH1Ideal.nD) → Buf (Elt Ideal) ((c.tc : Thread Cert.DH1Ideal.nD Cert.DH1Ideal.τ).loc Cert.DH1Ideal.main_v0)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v0) = v0 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1))
      ∧ θ_run (Cert.DH1RefIdeal.defs (F := Ideal)) (onTc (τ := Cert.DH1RefIdeal.τ) (Cert.DH1RefIdeal.main (F := Ideal))) ⟨m', fun _ => 0, g'⟩ (fun r => ∀ c : Dev Cert.DH1RefIdeal.nD,
          r.2.mem ((c.tc : Thread Cert.DH1RefIdeal.nD Cert.DH1RefIdeal.τ).loc Cert.DH1RefIdeal.main_v9) = v0 c
          ∧ r.2.mem ((c.tc : Thread Cert.DH1RefIdeal.nD Cert.DH1RefIdeal.τ).loc Cert.DH1RefIdeal.main_arg0) = m' ((c.tc : Thread Cert.DH1RefIdeal.nD Cert.DH1RefIdeal.τ).loc Cert.DH1RefIdeal.main_arg0)
          ∧ r.2.mem ((c.tc : Thread Cert.DH1RefIdeal.nD Cert.DH1RefIdeal.τ).loc Cert.DH1RefIdeal.main_arg1) = m' ((c.tc : Thread Cert.DH1RefIdeal.nD Cert.DH1RefIdeal.τ).loc Cert.DH1RefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v7) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DAttn_DAttnIdeal : Prop :=
  True

def algebraic_DAttnIdeal_DAttnRefIdeal [hDAttnIdeal : Cert.DAttnIdeal.Facts] [hDAttnRefIdeal : Cert.DAttnRefIdeal.Facts] : Prop :=
  ∀ (m : (ℓ : Loc Cert.DAttnIdeal.nD Cert.DAttnIdeal.τ Cert.DAttnIdeal.sig) → Buf (Elt Ideal) ℓ) (g : Dev Cert.DAttnIdeal.nD → PrngReg)
    (m' : (ℓ : Loc Cert.DAttnRefIdeal.nD Cert.DAttnRefIdeal.τ Cert.DAttnRefIdeal.sig) → Buf (Elt Ideal) ℓ) (g' : Dev Cert.DAttnRefIdeal.nD → PrngReg), Pre_DAttnIdeal m →
    (∀ c : Dev Cert.DAttnIdeal.nD,
      m' ((c.tc : Thread Cert.DAttnRefIdeal.nD Cert.DAttnRefIdeal.τ).loc Cert.DAttnRefIdeal.main_arg0) = m ((c.tc : Thread Cert.DAttnIdeal.nD Cert.DAttnIdeal.τ).loc Cert.DAttnIdeal.main_arg0)
      ∧ m' ((c.tc : Thread Cert.DAttnRefIdeal.nD Cert.DAttnRefIdeal.τ).loc Cert.DAttnRefIdeal.main_arg1) = m ((c.tc : Thread Cert.DAttnIdeal.nD Cert.DAttnIdeal.τ).loc Cert.DAttnIdeal.main_arg1)) →
    ∃ (v0 : (c : Dev Cert.DAttnIdeal.nD) → Buf (Elt Ideal) ((c.tc : Thread Cert.DAttnIdeal.nD Cert.DAttnIdeal.τ).loc Cert.DAttnIdeal.main_v0)),
      θ_run (Cert.DAttnIdeal.defs (F := Ideal)) (onTc (τ := Cert.DAttnIdeal.τ) (Cert.DAttnIdeal.main (F := Ideal))) ⟨m, fun _ => 0, g⟩ (fun r => ∀ c : Dev Cert.DAttnIdeal.nD,
          r.2.mem ((c.tc : Thread Cert.DAttnIdeal.nD Cert.DAttnIdeal.τ).loc Cert.DAttnIdeal.main_v0) = v0 c
          ∧ r.2.mem ((c.tc : Thread Cert.DAttnIdeal.nD Cert.DAttnIdeal.τ).loc Cert.DAttnIdeal.main_arg0) = m ((c.tc : Thread Cert.DAttnIdeal.nD Cert.DAttnIdeal.τ).loc Cert.DAttnIdeal.main_arg0)
          ∧ r.2.mem ((c.tc : Thread Cert.DAttnIdeal.nD Cert.DAttnIdeal.τ).loc Cert.DAttnIdeal.main_arg1) = m ((c.tc : Thread Cert.DAttnIdeal.nD Cert.DAttnIdeal.τ).loc Cert.DAttnIdeal.main_arg1))
      ∧ θ_run (Cert.DAttnRefIdeal.defs (F := Ideal)) (onTc (τ := Cert.DAttnRefIdeal.τ) (Cert.DAttnRefIdeal.main (F := Ideal))) ⟨m', fun _ => 0, g'⟩ (fun r => ∀ c : Dev Cert.DAttnRefIdeal.nD,
          r.2.mem ((c.tc : Thread Cert.DAttnRefIdeal.nD Cert.DAttnRefIdeal.τ).loc Cert.DAttnRefIdeal.main_v7) = v0 c
          ∧ r.2.mem ((c.tc : Thread Cert.DAttnRefIdeal.nD Cert.DAttnRefIdeal.τ).loc Cert.DAttnRefIdeal.main_arg0) = m' ((c.tc : Thread Cert.DAttnRefIdeal.nD Cert.DAttnRefIdeal.τ).loc Cert.DAttnRefIdeal.main_arg0)
          ∧ r.2.mem ((c.tc : Thread Cert.DAttnRefIdeal.nD Cert.DAttnRefIdeal.τ).loc Cert.DAttnRefIdeal.main_arg1) = m' ((c.tc : Thread Cert.DAttnRefIdeal.nD Cert.DAttnRefIdeal.τ).loc Cert.DAttnRefIdeal.main_arg1))

def preserves_DwBa_DwBaIdeal : Prop :=
  True

def algebraic_DwBaIdeal_DwBaRefIdeal [hDwBaIdeal : Cert.DwBaIdeal.Facts] [hDwBaRefIdeal : Cert.DwBaRefIdeal.Facts] : Prop :=
  ∀ (m : (ℓ : Loc Cert.DwBaIdeal.nD Cert.DwBaIdeal.τ Cert.DwBaIdeal.sig) → Buf (Elt Ideal) ℓ) (g : Dev Cert.DwBaIdeal.nD → PrngReg)
    (m' : (ℓ : Loc Cert.DwBaRefIdeal.nD Cert.DwBaRefIdeal.τ Cert.DwBaRefIdeal.sig) → Buf (Elt Ideal) ℓ) (g' : Dev Cert.DwBaRefIdeal.nD → PrngReg), Pre_DwBaIdeal m →
    (∀ c : Dev Cert.DwBaIdeal.nD,
      m' ((c.tc : Thread Cert.DwBaRefIdeal.nD Cert.DwBaRefIdeal.τ).loc Cert.DwBaRefIdeal.main_arg0) = m ((c.tc : Thread Cert.DwBaIdeal.nD Cert.DwBaIdeal.τ).loc Cert.DwBaIdeal.main_arg0)
      ∧ m' ((c.tc : Thread Cert.DwBaRefIdeal.nD Cert.DwBaRefIdeal.τ).loc Cert.DwBaRefIdeal.main_arg1) = m ((c.tc : Thread Cert.DwBaIdeal.nD Cert.DwBaIdeal.τ).loc Cert.DwBaIdeal.main_arg1)) →
    ∃ (v0 : (c : Dev Cert.DwBaIdeal.nD) → Buf (Elt Ideal) ((c.tc : Thread Cert.DwBaIdeal.nD Cert.DwBaIdeal.τ).loc Cert.DwBaIdeal.main_v0)),
      θ_run (Cert.DwBaIdeal.defs (F := Ideal)) (onTc (τ := Cert.DwBaIdeal.τ) (Cert.DwBaIdeal.main (F := Ideal))) ⟨m, fun _ => 0, g⟩ (fun r => ∀ c : Dev Cert.DwBaIdeal.nD,
          r.2.mem ((c.tc : Thread Cert.DwBaIdeal.nD Cert.DwBaIdeal.τ).loc Cert.DwBaIdeal.main_v0) = v0 c
          ∧ r.2.mem ((c.tc : Thread Cert.DwBaIdeal.nD Cert.DwBaIdeal.τ).loc Cert.DwBaIdeal.main_arg0) = m ((c.tc : Thread Cert.DwBaIdeal.nD Cert.DwBaIdeal.τ).loc Cert.DwBaIdeal.main_arg0)
          ∧ r.2.mem ((c.tc : Thread Cert.DwBaIdeal.nD Cert.DwBaIdeal.τ).loc Cert.DwBaIdeal.main_arg1) = m ((c.tc : Thread Cert.DwBaIdeal.nD Cert.DwBaIdeal.τ).loc Cert.DwBaIdeal.main_arg1))
      ∧ θ_run (Cert.DwBaRefIdeal.defs (F := Ideal)) (onTc (τ := Cert.DwBaRefIdeal.τ) (Cert.DwBaRefIdeal.main (F := Ideal))) ⟨m', fun _ => 0, g'⟩ (fun r => ∀ c : Dev Cert.DwBaRefIdeal.nD,
          r.2.mem ((c.tc : Thread Cert.DwBaRefIdeal.nD Cert.DwBaRefIdeal.τ).loc Cert.DwBaRefIdeal.main_v7) = v0 c
          ∧ r.2.mem ((c.tc : Thread Cert.DwBaRefIdeal.nD Cert.DwBaRefIdeal.τ).loc Cert.DwBaRefIdeal.main_arg0) = m' ((c.tc : Thread Cert.DwBaRefIdeal.nD Cert.DwBaRefIdeal.τ).loc Cert.DwBaRefIdeal.main_arg0)
          ∧ r.2.mem ((c.tc : Thread Cert.DwBaRefIdeal.nD Cert.DwBaRefIdeal.τ).loc Cert.DwBaRefIdeal.main_arg1) = m' ((c.tc : Thread Cert.DwBaRefIdeal.nD Cert.DwBaRefIdeal.τ).loc Cert.DwBaRefIdeal.main_arg1))

def preserves_DwBs_DwBsIdeal : Prop :=
  True

def algebraic_DwBsIdeal_DwBsRefIdeal [hDwBsIdeal : Cert.DwBsIdeal.Facts] [hDwBsRefIdeal : Cert.DwBsRefIdeal.Facts] : Prop :=
  ∀ (m : (ℓ : Loc Cert.DwBsIdeal.nD Cert.DwBsIdeal.τ Cert.DwBsIdeal.sig) → Buf (Elt Ideal) ℓ) (g : Dev Cert.DwBsIdeal.nD → PrngReg)
    (m' : (ℓ : Loc Cert.DwBsRefIdeal.nD Cert.DwBsRefIdeal.τ Cert.DwBsRefIdeal.sig) → Buf (Elt Ideal) ℓ) (g' : Dev Cert.DwBsRefIdeal.nD → PrngReg), Pre_DwBsIdeal m →
    (∀ c : Dev Cert.DwBsIdeal.nD,
      m' ((c.tc : Thread Cert.DwBsRefIdeal.nD Cert.DwBsRefIdeal.τ).loc Cert.DwBsRefIdeal.main_arg0) = m ((c.tc : Thread Cert.DwBsIdeal.nD Cert.DwBsIdeal.τ).loc Cert.DwBsIdeal.main_arg0)
      ∧ m' ((c.tc : Thread Cert.DwBsRefIdeal.nD Cert.DwBsRefIdeal.τ).loc Cert.DwBsRefIdeal.main_arg1) = m ((c.tc : Thread Cert.DwBsIdeal.nD Cert.DwBsIdeal.τ).loc Cert.DwBsIdeal.main_arg1)) →
    ∃ (v0 : (c : Dev Cert.DwBsIdeal.nD) → Buf (Elt Ideal) ((c.tc : Thread Cert.DwBsIdeal.nD Cert.DwBsIdeal.τ).loc Cert.DwBsIdeal.main_v0)),
      θ_run (Cert.DwBsIdeal.defs (F := Ideal)) (onTc (τ := Cert.DwBsIdeal.τ) (Cert.DwBsIdeal.main (F := Ideal))) ⟨m, fun _ => 0, g⟩ (fun r => ∀ c : Dev Cert.DwBsIdeal.nD,
          r.2.mem ((c.tc : Thread Cert.DwBsIdeal.nD Cert.DwBsIdeal.τ).loc Cert.DwBsIdeal.main_v0) = v0 c
          ∧ r.2.mem ((c.tc : Thread Cert.DwBsIdeal.nD Cert.DwBsIdeal.τ).loc Cert.DwBsIdeal.main_arg0) = m ((c.tc : Thread Cert.DwBsIdeal.nD Cert.DwBsIdeal.τ).loc Cert.DwBsIdeal.main_arg0)
          ∧ r.2.mem ((c.tc : Thread Cert.DwBsIdeal.nD Cert.DwBsIdeal.τ).loc Cert.DwBsIdeal.main_arg1) = m ((c.tc : Thread Cert.DwBsIdeal.nD Cert.DwBsIdeal.τ).loc Cert.DwBsIdeal.main_arg1))
      ∧ θ_run (Cert.DwBsRefIdeal.defs (F := Ideal)) (onTc (τ := Cert.DwBsRefIdeal.τ) (Cert.DwBsRefIdeal.main (F := Ideal))) ⟨m', fun _ => 0, g'⟩ (fun r => ∀ c : Dev Cert.DwBsRefIdeal.nD,
          r.2.mem ((c.tc : Thread Cert.DwBsRefIdeal.nD Cert.DwBsRefIdeal.τ).loc Cert.DwBsRefIdeal.main_v7) = v0 c
          ∧ r.2.mem ((c.tc : Thread Cert.DwBsRefIdeal.nD Cert.DwBsRefIdeal.τ).loc Cert.DwBsRefIdeal.main_arg0) = m' ((c.tc : Thread Cert.DwBsRefIdeal.nD Cert.DwBsRefIdeal.τ).loc Cert.DwBsRefIdeal.main_arg0)
          ∧ r.2.mem ((c.tc : Thread Cert.DwBsRefIdeal.nD Cert.DwBsRefIdeal.τ).loc Cert.DwBsRefIdeal.main_arg1) = m' ((c.tc : Thread Cert.DwBsRefIdeal.nD Cert.DwBsRefIdeal.τ).loc Cert.DwBsRefIdeal.main_arg1))

def preserves_DwGlu_DwGluIdeal : Prop :=
  True

def algebraic_DwGluIdeal_DwGluRefIdeal [hDwGluIdeal : Cert.DwGluIdeal.Facts] [hDwGluRefIdeal : Cert.DwGluRefIdeal.Facts] : Prop :=
  ∀ (m : (ℓ : Loc Cert.DwGluIdeal.nD Cert.DwGluIdeal.τ Cert.DwGluIdeal.sig) → Buf (Elt Ideal) ℓ) (g : Dev Cert.DwGluIdeal.nD → PrngReg)
    (m' : (ℓ : Loc Cert.DwGluRefIdeal.nD Cert.DwGluRefIdeal.τ Cert.DwGluRefIdeal.sig) → Buf (Elt Ideal) ℓ) (g' : Dev Cert.DwGluRefIdeal.nD → PrngReg), Pre_DwGluIdeal m →
    (∀ c : Dev Cert.DwGluIdeal.nD,
      m' ((c.tc : Thread Cert.DwGluRefIdeal.nD Cert.DwGluRefIdeal.τ).loc Cert.DwGluRefIdeal.main_arg0) = m ((c.tc : Thread Cert.DwGluIdeal.nD Cert.DwGluIdeal.τ).loc Cert.DwGluIdeal.main_arg0)
      ∧ m' ((c.tc : Thread Cert.DwGluRefIdeal.nD Cert.DwGluRefIdeal.τ).loc Cert.DwGluRefIdeal.main_arg1) = m ((c.tc : Thread Cert.DwGluIdeal.nD Cert.DwGluIdeal.τ).loc Cert.DwGluIdeal.main_arg1)) →
    ∃ (v0 : (c : Dev Cert.DwGluIdeal.nD) → Buf (Elt Ideal) ((c.tc : Thread Cert.DwGluIdeal.nD Cert.DwGluIdeal.τ).loc Cert.DwGluIdeal.main_v0)),
      θ_run (Cert.DwGluIdeal.defs (F := Ideal)) (onTc (τ := Cert.DwGluIdeal.τ) (Cert.DwGluIdeal.main (F := Ideal))) ⟨m, fun _ => 0, g⟩ (fun r => ∀ c : Dev Cert.DwGluIdeal.nD,
          r.2.mem ((c.tc : Thread Cert.DwGluIdeal.nD Cert.DwGluIdeal.τ).loc Cert.DwGluIdeal.main_v0) = v0 c
          ∧ r.2.mem ((c.tc : Thread Cert.DwGluIdeal.nD Cert.DwGluIdeal.τ).loc Cert.DwGluIdeal.main_arg0) = m ((c.tc : Thread Cert.DwGluIdeal.nD Cert.DwGluIdeal.τ).loc Cert.DwGluIdeal.main_arg0)
          ∧ r.2.mem ((c.tc : Thread Cert.DwGluIdeal.nD Cert.DwGluIdeal.τ).loc Cert.DwGluIdeal.main_arg1) = m ((c.tc : Thread Cert.DwGluIdeal.nD Cert.DwGluIdeal.τ).loc Cert.DwGluIdeal.main_arg1))
      ∧ θ_run (Cert.DwGluRefIdeal.defs (F := Ideal)) (onTc (τ := Cert.DwGluRefIdeal.τ) (Cert.DwGluRefIdeal.main (F := Ideal))) ⟨m', fun _ => 0, g'⟩ (fun r => ∀ c : Dev Cert.DwGluRefIdeal.nD,
          r.2.mem ((c.tc : Thread Cert.DwGluRefIdeal.nD Cert.DwGluRefIdeal.τ).loc Cert.DwGluRefIdeal.main_v7) = v0 c
          ∧ r.2.mem ((c.tc : Thread Cert.DwGluRefIdeal.nD Cert.DwGluRefIdeal.τ).loc Cert.DwGluRefIdeal.main_arg0) = m' ((c.tc : Thread Cert.DwGluRefIdeal.nD Cert.DwGluRefIdeal.τ).loc Cert.DwGluRefIdeal.main_arg0)
          ∧ r.2.mem ((c.tc : Thread Cert.DwGluRefIdeal.nD Cert.DwGluRefIdeal.τ).loc Cert.DwGluRefIdeal.main_arg1) = m' ((c.tc : Thread Cert.DwGluRefIdeal.nD Cert.DwGluRefIdeal.τ).loc Cert.DwGluRefIdeal.main_arg1))

def preserves_DGy_DGyIdeal : Prop :=
  True

def algebraic_DGyIdeal_DGyRefIdeal [hDGyIdeal : Cert.DGyIdeal.Facts] [hDGyRefIdeal : Cert.DGyRefIdeal.Facts] : Prop :=
  ∀ (m : (ℓ : Loc Cert.DGyIdeal.nD Cert.DGyIdeal.τ Cert.DGyIdeal.sig) → Buf (Elt Ideal) ℓ) (g : Dev Cert.DGyIdeal.nD → PrngReg)
    (m' : (ℓ : Loc Cert.DGyRefIdeal.nD Cert.DGyRefIdeal.τ Cert.DGyRefIdeal.sig) → Buf (Elt Ideal) ℓ) (g' : Dev Cert.DGyRefIdeal.nD → PrngReg), Pre_DGyIdeal m →
    (∀ c : Dev Cert.DGyIdeal.nD,
      m' ((c.tc : Thread Cert.DGyRefIdeal.nD Cert.DGyRefIdeal.τ).loc Cert.DGyRefIdeal.main_arg0) = m ((c.tc : Thread Cert.DGyIdeal.nD Cert.DGyIdeal.τ).loc Cert.DGyIdeal.main_arg0)
      ∧ m' ((c.tc : Thread Cert.DGyRefIdeal.nD Cert.DGyRefIdeal.τ).loc Cert.DGyRefIdeal.main_arg1) = m ((c.tc : Thread Cert.DGyIdeal.nD Cert.DGyIdeal.τ).loc Cert.DGyIdeal.main_arg1)) →
    ∃ (v0 : (c : Dev Cert.DGyIdeal.nD) → Buf (Elt Ideal) ((c.tc : Thread Cert.DGyIdeal.nD Cert.DGyIdeal.τ).loc Cert.DGyIdeal.main_v0)),
      θ_run (Cert.DGyIdeal.defs (F := Ideal)) (onTc (τ := Cert.DGyIdeal.τ) (Cert.DGyIdeal.main (F := Ideal))) ⟨m, fun _ => 0, g⟩ (fun r => ∀ c : Dev Cert.DGyIdeal.nD,
          r.2.mem ((c.tc : Thread Cert.DGyIdeal.nD Cert.DGyIdeal.τ).loc Cert.DGyIdeal.main_v0) = v0 c
          ∧ r.2.mem ((c.tc : Thread Cert.DGyIdeal.nD Cert.DGyIdeal.τ).loc Cert.DGyIdeal.main_arg0) = m ((c.tc : Thread Cert.DGyIdeal.nD Cert.DGyIdeal.τ).loc Cert.DGyIdeal.main_arg0)
          ∧ r.2.mem ((c.tc : Thread Cert.DGyIdeal.nD Cert.DGyIdeal.τ).loc Cert.DGyIdeal.main_arg1) = m ((c.tc : Thread Cert.DGyIdeal.nD Cert.DGyIdeal.τ).loc Cert.DGyIdeal.main_arg1))
      ∧ θ_run (Cert.DGyRefIdeal.defs (F := Ideal)) (onTc (τ := Cert.DGyRefIdeal.τ) (Cert.DGyRefIdeal.main (F := Ideal))) ⟨m', fun _ => 0, g'⟩ (fun r => ∀ c : Dev Cert.DGyRefIdeal.nD,
          r.2.mem ((c.tc : Thread Cert.DGyRefIdeal.nD Cert.DGyRefIdeal.τ).loc Cert.DGyRefIdeal.main_v6) = v0 c
          ∧ r.2.mem ((c.tc : Thread Cert.DGyRefIdeal.nD Cert.DGyRefIdeal.τ).loc Cert.DGyRefIdeal.main_arg0) = m' ((c.tc : Thread Cert.DGyRefIdeal.nD Cert.DGyRefIdeal.τ).loc Cert.DGyRefIdeal.main_arg0)
          ∧ r.2.mem ((c.tc : Thread Cert.DGyRefIdeal.nD Cert.DGyRefIdeal.τ).loc Cert.DGyRefIdeal.main_arg1) = m' ((c.tc : Thread Cert.DGyRefIdeal.nD Cert.DGyRefIdeal.τ).loc Cert.DGyRefIdeal.main_arg1))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)
      ∧ m' ((c.tc : Thread Cert.ProjInRefIdeal.nD Cert.ProjInRefIdeal.τ).loc Cert.ProjInRefIdeal.main_arg2) = m ((c.tc : Thread Cert.ProjInIdeal.nD Cert.ProjInIdeal.τ).loc Cert.ProjInIdeal.main_arg2)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v5) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1)
          ∧ r.2.mem ((c.tc : Thread Cert.ProjInRefIdeal.nD Cert.ProjInRefIdeal.τ).loc Cert.ProjInRefIdeal.main_arg2) = m' ((c.tc : Thread Cert.ProjInRefIdeal.nD Cert.ProjInRefIdeal.τ).loc Cert.ProjInRefIdeal.main_arg2))

def preserves_BranchA_BranchAIdeal : Prop :=
  True

def algebraic_BranchAIdeal_BranchARefIdeal [hBranchAIdeal : Cert.BranchAIdeal.Facts] [hBranchARefIdeal : Cert.BranchARefIdeal.Facts] : Prop :=
  ∀ (m : (ℓ : Loc Cert.BranchAIdeal.nD Cert.BranchAIdeal.τ Cert.BranchAIdeal.sig) → Buf (Elt Ideal) ℓ) (g : Dev Cert.BranchAIdeal.nD → PrngReg)
    (m' : (ℓ : Loc Cert.BranchARefIdeal.nD Cert.BranchARefIdeal.τ Cert.BranchARefIdeal.sig) → Buf (Elt Ideal) ℓ) (g' : Dev Cert.BranchARefIdeal.nD → PrngReg), Pre_BranchAIdeal m →
    (∀ c : Dev Cert.BranchAIdeal.nD,
      m' ((c.tc : Thread Cert.BranchARefIdeal.nD Cert.BranchARefIdeal.τ).loc Cert.BranchARefIdeal.main_arg0) = m ((c.tc : Thread Cert.BranchAIdeal.nD Cert.BranchAIdeal.τ).loc Cert.BranchAIdeal.main_arg0)
      ∧ m' ((c.tc : Thread Cert.BranchARefIdeal.nD Cert.BranchARefIdeal.τ).loc Cert.BranchARefIdeal.main_arg1) = m ((c.tc : Thread Cert.BranchAIdeal.nD Cert.BranchAIdeal.τ).loc Cert.BranchAIdeal.main_arg1)) →
    ∃ (v0 : (c : Dev Cert.BranchAIdeal.nD) → Buf (Elt Ideal) ((c.tc : Thread Cert.BranchAIdeal.nD Cert.BranchAIdeal.τ).loc Cert.BranchAIdeal.main_v0)),
      θ_run (Cert.BranchAIdeal.defs (F := Ideal)) (onTc (τ := Cert.BranchAIdeal.τ) (Cert.BranchAIdeal.main (F := Ideal))) ⟨m, fun _ => 0, g⟩ (fun r => ∀ c : Dev Cert.BranchAIdeal.nD,
          r.2.mem ((c.tc : Thread Cert.BranchAIdeal.nD Cert.BranchAIdeal.τ).loc Cert.BranchAIdeal.main_v0) = v0 c
          ∧ r.2.mem ((c.tc : Thread Cert.BranchAIdeal.nD Cert.BranchAIdeal.τ).loc Cert.BranchAIdeal.main_arg0) = m ((c.tc : Thread Cert.BranchAIdeal.nD Cert.BranchAIdeal.τ).loc Cert.BranchAIdeal.main_arg0)
          ∧ r.2.mem ((c.tc : Thread Cert.BranchAIdeal.nD Cert.BranchAIdeal.τ).loc Cert.BranchAIdeal.main_arg1) = m ((c.tc : Thread Cert.BranchAIdeal.nD Cert.BranchAIdeal.τ).loc Cert.BranchAIdeal.main_arg1))
      ∧ θ_run (Cert.BranchARefIdeal.defs (F := Ideal)) (onTc (τ := Cert.BranchARefIdeal.τ) (Cert.BranchARefIdeal.main (F := Ideal))) ⟨m', fun _ => 0, g'⟩ (fun r => ∀ c : Dev Cert.BranchARefIdeal.nD,
          r.2.mem ((c.tc : Thread Cert.BranchARefIdeal.nD Cert.BranchARefIdeal.τ).loc Cert.BranchARefIdeal.main_v3) = v0 c
          ∧ r.2.mem ((c.tc : Thread Cert.BranchARefIdeal.nD Cert.BranchARefIdeal.τ).loc Cert.BranchARefIdeal.main_arg0) = m' ((c.tc : Thread Cert.BranchARefIdeal.nD Cert.BranchARefIdeal.τ).loc Cert.BranchARefIdeal.main_arg0)
          ∧ r.2.mem ((c.tc : Thread Cert.BranchARefIdeal.nD Cert.BranchARefIdeal.τ).loc Cert.BranchARefIdeal.main_arg1) = m' ((c.tc : Thread Cert.BranchARefIdeal.nD Cert.BranchARefIdeal.τ).loc Cert.BranchARefIdeal.main_arg1))

def preserves_BranchS_BranchSIdeal : Prop :=
  True

def algebraic_BranchSIdeal_BranchSRefIdeal [hBranchSIdeal : Cert.BranchSIdeal.Facts] [hBranchSRefIdeal : Cert.BranchSRefIdeal.Facts] : Prop :=
  ∀ (m : (ℓ : Loc Cert.BranchSIdeal.nD Cert.BranchSIdeal.τ Cert.BranchSIdeal.sig) → Buf (Elt Ideal) ℓ) (g : Dev Cert.BranchSIdeal.nD → PrngReg)
    (m' : (ℓ : Loc Cert.BranchSRefIdeal.nD Cert.BranchSRefIdeal.τ Cert.BranchSRefIdeal.sig) → Buf (Elt Ideal) ℓ) (g' : Dev Cert.BranchSRefIdeal.nD → PrngReg), Pre_BranchSIdeal m →
    (∀ c : Dev Cert.BranchSIdeal.nD,
      m' ((c.tc : Thread Cert.BranchSRefIdeal.nD Cert.BranchSRefIdeal.τ).loc Cert.BranchSRefIdeal.main_arg0) = m ((c.tc : Thread Cert.BranchSIdeal.nD Cert.BranchSIdeal.τ).loc Cert.BranchSIdeal.main_arg0)
      ∧ m' ((c.tc : Thread Cert.BranchSRefIdeal.nD Cert.BranchSRefIdeal.τ).loc Cert.BranchSRefIdeal.main_arg1) = m ((c.tc : Thread Cert.BranchSIdeal.nD Cert.BranchSIdeal.τ).loc Cert.BranchSIdeal.main_arg1)) →
    ∃ (v0 : (c : Dev Cert.BranchSIdeal.nD) → Buf (Elt Ideal) ((c.tc : Thread Cert.BranchSIdeal.nD Cert.BranchSIdeal.τ).loc Cert.BranchSIdeal.main_v0)),
      θ_run (Cert.BranchSIdeal.defs (F := Ideal)) (onTc (τ := Cert.BranchSIdeal.τ) (Cert.BranchSIdeal.main (F := Ideal))) ⟨m, fun _ => 0, g⟩ (fun r => ∀ c : Dev Cert.BranchSIdeal.nD,
          r.2.mem ((c.tc : Thread Cert.BranchSIdeal.nD Cert.BranchSIdeal.τ).loc Cert.BranchSIdeal.main_v0) = v0 c
          ∧ r.2.mem ((c.tc : Thread Cert.BranchSIdeal.nD Cert.BranchSIdeal.τ).loc Cert.BranchSIdeal.main_arg0) = m ((c.tc : Thread Cert.BranchSIdeal.nD Cert.BranchSIdeal.τ).loc Cert.BranchSIdeal.main_arg0)
          ∧ r.2.mem ((c.tc : Thread Cert.BranchSIdeal.nD Cert.BranchSIdeal.τ).loc Cert.BranchSIdeal.main_arg1) = m ((c.tc : Thread Cert.BranchSIdeal.nD Cert.BranchSIdeal.τ).loc Cert.BranchSIdeal.main_arg1))
      ∧ θ_run (Cert.BranchSRefIdeal.defs (F := Ideal)) (onTc (τ := Cert.BranchSRefIdeal.τ) (Cert.BranchSRefIdeal.main (F := Ideal))) ⟨m', fun _ => 0, g'⟩ (fun r => ∀ c : Dev Cert.BranchSRefIdeal.nD,
          r.2.mem ((c.tc : Thread Cert.BranchSRefIdeal.nD Cert.BranchSRefIdeal.τ).loc Cert.BranchSRefIdeal.main_v3) = v0 c
          ∧ r.2.mem ((c.tc : Thread Cert.BranchSRefIdeal.nD Cert.BranchSRefIdeal.τ).loc Cert.BranchSRefIdeal.main_arg0) = m' ((c.tc : Thread Cert.BranchSRefIdeal.nD Cert.BranchSRefIdeal.τ).loc Cert.BranchSRefIdeal.main_arg0)
          ∧ r.2.mem ((c.tc : Thread Cert.BranchSRefIdeal.nD Cert.BranchSRefIdeal.τ).loc Cert.BranchSRefIdeal.main_arg1) = m' ((c.tc : Thread Cert.BranchSRefIdeal.nD Cert.BranchSRefIdeal.τ).loc Cert.BranchSRefIdeal.main_arg1))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)
      ∧ m' ((c.tc : Thread Cert.ProjOutRefIdeal.nD Cert.ProjOutRefIdeal.τ).loc Cert.ProjOutRefIdeal.main_arg2) = m ((c.tc : Thread Cert.ProjOutIdeal.nD Cert.ProjOutIdeal.τ).loc Cert.ProjOutIdeal.main_arg2)) →
    ∃ (v0 : (c : Dev Cert.ProjOutIdeal.nD) → Buf (Elt Ideal) ((c.tc : Thread Cert.ProjOutIdeal.nD Cert.ProjOutIdeal.τ).loc Cert.ProjOutIdeal.main_v0)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v0) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v3) = v0 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1)
          ∧ r.2.mem ((c.tc : Thread Cert.ProjOutRefIdeal.nD Cert.ProjOutRefIdeal.τ).loc Cert.ProjOutRefIdeal.main_arg2) = m' ((c.tc : Thread Cert.ProjOutRefIdeal.nD Cert.ProjOutRefIdeal.τ).loc Cert.ProjOutRefIdeal.main_arg2))

def preserves_ProjUp_ProjUpIdeal : Prop :=
  True

def algebraic_ProjUpIdeal_ProjUpRefIdeal [hProjUpIdeal : Cert.ProjUpIdeal.Facts] [hProjUpRefIdeal : Cert.ProjUpRefIdeal.Facts] : Prop :=
  ∀ (m : (ℓ : Loc Cert.ProjUpIdeal.nD Cert.ProjUpIdeal.τ Cert.ProjUpIdeal.sig) → Buf (Elt Ideal) ℓ) (g : Dev Cert.ProjUpIdeal.nD → PrngReg)
    (m' : (ℓ : Loc Cert.ProjUpRefIdeal.nD Cert.ProjUpRefIdeal.τ Cert.ProjUpRefIdeal.sig) → Buf (Elt Ideal) ℓ) (g' : Dev Cert.ProjUpRefIdeal.nD → PrngReg), Pre_ProjUpIdeal m →
    (∀ c : Dev Cert.ProjUpIdeal.nD,
      m' ((c.tc : Thread Cert.ProjUpRefIdeal.nD Cert.ProjUpRefIdeal.τ).loc Cert.ProjUpRefIdeal.main_arg0) = m ((c.tc : Thread Cert.ProjUpIdeal.nD Cert.ProjUpIdeal.τ).loc Cert.ProjUpIdeal.main_arg0)
      ∧ m' ((c.tc : Thread Cert.ProjUpRefIdeal.nD Cert.ProjUpRefIdeal.τ).loc Cert.ProjUpRefIdeal.main_arg1) = m ((c.tc : Thread Cert.ProjUpIdeal.nD Cert.ProjUpIdeal.τ).loc Cert.ProjUpIdeal.main_arg1)) →
    ∃ (v0 : (c : Dev Cert.ProjUpIdeal.nD) → Buf (Elt Ideal) ((c.tc : Thread Cert.ProjUpIdeal.nD Cert.ProjUpIdeal.τ).loc Cert.ProjUpIdeal.main_v0)),
      θ_run (Cert.ProjUpIdeal.defs (F := Ideal)) (onTc (τ := Cert.ProjUpIdeal.τ) (Cert.ProjUpIdeal.main (F := Ideal))) ⟨m, fun _ => 0, g⟩ (fun r => ∀ c : Dev Cert.ProjUpIdeal.nD,
          r.2.mem ((c.tc : Thread Cert.ProjUpIdeal.nD Cert.ProjUpIdeal.τ).loc Cert.ProjUpIdeal.main_v0) = v0 c
          ∧ r.2.mem ((c.tc : Thread Cert.ProjUpIdeal.nD Cert.ProjUpIdeal.τ).loc Cert.ProjUpIdeal.main_arg0) = m ((c.tc : Thread Cert.ProjUpIdeal.nD Cert.ProjUpIdeal.τ).loc Cert.ProjUpIdeal.main_arg0)
          ∧ r.2.mem ((c.tc : Thread Cert.ProjUpIdeal.nD Cert.ProjUpIdeal.τ).loc Cert.ProjUpIdeal.main_arg1) = m ((c.tc : Thread Cert.ProjUpIdeal.nD Cert.ProjUpIdeal.τ).loc Cert.ProjUpIdeal.main_arg1))
      ∧ θ_run (Cert.ProjUpRefIdeal.defs (F := Ideal)) (onTc (τ := Cert.ProjUpRefIdeal.τ) (Cert.ProjUpRefIdeal.main (F := Ideal))) ⟨m', fun _ => 0, g'⟩ (fun r => ∀ c : Dev Cert.ProjUpRefIdeal.nD,
          r.2.mem ((c.tc : Thread Cert.ProjUpRefIdeal.nD Cert.ProjUpRefIdeal.τ).loc Cert.ProjUpRefIdeal.main_v3) = v0 c
          ∧ r.2.mem ((c.tc : Thread Cert.ProjUpRefIdeal.nD Cert.ProjUpRefIdeal.τ).loc Cert.ProjUpRefIdeal.main_arg0) = m' ((c.tc : Thread Cert.ProjUpRefIdeal.nD Cert.ProjUpRefIdeal.τ).loc Cert.ProjUpRefIdeal.main_arg0)
          ∧ r.2.mem ((c.tc : Thread Cert.ProjUpRefIdeal.nD Cert.ProjUpRefIdeal.τ).loc Cert.ProjUpRefIdeal.main_arg1) = m' ((c.tc : Thread Cert.ProjUpRefIdeal.nD Cert.ProjUpRefIdeal.τ).loc Cert.ProjUpRefIdeal.main_arg1))

def preserves_ProjDown_ProjDownIdeal : Prop :=
  True

def algebraic_ProjDownIdeal_ProjDownRefIdeal [hProjDownIdeal : Cert.ProjDownIdeal.Facts] [hProjDownRefIdeal : Cert.ProjDownRefIdeal.Facts] : Prop :=
  ∀ (m : (ℓ : Loc Cert.ProjDownIdeal.nD Cert.ProjDownIdeal.τ Cert.ProjDownIdeal.sig) → Buf (Elt Ideal) ℓ) (g : Dev Cert.ProjDownIdeal.nD → PrngReg)
    (m' : (ℓ : Loc Cert.ProjDownRefIdeal.nD Cert.ProjDownRefIdeal.τ Cert.ProjDownRefIdeal.sig) → Buf (Elt Ideal) ℓ) (g' : Dev Cert.ProjDownRefIdeal.nD → PrngReg), Pre_ProjDownIdeal m →
    (∀ c : Dev Cert.ProjDownIdeal.nD,
      m' ((c.tc : Thread Cert.ProjDownRefIdeal.nD Cert.ProjDownRefIdeal.τ).loc Cert.ProjDownRefIdeal.main_arg0) = m ((c.tc : Thread Cert.ProjDownIdeal.nD Cert.ProjDownIdeal.τ).loc Cert.ProjDownIdeal.main_arg0)
      ∧ m' ((c.tc : Thread Cert.ProjDownRefIdeal.nD Cert.ProjDownRefIdeal.τ).loc Cert.ProjDownRefIdeal.main_arg1) = m ((c.tc : Thread Cert.ProjDownIdeal.nD Cert.ProjDownIdeal.τ).loc Cert.ProjDownIdeal.main_arg1)
      ∧ m' ((c.tc : Thread Cert.ProjDownRefIdeal.nD Cert.ProjDownRefIdeal.τ).loc Cert.ProjDownRefIdeal.main_arg2) = m ((c.tc : Thread Cert.ProjDownIdeal.nD Cert.ProjDownIdeal.τ).loc Cert.ProjDownIdeal.main_arg2)) →
    ∃ (v0 : (c : Dev Cert.ProjDownIdeal.nD) → Buf (Elt Ideal) ((c.tc : Thread Cert.ProjDownIdeal.nD Cert.ProjDownIdeal.τ).loc Cert.ProjDownIdeal.main_v0)),
      θ_run (Cert.ProjDownIdeal.defs (F := Ideal)) (onTc (τ := Cert.ProjDownIdeal.τ) (Cert.ProjDownIdeal.main (F := Ideal))) ⟨m, fun _ => 0, g⟩ (fun r => ∀ c : Dev Cert.ProjDownIdeal.nD,
          r.2.mem ((c.tc : Thread Cert.ProjDownIdeal.nD Cert.ProjDownIdeal.τ).loc Cert.ProjDownIdeal.main_v0) = v0 c
          ∧ r.2.mem ((c.tc : Thread Cert.ProjDownIdeal.nD Cert.ProjDownIdeal.τ).loc Cert.ProjDownIdeal.main_arg0) = m ((c.tc : Thread Cert.ProjDownIdeal.nD Cert.ProjDownIdeal.τ).loc Cert.ProjDownIdeal.main_arg0)
          ∧ r.2.mem ((c.tc : Thread Cert.ProjDownIdeal.nD Cert.ProjDownIdeal.τ).loc Cert.ProjDownIdeal.main_arg1) = m ((c.tc : Thread Cert.ProjDownIdeal.nD Cert.ProjDownIdeal.τ).loc Cert.ProjDownIdeal.main_arg1)
          ∧ r.2.mem ((c.tc : Thread Cert.ProjDownIdeal.nD Cert.ProjDownIdeal.τ).loc Cert.ProjDownIdeal.main_arg2) = m ((c.tc : Thread Cert.ProjDownIdeal.nD Cert.ProjDownIdeal.τ).loc Cert.ProjDownIdeal.main_arg2))
      ∧ θ_run (Cert.ProjDownRefIdeal.defs (F := Ideal)) (onTc (τ := Cert.ProjDownRefIdeal.τ) (Cert.ProjDownRefIdeal.main (F := Ideal))) ⟨m', fun _ => 0, g'⟩ (fun r => ∀ c : Dev Cert.ProjDownRefIdeal.nD,
          r.2.mem ((c.tc : Thread Cert.ProjDownRefIdeal.nD Cert.ProjDownRefIdeal.τ).loc Cert.ProjDownRefIdeal.main_v3) = v0 c
          ∧ r.2.mem ((c.tc : Thread Cert.ProjDownRefIdeal.nD Cert.ProjDownRefIdeal.τ).loc Cert.ProjDownRefIdeal.main_arg0) = m' ((c.tc : Thread Cert.ProjDownRefIdeal.nD Cert.ProjDownRefIdeal.τ).loc Cert.ProjDownRefIdeal.main_arg0)
          ∧ r.2.mem ((c.tc : Thread Cert.ProjDownRefIdeal.nD Cert.ProjDownRefIdeal.τ).loc Cert.ProjDownRefIdeal.main_arg1) = m' ((c.tc : Thread Cert.ProjDownRefIdeal.nD Cert.ProjDownRefIdeal.τ).loc Cert.ProjDownRefIdeal.main_arg1)
          ∧ r.2.mem ((c.tc : Thread Cert.ProjDownRefIdeal.nD Cert.ProjDownRefIdeal.τ).loc Cert.ProjDownRefIdeal.main_arg2) = m' ((c.tc : Thread Cert.ProjDownRefIdeal.nD Cert.ProjDownRefIdeal.τ).loc Cert.ProjDownRefIdeal.main_arg2))

def preserves_DMerged_DMergedIdeal : Prop :=
  True

def algebraic_DMergedIdeal_DMergedRefIdeal [hDMergedIdeal : Cert.DMergedIdeal.Facts] [hDMergedRefIdeal : Cert.DMergedRefIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedRefIdeal.nD Cert.DMergedRefIdeal.τ Cert.DMergedRefIdeal.sig) → Buf (Elt Ideal) ℓ) (g' : Dev Cert.DMergedRefIdeal.nD → PrngReg), Pre_DMergedIdeal m →
    (∀ c : Dev Cert.DMergedIdeal.nD,
      m' ((c.tc : Thread Cert.DMergedRefIdeal.nD Cert.DMergedRefIdeal.τ).loc Cert.DMergedRefIdeal.main_arg0) = m ((c.tc : Thread Cert.DMergedIdeal.nD Cert.DMergedIdeal.τ).loc Cert.DMergedIdeal.main_arg0)
      ∧ m' ((c.tc : Thread Cert.DMergedRefIdeal.nD Cert.DMergedRefIdeal.τ).loc Cert.DMergedRefIdeal.main_arg1) = m ((c.tc : Thread Cert.DMergedIdeal.nD Cert.DMergedIdeal.τ).loc Cert.DMergedIdeal.main_arg1)
      ∧ m' ((c.tc : Thread Cert.DMergedRefIdeal.nD Cert.DMergedRefIdeal.τ).loc Cert.DMergedRefIdeal.main_arg2) = m ((c.tc : Thread Cert.DMergedIdeal.nD Cert.DMergedIdeal.τ).loc Cert.DMergedIdeal.main_arg2)
      ∧ m' ((c.tc : Thread Cert.DMergedRefIdeal.nD Cert.DMergedRefIdeal.τ).loc Cert.DMergedRefIdeal.main_arg3) = m ((c.tc : Thread Cert.DMergedIdeal.nD Cert.DMergedIdeal.τ).loc Cert.DMergedIdeal.main_arg3)
      ∧ m' ((c.tc : Thread Cert.DMergedRefIdeal.nD Cert.DMergedRefIdeal.τ).loc Cert.DMergedRefIdeal.main_arg4) = m ((c.tc : Thread Cert.DMergedIdeal.nD Cert.DMergedIdeal.τ).loc Cert.DMergedIdeal.main_arg4)) →
    ∃ (v0 : (c : Dev Cert.DMergedIdeal.nD) → Buf (Elt Ideal) ((c.tc : Thread Cert.DMergedIdeal.nD Cert.DMergedIdeal.τ).loc Cert.DMergedIdeal.main_v0_0)) (v1 : (c : Dev Cert.DMergedIdeal.nD) → Buf (Elt Ideal) ((c.tc : Thread Cert.DMergedIdeal.nD Cert.DMergedIdeal.τ).loc Cert.DMergedIdeal.main_v0_1)) (v2 : (c : Dev Cert.DMergedIdeal.nD) → Buf (Elt Ideal) ((c.tc : Thread Cert.DMergedIdeal.nD Cert.DMergedIdeal.τ).loc Cert.DMergedIdeal.main_v0_2)) (v3 : (c : Dev Cert.DMergedIdeal.nD) → Buf (Elt Ideal) ((c.tc : Thread Cert.DMergedIdeal.nD Cert.DMergedIdeal.τ).loc Cert.DMergedIdeal.main_v0_3)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v0_0) = v0 c
          ∧ r.2.mem ((c.tc : Thread Cert.DMergedIdeal.nD Cert.DMergedIdeal.τ).loc Cert.DMergedIdeal.main_v0_1) = v1 c
          ∧ r.2.mem ((c.tc : Thread Cert.DMergedIdeal.nD Cert.DMergedIdeal.τ).loc Cert.DMergedIdeal.main_v0_2) = v2 c
          ∧ r.2.mem ((c.tc : Thread Cert.DMergedIdeal.nD Cert.DMergedIdeal.τ).loc Cert.DMergedIdeal.main_v0_3) = v3 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1)
          ∧ r.2.mem ((c.tc : Thread Cert.DMergedIdeal.nD Cert.DMergedIdeal.τ).loc Cert.DMergedIdeal.main_arg2) = m ((c.tc : Thread Cert.DMergedIdeal.nD Cert.DMergedIdeal.τ).loc Cert.DMergedIdeal.main_arg2)
          ∧ r.2.mem ((c.tc : Thread Cert.DMergedIdeal.nD Cert.DMergedIdeal.τ).loc Cert.DMergedIdeal.main_arg3) = m ((c.tc : Thread Cert.DMergedIdeal.nD Cert.DMergedIdeal.τ).loc Cert.DMergedIdeal.main_arg3)
          ∧ r.2.mem ((c.tc : Thread Cert.DMergedIdeal.nD Cert.DMergedIdeal.τ).loc Cert.DMergedIdeal.main_arg4) = m ((c.tc : Thread Cert.DMergedIdeal.nD Cert.DMergedIdeal.τ).loc Cert.DMergedIdeal.main_arg4))
      ∧ θ_run (Cert.DMergedRefIdeal.defs (F := Ideal)) (onTc (τ := Cert.DMergedRefIdeal.τ) (Cert.DMergedRefIdeal.main (F := Ideal))) ⟨m', fun _ => 0, g'⟩ (fun r => ∀ c : Dev Cert.DMergedRefIdeal.nD,
          r.2.mem ((c.tc : Thread Cert.DMergedRefIdeal.nD Cert.DMergedRefIdeal.τ).loc Cert.DMergedRefIdeal.main_v35) = v0 c
          ∧ r.2.mem ((c.tc : Thread Cert.DMergedRefIdeal.nD Cert.DMergedRefIdeal.τ).loc Cert.DMergedRefIdeal.main_v36) = v1 c
          ∧ r.2.mem ((c.tc : Thread Cert.DMergedRefIdeal.nD Cert.DMergedRefIdeal.τ).loc Cert.DMergedRefIdeal.main_v37) = v2 c
          ∧ r.2.mem ((c.tc : Thread Cert.DMergedRefIdeal.nD Cert.DMergedRefIdeal.τ).loc Cert.DMergedRefIdeal.main_v38) = v3 c
          ∧ r.2.mem ((c.tc : Thread Cert.DMergedRefIdeal.nD Cert.DMergedRefIdeal.τ).loc Cert.DMergedRefIdeal.main_arg0) = m' ((c.tc : Thread Cert.DMergedRefIdeal.nD Cert.DMergedRefIdeal.τ).loc Cert.DMergedRefIdeal.main_arg0)
          ∧ r.2.mem ((c.tc : Thread Cert.DMergedRefIdeal.nD Cert.DMergedRefIdeal.τ).loc Cert.DMergedRefIdeal.main_arg1) = m' ((c.tc : Thread Cert.DMergedRefIdeal.nD Cert.DMergedRefIdeal.τ).loc Cert.DMergedRefIdeal.main_arg1)
          ∧ r.2.mem ((c.tc : Thread Cert.DMergedRefIdeal.nD Cert.DMergedRefIdeal.τ).loc Cert.DMergedRefIdeal.main_arg2) = m' ((c.tc : Thread Cert.DMergedRefIdeal.nD Cert.DMergedRefIdeal.τ).loc Cert.DMergedRefIdeal.main_arg2)
          ∧ r.2.mem ((c.tc : Thread Cert.DMergedRefIdeal.nD Cert.DMergedRefIdeal.τ).loc Cert.DMergedRefIdeal.main_arg3) = m' ((c.tc : Thread Cert.DMergedRefIdeal.nD Cert.DMergedRefIdeal.τ).loc Cert.DMergedRefIdeal.main_arg3)
          ∧ r.2.mem ((c.tc : Thread Cert.DMergedRefIdeal.nD Cert.DMergedRefIdeal.τ).loc Cert.DMergedRefIdeal.main_arg4) = m' ((c.tc : Thread Cert.DMergedRefIdeal.nD Cert.DMergedRefIdeal.τ).loc Cert.DMergedRefIdeal.main_arg4))

def preserves_Rms2Bwd_Rms2BwdIdeal : Prop :=
  True

def algebraic_Rms2BwdIdeal_Rms2BwdRefIdeal [hRms2BwdIdeal : Cert.Rms2BwdIdeal.Facts] [hRms2BwdRefIdeal : Cert.Rms2BwdRefIdeal.Facts] : Prop :=
  ∀ (m : (ℓ : Loc Cert.Rms2BwdIdeal.nD Cert.Rms2BwdIdeal.τ Cert.Rms2BwdIdeal.sig) → Buf (Elt Ideal) ℓ) (g : Dev Cert.Rms2BwdIdeal.nD → PrngReg)
    (m' : (ℓ : Loc Cert.Rms2BwdRefIdeal.nD Cert.Rms2BwdRefIdeal.τ Cert.Rms2BwdRefIdeal.sig) → Buf (Elt Ideal) ℓ) (g' : Dev Cert.Rms2BwdRefIdeal.nD → PrngReg), Pre_Rms2BwdIdeal m →
    (∀ c : Dev Cert.Rms2BwdIdeal.nD,
      m' ((c.tc : Thread Cert.Rms2BwdRefIdeal.nD Cert.Rms2BwdRefIdeal.τ).loc Cert.Rms2BwdRefIdeal.main_arg0) = m ((c.tc : Thread Cert.Rms2BwdIdeal.nD Cert.Rms2BwdIdeal.τ).loc Cert.Rms2BwdIdeal.main_arg0)
      ∧ m' ((c.tc : Thread Cert.Rms2BwdRefIdeal.nD Cert.Rms2BwdRefIdeal.τ).loc Cert.Rms2BwdRefIdeal.main_arg1) = m ((c.tc : Thread Cert.Rms2BwdIdeal.nD Cert.Rms2BwdIdeal.τ).loc Cert.Rms2BwdIdeal.main_arg1)
      ∧ m' ((c.tc : Thread Cert.Rms2BwdRefIdeal.nD Cert.Rms2BwdRefIdeal.τ).loc Cert.Rms2BwdRefIdeal.main_arg2) = m ((c.tc : Thread Cert.Rms2BwdIdeal.nD Cert.Rms2BwdIdeal.τ).loc Cert.Rms2BwdIdeal.main_arg2)
      ∧ m' ((c.tc : Thread Cert.Rms2BwdRefIdeal.nD Cert.Rms2BwdRefIdeal.τ).loc Cert.Rms2BwdRefIdeal.main_arg3) = m ((c.tc : Thread Cert.Rms2BwdIdeal.nD Cert.Rms2BwdIdeal.τ).loc Cert.Rms2BwdIdeal.main_arg3)) →
    ∃ (v0 : (c : Dev Cert.Rms2BwdIdeal.nD) → Buf (Elt Ideal) ((c.tc : Thread Cert.Rms2BwdIdeal.nD Cert.Rms2BwdIdeal.τ).loc Cert.Rms2BwdIdeal.main_v0_0)) (v1 : (c : Dev Cert.Rms2BwdIdeal.nD) → Buf (Elt Ideal) ((c.tc : Thread Cert.Rms2BwdIdeal.nD Cert.Rms2BwdIdeal.τ).loc Cert.Rms2BwdIdeal.main_v0_1)),
      θ_run (Cert.Rms2BwdIdeal.defs (F := Ideal)) (onTc (τ := Cert.Rms2BwdIdeal.τ) (Cert.Rms2BwdIdeal.main (F := Ideal))) ⟨m, fun _ => 0, g⟩ (fun r => ∀ c : Dev Cert.Rms2BwdIdeal.nD,
          r.2.mem ((c.tc : Thread Cert.Rms2BwdIdeal.nD Cert.Rms2BwdIdeal.τ).loc Cert.Rms2BwdIdeal.main_v0_0) = v0 c
          ∧ r.2.mem ((c.tc : Thread Cert.Rms2BwdIdeal.nD Cert.Rms2BwdIdeal.τ).loc Cert.Rms2BwdIdeal.main_v0_1) = v1 c
          ∧ r.2.mem ((c.tc : Thread Cert.Rms2BwdIdeal.nD Cert.Rms2BwdIdeal.τ).loc Cert.Rms2BwdIdeal.main_arg0) = m ((c.tc : Thread Cert.Rms2BwdIdeal.nD Cert.Rms2BwdIdeal.τ).loc Cert.Rms2BwdIdeal.main_arg0)
          ∧ r.2.mem ((c.tc : Thread Cert.Rms2BwdIdeal.nD Cert.Rms2BwdIdeal.τ).loc Cert.Rms2BwdIdeal.main_arg1) = m ((c.tc : Thread Cert.Rms2BwdIdeal.nD Cert.Rms2BwdIdeal.τ).loc Cert.Rms2BwdIdeal.main_arg1)
          ∧ r.2.mem ((c.tc : Thread Cert.Rms2BwdIdeal.nD Cert.Rms2BwdIdeal.τ).loc Cert.Rms2BwdIdeal.main_arg2) = m ((c.tc : Thread Cert.Rms2BwdIdeal.nD Cert.Rms2BwdIdeal.τ).loc Cert.Rms2BwdIdeal.main_arg2)
          ∧ r.2.mem ((c.tc : Thread Cert.Rms2BwdIdeal.nD Cert.Rms2BwdIdeal.τ).loc Cert.Rms2BwdIdeal.main_arg3) = m ((c.tc : Thread Cert.Rms2BwdIdeal.nD Cert.Rms2BwdIdeal.τ).loc Cert.Rms2BwdIdeal.main_arg3))
      ∧ θ_run (Cert.Rms2BwdRefIdeal.defs (F := Ideal)) (onTc (τ := Cert.Rms2BwdRefIdeal.τ) (Cert.Rms2BwdRefIdeal.main (F := Ideal))) ⟨m', fun _ => 0, g'⟩ (fun r => ∀ c : Dev Cert.Rms2BwdRefIdeal.nD,
          r.2.mem ((c.tc : Thread Cert.Rms2BwdRefIdeal.nD Cert.Rms2BwdRefIdeal.τ).loc Cert.Rms2BwdRefIdeal.main_v37) = v0 c
          ∧ r.2.mem ((c.tc : Thread Cert.Rms2BwdRefIdeal.nD Cert.Rms2BwdRefIdeal.τ).loc Cert.Rms2BwdRefIdeal.main_v18) = v1 c
          ∧ r.2.mem ((c.tc : Thread Cert.Rms2BwdRefIdeal.nD Cert.Rms2BwdRefIdeal.τ).loc Cert.Rms2BwdRefIdeal.main_arg0) = m' ((c.tc : Thread Cert.Rms2BwdRefIdeal.nD Cert.Rms2BwdRefIdeal.τ).loc Cert.Rms2BwdRefIdeal.main_arg0)
          ∧ r.2.mem ((c.tc : Thread Cert.Rms2BwdRefIdeal.nD Cert.Rms2BwdRefIdeal.τ).loc Cert.Rms2BwdRefIdeal.main_arg1) = m' ((c.tc : Thread Cert.Rms2BwdRefIdeal.nD Cert.Rms2BwdRefIdeal.τ).loc Cert.Rms2BwdRefIdeal.main_arg1)
          ∧ r.2.mem ((c.tc : Thread Cert.Rms2BwdRefIdeal.nD Cert.Rms2BwdRefIdeal.τ).loc Cert.Rms2BwdRefIdeal.main_arg2) = m' ((c.tc : Thread Cert.Rms2BwdRefIdeal.nD Cert.Rms2BwdRefIdeal.τ).loc Cert.Rms2BwdRefIdeal.main_arg2)
          ∧ r.2.mem ((c.tc : Thread Cert.Rms2BwdRefIdeal.nD Cert.Rms2BwdRefIdeal.τ).loc Cert.Rms2BwdRefIdeal.main_arg3) = m' ((c.tc : Thread Cert.Rms2BwdRefIdeal.nD Cert.Rms2BwdRefIdeal.τ).loc Cert.Rms2BwdRefIdeal.main_arg3))

def preserves_Rms1Bwd_Rms1BwdIdeal : Prop :=
  True

def algebraic_Rms1BwdIdeal_Rms1BwdRefIdeal [hRms1BwdIdeal : Cert.Rms1BwdIdeal.Facts] [hRms1BwdRefIdeal : Cert.Rms1BwdRefIdeal.Facts] : Prop :=
  ∀ (m : (ℓ : Loc Cert.Rms1BwdIdeal.nD Cert.Rms1BwdIdeal.τ Cert.Rms1BwdIdeal.sig) → Buf (Elt Ideal) ℓ) (g : Dev Cert.Rms1BwdIdeal.nD → PrngReg)
    (m' : (ℓ : Loc Cert.Rms1BwdRefIdeal.nD Cert.Rms1BwdRefIdeal.τ Cert.Rms1BwdRefIdeal.sig) → Buf (Elt Ideal) ℓ) (g' : Dev Cert.Rms1BwdRefIdeal.nD → PrngReg), Pre_Rms1BwdIdeal m →
    (∀ c : Dev Cert.Rms1BwdIdeal.nD,
      m' ((c.tc : Thread Cert.Rms1BwdRefIdeal.nD Cert.Rms1BwdRefIdeal.τ).loc Cert.Rms1BwdRefIdeal.main_arg0) = m ((c.tc : Thread Cert.Rms1BwdIdeal.nD Cert.Rms1BwdIdeal.τ).loc Cert.Rms1BwdIdeal.main_arg0)
      ∧ m' ((c.tc : Thread Cert.Rms1BwdRefIdeal.nD Cert.Rms1BwdRefIdeal.τ).loc Cert.Rms1BwdRefIdeal.main_arg1) = m ((c.tc : Thread Cert.Rms1BwdIdeal.nD Cert.Rms1BwdIdeal.τ).loc Cert.Rms1BwdIdeal.main_arg1)
      ∧ m' ((c.tc : Thread Cert.Rms1BwdRefIdeal.nD Cert.Rms1BwdRefIdeal.τ).loc Cert.Rms1BwdRefIdeal.main_arg2) = m ((c.tc : Thread Cert.Rms1BwdIdeal.nD Cert.Rms1BwdIdeal.τ).loc Cert.Rms1BwdIdeal.main_arg2)
      ∧ m' ((c.tc : Thread Cert.Rms1BwdRefIdeal.nD Cert.Rms1BwdRefIdeal.τ).loc Cert.Rms1BwdRefIdeal.main_arg3) = m ((c.tc : Thread Cert.Rms1BwdIdeal.nD Cert.Rms1BwdIdeal.τ).loc Cert.Rms1BwdIdeal.main_arg3)) →
    ∃ (v0 : (c : Dev Cert.Rms1BwdIdeal.nD) → Buf (Elt Ideal) ((c.tc : Thread Cert.Rms1BwdIdeal.nD Cert.Rms1BwdIdeal.τ).loc Cert.Rms1BwdIdeal.main_v0_0)) (v1 : (c : Dev Cert.Rms1BwdIdeal.nD) → Buf (Elt Ideal) ((c.tc : Thread Cert.Rms1BwdIdeal.nD Cert.Rms1BwdIdeal.τ).loc Cert.Rms1BwdIdeal.main_v0_1)),
      θ_run (Cert.Rms1BwdIdeal.defs (F := Ideal)) (onTc (τ := Cert.Rms1BwdIdeal.τ) (Cert.Rms1BwdIdeal.main (F := Ideal))) ⟨m, fun _ => 0, g⟩ (fun r => ∀ c : Dev Cert.Rms1BwdIdeal.nD,
          r.2.mem ((c.tc : Thread Cert.Rms1BwdIdeal.nD Cert.Rms1BwdIdeal.τ).loc Cert.Rms1BwdIdeal.main_v0_0) = v0 c
          ∧ r.2.mem ((c.tc : Thread Cert.Rms1BwdIdeal.nD Cert.Rms1BwdIdeal.τ).loc Cert.Rms1BwdIdeal.main_v0_1) = v1 c
          ∧ r.2.mem ((c.tc : Thread Cert.Rms1BwdIdeal.nD Cert.Rms1BwdIdeal.τ).loc Cert.Rms1BwdIdeal.main_arg0) = m ((c.tc : Thread Cert.Rms1BwdIdeal.nD Cert.Rms1BwdIdeal.τ).loc Cert.Rms1BwdIdeal.main_arg0)
          ∧ r.2.mem ((c.tc : Thread Cert.Rms1BwdIdeal.nD Cert.Rms1BwdIdeal.τ).loc Cert.Rms1BwdIdeal.main_arg1) = m ((c.tc : Thread Cert.Rms1BwdIdeal.nD Cert.Rms1BwdIdeal.τ).loc Cert.Rms1BwdIdeal.main_arg1)
          ∧ r.2.mem ((c.tc : Thread Cert.Rms1BwdIdeal.nD Cert.Rms1BwdIdeal.τ).loc Cert.Rms1BwdIdeal.main_arg2) = m ((c.tc : Thread Cert.Rms1BwdIdeal.nD Cert.Rms1BwdIdeal.τ).loc Cert.Rms1BwdIdeal.main_arg2)
          ∧ r.2.mem ((c.tc : Thread Cert.Rms1BwdIdeal.nD Cert.Rms1BwdIdeal.τ).loc Cert.Rms1BwdIdeal.main_arg3) = m ((c.tc : Thread Cert.Rms1BwdIdeal.nD Cert.Rms1BwdIdeal.τ).loc Cert.Rms1BwdIdeal.main_arg3))
      ∧ θ_run (Cert.Rms1BwdRefIdeal.defs (F := Ideal)) (onTc (τ := Cert.Rms1BwdRefIdeal.τ) (Cert.Rms1BwdRefIdeal.main (F := Ideal))) ⟨m', fun _ => 0, g'⟩ (fun r => ∀ c : Dev Cert.Rms1BwdRefIdeal.nD,
          r.2.mem ((c.tc : Thread Cert.Rms1BwdRefIdeal.nD Cert.Rms1BwdRefIdeal.τ).loc Cert.Rms1BwdRefIdeal.main_v36) = v0 c
          ∧ r.2.mem ((c.tc : Thread Cert.Rms1BwdRefIdeal.nD Cert.Rms1BwdRefIdeal.τ).loc Cert.Rms1BwdRefIdeal.main_v18) = v1 c
          ∧ r.2.mem ((c.tc : Thread Cert.Rms1BwdRefIdeal.nD Cert.Rms1BwdRefIdeal.τ).loc Cert.Rms1BwdRefIdeal.main_arg0) = m' ((c.tc : Thread Cert.Rms1BwdRefIdeal.nD Cert.Rms1BwdRefIdeal.τ).loc Cert.Rms1BwdRefIdeal.main_arg0)
          ∧ r.2.mem ((c.tc : Thread Cert.Rms1BwdRefIdeal.nD Cert.Rms1BwdRefIdeal.τ).loc Cert.Rms1BwdRefIdeal.main_arg1) = m' ((c.tc : Thread Cert.Rms1BwdRefIdeal.nD Cert.Rms1BwdRefIdeal.τ).loc Cert.Rms1BwdRefIdeal.main_arg1)
          ∧ r.2.mem ((c.tc : Thread Cert.Rms1BwdRefIdeal.nD Cert.Rms1BwdRefIdeal.τ).loc Cert.Rms1BwdRefIdeal.main_arg2) = m' ((c.tc : Thread Cert.Rms1BwdRefIdeal.nD Cert.Rms1BwdRefIdeal.τ).loc Cert.Rms1BwdRefIdeal.main_arg2)
          ∧ r.2.mem ((c.tc : Thread Cert.Rms1BwdRefIdeal.nD Cert.Rms1BwdRefIdeal.τ).loc Cert.Rms1BwdRefIdeal.main_arg3) = m' ((c.tc : Thread Cert.Rms1BwdRefIdeal.nD Cert.Rms1BwdRefIdeal.τ).loc Cert.Rms1BwdRefIdeal.main_arg3))

def preserves_FinalLoss_FinalLossIdeal : Prop :=
  True

def algebraic_FinalLossIdeal_FinalLossRefIdeal [hFinalLossIdeal : Cert.FinalLossIdeal.Facts] [hFinalLossRefIdeal : Cert.FinalLossRefIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossRefIdeal.nD Cert.FinalLossRefIdeal.τ Cert.FinalLossRefIdeal.sig) → Buf (Elt Ideal) ℓ) (g' : Dev Cert.FinalLossRefIdeal.nD → PrngReg), Pre_FinalLossIdeal m →
    (∀ c : Dev Cert.FinalLossIdeal.nD,
      m' ((c.tc : Thread Cert.FinalLossRefIdeal.nD Cert.FinalLossRefIdeal.τ).loc Cert.FinalLossRefIdeal.main_arg0) = m ((c.tc : Thread Cert.FinalLossIdeal.nD Cert.FinalLossIdeal.τ).loc Cert.FinalLossIdeal.main_arg0)
      ∧ m' ((c.tc : Thread Cert.FinalLossRefIdeal.nD Cert.FinalLossRefIdeal.τ).loc Cert.FinalLossRefIdeal.main_arg1) = m ((c.tc : Thread Cert.FinalLossIdeal.nD Cert.FinalLossIdeal.τ).loc Cert.FinalLossIdeal.main_arg1)
      ∧ m' ((c.tc : Thread Cert.FinalLossRefIdeal.nD Cert.FinalLossRefIdeal.τ).loc Cert.FinalLossRefIdeal.main_arg2) = m ((c.tc : Thread Cert.FinalLossIdeal.nD Cert.FinalLossIdeal.τ).loc Cert.FinalLossIdeal.main_arg2)) →
    ∃ (v0 : (c : Dev Cert.FinalLossIdeal.nD) → Buf (Elt Ideal) ((c.tc : Thread Cert.FinalLossIdeal.nD Cert.FinalLossIdeal.τ).loc Cert.FinalLossIdeal.main_v0_0)) (v1 : (c : Dev Cert.FinalLossIdeal.nD) → Buf (Elt Ideal) ((c.tc : Thread Cert.FinalLossIdeal.nD Cert.FinalLossIdeal.τ).loc Cert.FinalLossIdeal.main_v0_1)) (v2 : (c : Dev Cert.FinalLossIdeal.nD) → Buf (Elt Ideal) ((c.tc : Thread Cert.FinalLossIdeal.nD Cert.FinalLossIdeal.τ).loc Cert.FinalLossIdeal.main_v0_2)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v0_0) = v0 c
          ∧ r.2.mem ((c.tc : Thread Cert.FinalLossIdeal.nD Cert.FinalLossIdeal.τ).loc Cert.FinalLossIdeal.main_v0_1) = v1 c
          ∧ r.2.mem ((c.tc : Thread Cert.FinalLossIdeal.nD Cert.FinalLossIdeal.τ).loc Cert.FinalLossIdeal.main_v0_2) = v2 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ θ_run (Cert.FinalLossRefIdeal.defs (F := Ideal)) (onTc (τ := Cert.FinalLossRefIdeal.τ) (Cert.FinalLossRefIdeal.main (F := Ideal))) ⟨m', fun _ => 0, g'⟩ (fun r => ∀ c : Dev Cert.FinalLossRefIdeal.nD,
          r.2.mem ((c.tc : Thread Cert.FinalLossRefIdeal.nD Cert.FinalLossRefIdeal.τ).loc Cert.FinalLossRefIdeal.main_v49) = v0 c
          ∧ r.2.mem ((c.tc : Thread Cert.FinalLossRefIdeal.nD Cert.FinalLossRefIdeal.τ).loc Cert.FinalLossRefIdeal.main_v32) = v1 c
          ∧ r.2.mem ((c.tc : Thread Cert.FinalLossRefIdeal.nD Cert.FinalLossRefIdeal.τ).loc Cert.FinalLossRefIdeal.main_v50) = v2 c
          ∧ r.2.mem ((c.tc : Thread Cert.FinalLossRefIdeal.nD Cert.FinalLossRefIdeal.τ).loc Cert.FinalLossRefIdeal.main_arg0) = m' ((c.tc : Thread Cert.FinalLossRefIdeal.nD Cert.FinalLossRefIdeal.τ).loc Cert.FinalLossRefIdeal.main_arg0)
          ∧ r.2.mem ((c.tc : Thread Cert.FinalLossRefIdeal.nD Cert.FinalLossRefIdeal.τ).loc Cert.FinalLossRefIdeal.main_arg1) = m' ((c.tc : Thread Cert.FinalLossRefIdeal.nD Cert.FinalLossRefIdeal.τ).loc Cert.FinalLossRefIdeal.main_arg1)
          ∧ r.2.mem ((c.tc : Thread Cert.FinalLossRefIdeal.nD Cert.FinalLossRefIdeal.τ).loc Cert.FinalLossRefIdeal.main_arg2) = m' ((c.tc : Thread Cert.FinalLossRefIdeal.nD Cert.FinalLossRefIdeal.τ).loc Cert.FinalLossRefIdeal.main_arg2))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_DSsm_DSsmIdeal : Prop :=
  True

def algebraic_DSsmIdeal_DSsmRefIdeal [hDSsmIdeal : Cert.DSsmIdeal.Facts] [hDSsmRefIdeal : Cert.DSsmRefIdeal.Facts] : Prop :=
  ∀ (m : (ℓ : Loc Cert.DSsmIdeal.nD Cert.DSsmIdeal.τ Cert.DSsmIdeal.sig) → Buf (Elt Ideal) ℓ) (g : Dev Cert.DSsmIdeal.nD → PrngReg)
    (m' : (ℓ : Loc Cert.DSsmRefIdeal.nD Cert.DSsmRefIdeal.τ Cert.DSsmRefIdeal.sig) → Buf (Elt Ideal) ℓ) (g' : Dev Cert.DSsmRefIdeal.nD → PrngReg), Pre_DSsmIdeal m →
    (∀ c : Dev Cert.DSsmIdeal.nD,
      m' ((c.tc : Thread Cert.DSsmRefIdeal.nD Cert.DSsmRefIdeal.τ).loc Cert.DSsmRefIdeal.main_arg0) = m ((c.tc : Thread Cert.DSsmIdeal.nD Cert.DSsmIdeal.τ).loc Cert.DSsmIdeal.main_arg0)
      ∧ m' ((c.tc : Thread Cert.DSsmRefIdeal.nD Cert.DSsmRefIdeal.τ).loc Cert.DSsmRefIdeal.main_arg1) = m ((c.tc : Thread Cert.DSsmIdeal.nD Cert.DSsmIdeal.τ).loc Cert.DSsmIdeal.main_arg1)
      ∧ m' ((c.tc : Thread Cert.DSsmRefIdeal.nD Cert.DSsmRefIdeal.τ).loc Cert.DSsmRefIdeal.main_arg2) = m ((c.tc : Thread Cert.DSsmIdeal.nD Cert.DSsmIdeal.τ).loc Cert.DSsmIdeal.main_arg2)) →
    ∃ (v0 : (c : Dev Cert.DSsmIdeal.nD) → Buf (Elt Ideal) ((c.tc : Thread Cert.DSsmIdeal.nD Cert.DSsmIdeal.τ).loc Cert.DSsmIdeal.main_v0_0)) (v1 : (c : Dev Cert.DSsmIdeal.nD) → Buf (Elt Ideal) ((c.tc : Thread Cert.DSsmIdeal.nD Cert.DSsmIdeal.τ).loc Cert.DSsmIdeal.main_v0_1)),
      θ_run (Cert.DSsmIdeal.defs (F := Ideal)) (onTc (τ := Cert.DSsmIdeal.τ) (Cert.DSsmIdeal.main (F := Ideal))) ⟨m, fun _ => 0, g⟩ (fun r => ∀ c : Dev Cert.DSsmIdeal.nD,
          r.2.mem ((c.tc : Thread Cert.DSsmIdeal.nD Cert.DSsmIdeal.τ).loc Cert.DSsmIdeal.main_v0_0) = v0 c
          ∧ r.2.mem ((c.tc : Thread Cert.DSsmIdeal.nD Cert.DSsmIdeal.τ).loc Cert.DSsmIdeal.main_v0_1) = v1 c
          ∧ r.2.mem ((c.tc : Thread Cert.DSsmIdeal.nD Cert.DSsmIdeal.τ).loc Cert.DSsmIdeal.main_arg0) = m ((c.tc : Thread Cert.DSsmIdeal.nD Cert.DSsmIdeal.τ).loc Cert.DSsmIdeal.main_arg0)
          ∧ r.2.mem ((c.tc : Thread Cert.DSsmIdeal.nD Cert.DSsmIdeal.τ).loc Cert.DSsmIdeal.main_arg1) = m ((c.tc : Thread Cert.DSsmIdeal.nD Cert.DSsmIdeal.τ).loc Cert.DSsmIdeal.main_arg1)
          ∧ r.2.mem ((c.tc : Thread Cert.DSsmIdeal.nD Cert.DSsmIdeal.τ).loc Cert.DSsmIdeal.main_arg2) = m ((c.tc : Thread Cert.DSsmIdeal.nD Cert.DSsmIdeal.τ).loc Cert.DSsmIdeal.main_arg2))
      ∧ θ_run (Cert.DSsmRefIdeal.defs (F := Ideal)) (onTc (τ := Cert.DSsmRefIdeal.τ) (Cert.DSsmRefIdeal.main (F := Ideal))) ⟨m', fun _ => 0, g'⟩ (fun r => ∀ c : Dev Cert.DSsmRefIdeal.nD,
          r.2.mem ((c.tc : Thread Cert.DSsmRefIdeal.nD Cert.DSsmRefIdeal.τ).loc Cert.DSsmRefIdeal.main_v20) = v0 c
          ∧ r.2.mem ((c.tc : Thread Cert.DSsmRefIdeal.nD Cert.DSsmRefIdeal.τ).loc Cert.DSsmRefIdeal.main_v22) = v1 c
          ∧ r.2.mem ((c.tc : Thread Cert.DSsmRefIdeal.nD Cert.DSsmRefIdeal.τ).loc Cert.DSsmRefIdeal.main_arg0) = m' ((c.tc : Thread Cert.DSsmRefIdeal.nD Cert.DSsmRefIdeal.τ).loc Cert.DSsmRefIdeal.main_arg0)
          ∧ r.2.mem ((c.tc : Thread Cert.DSsmRefIdeal.nD Cert.DSsmRefIdeal.τ).loc Cert.DSsmRefIdeal.main_arg1) = m' ((c.tc : Thread Cert.DSsmRefIdeal.nD Cert.DSsmRefIdeal.τ).loc Cert.DSsmRefIdeal.main_arg1)
          ∧ r.2.mem ((c.tc : Thread Cert.DSsmRefIdeal.nD Cert.DSsmRefIdeal.τ).loc Cert.DSsmRefIdeal.main_arg2) = m' ((c.tc : Thread Cert.DSsmRefIdeal.nD Cert.DSsmRefIdeal.τ).loc Cert.DSsmRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v0_0)) (v1 : (c : Dev Cert.GluIdeal.nD) → Buf (Elt Ideal) ((c.tc : Thread Cert.GluIdeal.nD Cert.GluIdeal.τ).loc Cert.GluIdeal.main_v0_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0_0) = v0 c
          ∧ r.2.mem ((c.tc : Thread Cert.GluIdeal.nD Cert.GluIdeal.τ).loc Cert.GluIdeal.main_v0_1) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v4) = v0 c
          ∧ r.2.mem ((c.tc : Thread Cert.GluRefIdeal.nD Cert.GluRefIdeal.τ).loc Cert.GluRefIdeal.main_v14) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v19) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2))

def preserves_AttnBwd_AttnBwdIdeal : Prop :=
  IdealRules.named_const.Statement Cert.AttnBwdIdeal.κ "mask" .f32 0xF149F2CA#32 ⊥

def algebraic_AttnBwdIdeal_AttnBwdRefIdeal_pre_attn_finite [hAttnBwdIdeal : Cert.AttnBwdIdeal.Facts] [hAttnBwdRefIdeal : Cert.AttnBwdRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)) →
    ∃ (v0 : (c : Dev Cert.AttnBwdIdeal.nD) → Buf (Elt Ideal) ((c.tc : Thread Cert.AttnBwdIdeal.nD Cert.AttnBwdIdeal.τ).loc Cert.AttnBwdIdeal.main_v0_0)) (v1 : (c : Dev Cert.AttnBwdIdeal.nD) → Buf (Elt Ideal) ((c.tc : Thread Cert.AttnBwdIdeal.nD Cert.AttnBwdIdeal.τ).loc Cert.AttnBwdIdeal.main_v0_1)) (v2 : (c : Dev Cert.AttnBwdIdeal.nD) → Buf (Elt Ideal) ((c.tc : Thread Cert.AttnBwdIdeal.nD Cert.AttnBwdIdeal.τ).loc Cert.AttnBwdIdeal.main_v0_2)) (v3 : (c : Dev Cert.AttnBwdIdeal.nD) → Buf (Elt Ideal) ((c.tc : Thread Cert.AttnBwdIdeal.nD Cert.AttnBwdIdeal.τ).loc Cert.AttnBwdIdeal.main_v0_3)) (v4 : (c : Dev Cert.AttnBwdIdeal.nD) → Buf (Elt Ideal) ((c.tc : Thread Cert.AttnBwdIdeal.nD Cert.AttnBwdIdeal.τ).loc Cert.AttnBwdIdeal.main_v0_4)) (v5 : (c : Dev Cert.AttnBwdIdeal.nD) → Buf (Elt Ideal) ((c.tc : Thread Cert.AttnBwdIdeal.nD Cert.AttnBwdIdeal.τ).loc Cert.AttnBwdIdeal.main_v0_5)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v0_0) = v0 c
          ∧ r.2.mem ((c.tc : Thread Cert.AttnBwdIdeal.nD Cert.AttnBwdIdeal.τ).loc Cert.AttnBwdIdeal.main_v0_1) = v1 c
          ∧ r.2.mem ((c.tc : Thread Cert.AttnBwdIdeal.nD Cert.AttnBwdIdeal.τ).loc Cert.AttnBwdIdeal.main_v0_2) = v2 c
          ∧ r.2.mem ((c.tc : Thread Cert.AttnBwdIdeal.nD Cert.AttnBwdIdeal.τ).loc Cert.AttnBwdIdeal.main_v0_3) = v3 c
          ∧ r.2.mem ((c.tc : Thread Cert.AttnBwdIdeal.nD Cert.AttnBwdIdeal.τ).loc Cert.AttnBwdIdeal.main_v0_4) = v4 c
          ∧ r.2.mem ((c.tc : Thread Cert.AttnBwdIdeal.nD Cert.AttnBwdIdeal.τ).loc Cert.AttnBwdIdeal.main_v0_5) = v5 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v150) = v0 c
          ∧ r.2.mem ((c.tc : Thread Cert.AttnBwdRefIdeal.nD Cert.AttnBwdRefIdeal.τ).loc Cert.AttnBwdRefIdeal.main_v152) = v1 c
          ∧ r.2.mem ((c.tc : Thread Cert.AttnBwdRefIdeal.nD Cert.AttnBwdRefIdeal.τ).loc Cert.AttnBwdRefIdeal.main_v154) = v2 c
          ∧ r.2.mem ((c.tc : Thread Cert.AttnBwdRefIdeal.nD Cert.AttnBwdRefIdeal.τ).loc Cert.AttnBwdRefIdeal.main_v156) = v3 c
          ∧ r.2.mem ((c.tc : Thread Cert.AttnBwdRefIdeal.nD Cert.AttnBwdRefIdeal.τ).loc Cert.AttnBwdRefIdeal.main_v158) = v4 c
          ∧ r.2.mem ((c.tc : Thread Cert.AttnBwdRefIdeal.nD Cert.AttnBwdRefIdeal.τ).loc Cert.AttnBwdRefIdeal.main_v160) = v5 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2))

def preserves_SsmDiscBwd_SsmDiscBwdIdeal : Prop :=
  True

def algebraic_SsmDiscBwdIdeal_SsmDiscBwdRefIdeal [hSsmDiscBwdIdeal : Cert.SsmDiscBwdIdeal.Facts] [hSsmDiscBwdRefIdeal : Cert.SsmDiscBwdRefIdeal.Facts] : Prop :=
  ∀ (m : (ℓ : Loc Cert.SsmDiscBwdIdeal.nD Cert.SsmDiscBwdIdeal.τ Cert.SsmDiscBwdIdeal.sig) → Buf (Elt Ideal) ℓ) (g : Dev Cert.SsmDiscBwdIdeal.nD → PrngReg)
    (m' : (ℓ : Loc Cert.SsmDiscBwdRefIdeal.nD Cert.SsmDiscBwdRefIdeal.τ Cert.SsmDiscBwdRefIdeal.sig) → Buf (Elt Ideal) ℓ) (g' : Dev Cert.SsmDiscBwdRefIdeal.nD → PrngReg), Pre_SsmDiscBwdIdeal m →
    (∀ c : Dev Cert.SsmDiscBwdIdeal.nD,
      m' ((c.tc : Thread Cert.SsmDiscBwdRefIdeal.nD Cert.SsmDiscBwdRefIdeal.τ).loc Cert.SsmDiscBwdRefIdeal.main_arg0) = m ((c.tc : Thread Cert.SsmDiscBwdIdeal.nD Cert.SsmDiscBwdIdeal.τ).loc Cert.SsmDiscBwdIdeal.main_arg0)
      ∧ m' ((c.tc : Thread Cert.SsmDiscBwdRefIdeal.nD Cert.SsmDiscBwdRefIdeal.τ).loc Cert.SsmDiscBwdRefIdeal.main_arg1) = m ((c.tc : Thread Cert.SsmDiscBwdIdeal.nD Cert.SsmDiscBwdIdeal.τ).loc Cert.SsmDiscBwdIdeal.main_arg1)
      ∧ m' ((c.tc : Thread Cert.SsmDiscBwdRefIdeal.nD Cert.SsmDiscBwdRefIdeal.τ).loc Cert.SsmDiscBwdRefIdeal.main_arg2) = m ((c.tc : Thread Cert.SsmDiscBwdIdeal.nD Cert.SsmDiscBwdIdeal.τ).loc Cert.SsmDiscBwdIdeal.main_arg2)
      ∧ m' ((c.tc : Thread Cert.SsmDiscBwdRefIdeal.nD Cert.SsmDiscBwdRefIdeal.τ).loc Cert.SsmDiscBwdRefIdeal.main_arg3) = m ((c.tc : Thread Cert.SsmDiscBwdIdeal.nD Cert.SsmDiscBwdIdeal.τ).loc Cert.SsmDiscBwdIdeal.main_arg3)
      ∧ m' ((c.tc : Thread Cert.SsmDiscBwdRefIdeal.nD Cert.SsmDiscBwdRefIdeal.τ).loc Cert.SsmDiscBwdRefIdeal.main_arg4) = m ((c.tc : Thread Cert.SsmDiscBwdIdeal.nD Cert.SsmDiscBwdIdeal.τ).loc Cert.SsmDiscBwdIdeal.main_arg4)
      ∧ m' ((c.tc : Thread Cert.SsmDiscBwdRefIdeal.nD Cert.SsmDiscBwdRefIdeal.τ).loc Cert.SsmDiscBwdRefIdeal.main_arg5) = m ((c.tc : Thread Cert.SsmDiscBwdIdeal.nD Cert.SsmDiscBwdIdeal.τ).loc Cert.SsmDiscBwdIdeal.main_arg5)
      ∧ m' ((c.tc : Thread Cert.SsmDiscBwdRefIdeal.nD Cert.SsmDiscBwdRefIdeal.τ).loc Cert.SsmDiscBwdRefIdeal.main_arg6) = m ((c.tc : Thread Cert.SsmDiscBwdIdeal.nD Cert.SsmDiscBwdIdeal.τ).loc Cert.SsmDiscBwdIdeal.main_arg6)
      ∧ m' ((c.tc : Thread Cert.SsmDiscBwdRefIdeal.nD Cert.SsmDiscBwdRefIdeal.τ).loc Cert.SsmDiscBwdRefIdeal.main_arg7) = m ((c.tc : Thread Cert.SsmDiscBwdIdeal.nD Cert.SsmDiscBwdIdeal.τ).loc Cert.SsmDiscBwdIdeal.main_arg7)
      ∧ m' ((c.tc : Thread Cert.SsmDiscBwdRefIdeal.nD Cert.SsmDiscBwdRefIdeal.τ).loc Cert.SsmDiscBwdRefIdeal.main_arg8) = m ((c.tc : Thread Cert.SsmDiscBwdIdeal.nD Cert.SsmDiscBwdIdeal.τ).loc Cert.SsmDiscBwdIdeal.main_arg8)) →
    ∃ (v0 : (c : Dev Cert.SsmDiscBwdIdeal.nD) → Buf (Elt Ideal) ((c.tc : Thread Cert.SsmDiscBwdIdeal.nD Cert.SsmDiscBwdIdeal.τ).loc Cert.SsmDiscBwdIdeal.main_v0_0)) (v1 : (c : Dev Cert.SsmDiscBwdIdeal.nD) → Buf (Elt Ideal) ((c.tc : Thread Cert.SsmDiscBwdIdeal.nD Cert.SsmDiscBwdIdeal.τ).loc Cert.SsmDiscBwdIdeal.main_v0_1)) (v2 : (c : Dev Cert.SsmDiscBwdIdeal.nD) → Buf (Elt Ideal) ((c.tc : Thread Cert.SsmDiscBwdIdeal.nD Cert.SsmDiscBwdIdeal.τ).loc Cert.SsmDiscBwdIdeal.main_v0_2)) (v3 : (c : Dev Cert.SsmDiscBwdIdeal.nD) → Buf (Elt Ideal) ((c.tc : Thread Cert.SsmDiscBwdIdeal.nD Cert.SsmDiscBwdIdeal.τ).loc Cert.SsmDiscBwdIdeal.main_v0_3)) (v4 : (c : Dev Cert.SsmDiscBwdIdeal.nD) → Buf (Elt Ideal) ((c.tc : Thread Cert.SsmDiscBwdIdeal.nD Cert.SsmDiscBwdIdeal.τ).loc Cert.SsmDiscBwdIdeal.main_v0_4)),
      θ_run (Cert.SsmDiscBwdIdeal.defs (F := Ideal)) (onTc (τ := Cert.SsmDiscBwdIdeal.τ) (Cert.SsmDiscBwdIdeal.main (F := Ideal))) ⟨m, fun _ => 0, g⟩ (fun r => ∀ c : Dev Cert.SsmDiscBwdIdeal.nD,
          r.2.mem ((c.tc : Thread Cert.SsmDiscBwdIdeal.nD Cert.SsmDiscBwdIdeal.τ).loc Cert.SsmDiscBwdIdeal.main_v0_0) = v0 c
          ∧ r.2.mem ((c.tc : Thread Cert.SsmDiscBwdIdeal.nD Cert.SsmDiscBwdIdeal.τ).loc Cert.SsmDiscBwdIdeal.main_v0_1) = v1 c
          ∧ r.2.mem ((c.tc : Thread Cert.SsmDiscBwdIdeal.nD Cert.SsmDiscBwdIdeal.τ).loc Cert.SsmDiscBwdIdeal.main_v0_2) = v2 c
          ∧ r.2.mem ((c.tc : Thread Cert.SsmDiscBwdIdeal.nD Cert.SsmDiscBwdIdeal.τ).loc Cert.SsmDiscBwdIdeal.main_v0_3) = v3 c
          ∧ r.2.mem ((c.tc : Thread Cert.SsmDiscBwdIdeal.nD Cert.SsmDiscBwdIdeal.τ).loc Cert.SsmDiscBwdIdeal.main_v0_4) = v4 c
          ∧ r.2.mem ((c.tc : Thread Cert.SsmDiscBwdIdeal.nD Cert.SsmDiscBwdIdeal.τ).loc Cert.SsmDiscBwdIdeal.main_arg0) = m ((c.tc : Thread Cert.SsmDiscBwdIdeal.nD Cert.SsmDiscBwdIdeal.τ).loc Cert.SsmDiscBwdIdeal.main_arg0)
          ∧ r.2.mem ((c.tc : Thread Cert.SsmDiscBwdIdeal.nD Cert.SsmDiscBwdIdeal.τ).loc Cert.SsmDiscBwdIdeal.main_arg1) = m ((c.tc : Thread Cert.SsmDiscBwdIdeal.nD Cert.SsmDiscBwdIdeal.τ).loc Cert.SsmDiscBwdIdeal.main_arg1)
          ∧ r.2.mem ((c.tc : Thread Cert.SsmDiscBwdIdeal.nD Cert.SsmDiscBwdIdeal.τ).loc Cert.SsmDiscBwdIdeal.main_arg2) = m ((c.tc : Thread Cert.SsmDiscBwdIdeal.nD Cert.SsmDiscBwdIdeal.τ).loc Cert.SsmDiscBwdIdeal.main_arg2)
          ∧ r.2.mem ((c.tc : Thread Cert.SsmDiscBwdIdeal.nD Cert.SsmDiscBwdIdeal.τ).loc Cert.SsmDiscBwdIdeal.main_arg3) = m ((c.tc : Thread Cert.SsmDiscBwdIdeal.nD Cert.SsmDiscBwdIdeal.τ).loc Cert.SsmDiscBwdIdeal.main_arg3)
          ∧ r.2.mem ((c.tc : Thread Cert.SsmDiscBwdIdeal.nD Cert.SsmDiscBwdIdeal.τ).loc Cert.SsmDiscBwdIdeal.main_arg4) = m ((c.tc : Thread Cert.SsmDiscBwdIdeal.nD Cert.SsmDiscBwdIdeal.τ).loc Cert.SsmDiscBwdIdeal.main_arg4)
          ∧ r.2.mem ((c.tc : Thread Cert.SsmDiscBwdIdeal.nD Cert.SsmDiscBwdIdeal.τ).loc Cert.SsmDiscBwdIdeal.main_arg5) = m ((c.tc : Thread Cert.SsmDiscBwdIdeal.nD Cert.SsmDiscBwdIdeal.τ).loc Cert.SsmDiscBwdIdeal.main_arg5)
          ∧ r.2.mem ((c.tc : Thread Cert.SsmDiscBwdIdeal.nD Cert.SsmDiscBwdIdeal.τ).loc Cert.SsmDiscBwdIdeal.main_arg6) = m ((c.tc : Thread Cert.SsmDiscBwdIdeal.nD Cert.SsmDiscBwdIdeal.τ).loc Cert.SsmDiscBwdIdeal.main_arg6)
          ∧ r.2.mem ((c.tc : Thread Cert.SsmDiscBwdIdeal.nD Cert.SsmDiscBwdIdeal.τ).loc Cert.SsmDiscBwdIdeal.main_arg7) = m ((c.tc : Thread Cert.SsmDiscBwdIdeal.nD Cert.SsmDiscBwdIdeal.τ).loc Cert.SsmDiscBwdIdeal.main_arg7)
          ∧ r.2.mem ((c.tc : Thread Cert.SsmDiscBwdIdeal.nD Cert.SsmDiscBwdIdeal.τ).loc Cert.SsmDiscBwdIdeal.main_arg8) = m ((c.tc : Thread Cert.SsmDiscBwdIdeal.nD Cert.SsmDiscBwdIdeal.τ).loc Cert.SsmDiscBwdIdeal.main_arg8))
      ∧ θ_run (Cert.SsmDiscBwdRefIdeal.defs (F := Ideal)) (onTc (τ := Cert.SsmDiscBwdRefIdeal.τ) (Cert.SsmDiscBwdRefIdeal.main (F := Ideal))) ⟨m', fun _ => 0, g'⟩ (fun r => ∀ c : Dev Cert.SsmDiscBwdRefIdeal.nD,
          r.2.mem ((c.tc : Thread Cert.SsmDiscBwdRefIdeal.nD Cert.SsmDiscBwdRefIdeal.τ).loc Cert.SsmDiscBwdRefIdeal.main_v135) = v0 c
          ∧ r.2.mem ((c.tc : Thread Cert.SsmDiscBwdRefIdeal.nD Cert.SsmDiscBwdRefIdeal.τ).loc Cert.SsmDiscBwdRefIdeal.main_v136) = v1 c
          ∧ r.2.mem ((c.tc : Thread Cert.SsmDiscBwdRefIdeal.nD Cert.SsmDiscBwdRefIdeal.τ).loc Cert.SsmDiscBwdRefIdeal.main_v137) = v2 c
          ∧ r.2.mem ((c.tc : Thread Cert.SsmDiscBwdRefIdeal.nD Cert.SsmDiscBwdRefIdeal.τ).loc Cert.SsmDiscBwdRefIdeal.main_v138) = v3 c
          ∧ r.2.mem ((c.tc : Thread Cert.SsmDiscBwdRefIdeal.nD Cert.SsmDiscBwdRefIdeal.τ).loc Cert.SsmDiscBwdRefIdeal.main_v139) = v4 c
          ∧ r.2.mem ((c.tc : Thread Cert.SsmDiscBwdRefIdeal.nD Cert.SsmDiscBwdRefIdeal.τ).loc Cert.SsmDiscBwdRefIdeal.main_arg0) = m' ((c.tc : Thread Cert.SsmDiscBwdRefIdeal.nD Cert.SsmDiscBwdRefIdeal.τ).loc Cert.SsmDiscBwdRefIdeal.main_arg0)
          ∧ r.2.mem ((c.tc : Thread Cert.SsmDiscBwdRefIdeal.nD Cert.SsmDiscBwdRefIdeal.τ).loc Cert.SsmDiscBwdRefIdeal.main_arg1) = m' ((c.tc : Thread Cert.SsmDiscBwdRefIdeal.nD Cert.SsmDiscBwdRefIdeal.τ).loc Cert.SsmDiscBwdRefIdeal.main_arg1)
          ∧ r.2.mem ((c.tc : Thread Cert.SsmDiscBwdRefIdeal.nD Cert.SsmDiscBwdRefIdeal.τ).loc Cert.SsmDiscBwdRefIdeal.main_arg2) = m' ((c.tc : Thread Cert.SsmDiscBwdRefIdeal.nD Cert.SsmDiscBwdRefIdeal.τ).loc Cert.SsmDiscBwdRefIdeal.main_arg2)
          ∧ r.2.mem ((c.tc : Thread Cert.SsmDiscBwdRefIdeal.nD Cert.SsmDiscBwdRefIdeal.τ).loc Cert.SsmDiscBwdRefIdeal.main_arg3) = m' ((c.tc : Thread Cert.SsmDiscBwdRefIdeal.nD Cert.SsmDiscBwdRefIdeal.τ).loc Cert.SsmDiscBwdRefIdeal.main_arg3)
          ∧ r.2.mem ((c.tc : Thread Cert.SsmDiscBwdRefIdeal.nD Cert.SsmDiscBwdRefIdeal.τ).loc Cert.SsmDiscBwdRefIdeal.main_arg4) = m' ((c.tc : Thread Cert.SsmDiscBwdRefIdeal.nD Cert.SsmDiscBwdRefIdeal.τ).loc Cert.SsmDiscBwdRefIdeal.main_arg4)
          ∧ r.2.mem ((c.tc : Thread Cert.SsmDiscBwdRefIdeal.nD Cert.SsmDiscBwdRefIdeal.τ).loc Cert.SsmDiscBwdRefIdeal.main_arg5) = m' ((c.tc : Thread Cert.SsmDiscBwdRefIdeal.nD Cert.SsmDiscBwdRefIdeal.τ).loc Cert.SsmDiscBwdRefIdeal.main_arg5)
          ∧ r.2.mem ((c.tc : Thread Cert.SsmDiscBwdRefIdeal.nD Cert.SsmDiscBwdRefIdeal.τ).loc Cert.SsmDiscBwdRefIdeal.main_arg6) = m' ((c.tc : Thread Cert.SsmDiscBwdRefIdeal.nD Cert.SsmDiscBwdRefIdeal.τ).loc Cert.SsmDiscBwdRefIdeal.main_arg6)
          ∧ r.2.mem ((c.tc : Thread Cert.SsmDiscBwdRefIdeal.nD Cert.SsmDiscBwdRefIdeal.τ).loc Cert.SsmDiscBwdRefIdeal.main_arg7) = m' ((c.tc : Thread Cert.SsmDiscBwdRefIdeal.nD Cert.SsmDiscBwdRefIdeal.τ).loc Cert.SsmDiscBwdRefIdeal.main_arg7)
          ∧ r.2.mem ((c.tc : Thread Cert.SsmDiscBwdRefIdeal.nD Cert.SsmDiscBwdRefIdeal.τ).loc Cert.SsmDiscBwdRefIdeal.main_arg8) = m' ((c.tc : Thread Cert.SsmDiscBwdRefIdeal.nD Cert.SsmDiscBwdRefIdeal.τ).loc Cert.SsmDiscBwdRefIdeal.main_arg8))

def preserves_SsmDiscFwd_SsmDiscFwdIdeal : Prop :=
  True

def algebraic_SsmDiscFwdIdeal_SsmDiscFwdRefIdeal [hSsmDiscFwdIdeal : Cert.SsmDiscFwdIdeal.Facts] [hSsmDiscFwdRefIdeal : Cert.SsmDiscFwdRefIdeal.Facts] : Prop :=
  ∀ (m : (ℓ : Loc Cert.SsmDiscFwdIdeal.nD Cert.SsmDiscFwdIdeal.τ Cert.SsmDiscFwdIdeal.sig) → Buf (Elt Ideal) ℓ) (g : Dev Cert.SsmDiscFwdIdeal.nD → PrngReg)
    (m' : (ℓ : Loc Cert.SsmDiscFwdRefIdeal.nD Cert.SsmDiscFwdRefIdeal.τ Cert.SsmDiscFwdRefIdeal.sig) → Buf (Elt Ideal) ℓ) (g' : Dev Cert.SsmDiscFwdRefIdeal.nD → PrngReg), Pre_SsmDiscFwdIdeal m →
    (∀ c : Dev Cert.SsmDiscFwdIdeal.nD,
      m' ((c.tc : Thread Cert.SsmDiscFwdRefIdeal.nD Cert.SsmDiscFwdRefIdeal.τ).loc Cert.SsmDiscFwdRefIdeal.main_arg0) = m ((c.tc : Thread Cert.SsmDiscFwdIdeal.nD Cert.SsmDiscFwdIdeal.τ).loc Cert.SsmDiscFwdIdeal.main_arg0)
      ∧ m' ((c.tc : Thread Cert.SsmDiscFwdRefIdeal.nD Cert.SsmDiscFwdRefIdeal.τ).loc Cert.SsmDiscFwdRefIdeal.main_arg1) = m ((c.tc : Thread Cert.SsmDiscFwdIdeal.nD Cert.SsmDiscFwdIdeal.τ).loc Cert.SsmDiscFwdIdeal.main_arg1)
      ∧ m' ((c.tc : Thread Cert.SsmDiscFwdRefIdeal.nD Cert.SsmDiscFwdRefIdeal.τ).loc Cert.SsmDiscFwdRefIdeal.main_arg2) = m ((c.tc : Thread Cert.SsmDiscFwdIdeal.nD Cert.SsmDiscFwdIdeal.τ).loc Cert.SsmDiscFwdIdeal.main_arg2)
      ∧ m' ((c.tc : Thread Cert.SsmDiscFwdRefIdeal.nD Cert.SsmDiscFwdRefIdeal.τ).loc Cert.SsmDiscFwdRefIdeal.main_arg3) = m ((c.tc : Thread Cert.SsmDiscFwdIdeal.nD Cert.SsmDiscFwdIdeal.τ).loc Cert.SsmDiscFwdIdeal.main_arg3)
      ∧ m' ((c.tc : Thread Cert.SsmDiscFwdRefIdeal.nD Cert.SsmDiscFwdRefIdeal.τ).loc Cert.SsmDiscFwdRefIdeal.main_arg4) = m ((c.tc : Thread Cert.SsmDiscFwdIdeal.nD Cert.SsmDiscFwdIdeal.τ).loc Cert.SsmDiscFwdIdeal.main_arg4)) →
    ∃ (v0 : (c : Dev Cert.SsmDiscFwdIdeal.nD) → Buf (Elt Ideal) ((c.tc : Thread Cert.SsmDiscFwdIdeal.nD Cert.SsmDiscFwdIdeal.τ).loc Cert.SsmDiscFwdIdeal.main_v0_0)) (v1 : (c : Dev Cert.SsmDiscFwdIdeal.nD) → Buf (Elt Ideal) ((c.tc : Thread Cert.SsmDiscFwdIdeal.nD Cert.SsmDiscFwdIdeal.τ).loc Cert.SsmDiscFwdIdeal.main_v0_1)) (v2 : (c : Dev Cert.SsmDiscFwdIdeal.nD) → Buf (Elt Ideal) ((c.tc : Thread Cert.SsmDiscFwdIdeal.nD Cert.SsmDiscFwdIdeal.τ).loc Cert.SsmDiscFwdIdeal.main_v0_2)) (v3 : (c : Dev Cert.SsmDiscFwdIdeal.nD) → Buf (Elt Ideal) ((c.tc : Thread Cert.SsmDiscFwdIdeal.nD Cert.SsmDiscFwdIdeal.τ).loc Cert.SsmDiscFwdIdeal.main_v0_3)),
      θ_run (Cert.SsmDiscFwdIdeal.defs (F := Ideal)) (onTc (τ := Cert.SsmDiscFwdIdeal.τ) (Cert.SsmDiscFwdIdeal.main (F := Ideal))) ⟨m, fun _ => 0, g⟩ (fun r => ∀ c : Dev Cert.SsmDiscFwdIdeal.nD,
          r.2.mem ((c.tc : Thread Cert.SsmDiscFwdIdeal.nD Cert.SsmDiscFwdIdeal.τ).loc Cert.SsmDiscFwdIdeal.main_v0_0) = v0 c
          ∧ r.2.mem ((c.tc : Thread Cert.SsmDiscFwdIdeal.nD Cert.SsmDiscFwdIdeal.τ).loc Cert.SsmDiscFwdIdeal.main_v0_1) = v1 c
          ∧ r.2.mem ((c.tc : Thread Cert.SsmDiscFwdIdeal.nD Cert.SsmDiscFwdIdeal.τ).loc Cert.SsmDiscFwdIdeal.main_v0_2) = v2 c
          ∧ r.2.mem ((c.tc : Thread Cert.SsmDiscFwdIdeal.nD Cert.SsmDiscFwdIdeal.τ).loc Cert.SsmDiscFwdIdeal.main_v0_3) = v3 c
          ∧ r.2.mem ((c.tc : Thread Cert.SsmDiscFwdIdeal.nD Cert.SsmDiscFwdIdeal.τ).loc Cert.SsmDiscFwdIdeal.main_arg0) = m ((c.tc : Thread Cert.SsmDiscFwdIdeal.nD Cert.SsmDiscFwdIdeal.τ).loc Cert.SsmDiscFwdIdeal.main_arg0)
          ∧ r.2.mem ((c.tc : Thread Cert.SsmDiscFwdIdeal.nD Cert.SsmDiscFwdIdeal.τ).loc Cert.SsmDiscFwdIdeal.main_arg1) = m ((c.tc : Thread Cert.SsmDiscFwdIdeal.nD Cert.SsmDiscFwdIdeal.τ).loc Cert.SsmDiscFwdIdeal.main_arg1)
          ∧ r.2.mem ((c.tc : Thread Cert.SsmDiscFwdIdeal.nD Cert.SsmDiscFwdIdeal.τ).loc Cert.SsmDiscFwdIdeal.main_arg2) = m ((c.tc : Thread Cert.SsmDiscFwdIdeal.nD Cert.SsmDiscFwdIdeal.τ).loc Cert.SsmDiscFwdIdeal.main_arg2)
          ∧ r.2.mem ((c.tc : Thread Cert.SsmDiscFwdIdeal.nD Cert.SsmDiscFwdIdeal.τ).loc Cert.SsmDiscFwdIdeal.main_arg3) = m ((c.tc : Thread Cert.SsmDiscFwdIdeal.nD Cert.SsmDiscFwdIdeal.τ).loc Cert.SsmDiscFwdIdeal.main_arg3)
          ∧ r.2.mem ((c.tc : Thread Cert.SsmDiscFwdIdeal.nD Cert.SsmDiscFwdIdeal.τ).loc Cert.SsmDiscFwdIdeal.main_arg4) = m ((c.tc : Thread Cert.SsmDiscFwdIdeal.nD Cert.SsmDiscFwdIdeal.τ).loc Cert.SsmDiscFwdIdeal.main_arg4))
      ∧ θ_run (Cert.SsmDiscFwdRefIdeal.defs (F := Ideal)) (onTc (τ := Cert.SsmDiscFwdRefIdeal.τ) (Cert.SsmDiscFwdRefIdeal.main (F := Ideal))) ⟨m', fun _ => 0, g'⟩ (fun r => ∀ c : Dev Cert.SsmDiscFwdRefIdeal.nD,
          r.2.mem ((c.tc : Thread Cert.SsmDiscFwdRefIdeal.nD Cert.SsmDiscFwdRefIdeal.τ).loc Cert.SsmDiscFwdRefIdeal.main_v41) = v0 c
          ∧ r.2.mem ((c.tc : Thread Cert.SsmDiscFwdRefIdeal.nD Cert.SsmDiscFwdRefIdeal.τ).loc Cert.SsmDiscFwdRefIdeal.main_v42) = v1 c
          ∧ r.2.mem ((c.tc : Thread Cert.SsmDiscFwdRefIdeal.nD Cert.SsmDiscFwdRefIdeal.τ).loc Cert.SsmDiscFwdRefIdeal.main_v43) = v2 c
          ∧ r.2.mem ((c.tc : Thread Cert.SsmDiscFwdRefIdeal.nD Cert.SsmDiscFwdRefIdeal.τ).loc Cert.SsmDiscFwdRefIdeal.main_v44) = v3 c
          ∧ r.2.mem ((c.tc : Thread Cert.SsmDiscFwdRefIdeal.nD Cert.SsmDiscFwdRefIdeal.τ).loc Cert.SsmDiscFwdRefIdeal.main_arg0) = m' ((c.tc : Thread Cert.SsmDiscFwdRefIdeal.nD Cert.SsmDiscFwdRefIdeal.τ).loc Cert.SsmDiscFwdRefIdeal.main_arg0)
          ∧ r.2.mem ((c.tc : Thread Cert.SsmDiscFwdRefIdeal.nD Cert.SsmDiscFwdRefIdeal.τ).loc Cert.SsmDiscFwdRefIdeal.main_arg1) = m' ((c.tc : Thread Cert.SsmDiscFwdRefIdeal.nD Cert.SsmDiscFwdRefIdeal.τ).loc Cert.SsmDiscFwdRefIdeal.main_arg1)
          ∧ r.2.mem ((c.tc : Thread Cert.SsmDiscFwdRefIdeal.nD Cert.SsmDiscFwdRefIdeal.τ).loc Cert.SsmDiscFwdRefIdeal.main_arg2) = m' ((c.tc : Thread Cert.SsmDiscFwdRefIdeal.nD Cert.SsmDiscFwdRefIdeal.τ).loc Cert.SsmDiscFwdRefIdeal.main_arg2)
          ∧ r.2.mem ((c.tc : Thread Cert.SsmDiscFwdRefIdeal.nD Cert.SsmDiscFwdRefIdeal.τ).loc Cert.SsmDiscFwdRefIdeal.main_arg3) = m' ((c.tc : Thread Cert.SsmDiscFwdRefIdeal.nD Cert.SsmDiscFwdRefIdeal.τ).loc Cert.SsmDiscFwdRefIdeal.main_arg3)
          ∧ r.2.mem ((c.tc : Thread Cert.SsmDiscFwdRefIdeal.nD Cert.SsmDiscFwdRefIdeal.τ).loc Cert.SsmDiscFwdRefIdeal.main_arg4) = m' ((c.tc : Thread Cert.SsmDiscFwdRefIdeal.nD Cert.SsmDiscFwdRefIdeal.τ).loc Cert.SsmDiscFwdRefIdeal.main_arg4))

def preserves_JoinDproj_JoinDprojIdeal : Prop :=
  True

def algebraic_JoinDprojIdeal_JoinDprojRefIdeal [hJoinDprojIdeal : Cert.JoinDprojIdeal.Facts] [hJoinDprojRefIdeal : Cert.JoinDprojRefIdeal.Facts] : Prop :=
  ∀ (m : (ℓ : Loc Cert.JoinDprojIdeal.nD Cert.JoinDprojIdeal.τ Cert.JoinDprojIdeal.sig) → Buf (Elt Ideal) ℓ) (g : Dev Cert.JoinDprojIdeal.nD → PrngReg)
    (m' : (ℓ : Loc Cert.JoinDprojRefIdeal.nD Cert.JoinDprojRefIdeal.τ Cert.JoinDprojRefIdeal.sig) → Buf (Elt Ideal) ℓ) (g' : Dev Cert.JoinDprojRefIdeal.nD → PrngReg), Pre_JoinDprojIdeal m →
    (∀ c : Dev Cert.JoinDprojIdeal.nD,
      m' ((c.tc : Thread Cert.JoinDprojRefIdeal.nD Cert.JoinDprojRefIdeal.τ).loc Cert.JoinDprojRefIdeal.main_arg0) = m ((c.tc : Thread Cert.JoinDprojIdeal.nD Cert.JoinDprojIdeal.τ).loc Cert.JoinDprojIdeal.main_arg0)
      ∧ m' ((c.tc : Thread Cert.JoinDprojRefIdeal.nD Cert.JoinDprojRefIdeal.τ).loc Cert.JoinDprojRefIdeal.main_arg1) = m ((c.tc : Thread Cert.JoinDprojIdeal.nD Cert.JoinDprojIdeal.τ).loc Cert.JoinDprojIdeal.main_arg1)
      ∧ m' ((c.tc : Thread Cert.JoinDprojRefIdeal.nD Cert.JoinDprojRefIdeal.τ).loc Cert.JoinDprojRefIdeal.main_arg2) = m ((c.tc : Thread Cert.JoinDprojIdeal.nD Cert.JoinDprojIdeal.τ).loc Cert.JoinDprojIdeal.main_arg2)
      ∧ m' ((c.tc : Thread Cert.JoinDprojRefIdeal.nD Cert.JoinDprojRefIdeal.τ).loc Cert.JoinDprojRefIdeal.main_arg3) = m ((c.tc : Thread Cert.JoinDprojIdeal.nD Cert.JoinDprojIdeal.τ).loc Cert.JoinDprojIdeal.main_arg3)
      ∧ m' ((c.tc : Thread Cert.JoinDprojRefIdeal.nD Cert.JoinDprojRefIdeal.τ).loc Cert.JoinDprojRefIdeal.main_arg4) = m ((c.tc : Thread Cert.JoinDprojIdeal.nD Cert.JoinDprojIdeal.τ).loc Cert.JoinDprojIdeal.main_arg4)
      ∧ m' ((c.tc : Thread Cert.JoinDprojRefIdeal.nD Cert.JoinDprojRefIdeal.τ).loc Cert.JoinDprojRefIdeal.main_arg5) = m ((c.tc : Thread Cert.JoinDprojIdeal.nD Cert.JoinDprojIdeal.τ).loc Cert.JoinDprojIdeal.main_arg5)
      ∧ m' ((c.tc : Thread Cert.JoinDprojRefIdeal.nD Cert.JoinDprojRefIdeal.τ).loc Cert.JoinDprojRefIdeal.main_arg6) = m ((c.tc : Thread Cert.JoinDprojIdeal.nD Cert.JoinDprojIdeal.τ).loc Cert.JoinDprojIdeal.main_arg6)
      ∧ m' ((c.tc : Thread Cert.JoinDprojRefIdeal.nD Cert.JoinDprojRefIdeal.τ).loc Cert.JoinDprojRefIdeal.main_arg7) = m ((c.tc : Thread Cert.JoinDprojIdeal.nD Cert.JoinDprojIdeal.τ).loc Cert.JoinDprojIdeal.main_arg7)) →
    ∃ (v0 : (c : Dev Cert.JoinDprojIdeal.nD) → Buf (Elt Ideal) ((c.tc : Thread Cert.JoinDprojIdeal.nD Cert.JoinDprojIdeal.τ).loc Cert.JoinDprojIdeal.main_v0_0)) (v1 : (c : Dev Cert.JoinDprojIdeal.nD) → Buf (Elt Ideal) ((c.tc : Thread Cert.JoinDprojIdeal.nD Cert.JoinDprojIdeal.τ).loc Cert.JoinDprojIdeal.main_v0_1)),
      θ_run (Cert.JoinDprojIdeal.defs (F := Ideal)) (onTc (τ := Cert.JoinDprojIdeal.τ) (Cert.JoinDprojIdeal.main (F := Ideal))) ⟨m, fun _ => 0, g⟩ (fun r => ∀ c : Dev Cert.JoinDprojIdeal.nD,
          r.2.mem ((c.tc : Thread Cert.JoinDprojIdeal.nD Cert.JoinDprojIdeal.τ).loc Cert.JoinDprojIdeal.main_v0_0) = v0 c
          ∧ r.2.mem ((c.tc : Thread Cert.JoinDprojIdeal.nD Cert.JoinDprojIdeal.τ).loc Cert.JoinDprojIdeal.main_v0_1) = v1 c
          ∧ r.2.mem ((c.tc : Thread Cert.JoinDprojIdeal.nD Cert.JoinDprojIdeal.τ).loc Cert.JoinDprojIdeal.main_arg0) = m ((c.tc : Thread Cert.JoinDprojIdeal.nD Cert.JoinDprojIdeal.τ).loc Cert.JoinDprojIdeal.main_arg0)
          ∧ r.2.mem ((c.tc : Thread Cert.JoinDprojIdeal.nD Cert.JoinDprojIdeal.τ).loc Cert.JoinDprojIdeal.main_arg1) = m ((c.tc : Thread Cert.JoinDprojIdeal.nD Cert.JoinDprojIdeal.τ).loc Cert.JoinDprojIdeal.main_arg1)
          ∧ r.2.mem ((c.tc : Thread Cert.JoinDprojIdeal.nD Cert.JoinDprojIdeal.τ).loc Cert.JoinDprojIdeal.main_arg2) = m ((c.tc : Thread Cert.JoinDprojIdeal.nD Cert.JoinDprojIdeal.τ).loc Cert.JoinDprojIdeal.main_arg2)
          ∧ r.2.mem ((c.tc : Thread Cert.JoinDprojIdeal.nD Cert.JoinDprojIdeal.τ).loc Cert.JoinDprojIdeal.main_arg3) = m ((c.tc : Thread Cert.JoinDprojIdeal.nD Cert.JoinDprojIdeal.τ).loc Cert.JoinDprojIdeal.main_arg3)
          ∧ r.2.mem ((c.tc : Thread Cert.JoinDprojIdeal.nD Cert.JoinDprojIdeal.τ).loc Cert.JoinDprojIdeal.main_arg4) = m ((c.tc : Thread Cert.JoinDprojIdeal.nD Cert.JoinDprojIdeal.τ).loc Cert.JoinDprojIdeal.main_arg4)
          ∧ r.2.mem ((c.tc : Thread Cert.JoinDprojIdeal.nD Cert.JoinDprojIdeal.τ).loc Cert.JoinDprojIdeal.main_arg5) = m ((c.tc : Thread Cert.JoinDprojIdeal.nD Cert.JoinDprojIdeal.τ).loc Cert.JoinDprojIdeal.main_arg5)
          ∧ r.2.mem ((c.tc : Thread Cert.JoinDprojIdeal.nD Cert.JoinDprojIdeal.τ).loc Cert.JoinDprojIdeal.main_arg6) = m ((c.tc : Thread Cert.JoinDprojIdeal.nD Cert.JoinDprojIdeal.τ).loc Cert.JoinDprojIdeal.main_arg6)
          ∧ r.2.mem ((c.tc : Thread Cert.JoinDprojIdeal.nD Cert.JoinDprojIdeal.τ).loc Cert.JoinDprojIdeal.main_arg7) = m ((c.tc : Thread Cert.JoinDprojIdeal.nD Cert.JoinDprojIdeal.τ).loc Cert.JoinDprojIdeal.main_arg7))
      ∧ θ_run (Cert.JoinDprojRefIdeal.defs (F := Ideal)) (onTc (τ := Cert.JoinDprojRefIdeal.τ) (Cert.JoinDprojRefIdeal.main (F := Ideal))) ⟨m', fun _ => 0, g'⟩ (fun r => ∀ c : Dev Cert.JoinDprojRefIdeal.nD,
          r.2.mem ((c.tc : Thread Cert.JoinDprojRefIdeal.nD Cert.JoinDprojRefIdeal.τ).loc Cert.JoinDprojRefIdeal.main_v51) = v0 c
          ∧ r.2.mem ((c.tc : Thread Cert.JoinDprojRefIdeal.nD Cert.JoinDprojRefIdeal.τ).loc Cert.JoinDprojRefIdeal.main_v50) = v1 c
          ∧ r.2.mem ((c.tc : Thread Cert.JoinDprojRefIdeal.nD Cert.JoinDprojRefIdeal.τ).loc Cert.JoinDprojRefIdeal.main_arg0) = m' ((c.tc : Thread Cert.JoinDprojRefIdeal.nD Cert.JoinDprojRefIdeal.τ).loc Cert.JoinDprojRefIdeal.main_arg0)
          ∧ r.2.mem ((c.tc : Thread Cert.JoinDprojRefIdeal.nD Cert.JoinDprojRefIdeal.τ).loc Cert.JoinDprojRefIdeal.main_arg1) = m' ((c.tc : Thread Cert.JoinDprojRefIdeal.nD Cert.JoinDprojRefIdeal.τ).loc Cert.JoinDprojRefIdeal.main_arg1)
          ∧ r.2.mem ((c.tc : Thread Cert.JoinDprojRefIdeal.nD Cert.JoinDprojRefIdeal.τ).loc Cert.JoinDprojRefIdeal.main_arg2) = m' ((c.tc : Thread Cert.JoinDprojRefIdeal.nD Cert.JoinDprojRefIdeal.τ).loc Cert.JoinDprojRefIdeal.main_arg2)
          ∧ r.2.mem ((c.tc : Thread Cert.JoinDprojRefIdeal.nD Cert.JoinDprojRefIdeal.τ).loc Cert.JoinDprojRefIdeal.main_arg3) = m' ((c.tc : Thread Cert.JoinDprojRefIdeal.nD Cert.JoinDprojRefIdeal.τ).loc Cert.JoinDprojRefIdeal.main_arg3)
          ∧ r.2.mem ((c.tc : Thread Cert.JoinDprojRefIdeal.nD Cert.JoinDprojRefIdeal.τ).loc Cert.JoinDprojRefIdeal.main_arg4) = m' ((c.tc : Thread Cert.JoinDprojRefIdeal.nD Cert.JoinDprojRefIdeal.τ).loc Cert.JoinDprojRefIdeal.main_arg4)
          ∧ r.2.mem ((c.tc : Thread Cert.JoinDprojRefIdeal.nD Cert.JoinDprojRefIdeal.τ).loc Cert.JoinDprojRefIdeal.main_arg5) = m' ((c.tc : Thread Cert.JoinDprojRefIdeal.nD Cert.JoinDprojRefIdeal.τ).loc Cert.JoinDprojRefIdeal.main_arg5)
          ∧ r.2.mem ((c.tc : Thread Cert.JoinDprojRefIdeal.nD Cert.JoinDprojRefIdeal.τ).loc Cert.JoinDprojRefIdeal.main_arg6) = m' ((c.tc : Thread Cert.JoinDprojRefIdeal.nD Cert.JoinDprojRefIdeal.τ).loc Cert.JoinDprojRefIdeal.main_arg6)
          ∧ r.2.mem ((c.tc : Thread Cert.JoinDprojRefIdeal.nD Cert.JoinDprojRefIdeal.τ).loc Cert.JoinDprojRefIdeal.main_arg7) = m' ((c.tc : Thread Cert.JoinDprojRefIdeal.nD Cert.JoinDprojRefIdeal.τ).loc Cert.JoinDprojRefIdeal.main_arg7))

def Claim : Prop :=
  ∃ (hKernel : Cert.Kernel.Facts) (hKernelIdeal : Cert.KernelIdeal.Facts) (hReferenceIdeal : Cert.ReferenceIdeal.Facts) (hDwUp : Cert.DwUp.Facts) (hDwUpIdeal : Cert.DwUpIdeal.Facts) (hDwUpRefIdeal : Cert.DwUpRefIdeal.Facts) (hDAct : Cert.DAct.Facts) (hDActIdeal : Cert.DActIdeal.Facts) (hDActRefIdeal : Cert.DActRefIdeal.Facts) (hDH2 : Cert.DH2.Facts) (hDH2Ideal : Cert.DH2Ideal.Facts) (hDH2RefIdeal : Cert.DH2RefIdeal.Facts) (hDwDown : Cert.DwDown.Facts) (hDwDownIdeal : Cert.DwDownIdeal.Facts) (hDwDownRefIdeal : Cert.DwDownRefIdeal.Facts) (hDwIn : Cert.DwIn.Facts) (hDwInIdeal : Cert.DwInIdeal.Facts) (hDwInRefIdeal : Cert.DwInRefIdeal.Facts) (hDH1 : Cert.DH1.Facts) (hDH1Ideal : Cert.DH1Ideal.Facts) (hDH1RefIdeal : Cert.DH1RefIdeal.Facts) (hDwOut : Cert.DwOut.Facts) (hDwOutIdeal : Cert.DwOutIdeal.Facts) (hDwOutRefIdeal : Cert.DwOutRefIdeal.Facts) (hDAttn : Cert.DAttn.Facts) (hDAttnIdeal : Cert.DAttnIdeal.Facts) (hDAttnRefIdeal : Cert.DAttnRefIdeal.Facts) (hDwBa : Cert.DwBa.Facts) (hDwBaIdeal : Cert.DwBaIdeal.Facts) (hDwBaRefIdeal : Cert.DwBaRefIdeal.Facts) (hDwBs : Cert.DwBs.Facts) (hDwBsIdeal : Cert.DwBsIdeal.Facts) (hDwBsRefIdeal : Cert.DwBsRefIdeal.Facts) (hDwGlu : Cert.DwGlu.Facts) (hDwGluIdeal : Cert.DwGluIdeal.Facts) (hDwGluRefIdeal : Cert.DwGluRefIdeal.Facts) (hDGy : Cert.DGy.Facts) (hDGyIdeal : Cert.DGyIdeal.Facts) (hDGyRefIdeal : Cert.DGyRefIdeal.Facts) (hProjIn : Cert.ProjIn.Facts) (hProjInIdeal : Cert.ProjInIdeal.Facts) (hProjInRefIdeal : Cert.ProjInRefIdeal.Facts) (hBranchA : Cert.BranchA.Facts) (hBranchAIdeal : Cert.BranchAIdeal.Facts) (hBranchARefIdeal : Cert.BranchARefIdeal.Facts) (hBranchS : Cert.BranchS.Facts) (hBranchSIdeal : Cert.BranchSIdeal.Facts) (hBranchSRefIdeal : Cert.BranchSRefIdeal.Facts) (hProjOut : Cert.ProjOut.Facts) (hProjOutIdeal : Cert.ProjOutIdeal.Facts) (hProjOutRefIdeal : Cert.ProjOutRefIdeal.Facts) (hProjUp : Cert.ProjUp.Facts) (hProjUpIdeal : Cert.ProjUpIdeal.Facts) (hProjUpRefIdeal : Cert.ProjUpRefIdeal.Facts) (hProjDown : Cert.ProjDown.Facts) (hProjDownIdeal : Cert.ProjDownIdeal.Facts) (hProjDownRefIdeal : Cert.ProjDownRefIdeal.Facts) (hDMerged : Cert.DMerged.Facts) (hDMergedIdeal : Cert.DMergedIdeal.Facts) (hDMergedRefIdeal : Cert.DMergedRefIdeal.Facts) (hRms2Bwd : Cert.Rms2Bwd.Facts) (hRms2BwdIdeal : Cert.Rms2BwdIdeal.Facts) (hRms2BwdRefIdeal : Cert.Rms2BwdRefIdeal.Facts) (hRms1Bwd : Cert.Rms1Bwd.Facts) (hRms1BwdIdeal : Cert.Rms1BwdIdeal.Facts) (hRms1BwdRefIdeal : Cert.Rms1BwdRefIdeal.Facts) (hFinalLoss : Cert.FinalLoss.Facts) (hFinalLossIdeal : Cert.FinalLossIdeal.Facts) (hFinalLossRefIdeal : Cert.FinalLossRefIdeal.Facts) (hRmsFwd : Cert.RmsFwd.Facts) (hRmsFwdIdeal : Cert.RmsFwdIdeal.Facts) (hRmsFwdRefIdeal : Cert.RmsFwdRefIdeal.Facts) (hDSsm : Cert.DSsm.Facts) (hDSsmIdeal : Cert.DSsmIdeal.Facts) (hDSsmRefIdeal : Cert.DSsmRefIdeal.Facts) (hGlu : Cert.Glu.Facts) (hGluIdeal : Cert.GluIdeal.Facts) (hGluRefIdeal : Cert.GluRefIdeal.Facts) (hMergeFwd : Cert.MergeFwd.Facts) (hMergeFwdIdeal : Cert.MergeFwdIdeal.Facts) (hMergeFwdRefIdeal : Cert.MergeFwdRefIdeal.Facts) (hAttnBwd : Cert.AttnBwd.Facts) (hAttnBwdIdeal : Cert.AttnBwdIdeal.Facts) (hAttnBwdRefIdeal : Cert.AttnBwdRefIdeal.Facts) (hSsmDiscBwd : Cert.SsmDiscBwd.Facts) (hSsmDiscBwdIdeal : Cert.SsmDiscBwdIdeal.Facts) (hSsmDiscBwdRefIdeal : Cert.SsmDiscBwdRefIdeal.Facts) (hSsmDiscFwd : Cert.SsmDiscFwd.Facts) (hSsmDiscFwdIdeal : Cert.SsmDiscFwdIdeal.Facts) (hSsmDiscFwdRefIdeal : Cert.SsmDiscFwdRefIdeal.Facts) (hJoinDproj : Cert.JoinDproj.Facts) (hJoinDprojIdeal : Cert.JoinDprojIdeal.Facts) (hJoinDprojRefIdeal : Cert.JoinDprojRefIdeal.Facts) (hPre_ffn_finite : Cert.Pre_ffn_finite.Facts) (hPre_attn_finite : Cert.Pre_attn_finite.Facts),
    quiescent_Kernel (hKernel := hKernel)
    ∧ quiescent_KernelIdeal (hKernelIdeal := hKernelIdeal)
    ∧ quiescent_KernelIdeal_pre_ffn_finite (hKernelIdeal := hKernelIdeal) (hPre_ffn_finite := hPre_ffn_finite)
    ∧ quiescent_ReferenceIdeal (hReferenceIdeal := hReferenceIdeal)
    ∧ quiescent_ReferenceIdeal_pre_ffn_finite (hReferenceIdeal := hReferenceIdeal) (hPre_ffn_finite := hPre_ffn_finite)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DAct (hDAct := hDAct)
    ∧ quiescent_DActIdeal (hDActIdeal := hDActIdeal)
    ∧ quiescent_DActRefIdeal (hDActRefIdeal := hDActRefIdeal)
    ∧ quiescent_DH2 (hDH2 := hDH2)
    ∧ quiescent_DH2Ideal (hDH2Ideal := hDH2Ideal)
    ∧ quiescent_DH2RefIdeal (hDH2RefIdeal := hDH2RefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DH1 (hDH1 := hDH1)
    ∧ quiescent_DH1Ideal (hDH1Ideal := hDH1Ideal)
    ∧ quiescent_DH1RefIdeal (hDH1RefIdeal := hDH1RefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DAttn (hDAttn := hDAttn)
    ∧ quiescent_DAttnIdeal (hDAttnIdeal := hDAttnIdeal)
    ∧ quiescent_DAttnRefIdeal (hDAttnRefIdeal := hDAttnRefIdeal)
    ∧ quiescent_DwBa (hDwBa := hDwBa)
    ∧ quiescent_DwBaIdeal (hDwBaIdeal := hDwBaIdeal)
    ∧ quiescent_DwBaRefIdeal (hDwBaRefIdeal := hDwBaRefIdeal)
    ∧ quiescent_DwBs (hDwBs := hDwBs)
    ∧ quiescent_DwBsIdeal (hDwBsIdeal := hDwBsIdeal)
    ∧ quiescent_DwBsRefIdeal (hDwBsRefIdeal := hDwBsRefIdeal)
    ∧ quiescent_DwGlu (hDwGlu := hDwGlu)
    ∧ quiescent_DwGluIdeal (hDwGluIdeal := hDwGluIdeal)
    ∧ quiescent_DwGluRefIdeal (hDwGluRefIdeal := hDwGluRefIdeal)
    ∧ quiescent_DGy (hDGy := hDGy)
    ∧ quiescent_DGyIdeal (hDGyIdeal := hDGyIdeal)
    ∧ quiescent_DGyRefIdeal (hDGyRefIdeal := hDGyRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_BranchA (hBranchA := hBranchA)
    ∧ quiescent_BranchAIdeal (hBranchAIdeal := hBranchAIdeal)
    ∧ quiescent_BranchARefIdeal (hBranchARefIdeal := hBranchARefIdeal)
    ∧ quiescent_BranchS (hBranchS := hBranchS)
    ∧ quiescent_BranchSIdeal (hBranchSIdeal := hBranchSIdeal)
    ∧ quiescent_BranchSRefIdeal (hBranchSRefIdeal := hBranchSRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_ProjUp (hProjUp := hProjUp)
    ∧ quiescent_ProjUpIdeal (hProjUpIdeal := hProjUpIdeal)
    ∧ quiescent_ProjUpRefIdeal (hProjUpRefIdeal := hProjUpRefIdeal)
    ∧ quiescent_ProjDown (hProjDown := hProjDown)
    ∧ quiescent_ProjDownIdeal (hProjDownIdeal := hProjDownIdeal)
    ∧ quiescent_ProjDownRefIdeal (hProjDownRefIdeal := hProjDownRefIdeal)
    ∧ quiescent_DMerged (hDMerged := hDMerged)
    ∧ quiescent_DMergedIdeal (hDMergedIdeal := hDMergedIdeal)
    ∧ quiescent_DMergedRefIdeal (hDMergedRefIdeal := hDMergedRefIdeal)
    ∧ quiescent_Rms2Bwd (hRms2Bwd := hRms2Bwd)
    ∧ quiescent_Rms2BwdIdeal (hRms2BwdIdeal := hRms2BwdIdeal)
    ∧ quiescent_Rms2BwdRefIdeal (hRms2BwdRefIdeal := hRms2BwdRefIdeal)
    ∧ quiescent_Rms1Bwd (hRms1Bwd := hRms1Bwd)
    ∧ quiescent_Rms1BwdIdeal (hRms1BwdIdeal := hRms1BwdIdeal)
    ∧ quiescent_Rms1BwdRefIdeal (hRms1BwdRefIdeal := hRms1BwdRefIdeal)
    ∧ quiescent_FinalLoss (hFinalLoss := hFinalLoss)
    ∧ quiescent_FinalLossIdeal (hFinalLossIdeal := hFinalLossIdeal)
    ∧ quiescent_FinalLossRefIdeal (hFinalLossRefIdeal := hFinalLossRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_DSsm (hDSsm := hDSsm)
    ∧ quiescent_DSsmIdeal (hDSsmIdeal := hDSsmIdeal)
    ∧ quiescent_DSsmRefIdeal (hDSsmRefIdeal := hDSsmRefIdeal)
    ∧ quiescent_Glu (hGlu := hGlu)
    ∧ quiescent_GluIdeal (hGluIdeal := hGluIdeal)
    ∧ quiescent_GluRefIdeal (hGluRefIdeal := hGluRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnBwdRefIdeal (hAttnBwdRefIdeal := hAttnBwdRefIdeal)
    ∧ quiescent_AttnBwdRefIdeal_pre_attn_finite (hAttnBwdRefIdeal := hAttnBwdRefIdeal) (hPre_attn_finite := hPre_attn_finite)
    ∧ quiescent_SsmDiscBwd (hSsmDiscBwd := hSsmDiscBwd)
    ∧ quiescent_SsmDiscBwdIdeal (hSsmDiscBwdIdeal := hSsmDiscBwdIdeal)
    ∧ quiescent_SsmDiscBwdRefIdeal (hSsmDiscBwdRefIdeal := hSsmDiscBwdRefIdeal)
    ∧ quiescent_SsmDiscFwd (hSsmDiscFwd := hSsmDiscFwd)
    ∧ quiescent_SsmDiscFwdIdeal (hSsmDiscFwdIdeal := hSsmDiscFwdIdeal)
    ∧ quiescent_SsmDiscFwdRefIdeal (hSsmDiscFwdRefIdeal := hSsmDiscFwdRefIdeal)
    ∧ quiescent_JoinDproj (hJoinDproj := hJoinDproj)
    ∧ quiescent_JoinDprojIdeal (hJoinDprojIdeal := hJoinDprojIdeal)
    ∧ quiescent_JoinDprojRefIdeal (hJoinDprojRefIdeal := hJoinDprojRefIdeal)
    ∧ preserves_Kernel_KernelIdeal
    ∧ algebraic_KernelIdeal_ReferenceIdeal_pre_ffn_finite (hKernelIdeal := hKernelIdeal) (hReferenceIdeal := hReferenceIdeal) (hPre_ffn_finite := hPre_ffn_finite)
    ∧ preserves_DwUp_DwUpIdeal
    ∧ algebraic_DwUpIdeal_DwUpRefIdeal (hDwUpIdeal := hDwUpIdeal) (hDwUpRefIdeal := hDwUpRefIdeal)
    ∧ preserves_DAct_DActIdeal
    ∧ algebraic_DActIdeal_DActRefIdeal (hDActIdeal := hDActIdeal) (hDActRefIdeal := hDActRefIdeal)
    ∧ preserves_DH2_DH2Ideal
    ∧ algebraic_DH2Ideal_DH2RefIdeal (hDH2Ideal := hDH2Ideal) (hDH2RefIdeal := hDH2RefIdeal)
    ∧ preserves_DwDown_DwDownIdeal
    ∧ algebraic_DwDownIdeal_DwDownRefIdeal (hDwDownIdeal := hDwDownIdeal) (hDwDownRefIdeal := hDwDownRefIdeal)
    ∧ preserves_DwIn_DwInIdeal
    ∧ algebraic_DwInIdeal_DwInRefIdeal (hDwInIdeal := hDwInIdeal) (hDwInRefIdeal := hDwInRefIdeal)
    ∧ preserves_DH1_DH1Ideal
    ∧ algebraic_DH1Ideal_DH1RefIdeal (hDH1Ideal := hDH1Ideal) (hDH1RefIdeal := hDH1RefIdeal)
    ∧ preserves_DwOut_DwOutIdeal
    ∧ algebraic_DwOutIdeal_DwOutRefIdeal (hDwOutIdeal := hDwOutIdeal) (hDwOutRefIdeal := hDwOutRefIdeal)
    ∧ preserves_DAttn_DAttnIdeal
    ∧ algebraic_DAttnIdeal_DAttnRefIdeal (hDAttnIdeal := hDAttnIdeal) (hDAttnRefIdeal := hDAttnRefIdeal)
    ∧ preserves_DwBa_DwBaIdeal
    ∧ algebraic_DwBaIdeal_DwBaRefIdeal (hDwBaIdeal := hDwBaIdeal) (hDwBaRefIdeal := hDwBaRefIdeal)
    ∧ preserves_DwBs_DwBsIdeal
    ∧ algebraic_DwBsIdeal_DwBsRefIdeal (hDwBsIdeal := hDwBsIdeal) (hDwBsRefIdeal := hDwBsRefIdeal)
    ∧ preserves_DwGlu_DwGluIdeal
    ∧ algebraic_DwGluIdeal_DwGluRefIdeal (hDwGluIdeal := hDwGluIdeal) (hDwGluRefIdeal := hDwGluRefIdeal)
    ∧ preserves_DGy_DGyIdeal
    ∧ algebraic_DGyIdeal_DGyRefIdeal (hDGyIdeal := hDGyIdeal) (hDGyRefIdeal := hDGyRefIdeal)
    ∧ preserves_ProjIn_ProjInIdeal
    ∧ algebraic_ProjInIdeal_ProjInRefIdeal (hProjInIdeal := hProjInIdeal) (hProjInRefIdeal := hProjInRefIdeal)
    ∧ preserves_BranchA_BranchAIdeal
    ∧ algebraic_BranchAIdeal_BranchARefIdeal (hBranchAIdeal := hBranchAIdeal) (hBranchARefIdeal := hBranchARefIdeal)
    ∧ preserves_BranchS_BranchSIdeal
    ∧ algebraic_BranchSIdeal_BranchSRefIdeal (hBranchSIdeal := hBranchSIdeal) (hBranchSRefIdeal := hBranchSRefIdeal)
    ∧ preserves_ProjOut_ProjOutIdeal
    ∧ algebraic_ProjOutIdeal_ProjOutRefIdeal (hProjOutIdeal := hProjOutIdeal) (hProjOutRefIdeal := hProjOutRefIdeal)
    ∧ preserves_ProjUp_ProjUpIdeal
    ∧ algebraic_ProjUpIdeal_ProjUpRefIdeal (hProjUpIdeal := hProjUpIdeal) (hProjUpRefIdeal := hProjUpRefIdeal)
    ∧ preserves_ProjDown_ProjDownIdeal
    ∧ algebraic_ProjDownIdeal_ProjDownRefIdeal (hProjDownIdeal := hProjDownIdeal) (hProjDownRefIdeal := hProjDownRefIdeal)
    ∧ preserves_DMerged_DMergedIdeal
    ∧ algebraic_DMergedIdeal_DMergedRefIdeal (hDMergedIdeal := hDMergedIdeal) (hDMergedRefIdeal := hDMergedRefIdeal)
    ∧ preserves_Rms2Bwd_Rms2BwdIdeal
    ∧ algebraic_Rms2BwdIdeal_Rms2BwdRefIdeal (hRms2BwdIdeal := hRms2BwdIdeal) (hRms2BwdRefIdeal := hRms2BwdRefIdeal)
    ∧ preserves_Rms1Bwd_Rms1BwdIdeal
    ∧ algebraic_Rms1BwdIdeal_Rms1BwdRefIdeal (hRms1BwdIdeal := hRms1BwdIdeal) (hRms1BwdRefIdeal := hRms1BwdRefIdeal)
    ∧ preserves_FinalLoss_FinalLossIdeal
    ∧ algebraic_FinalLossIdeal_FinalLossRefIdeal (hFinalLossIdeal := hFinalLossIdeal) (hFinalLossRefIdeal := hFinalLossRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_DSsm_DSsmIdeal
    ∧ algebraic_DSsmIdeal_DSsmRefIdeal (hDSsmIdeal := hDSsmIdeal) (hDSsmRefIdeal := hDSsmRefIdeal)
    ∧ preserves_Glu_GluIdeal
    ∧ algebraic_GluIdeal_GluRefIdeal (hGluIdeal := hGluIdeal) (hGluRefIdeal := hGluRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_AttnBwd_AttnBwdIdeal
    ∧ algebraic_AttnBwdIdeal_AttnBwdRefIdeal_pre_attn_finite (hAttnBwdIdeal := hAttnBwdIdeal) (hAttnBwdRefIdeal := hAttnBwdRefIdeal) (hPre_attn_finite := hPre_attn_finite)
    ∧ preserves_SsmDiscBwd_SsmDiscBwdIdeal
    ∧ algebraic_SsmDiscBwdIdeal_SsmDiscBwdRefIdeal (hSsmDiscBwdIdeal := hSsmDiscBwdIdeal) (hSsmDiscBwdRefIdeal := hSsmDiscBwdRefIdeal)
    ∧ preserves_SsmDiscFwd_SsmDiscFwdIdeal
    ∧ algebraic_SsmDiscFwdIdeal_SsmDiscFwdRefIdeal (hSsmDiscFwdIdeal := hSsmDiscFwdIdeal) (hSsmDiscFwdRefIdeal := hSsmDiscFwdRefIdeal)
    ∧ preserves_JoinDproj_JoinDprojIdeal
    ∧ algebraic_JoinDprojIdeal_JoinDprojRefIdeal (hJoinDprojIdeal := hJoinDprojIdeal) (hJoinDprojRefIdeal := hJoinDprojRefIdeal)
-- ==== Pre_attn_finite.lean ====
abbrev S8192x5888 : Shape := ⟨2, ![8192, 5888]⟩
abbrev S16 : Shape := ⟨1, ![16]⟩
abbrev S8192x1024 : Shape := ⟨2, ![8192, 1024]⟩
abbrev S8192x1280 : Shape := ⟨2, ![8192, 1280]⟩
abbrev S_ : Shape := ⟨0, ![]⟩

class Facts : Prop where
  slices_S8192x5888_S8192x1280_0_0 : S8192x5888.Slices ![0, 0] S8192x1280
  bcast_S_S8192x1280 : S_.BroadcastsInDim S8192x1280 (![] : Fin 0 → Fin S8192x1280.rank)
  bcast_S_S16 : S_.BroadcastsInDim S16 (![] : Fin 0 → Fin S16.rank)
  bitsLt_bf16_f32 : FTy.bits .bf16 < FTy.bits .f32
  bcast_S_S8192x1024 : S_.BroadcastsInDim S8192x1024 (![] : Fin 0 → Fin S8192x1024.rank)

variable [Facts]

def fn {F : FTy → Type} [FloatOps F] (main_arg0 : FVec F S8192x5888 .f32) (main_arg1 : FVec F S16 .f32) (main_arg2 : FVec F S8192x1024 .bf16) : IVec S8192x1280 1 × IVec S16 1 × IVec S8192x1024 1 :=
  let main_v0 : FVec F S8192x1280 .f32 := (extractStridedSlice S8192x1280 ![0, 0] · slices_S8192x5888_S8192x1280_0_0) main_arg0
  let main_v1 : FVec F S8192x1280 .f32 := Host.absf main_v0
  let main_cst : FVec F S_ .f32 := constant S_ .f32 0x7F800000#32
  let main_v2 : FVec F S8192x1280 .f32 := broadcastInDim S8192x1280 ![] bcast_S_S8192x1280 main_cst
  let main_v3 : IVec S8192x1280 1 := cmpf .olt main_v1 main_v2
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_v7 : FVec F S8192x1024 .f32 := (extf .f32 · bitsLt_bf16_f32) main_arg2
  let main_v8 : FVec F S8192x1024 .f32 := Host.absf main_v7
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  (main_v3, main_v6, main_v10)
-- ==== Pre_ffn_finite.lean ====
abbrev S8192x5632 : Shape := ⟨2, ![8192, 5632]⟩
abbrev S8192x11264 : Shape := ⟨2, ![8192, 11264]⟩
abbrev S3x5632 : Shape := ⟨2, ![3, 5632]⟩
abbrev S1x5632 : Shape := ⟨2, ![1, 5632]⟩
abbrev S_ : Shape := ⟨0, ![]⟩
abbrev S8192x2816 : Shape := ⟨2, ![8192, 2816]⟩

class Facts : Prop where
  bitsLt_bf16_f32 : FTy.bits .bf16 < FTy.bits .f32
  bcast_S_S8192x5632 : S_.BroadcastsInDim S8192x5632 (![] : Fin 0 → Fin S8192x5632.rank)
  slices_S8192x11264_S8192x2816_0_0 : S8192x11264.Slices ![0, 0] S8192x2816
  bcast_S_S8192x2816 : S_.BroadcastsInDim S8192x2816 (![] : Fin 0 → Fin S8192x2816.rank)
  slices_S8192x11264_S8192x2816_0_5632 : S8192x11264.Slices ![0, 5632] S8192x2816

variable [Facts]

def fn {F : FTy → Type} [FloatOps F] (main_arg0 : FVec F S8192x5632 .bf16) (main_arg1 : FVec F S8192x11264 .bf16) (main_arg2 : FVec F S3x5632 .f32) (main_arg3 : FVec F S1x5632 .f32) : IVec S8192x5632 1 × IVec S8192x2816 1 × IVec S8192x2816 1 :=
  let main_v0 : FVec F S8192x5632 .f32 := (extf .f32 · bitsLt_bf16_f32) main_arg0
  let main_v1 : FVec F S8192x5632 .f32 := Host.absf main_v0
  let main_cst : FVec F S_ .f32 := constant S_ .f32 0x7F800000#32
  let main_v2 : FVec F S8192x5632 .f32 := broadcastInDim S8192x5632 ![] bcast_S_S8192x5632 main_cst
  let main_v3 : IVec S8192x5632 1 := cmpf .olt main_v1 main_v2
  let main_v4 : FVec F S8192x2816 .bf16 := (extractStridedSlice S8192x2816 ![0, 0] · slices_S8192x11264_S8192x2816_0_0) main_arg1
  let main_v5 : FVec F S8192x2816 .f32 := (extf .f32 · bitsLt_bf16_f32) main_v4
  let main_v6 : FVec F S8192x2816 .f32 := Host.absf main_v5
  let main_cst_0 : FVec F S_ .f32 := constant S_ .f32 0x7F800000#32
  let main_v7 : FVec F S8192x2816 .f32 := broadcastInDim S8192x2816 ![] bcast_S_S8192x2816 main_cst_0
  let main_v8 : IVec S8192x2816 1 := cmpf .olt main_v6 main_v7
  let main_v9 : FVec F S8192x2816 .bf16 := (extractStridedSlice S8192x2816 ![0, 5632] · slices_S8192x11264_S8192x2816_0_5632) main_arg1
  let main_v10 : FVec F S8192x2816 .f32 := (extf .f32 · bitsLt_bf16_f32) main_v9
  let main_v11 : FVec F S8192x2816 .f32 := Host.absf main_v10
  let main_cst_1 : FVec F S_ .f32 := constant S_ .f32 0x7F800000#32
  let main_v12 : FVec F S8192x2816 .f32 := broadcastInDim S8192x2816 ![] bcast_S_S8192x2816 main_cst_1
  let main_v13 : IVec S8192x2816 1 := cmpf .olt main_v11 main_v12
  (main_v3, main_v8, main_v13)
-- ==== Kernel.lean ====
abbrev S8192x5632 : Shape := ⟨2, ![8192, 5632]⟩
abbrev S8192x11264 : Shape := ⟨2, ![8192, 11264]⟩
abbrev S3x5632 : Shape := ⟨2, ![3, 5632]⟩
abbrev S1x5632 : Shape := ⟨2, ![1, 5632]⟩
abbrev S512x2816 : Shape := ⟨2, ![512, 2816]⟩
abbrev S16x2816 : Shape := ⟨2, ![16, 2816]⟩
abbrev S3x2816 : Shape := ⟨2, ![3, 2816]⟩
abbrev S1x2816 : Shape := ⟨2, ![1, 2816]⟩
abbrev S512x5632 : Shape := ⟨2, ![512, 5632]⟩
abbrev S8x2816 : Shape := ⟨2, ![8, 2816]⟩
abbrev S536x2816 : Shape := ⟨2, ![536, 2816]⟩
abbrev S520x2816 : Shape := ⟨2, ![520, 2816]⟩
abbrev S2816 : Shape := ⟨1, ![2816]⟩

abbrev nBuf : Space → Nat
  | .hbm => 7
  | .vmem => 24
  | .smem => 0
  | _ => 0

abbrev bufTy : (tb : Table) → Fin (tcTables nBuf tb) → BufTy
  | .hbm, ⟨0, _⟩ => ⟨S8192x5632, .bf16⟩
  | .hbm, ⟨1, _⟩ => ⟨S8192x11264, .bf16⟩
  | .hbm, ⟨2, _⟩ => ⟨S3x5632, .f32⟩
  | .hbm, ⟨3, _⟩ => ⟨S1x5632, .f32⟩
  | .hbm, ⟨4, _⟩ => ⟨S8192x11264, .bf16⟩
  | .hbm, ⟨5, _⟩ => ⟨S3x5632, .f32⟩
  | .hbm, ⟨6, _⟩ => ⟨S1x5632, .f32⟩
  | .local _ .vmem, ⟨0, _⟩ => ⟨S512x2816, .bf16⟩
  | .local _ .vmem, ⟨1, _⟩ => ⟨S512x2816, .bf16⟩
  | .local _ .vmem, ⟨2, _⟩ => ⟨S16x2816, .bf16⟩
  | .local _ .vmem, ⟨3, _⟩ => ⟨S16x2816, .bf16⟩
  | .local _ .vmem, ⟨4, _⟩ => ⟨S512x2816, .bf16⟩
  | .local _ .vmem, ⟨5, _⟩ => ⟨S512x2816, .bf16⟩
  | .local _ .vmem, ⟨6, _⟩ => ⟨S16x2816, .bf16⟩
  | .local _ .vmem, ⟨7, _⟩ => ⟨S16x2816, .bf16⟩
  | .local _ .vmem, ⟨8, _⟩ => ⟨S512x2816, .bf16⟩
  | .local _ .vmem, ⟨9, _⟩ => ⟨S512x2816, .bf16⟩
  | .local _ .vmem, ⟨10, _⟩ => ⟨S16x2816, .bf16⟩
  | .local _ .vmem, ⟨11, _⟩ => ⟨S16x2816, .bf16⟩
  | .local _ .vmem, ⟨12, _⟩ => ⟨S16x2816, .bf16⟩
  | .local _ .vmem, ⟨13, _⟩ => ⟨S16x2816, .bf16⟩
  | .local _ .vmem, ⟨14, _⟩ => ⟨S3x2816, .f32⟩
  | .local _ .vmem, ⟨15, _⟩ => ⟨S3x2816, .f32⟩
  | .local _ .vmem, ⟨16, _⟩ => ⟨S1x2816, .f32⟩
  | .local _ .vmem, ⟨17, _⟩ => ⟨S1x2816, .f32⟩
  | .local _ .vmem, ⟨18, _⟩ => ⟨S512x5632, .bf16⟩
  | .local _ .vmem, ⟨19, _⟩ => ⟨S512x5632, .bf16⟩
  | .local _ .vmem, ⟨20, _⟩ => ⟨S3x2816, .f32⟩
  | .local _ .vmem, ⟨21, _⟩ => ⟨S3x2816, .f32⟩
  | .local _ .vmem, ⟨22, _⟩ => ⟨S1x2816, .f32⟩
  | .local _ .vmem, ⟨23, _⟩ => ⟨S1x2816, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c2_i32 : BitVec 32 := 2#32
  let v3 : BitVec 32 := Scalar.muli c2_i32 arg0
  let c0_i32 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg1.toNat, v1.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.muli c2_i32 arg0
  let c1_i32_0 : BitVec 32 := 1#32
  let v4 : BitVec 32 := Scalar.addi v3 c1_i32_0
  let c0_i32_1 : BitVec 32 := 0#32
  ![v2.toNat, v4.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c2_i32 : BitVec 32 := 2#32
  let v3 : BitVec 32 := Scalar.muli c2_i32 arg0
  let c1_i32_0 : BitVec 32 := 1#32
  let v4 : BitVec 32 := Scalar.addi v3 c1_i32_0
  let c0_i32 : BitVec 32 := 0#32
  ![v2.toNat, v4.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S3x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2816 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "inv_sqrt2" => some (((Real.sqrt 2)⁻¹ : ℝ) : EReal)
  | "inv_sqrt2pi" => some (((Real.sqrt (2 * Real.pi))⁻¹ : ℝ) : EReal)
  | _ => none
-- ==== ReferenceIdeal.lean ====
abbrev S8192x5632 : Shape := ⟨2, ![8192, 5632]⟩
abbrev S8192x11264 : Shape := ⟨2, ![8192, 11264]⟩
abbrev S3x5632 : Shape := ⟨2, ![3, 5632]⟩
abbrev S1x5632 : Shape := ⟨2, ![1, 5632]⟩
abbrev S8192x2816 : Shape := ⟨2, ![8192, 2816]⟩
abbrev S2x5632 : Shape := ⟨2, ![2, 5632]⟩
abbrev S8194x5632 : Shape := ⟨2, ![8194, 5632]⟩
abbrev S5632 : Shape := ⟨1, ![5632]⟩
abbrev S8193x5632 : Shape := ⟨2, ![8193, 5632]⟩

abbrev nBuf : Space → Nat
  | .hbm => 7
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x11264, .bf16⟩
  | .hbm, ⟨2, _⟩ => ⟨S3x5632, .f32⟩
  | .hbm, ⟨3, _⟩ => ⟨S1x5632, .f32⟩
  | .hbm, ⟨4, _⟩ => ⟨S8192x11264, .bf16⟩
  | .hbm, ⟨5, _⟩ => ⟨S3x5632, .f32⟩
  | .hbm, ⟨6, _⟩ => ⟨S1x5632, .f32⟩
  | .local _ .vmem, ⟨0, _⟩ => ⟨S8192x5632, .bf16⟩
  | .local _ .vmem, ⟨1, _⟩ => ⟨S8192x11264, .bf16⟩
  | .local _ .vmem, ⟨2, _⟩ => ⟨S3x5632, .f32⟩
  | .local _ .vmem, ⟨3, _⟩ => ⟨S1x5632, .f32⟩
  | .local _ .vmem, ⟨4, _⟩ => ⟨S8192x11264, .bf16⟩
  | .local _ .vmem, ⟨5, _⟩ => ⟨S3x5632, .f32⟩
  | .local _ .vmem, ⟨6, _⟩ => ⟨S1x5632, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "erf_slope" => some ((2 * (Real.sqrt Real.pi)⁻¹ : ℝ) : EReal)
  | "sqrt_half" => some (((Real.sqrt 2)⁻¹ : ℝ) : EReal)
  | _ => none

abbrev grid0 : Pipeline.Grid := .none

abbrev stage0_0 : Fin 1 → Memref sig .tc .vmem S8192x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x11264 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x11264 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== DwUp.lean ====
abbrev S8192x2048 : Shape := ⟨2, ![8192, 2048]⟩
abbrev S8192x11264 : Shape := ⟨2, ![8192, 11264]⟩
abbrev S2048x11264 : Shape := ⟨2, ![2048, 11264]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S2048x11264, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S8192x2048 : Shape := ⟨2, ![8192, 2048]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S_, .f32⟩
  | .hbm, ⟨3, _⟩ => ⟨S2048x11264, .f32⟩
  | .hbm, ⟨4, _⟩ => ⟨S8192x2048, .f32⟩
  | .hbm, ⟨5, _⟩ => ⟨S8192x11264, .f32⟩
  | .hbm, ⟨6, _⟩ => ⟨S8192x11264, .f32⟩
  | .hbm, ⟨7, _⟩ => ⟨S11264x2048, .f32⟩
  | .hbm, ⟨8, _⟩ => ⟨S2048x11264, .f32⟩
  | .hbm, ⟨9, _⟩ => ⟨S8192x2048, .f32⟩
  | .hbm, ⟨10, _⟩ => ⟨S2048x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DAct.lean ====
abbrev S8192x2048 : Shape := ⟨2, ![8192, 2048]⟩
abbrev S5632x2048 : Shape := ⟨2, ![5632, 2048]⟩
abbrev S8192x5632 : Shape := ⟨2, ![8192, 5632]⟩
abbrev S512x2048 : Shape := ⟨2, ![512, 2048]⟩
abbrev S2816x2048 : Shape := ⟨2, ![2816, 2048]⟩
abbrev S512x2816 : Shape := ⟨2, ![512, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S2816x2048, .bf16⟩
  | .local _ .vmem, ⟨3, _⟩ => ⟨S2816x2048, .bf16⟩
  | .local _ .vmem, ⟨4, _⟩ => ⟨S512x2816, .bf16⟩
  | .local _ .vmem, ⟨5, _⟩ => ⟨S512x2816, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActRefIdeal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S_, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S8192x5632, .f32⟩
  | .hbm, ⟨10, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DH2.lean ====
abbrev S8192x11264 : Shape := ⟨2, ![8192, 11264]⟩
abbrev S2048x11264 : Shape := ⟨2, ![2048, 11264]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x11264, .bf16⟩
  | .hbm, ⟨1, _⟩ => ⟨S2048x11264, .bf16⟩
  | .hbm, ⟨2, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH2RefIdeal.lean ====
abbrev S8192x11264 : Shape := ⟨2, ![8192, 11264]⟩
abbrev S2048x11264 : Shape := ⟨2, ![2048, 11264]⟩
abbrev S_ : Shape := ⟨0, ![]⟩
abbrev S8192x2048 : Shape := ⟨2, ![8192, 2048]⟩
abbrev S11264x2048 : Shape := ⟨2, ![11264, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S2048x11264, .bf16⟩
  | .hbm, ⟨2, _⟩ => ⟨S_, .f32⟩
  | .hbm, ⟨3, _⟩ => ⟨S8192x2048, .f32⟩
  | .hbm, ⟨4, _⟩ => ⟨S2048x11264, .f32⟩
  | .hbm, ⟨5, _⟩ => ⟨S8192x11264, .f32⟩
  | .hbm, ⟨6, _⟩ => ⟨S8192x11264, .f32⟩
  | .hbm, ⟨7, _⟩ => ⟨S11264x2048, .f32⟩
  | .hbm, ⟨8, _⟩ => ⟨S2048x11264, .f32⟩
  | .hbm, ⟨9, _⟩ => ⟨S8192x2048, .f32⟩
  | .hbm, ⟨10, _⟩ => ⟨S8192x2048, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwDown.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S8192x5632, .f32⟩
  | .hbm, ⟨10, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwIn.lean ====
abbrev S8192x5888 : Shape := ⟨2, ![8192, 5888]⟩
abbrev S8192x2048 : Shape := ⟨2, ![8192, 2048]⟩
abbrev S5888x2048 : Shape := ⟨2, ![5888, 2048]⟩
abbrev S1024x2944 : Shape := ⟨2, ![1024, 2944]⟩
abbrev S1024x1024 : Shape := ⟨2, ![1024, 1024]⟩
abbrev S2944x1024 : Shape := ⟨2, ![2944, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5888, .bf16⟩
  | .hbm, ⟨1, _⟩ => ⟨S8192x2048, .bf16⟩
  | .hbm, ⟨2, _⟩ => ⟨S5888x2048, .bf16⟩
  | .local _ .vmem, ⟨0, _⟩ => ⟨S1024x2944, .bf16⟩
  | .local _ .vmem, ⟨1, _⟩ => ⟨S1024x2944, .bf16⟩
  | .local _ .vmem, ⟨2, _⟩ => ⟨S1024x1024, .bf16⟩
  | .local _ .vmem, ⟨3, _⟩ => ⟨S1024x1024, .bf16⟩
  | .local _ .vmem, ⟨4, _⟩ => ⟨S2944x1024, .bf16⟩
  | .local _ .vmem, ⟨5, _⟩ => ⟨S2944x1024, .bf16⟩
  | .local _ .vmem, ⟨6, _⟩ => ⟨S2944x1024, .f32⟩
  | _, _ => ⟨S8192x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2944x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S8192x5888 : Shape := ⟨2, ![8192, 5888]⟩
abbrev S8192x2048 : Shape := ⟨2, ![8192, 2048]⟩
abbrev S_ : Shape := ⟨0, ![]⟩
abbrev S5888x2048 : Shape := ⟨2, ![5888, 2048]⟩
abbrev S2048x5888 : Shape := ⟨2, ![2048, 5888]⟩

abbrev nBuf : Space → Nat
  | .hbm => 13
  | .vmem => 0
  | .smem => 0
  | _ => 0

abbrev bufTy : (tb : Table) → Fin (tcTables nBuf tb) → BufTy
  | .hbm, ⟨0, _⟩ => ⟨S8192x5888, .bf16⟩
  | .hbm, ⟨1, _⟩ => ⟨S8192x2048, .bf16⟩
  | .hbm, ⟨2, _⟩ => ⟨S8192x2048, .f32⟩
  | .hbm, ⟨3, _⟩ => ⟨S_, .f32⟩
  | .hbm, ⟨4, _⟩ => ⟨S5888x2048, .f32⟩
  | .hbm, ⟨5, _⟩ => ⟨S2048x5888, .f32⟩
  | .hbm, ⟨6, _⟩ => ⟨S8192x5888, .f32⟩
  | .hbm, ⟨7, _⟩ => ⟨S8192x5888, .f32⟩
  | .hbm, ⟨8, _⟩ => ⟨S5888x2048, .f32⟩
  | .hbm, ⟨9, _⟩ => ⟨S2048x5888, .f32⟩
  | .hbm, ⟨10, _⟩ => ⟨S8192x2048, .f32⟩
  | .hbm, ⟨11, _⟩ => ⟨S5888x2048, .f32⟩
  | .hbm, ⟨12, _⟩ => ⟨S5888x2048, .bf16⟩
  | _, _ => ⟨S8192x5888, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DH1.lean ====
abbrev S8192x5888 : Shape := ⟨2, ![8192, 5888]⟩
abbrev S5888x2048 : Shape := ⟨2, ![5888, 2048]⟩
abbrev S8192x2048 : Shape := ⟨2, ![8192, 2048]⟩
abbrev S1024x2944 : Shape := ⟨2, ![1024, 2944]⟩
abbrev S2944x1024 : Shape := ⟨2, ![2944, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5888, .bf16⟩
  | .hbm, ⟨1, _⟩ => ⟨S5888x2048, .bf16⟩
  | .hbm, ⟨2, _⟩ => ⟨S8192x2048, .bf16⟩
  | .local _ .vmem, ⟨0, _⟩ => ⟨S1024x2944, .bf16⟩
  | .local _ .vmem, ⟨1, _⟩ => ⟨S1024x2944, .bf16⟩
  | .local _ .vmem, ⟨2, _⟩ => ⟨S2944x1024, .bf16⟩
  | .local _ .vmem, ⟨3, _⟩ => ⟨S2944x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2944x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH1RefIdeal.lean ====
abbrev S8192x5888 : Shape := ⟨2, ![8192, 5888]⟩
abbrev S5888x2048 : Shape := ⟨2, ![5888, 2048]⟩
abbrev S_ : Shape := ⟨0, ![]⟩
abbrev S8192x2048 : Shape := ⟨2, ![8192, 2048]⟩
abbrev S2048x5888 : Shape := ⟨2, ![2048, 5888]⟩

abbrev nBuf : Space → Nat
  | .hbm => 13
  | .vmem => 0
  | .smem => 0
  | _ => 0

abbrev bufTy : (tb : Table) → Fin (tcTables nBuf tb) → BufTy
  | .hbm, ⟨0, _⟩ => ⟨S8192x5888, .bf16⟩
  | .hbm, ⟨1, _⟩ => ⟨S5888x2048, .bf16⟩
  | .hbm, ⟨2, _⟩ => ⟨S_, .f32⟩
  | .hbm, ⟨3, _⟩ => ⟨S8192x2048, .f32⟩
  | .hbm, ⟨4, _⟩ => ⟨S5888x2048, .f32⟩
  | .hbm, ⟨5, _⟩ => ⟨S2048x5888, .f32⟩
  | .hbm, ⟨6, _⟩ => ⟨S8192x5888, .f32⟩
  | .hbm, ⟨7, _⟩ => ⟨S8192x5888, .f32⟩
  | .hbm, ⟨8, _⟩ => ⟨S5888x2048, .f32⟩
  | .hbm, ⟨9, _⟩ => ⟨S2048x5888, .f32⟩
  | .hbm, ⟨10, _⟩ => ⟨S8192x2048, .f32⟩
  | .hbm, ⟨11, _⟩ => ⟨S5888x2048, .f32⟩
  | .hbm, ⟨12, _⟩ => ⟨S8192x2048, .bf16⟩
  | _, _ => ⟨S8192x5888, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DwOut.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S8192x2048, .f32⟩
  | .hbm, ⟨10, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DAttn.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DAttnRefIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S8192x1024, .f32⟩
  | .hbm, ⟨10, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwBa.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwBaRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S8192x1024, .f32⟩
  | .hbm, ⟨10, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwBs.lean ====
abbrev S8192x512 : Shape := ⟨2, ![8192, 512]⟩
abbrev S8192x2048 : Shape := ⟨2, ![8192, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwBsRefIdeal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S_, .f32⟩
  | .hbm, ⟨3, _⟩ => ⟨S512x2048, .f32⟩
  | .hbm, ⟨4, _⟩ => ⟨S8192x512, .f32⟩
  | .hbm, ⟨5, _⟩ => ⟨S8192x2048, .f32⟩
  | .hbm, ⟨6, _⟩ => ⟨S8192x2048, .f32⟩
  | .hbm, ⟨7, _⟩ => ⟨S2048x512, .f32⟩
  | .hbm, ⟨8, _⟩ => ⟨S512x2048, .f32⟩
  | .hbm, ⟨9, _⟩ => ⟨S8192x512, .f32⟩
  | .hbm, ⟨10, _⟩ => ⟨S512x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwGlu.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwGluRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S8192x512, .f32⟩
  | .hbm, ⟨10, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DGy.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DGyRefIdeal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjIn.lean ====
abbrev S8192x2048 : Shape := ⟨2, ![8192, 2048]⟩
abbrev S5888x2048 : Shape := ⟨2, ![5888, 2048]⟩
abbrev S1x5888 : Shape := ⟨2, ![1, 5888]⟩
abbrev S8192x5888 : Shape := ⟨2, ![8192, 5888]⟩
abbrev S512x2048 : Shape := ⟨2, ![512, 2048]⟩
abbrev S2944x2048 : Shape := ⟨2, ![2944, 2048]⟩
abbrev S1x2944 : Shape := ⟨2, ![1, 2944]⟩
abbrev S512x2944 : Shape := ⟨2, ![512, 2944]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S5888x2048, .bf16⟩
  | .hbm, ⟨2, _⟩ => ⟨S1x5888, .f32⟩
  | .hbm, ⟨3, _⟩ => ⟨S8192x5888, .f32⟩
  | .local _ .vmem, ⟨0, _⟩ => ⟨S512x2048, .bf16⟩
  | .local _ .vmem, ⟨1, _⟩ => ⟨S512x2048, .bf16⟩
  | .local _ .vmem, ⟨2, _⟩ => ⟨S2944x2048, .bf16⟩
  | .local _ .vmem, ⟨3, _⟩ => ⟨S2944x2048, .bf16⟩
  | .local _ .vmem, ⟨4, _⟩ => ⟨S1x2944, .f32⟩
  | .local _ .vmem, ⟨5, _⟩ => ⟨S1x2944, .f32⟩
  | .local _ .vmem, ⟨6, _⟩ => ⟨S512x2944, .f32⟩
  | .local _ .vmem, ⟨7, _⟩ => ⟨S512x2944, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2944x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2944 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2944 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjInRefIdeal.lean ====
abbrev S8192x2048 : Shape := ⟨2, ![8192, 2048]⟩
abbrev S5888x2048 : Shape := ⟨2, ![5888, 2048]⟩
abbrev S1x5888 : Shape := ⟨2, ![1, 5888]⟩
abbrev S2048x5888 : Shape := ⟨2, ![2048, 5888]⟩
abbrev S8192x5888 : Shape := ⟨2, ![8192, 5888]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5888x2048, .bf16⟩
  | .hbm, ⟨2, _⟩ => ⟨S1x5888, .f32⟩
  | .hbm, ⟨3, _⟩ => ⟨S8192x2048, .f32⟩
  | .hbm, ⟨4, _⟩ => ⟨S5888x2048, .f32⟩
  | .hbm, ⟨5, _⟩ => ⟨S2048x5888, .f32⟩
  | .hbm, ⟨6, _⟩ => ⟨S8192x5888, .f32⟩
  | .hbm, ⟨7, _⟩ => ⟨S8192x5888, .f32⟩
  | .hbm, ⟨8, _⟩ => ⟨S8192x5888, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchA.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchARefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BranchS.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchSRefIdeal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x512, .f32⟩
  | .hbm, ⟨3, _⟩ => ⟨S512x2048, .f32⟩
  | .hbm, ⟨4, _⟩ => ⟨S8192x2048, .f32⟩
  | .hbm, ⟨5, _⟩ => ⟨S8192x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjOut.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjOutRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjUp.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjUpRefIdeal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | .hbm, ⟨5, _⟩ => ⟨S8192x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjDown.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjDownRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DMerged.lean ====
abbrev S8192x2048 : Shape := ⟨2, ![8192, 2048]⟩
abbrev S2048x2048 : Shape := ⟨2, ![2048, 2048]⟩
abbrev S8192x5888 : Shape := ⟨2, ![8192, 5888]⟩
abbrev S1024x2048 : Shape := ⟨2, ![1024, 2048]⟩
abbrev S256x2048 : Shape := ⟨2, ![256, 2048]⟩
abbrev S1024x256 : Shape := ⟨2, ![1024, 256]⟩

abbrev nBuf : Space → Nat
  | .hbm => 9
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x5888, .f32⟩
  | .hbm, ⟨3, _⟩ => ⟨S8192x2048, .bf16⟩
  | .hbm, ⟨4, _⟩ => ⟨S8192x2048, .bf16⟩
  | .hbm, ⟨5, _⟩ => ⟨S8192x2048, .bf16⟩
  | .hbm, ⟨6, _⟩ => ⟨S8192x2048, .bf16⟩
  | .hbm, ⟨7, _⟩ => ⟨S8192x2048, .bf16⟩
  | .hbm, ⟨8, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.addi c15_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== DMergedRefIdeal.lean ====
abbrev S8192x2048 : Shape := ⟨2, ![8192, 2048]⟩
abbrev S2048x2048 : Shape := ⟨2, ![2048, 2048]⟩
abbrev S8192x5888 : Shape := ⟨2, ![8192, 5888]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x5888, .f32⟩
  | .hbm, ⟨3, _⟩ => ⟨S8192x2048, .bf16⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .bf16⟩
  | .hbm, ⟨47, _⟩ => ⟨S8192x2048, .bf16⟩
  | .hbm, ⟨48, _⟩ => ⟨S8192x2048, .bf16⟩
  | .hbm, ⟨49, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Rms2Bwd.lean ====
abbrev S8192x2048 : Shape := ⟨2, ![8192, 2048]⟩
abbrev S1x2048 : Shape := ⟨2, ![1, 2048]⟩
abbrev S256x2048 : Shape := ⟨2, ![256, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S8192x2048, .bf16⟩
  | .hbm, ⟨5, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Rms2BwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Rms1Bwd.lean ====
abbrev S8192x2048 : Shape := ⟨2, ![8192, 2048]⟩
abbrev S1x2048 : Shape := ⟨2, ![1, 2048]⟩
abbrev S256x2048 : Shape := ⟨2, ![256, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S8192x2048, .f32⟩
  | .hbm, ⟨5, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Rms1BwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== FinalLoss.lean ====
abbrev S8192x2048 : Shape := ⟨2, ![8192, 2048]⟩
abbrev S1x2048 : Shape := ⟨2, ![1, 2048]⟩
abbrev S1x1 : Shape := ⟨2, ![1, 1]⟩
abbrev S256x2048 : Shape := ⟨2, ![256, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩
abbrev S1 : Shape := ⟨1, ![1]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .bf16⟩
  | .hbm, ⟨4, _⟩ => ⟨S1x2048, .f32⟩
  | .hbm, ⟨5, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | .local _ .vmem, ⟨8, _⟩ => ⟨S1x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FinalLossRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .bf16⟩
  | .hbm, ⟨69, _⟩ => ⟨S1x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== RmsFwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== DSsm.lean ====
abbrev S8192x2048 : Shape := ⟨2, ![8192, 2048]⟩
abbrev S512x2048 : Shape := ⟨2, ![512, 2048]⟩
abbrev S8192x1024 : Shape := ⟨2, ![8192, 1024]⟩
abbrev S1x1024 : Shape := ⟨2, ![1, 1024]⟩
abbrev S1024x2048 : Shape := ⟨2, ![1024, 2048]⟩
abbrev S1024x512 : Shape := ⟨2, ![1024, 512]⟩
abbrev S1024x1024 : Shape := ⟨2, ![1024, 1024]⟩
abbrev S1x512 : Shape := ⟨2, ![1, 512]⟩
abbrev S512 : Shape := ⟨1, ![512]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S8192x1024, .f32⟩
  | .hbm, ⟨3, _⟩ => ⟨S8192x1024, .bf16⟩
  | .hbm, ⟨4, _⟩ => ⟨S1x1024, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]
-- ==== DSsmRefIdeal.lean ====
abbrev S8192x2048 : Shape := ⟨2, ![8192, 2048]⟩
abbrev S512x2048 : Shape := ⟨2, ![512, 2048]⟩
abbrev S8192x1024 : Shape := ⟨2, ![8192, 1024]⟩
abbrev S8192x512 : Shape := ⟨2, ![8192, 512]⟩
abbrev S_ : Shape := ⟨0, ![]⟩
abbrev S1024 : Shape := ⟨1, ![1024]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S8192x1024, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S512x2048, .f32⟩
  | .hbm, ⟨19, _⟩ => ⟨S8192x2048, .f32⟩
  | .hbm, ⟨20, _⟩ => ⟨S8192x2048, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x1024, .f32⟩
  | .hbm, ⟨26, _⟩ => ⟨S8192x1024, .bf16⟩
  | .hbm, ⟨27, _⟩ => ⟨S_, .f32⟩
  | .hbm, ⟨28, _⟩ => ⟨S1024, .f32⟩
  | .hbm, ⟨29, _⟩ => ⟨S1x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Glu.lean ====
abbrev S8192x512 : Shape := ⟨2, ![8192, 512]⟩
abbrev S512x1024 : Shape := ⟨2, ![512, 1024]⟩
abbrev S1x1024 : Shape := ⟨2, ![1, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S1x1024, .f32⟩
  | .hbm, ⟨3, _⟩ => ⟨S8192x1024, .f32⟩
  | .hbm, ⟨4, _⟩ => ⟨S8192x512, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x512, .bf16⟩
  | .local _ .vmem, ⟨7, _⟩ => ⟨S1024x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== GluRefIdeal.lean ====
abbrev S8192x512 : Shape := ⟨2, ![8192, 512]⟩
abbrev S512x1024 : Shape := ⟨2, ![512, 1024]⟩
abbrev S1x1024 : Shape := ⟨2, ![1, 1024]⟩
abbrev S8192x1024 : Shape := ⟨2, ![8192, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S1x1024, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MergeFwd.lean ====
abbrev S8192x5888 : Shape := ⟨2, ![8192, 5888]⟩
abbrev S8192x2048 : Shape := ⟨2, ![8192, 2048]⟩
abbrev S2048x256 : Shape := ⟨2, ![2048, 256]⟩

abbrev nBuf : Space → Nat
  | .hbm => 4
  | .vmem => 10
  | .smem => 0
  | _ => 0

abbrev bufTy : (tb : Table) → Fin (tcTables nBuf tb) → BufTy
  | .hbm, ⟨0, _⟩ => ⟨S8192x5888, .f32⟩
  | .hbm, ⟨1, _⟩ => ⟨S8192x2048, .bf16⟩
  | .hbm, ⟨2, _⟩ => ⟨S8192x2048, .bf16⟩
  | .hbm, ⟨3, _⟩ => ⟨S8192x2048, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | _, _ => ⟨S8192x5888, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeFwdRefIdeal.lean ====
abbrev S8192x5888 : Shape := ⟨2, ![8192, 5888]⟩
abbrev S8192x2048 : Shape := ⟨2, ![8192, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x5888, .f32⟩
  | .hbm, ⟨1, _⟩ => ⟨S8192x2048, .bf16⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x5888, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== AttnBwd.lean ====
abbrev S8192x5888 : Shape := ⟨2, ![8192, 5888]⟩
abbrev S16 : Shape := ⟨1, ![16]⟩
abbrev S8192x1024 : Shape := ⟨2, ![8192, 1024]⟩
abbrev S8192x128 : Shape := ⟨2, ![8192, 128]⟩
abbrev S1x128 : Shape := ⟨2, ![1, 128]⟩
abbrev S128x1024 : Shape := ⟨2, ![128, 1024]⟩
abbrev S128x128 : Shape := ⟨2, ![128, 128]⟩
abbrev S1024x256 : Shape := ⟨2, ![1024, 256]⟩
abbrev S256x128 : Shape := ⟨2, ![256, 128]⟩
abbrev S1024x128 : Shape := ⟨2, ![1024, 128]⟩
abbrev S128x1 : Shape := ⟨2, ![128, 1]⟩
abbrev S1024x1 : Shape := ⟨2, ![1024, 1]⟩
abbrev S1 : Shape := ⟨1, ![1]⟩
abbrev S1024 : Shape := ⟨1, ![1024]⟩
abbrev S1x128x1 : Shape := ⟨3, ![1, 128, 1]⟩
abbrev S1x1x1 : Shape := ⟨3, ![1, 1, 1]⟩

abbrev nBuf : Space → Nat
  | .hbm => 9
  | .vmem => 23
  | .smem => 1
  | _ => 0

abbrev bufTy : (tb : Table) → Fin (tcTables nBuf tb) → BufTy
  | .hbm, ⟨0, _⟩ => ⟨S8192x5888, .f32⟩
  | .hbm, ⟨1, _⟩ => ⟨S16, .f32⟩
  | .hbm, ⟨2, _⟩ => ⟨S8192x1024, .bf16⟩
  | .hbm, ⟨3, _⟩ => ⟨S8192x1024, .bf16⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .smem, ⟨0, _⟩ => ⟨S16, .f32⟩
  | _, _ => ⟨S8192x5888, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  ![v1.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== AttnBwdIdeal.lean ====
variable {F : FTy → Type} [FloatOps F] [Named F]
def κ : String → Option EReal := fun
  | "mask" => some ⊥
  | _ => none
-- ==== AttnBwdRefIdeal.lean ====
abbrev S8192x5888 : Shape := ⟨2, ![8192, 5888]⟩
abbrev S16 : Shape := ⟨1, ![16]⟩
abbrev S8192x1024 : Shape := ⟨2, ![8192, 1024]⟩
abbrev S8192x128 : Shape := ⟨2, ![8192, 128]⟩
abbrev S64x128x2x64 : Shape := ⟨4, ![64, 128, 2, 64]⟩
abbrev S_ : Shape := ⟨0, ![]⟩
abbrev S65x128x2x64 : Shape := ⟨4, ![65, 128, 2, 64]⟩
abbrev S64x256x2x64 : Shape := ⟨4, ![64, 256, 2, 64]⟩
abbrev S64x128x2x8x64 : Shape := ⟨5, ![64, 128, 2, 8, 64]⟩
abbrev S64x2x256x128x8 : Shape := ⟨5, ![64, 2, 256, 128, 8]⟩
abbrev S64x2x8x128x256 : Shape := ⟨5, ![64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S64x128x256 : Shape := ⟨3, ![64, 128, 256]⟩
abbrev S2x8 : Shape := ⟨2, ![2, 8]⟩
abbrev S2x8x1x1 : Shape := ⟨4, ![2, 8, 1, 1]⟩
abbrev S1x1x128x256 : Shape := ⟨4, ![1, 1, 128, 256]⟩
abbrev S2x8x128x256 : Shape := ⟨4, ![2, 8, 128, 256]⟩
abbrev S1x2x8x128x256 : Shape := ⟨5, ![1, 2, 8, 128, 256]⟩
abbrev S64x1x1x128x256 : Shape := ⟨5, ![64, 1, 1, 128, 256]⟩
abbrev S1x2x8x1x1 : Shape := ⟨5, ![1, 2, 8, 1, 1]⟩
abbrev S64x2x8x128 : Shape := ⟨4, ![64, 2, 8, 128]⟩
abbrev S64x2x8x128x1 : Shape := ⟨5, ![64, 2, 8, 128, 1]⟩
abbrev S64x2x64x8x128 : Shape := ⟨5, ![64, 2, 64, 8, 128]⟩
abbrev S64x2x64x256 : Shape := ⟨4, ![64, 2, 64, 256]⟩
abbrev S2x8x1 : Shape := ⟨3, ![2, 8, 1]⟩
abbrev S64x2x128x8x64 : Shape := ⟨5, ![64, 2, 128, 8, 64]⟩
abbrev S64x2x256x64 : Shape := ⟨4, ![64, 2, 256, 64]⟩
abbrev S1x128 : Shape := ⟨2, ![1, 128]⟩

abbrev nBuf : Space → Nat
  | .hbm => 203
  | .vmem => 0
  | .smem => 0
  | _ => 0

abbrev hbmTy0_0 (i : Nat) : BufTy := match i % 128 with
  | 0 => ⟨S8192x5888, .f32⟩
  | 1 => ⟨S16, .f32⟩
  | 2 => ⟨S8192x1024, .bf16⟩
  | 3 => ⟨S16, .f32⟩
  | 4 => ⟨S8192x1024, .f32⟩
  | 5 => ⟨S8192x128, .f32⟩
  | 6 => ⟨S8192x128, .f32⟩
  | 7 => ⟨S64x128x2x64, .f32⟩
  | 8 => ⟨S_, .i32⟩
  | 9 => ⟨S_, .f32⟩
  | 10 => ⟨S65x128x2x64, .f32⟩
  | 11 => ⟨S64x128x2x64, .f32⟩
  | 12 => ⟨S64x256x2x64, .f32⟩
  | 13 => ⟨S64x128x2x64, .f32⟩
  | 14 => ⟨S_, .i32⟩
  | 15 => ⟨S_, .f32⟩
  | 16 => ⟨S65x128x2x64, .f32⟩
  | 17 => ⟨S64x128x2x64, .f32⟩
  | 18 => ⟨S64x256x2x64, .f32⟩
  | 19 => ⟨S64x128x2x8x64, .f32⟩
  | 20 => ⟨S64x2x256x128x8, .f32⟩
  | 21 => ⟨S64x2x8x128x256, .f32⟩
  | 22 => ⟨S_, .f32⟩
  | 23 => ⟨S64x2x8x128x256, .f32⟩
  | 24 => ⟨S64x2x8x128x256, .f32⟩
  | 25 => ⟨S128, .i32⟩
  | 26 => ⟨S128x1, .i32⟩
  | 27 => ⟨S256, .i32⟩
  | 28 => ⟨S1x256, .i32⟩
  | 29 => ⟨S_, .i32⟩
  | 30 => ⟨S128x1, .i32⟩
  | 31 => ⟨S128x1, .i32⟩
  | 32 => ⟨S128x256, .i32⟩
  | 33 => ⟨S128x256, .i32⟩
  | 34 => ⟨S128x256, .i32⟩
  | 35 => ⟨S_, .i32⟩
  | 36 => ⟨S128x256, .i32⟩
  | 37 => ⟨S128x256, .i1⟩
  | 38 => ⟨S_, .i32⟩
  | 39 => ⟨S128x256, .i32⟩
  | 40 => ⟨S128x256, .i1⟩
  | 41 => ⟨S128x256, .i1⟩
  | 42 => ⟨S1x128x256, .i1⟩
  | 43 => ⟨S64, .i32⟩
  | 44 => ⟨S64x1x1, .i32⟩
  | 45 => ⟨S_, .i32⟩
  | 46 => ⟨S64x1x1, .i32⟩
  | 47 => ⟨S64x1x1, .i1⟩
  | 48 => ⟨S1x1x256, .i32⟩
  | 49 => ⟨S_, .i32⟩
  | 50 => ⟨S1x1x256, .i32⟩
  | 51 => ⟨S1x1x256, .i1⟩
  | 52 => ⟨S64x1x256, .i1⟩
  | 53 => ⟨S64x1x256, .i1⟩
  | 54 => ⟨S64x1x256, .i1⟩
  | 55 => ⟨S64x128x256, .i1⟩
  | 56 => ⟨S64x128x256, .i1⟩
  | 57 => ⟨S64x128x256, .i1⟩
  | 58 => ⟨S2x8, .f32⟩
  | 59 => ⟨S2x8x1x1, .f32⟩
  | 60 => ⟨S2x8x1x1, .f32⟩
  | 61 => ⟨S128x256, .f32⟩
  | 62 => ⟨S1x1x128x256, .f32⟩
  | 63 => ⟨S2x8x128x256, .f32⟩
  | 64 => ⟨S2x8x128x256, .f32⟩
  | 65 => ⟨S2x8x128x256, .f32⟩
  | 66 => ⟨S1x2x8x128x256, .f32⟩
  | 67 => ⟨S64x2x8x128x256, .f32⟩
  | 68 => ⟨S64x2x8x128x256, .f32⟩
  | 69 => ⟨S64x1x1x128x256, .i1⟩
  | 70 => ⟨S_, .f32⟩
  | 71 => ⟨S_, .f32⟩
  | 72 => ⟨S64x2x8x128x256, .i1⟩
  | 73 => ⟨S64x2x8x128x256, .f32⟩
  | 74 => ⟨S64x2x8x128x256, .f32⟩
  | 75 => ⟨S_, .f32⟩
  | 76 => ⟨S64x2x8x128x256, .f32⟩
  | 77 => ⟨S2x8, .f32⟩
  | 78 => ⟨S1x2x8x1x1, .f32⟩
  | 79 => ⟨S_, .f32⟩
  | 80 => ⟨S64x2x8x128, .f32⟩
  | 81 => ⟨S64x2x8x128x1, .f32⟩
  | 82 => ⟨S64x2x8x128x256, .f32⟩
  | 83 => ⟨S64x2x8x128x256, .i1⟩
  | 84 => ⟨S64x2x8x128x256, .f32⟩
  | 85 => ⟨S_, .f32⟩
  | 86 => ⟨S64x2x8x128, .f32⟩
  | 87 => ⟨S64x2x8x128x1, .f32⟩
  | 88 => ⟨S64x2x8x128x1, .f32⟩
  | 89 => ⟨S64x2x8x128x1, .f32⟩
  | 90 => ⟨S64x2x8x128x1, .f32⟩
  | 91 => ⟨S64x2x8x128x1, .i1⟩
  | 92 => ⟨S64x2x8x128x1, .f32⟩
  | 93 => ⟨S64x2x8x128x1, .i1⟩
  | 94 => ⟨S_, .f32⟩
  | 95 => ⟨S64x2x8x128x1, .f32⟩
  | 96 => ⟨S_, .f32⟩
  | 97 => ⟨S64x2x8x128x1, .f32⟩
  | 98 => ⟨S_, .f32⟩
  | 99 => ⟨S64x2x8x128x1, .f32⟩
  | 100 => ⟨S64x2x8x128x1, .f32⟩
  | 101 => ⟨S64x2x8x128x1, .f32⟩
  | 102 => ⟨S64x2x8x128x1, .f32⟩
  | 103 => ⟨S64x2x8x128x1, .i1⟩
  | 104 => ⟨S64x2x8x128x1, .f32⟩
  | 105 => ⟨S64x2x8x128x1, .i1⟩
  | 106 => ⟨S_, .f32⟩
  | 107 => ⟨S64x2x8x128x1, .f32⟩
  | 108 => ⟨S_, .f32⟩
  | 109 => ⟨S64x2x8x128x1, .f32⟩
  | 110 => ⟨S_, .f32⟩
  | 111 => ⟨S64x2x8x128x1, .f32⟩
  | 112 => ⟨S64x2x8x128x1, .f32⟩
  | 113 => ⟨S64x2x8x128x1, .f32⟩
  | 114 => ⟨S64x2x8x128x256, .f32⟩
  | 115 => ⟨S64x2x8x128x256, .f32⟩
  | 116 => ⟨S64x2x8x128x256, .f32⟩
  | 117 => ⟨S_, .f32⟩
  | 118 => ⟨S64x2x8x128, .f32⟩
  | 119 => ⟨S64x2x8x128x1, .f32⟩
  | 120 => ⟨S64x2x8x128x1, .f32⟩
  | 121 => ⟨S64x2x8x128x1, .f32⟩
  | 122 => ⟨S64x2x8x128x1, .f32⟩
  | 123 => ⟨S64x2x8x128x1, .f32⟩
  | 124 => ⟨S64x2x8x128x256, .f32⟩
  | 125 => ⟨S64x2x8x128x256, .f32⟩
  | 126 => ⟨S64x2x8x128x1, .f32⟩
  | 127 => ⟨S_, .f32⟩
  | _ => ⟨S8192x5888, .f32⟩

abbrev hbmTy0_1 (i : Nat) : BufTy := match i % 128 with
  | 0 => ⟨S64x2x8x128x1, .f32⟩
  | 1 => ⟨S64x2x8x128x1, .f32⟩
  | 2 => ⟨S64x2x64x8x128, .f32⟩
  | 3 => ⟨S64x128x2x8x64, .f32⟩
  | 4 => ⟨S8192x1024, .f32⟩
  | 5 => ⟨S8192x1024, .f32⟩
  | 6 => ⟨S64x128x2x8x64, .f32⟩
  | 7 => ⟨S64x2x64x8x128, .f32⟩
  | 8 => ⟨S64x2x8x128x256, .f32⟩
  | 9 => ⟨S64x2x64x256, .f32⟩
  | 10 => ⟨S64x256x2x64, .f32⟩
  | 11 => ⟨S64x2x8x128x256, .f32⟩
  | 12 => ⟨S64x2x8x128x256, .f32⟩
  | 13 => ⟨S64x2x8x128x256, .f32⟩
  | 14 => ⟨S_, .f32⟩
  | 15 => ⟨S64x2x8x128, .f32⟩
  | 16 => ⟨S64x2x8x128x1, .f32⟩
  | 17 => ⟨S64x2x8x128x1, .f32⟩
  | 18 => ⟨S64x2x8x128x256, .f32⟩
  | 19 => ⟨S64x2x8x128x256, .f32⟩
  | 20 => ⟨S64x2x8x128x1, .f32⟩
  | 21 => ⟨S_, .f32⟩
  | 22 => ⟨S2x8x1, .f32⟩
  | 23 => ⟨S1x2x8x1x1, .f32⟩
  | 24 => ⟨S64x2x8x128x1, .f32⟩
  | 25 => ⟨S_, .f32⟩
  | 26 => ⟨S64x2x8x128, .f32⟩
  | 27 => ⟨S64x2x8x128x256, .f32⟩
  | 28 => ⟨S64x2x8x128x256, .f32⟩
  | 29 => ⟨S64x2x8x128x256, .f32⟩
  | 30 => ⟨S64x2x8x128x256, .f32⟩
  | 31 => ⟨S_, .f32⟩
  | 32 => ⟨S64x2x8x128, .f32⟩
  | 33 => ⟨S64x2x8x128x1, .f32⟩
  | 34 => ⟨S64x2x8x128x1, .f32⟩
  | 35 => ⟨S64x2x8x128x1, .f32⟩
  | 36 => ⟨S_, .f32⟩
  | 37 => ⟨S2x8x1, .f32⟩
  | 38 => ⟨S1x2x8x1x1, .f32⟩
  | 39 => ⟨S1x2x8x1x1, .f32⟩
  | 40 => ⟨S64x2x8x128x1, .f32⟩
  | 41 => ⟨S_, .f32⟩
  | 42 => ⟨S64x2x8x128, .f32⟩
  | 43 => ⟨S64x2x8x128, .f32⟩
  | 44 => ⟨S64x2x8x128x256, .f32⟩
  | 45 => ⟨S64x2x8x128x256, .f32⟩
  | 46 => ⟨S64x2x8x128x256, .f32⟩
  | 47 => ⟨S_, .f32⟩
  | 48 => ⟨S2x8, .f32⟩
  | 49 => ⟨S16, .f32⟩
  | 50 => ⟨S_, .f32⟩
  | 51 => ⟨S64x2x8x128x256, .f32⟩
  | 52 => ⟨S64x2x8x128x256, .f32⟩
  | 53 => ⟨S_, .f32⟩
  | 54 => ⟨S64x2x8x128x256, .f32⟩
  | 55 => ⟨S64x2x8x128x256, .f32⟩
  | 56 => ⟨S64x2x256x128x8, .f32⟩
  | 57 => ⟨S64x2x128x8x64, .f32⟩
  | 58 => ⟨S64x128x2x8x64, .f32⟩
  | 59 => ⟨S64x2x256x64, .f32⟩
  | 60 => ⟨S64x256x2x64, .f32⟩
  | 61 => ⟨S8192x1024, .f32⟩
  | 62 => ⟨S8192x1024, .bf16⟩
  | 63 => ⟨S64x128x2x64, .f32⟩
  | 64 => ⟨S8192x128, .f32⟩
  | 65 => ⟨S64x128x2x64, .f32⟩
  | 66 => ⟨S8192x128, .f32⟩
  | 67 => ⟨S64x128x2x64, .f32⟩
  | 68 => ⟨S8192x128, .f32⟩
  | 69 => ⟨S64x128x2x64, .f32⟩
  | 70 => ⟨S8192x128, .f32⟩
  | 71 => ⟨S_, .i32⟩
  | 72 => ⟨S_, .f32⟩
  | 73 => ⟨S128, .f32⟩
  | 74 => ⟨S1x128, .f32⟩
  | _ => ⟨S8192x5888, .f32⟩

abbrev hbmTy (i : Nat) : BufTy := match i / 128 with
  | 0 => hbmTy0_0 i
  | 1 => hbmTy0_1 i
  | _ => ⟨S8192x5888, .f32⟩

abbrev bufTy : (tb : Table) → Fin (tcTables nBuf tb) → BufTy
  | .hbm, ⟨i, _⟩ => hbmTy i
  | _, _ => ⟨S8192x5888, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_call2_v0 : Ref sig .tc := ⟨.hbm, 71, rfl⟩
abbrev main_v56_1 : Ref sig .tc := ⟨.hbm, 72, rfl⟩
abbrev main_call2_v2 : Ref sig .tc := ⟨.hbm, 73, rfl⟩
abbrev main_v56_0 : Ref sig .tc := ⟨.hbm, 74, rfl⟩
abbrev main_call2_cst : Ref sig .tc := ⟨.hbm, 75, rfl⟩
abbrev main_v56_2 : Ref sig .tc := ⟨.hbm, 76, rfl⟩
abbrev main_v57 : Ref sig .tc := ⟨.hbm, 77, rfl⟩
abbrev main_v58 : Ref sig .tc := ⟨.hbm, 78, rfl⟩
abbrev main_cst_8 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_9 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_10 : Ref sig .tc := ⟨.hbm, 94, rfl⟩
abbrev main_v72 : Ref sig .tc := ⟨.hbm, 95, rfl⟩
abbrev main_cst_11 : Ref sig .tc := ⟨.hbm, 96, rfl⟩
abbrev main_v73 : Ref sig .tc := ⟨.hbm, 97, rfl⟩
abbrev main_cst_12 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_13 : Ref sig .tc := ⟨.hbm, 106, rfl⟩
abbrev main_v81 : Ref sig .tc := ⟨.hbm, 107, rfl⟩
abbrev main_cst_14 : Ref sig .tc := ⟨.hbm, 108, rfl⟩
abbrev main_v82 : Ref sig .tc := ⟨.hbm, 109, rfl⟩
abbrev main_cst_15 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_16 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_17 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_18 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_cst_19 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_20 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_cst_21 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_22 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_23 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_cst_24 : Ref sig .tc := ⟨.hbm, 175, rfl⟩
abbrev main_v139 : Ref sig .tc := ⟨.hbm, 176, rfl⟩
abbrev main_v140 : Ref sig .tc := ⟨.hbm, 177, rfl⟩
abbrev main_call3_cst : Ref sig .tc := ⟨.hbm, 178, rfl⟩
abbrev main_call3_v0 : Ref sig .tc := ⟨.hbm, 179, rfl⟩
abbrev main_v141 : Ref sig .tc := ⟨.hbm, 180, rfl⟩
abbrev main_cst_25 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_c_26 : Ref sig .tc := ⟨.hbm, 199, rfl⟩
abbrev main_call4_v0 : Ref sig .tc := ⟨.hbm, 200, rfl⟩
abbrev main_v159 : Ref sig .tc := ⟨.hbm, 201, rfl⟩
abbrev main_v160 : Ref sig .tc := ⟨.hbm, 202, rfl⟩

abbrev nD : Nat := 1
abbrev τ : Topo := Topo.v7x

variable {F : FTy → Type} [FloatOps F]
-- ==== SsmDiscBwd.lean ====
abbrev S2048x1 : Shape := ⟨2, ![2048, 1]⟩
abbrev S2048x16 : Shape := ⟨2, ![2048, 16]⟩
abbrev S2048 : Shape := ⟨1, ![2048]⟩

abbrev nBuf : Space → Nat
  | .hbm => 14
  | .vmem => 14
  | .smem => 0
  | _ => 0

abbrev bufTy : (tb : Table) → Fin (tcTables nBuf tb) → BufTy
  | .hbm, ⟨0, _⟩ => ⟨S2048x1, .f32⟩
  | .hbm, ⟨1, _⟩ => ⟨S2048x1, .f32⟩
  | .hbm, ⟨2, _⟩ => ⟨S2048x1, .f32⟩
  | .hbm, ⟨3, _⟩ => ⟨S2048x16, .f32⟩
  | .hbm, ⟨4, _⟩ => ⟨S2048x16, .f32⟩
  | .hbm, ⟨5, _⟩ => ⟨S2048x1, .f32⟩
  | .hbm, ⟨6, _⟩ => ⟨S2048x1, .f32⟩
  | .hbm, ⟨7, _⟩ => ⟨S2048x16, .f32⟩
  | .hbm, ⟨8, _⟩ => ⟨S2048x16, .f32⟩
  | .hbm, ⟨9, _⟩ => ⟨S2048x1, .f32⟩
  | .hbm, ⟨10, _⟩ => ⟨S2048x1, .f32⟩
  | .hbm, ⟨11, _⟩ => ⟨S2048x1, .f32⟩
  | .hbm, ⟨12, _⟩ => ⟨S2048x16, .f32⟩
  | .hbm, ⟨13, _⟩ => ⟨S2048x16, .f32⟩
  | .local _ .vmem, ⟨0, _⟩ => ⟨S2048x1, .f32⟩
  | .local _ .vmem, ⟨1, _⟩ => ⟨S2048x1, .f32⟩
  | .local _ .vmem, ⟨2, _⟩ => ⟨S2048x1, .f32⟩
  | .local _ .vmem, ⟨3, _⟩ => ⟨S2048x16, .f32⟩
  | .local _ .vmem, ⟨4, _⟩ => ⟨S2048x16, .f32⟩
  | .local _ .vmem, ⟨5, _⟩ => ⟨S2048x1, .f32⟩
  | .local _ .vmem, ⟨6, _⟩ => ⟨S2048x1, .f32⟩
  | .local _ .vmem, ⟨7, _⟩ => ⟨S2048x16, .f32⟩
  | .local _ .vmem, ⟨8, _⟩ => ⟨S2048x16, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S2048x16, .f32⟩
  | .local _ .vmem, ⟨13, _⟩ => ⟨S2048x16, .f32⟩
  | _, _ => ⟨S2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== SsmDiscBwdRefIdeal.lean ====
abbrev S2048x1 : Shape := ⟨2, ![2048, 1]⟩
abbrev S2048x16 : Shape := ⟨2, ![2048, 16]⟩
abbrev S32x64 : Shape := ⟨2, ![32, 64]⟩
abbrev S32x64x16 : Shape := ⟨3, ![32, 64, 16]⟩
abbrev S_ : Shape := ⟨0, ![]⟩
abbrev S32x64x1 : Shape := ⟨3, ![32, 64, 1]⟩

abbrev nBuf : Space → Nat
  | .hbm => 160
  | .vmem => 0
  | .smem => 0
  | _ => 0

abbrev hbmTy0_0 (i : Nat) : BufTy := match i % 128 with
  | 0 => ⟨S2048x1, .f32⟩
  | 1 => ⟨S2048x1, .f32⟩
  | 2 => ⟨S2048x1, .f32⟩
  | 3 => ⟨S2048x16, .f32⟩
  | 4 => ⟨S2048x16, .f32⟩
  | 5 => ⟨S2048x1, .f32⟩
  | 6 => ⟨S2048x1, .f32⟩
  | 7 => ⟨S2048x16, .f32⟩
  | 8 => ⟨S2048x16, .f32⟩
  | 9 => ⟨S32x64, .f32⟩
  | 10 => ⟨S32x64, .f32⟩
  | 11 => ⟨S32x64, .f32⟩
  | 12 => ⟨S32x64x16, .f32⟩
  | 13 => ⟨S32x64x16, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S_, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S_, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S_, .f32⟩
  | 45 => ⟨S32x64, .f32⟩
  | 46 => ⟨S32x64, .f32⟩
  | 47 => ⟨S32x64x1, .f32⟩
  | 48 => ⟨S32x64x16, .f32⟩
  | 49 => ⟨S32x64x16, .f32⟩
  | 50 => ⟨S32x64x1, .f32⟩
  | 51 => ⟨S32x64x16, .f32⟩
  | 52 => ⟨S32x64x16, .f32⟩
  | 53 => ⟨S32x64x16, .f32⟩
  | 54 => ⟨S32x64x1, .f32⟩
  | 55 => ⟨S32x64x16, .f32⟩
  | 56 => ⟨S32x64x16, .f32⟩
  | 57 => ⟨S32x64x1, .f32⟩
  | 58 => ⟨S32x64x16, .f32⟩
  | 59 => ⟨S32x64x16, .f32⟩
  | 60 => ⟨S32x64x16, .f32⟩
  | 61 => ⟨S32x64, .f32⟩
  | 62 => ⟨S32x64, .f32⟩
  | 63 => ⟨S32x64x16, .f32⟩
  | 64 => ⟨S32x64x16, .f32⟩
  | 65 => ⟨S32x64x16, .f32⟩
  | 66 => ⟨S32x64x16, .f32⟩
  | 67 => ⟨S32x64x16, .f32⟩
  | 68 => ⟨S_, .f32⟩
  | 69 => ⟨S32x64, .f32⟩
  | 70 => ⟨S32x64x1, .f32⟩
  | 71 => ⟨S_, .f32⟩
  | 72 => ⟨S32x64, .f32⟩
  | 73 => ⟨S32x64x16, .f32⟩
  | 74 => ⟨S32x64x16, .f32⟩
  | 75 => ⟨S32x64x16, .f32⟩
  | 76 => ⟨S_, .f32⟩
  | 77 => ⟨S32x64, .f32⟩
  | 78 => ⟨S32x64x1, .f32⟩
  | 79 => ⟨S_, .f32⟩
  | 80 => ⟨S32x64, .f32⟩
  | 81 => ⟨S32x64x16, .f32⟩
  | 82 => ⟨S32x64x16, .f32⟩
  | 83 => ⟨S32x64x16, .f32⟩
  | 84 => ⟨S32x64x16, .f32⟩
  | 85 => ⟨S32x64x16, .f32⟩
  | 86 => ⟨S_, .f32⟩
  | 87 => ⟨S32x64, .f32⟩
  | 88 => ⟨S32x64x1, .f32⟩
  | 89 => ⟨S_, .f32⟩
  | 90 => ⟨S32x64, .f32⟩
  | 91 => ⟨S32x64, .f32⟩
  | 92 => ⟨S32x64x16, .f32⟩
  | 93 => ⟨S32x64x16, .f32⟩
  | 94 => ⟨S32x64x16, .f32⟩
  | 95 => ⟨S32x64x16, .f32⟩
  | 96 => ⟨S_, .f32⟩
  | 97 => ⟨S32x64, .f32⟩
  | 98 => ⟨S32x64x1, .f32⟩
  | 99 => ⟨S_, .f32⟩
  | 100 => ⟨S32x64, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S2048x1, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S2048x1, .f32⟩
  | 28 => ⟨S2048x1, .f32⟩
  | 29 => ⟨S2048x1, .f32⟩
  | 30 => ⟨S2048x16, .f32⟩
  | 31 => ⟨S2048x16, .f32⟩
  | _ => ⟨S2048x1, .f32⟩

abbrev hbmTy (i : Nat) : BufTy := match i / 128 with
  | 0 => hbmTy0_0 i
  | 1 => hbmTy0_1 i
  | _ => ⟨S2048x1, .f32⟩

abbrev bufTy : (tb : Table) → Fin (tcTables nBuf tb) → BufTy
  | .hbm, ⟨i, _⟩ => hbmTy i
  | _, _ => ⟨S2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_2 : Ref sig .tc := ⟨.hbm, 68, rfl⟩
abbrev main_v56 : Ref sig .tc := ⟨.hbm, 69, rfl⟩
abbrev main_v57 : Ref sig .tc := ⟨.hbm, 70, rfl⟩
abbrev main_cst_3 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_4 : Ref sig .tc := ⟨.hbm, 76, rfl⟩
abbrev main_v62 : Ref sig .tc := ⟨.hbm, 77, rfl⟩
abbrev main_v63 : Ref sig .tc := ⟨.hbm, 78, rfl⟩
abbrev main_cst_5 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_6 : Ref sig .tc := ⟨.hbm, 86, rfl⟩
abbrev main_v70 : Ref sig .tc := ⟨.hbm, 87, rfl⟩
abbrev main_v71 : Ref sig .tc := ⟨.hbm, 88, rfl⟩
abbrev main_cst_7 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_8 : Ref sig .tc := ⟨.hbm, 96, rfl⟩
abbrev main_v78 : Ref sig .tc := ⟨.hbm, 97, rfl⟩
abbrev main_v79 : Ref sig .tc := ⟨.hbm, 98, rfl⟩
abbrev main_cst_9 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩

abbrev nD : Nat := 1
abbrev τ : Topo := Topo.v7x

variable {F : FTy → Type} [FloatOps F]
-- ==== SsmDiscFwd.lean ====
abbrev S2048x1 : Shape := ⟨2, ![2048, 1]⟩
abbrev S2048x16 : Shape := ⟨2, ![2048, 16]⟩

abbrev nBuf : Space → Nat
  | .hbm => 9
  | .vmem => 9
  | .smem => 0
  | _ => 0

abbrev bufTy : (tb : Table) → Fin (tcTables nBuf tb) → BufTy
  | .hbm, ⟨0, _⟩ => ⟨S2048x1, .f32⟩
  | .hbm, ⟨1, _⟩ => ⟨S2048x1, .f32⟩
  | .hbm, ⟨2, _⟩ => ⟨S2048x1, .f32⟩
  | .hbm, ⟨3, _⟩ => ⟨S2048x16, .f32⟩
  | .hbm, ⟨4, _⟩ => ⟨S2048x16, .f32⟩
  | .hbm, ⟨5, _⟩ => ⟨S2048x1, .f32⟩
  | .hbm, ⟨6, _⟩ => ⟨S2048x1, .f32⟩
  | .hbm, ⟨7, _⟩ => ⟨S2048x16, .f32⟩
  | .hbm, ⟨8, _⟩ => ⟨S2048x16, .f32⟩
  | .local _ .vmem, ⟨0, _⟩ => ⟨S2048x1, .f32⟩
  | .local _ .vmem, ⟨1, _⟩ => ⟨S2048x1, .f32⟩
  | .local _ .vmem, ⟨2, _⟩ => ⟨S2048x1, .f32⟩
  | .local _ .vmem, ⟨3, _⟩ => ⟨S2048x16, .f32⟩
  | .local _ .vmem, ⟨4, _⟩ => ⟨S2048x16, .f32⟩
  | .local _ .vmem, ⟨5, _⟩ => ⟨S2048x1, .f32⟩
  | .local _ .vmem, ⟨6, _⟩ => ⟨S2048x1, .f32⟩
  | .local _ .vmem, ⟨7, _⟩ => ⟨S2048x16, .f32⟩
  | .local _ .vmem, ⟨8, _⟩ => ⟨S2048x16, .f32⟩
  | _, _ => ⟨S2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== SsmDiscFwdRefIdeal.lean ====
abbrev S2048x1 : Shape := ⟨2, ![2048, 1]⟩
abbrev S2048x16 : Shape := ⟨2, ![2048, 16]⟩
abbrev S32x64 : Shape := ⟨2, ![32, 64]⟩
abbrev S32x64x16 : Shape := ⟨3, ![32, 64, 16]⟩
abbrev S_ : Shape := ⟨0, ![]⟩
abbrev S32x64x1 : Shape := ⟨3, ![32, 64, 1]⟩

abbrev nBuf : Space → Nat
  | .hbm => 51
  | .vmem => 0
  | .smem => 0
  | _ => 0

abbrev bufTy : (tb : Table) → Fin (tcTables nBuf tb) → BufTy
  | .hbm, ⟨0, _⟩ => ⟨S2048x1, .f32⟩
  | .hbm, ⟨1, _⟩ => ⟨S2048x1, .f32⟩
  | .hbm, ⟨2, _⟩ => ⟨S2048x1, .f32⟩
  | .hbm, ⟨3, _⟩ => ⟨S2048x16, .f32⟩
  | .hbm, ⟨4, _⟩ => ⟨S2048x16, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S32x64x16, .f32⟩
  | .hbm, ⟨9, _⟩ => ⟨S32x64x16, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S_, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64x1, .f32⟩
  | .hbm, ⟨34, _⟩ => ⟨S32x64x16, .f32⟩
  | .hbm, ⟨35, _⟩ => ⟨S32x64x16, .f32⟩
  | .hbm, ⟨36, _⟩ => ⟨S32x64x1, .f32⟩
  | .hbm, ⟨37, _⟩ => ⟨S32x64x16, .f32⟩
  | .hbm, ⟨38, _⟩ => ⟨S32x64x16, .f32⟩
  | .hbm, ⟨39, _⟩ => ⟨S32x64x16, .f32⟩
  | .hbm, ⟨40, _⟩ => ⟨S32x64x1, .f32⟩
  | .hbm, ⟨41, _⟩ => ⟨S32x64x16, .f32⟩
  | .hbm, ⟨42, _⟩ => ⟨S32x64x16, .f32⟩
  | .hbm, ⟨43, _⟩ => ⟨S32x64x1, .f32⟩
  | .hbm, ⟨44, _⟩ => ⟨S32x64x16, .f32⟩
  | .hbm, ⟨45, _⟩ => ⟨S32x64x16, .f32⟩
  | .hbm, ⟨46, _⟩ => ⟨S32x64x16, .f32⟩
  | .hbm, ⟨47, _⟩ => ⟨S2048x1, .f32⟩
  | .hbm, ⟨48, _⟩ => ⟨S2048x1, .f32⟩
  | .hbm, ⟨49, _⟩ => ⟨S2048x16, .f32⟩
  | .hbm, ⟨50, _⟩ => ⟨S2048x16, .f32⟩
  | _, _ => ⟨S2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩

abbrev nD : Nat := 1
abbrev τ : Topo := Topo.v7x

variable {F : FTy → Type} [FloatOps F]
-- ==== JoinDproj.lean ====
abbrev S8192x1024 : Shape := ⟨2, ![8192, 1024]⟩
abbrev S8192x128 : Shape := ⟨2, ![8192, 128]⟩
abbrev S8192x512 : Shape := ⟨2, ![8192, 512]⟩
abbrev S8192x2048 : Shape := ⟨2, ![8192, 2048]⟩
abbrev S8192x5888 : Shape := ⟨2, ![8192, 5888]⟩
abbrev S1x5888 : Shape := ⟨2, ![1, 5888]⟩
abbrev S128x1024 : Shape := ⟨2, ![128, 1024]⟩
abbrev S128x128 : Shape := ⟨2, ![128, 128]⟩
abbrev S128x512 : Shape := ⟨2, ![128, 512]⟩
abbrev S128x2048 : Shape := ⟨2, ![128, 2048]⟩
abbrev S128x5888 : Shape := ⟨2, ![128, 5888]⟩
abbrev S1x1024 : Shape := ⟨2, ![1, 1024]⟩
abbrev S1024 : Shape := ⟨1, ![1024]⟩
abbrev S1x128 : Shape := ⟨2, ![1, 128]⟩
abbrev S128 : Shape := ⟨1, ![128]⟩
abbrev S1x512 : Shape := ⟨2, ![1, 512]⟩
abbrev S512 : Shape := ⟨1, ![512]⟩
abbrev S1x2048 : Shape := ⟨2, ![1, 2048]⟩
abbrev S2048 : Shape := ⟨1, ![2048]⟩

abbrev nBuf : Space → Nat
  | .hbm => 10
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x512, .bf16⟩
  | .hbm, ⟨6, _⟩ => ⟨S8192x2048, .bf16⟩
  | .hbm, ⟨7, _⟩ => ⟨S8192x2048, .bf16⟩
  | .hbm, ⟨8, _⟩ => ⟨S8192x5888, .bf16⟩
  | .hbm, ⟨9, _⟩ => ⟨S1x5888, .f32⟩
  | .local _ .vmem, ⟨0, _⟩ => ⟨S128x1024, .bf16⟩
  | .local _ .vmem, ⟨1, _⟩ => ⟨S128x1024, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x512, .bf16⟩
  | .local _ .vmem, ⟨11, _⟩ => ⟨S128x512, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S128x5888, .bf16⟩
  | .local _ .vmem, ⟨17, _⟩ => ⟨S128x5888, .bf16⟩
  | .local _ .vmem, ⟨18, _⟩ => ⟨S1x5888, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x5888 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x5888 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== JoinDprojRefIdeal.lean ====
abbrev S8192x1024 : Shape := ⟨2, ![8192, 1024]⟩
abbrev S8192x128 : Shape := ⟨2, ![8192, 128]⟩
abbrev S8192x512 : Shape := ⟨2, ![8192, 512]⟩
abbrev S8192x2048 : Shape := ⟨2, ![8192, 2048]⟩
abbrev S_ : Shape := ⟨0, ![]⟩
abbrev S8192x5888 : Shape := ⟨2, ![8192, 5888]⟩
abbrev S1x5888 : Shape := ⟨2, ![1, 5888]⟩
abbrev S64x128x128 : Shape := ⟨3, ![64, 128, 128]⟩
abbrev S1x128x128 : Shape := ⟨3, ![1, 128, 128]⟩
abbrev S63x128x128 : Shape := ⟨3, ![63, 128, 128]⟩
abbrev S64x256x128 : Shape := ⟨3, ![64, 256, 128]⟩
abbrev S5888 : Shape := ⟨1, ![5888]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x512, .bf16⟩
  | .hbm, ⟨6, _⟩ => ⟨S8192x2048, .bf16⟩
  | .hbm, ⟨7, _⟩ => ⟨S8192x2048, .bf16⟩
  | .hbm, ⟨8, _⟩ => ⟨S_, .f32⟩
  | .hbm, ⟨9, _⟩ => ⟨S8192x5888, .f32⟩
  | .hbm, ⟨10, _⟩ => ⟨S_, .f32⟩
  | .hbm, ⟨11, _⟩ => ⟨S1x5888, .f32⟩
  | .hbm, ⟨12, _⟩ => ⟨S8192x5888, .f32⟩
  | .hbm, ⟨13, _⟩ => ⟨S8192x5888, .f32⟩
  | .hbm, ⟨14, _⟩ => ⟨S8192x1024, .f32⟩
  | .hbm, ⟨15, _⟩ => ⟨S8192x128, .f32⟩
  | .hbm, ⟨16, _⟩ => ⟨S8192x128, .f32⟩
  | .hbm, ⟨17, _⟩ => ⟨S8192x512, .f32⟩
  | .hbm, ⟨18, _⟩ => ⟨S8192x2048, .f32⟩
  | .hbm, ⟨19, _⟩ => ⟨S8192x2048, .f32⟩
  | .hbm, ⟨20, _⟩ => ⟨S64x128x128, .f32⟩
  | .hbm, ⟨21, _⟩ => ⟨S1x128x128, .f32⟩
  | .hbm, ⟨22, _⟩ => ⟨S_, .f32⟩
  | .hbm, ⟨23, _⟩ => ⟨S1x128x128, .f32⟩
  | .hbm, ⟨24, _⟩ => ⟨S63x128x128, .f32⟩
  | .hbm, ⟨25, _⟩ => ⟨S64x128x128, .f32⟩
  | .hbm, ⟨26, _⟩ => ⟨S_, .f32⟩
  | .hbm, ⟨27, _⟩ => ⟨S1x128x128, .f32⟩
  | .hbm, ⟨28, _⟩ => ⟨S64x256x128, .f32⟩
  | .hbm, ⟨29, _⟩ => ⟨S64x128x128, .f32⟩
  | .hbm, ⟨30, _⟩ => ⟨S1x128x128, .f32⟩
  | .hbm, ⟨31, _⟩ => ⟨S_, .f32⟩
  | .hbm, ⟨32, _⟩ => ⟨S1x128x128, .f32⟩
  | .hbm, ⟨33, _⟩ => ⟨S63x128x128, .f32⟩
  | .hbm, ⟨34, _⟩ => ⟨S64x128x128, .f32⟩
  | .hbm, ⟨35, _⟩ => ⟨S_, .f32⟩
  | .hbm, ⟨36, _⟩ => ⟨S1x128x128, .f32⟩
  | .hbm, ⟨37, _⟩ => ⟨S64x256x128, .f32⟩
  | .hbm, ⟨38, _⟩ => ⟨S8192x1024, .f32⟩
  | .hbm, ⟨39, _⟩ => ⟨S64x128x128, .f32⟩
  | .hbm, ⟨40, _⟩ => ⟨S64x128x128, .f32⟩
  | .hbm, ⟨41, _⟩ => ⟨S64x256x128, .f32⟩
  | .hbm, ⟨42, _⟩ => ⟨S64x128x128, .f32⟩
  | .hbm, ⟨43, _⟩ => ⟨S64x128x128, .f32⟩
  | .hbm, ⟨44, _⟩ => ⟨S64x256x128, .f32⟩
  | .hbm, ⟨45, _⟩ => ⟨S8192x512, .f32⟩
  | .hbm, ⟨46, _⟩ => ⟨S8192x2048, .f32⟩
  | .hbm, ⟨47, _⟩ => ⟨S8192x2048, .f32⟩
  | .hbm, ⟨48, _⟩ => ⟨S64x128x128, .f32⟩
  | .hbm, ⟨49, _⟩ => ⟨S64x128x128, .f32⟩
  | .hbm, ⟨50, _⟩ => ⟨S1x128x128, .f32⟩
  | .hbm, ⟨51, _⟩ => ⟨S63x128x128, .f32⟩
  | .hbm, ⟨52, _⟩ => ⟨S_, .f32⟩
  | .hbm, ⟨53, _⟩ => ⟨S64x128x128, .f32⟩
  | .hbm, ⟨54, _⟩ => ⟨S64x128x128, .f32⟩
  | .hbm, ⟨55, _⟩ => ⟨S8192x128, .f32⟩
  | .hbm, ⟨56, _⟩ => ⟨S64x128x128, .f32⟩
  | .hbm, ⟨57, _⟩ => ⟨S64x128x128, .f32⟩
  | .hbm, ⟨58, _⟩ => ⟨S1x128x128, .f32⟩
  | .hbm, ⟨59, _⟩ => ⟨S63x128x128, .f32⟩
  | .hbm, ⟨60, _⟩ => ⟨S_, .f32⟩
  | .hbm, ⟨61, _⟩ => ⟨S64x128x128, .f32⟩
  | .hbm, ⟨62, _⟩ => ⟨S64x128x128, .f32⟩
  | .hbm, ⟨63, _⟩ => ⟨S8192x128, .f32⟩
  | .hbm, ⟨64, _⟩ => ⟨S8192x5888, .f32⟩
  | .hbm, ⟨65, _⟩ => ⟨S_, .f32⟩
  | .hbm, ⟨66, _⟩ => ⟨S5888, .f32⟩
  | .hbm, ⟨67, _⟩ => ⟨S1x5888, .f32⟩
  | .hbm, ⟨68, _⟩ => ⟨S8192x5888, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Proof.Spec.lean ====
/-
  The gradient of the gated convolution as a closed form over the extended reals, index by index. Both programs
  are read as this form: `Proof/RefValue.lean` for the reference, `Proof/KernelRows.lean` and `Proof/KernelValue.lean`
  for the kernel. Arrays are read at natural numbers, zero outside.
-/
module

public import Idealize.ShloMosaic.Lib.Pointwise
public import Idealize.ShloMosaic.Lib.Pipeline.Value

@[expose] public section

noncomputable section

namespace Ffn

open Idealize.ShloMosaic

/-- A rank-2 array read at natural-number coordinates: its entry inside, zero outside. -/
def at2 {n0 n1 : ℕ} (A : (⟨2, ![n0, n1]⟩ : Shape).Idx → EReal) (r q : ℕ) : EReal :=
  if h : r < n0 ∧ q < n1 then A (ix2 ⟨r, h.1⟩ ⟨q, h.2⟩) else 0

/-- Inside, the read at natural numbers is the entry. -/
theorem at2_eq {n0 n1 : ℕ} (A : (⟨2, ![n0, n1]⟩ : Shape).Idx → EReal) (r : Fin n0) (q : Fin n1) (r' q' : ℕ)
    (hr : r' = r.val) (hq : q' = q.val) : at2 A r' q' = A (ix2 r q) := by
  subst hr hq
  simp [at2]

/-- Reading an array at an index with the given coordinates. -/
theorem at2_of {n0 n1 : ℕ} (A : (⟨2, ![n0, n1]⟩ : Shape).Idx → EReal) (i : (⟨2, ![n0, n1]⟩ : Shape).Idx) (r q : ℕ)
    (hr : (i 0).val = r) (hq : (i 1).val = q) : A i = at2 A r q := by
  subst hr hq
  exact (congrArg A (eq_ix2 i)).trans (at2_eq A (i 0) (i 1) _ _ rfl rfl).symm

/-- An entry of a block of an array, whose block numbers are given. -/
theorem at2_block {n0 n1 b0 b1 r l p0 p1 r' l' : ℕ} {A : (⟨2, ![n0, n1]⟩ : Shape).Idx → EReal} {i : (⟨2, ![n0, n1]⟩ : Shape).Idx} {J : Fin 2 → ℕ}
    (h : J 0 = p0 ∧ J 1 = p1) (e0 : (i 0).val = J 0 * b0 + 1 * r) (e1 : (i 1).val = J 1 * b1 + 1 * l)
    (k0 : p0 * b0 + r = r' := by first | rfl | exact (congrArg (· + _) (Nat.zero_mul _)).trans (Nat.zero_add _))
    (k1 : p1 * b1 + l = l' := by first | rfl | exact (congrArg (· + _) (Nat.zero_mul _)).trans (Nat.zero_add _)) : A i = at2 A r' l' := by
  rw [h.1, Nat.one_mul, k0] at e0
  rw [h.2, Nat.one_mul, k1] at e1
  exact at2_of A i _ _ e0 e1

/-- An index whose coordinates lie between a block's bounds lies in the block. -/
theorem mem_block {n0 n1 b0 b1 p0 p1 : ℕ} {J off : Fin 2 → ℕ} {inb : ∀ a, off a + (![b0, b1] : Fin 2 → ℕ) a ≤ (⟨2, ![n0, n1]⟩ : Shape).size a}
    {i : (⟨2, ![n0, n1]⟩ : Shape).Idx} (h : J 0 = p0 ∧ J 1 = p1) (k0 : p0 * b0 ≤ (i 0).val ∧ (i 0).val < p0 * b0 + b0)
    (k1 : p1 * b1 ≤ (i 1).val ∧ (i 1).val < p1 * b1 + b1) (e0 : off 0 = J 0 * b0 := by rfl) (e1 : off 1 = J 1 * b1 := by rfl) :
    i ∈ (Rect.unit (s := ⟨2, ![n0, n1]⟩) off ![b0, b1] inb).set := by
  rw [h.1] at e0
  rw [h.2] at e1
  refine (Rect.mem_set_unit (inb := inb)).2 fun a => ?_
  match a with
  | ⟨0, _⟩ => show off 0 ≤ (i 0).val ∧ (i 0).val < off 0 + b0; rwa [e0]
  | ⟨1, _⟩ => show off 1 ≤ (i 1).val ∧ (i 1).val < off 1 + b1; rwa [e1]

/-- The offsets of a whole block are zero. -/
theorem hz : (![0, 0] : Fin 2 → Nat) = fun _ => 0 := funext fun a => by fin_cases a <;> rfl

/-- Loading the whole of a block gives the block. -/
theorem ld_whole {Val : EltTy → Type} {e : EltTy} {n : Fin 2 → ℕ} (inb : ∀ a, (![0, 0] : Fin 2 → ℕ) a + n a ≤ n a) (X : (⟨2, n⟩ : Shape).Idx → Val e) :
    View.ld X (Rect.unit (s := ⟨2, n⟩) ![0, 0] n inb) = X :=
  View.ld_unit_zero (S := ⟨2, n⟩) hz inb X

/-- Past the last row the read is zero. -/
theorem at2_row {n0 n1 : ℕ} (A : (⟨2, ![n0, n1]⟩ : Shape).Idx → EReal) (r q : ℕ) (h : n0 ≤ r) : at2 A r q = 0 := by
  simp [at2, Nat.not_lt.2 h]

/-- The column of `up` that holds the value half of feed-forward column `q`: `up` lists two pairs of halves,
    2816 value columns then 2816 gate columns, twice. -/
def valCol (q : ℕ) : ℕ := q / 2816 * 5632 + q % 2816

/-- The column of `up` that holds the gate half of feed-forward column `q`. -/
def gateCol (q : ℕ) : ℕ := q / 2816 * 5632 + 2816 + q % 2816

/-- The reciprocal root of two. -/
abbrev rootHalf : EReal := (((Real.sqrt 2)⁻¹ : ℝ) : EReal)

/-- The reciprocal root of two pi. -/
abbrev normal : EReal := (((Real.sqrt (2 * Real.pi))⁻¹ : ℝ) : EReal)

/-- The real number one half, as the program's literal denotes it. -/
abbrev half : EReal := ((1 / 2 : ℝ) : EReal)

section
variable (D U W B : ℕ → ℕ → EReal)

/-- The gate column `q` with two zero rows ahead of it. -/
def gatePad (n q : ℕ) : EReal := if 2 ≤ n then U (n - 2) (gateCol q) else 0

/-- The causal depthwise convolution of the gate, at row `r` and column `q`. -/
def conv (r q : ℕ) : EReal :=
  B 0 q + W 0 q * gatePad U r q + W 1 q * gatePad U (r + 1) q + W 2 q * gatePad U (r + 2) q

/-- The derivative of the Gaussian error linear unit. -/
def slope (x : EReal) : EReal :=
  half * (1 + Ideal.erf (x * rootHalf)) + x * Ideal.exp (-half * x * x) * normal

/-- The gradient of the convolution's result. -/
def dconv (r q : ℕ) : EReal := D r q * U r (valCol q) * slope (conv U W B r q)

/-- The gradient of the value half. -/
def dval (r q : ℕ) : EReal :=
  D r q * (half * conv U W B r q * (1 + Ideal.erf (conv U W B r q * rootHalf)))

/-- The gradient of the gate half: the convolution run backwards over `dconv`. -/
def dgate (r q : ℕ) : EReal :=
  W 2 q * dconv D U W B r q + W 1 q * dconv D U W B (r + 1) q + W 0 q * dconv D U W B (r + 2) q

/-- The gradient of the convolution's weight `k`. -/
def dw (k q : ℕ) : EReal := ∑ r : Fin 8192, dconv D U W B r q * gatePad U (r + k) q

/-- The gradient of the convolution's bias. -/
def db (q : ℕ) : EReal := ∑ r : Fin 8192, dconv D U W B r q

/-- The gradient of `up` at column `p`: value and gate halves, laid as `up` is. -/
def dup (r p : ℕ) : EReal :=
  if p % 5632 < 2816 then dval D U W B r (p / 5632 * 2816 + p % 5632)
  else dgate D U W B r (p / 5632 * 2816 + (p % 5632 - 2816))

/-- Past the last row of the cotangent nothing flows back. -/
theorem dconv_zero (hD : ∀ r q, 8192 ≤ r → D r q = 0) (r q : ℕ) (h : 8192 ≤ r) : dconv D U W B r q = 0 := by
  rw [dconv, hD r q h, zero_mul, zero_mul]

end

/-- The literal `0.5`. -/
theorem ofBits_half : Ideal.ofBits .f32 0x3F000000#32 = half := by
  simp [Ideal.ofBits, Ideal.ieee, -EReal.coe_mul]; norm_num

/-- The literal `-0.5`. -/
theorem ofBits_neg_half : Ideal.ofBits .f32 0xBF000000#32 = -half := by
  simp [Ideal.ofBits, Ideal.ieee, -EReal.coe_mul]; norm_num

/-- The slope of the error function times the slope of its argument, over the reals. -/
theorem slope_const : 2 * (Real.sqrt Real.pi)⁻¹ * (1 / 2) * (Real.sqrt 2)⁻¹ = (Real.sqrt (2 * Real.pi))⁻¹ := by
  rw [Real.sqrt_mul (by norm_num), mul_inv]
  ring

/-- The square of the reciprocal root of two. -/
theorem rootHalf_sq (x : ℝ) : 0 - x * (Real.sqrt 2)⁻¹ * (x * (Real.sqrt 2)⁻¹) = -(1 / 2) * x * x := by
  have h : (Real.sqrt 2)⁻¹ * (Real.sqrt 2)⁻¹ = 1 / 2 := by
    rw [← mul_inv, Real.mul_self_sqrt (by norm_num)]; norm_num
  calc _ = -(((Real.sqrt 2)⁻¹ * (Real.sqrt 2)⁻¹) * (x * x)) := by ring
    _ = _ := by rw [h]; ring

/-- Differentiating `x/2 · (1 + erf(x/√2))` factor by factor, at a finite cotangent `y`, gives `y` times the closed
    slope: at real `x` by the constants above, at infinite `x` because the exponential is zero there. -/
theorem slope_eq (y : ℝ) (x : EReal) :
    ((2 * (Real.sqrt Real.pi)⁻¹ : ℝ) : EReal) * (half * x * (y : EReal))
        * Ideal.exp (0 - x * rootHalf * (x * rootHalf)) * rootHalf
      + half * ((y : EReal) * (1 + Ideal.erf (x * rootHalf)))
    = (y : EReal) * slope x := by
  have h2 : (0 : ℝ) < (Real.sqrt 2)⁻¹ := by positivity
  induction x with
  | bot =>
    have e1 : (⊥ : EReal) * rootHalf = ⊥ := EReal.bot_mul_coe_of_pos h2
    have e2 : -half * ⊥ * (⊥ : EReal) = ⊥ := by
      rw [← EReal.coe_neg, EReal.coe_mul_bot_of_neg (by norm_num), EReal.top_mul_bot]
    have e4 : (1 : EReal) + -1 = 0 := by rw [← EReal.coe_one, ← EReal.coe_neg, ← EReal.coe_add]; simp
    rw [slope, e1, e2, EReal.bot_mul_bot, zero_sub, EReal.neg_top]
    simp [Ideal.exp_bot, e4]
  | top =>
    have e1 : (⊤ : EReal) * rootHalf = ⊤ := EReal.top_mul_coe_of_pos h2
    have e2 : -half * ⊤ * (⊤ : EReal) = ⊥ := by
      rw [← EReal.coe_neg, EReal.coe_mul_top_of_neg (by norm_num), EReal.bot_mul_top]
    rw [slope, e1, e2, EReal.top_mul_top, zero_sub, EReal.neg_top]
    simp only [Ideal.exp_bot, mul_zero, zero_mul, zero_add, add_zero, Ideal.erf_top]
    rw [mul_left_comm]
  | coe x =>
    rw [slope]
    simp only [half, rootHalf, normal]
    rw [← EReal.coe_mul x, Ideal.erf_coe]
    generalize (2 / Real.sqrt Real.pi * ∫ t in (0 : ℝ)..(x * (Real.sqrt 2)⁻¹), Real.exp (-(t ^ 2)) : ℝ) = e
    rw [← EReal.coe_one, ← EReal.coe_zero, ← EReal.coe_neg, ← EReal.coe_mul, ← EReal.coe_mul, ← EReal.coe_mul, ← EReal.coe_mul,
      ← EReal.coe_sub, ← EReal.coe_mul, ← EReal.coe_mul, Ideal.exp_coe, Ideal.exp_coe, rootHalf_sq]
    simp only [← EReal.coe_mul, ← EReal.coe_add]
    congr 1
    rw [← slope_const]
    ring

end Ffn

end
-- ==== Proof.RefValue.lean ====
/-
  The reference's three results, read index by index, are the closed forms of `Proof/Spec.lean`.
-/
module

public import proofs.«01_k».proof.Proof.Spec
public import proofs.«01_k».proof.Proof.Gen.ReferenceIdeal.Value
public import Idealize.ShloMosaic.Lib.Pointwise

@[expose] public section

noncomputable section

namespace Cert.ReferenceIdeal.Read

open Cert.ReferenceIdeal Cert.ReferenceIdeal.Gen Idealize.ShloMosaic Ffn

variable (a0 : Vec Ideal S8192x5632 .bf16) (a1 : Vec Ideal S8192x11264 .bf16) (a2 : Vec Ideal S3x5632 .f32)
  (a3 : Vec Ideal S1x5632 .f32)

/-- The value half of `up`, the two halves joined. -/
theorem val_apply (r : Fin 8192) (q : Fin 5632) :
    (if h : q.val < 2816 then k0_pay2 a1 (ix2 r ⟨q.val, by omega⟩) else k0_pay2 a1 (ix2 r ⟨5632 + (q.val - 2816), by omega⟩))
      = at2 a1 r.val (valCol q.val) := by
  unfold k0_pay2
  pointwise
  split
  · exact (at2_eq a1 _ _ _ _ rfl (by simp only [valCol]; omega)).symm
  · exact (at2_eq a1 _ _ _ _ rfl (by simp only [valCol]; omega)).symm

/-- The gate with two zero rows ahead of it. -/
theorem pad_apply (n : Fin 8194) (q : Fin 5632) : k0_pay3 a1 (ix2 n q) = gatePad (at2 a1) n.val q.val := by
  unfold k0_pay3 k0_pay2
  pointwise
  unfold gatePad
  split
  · exact (if_neg (by omega)).symm
  · refine Eq.trans ?_ (if_pos (by omega)).symm
    split
    · exact (at2_eq a1 _ _ _ _ rfl (by simp only [gateCol]; omega)).symm
    · exact (at2_eq a1 _ _ _ _ rfl (by simp only [gateCol]; omega)).symm

/-- The padded gate shifted by zero, one and two rows. -/
theorem shift_apply (r : Fin 8192) (q : Fin 5632) :
    k0_pay5 a1 (ix2 r q) = gatePad (at2 a1) r.val q.val
    ∧ k0_pay7 a1 (ix2 r q) = gatePad (at2 a1) (r.val + 1) q.val
    ∧ k0_pay9 a1 (ix2 r q) = gatePad (at2 a1) (r.val + 2) q.val := by
  unfold k0_pay5 k0_pay7 k0_pay9
  pointwise [pad_apply]
  simp only [Nat.zero_add, Nat.add_comm, and_self]

/-- The convolution. -/
theorem conv_apply (r : Fin 8192) (q : Fin 5632) :
    k0_pay10 a1 a2 a3 (ix2 r q) = conv (at2 a1) (at2 a2) (at2 a3) r.val q.val := by
  obtain ⟨h0, h1, h2⟩ := shift_apply a1 r q
  unfold k0_pay10 k0_pay4 k0_pay6 k0_pay8
  pointwise [h0, h1, h2]
  rw [conv, at2_eq a3 0 q 0 _ rfl rfl, at2_eq a2 0 q 0 _ rfl rfl, at2_eq a2 1 q 1 _ rfl rfl, at2_eq a2 2 q 2 _ rfl rfl]

/-- The named root of one half. -/
theorem named_root (b : BitVec 32) : Named.named (F := Ideal) κ "sqrt_half" (φ := .f32) b = rootHalf :=
  IdealRules.named_const.ideal_named_scalar _ _ _ _ rfl

/-- The named slope of the error function at zero. -/
theorem named_slope (b : BitVec 32) :
    Named.named (F := Ideal) κ "erf_slope" (φ := .f32) b = ((2 * (Real.sqrt Real.pi)⁻¹ : ℝ) : EReal) :=
  IdealRules.named_const.ideal_named_scalar _ _ _ _ rfl

/-- The gradient of the convolution's result, before it is brought to the closed slope. -/
theorem dconv_raw (r : Fin 8192) (q : Fin 5632) :
    k0_pay20 (k0_pay24 a0 a1 a2 a3) (k0_pay25 a0 a1 a2 a3) (k0_pay26 a0 a1 a2 a3) (Named.named κ "erf_slope" 0x3F906EBB#32) (ix2 r q)
      = ((2 * (Real.sqrt Real.pi)⁻¹ : ℝ) : EReal)
            * (half * conv (at2 a1) (at2 a2) (at2 a3) r.val q.val * (at2 a1 r.val (valCol q.val) * at2 a0 r.val q.val))
          * Ideal.exp (0 - conv (at2 a1) (at2 a2) (at2 a3) r.val q.val * rootHalf * (conv (at2 a1) (at2 a2) (at2 a3) r.val q.val * rootHalf)) * rootHalf
        + half * (at2 a1 r.val (valCol q.val) * at2 a0 r.val q.val
            * (1 + Ideal.erf (conv (at2 a1) (at2 a2) (at2 a3) r.val q.val * rootHalf))) := by
  unfold k0_pay20 k0_pay24 k0_pay25 k0_pay26
  rw [View.ld_unit_zero (S := S8192x11264) Value.hz1 _ a1, View.ld_unit_zero (S := S3x5632) Value.hz2 _ a2, View.ld_unit_zero (S := S1x5632) Value.hz3 _ a3, View.ld_unit_zero (S := S8192x5632) Value.hz0 _ a0]
  unfold k0_pay13 k0_pay18 k0_pay19 k0_pay11 k0_pay14 k0_pay16 k0_pay15
  pointwise
  unfold k0_pay12
  pointwise [conv_apply, named_root, named_slope, ofBits_half, Ideal.erf_def]
  rw [val_apply, at2_eq a0 r q _ _ rfl rfl]

/-- The gradient of the convolution's result, where the cotangent and the value half are finite. -/
theorem dconv_apply (hd : ∀ r q, ∃ y : ℝ, at2 a0 r q = y) (hv : ∀ r q, ∃ y : ℝ, at2 a1 r (valCol q) = y)
    (r : Fin 8192) (q : Fin 5632) :
    k0_pay20 (k0_pay24 a0 a1 a2 a3) (k0_pay25 a0 a1 a2 a3) (k0_pay26 a0 a1 a2 a3) (Named.named κ "erf_slope" 0x3F906EBB#32) (ix2 r q)
      = dconv (at2 a0) (at2 a1) (at2 a2) (at2 a3) r.val q.val := by
  rw [dconv_raw, dconv]
  obtain ⟨d, hd⟩ := hd r.val q.val
  obtain ⟨v, hv⟩ := hv r.val q.val
  rw [hd, hv, mul_comm (d : EReal), ← EReal.coe_mul]
  exact slope_eq (v * d) _

section Results

variable (hd : ∀ r q, ∃ y : ℝ, at2 a0 r q = y) (hv : ∀ r q, ∃ y : ℝ, at2 a1 r (valCol q) = y)
include hd hv

/-- The gradient of the gate half: rows past the last one carry nothing. -/
theorem dgate_apply (r : Fin 8192) (q : Fin 5632) :
    k0_pay23 (k0_pay4 a2) (k0_pay6 a2) (k0_pay8 a2) (k0_pay24 a0 a1 a2 a3) (k0_pay25 a0 a1 a2 a3) (k0_pay26 a0 a1 a2 a3)
        (Named.named κ "erf_slope" 0x3F906EBB#32) (ix2 r q)
      = dgate (at2 a0) (at2 a1) (at2 a2) (at2 a3) r.val q.val := by
  have hz : ∀ n, 8192 ≤ n → dconv (at2 a0) (at2 a1) (at2 a2) (at2 a3) n q.val = 0 :=
    fun n => dconv_zero _ _ _ _ (fun r q h => at2_row a0 r q h) n q.val
  unfold k0_pay23 k0_pay4 k0_pay6 k0_pay8
  pointwise [dconv_apply a0 a1 a2 a3 hd hv]
  rw [dgate, at2_eq a2 0 q 0 _ rfl rfl, at2_eq a2 1 q 1 _ rfl rfl, at2_eq a2 2 q 2 _ rfl rfl]
  have e1 : 2 + r.val - 1 = r.val + 1 := by omega
  have e2 : 2 + r.val = r.val + 2 := by omega
  congr 1
  · congr 1
    split
    · split
      · omega
      · rw [e1]
    · rw [hz (r.val + 1) (by omega), mul_zero]
  · split
    · rw [e2]
    · rw [hz (r.val + 2) (by omega), mul_zero]

omit hd hv in
/-- The gradient of the value half. -/
theorem dval_apply (r : Fin 8192) (q : Fin 5632) :
    k0_pay17 a1 a2 a3 a0 (ix2 r q) = dval (at2 a0) (at2 a1) (at2 a2) (at2 a3) r.val q.val := by
  unfold k0_pay17 k0_pay15 k0_pay11 k0_pay14
  pointwise
  unfold k0_pay12
  pointwise [conv_apply, named_root, ofBits_half, Ideal.erf_def]
  rw [dval, at2_eq a0 r q _ _ rfl rfl]

/-- The gradient of `up`. -/
theorem dup_apply (r : Fin 8192) (p : Fin 11264) :
    Value.G4 a0 a1 a2 a3 (ix2 r p) = dup (at2 a0) (at2 a1) (at2 a2) (at2 a3) r.val p.val := by
  unfold Value.G4 k0_pay1
  pointwise [dval_apply, dgate_apply a0 a1 a2 a3 hd hv]
  have hp : p.val < 11264 := p.isLt
  rw [dup]
  split
  · rw [if_pos (by omega)]; exact congrArg (dval _ _ _ _ _) (by omega)
  · split
    · rw [if_neg (by omega)]; exact congrArg (dgate _ _ _ _ _) (by omega)
    · split
      · rw [if_pos (by omega)]; exact congrArg (dval _ _ _ _ _) (by omega)
      · rw [if_neg (by omega)]; exact congrArg (dgate _ _ _ _ _) (by omega)

/-- The gradient of the convolution's weights. -/
theorem dw_apply (k : Fin 3) (q : Fin 5632) :
    Value.G5 a0 a1 a2 a3 (ix2 k q) = dw (at2 a0) (at2 a1) (at2 a2) (at2 a3) k.val q.val := by
  have h0 := fun r => (shift_apply a1 r q).1
  have h1 := fun r => (shift_apply a1 r q).2.1
  have h2 := fun r => (shift_apply a1 r q).2.2
  unfold Value.G5 k0_pay22
  pointwise [dconv_apply a0 a1 a2 a3 hd hv, h0, h1, h2]
  rw [dw]
  match k with
  | 0 => simp
  | 1 => simp
  | 2 => simp

/-- The gradient of the convolution's bias. -/
theorem db_apply (k : Fin 1) (q : Fin 5632) :
    Value.G6 a0 a1 a2 a3 (ix2 k q) = db (at2 a0) (at2 a1) (at2 a2) (at2 a3) q.val := by
  unfold Value.G6 k0_pay21
  pointwise [dconv_apply a0 a1 a2 a3 hd hv]
  rfl

end Results

end Cert.ReferenceIdeal.Read

end
-- ==== Proof.KernelRows.lean ====
/-
  The kernel's values at one grid point, read index by index: over blocks that hold rows `512 i …` and columns
  `2816 j …` of the arguments, each value is the closed form of `Proof/Spec.lean` at the global row and column.
-/
module

public import proofs.«01_k».proof.Proof.Spec
public import proofs.«01_k».proof.Proof.Gen.KernelIdeal.Value
public import Idealize.ShloMosaic.Lib.Pointwise

@[expose] public section

noncomputable section

namespace Cert.KernelIdeal.Rows

open Cert.KernelIdeal Cert.KernelIdeal.Gen Idealize.ShloMosaic Ffn

/-- The named reciprocal root of two. -/
theorem named_root (b : BitVec 32) : Named.named (F := Ideal) κ "inv_sqrt2" (φ := .f32) b = rootHalf :=
  IdealRules.named_const.ideal_named_scalar _ _ _ _ rfl

/-- The named reciprocal root of two pi. -/
theorem named_normal (b : BitVec 32) : Named.named (F := Ideal) κ "inv_sqrt2pi" (φ := .f32) b = normal :=
  IdealRules.named_const.ideal_named_scalar _ _ _ _ rfl

/-- What the input blocks hold at tile `i` of half `j`, read at natural numbers. The rows ahead of the first tile and
    after the last one are not constrained: the kernel replaces them by zero or multiplies them by zero. -/
structure Blocks (D U W B : ℕ → ℕ → EReal) (i j : ℕ) (d : Vec Ideal S512x2816 .bf16) (dn : Vec Ideal S16x2816 .bf16)
    (v : Vec Ideal S512x2816 .bf16) (vn : Vec Ideal S16x2816 .bf16) (g : Vec Ideal S512x2816 .bf16)
    (gp gn : Vec Ideal S16x2816 .bf16) (w0 w1 w2 b : Vec Ideal S1x2816 .f32) : Prop where
  tile : i < 16
  d_eq : ∀ (r : Fin 512) (l : Fin 2816), d (ix2 r l) = D (512 * i + r.val) (2816 * j + l.val)
  dn_eq : i < 15 → ∀ (r : Fin 16) (l : Fin 2816), dn (ix2 r l) = D (512 * i + 512 + r.val) (2816 * j + l.val)
  v_eq : ∀ (r : Fin 512) (l : Fin 2816), v (ix2 r l) = U (512 * i + r.val) (5632 * j + l.val)
  vn_eq : i < 15 → ∀ (r : Fin 16) (l : Fin 2816), vn (ix2 r l) = U (512 * i + 512 + r.val) (5632 * j + l.val)
  g_eq : ∀ (r : Fin 512) (l : Fin 2816), g (ix2 r l) = U (512 * i + r.val) (5632 * j + 2816 + l.val)
  gp_eq : 0 < i → ∀ (r : Fin 16) (l : Fin 2816), gp (ix2 r l) = U (512 * i - 16 + r.val) (5632 * j + 2816 + l.val)
  gn_eq : i < 15 → ∀ (r : Fin 16) (l : Fin 2816), gn (ix2 r l) = U (512 * i + 512 + r.val) (5632 * j + 2816 + l.val)
  w0_eq : ∀ (l : Fin 2816), w0 (ix2 0 l) = W 0 (2816 * j + l.val)
  w1_eq : ∀ (l : Fin 2816), w1 (ix2 0 l) = W 1 (2816 * j + l.val)
  w2_eq : ∀ (l : Fin 2816), w2 (ix2 0 l) = W 2 (2816 * j + l.val)
  b_eq : ∀ (l : Fin 2816), b (ix2 0 l) = B 0 (2816 * j + l.val)

/-- Comparing the tile with a number below sixteen in 32-bit words. -/
theorem tile_bit (n k : ℕ) (hn : n < 16) (hk : k < 16) :
    Scalar.cmpi .eq (BitVec.ofNat 32 n) (BitVec.ofNat 32 k) = if n = k then 1#1 else 0#1 := by
  by_cases e : n = k
  · subst e; simp [Scalar.cmpi, IntOp.cmpi]
  · have : (BitVec.ofNat 32 n) ≠ BitVec.ofNat 32 k := fun c => e (by
      have := congrArg BitVec.toNat c
      simp only [BitVec.toNat_ofNat] at this
      omega)
    simp [Scalar.cmpi, IntOp.cmpi, e, beq_eq_false_iff_ne.2 this]

variable {D U W B : ℕ → ℕ → EReal} {i : grid0.Coords} {j : ℕ} {d : Vec Ideal S512x2816 .bf16} {dn : Vec Ideal S16x2816 .bf16}
    {v : Vec Ideal S512x2816 .bf16} {vn : Vec Ideal S16x2816 .bf16} {g : Vec Ideal S512x2816 .bf16}
    {gp gn : Vec Ideal S16x2816 .bf16} {w0 w1 w2 b : Vec Ideal S1x2816 .f32}
    (h : Blocks D U W B (i 1).val j d dn v vn g gp gn w0 w1 w2 b)
include h

/-- The gate rows from two ahead of the tile to eight after it: the padded gate. -/
theorem ext_apply (e : Fin 536) (l : Fin 2816) (he : 14 ≤ e.val) (hi : e.val < 528 ∨ (i 1).val < 15) :
    k0_pay2 i gp g gn (ix2 e l) = gatePad U (512 * (i 1).val + (e.val - 14)) (2816 * j + l.val) := by
  have hl := l.isLt
  have ht := h.tile
  have hc : gateCol (2816 * j + l.val) = 5632 * j + 2816 + l.val := by simp only [gateCol]; omega
  unfold k0_pay2
  pointwise
  change (if h : e.val < 16 then
      Scalar.select (Scalar.cmpi .eq (BitVec.ofNat 32 (i 1).val) (BitVec.ofNat 32 0)) (0 : EReal) (gp (ix2 ⟨e.val, h⟩ l))
    else if h' : e.val - 16 < 512 then g (ix2 ⟨e.val - 16, h'⟩ l) else gn (ix2 ⟨e.val - 16 - 512, by omega⟩ l)) = _
  rw [gatePad, hc, tile_bit _ 0 ht (by omega)]
  by_cases h1 : e.val < 16
  · rw [dif_pos h1]
    by_cases h0 : (i 1).val = 0
    · rw [if_pos h0, if_neg (by omega)]; rfl
    · rw [if_neg h0, if_pos (by omega)]
      show gp _ = _
      rw [h.gp_eq (by omega)]
      exact congrArg (fun n => U n _) (by dsimp only; omega)
  · rw [dif_neg h1, if_pos (by omega)]
    by_cases h2 : e.val - 16 < 512
    · rw [dif_pos h2, h.g_eq]
      exact congrArg (fun n => U n _) (by dsimp only; omega)
    · rw [dif_neg h2, h.gn_eq (by omega)]
      exact congrArg (fun n => U n _) (by dsimp only; omega)

/-- The three taps at row `r`: the padded gate at `r + 2`, `r + 1` and `r`. -/
theorem taps_apply (r : Fin 520) (l : Fin 2816) (hr : r.val < 512 ∨ (i 1).val < 15) :
    k0_pay3 i gp g gn (ix2 r l) = gatePad U (512 * (i 1).val + r.val + 2) (2816 * j + l.val)
    ∧ k0_pay4 i gp g gn (ix2 r l) = gatePad U (512 * (i 1).val + r.val + 1) (2816 * j + l.val)
    ∧ k0_pay5 i gp g gn (ix2 r l) = gatePad U (512 * (i 1).val + r.val) (2816 * j + l.val) := by
  unfold k0_pay3 k0_pay4 k0_pay5
  pointwise
  refine ⟨?_, ?_, ?_⟩ <;>
  · rw [ext_apply h _ _ (by dsimp only; omega) (by dsimp only; omega)]
    exact congrArg (fun n => gatePad U n _) (by dsimp only; omega)

/-- The convolution at row `r` of the tile. -/
theorem conv_apply (r : Fin 520) (l : Fin 2816) (hr : r.val < 512 ∨ (i 1).val < 15) :
    k0_pay6 i gp g gn w0 w1 w2 b (ix2 r l) = conv U W B (512 * (i 1).val + r.val) (2816 * j + l.val) := by
  obtain ⟨h2, h1, h0⟩ := taps_apply h r l hr
  unfold k0_pay6
  pointwise [h0, h1, h2]
  rw [conv, h.w0_eq, h.w1_eq, h.w2_eq, h.b_eq]

/-- The bit that says the tile is the last one. -/
abbrev lastBit (i : grid0.Coords) : BitVec 1 := Scalar.cmpi .eq (BitVec.ofNat 32 (i 1).val) 15#32

/-- The gradient of the convolution's result at row `r`, eight rows past the tile included: past the last tile the
    cotangent is zero, whatever the other blocks hold. -/
theorem dconv_apply (hD : ∀ r q, 8192 ≤ r → D r q = 0) (r : Fin 520) (l : Fin 2816) :
    k0_pay9 (k0_pay6 i gp g gn w0 w1 w2 b) (k0_pay7 d) (lastBit i) (k0_pay8 dn) v vn (ix2 r l)
      = dconv D U W B (512 * (i 1).val + r.val) (2816 * j + l.val) := by
  have hl := l.isLt
  have ht := h.tile
  have hc : valCol (2816 * j + l.val) = 5632 * j + l.val := by simp only [valCol]; omega
  unfold k0_pay9 k0_pay7 k0_pay8
  pointwise [named_root, named_normal, ofBits_half, ofBits_neg_half, Ideal.erf_def]
  rw [lastBit, tile_bit _ 15 ht (by omega), dconv, hc]
  by_cases hr : r.val < 512
  · rw [dif_pos hr, dif_pos hr, h.d_eq, h.v_eq, conv_apply h r l (.inl hr)]
    rfl
  · rw [dif_neg hr, dif_neg hr]
    by_cases h15 : (i 1).val = 15
    · rw [if_pos h15, hD _ _ (by omega)]
      show (0 : EReal) * _ * _ = _
      rw [zero_mul, zero_mul, zero_mul, zero_mul]
    · rw [if_neg h15, conv_apply h r l (.inr (by omega))]
      show dn _ * _ * _ = _
      rw [h.dn_eq (by omega), h.vn_eq (by omega)]
      have e : 512 * (i 1).val + 512 + (r.val - 512) = 512 * (i 1).val + r.val := by omega
      dsimp only
      rw [e]
      rfl

/-- The gradient of the convolution's result at the tile's own rows, and one and two rows ahead. -/
theorem ahead_apply (hD : ∀ r q, 8192 ≤ r → D r q = 0) (r : Fin 512) (l : Fin 2816) :
    k0_pay12 (k0_pay6 i gp g gn w0 w1 w2 b) (k0_pay7 d) (lastBit i) (k0_pay8 dn) v vn (ix2 r l)
      = dconv D U W B (512 * (i 1).val + r.val) (2816 * j + l.val)
    ∧ k0_pay10 (k0_pay6 i gp g gn w0 w1 w2 b) (k0_pay7 d) (lastBit i) (k0_pay8 dn) v vn (ix2 r l)
      = dconv D U W B (512 * (i 1).val + r.val + 1) (2816 * j + l.val)
    ∧ k0_pay11 (k0_pay6 i gp g gn w0 w1 w2 b) (k0_pay7 d) (lastBit i) (k0_pay8 dn) v vn (ix2 r l)
      = dconv D U W B (512 * (i 1).val + r.val + 2) (2816 * j + l.val) := by
  unfold k0_pay12 k0_pay10 k0_pay11
  pointwise
  refine ⟨?_, ?_, ?_⟩ <;>
  · refine (dconv_apply h hD _ l).trans (congrArg (fun n => dconv D U W B n _) ?_)
    first | omega | (dsimp only; done) | (dsimp only; omega)

/-- The gradient of the value half at the tile's rows. -/
theorem dval_apply (r : Fin 512) (l : Fin 2816) :
    k0_pay13 (k0_pay6 i gp g gn w0 w1 w2 b) (k0_pay7 d) (ix2 r l)
      = dval D U W B (512 * (i 1).val + r.val) (2816 * j + l.val) := by
  unfold k0_pay13 k0_pay7
  pointwise [named_root, ofBits_half, Ideal.erf_def]
  rw [dval, h.d_eq, conv_apply h _ l (.inl r.isLt)]

/-- The gradient of the gate half at the tile's rows. -/
theorem dgate_apply (hD : ∀ r q, 8192 ≤ r → D r q = 0) (r : Fin 512) (l : Fin 2816) :
    k0_pay14 w0 w1 w2
        (k0_pay10 (k0_pay6 i gp g gn w0 w1 w2 b) (k0_pay7 d) (lastBit i) (k0_pay8 dn) v vn)
        (k0_pay11 (k0_pay6 i gp g gn w0 w1 w2 b) (k0_pay7 d) (lastBit i) (k0_pay8 dn) v vn)
        (k0_pay12 (k0_pay6 i gp g gn w0 w1 w2 b) (k0_pay7 d) (lastBit i) (k0_pay8 dn) v vn) (ix2 r l)
      = dgate D U W B (512 * (i 1).val + r.val) (2816 * j + l.val) := by
  obtain ⟨e0, e1, e2⟩ := ahead_apply h hD r l
  unfold k0_pay14
  pointwise [e0, e1, e2]
  rw [dgate, h.w0_eq, h.w1_eq, h.w2_eq]

/-- What the tile adds to the gradient of weight `k`. -/
def dwTile (D U W B : ℕ → ℕ → EReal) (i k q : ℕ) : EReal :=
  ∑ r : Fin 512, dconv D U W B (512 * i + r.val) q * gatePad U (512 * i + r.val + k) q

/-- What the tile adds to the gradient of the bias. -/
def dbTile (D U W B : ℕ → ℕ → EReal) (i q : ℕ) : EReal := ∑ r : Fin 512, dconv D U W B (512 * i + r.val) q

/-- The tile's additions to the three rows of the weights' gradient and to the bias's. -/
theorem sums_apply (hD : ∀ r q, 8192 ≤ r → D r q = 0) (acc : Vec Ideal S1x2816 .f32) (l : Fin 2816) :
    k0_pay17 (k0_pay5 i gp g gn)
        (k0_pay12 (k0_pay6 i gp g gn w0 w1 w2 b) (k0_pay7 d) (lastBit i) (k0_pay8 dn) v vn) acc (ix2 0 l)
      = acc (ix2 0 l) + dwTile D U W B (i 1).val 0 (2816 * j + l.val)
    ∧ k0_pay18 (k0_pay4 i gp g gn)
        (k0_pay12 (k0_pay6 i gp g gn w0 w1 w2 b) (k0_pay7 d) (lastBit i) (k0_pay8 dn) v vn) acc (ix2 0 l)
      = acc (ix2 0 l) + dwTile D U W B (i 1).val 1 (2816 * j + l.val)
    ∧ k0_pay19 (k0_pay3 i gp g gn)
        (k0_pay12 (k0_pay6 i gp g gn w0 w1 w2 b) (k0_pay7 d) (lastBit i) (k0_pay8 dn) v vn) acc (ix2 0 l)
      = acc (ix2 0 l) + dwTile D U W B (i 1).val 2 (2816 * j + l.val)
    ∧ k0_pay1 (k0_pay12 (k0_pay6 i gp g gn w0 w1 w2 b) (k0_pay7 d) (lastBit i) (k0_pay8 dn) v vn) acc (ix2 0 l)
      = acc (ix2 0 l) + dbTile D U W B (i 1).val (2816 * j + l.val) := by
  have e := fun r l => (ahead_apply h hD r l).1
  have t := fun (r : Fin 512) l => taps_apply h (⟨r.val, by omega⟩ : Fin 520) l (.inl r.isLt)
  unfold k0_pay17 k0_pay18 k0_pay19 k0_pay1
  pointwise [e]
  refine ⟨?_, ?_, ?_, rfl⟩
  · exact congrArg _ (Finset.sum_congr rfl fun r _ => by rw [(t r l).2.2]; rfl)
  · exact congrArg _ (Finset.sum_congr rfl fun r _ => by rw [(t r l).2.1])
  · exact congrArg _ (Finset.sum_congr rfl fun r _ => by rw [(t r l).1])

end Cert.KernelIdeal.Rows

end
-- ==== Proof.KernelOuts.lean ====
/-
  What one grid point leaves in the three output blocks, read index by index: the block of the up-projection's gradient,
  and the running sums of the convolution weights' and bias's gradients.
-/
module

public import proofs.«01_k».proof.Proof.KernelRows
public import Idealize.ShloMosaic.Lib.Pipeline.ReadBack

@[expose] public section

noncomputable section

namespace Cert.KernelIdeal.Outs

open Cert.KernelIdeal Cert.KernelIdeal.Gen Cert.KernelIdeal.Rows Idealize.ShloMosaic Idealize.ShloMosaic.TcCoe Idealize.SL.Sem Ffn

/-- Row `k` of a block of three rows. -/
abbrev row (x : Vec Ideal S3x2816 .f32) (k : Fin 3) : Vec Ideal S1x2816 .f32 := fun y => x (ix2 k (y 1))

theorem ld_row (x : Vec Ideal S3x2816 .f32) :
    View.ld x (Rect.unit ![0, 0] ![1, 2816] inb_S3x2816_S1x2816_0_0) = row x 0
    ∧ View.ld x (Rect.unit ![1, 0] ![1, 2816] inb_S3x2816_S1x2816_1_0) = row x 1
    ∧ View.ld x (Rect.unit ![2, 0] ![1, 2816] inb_S3x2816_S1x2816_2_0) = row x 2 := by
  refine ⟨?_, ?_, ?_⟩ <;>
  · funext y
    refine congrArg x (funext fun a => Fin.ext ?_)
    have h0 : (y 0).val = 0 := by have := (y 0).isLt; change (y 0).val < 1 at this; omega
    match a with
    | ⟨0, _⟩ => show _ + 1 * (y 0).val = _; rw [h0]; rfl
    | ⟨1, _⟩ => show 0 + 1 * (y 1).val = (y 1).val; omega

/-- An index of a block of one row is its column. -/
theorem eq_row (x : S1x2816.Idx) : x = ix2 0 (x 1) := by
  have h0 : x 0 = (0 : Fin 1) := Fin.ext (by have := (x 0).isLt; change (x 0).val < 1 at this; show (x 0).val = 0; omega)
  exact (eq_ix2 x).trans (congrArg (fun k => ix2 k (x 1)) h0)

/-- Row `k` of a block of three, at its own columns. -/
theorem ix2_row (k : Fin 3) (x : S1x2816.Idx) (y : S3x2816.Idx) (h0 : (y 0).val = k.val + 1 * (x 0).val)
    (h1 : (y 1).val = 0 + 1 * (x 1).val) : ix2 k (x 1) = y := by
  have h : (x 0).val = 0 := by have := (x 0).isLt; change (x 0).val < 1 at this; omega
  refine funext fun a => Fin.ext ?_
  match a with
  | ⟨0, _⟩ => show k.val = (y 0).val; omega
  | ⟨1, _⟩ => show (x 1).val = (y 1).val; omega

/-- The tile's sum for weight `k`, at the row and columns of a stored row. -/
theorem row_index (D U W B : ℕ → ℕ → EReal) (i j k : ℕ) (x : S1x2816.Idx) :
    dwTile D U W B i k (2816 * j + (x 1).val)
      = dwTile D U W B i (k + 1 * (x 0).val) (2816 * j + (0 + 1 * (x 1).val)) := by
  have h : (x 0).val = 0 := by have := (x 0).isLt; change (x 0).val < 1 at this; omega
  exact congrArg₂ (dwTile D U W B i) (by omega) (by omega)

/-- The three rows of the weights' gradient cover it. -/
theorem cover_10 (k : Fin 3) (l : Fin 2816) (w2 w1 w0 : Vec Ideal S1x2816 .f32) :
    ∃ p ∈ ([⟨Rect.unit ![2, 0] ![1, 2816] inb_S3x2816_S1x2816_2_0, w2⟩,
        ⟨Rect.unit ![1, 0] ![1, 2816] inb_S3x2816_S1x2816_1_0, w1⟩,
        ⟨Rect.unit ![0, 0] ![1, 2816] inb_S3x2816_S1x2816_0_0, w0⟩] : List (View.Piece (Elt Ideal) S3x2816 .f32)),
      ix2 k l ∈ p.1.set := by
  have hl := l.isLt
  fin_cases k
  · refine ⟨_, .tail _ (.tail _ (.head _)), (Rect.mem_set_unit (inb := inb_S3x2816_S1x2816_0_0)).2 fun a => ?_⟩
    fin_cases a <;> constructor <;> simp
  · refine ⟨_, .tail _ (.head _), (Rect.mem_set_unit (inb := inb_S3x2816_S1x2816_1_0)).2 fun a => ?_⟩
    fin_cases a <;> constructor <;> simp
  · refine ⟨_, .head _, (Rect.mem_set_unit (inb := inb_S3x2816_S1x2816_2_0)).2 fun a => ?_⟩
    fin_cases a <;> constructor <;> simp

/-- The value columns and the gate columns cover the block. -/
theorem cover_9 (r : Fin 512) (p : Fin 5632) (w1 w0 : Vec Ideal S512x2816 .bf16) :
    ∃ q ∈ ([⟨Rect.unit ![0, 2816] ![512, 2816] inb_S512x5632_S512x2816_0_2816, w1⟩,
        ⟨Rect.unit ![0, 0] ![512, 2816] inb_S512x5632_S512x2816_0_0, w0⟩] : List (View.Piece (Elt Ideal) S512x5632 .bf16)),
      ix2 r p ∈ q.1.set := by
  have hr := r.isLt
  have hp := p.isLt
  by_cases h : p.val < 2816
  · refine ⟨_, .tail _ (.head _), (Rect.mem_set_unit (inb := inb_S512x5632_S512x2816_0_0)).2 fun a => ?_⟩
    match a with
    | ⟨0, _⟩ => exact ⟨Nat.zero_le _, by show r.val < 0 + 512; omega⟩
    | ⟨1, _⟩ => exact ⟨Nat.zero_le _, by show p.val < 0 + 2816; omega⟩
  · refine ⟨_, .head _, (Rect.mem_set_unit (inb := inb_S512x5632_S512x2816_0_2816)).2 fun a => ?_⟩
    match a with
    | ⟨0, _⟩ => exact ⟨Nat.zero_le _, by show r.val < 0 + 512; omega⟩
    | ⟨1, _⟩ => exact ⟨by show 2816 ≤ p.val; omega, by show p.val < 2816 + 2816; omega⟩

/-- The stored zeros, read at an index. -/
theorem zero_row (k : Fin 3) (l : Fin 2816) : row (k0_pay15 (F := Ideal)) k (ix2 0 l) = 0 := by
  unfold row k0_pay15; pointwise

theorem zero_bias (l : Fin 2816) : k0_pay16 (F := Ideal) (ix2 0 l) = 0 := by
  unfold k0_pay16; pointwise

variable (c : Dev nD) (i : grid0.Coords) (arg2 : Memref sig .tc .vmem S512x2816 .bf16) (harg2 : arg2.IsWhole)
    (arg3 : Memref sig .tc .vmem S16x2816 .bf16) (harg3 : arg3.IsWhole)
    (arg4 : Memref sig .tc .vmem S512x2816 .bf16) (harg4 : arg4.IsWhole)
    (arg5 : Memref sig .tc .vmem S16x2816 .bf16) (harg5 : arg5.IsWhole)
    (arg6 : Memref sig .tc .vmem S512x2816 .bf16) (harg6 : arg6.IsWhole)
    (arg7 : Memref sig .tc .vmem S16x2816 .bf16) (harg7 : arg7.IsWhole)
    (arg8 : Memref sig .tc .vmem S16x2816 .bf16) (harg8 : arg8.IsWhole)
    (arg9 : Memref sig .tc .vmem S3x2816 .f32) (harg9 : arg9.IsWhole)
    (arg10 : Memref sig .tc .vmem S1x2816 .f32) (harg10 : arg10.IsWhole)
    (arg11 : Memref sig .tc .vmem S512x5632 .bf16) (harg11 : arg11.IsWhole)
    (arg12 : Memref sig .tc .vmem S3x2816 .f32) (harg12 : arg12.IsWhole)
    (arg13 : Memref sig .tc .vmem S1x2816 .f32) (harg13 : arg13.IsWhole)
    (x0 : Vec Ideal S512x2816 .bf16) (x1 : Vec Ideal S16x2816 .bf16) (x2 : Vec Ideal S512x2816 .bf16)
    (x3 : Vec Ideal S16x2816 .bf16) (x4 : Vec Ideal S512x2816 .bf16) (x5 x6 : Vec Ideal S16x2816 .bf16)
    (x7 : Vec Ideal S3x2816 .f32) (x8 : Vec Ideal S1x2816 .f32) (xo10 : Vec Ideal S3x2816 .f32)
    (xo11 : Vec Ideal S1x2816 .f32) {D U W B : ℕ → ℕ → EReal} {j : ℕ}
    (h : Blocks D U W B (i 1).val j x0 x1 x2 x3 x4 x5 x6 (row x7 0) (row x7 1) (row x7 2) x8)
    (hD : ∀ r q, 8192 ≤ r → D r q = 0)
include h hD

/-- A half's first tile: the block of the gradient, its value columns first and its gate columns after them. -/
theorem out_A_9 (hc : cond0_0 i) (r : Fin 512) (p : Fin 5632) :
    out0_A_9 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 (ix2 r p)
      = if p.val < 2816 then dval D U W B (512 * (i 1).val + r.val) (2816 * j + p.val)
        else dgate D U W B (512 * (i 1).val + r.val) (2816 * j + (p.val - 2816)) := by
  unfold out0_A_9
  rw [View.read_writes_eq_canon _ _ _ (fun y => cover0_A_9 _ _ _ _ _ _ _ _ _ _ _ _ _ _ _ _ _ _ _ _ _ _ _ _ _ _ _ _ _ _ _ _ _ _ _ _ y)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread, (ld_row _).1, (ld_row _).2.1,
    (ld_row _).2.2, ld_whole]
  refine (View.canon_append_of_piecesOf (fun y => if (y 1).val < 2816 then dval D U W B (512 * (i 1).val + (y 0).val) (2816 * j + (y 1).val)
        else dgate D U W B (512 * (i 1).val + (y 0).val) (2816 * j + ((y 1).val - 2816))) [] [_, _] ⟨?_, ?_, trivial⟩ _
        (cover_9 r p _ _))
  · intro x
    refine (congrArg _ (eq_ix2 x)).trans ((dgate_apply h hD (x 0) (x 1)).trans ?_)
    refine Eq.trans ?_ (if_neg (by show ¬(2816 + 1 * (x 1).val < 2816); omega)).symm
    exact congrArg₂ (dgate D U W B) (by show _ = _ + (0 + 1 * (x 0).val); omega)
      (by show _ = _ + (2816 + 1 * (x 1).val - 2816); omega)
  · intro x
    refine (congrArg _ (eq_ix2 x)).trans ((dval_apply h (x 0) (x 1)).trans ?_)
    have hx : (x 1).val < 2816 := (x 1).isLt
    refine Eq.trans ?_ (if_pos (by show 0 + 1 * (x 1).val < 2816; omega)).symm
    exact congrArg₂ (dval D U W B) (by show _ = _ + (0 + 1 * (x 0).val); omega)
      (by show _ = _ + (0 + 1 * (x 1).val); omega)

/-- A half's first tile: the weights' gradient holds the tile's own sums, started from zero. -/
theorem out_A_10 (hc : cond0_0 i) (k : Fin 3) (l : Fin 2816) :
    out0_A_10 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 (ix2 k l)
      = dwTile D U W B (i 1).val k.val (2816 * j + l.val) := by
  unfold out0_A_10
  rw [View.read_writes_eq_canon _ _ _ (fun y => cover0_A_10 _ _ _ _ _ _ _ _ _ _ _ _ _ _ _ _ _ _ _ _ _ _ _ _ _ _ _ _ _ _ _ _ _ _ _ _ y)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread, (ld_row _).1, (ld_row _).2.1,
    (ld_row _).2.2, ld_whole]
  simp only [fun w L => View.readCov_skip arg12.view (Rect.unit ![0, 0] ![1, 2816] inb_S3x2816_S1x2816_0_0) w L
      (Rect.unit ![1, 0] ![1, 2816] inb_S3x2816_S1x2816_1_0).toLoadRect (by decide),
    fun w L => View.readCov_skip arg12.view (Rect.unit ![0, 0] ![1, 2816] inb_S3x2816_S1x2816_0_0) w L
      (Rect.unit ![2, 0] ![1, 2816] inb_S3x2816_S1x2816_2_0).toLoadRect (by decide),
    fun w L => View.readCov_skip arg12.view (Rect.unit ![1, 0] ![1, 2816] inb_S3x2816_S1x2816_1_0) w L
      (Rect.unit ![2, 0] ![1, 2816] inb_S3x2816_S1x2816_2_0).toLoadRect (by decide),
    fun Z L r => View.readCov_fill arg12.view inb_S3x2816_S3x2816_0_0 Z L r (congrFun hz),
    (ld_row _).1, (ld_row _).2.1, (ld_row _).2.2]
  refine (View.canon_append_of_piecesOf (fun y => dwTile D U W B (i 1).val (y 0).val (2816 * j + (y 1).val)) [_] [_, _, _] ⟨?_, ?_, ?_, trivial⟩ _
        (cover_10 k l _ _ _))
  · intro x
    refine (congrArg _ (eq_row x)).trans ((sums_apply h hD (row (k0_pay15 (F := Ideal)) 2) (x 1)).2.2.1.trans ?_)
    rw [show row (k0_pay15 (F := Ideal)) 2 (ix2 0 (x 1)) = (0 : EReal) from zero_row _ _, zero_add]
    exact row_index D U W B _ _ 2 x
  · intro x
    refine (congrArg _ (eq_row x)).trans ((sums_apply h hD (row (k0_pay15 (F := Ideal)) 1) (x 1)).2.1.trans ?_)
    rw [show row (k0_pay15 (F := Ideal)) 1 (ix2 0 (x 1)) = (0 : EReal) from zero_row _ _, zero_add]
    exact row_index D U W B _ _ 1 x
  · intro x
    refine (congrArg _ (eq_row x)).trans ((sums_apply h hD (row (k0_pay15 (F := Ideal)) 0) (x 1)).1.trans ?_)
    rw [show row (k0_pay15 (F := Ideal)) 0 (ix2 0 (x 1)) = (0 : EReal) from zero_row _ _, zero_add]
    exact row_index D U W B _ _ 0 x

/-- A half's first tile: the bias's gradient holds the tile's own sum, started from zero. -/
theorem out_A_11 (hc : cond0_0 i) (l : Fin 2816) :
    out0_A_11 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 (ix2 0 l)
      = dbTile D U W B (i 1).val (2816 * j + l.val) := by
  unfold out0_A_11
  rw [View.read_writes_eq_canon _ _ _ (fun y => cover0_A_11 _ _ _ _ _ _ _ _ _ _ _ _ _ _ _ _ _ _ _ _ _ _ _ _ _ _ _ _ _ _ _ _ _ _ _ _ y)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread, (ld_row _).1, (ld_row _).2.1,
    (ld_row _).2.2, ld_whole]
  rw [View.canon_cons_unit_zero (S := S1x2816) hz, View.readCov_unit_zero (S := S1x2816) _ hz]
  refine (sums_apply h hD (k0_pay16 (F := Ideal)) l).2.2.2.trans ?_
  rw [zero_bias, zero_add]

/-- A later tile: the block of the gradient, its value columns first and its gate columns after them. -/
theorem out_B_9 (hc : ¬cond0_0 i) (r : Fin 512) (p : Fin 5632) :
    out0_B_9 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xo10 xo11 (ix2 r p)
      = if p.val < 2816 then dval D U W B (512 * (i 1).val + r.val) (2816 * j + p.val)
        else dgate D U W B (512 * (i 1).val + r.val) (2816 * j + (p.val - 2816)) := by
  unfold out0_B_9
  rw [View.read_writes_eq_canon _ _ _ (fun y => cover0_B_9 _ _ _ _ _ _ _ _ _ _ _ _ _ _ _ _ _ _ _ _ _ _ _ _ _ _ _ _ _ _ _ _ _ _ _ _ _ _ y)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread, (ld_row _).1, (ld_row _).2.1,
    (ld_row _).2.2, ld_whole]
  refine (View.canon_append_of_piecesOf (fun y => if (y 1).val < 2816 then dval D U W B (512 * (i 1).val + (y 0).val) (2816 * j + (y 1).val)
        else dgate D U W B (512 * (i 1).val + (y 0).val) (2816 * j + ((y 1).val - 2816))) [] [_, _] ⟨?_, ?_, trivial⟩ _
        (cover_9 r p _ _))
  · intro x
    refine (congrArg _ (eq_ix2 x)).trans ((dgate_apply h hD (x 0) (x 1)).trans ?_)
    refine Eq.trans ?_ (if_neg (by show ¬(2816 + 1 * (x 1).val < 2816); omega)).symm
    exact congrArg₂ (dgate D U W B) (by show _ = _ + (0 + 1 * (x 0).val); omega)
      (by show _ = _ + (2816 + 1 * (x 1).val - 2816); omega)
  · intro x
    refine (congrArg _ (eq_ix2 x)).trans ((dval_apply h (x 0) (x 1)).trans ?_)
    have hx : (x 1).val < 2816 := (x 1).isLt
    refine Eq.trans ?_ (if_pos (by show 0 + 1 * (x 1).val < 2816; omega)).symm
    exact congrArg₂ (dval D U W B) (by show _ = _ + (0 + 1 * (x 0).val); omega)
      (by show _ = _ + (0 + 1 * (x 1).val); omega)

/-- A later tile: the weights' gradient holds the sums so far plus the tile's own. -/
theorem out_B_10 (hc : ¬cond0_0 i) (k : Fin 3) (l : Fin 2816) :
    out0_B_10 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xo10 xo11 (ix2 k l)
      = xo10 (ix2 k l) + dwTile D U W B (i 1).val k.val (2816 * j + l.val) := by
  unfold out0_B_10
  rw [View.read_writes_eq_canon _ _ _ (fun y => cover0_B_10 _ _ _ _ _ _ _ _ _ _ _ _ _ _ _ _ _ _ _ _ _ _ _ _ _ _ _ _ _ _ _ _ _ _ _ _ _ _ y)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread, (ld_row _).1, (ld_row _).2.1,
    (ld_row _).2.2, ld_whole]
  refine (View.canon_append_of_piecesOf (fun y => xo10 y + dwTile D U W B (i 1).val (y 0).val (2816 * j + (y 1).val)) [] [_, _, _] ⟨?_, ?_, ?_, trivial⟩ _
        (cover_10 k l _ _ _))
  · intro x
    refine (congrArg _ (eq_row x)).trans ((sums_apply h hD (row xo10 2) (x 1)).2.2.1.trans ?_)
    exact congrArg₂ (· + ·) (congrArg xo10 (ix2_row 2 x _ rfl rfl)) (row_index D U W B _ _ 2 x)
  · intro x
    refine (congrArg _ (eq_row x)).trans ((sums_apply h hD (row xo10 1) (x 1)).2.1.trans ?_)
    exact congrArg₂ (· + ·) (congrArg xo10 (ix2_row 1 x _ rfl rfl)) (row_index D U W B _ _ 1 x)
  · intro x
    refine (congrArg _ (eq_row x)).trans ((sums_apply h hD (row xo10 0) (x 1)).1.trans ?_)
    exact congrArg₂ (· + ·) (congrArg xo10 (ix2_row 0 x _ rfl rfl)) (row_index D U W B _ _ 0 x)

/-- A later tile: the bias's gradient holds the sum so far plus the tile's own. -/
theorem out_B_11 (hc : ¬cond0_0 i) (l : Fin 2816) :
    out0_B_11 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xo10 xo11 (ix2 0 l)
      = xo11 (ix2 0 l) + dbTile D U W B (i 1).val (2816 * j + l.val) := by
  unfold out0_B_11
  rw [View.read_writes_eq_canon _ _ _ (fun y => cover0_B_11 _ _ _ _ _ _ _ _ _ _ _ _ _ _ _ _ _ _ _ _ _ _ _ _ _ _ _ _ _ _ _ _ _ _ _ _ _ _ y)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread, (ld_row _).1, (ld_row _).2.1,
    (ld_row _).2.2, ld_whole]
  rw [View.canon_unit_zero (S := S1x2816) hz]
  exact (sums_apply h hD xo11 l).2.2.2

end Cert.KernelIdeal.Outs

end
-- ==== Proof.KernelValue.lean ====
/-
  The kernel's three result arrays after its run: each is the closed form of `Proof/Spec.lean` of the arguments.
-/
module

public import proofs.«01_k».proof.Proof.KernelOuts

@[expose] public section

noncomputable section

namespace Cert.KernelIdeal.Final

open Cert.KernelIdeal Cert.KernelIdeal.Gen Cert.KernelIdeal.Rows Cert.KernelIdeal.Outs Idealize.ShloMosaic
open Idealize.ShloMosaic.TcCoe Idealize.SL.Sem Ffn

variable (m : (ℓ : Loc nD τ sig) → Buf (Elt Ideal) ℓ) (c : Dev nD)

/-- The cotangent at launch, read at natural numbers. -/
abbrev D : ℕ → ℕ → EReal := at2 (n0 := 8192) (n1 := 5632) (m ((c : Thread nD τ).loc main_arg0))

/-- The up-projection at launch, read at natural numbers. -/
abbrev U : ℕ → ℕ → EReal := at2 (n0 := 8192) (n1 := 11264) (m ((c : Thread nD τ).loc main_arg1))

/-- The convolution weights at launch, read at natural numbers. -/
abbrev W : ℕ → ℕ → EReal := at2 (n0 := 3) (n1 := 5632) (m ((c : Thread nD τ).loc main_arg2))

/-- The convolution bias at launch, read at natural numbers. -/
abbrev B : ℕ → ℕ → EReal := at2 (n0 := 1) (n1 := 5632) (m ((c : Thread nD τ).loc main_arg3))

/-- The tile and the half of a point. -/
theorem coords_eq : ∀ t : Fin cfg0.N, (grid0.coords t 1).val = t.val % 16 ∧ (grid0.coords t 0).val = t.val / 16 :=
  (by decide +kernel : ∀ t : Fin grid0.N, (grid0.coords t 1).val = t.val % 16 ∧ (grid0.coords t 0).val = t.val / 16)

theorem index0 : ∀ t : Fin cfg0.N, win0_0.index t 0 = t.val % 16 ∧ win0_0.index t 1 = t.val / 16 :=
  (by decide +kernel : ∀ t : Fin grid0.N, win0_0.index t 0 = t.val % 16 ∧ win0_0.index t 1 = t.val / 16)

/-- Window 0's block at a point, entry by entry. -/
theorem block0 (t : Fin cfg0.N) (r : Fin 512) (l : Fin 2816) :
    (iblk m c 0 t : Vec Ideal S512x2816 .bf16) (ix2 r l) = D m c ((t.val % 16) * 512 + r.val) ((t.val / 16) * 2816 + l.val) := by
  unfold iblk
  rw [View.read_apply]
  show V m c main_arg0 _ = _
  rw [V_main_arg0]
  exact at2_block (index0 t) rfl rfl

theorem index1 : ∀ t : Fin cfg0.N, win0_1.index t 0 = min ((t.val % 16 + 1) * 32) 511 ∧ win0_1.index t 1 = t.val / 16 :=
  (by decide +kernel : ∀ t : Fin grid0.N, win0_1.index t 0 = min ((t.val % 16 + 1) * 32) 511 ∧ win0_1.index t 1 = t.val / 16)

/-- Window 1's block at a point, entry by entry. -/
theorem block1 (t : Fin cfg0.N) (r : Fin 16) (l : Fin 2816) :
    (iblk m c 1 t : Vec Ideal S16x2816 .bf16) (ix2 r l) = D m c ((min ((t.val % 16 + 1) * 32) 511) * 16 + r.val) ((t.val / 16) * 2816 + l.val) := by
  unfold iblk
  rw [View.read_apply]
  show V m c main_arg0 _ = _
  rw [V_main_arg0]
  exact at2_block (index1 t) rfl rfl

theorem index2 : ∀ t : Fin cfg0.N, win0_2.index t 0 = t.val % 16 ∧ win0_2.index t 1 = 2 * (t.val / 16) :=
  (by decide +kernel : ∀ t : Fin grid0.N, win0_2.index t 0 = t.val % 16 ∧ win0_2.index t 1 = 2 * (t.val / 16))

/-- Window 2's block at a point, entry by entry. -/
theorem block2 (t : Fin cfg0.N) (r : Fin 512) (l : Fin 2816) :
    (iblk m c 2 t : Vec Ideal S512x2816 .bf16) (ix2 r l) = U m c ((t.val % 16) * 512 + r.val) ((2 * (t.val / 16)) * 2816 + l.val) := by
  unfold iblk
  rw [View.read_apply]
  show V m c main_arg1 _ = _
  rw [V_main_arg1]
  exact at2_block (index2 t) rfl rfl

theorem index3 : ∀ t : Fin cfg0.N, win0_3.index t 0 = min ((t.val % 16 + 1) * 32) 511 ∧ win0_3.index t 1 = 2 * (t.val / 16) :=
  (by decide +kernel : ∀ t : Fin grid0.N, win0_3.index t 0 = min ((t.val % 16 + 1) * 32) 511 ∧ win0_3.index t 1 = 2 * (t.val / 16))

/-- Window 3's block at a point, entry by entry. -/
theorem block3 (t : Fin cfg0.N) (r : Fin 16) (l : Fin 2816) :
    (iblk m c 3 t : Vec Ideal S16x2816 .bf16) (ix2 r l) = U m c ((min ((t.val % 16 + 1) * 32) 511) * 16 + r.val) ((2 * (t.val / 16)) * 2816 + l.val) := by
  unfold iblk
  rw [View.read_apply]
  show V m c main_arg1 _ = _
  rw [V_main_arg1]
  exact at2_block (index3 t) rfl rfl

theorem index4 : ∀ t : Fin cfg0.N, win0_4.index t 0 = t.val % 16 ∧ win0_4.index t 1 = 2 * (t.val / 16) + 1 :=
  (by decide +kernel : ∀ t : Fin grid0.N, win0_4.index t 0 = t.val % 16 ∧ win0_4.index t 1 = 2 * (t.val / 16) + 1)

/-- Window 4's block at a point, entry by entry. -/
theorem block4 (t : Fin cfg0.N) (r : Fin 512) (l : Fin 2816) :
    (iblk m c 4 t : Vec Ideal S512x2816 .bf16) (ix2 r l) = U m c ((t.val % 16) * 512 + r.val) ((2 * (t.val / 16) + 1) * 2816 + l.val) := by
  unfold iblk
  rw [View.read_apply]
  show V m c main_arg1 _ = _
  rw [V_main_arg1]
  exact at2_block (index4 t) rfl rfl

theorem index5 : ∀ t : Fin cfg0.N, win0_5.index t 0 = t.val % 16 * 32 - 1 ∧ win0_5.index t 1 = 2 * (t.val / 16) + 1 :=
  (by decide +kernel : ∀ t : Fin grid0.N, win0_5.index t 0 = t.val % 16 * 32 - 1 ∧ win0_5.index t 1 = 2 * (t.val / 16) + 1)

/-- Window 5's block at a point, entry by entry. -/
theorem block5 (t : Fin cfg0.N) (r : Fin 16) (l : Fin 2816) :
    (iblk m c 5 t : Vec Ideal S16x2816 .bf16) (ix2 r l) = U m c ((t.val % 16 * 32 - 1) * 16 + r.val) ((2 * (t.val / 16) + 1) * 2816 + l.val) := by
  unfold iblk
  rw [View.read_apply]
  show V m c main_arg1 _ = _
  rw [V_main_arg1]
  exact at2_block (index5 t) rfl rfl

theorem index6 : ∀ t : Fin cfg0.N, win0_6.index t 0 = min ((t.val % 16 + 1) * 32) 511 ∧ win0_6.index t 1 = 2 * (t.val / 16) + 1 :=
  (by decide +kernel : ∀ t : Fin grid0.N, win0_6.index t 0 = min ((t.val % 16 + 1) * 32) 511 ∧ win0_6.index t 1 = 2 * (t.val / 16) + 1)

/-- Window 6's block at a point, entry by entry. -/
theorem block6 (t : Fin cfg0.N) (r : Fin 16) (l : Fin 2816) :
    (iblk m c 6 t : Vec Ideal S16x2816 .bf16) (ix2 r l) = U m c ((min ((t.val % 16 + 1) * 32) 511) * 16 + r.val) ((2 * (t.val / 16) + 1) * 2816 + l.val) := by
  unfold iblk
  rw [View.read_apply]
  show V m c main_arg1 _ = _
  rw [V_main_arg1]
  exact at2_block (index6 t) rfl rfl

theorem index7 : ∀ t : Fin cfg0.N, win0_7.index t 0 = 0 ∧ win0_7.index t 1 = t.val / 16 :=
  (by decide +kernel : ∀ t : Fin grid0.N, win0_7.index t 0 = 0 ∧ win0_7.index t 1 = t.val / 16)

/-- Window 7's block at a point, entry by entry. -/
theorem block7 (t : Fin cfg0.N) (r : Fin 3) (l : Fin 2816) :
    (iblk m c 7 t : Vec Ideal S3x2816 .f32) (ix2 r l) = W m c ((0) * 3 + r.val) ((t.val / 16) * 2816 + l.val) := by
  unfold iblk
  rw [View.read_apply]
  show V m c main_arg2 _ = _
  rw [V_main_arg2]
  exact at2_block (index7 t) rfl rfl

theorem index8 : ∀ t : Fin cfg0.N, win0_8.index t 0 = 0 ∧ win0_8.index t 1 = t.val / 16 :=
  (by decide +kernel : ∀ t : Fin grid0.N, win0_8.index t 0 = 0 ∧ win0_8.index t 1 = t.val / 16)

/-- Window 8's block at a point, entry by entry. -/
theorem block8 (t : Fin cfg0.N) (r : Fin 1) (l : Fin 2816) :
    (iblk m c 8 t : Vec Ideal S1x2816 .f32) (ix2 r l) = B m c ((0) * 1 + r.val) ((t.val / 16) * 2816 + l.val) := by
  unfold iblk
  rw [View.read_apply]
  show V m c main_arg3 _ = _
  rw [V_main_arg3]
  exact at2_block (index8 t) rfl rfl

/-- Nothing flows back from past the last row. -/
theorem D_zero (r q : ℕ) (h : 8192 ≤ r) : D m c r q = 0 := at2_row _ _ _ h

/-- What the input blocks hold at a point. -/
theorem blocks (t : Fin cfg0.N) : Blocks (D m c) (U m c) (W m c) (B m c) (grid0.coords t 1).val (t.val / 16) (iblk m c 0 t) (iblk m c 1 t)
    (iblk m c 2 t) (iblk m c 3 t) (iblk m c 4 t) (iblk m c 5 t) (iblk m c 6 t) (row (iblk m c 7 t) 0) (row (iblk m c 7 t) 1)
    (row (iblk m c 7 t) 2) (iblk m c 8 t) := by
  rw [(coords_eq t).1]
  exact {
    tile := Nat.mod_lt _ (by decide)
    d_eq := fun r l => (block0 m c t r l).trans (congrArg₂ (D m c) (by omega) (by omega))
    dn_eq := fun h r l => (block1 m c t r l).trans (congrArg₂ (D m c) (by omega) (by omega))
    v_eq := fun r l => (block2 m c t r l).trans (congrArg₂ (U m c) (by omega) (by omega))
    vn_eq := fun h r l => (block3 m c t r l).trans (congrArg₂ (U m c) (by omega) (by omega))
    g_eq := fun r l => (block4 m c t r l).trans (congrArg₂ (U m c) (by omega) (by omega))
    gp_eq := fun h r l => (block5 m c t r l).trans (congrArg₂ (U m c) (by omega) (by omega))
    gn_eq := fun h r l => (block6 m c t r l).trans (congrArg₂ (U m c) (by omega) (by omega))
    w0_eq := fun l => (block7 m c t 0 l).trans (congrArg₂ (W m c) (by rfl) (by omega))
    w1_eq := fun l => (block7 m c t 1 l).trans (congrArg₂ (W m c) (by rfl) (by omega))
    w2_eq := fun l => (block7 m c t 2 l).trans (congrArg₂ (W m c) (by rfl) (by omega))
    b_eq := fun l => (block8 m c t 0 l).trans (congrArg₂ (B m c) (by rfl) (by omega)) }

/-- Sixteen tiles of 512 rows are the 8192 rows. -/
theorem sum_tiles (f : ℕ → EReal) : ∑ i ∈ Finset.range 16, ∑ r : Fin 512, f (512 * i + r.val) = ∑ r : Fin 8192, f r.val := by
  have h (n : ℕ) : ∑ i ∈ Finset.range n, ∑ r : Fin 512, f (512 * i + r.val) = ∑ r ∈ Finset.range (512 * n), f r := by
    induction n with
    | zero => simp
    | succ n ih => rw [Finset.sum_range_succ, ih, Nat.mul_succ, Finset.sum_range_add, Fin.sum_univ_eq_sum_range (fun r => f (512 * n + r))]
  rw [h, Fin.sum_univ_eq_sum_range]

/-- The sixteen tiles' sums for weight `k` are the gradient of weight `k`. -/
theorem dw_tiles (D U W B : ℕ → ℕ → EReal) (k q : ℕ) : ∑ i ∈ Finset.range 16, dwTile D U W B i k q = dw D U W B k q := by
  unfold dwTile dw
  exact sum_tiles fun r => dconv D U W B r q * gatePad U (r + k) q

/-- The sixteen tiles' sums for the bias are the gradient of the bias. -/
theorem db_tiles (D U W B : ℕ → ℕ → EReal) (q : ℕ) : ∑ i ∈ Finset.range 16, dbTile D U W B i q = db D U W B q := by
  unfold dbTile db
  exact sum_tiles fun r => dconv D U W B r q

/-! What a point leaves in each output block, from the arguments: a half's first tile (`A`), a later one (`B`). -/

theorem step_A_9 (t : Fin cfg0.N) (h0 : t.val % 16 = 0) (r : Fin 512) (p : Fin 5632) : (outsAt0 m c t.val t.isLt).1 (ix2 r p)
    = if p.val < 2816 then dval (D m c) (U m c) (W m c) (B m c) (512 * (t.val % 16) + r.val) (2816 * (t.val / 16) + p.val)
      else dgate (D m c) (U m c) (W m c) (B m c) (512 * (t.val % 16) + r.val) (2816 * (t.val / 16) + (p.val - 2816)) := by
  rw [outsAt0_A m c t h0]
  dsimp only
  refine (out_A_9 (h := blocks m c t) (hD := D_zero m c) ..).trans ?_
  rw [(coords_eq t).1]

theorem step_A_10 (t : Fin cfg0.N) (h0 : t.val % 16 = 0) (k : Fin 3) (l : Fin 2816) : (outsAt0 m c t.val t.isLt).2.1 (ix2 k l)
    = dwTile (D m c) (U m c) (W m c) (B m c) (t.val % 16) k.val (2816 * (t.val / 16) + l.val) := by
  rw [outsAt0_A m c t h0]
  dsimp only
  refine (out_A_10 (h := blocks m c t) (hD := D_zero m c) ..).trans ?_
  rw [(coords_eq t).1]

theorem step_A_11 (t : Fin cfg0.N) (h0 : t.val % 16 = 0) (l : Fin 2816) : (outsAt0 m c t.val t.isLt).2.2 (ix2 0 l)
    = dbTile (D m c) (U m c) (W m c) (B m c) (t.val % 16) (2816 * (t.val / 16) + l.val) := by
  rw [outsAt0_A m c t h0]
  dsimp only
  refine (out_A_11 (h := blocks m c t) (hD := D_zero m c) ..).trans ?_
  rw [(coords_eq t).1]

theorem step_B_9 (t : Fin cfg0.N) (h0 : ¬t.val % 16 = 0) (r : Fin 512) (p : Fin 5632) : (outsAt0 m c t.val t.isLt).1 (ix2 r p)
    = if p.val < 2816 then dval (D m c) (U m c) (W m c) (B m c) (512 * (t.val % 16) + r.val) (2816 * (t.val / 16) + p.val)
      else dgate (D m c) (U m c) (W m c) (B m c) (512 * (t.val % 16) + r.val) (2816 * (t.val / 16) + (p.val - 2816)) := by
  rw [outsAt0_B m c t h0]
  dsimp only
  refine (out_B_9 (h := blocks m c t) (hD := D_zero m c) ..).trans ?_
  rw [(coords_eq t).1]

theorem step_B_10 (t : Fin cfg0.N) (h0 : ¬t.val % 16 = 0) (k : Fin 3) (l : Fin 2816) : (outsAt0 m c t.val t.isLt).2.1 (ix2 k l)
    = (outsAt0 m c (t.val - 1) (Nat.lt_of_le_of_lt (Nat.sub_le _ _) t.isLt)).2.1 (ix2 k l)
      + dwTile (D m c) (U m c) (W m c) (B m c) (t.val % 16) k.val (2816 * (t.val / 16) + l.val) := by
  rw [outsAt0_B m c t h0]
  dsimp only
  refine (out_B_10 (h := blocks m c t) (hD := D_zero m c) ..).trans ?_
  rw [(coords_eq t).1]

theorem step_B_11 (t : Fin cfg0.N) (h0 : ¬t.val % 16 = 0) (l : Fin 2816) : (outsAt0 m c t.val t.isLt).2.2 (ix2 0 l)
    = (outsAt0 m c (t.val - 1) (Nat.lt_of_le_of_lt (Nat.sub_le _ _) t.isLt)).2.2 (ix2 0 l)
      + dbTile (D m c) (U m c) (W m c) (B m c) (t.val % 16) (2816 * (t.val / 16) + l.val) := by
  rw [outsAt0_B m c t h0]
  dsimp only
  refine (out_B_11 (h := blocks m c t) (hD := D_zero m c) ..).trans ?_
  rw [(coords_eq t).1]

/-- After a point, the weights' gradient holds the sums over the tiles of the point's half so far. -/
theorem dw_after (k : Fin 3) (l : Fin 2816) : ∀ (n : ℕ) (hn : n < cfg0.N), (outsAt0 m c n hn).2.1 (ix2 k l)
    = ∑ i ∈ Finset.range (n % 16 + 1), dwTile (D m c) (U m c) (W m c) (B m c) i k.val (2816 * (n / 16) + l.val) := by
  intro n
  induction n with
  | zero => intro hn; refine (step_A_10 m c ⟨0, hn⟩ rfl k l).trans ?_; simp
  | succ n ih =>
    intro hn
    by_cases h0 : (n + 1) % 16 = 0
    · refine (step_A_10 m c ⟨n + 1, hn⟩ h0 k l).trans ?_
      simp [h0]
    · refine (step_B_10 m c ⟨n + 1, hn⟩ h0 k l).trans ?_
      have hm : (n + 1) % 16 = n % 16 + 1 := by omega
      have hd : (n + 1) / 16 = n / 16 := by omega
      simp only [hm, hd, Nat.add_sub_cancel]
      rw [ih, Finset.sum_range_succ _ (n % 16 + 1)]

/-- After a point, the bias's gradient holds the sums over the tiles of the point's half so far. -/
theorem db_after (l : Fin 2816) : ∀ (n : ℕ) (hn : n < cfg0.N), (outsAt0 m c n hn).2.2 (ix2 0 l)
    = ∑ i ∈ Finset.range (n % 16 + 1), dbTile (D m c) (U m c) (W m c) (B m c) i (2816 * (n / 16) + l.val) := by
  intro n
  induction n with
  | zero => intro hn; refine (step_A_11 m c ⟨0, hn⟩ rfl l).trans ?_; simp
  | succ n ih =>
    intro hn
    by_cases h0 : (n + 1) % 16 = 0
    · refine (step_A_11 m c ⟨n + 1, hn⟩ h0 l).trans ?_
      simp [h0]
    · refine (step_B_11 m c ⟨n + 1, hn⟩ h0 l).trans ?_
      have hm : (n + 1) % 16 = n % 16 + 1 := by omega
      have hd : (n + 1) / 16 = n / 16 := by omega
      simp only [hm, hd, Nat.add_sub_cancel]
      rw [ih, Finset.sum_range_succ _ (n % 16 + 1)]

/-- After a point, the block of the gradient of `up`, entry by entry. -/
theorem dup_after (t : Fin cfg0.N) (r : Fin 512) (p : Fin 5632) : (outsAt0 m c t.val t.isLt).1 (ix2 r p)
    = dup (D m c) (U m c) (W m c) (B m c) (512 * (t.val % 16) + r.val) (5632 * (t.val / 16) + p.val) := by
  have hp := p.isLt
  have e1 : (5632 * (t.val / 16) + p.val) % 5632 = p.val := by omega
  have e2 : (5632 * (t.val / 16) + p.val) / 5632 = t.val / 16 := by omega
  rw [dup, e1, e2, Nat.mul_comm (t.val / 16) 2816]
  by_cases h0 : t.val % 16 = 0
  · exact step_A_9 m c t h0 r p
  · exact step_B_9 m c t h0 r p

/-- The gradient of `up`, as the contents of its array. -/
abbrev dupArr : Buf (Elt Ideal) ((c : Thread nD τ).loc main_v0_0) := fun y : S8192x11264.Idx =>
  dup (D m c) (U m c) (W m c) (B m c) (y 0).val (y 1).val

/-- The gradient of the convolution's weights, as the contents of its array. -/
abbrev dwArr : Buf (Elt Ideal) ((c : Thread nD τ).loc main_v0_1) := fun y : S3x5632.Idx =>
  dw (D m c) (U m c) (W m c) (B m c) (y 0).val (y 1).val

/-- The gradient of the convolution's bias, as the contents of its array. -/
abbrev dbArr : Buf (Elt Ideal) ((c : Thread nD τ).loc main_v0_2) := fun y : S1x5632.Idx =>
  db (D m c) (U m c) (W m c) (B m c) (y 1).val

theorem index9 : ∀ t : Fin cfg0.N, win0_9.index t 0 = t.val % 16 ∧ win0_9.index t 1 = t.val / 16 :=
  (by decide +kernel : ∀ t : Fin grid0.N, win0_9.index t 0 = t.val % 16 ∧ win0_9.index t 1 = t.val / 16)

theorem index10 : ∀ t : Fin cfg0.N, win0_10.index t 0 = 0 ∧ win0_10.index t 1 = t.val / 16 :=
  (by decide +kernel : ∀ t : Fin grid0.N, win0_10.index t 0 = 0 ∧ win0_10.index t 1 = t.val / 16)

theorem index11 : ∀ t : Fin cfg0.N, win0_11.index t 0 = 0 ∧ win0_11.index t 1 = t.val / 16 :=
  (by decide +kernel : ∀ t : Fin grid0.N, win0_11.index t 0 = 0 ∧ win0_11.index t 1 = t.val / 16)

attribute [local irreducible] dw db

/-- The first result: the gradient of `up`. -/
theorem final9 : (dats m 0 c).arrAt 9 cfg0.N = dupArr m c := by
  refine (dats m 0 c).arrAt_eq_of_cover 9 (dupArr m c) (fun t _ => ?_) fun (i : S8192x11264.Idx) => ?_
  · rw [Value.flushed9]
    obtain ⟨h0, h1⟩ := index9 t
    funext y
    rw [View.read_apply]
    show (outsAt0 m c t.val t.isLt).1 y = dup (D m c) (U m c) (W m c) (B m c) (win0_9.index t 0 * 512 + 1 * (y 0).val) (win0_9.index t 1 * 5632 + 1 * (y 1).val)
    refine (congrArg _ (eq_ix2 y)).trans ((dup_after m c t _ _).trans ?_)
    rw [h0, h1]
    exact congrArg₂ (dup (D m c) (U m c) (W m c) (B m c)) (by omega) (by omega)
  · have b0 : (i 0).val < 8192 := (i 0).isLt
    have b1 : (i 1).val < 11264 := (i 1).isLt
    have hN : cfg0.N = 32 := N_0
    obtain ⟨t, ht⟩ : ∃ t : Fin cfg0.N, t.val = (i 1).val / 5632 * 16 + (i 0).val / 512 := ⟨⟨_, by omega⟩, rfl⟩
    refine ⟨t, flush0_9 _, ?_⟩
    show i ∈ ((View.whole main_v0_0).slice (win0_9.rect t)).set
    rw [View.set_slice_whole]
    exact mem_block (index9 t) (by omega) (by omega)

/-- The second result: the gradient of the convolution's weights. -/
theorem final10 : (dats m 0 c).arrAt 10 cfg0.N = dwArr m c := by
  refine (dats m 0 c).arrAt_eq_of_cover 10 (dwArr m c) (fun t hf => ?_) fun (i : S3x5632.Idx) => ?_
  · rw [Value.flushed10]
    obtain ⟨h0, h1⟩ := index10 t
    have h15 := (flush0_10 t).mp hf
    funext y
    rw [View.read_apply]
    show (outsAt0 m c t.val t.isLt).2.1 y = dw (D m c) (U m c) (W m c) (B m c) (win0_10.index t 0 * 3 + 1 * (y 0).val) (win0_10.index t 1 * 2816 + 1 * (y 1).val)
    refine (congrArg _ (eq_ix2 y)).trans ((dw_after m c _ _ t.val t.isLt).trans ?_)
    rw [h0, h1, h15]
    refine (dw_tiles _ _ _ _ _ _).trans ?_
    exact congrArg₂ (dw (D m c) (U m c) (W m c) (B m c)) (by omega) (by omega)
  · have b0 : (i 0).val < 3 := (i 0).isLt
    have b1 : (i 1).val < 5632 := (i 1).isLt
    have hN : cfg0.N = 32 := N_0
    obtain ⟨t, ht⟩ : ∃ t : Fin cfg0.N, t.val = (i 1).val / 2816 * 16 + 15 := ⟨⟨_, by omega⟩, rfl⟩
    refine ⟨t, (flush0_10 t).mpr (by omega), ?_⟩
    show i ∈ ((View.whole main_v0_1).slice (win0_10.rect t)).set
    rw [View.set_slice_whole]
    exact mem_block (index10 t) (by omega) (by omega)

/-- The third result: the gradient of the convolution's bias. -/
theorem final11 : (dats m 0 c).arrAt 11 cfg0.N = dbArr m c := by
  refine (dats m 0 c).arrAt_eq_of_cover 11 (dbArr m c) (fun t hf => ?_) fun (i : S1x5632.Idx) => ?_
  · rw [Value.flushed11]
    obtain ⟨h0, h1⟩ := index11 t
    have h15 := (flush0_11 t).mp hf
    funext y
    rw [View.read_apply]
    show (outsAt0 m c t.val t.isLt).2.2 y = db (D m c) (U m c) (W m c) (B m c) (win0_11.index t 1 * 2816 + 1 * (y 1).val)
    refine (congrArg _ (eq_row y)).trans ((db_after m c _ t.val t.isLt).trans ?_)
    rw [h1, h15]
    refine (db_tiles _ _ _ _ _).trans ?_
    exact congrArg (db (D m c) (U m c) (W m c) (B m c)) (by omega)
  · have b0 : (i 0).val < 1 := (i 0).isLt
    have b1 : (i 1).val < 5632 := (i 1).isLt
    have hN : cfg0.N = 32 := N_0
    obtain ⟨t, ht⟩ : ∃ t : Fin cfg0.N, t.val = (i 1).val / 2816 * 16 + 15 := ⟨⟨_, by omega⟩, rfl⟩
    refine ⟨t, (flush0_11 t).mpr (by omega), ?_⟩
    show i ∈ ((View.whole main_v0_2).slice (win0_11.rect t)).set
    rw [View.set_slice_whole]
    exact mem_block (index11 t) (by omega) (by omega)

end Cert.KernelIdeal.Final

end
-- ==== Proof.FfnClaims.lean ====
/-
  The claims about the gradient of the gated convolution: the frames, the named constants, and the equality of the
  kernel's results with the reference's where the cotangent and the value half of `up` are finite.
-/
module

public import proofs.«01_k».proof.Defs
public import proofs.«01_k».proof.Proof.RefValue
public import proofs.«01_k».proof.Proof.KernelValue
public import proofs.«01_k».proof.Proof.Gen.Kernel.Frame
public import proofs.«01_k».proof.Proof.Gen.ReferenceIdeal.Frame
public import proofs.«01_k».proof.Proof.Gen.Pre_ffn_finite

@[expose] public section

noncomputable section

namespace FfnClaims

open Idealize.ShloMosaic Idealize.ShloMosaic.TcCoe Idealize.SL.Sem Cert Ffn

/-- An extended real whose absolute value compares below infinity is a real number. -/
theorem real_of_lt (x : EReal) (h : BitVec.ofBool (decide (max x (-x) < ⊤)) = 1#1) : ∃ y : ℝ, x = y := by
  have h' : max x (-x) < ⊤ := by
    by_contra c
    rw [decide_eq_false c] at h
    exact absurd h (by decide)
  induction x with
  | bot => simp at h'
  | top => simp at h'
  | coe x => exact ⟨x, rfl⟩

/-- The literal infinity. -/
theorem ofBits_inf : Ideal.ofBits .f32 0x7F800000#32 = ⊤ := by
  simp [Ideal.ofBits, Ideal.ieee]

variable (a0 : Vec Ideal Pre_ffn_finite.S8192x5632 .bf16) (a1 : Vec Ideal Pre_ffn_finite.S8192x11264 .bf16)
  (a2 : Vec Ideal Pre_ffn_finite.S3x5632 .f32) (a3 : Vec Ideal Pre_ffn_finite.S1x5632 .f32)

/-- What the precondition says, entry by entry. -/
theorem finite_of_pre (h : (Pre_ffn_finite.fn (F := Ideal) a0 a1 a2 a3).1 = (fun _ => 1#1)
      ∧ (Pre_ffn_finite.fn (F := Ideal) a0 a1 a2 a3).2.1 = (fun _ => 1#1)
      ∧ (Pre_ffn_finite.fn (F := Ideal) a0 a1 a2 a3).2.2 = (fun _ => 1#1)) :
    (∀ r q, ∃ y : ℝ, at2 a0 r q = y) ∧ ∀ r q, ∃ y : ℝ, at2 a1 r (valCol q) = y := by
  obtain ⟨h0, h1, h2⟩ := h
  have z : ∃ y : ℝ, (0 : EReal) = y := ⟨0, rfl⟩
  constructor
  · intro r q
    by_cases hb : r < 8192 ∧ q < 5632
    · rw [at2_eq a0 ⟨r, hb.1⟩ ⟨q, hb.2⟩ r q rfl rfl]
      have e := congrFun h0 (ix2 ⟨r, hb.1⟩ ⟨q, hb.2⟩)
      unfold Pre_ffn_finite.fn at e
      refine real_of_lt _ ?_
      rw [← ofBits_inf]
      exact e
    · rw [at2, dif_neg hb]; exact z
  · intro r q
    by_cases hb : r < 8192 ∧ valCol q < 11264
    · rw [at2_eq a1 ⟨r, hb.1⟩ ⟨valCol q, hb.2⟩ r _ rfl rfl]
      by_cases hq : q < 2816
      · have e := congrFun h1 (ix2 ⟨r, hb.1⟩ ⟨q, hq⟩)
        have hs : a1 (ix2 ⟨r, hb.1⟩ ⟨valCol q, hb.2⟩) = extractStridedSlice Pre_ffn_finite.S8192x2816 ![0, 0] a1
            Pre_ffn_finite.Gen.slices_S8192x11264_S8192x2816_0_0 (ix2 ⟨r, hb.1⟩ ⟨q, hq⟩) := by
          pointwise
          exact congrArg (fun k => a1 (ix2 _ k)) (Fin.ext (by simp only [valCol]; omega))
        unfold Pre_ffn_finite.fn at e
        refine real_of_lt _ ?_
        rw [← ofBits_inf, hs]
        exact e
      · have hq' : q - 2816 < 2816 := by have := hb.2; simp only [valCol] at this; omega
        have e := congrFun h2 (ix2 ⟨r, hb.1⟩ ⟨q - 2816, hq'⟩)
        have hs : a1 (ix2 ⟨r, hb.1⟩ ⟨valCol q, hb.2⟩) = extractStridedSlice Pre_ffn_finite.S8192x2816 ![0, 5632] a1
            Pre_ffn_finite.Gen.slices_S8192x11264_S8192x2816_0_5632 (ix2 ⟨r, hb.1⟩ ⟨q - 2816, hq'⟩) := by
          pointwise
          exact congrArg (fun k => a1 (ix2 _ k)) (Fin.ext (by simp only [valCol]; omega))
        unfold Pre_ffn_finite.fn at e
        refine real_of_lt _ ?_
        rw [← ofBits_inf, hs]
        exact e
    · rw [at2, dif_neg hb]; exact z

/-! The frames. -/

theorem frame_p : quiescent_Kernel := fun m ρ _ => Cert.Kernel.Gen.frame m ρ

theorem frame_pi : quiescent_KernelIdeal := fun m ρ _ => Cert.KernelIdeal.Gen.frame m ρ

theorem frame_pi_pre : quiescent_KernelIdeal_pre_ffn_finite := fun m ρ _ => Cert.KernelIdeal.Gen.frame m ρ

theorem frame_ri : quiescent_ReferenceIdeal := fun m ρ _ => Cert.ReferenceIdeal.Gen.frame m ρ

theorem frame_ri_pre : quiescent_ReferenceIdeal_pre_ffn_finite := fun m ρ _ => Cert.ReferenceIdeal.Gen.frame m ρ

/-- The named constants are the reals they stand for. -/
theorem preserves : preserves_Kernel_KernelIdeal :=
  ⟨IdealRules.named_const.statement Cert.KernelIdeal.κ "inv_sqrt2" .f32 0x3F3504F3#32 (((Real.sqrt 2)⁻¹ : ℝ) : EReal) rfl,
    IdealRules.named_const.statement Cert.KernelIdeal.κ "inv_sqrt2pi" .f32 0x3ECC422A#32 (((Real.sqrt (2 * Real.pi))⁻¹ : ℝ) : EReal) rfl⟩

/-- The kernel's three results are the reference's. -/
theorem algebraic : algebraic_KernelIdeal_ReferenceIdeal_pre_ffn_finite := by
  intro m ρ m' ρ' hpre hargs
  refine ⟨KernelIdeal.Final.dupArr m, KernelIdeal.Final.dwArr m, KernelIdeal.Final.dbArr m, ?_, ?_⟩
  · refine (θ_run _ _ _).mono (fun r h c => ?_) (Cert.KernelIdeal.Value.run_blocks m ρ)
    obtain ⟨h0, h1, h2, h3⟩ := h c
    exact ⟨h0.trans (KernelIdeal.Final.final9 m c), h1.trans (KernelIdeal.Final.final10 m c),
      h2.trans (KernelIdeal.Final.final11 m c), h3⟩
  · refine (θ_run _ _ _).mono (fun r h c => ?_) (Cert.ReferenceIdeal.Value.run m' ρ')
    obtain ⟨h0, h1, h2, h3⟩ := h c
    obtain ⟨e0, e1, e2, e3⟩ := hargs c
    obtain ⟨hd, hv⟩ := finite_of_pre _ _ _ _ (hpre c)
    rw [e0, e1, e2, e3] at h0 h1 h2
    refine ⟨h0.trans (funext fun y => ?_), h1.trans (funext fun y => ?_), h2.trans (funext fun y => ?_), h3⟩
    · exact (congrArg _ (eq_ix2 y)).trans (ReferenceIdeal.Read.dup_apply _ _ _ _ hd hv (y 0) (y 1))
    · exact (congrArg _ (eq_ix2 y)).trans (ReferenceIdeal.Read.dw_apply _ _ _ _ hd hv (y 0) (y 1))
    · exact (congrArg _ (eq_ix2 y)).trans (ReferenceIdeal.Read.db_apply _ _ _ _ hd hv (y 0) (y 1))

end FfnClaims

end
-- ==== Proof.Product.lean ====
/-
  A product of two matrices as a sum over natural numbers, and its splitting into blocks of the contracted axis.
-/
module

public import proofs.«01_k».proof.Proof.Spec

@[expose] public section

noncomputable section

namespace Ffn

/-- Entry `(r, q)` of the product of `A` and `B` over `n` contracted coordinates. -/
def dot (n : ℕ) (A B : ℕ → ℕ → EReal) (r q : ℕ) : EReal := ∑ k ∈ Finset.range n, A r k * B k q

/-- The sum over a range is the sum over its indices. -/
theorem dot_eq (n : ℕ) (A B : ℕ → ℕ → EReal) (r q : ℕ) : dot n A B r q = ∑ k : Fin n, A r k.val * B k.val q :=
  Finset.sum_range fun k => A r k * B k q

/-- The first block of the contracted axis. -/
theorem dot_first (b : ℕ) (A B : ℕ → ℕ → EReal) (r q s : ℕ) (hs : s = 0) :
    ∑ k : Fin b, A r (s * b + k.val) * B (s * b + k.val) q = dot ((s + 1) * b) A B r q := by
  subst hs
  rw [Nat.zero_add, Nat.one_mul, dot_eq]
  simp only [Nat.zero_add, Nat.zero_mul]

/-- One more block of the contracted axis. -/
theorem dot_next (b : ℕ) (A B : ℕ → ℕ → EReal) (r q s s' : ℕ) (hs : s = s' + 1) :
    dot ((s' + 1) * b) A B r q + ∑ k : Fin b, A r (s * b + k.val) * B (s * b + k.val) q = dot ((s + 1) * b) A B r q := by
  subst hs
  rw [Nat.add_mul (s' + 1) 1 b, Nat.one_mul, dot, dot, Finset.sum_range_add, Finset.sum_range fun k => A r ((s' + 1) * b + k) * B ((s' + 1) * b + k) q]

/-- A running sum over `nb` blocks of `b` contracted coordinates that starts anew at every multiple of `nb`: what it is after each
    point, where the row and the column change only at such a multiple. -/
theorem dot_running (nb b : ℕ) (A B : ℕ → ℕ → EReal) (R Q : ℕ → ℕ) {N : ℕ} (x : ∀ n, n < N → EReal)
    (first : ∀ n hn, n % nb = 0 → x n hn = ∑ k : Fin b, A (R n) (n % nb * b + k.val) * B (n % nb * b + k.val) (Q n))
    (next : ∀ n hn, ¬(n + 1) % nb = 0 → x (n + 1) hn = x n (Nat.lt_of_succ_lt hn)
      + ∑ k : Fin b, A (R (n + 1)) ((n + 1) % nb * b + k.val) * B ((n + 1) % nb * b + k.val) (Q (n + 1)))
    (step : ∀ n, ¬(n + 1) % nb = 0 → (n + 1) % nb = n % nb + 1 ∧ R n = R (n + 1) ∧ Q n = Q (n + 1)) :
    ∀ n hn, x n hn = dot ((n % nb + 1) * b) A B (R n) (Q n)
  | 0, hn => (first 0 hn (Nat.zero_mod _)).trans (dot_first b _ _ _ _ _ (Nat.zero_mod _))
  | n + 1, hn => by
    by_cases h : (n + 1) % nb = 0
    · exact (first _ hn h).trans (dot_first b _ _ _ _ _ h)
    · obtain ⟨h1, h2, h3⟩ := step n h
      rw [next n hn h, dot_running nb b A B R Q x first next step n, h2, h3]
      exact dot_next b _ _ _ _ _ _ h1

end Ffn

end
-- ==== Proof.DwUpValue.lean ====
/-
  The up-projection's weight gradient: what the kernel leaves in its result array, entry by entry — the whole sum over the contracted axis, gathered over 4 blocks of it.
-/
module

public import proofs.«01_k».proof.Proof.Product
public import proofs.«01_k».proof.Proof.Gen.DwUpIdeal.Value
public import Idealize.ShloMosaic.Lib.Pipeline.ReadBack
public import Idealize.ShloMosaic.Lib.Pointwise

@[expose] public section

noncomputable section

namespace Cert.DwUpIdeal.Final

open Cert.DwUpIdeal Cert.DwUpIdeal.Gen Idealize.ShloMosaic Idealize.ShloMosaic.TcCoe Idealize.SL.Sem Ffn

variable (m : (ℓ : Loc nD τ sig) → Buf (Elt Ideal) ℓ) (c : Dev nD)

/-- The left factor at launch: row `r`, contracted coordinate `k`. -/
abbrev A (r k : ℕ) : EReal := at2 (n0 := 8192) (n1 := 2048) (m ((c : Thread nD τ).loc main_arg0)) k r

/-- The right factor at launch: contracted coordinate `k`, column `q`. -/
abbrev B (k q : ℕ) : EReal := at2 (n0 := 8192) (n1 := 11264) (m ((c : Thread nD τ).loc main_arg1)) k q

theorem index0 : ∀ t : Fin cfg0.N, win0_0.index t 0 = t.val % 4 ∧ win0_0.index t 1 = 0 :=
  (by decide +kernel : ∀ t : Fin grid0.N, win0_0.index t 0 = t.val % 4 ∧ win0_0.index t 1 = 0)

/-- Window 0's block at a point, entry by entry. -/
theorem block0 (t : Fin cfg0.N) (r : Fin 2048) (l : Fin 2048) :
    (iblk m c 0 t : Vec Ideal S2048x2048 .bf16) (ix2 r l)
      = at2 (n0 := 8192) (n1 := 2048) (m ((c : Thread nD τ).loc main_arg0)) ((t.val % 4) * 2048 + r.val) ((0) * 2048 + l.val) := by
  unfold iblk
  rw [View.read_apply]
  show V m c main_arg0 _ = _
  rw [V_main_arg0]
  exact at2_block (index0 t) rfl rfl

theorem index1 : ∀ t : Fin cfg0.N, win0_1.index t 0 = t.val % 4 ∧ win0_1.index t 1 = (t.val / 4) :=
  (by decide +kernel : ∀ t : Fin grid0.N, win0_1.index t 0 = t.val % 4 ∧ win0_1.index t 1 = (t.val / 4))

/-- Window 1's block at a point, entry by entry. -/
theorem block1 (t : Fin cfg0.N) (r : Fin 2048) (l : Fin 1024) :
    (iblk m c 1 t : Vec Ideal S2048x1024 .bf16) (ix2 r l)
      = at2 (n0 := 8192) (n1 := 11264) (m ((c : Thread nD τ).loc main_arg1)) ((t.val % 4) * 2048 + r.val) (((t.val / 4)) * 1024 + l.val) := by
  unfold iblk
  rw [View.read_apply]
  show V m c main_arg1 _ = _
  rw [V_main_arg1]
  exact at2_block (index1 t) rfl rfl

theorem index2 : ∀ t : Fin cfg0.N, win0_2.index t 0 = 0 ∧ win0_2.index t 1 = (t.val / 4) :=
  (by decide +kernel : ∀ t : Fin grid0.N, win0_2.index t 0 = 0 ∧ win0_2.index t 1 = (t.val / 4))

/-- The product of two blocks, entry by entry. -/
theorem prod_apply (x0 : Vec Ideal S2048x2048 .bf16) (x1 : Vec Ideal S2048x1024 .bf16) (r : Fin 2048) (l : Fin 1024) :
    k0_pay1 x0 x1 (ix2 r l) = (∑ k : Fin 2048, x0 (ix2 k r) * x1 (ix2 k l)) := by
  unfold k0_pay1
  pointwise

/-- The product of the two blocks at a point is the point's block of the whole sum. -/
theorem prod_blocks (t : Fin cfg0.N) (r : Fin 2048) (l : Fin 1024) :
    k0_pay1 (iblk m c 0 t : Vec Ideal S2048x2048 .bf16) (iblk m c 1 t : Vec Ideal S2048x1024 .bf16) (ix2 r l)
      = (∑ k : Fin 2048, A m c ((0) * 2048 + r.val) ((t.val % 4) * 2048 + k.val) * B m c ((t.val % 4) * 2048 + k.val) (((t.val / 4)) * 1024 + l.val)) := by
  refine (prod_apply _ _ r l).trans (Finset.sum_congr rfl fun k _ => ?_)
  exact congrArg₂ (· * ·) (block0 m c t k r) (block1 m c t k l)

/-- The kernel's result at row `r` and column `q`. -/
def val (r q : ℕ) : EReal := dot 8192 (A m c) (B m c) r q

/-- The kernel's result array. -/
def arr : Buf (Elt Ideal) ((c : Thread nD τ).loc main_v0) := fun y : S2048x11264.Idx => val m c (y 0).val (y 1).val

/-- The first block of the contracted axis stores its product in the accumulator. -/
theorem acc_first (t : Fin cfg0.N) (h : t.val % 4 = 0) : (outsAt0 m c t.val t.isLt).2 = k0_pay2 (iblk m c 0 t) (iblk m c 1 t) := by
  have ht : t.val < 44 := lt_of_lt_of_eq t.isLt N_0
  rw [outsAt0_A m c t h (by omega) (by omega)]
  dsimp only
  unfold sout0_A_0
  rw [View.read_writes_eq_canon _ _ _ (fun y => scover0_A_0 c _ _ _ _ _ _ _ _ _ _ _ _ _ _ y)]
  unfold kernelRun0_A
  dsimp only
  sl_unfold_words
  simp only [View.readAt_eq_ld, Memref.IsWhole.read_unread, ld_whole,
    View.readCov_unit_zero (S := S2048x1024) _ hz, View.canon_unit_zero (S := S2048x1024) hz]

/-- A later block adds its product to the accumulator. -/
theorem acc_next (t : Fin cfg0.N) (h : ¬t.val % 4 = 0) : (outsAt0 m c t.val t.isLt).2 = k0_pay3 (iblk m c 0 t) (iblk m c 1 t) (outsAt0 m c (t.val - 1) (Nat.lt_of_le_of_lt (Nat.sub_le _ _) t.isLt)).2 := by
  have ht : t.val < 44 := lt_of_lt_of_eq t.isLt N_0
  by_cases h3 : t.val % 4 = 3
  · rw [outsAt0_C m c t h (by omega) h3]
    dsimp only
    unfold sout0_C_0
    rw [View.read_writes_eq_canon _ _ _ (fun y => scover0_C_0 c _ _ _ _ _ _ _ _ _ _ _ _ _ _ _ y)]
    unfold kernelRun0_C
    dsimp only
    sl_unfold_words
    simp only [View.readAt_eq_ld, Memref.IsWhole.read_unread, ld_whole,
      View.readCov_unit_zero (S := S2048x1024) _ hz, View.canon_unit_zero (S := S2048x1024) hz]
    exact congrArg (k0_pay3 _ _) ((Memref.isWhole_whole _).read_unread _)
  · rw [outsAt0_B m c t h (by omega) h3]
    dsimp only
    unfold sout0_B_0
    rw [View.read_writes_eq_canon _ _ _ (fun y => scover0_B_0 c _ _ _ _ _ _ _ _ _ _ _ _ _ _ _ y)]
    unfold kernelRun0_B
    dsimp only
    sl_unfold_words
    simp only [View.readAt_eq_ld, Memref.IsWhole.read_unread, ld_whole,
      View.readCov_unit_zero (S := S2048x1024) _ hz, View.canon_unit_zero (S := S2048x1024) hz]
    exact congrArg (k0_pay3 _ _) ((Memref.isWhole_whole _).read_unread _)

/-- The last block stores the accumulator in the result block. -/
theorem stored (t : Fin cfg0.N) (h : t.val % 4 = 3) : (outsAt0 m c t.val t.isLt).1 = k0_pay4 (outsAt0 m c t.val t.isLt).2 := by
  have ht : t.val < 44 := lt_of_lt_of_eq t.isLt N_0
  rw [acc_next m c t (by omega), outsAt0_C m c t (by omega) (by omega) h]
  dsimp only
  unfold out0_C_2
  rw [View.read_writes_eq_canon _ _ _ (fun y => cover0_C_2 c _ _ _ _ _ _ _ _ _ _ _ _ _ _ _ y)]
  unfold kernelRun0_C
  dsimp only
  sl_unfold_words
  simp only [View.readAt_eq_ld, Memref.IsWhole.read_unread, ld_whole,
    View.readCov_unit_zero (S := S2048x1024) _ hz, View.canon_unit_zero (S := S2048x1024) hz]
  exact congrArg (fun x => k0_pay4 (k0_pay3 _ _ x)) ((Memref.isWhole_whole _).read_unread _)

/-- What the accumulator holds after each point. -/
theorem acc_after (n : ℕ) (hn : n < cfg0.N) (r : Fin 2048) (l : Fin 1024) : (outsAt0 m c n hn).2 (ix2 r l)
    = dot ((n % 4 + 1) * 2048) (A m c) (B m c) ((0) * 2048 + r.val) (((n / 4)) * 1024 + l.val) := by
  refine dot_running 4 2048 (A m c) (B m c) (fun n => (0) * 2048 + r.val) (fun n => ((n / 4)) * 1024 + l.val) (fun n hn => (outsAt0 m c n hn).2 (ix2 r l))
    (fun n hn h => ?_) (fun n hn h => ?_) (fun n h => by omega) n hn
  · rw [acc_first m c ⟨n, hn⟩ h]
    exact Eq.trans (by unfold k0_pay2; pointwise) (prod_blocks m c ⟨n, hn⟩ r l)
  · rw [acc_next m c ⟨n + 1, hn⟩ h]
    exact Eq.trans (by unfold k0_pay3; pointwise; rfl) (congrArg (_ + ·) (prod_blocks m c ⟨n + 1, hn⟩ r l))

/-- What the last block of the contracted axis leaves in the result block. -/
theorem val_after (t : Fin cfg0.N) (h : t.val % 4 = 3) (r : Fin 2048) (l : Fin 1024) :
    (outsAt0 m c t.val t.isLt).1 (ix2 r l) = val m c ((0) * 2048 + r.val) (((t.val / 4)) * 1024 + l.val) := by
  rw [stored m c t h]
  refine Eq.trans (by unfold k0_pay4; pointwise) ((acc_after m c t.val t.isLt r l).trans ?_)
  rw [h]
  rfl

attribute [local irreducible] dot

/-- The result array after the run. -/
theorem final : (dats m 0 c).arrAt 2 cfg0.N = arr m c := by
  refine (dats m 0 c).arrAt_eq_of_cover 2 (arr m c) (fun t hf => ?_) fun (i : S2048x11264.Idx) => ?_
  · rw [Value.flushed2]
    obtain ⟨h0, h1⟩ := index2 t
    funext y
    rw [View.read_apply]
    show (outsAt0 m c t.val t.isLt).1 y = val m c (win0_2.index t 0 * 2048 + 1 * (y 0).val) (win0_2.index t 1 * 1024 + 1 * (y 1).val)
    refine (congrArg _ (eq_ix2 y)).trans ((val_after m c t ((flush0_2 t).mp hf) _ _).trans ?_)
    rw [h0, h1]
    exact congrArg₂ (val m c) (by omega) (by omega)
  · have b0 : (i 0).val < 2048 := (i 0).isLt
    have b1 : (i 1).val < 11264 := (i 1).isLt
    have hN : cfg0.N = 44 := N_0
    obtain ⟨t, ht⟩ : ∃ t : Fin cfg0.N, t.val = ((i 0).val / 2048 * 11 + (i 1).val / 1024) * 4 + 3 := ⟨⟨_, by omega⟩, rfl⟩
    refine ⟨t, (flush0_2 t).mpr (by omega), ?_⟩
    show i ∈ ((View.whole main_v0).slice (win0_2.rect t)).set
    rw [View.set_slice_whole]
    exact mem_block (index2 t) (by omega) (by omega)

end Cert.DwUpIdeal.Final

end
-- ==== Proof.DwUpClaims.lean ====
/-
  The claims about the up-projection's weight gradient: the frames, and the equality of the kernel's result with the reference's over the extended reals.
-/
module

public import proofs.«01_k».proof.Defs
public import proofs.«01_k».proof.Proof.DwUpValue
public import proofs.«01_k».proof.Proof.Gen.DwUp.Frame
public import proofs.«01_k».proof.Proof.Gen.DwUpRefIdeal.Run

@[expose] public section

noncomputable section

namespace DwUpClaims

open Idealize.ShloMosaic Idealize.ShloMosaic.TcCoe Idealize.SL.Sem Cert Ffn

/-! The frames. -/

theorem frame_p : quiescent_DwUp := fun m ρ _ => Cert.DwUp.Gen.frame m ρ

theorem frame_pi : quiescent_DwUpIdeal := fun m ρ _ => Cert.DwUpIdeal.Gen.frame m ρ

theorem frame_ri : quiescent_DwUpRefIdeal := fun m ρ _ =>
  (θ_run _ _ _).mono (fun r h => ⟨fun c => (h c).2, sem_eq_zero_of_no_sems (by decide) r.2⟩) (Cert.DwUpRefIdeal.Value.run m ρ)

/-- No operation is rewritten. -/
theorem preserves : preserves_DwUp_DwUpIdeal := trivial

/-- The sum over the contracted axis, in the arrays' own entries. -/
theorem val_entries (x0 : Vec Ideal DwUpIdeal.S8192x2048 .bf16) (x1 : Vec Ideal DwUpIdeal.S8192x11264 .bf16) (i : Fin 2048) (j : Fin 11264) :
    (∑ k : Fin 8192, x0 (ix2 k i) * x1 (ix2 k j))
      = dot 8192 (fun r k => at2 (n0 := 8192) (n1 := 2048) x0 k r) (fun k q => at2 (n0 := 8192) (n1 := 11264) x1 k q) i.val j.val :=
  ((dot_eq 8192 (fun r k => at2 (n0 := 8192) (n1 := 2048) x0 k r) (fun k q => at2 (n0 := 8192) (n1 := 11264) x1 k q) i.val j.val).trans
    (Finset.sum_congr rfl fun k _ => congrArg₂ (· * ·) (at2_eq x0 k i _ _ rfl rfl) (at2_eq x1 k j _ _ rfl rfl))).symm

/-- The kernel's result is the reference's. -/
theorem algebraic : algebraic_DwUpIdeal_DwUpRefIdeal := by
  intro m ρ m' ρ' _ hargs
  refine ⟨DwUpIdeal.Final.arr m, ?_, ?_⟩
  · refine (θ_run _ _ _).mono (fun r h c => ?_) (Cert.DwUpIdeal.Value.run_blocks m ρ)
    exact ⟨(h c).1.trans (DwUpIdeal.Final.final m c), (h c).2⟩
  · refine (θ_run _ _ _).mono (fun r h c => ?_) (Cert.DwUpRefIdeal.Value.run m' ρ')
    obtain ⟨h0, hrest⟩ := h c
    obtain ⟨e0, e1⟩ := hargs c
    rw [e0, e1] at h0
    refine ⟨h0.trans (funext fun y => (congrArg _ (eq_ix2 y)).trans (Eq.trans ?_ (val_entries (m ((c.tc : Thread DwUpIdeal.nD DwUpIdeal.τ).loc DwUpIdeal.main_arg0)) (m ((c.tc : Thread DwUpIdeal.nD DwUpIdeal.τ).loc DwUpIdeal.main_arg1)) (y 0) (y 1)))), hrest⟩
    pointwise
    exact Finset.sum_congr rfl fun k _ => mul_comm _ _

end DwUpClaims

end
-- ==== Proof.DActValue.lean ====
/-
  The gradient of the gated activation: what the kernel leaves in its result array, entry by entry — the whole sum over the contracted axis.
-/
module

public import proofs.«01_k».proof.Proof.Product
public import proofs.«01_k».proof.Proof.Gen.DActIdeal.Value
public import Idealize.ShloMosaic.Lib.Pipeline.ReadBack
public import Idealize.ShloMosaic.Lib.Pointwise

@[expose] public section

noncomputable section

namespace Cert.DActIdeal.Final

open Cert.DActIdeal Cert.DActIdeal.Gen Idealize.ShloMosaic Idealize.ShloMosaic.TcCoe Idealize.SL.Sem Ffn

variable (m : (ℓ : Loc nD τ sig) → Buf (Elt Ideal) ℓ) (c : Dev nD)

/-- The left factor at launch: row `r`, contracted coordinate `k`. -/
abbrev A (r k : ℕ) : EReal := at2 (n0 := 8192) (n1 := 2048) (m ((c : Thread nD τ).loc main_arg0)) r k

/-- The right factor at launch: contracted coordinate `k`, column `q`. -/
abbrev B (k q : ℕ) : EReal := at2 (n0 := 5632) (n1 := 2048) (m ((c : Thread nD τ).loc main_arg1)) q k

theorem index0 : ∀ t : Fin cfg0.N, win0_0.index t 0 = t.val % 16 ∧ win0_0.index t 1 = 0 :=
  (by decide +kernel : ∀ t : Fin grid0.N, win0_0.index t 0 = t.val % 16 ∧ win0_0.index t 1 = 0)

/-- Window 0's block at a point, entry by entry. -/
theorem block0 (t : Fin cfg0.N) (r : Fin 512) (l : Fin 2048) :
    (iblk m c 0 t : Vec Ideal S512x2048 .bf16) (ix2 r l)
      = at2 (n0 := 8192) (n1 := 2048) (m ((c : Thread nD τ).loc main_arg0)) ((t.val % 16) * 512 + r.val) ((0) * 2048 + l.val) := by
  unfold iblk
  rw [View.read_apply]
  show V m c main_arg0 _ = _
  rw [V_main_arg0]
  exact at2_block (index0 t) rfl rfl

theorem index1 : ∀ t : Fin cfg0.N, win0_1.index t 0 = t.val / 16 ∧ win0_1.index t 1 = 0 :=
  (by decide +kernel : ∀ t : Fin grid0.N, win0_1.index t 0 = t.val / 16 ∧ win0_1.index t 1 = 0)

/-- Window 1's block at a point, entry by entry. -/
theorem block1 (t : Fin cfg0.N) (r : Fin 2816) (l : Fin 2048) :
    (iblk m c 1 t : Vec Ideal S2816x2048 .bf16) (ix2 r l)
      = at2 (n0 := 5632) (n1 := 2048) (m ((c : Thread nD τ).loc main_arg1)) ((t.val / 16) * 2816 + r.val) ((0) * 2048 + l.val) := by
  unfold iblk
  rw [View.read_apply]
  show V m c main_arg1 _ = _
  rw [V_main_arg1]
  exact at2_block (index1 t) rfl rfl

theorem index2 : ∀ t : Fin cfg0.N, win0_2.index t 0 = t.val % 16 ∧ win0_2.index t 1 = t.val / 16 :=
  (by decide +kernel : ∀ t : Fin grid0.N, win0_2.index t 0 = t.val % 16 ∧ win0_2.index t 1 = t.val / 16)

/-- The product of two blocks, entry by entry. -/
theorem prod_apply (x0 : Vec Ideal S512x2048 .bf16) (x1 : Vec Ideal S2816x2048 .bf16) (r : Fin 512) (l : Fin 2816) :
    k0_pay1 x0 x1 (ix2 r l) = (∑ k : Fin 2048, x0 (ix2 r k) * x1 (ix2 l k)) := by
  unfold k0_pay1
  pointwise

/-- The product of the two blocks at a point is the point's block of the whole sum. -/
theorem prod_blocks (t : Fin cfg0.N) (r : Fin 512) (l : Fin 2816) :
    k0_pay1 (iblk m c 0 t : Vec Ideal S512x2048 .bf16) (iblk m c 1 t : Vec Ideal S2816x2048 .bf16) (ix2 r l)
      = (∑ k : Fin 2048, A m c ((t.val % 16) * 512 + r.val) ((0) * 2048 + k.val) * B m c ((0) * 2048 + k.val) ((t.val / 16) * 2816 + l.val)) := by
  refine (prod_apply _ _ r l).trans (Finset.sum_congr rfl fun k _ => ?_)
  exact congrArg₂ (· * ·) (block0 m c t r k) (block1 m c t l k)

/-- The kernel's result at row `r` and column `q`. -/
def val (r q : ℕ) : EReal := dot 2048 (A m c) (B m c) r q

/-- The kernel's result array. -/
def arr : Buf (Elt Ideal) ((c : Thread nD τ).loc main_v0) := fun y : S8192x5632.Idx => val m c (y 0).val (y 1).val

/-- What a point leaves in the result block. -/
theorem val_after (t : Fin cfg0.N) (r : Fin 512) (l : Fin 2816) :
    out0_2 (iblk m c 0 t) (iblk m c 1 t) (ix2 r l) = val m c ((t.val % 16) * 512 + r.val) ((t.val / 16) * 2816 + l.val) := by
  unfold out0_2
  refine (congrFun (View.canon_unit_zero (S := S512x2816) hz _ _) (ix2 r l)).trans ?_
  simp only [ld_whole]
  refine (prod_blocks m c t r l).trans ((dot_first 2048 _ _ _ _ _ rfl).trans rfl)

attribute [local irreducible] dot

/-- The result array after the run. -/
theorem final : (dats m 0 c).arrAt 2 cfg0.N = arr m c := by
  refine (dats m 0 c).arrAt_eq_of_cover 2 (arr m c) (fun t hf => ?_) fun (i : S8192x5632.Idx) => ?_
  · rw [Value.flushed2]
    obtain ⟨h0, h1⟩ := index2 t
    funext y
    rw [View.read_apply]
    show out0_2 (iblk m c 0 t) (iblk m c 1 t) y = val m c (win0_2.index t 0 * 512 + 1 * (y 0).val) (win0_2.index t 1 * 2816 + 1 * (y 1).val)
    refine (congrArg _ (eq_ix2 y)).trans ((val_after m c t _ _).trans ?_)
    rw [h0, h1]
    exact congrArg₂ (val m c) (by omega) (by omega)
  · have b0 : (i 0).val < 8192 := (i 0).isLt
    have b1 : (i 1).val < 5632 := (i 1).isLt
    have hN : cfg0.N = 32 := N_0
    obtain ⟨t, ht⟩ : ∃ t : Fin cfg0.N, t.val = ((i 1).val / 2816 * 16 + (i 0).val / 512) := ⟨⟨_, by omega⟩, rfl⟩
    refine ⟨t, flush0_2 t, ?_⟩
    show i ∈ ((View.whole main_v0).slice (win0_2.rect t)).set
    rw [View.set_slice_whole]
    exact mem_block (index2 t) (by omega) (by omega)

end Cert.DActIdeal.Final

end
-- ==== Proof.DActClaims.lean ====
/-
  The claims about the gradient of the gated activation: the frames, and the equality of the kernel's result with the reference's over the extended reals.
-/
module

public import proofs.«01_k».proof.Defs
public import proofs.«01_k».proof.Proof.DActValue
public import proofs.«01_k».proof.Proof.Gen.DAct.Frame
public import proofs.«01_k».proof.Proof.Gen.DActRefIdeal.Run

@[expose] public section

noncomputable section

namespace DActClaims

open Idealize.ShloMosaic Idealize.ShloMosaic.TcCoe Idealize.SL.Sem Cert Ffn

/-! The frames. -/

theorem frame_p : quiescent_DAct := fun m ρ _ => Cert.DAct.Gen.frame m ρ

theorem frame_pi : quiescent_DActIdeal := fun m ρ _ => Cert.DActIdeal.Gen.frame m ρ

theorem frame_ri : quiescent_DActRefIdeal := fun m ρ _ =>
  (θ_run _ _ _).mono (fun r h => ⟨fun c => (h c).2, sem_eq_zero_of_no_sems (by decide) r.2⟩) (Cert.DActRefIdeal.Value.run m ρ)

/-- No operation is rewritten. -/
theorem preserves : preserves_DAct_DActIdeal := trivial

/-- The sum over the contracted axis, in the arrays' own entries. -/
theorem val_entries (x0 : Vec Ideal DActIdeal.S8192x2048 .bf16) (x1 : Vec Ideal DActIdeal.S5632x2048 .bf16) (i : Fin 8192) (j : Fin 5632) :
    (∑ k : Fin 2048, x0 (ix2 i k) * x1 (ix2 j k))
      = dot 2048 (fun r k => at2 (n0 := 8192) (n1 := 2048) x0 r k) (fun k q => at2 (n0 := 5632) (n1 := 2048) x1 q k) i.val j.val :=
  ((dot_eq 2048 (fun r k => at2 (n0 := 8192) (n1 := 2048) x0 r k) (fun k q => at2 (n0 := 5632) (n1 := 2048) x1 q k) i.val j.val).trans
    (Finset.sum_congr rfl fun k _ => congrArg₂ (· * ·) (at2_eq x0 i k _ _ rfl rfl) (at2_eq x1 j k _ _ rfl rfl))).symm

/-- The kernel's result is the reference's. -/
theorem algebraic : algebraic_DActIdeal_DActRefIdeal := by
  intro m ρ m' ρ' _ hargs
  refine ⟨DActIdeal.Final.arr m, ?_, ?_⟩
  · refine (θ_run _ _ _).mono (fun r h c => ?_) (Cert.DActIdeal.Value.run_blocks m ρ)
    exact ⟨(h c).1.trans (DActIdeal.Final.final m c), (h c).2⟩
  · refine (θ_run _ _ _).mono (fun r h c => ?_) (Cert.DActRefIdeal.Value.run m' ρ')
    obtain ⟨h0, hrest⟩ := h c
    obtain ⟨e0, e1⟩ := hargs c
    rw [e0, e1] at h0
    refine ⟨h0.trans (funext fun y => (congrArg _ (eq_ix2 y)).trans (Eq.trans ?_ (val_entries (m ((c.tc : Thread DActIdeal.nD DActIdeal.τ).loc DActIdeal.main_arg0)) (m ((c.tc : Thread DActIdeal.nD DActIdeal.τ).loc DActIdeal.main_arg1)) (y 0) (y 1)))), hrest⟩
    pointwise

end DActClaims

end
-- ==== Proof.DH2Value.lean ====
/-
  The gradient of the feed-forward block's normalised input: what the kernel leaves in its result array, entry by entry — the whole sum over the contracted axis, gathered over 4 blocks of it.
-/
module

public import proofs.«01_k».proof.Proof.Product
public import proofs.«01_k».proof.Proof.Gen.DH2Ideal.Value
public import Idealize.ShloMosaic.Lib.Pipeline.ReadBack
public import Idealize.ShloMosaic.Lib.Pointwise

@[expose] public section

noncomputable section

namespace Cert.DH2Ideal.Final

open Cert.DH2Ideal Cert.DH2Ideal.Gen Idealize.ShloMosaic Idealize.ShloMosaic.TcCoe Idealize.SL.Sem Ffn

variable (m : (ℓ : Loc nD τ sig) → Buf (Elt Ideal) ℓ) (c : Dev nD)

/-- The left factor at launch: row `r`, contracted coordinate `k`. -/
abbrev A (r k : ℕ) : EReal := at2 (n0 := 8192) (n1 := 11264) (m ((c : Thread nD τ).loc main_arg0)) r k

/-- The right factor at launch: contracted coordinate `k`, column `q`. -/
abbrev B (k q : ℕ) : EReal := at2 (n0 := 2048) (n1 := 11264) (m ((c : Thread nD τ).loc main_arg1)) q k

theorem index0 : ∀ t : Fin cfg0.N, win0_0.index t 0 = (t.val / 4) / 2 ∧ win0_0.index t 1 = t.val % 4 :=
  (by decide +kernel : ∀ t : Fin grid0.N, win0_0.index t 0 = (t.val / 4) / 2 ∧ win0_0.index t 1 = t.val % 4)

/-- Window 0's block at a point, entry by entry. -/
theorem block0 (t : Fin cfg0.N) (r : Fin 1024) (l : Fin 2816) :
    (iblk m c 0 t : Vec Ideal S1024x2816 .bf16) (ix2 r l)
      = at2 (n0 := 8192) (n1 := 11264) (m ((c : Thread nD τ).loc main_arg0)) (((t.val / 4) / 2) * 1024 + r.val) ((t.val % 4) * 2816 + l.val) := by
  unfold iblk
  rw [View.read_apply]
  show V m c main_arg0 _ = _
  rw [V_main_arg0]
  exact at2_block (index0 t) rfl rfl

theorem index1 : ∀ t : Fin cfg0.N, win0_1.index t 0 = (t.val / 4) % 2 ∧ win0_1.index t 1 = t.val % 4 :=
  (by decide +kernel : ∀ t : Fin grid0.N, win0_1.index t 0 = (t.val / 4) % 2 ∧ win0_1.index t 1 = t.val % 4)

/-- Window 1's block at a point, entry by entry. -/
theorem block1 (t : Fin cfg0.N) (r : Fin 1024) (l : Fin 2816) :
    (iblk m c 1 t : Vec Ideal S1024x2816 .bf16) (ix2 r l)
      = at2 (n0 := 2048) (n1 := 11264) (m ((c : Thread nD τ).loc main_arg1)) (((t.val / 4) % 2) * 1024 + r.val) ((t.val % 4) * 2816 + l.val) := by
  unfold iblk
  rw [View.read_apply]
  show V m c main_arg1 _ = _
  rw [V_main_arg1]
  exact at2_block (index1 t) rfl rfl

theorem index2 : ∀ t : Fin cfg0.N, win0_2.index t 0 = (t.val / 4) / 2 ∧ win0_2.index t 1 = (t.val / 4) % 2 :=
  (by decide +kernel : ∀ t : Fin grid0.N, win0_2.index t 0 = (t.val / 4) / 2 ∧ win0_2.index t 1 = (t.val / 4) % 2)

/-- The product of two blocks, entry by entry. -/
theorem prod_apply (x0 : Vec Ideal S1024x2816 .bf16) (x1 : Vec Ideal S1024x2816 .bf16) (r : Fin 1024) (l : Fin 1024) :
    k0_pay1 x0 x1 (ix2 r l) = (∑ k : Fin 2816, x0 (ix2 r k) * x1 (ix2 l k)) := by
  unfold k0_pay1
  pointwise

/-- The product of the two blocks at a point is the point's block of the whole sum. -/
theorem prod_blocks (t : Fin cfg0.N) (r : Fin 1024) (l : Fin 1024) :
    k0_pay1 (iblk m c 0 t : Vec Ideal S1024x2816 .bf16) (iblk m c 1 t : Vec Ideal S1024x2816 .bf16) (ix2 r l)
      = (∑ k : Fin 2816, A m c (((t.val / 4) / 2) * 1024 + r.val) ((t.val % 4) * 2816 + k.val) * B m c ((t.val % 4) * 2816 + k.val) (((t.val / 4) % 2) * 1024 + l.val)) := by
  refine (prod_apply _ _ r l).trans (Finset.sum_congr rfl fun k _ => ?_)
  exact congrArg₂ (· * ·) (block0 m c t r k) (block1 m c t l k)

/-- The kernel's result at row `r` and column `q`. -/
def val (r q : ℕ) : EReal := dot 11264 (A m c) (B m c) r q

/-- The kernel's result array. -/
def arr : Buf (Elt Ideal) ((c : Thread nD τ).loc main_v0) := fun y : S8192x2048.Idx => val m c (y 0).val (y 1).val

/-- The first block of the contracted axis stores its product in the accumulator. -/
theorem acc_first (t : Fin cfg0.N) (h : t.val % 4 = 0) : (outsAt0 m c t.val t.isLt).2 = k0_pay2 (iblk m c 0 t) (iblk m c 1 t) := by
  have ht : t.val < 64 := lt_of_lt_of_eq t.isLt N_0
  rw [outsAt0_A m c t h (by omega) (by omega)]
  dsimp only
  unfold sout0_A_0
  rw [View.read_writes_eq_canon _ _ _ (fun y => scover0_A_0 c _ _ _ _ _ _ _ _ _ _ _ _ _ _ y)]
  unfold kernelRun0_A
  dsimp only
  sl_unfold_words
  simp only [View.readAt_eq_ld, Memref.IsWhole.read_unread, ld_whole,
    View.readCov_unit_zero (S := S1024x1024) _ hz, View.canon_unit_zero (S := S1024x1024) hz]

/-- A later block adds its product to the accumulator. -/
theorem acc_next (t : Fin cfg0.N) (h : ¬t.val % 4 = 0) : (outsAt0 m c t.val t.isLt).2 = k0_pay3 (iblk m c 0 t) (iblk m c 1 t) (outsAt0 m c (t.val - 1) (Nat.lt_of_le_of_lt (Nat.sub_le _ _) t.isLt)).2 := by
  have ht : t.val < 64 := lt_of_lt_of_eq t.isLt N_0
  by_cases h3 : t.val % 4 = 3
  · rw [outsAt0_C m c t h (by omega) h3]
    dsimp only
    unfold sout0_C_0
    rw [View.read_writes_eq_canon _ _ _ (fun y => scover0_C_0 c _ _ _ _ _ _ _ _ _ _ _ _ _ _ _ y)]
    unfold kernelRun0_C
    dsimp only
    sl_unfold_words
    simp only [View.readAt_eq_ld, Memref.IsWhole.read_unread, ld_whole,
      View.readCov_unit_zero (S := S1024x1024) _ hz, View.canon_unit_zero (S := S1024x1024) hz]
    exact congrArg (k0_pay3 _ _) ((Memref.isWhole_whole _).read_unread _)
  · rw [outsAt0_B m c t h (by omega) h3]
    dsimp only
    unfold sout0_B_0
    rw [View.read_writes_eq_canon _ _ _ (fun y => scover0_B_0 c _ _ _ _ _ _ _ _ _ _ _ _ _ _ _ y)]
    unfold kernelRun0_B
    dsimp only
    sl_unfold_words
    simp only [View.readAt_eq_ld, Memref.IsWhole.read_unread, ld_whole,
      View.readCov_unit_zero (S := S1024x1024) _ hz, View.canon_unit_zero (S := S1024x1024) hz]
    exact congrArg (k0_pay3 _ _) ((Memref.isWhole_whole _).read_unread _)

/-- The last block stores the accumulator in the result block. -/
theorem stored (t : Fin cfg0.N) (h : t.val % 4 = 3) : (outsAt0 m c t.val t.isLt).1 = k0_pay4 (outsAt0 m c t.val t.isLt).2 := by
  have ht : t.val < 64 := lt_of_lt_of_eq t.isLt N_0
  rw [acc_next m c t (by omega), outsAt0_C m c t (by omega) (by omega) h]
  dsimp only
  unfold out0_C_2
  rw [View.read_writes_eq_canon _ _ _ (fun y => cover0_C_2 c _ _ _ _ _ _ _ _ _ _ _ _ _ _ _ y)]
  unfold kernelRun0_C
  dsimp only
  sl_unfold_words
  simp only [View.readAt_eq_ld, Memref.IsWhole.read_unread, ld_whole,
    View.readCov_unit_zero (S := S1024x1024) _ hz, View.canon_unit_zero (S := S1024x1024) hz]
  exact congrArg (fun x => k0_pay4 (k0_pay3 _ _ x)) ((Memref.isWhole_whole _).read_unread _)

/-- What the accumulator holds after each point. -/
theorem acc_after (n : ℕ) (hn : n < cfg0.N) (r : Fin 1024) (l : Fin 1024) : (outsAt0 m c n hn).2 (ix2 r l)
    = dot ((n % 4 + 1) * 2816) (A m c) (B m c) (((n / 4) / 2) * 1024 + r.val) (((n / 4) % 2) * 1024 + l.val) := by
  refine dot_running 4 2816 (A m c) (B m c) (fun n => ((n / 4) / 2) * 1024 + r.val) (fun n => ((n / 4) % 2) * 1024 + l.val) (fun n hn => (outsAt0 m c n hn).2 (ix2 r l))
    (fun n hn h => ?_) (fun n hn h => ?_) (fun n h => by omega) n hn
  · rw [acc_first m c ⟨n, hn⟩ h]
    exact Eq.trans (by unfold k0_pay2; pointwise) (prod_blocks m c ⟨n, hn⟩ r l)
  · rw [acc_next m c ⟨n + 1, hn⟩ h]
    exact Eq.trans (by unfold k0_pay3; pointwise; rfl) (congrArg (_ + ·) (prod_blocks m c ⟨n + 1, hn⟩ r l))

/-- What the last block of the contracted axis leaves in the result block. -/
theorem val_after (t : Fin cfg0.N) (h : t.val % 4 = 3) (r : Fin 1024) (l : Fin 1024) :
    (outsAt0 m c t.val t.isLt).1 (ix2 r l) = val m c (((t.val / 4) / 2) * 1024 + r.val) (((t.val / 4) % 2) * 1024 + l.val) := by
  rw [stored m c t h]
  refine Eq.trans (by unfold k0_pay4; pointwise) ((acc_after m c t.val t.isLt r l).trans ?_)
  rw [h]
  rfl

attribute [local irreducible] dot

/-- The result array after the run. -/
theorem final : (dats m 0 c).arrAt 2 cfg0.N = arr m c := by
  refine (dats m 0 c).arrAt_eq_of_cover 2 (arr m c) (fun t hf => ?_) fun (i : S8192x2048.Idx) => ?_
  · rw [Value.flushed2]
    obtain ⟨h0, h1⟩ := index2 t
    funext y
    rw [View.read_apply]
    show (outsAt0 m c t.val t.isLt).1 y = val m c (win0_2.index t 0 * 1024 + 1 * (y 0).val) (win0_2.index t 1 * 1024 + 1 * (y 1).val)
    refine (congrArg _ (eq_ix2 y)).trans ((val_after m c t ((flush0_2 t).mp hf) _ _).trans ?_)
    rw [h0, h1]
    exact congrArg₂ (val m c) (by omega) (by omega)
  · have b0 : (i 0).val < 8192 := (i 0).isLt
    have b1 : (i 1).val < 2048 := (i 1).isLt
    have hN : cfg0.N = 64 := N_0
    obtain ⟨t, ht⟩ : ∃ t : Fin cfg0.N, t.val = ((i 0).val / 1024 * 2 + (i 1).val / 1024) * 4 + 3 := ⟨⟨_, by omega⟩, rfl⟩
    refine ⟨t, (flush0_2 t).mpr (by omega), ?_⟩
    show i ∈ ((View.whole main_v0).slice (win0_2.rect t)).set
    rw [View.set_slice_whole]
    exact mem_block (index2 t) (by omega) (by omega)

end Cert.DH2Ideal.Final

end
-- ==== Proof.DH2Claims.lean ====
/-
  The claims about the gradient of the feed-forward block's normalised input: the frames, and the equality of the kernel's result with the reference's over the extended reals.
-/
module

public import proofs.«01_k».proof.Defs
public import proofs.«01_k».proof.Proof.DH2Value
public import proofs.«01_k».proof.Proof.Gen.DH2.Frame
public import proofs.«01_k».proof.Proof.Gen.DH2RefIdeal.Run

@[expose] public section

noncomputable section

namespace DH2Claims

open Idealize.ShloMosaic Idealize.ShloMosaic.TcCoe Idealize.SL.Sem Cert Ffn

/-! The frames. -/

theorem frame_p : quiescent_DH2 := fun m ρ _ => Cert.DH2.Gen.frame m ρ

theorem frame_pi : quiescent_DH2Ideal := fun m ρ _ => Cert.DH2Ideal.Gen.frame m ρ

theorem frame_ri : quiescent_DH2RefIdeal := fun m ρ _ =>
  (θ_run _ _ _).mono (fun r h => ⟨fun c => (h c).2, sem_eq_zero_of_no_sems (by decide) r.2⟩) (Cert.DH2RefIdeal.Value.run m ρ)

/-- No operation is rewritten. -/
theorem preserves : preserves_DH2_DH2Ideal := trivial

/-- The sum over the contracted axis, in the arrays' own entries. -/
theorem val_entries (x0 : Vec Ideal DH2Ideal.S8192x11264 .bf16) (x1 : Vec Ideal DH2Ideal.S2048x11264 .bf16) (i : Fin 8192) (j : Fin 2048) :
    (∑ k : Fin 11264, x0 (ix2 i k) * x1 (ix2 j k))
      = dot 11264 (fun r k => at2 (n0 := 8192) (n1 := 11264) x0 r k) (fun k q => at2 (n0 := 2048) (n1 := 11264) x1 q k) i.val j.val :=
  ((dot_eq 11264 (fun r k => at2 (n0 := 8192) (n1 := 11264) x0 r k) (fun k q => at2 (n0 := 2048) (n1 := 11264) x1 q k) i.val j.val).trans
    (Finset.sum_congr rfl fun k _ => congrArg₂ (· * ·) (at2_eq x0 i k _ _ rfl rfl) (at2_eq x1 j k _ _ rfl rfl))).symm

/-- The kernel's result is the reference's. -/
theorem algebraic : algebraic_DH2Ideal_DH2RefIdeal := by
  intro m ρ m' ρ' _ hargs
  refine ⟨DH2Ideal.Final.arr m, ?_, ?_⟩
  · refine (θ_run _ _ _).mono (fun r h c => ?_) (Cert.DH2Ideal.Value.run_blocks m ρ)
    exact ⟨(h c).1.trans (DH2Ideal.Final.final m c), (h c).2⟩
  · refine (θ_run _ _ _).mono (fun r h c => ?_) (Cert.DH2RefIdeal.Value.run m' ρ')
    obtain ⟨h0, hrest⟩ := h c
    obtain ⟨e0, e1⟩ := hargs c
    rw [e0, e1] at h0
    refine ⟨h0.trans (funext fun y => (congrArg _ (eq_ix2 y)).trans (Eq.trans ?_ (val_entries (m ((c.tc : Thread DH2Ideal.nD DH2Ideal.τ).loc DH2Ideal.main_arg0)) (m ((c.tc : Thread DH2Ideal.nD DH2Ideal.τ).loc DH2Ideal.main_arg1)) (y 0) (y 1)))), hrest⟩
    pointwise

end DH2Claims

end
-- ==== Proof.DwDownValue.lean ====
/-
  The down-projection's weight gradient: what the kernel leaves in its result array, entry by entry — the whole sum over the contracted axis, gathered over 4 blocks of it.
-/
module

public import proofs.«01_k».proof.Proof.Product
public import proofs.«01_k».proof.Proof.Gen.DwDownIdeal.Value
public import Idealize.ShloMosaic.Lib.Pipeline.ReadBack
public import Idealize.ShloMosaic.Lib.Pointwise

@[expose] public section

noncomputable section

namespace Cert.DwDownIdeal.Final

open Cert.DwDownIdeal Cert.DwDownIdeal.Gen Idealize.ShloMosaic Idealize.ShloMosaic.TcCoe Idealize.SL.Sem Ffn

variable (m : (ℓ : Loc nD τ sig) → Buf (Elt Ideal) ℓ) (c : Dev nD)

/-- The left factor at launch: row `r`, contracted coordinate `k`. -/
abbrev A (r k : ℕ) : EReal := at2 (n0 := 8192) (n1 := 5632) (m ((c : Thread nD τ).loc main_arg0)) k r

/-- The right factor at launch: contracted coordinate `k`, column `q`. -/
abbrev B (k q : ℕ) : EReal := at2 (n0 := 8192) (n1 := 2048) (m ((c : Thread nD τ).loc main_arg1)) k q

theorem index0 : ∀ t : Fin cfg0.N, win0_0.index t 0 = t.val % 4 ∧ win0_0.index t 1 = (t.val / 4) / 2 :=
  (by decide +kernel : ∀ t : Fin grid0.N, win0_0.index t 0 = t.val % 4 ∧ win0_0.index t 1 = (t.val / 4) / 2)

/-- Window 0's block at a point, entry by entry. -/
theorem block0 (t : Fin cfg0.N) (r : Fin 2048) (l : Fin 1408) :
    (iblk m c 0 t : Vec Ideal S2048x1408 .bf16) (ix2 r l)
      = at2 (n0 := 8192) (n1 := 5632) (m ((c : Thread nD τ).loc main_arg0)) ((t.val % 4) * 2048 + r.val) (((t.val / 4) / 2) * 1408 + l.val) := by
  unfold iblk
  rw [View.read_apply]
  show V m c main_arg0 _ = _
  rw [V_main_arg0]
  exact at2_block (index0 t) rfl rfl

theorem index1 : ∀ t : Fin cfg0.N, win0_1.index t 0 = t.val % 4 ∧ win0_1.index t 1 = (t.val / 4) % 2 :=
  (by decide +kernel : ∀ t : Fin grid0.N, win0_1.index t 0 = t.val % 4 ∧ win0_1.index t 1 = (t.val / 4) % 2)

/-- Window 1's block at a point, entry by entry. -/
theorem block1 (t : Fin cfg0.N) (r : Fin 2048) (l : Fin 1024) :
    (iblk m c 1 t : Vec Ideal S2048x1024 .bf16) (ix2 r l)
      = at2 (n0 := 8192) (n1 := 2048) (m ((c : Thread nD τ).loc main_arg1)) ((t.val % 4) * 2048 + r.val) (((t.val / 4) % 2) * 1024 + l.val) := by
  unfold iblk
  rw [View.read_apply]
  show V m c main_arg1 _ = _
  rw [V_main_arg1]
  exact at2_block (index1 t) rfl rfl

theorem index2 : ∀ t : Fin cfg0.N, win0_2.index t 0 = (t.val / 4) / 2 ∧ win0_2.index t 1 = (t.val / 4) % 2 :=
  (by decide +kernel : ∀ t : Fin grid0.N, win0_2.index t 0 = (t.val / 4) / 2 ∧ win0_2.index t 1 = (t.val / 4) % 2)

/-- The product of two blocks, entry by entry. -/
theorem prod_apply (x0 : Vec Ideal S2048x1408 .bf16) (x1 : Vec Ideal S2048x1024 .bf16) (r : Fin 1408) (l : Fin 1024) :
    k0_pay1 x0 x1 (ix2 r l) = (∑ k : Fin 2048, x0 (ix2 k r) * x1 (ix2 k l)) := by
  unfold k0_pay1
  pointwise

/-- The product of the two blocks at a point is the point's block of the whole sum. -/
theorem prod_blocks (t : Fin cfg0.N) (r : Fin 1408) (l : Fin 1024) :
    k0_pay1 (iblk m c 0 t : Vec Ideal S2048x1408 .bf16) (iblk m c 1 t : Vec Ideal S2048x1024 .bf16) (ix2 r l)
      = (∑ k : Fin 2048, A m c (((t.val / 4) / 2) * 1408 + r.val) ((t.val % 4) * 2048 + k.val) * B m c ((t.val % 4) * 2048 + k.val) (((t.val / 4) % 2) * 1024 + l.val)) := by
  refine (prod_apply _ _ r l).trans (Finset.sum_congr rfl fun k _ => ?_)
  exact congrArg₂ (· * ·) (block0 m c t k r) (block1 m c t k l)

/-- The kernel's result at row `r` and column `q`. -/
def val (r q : ℕ) : EReal := dot 8192 (A m c) (B m c) r q

/-- The kernel's result array. -/
def arr : Buf (Elt Ideal) ((c : Thread nD τ).loc main_v0) := fun y : S5632x2048.Idx => val m c (y 0).val (y 1).val

/-- The first block of the contracted axis stores its product in the accumulator. -/
theorem acc_first (t : Fin cfg0.N) (h : t.val % 4 = 0) : (outsAt0 m c t.val t.isLt).2 = k0_pay2 (iblk m c 0 t) (iblk m c 1 t) := by
  have ht : t.val < 32 := lt_of_lt_of_eq t.isLt N_0
  rw [outsAt0_A m c t h (by omega) (by omega)]
  dsimp only
  unfold sout0_A_0
  rw [View.read_writes_eq_canon _ _ _ (fun y => scover0_A_0 c _ _ _ _ _ _ _ _ _ _ _ _ _ _ y)]
  unfold kernelRun0_A
  dsimp only
  sl_unfold_words
  simp only [View.readAt_eq_ld, Memref.IsWhole.read_unread, ld_whole,
    View.readCov_unit_zero (S := S1408x1024) _ hz, View.canon_unit_zero (S := S1408x1024) hz]

/-- A later block adds its product to the accumulator. -/
theorem acc_next (t : Fin cfg0.N) (h : ¬t.val % 4 = 0) : (outsAt0 m c t.val t.isLt).2 = k0_pay3 (iblk m c 0 t) (iblk m c 1 t) (outsAt0 m c (t.val - 1) (Nat.lt_of_le_of_lt (Nat.sub_le _ _) t.isLt)).2 := by
  have ht : t.val < 32 := lt_of_lt_of_eq t.isLt N_0
  by_cases h3 : t.val % 4 = 3
  · rw [outsAt0_C m c t h (by omega) h3]
    dsimp only
    unfold sout0_C_0
    rw [View.read_writes_eq_canon _ _ _ (fun y => scover0_C_0 c _ _ _ _ _ _ _ _ _ _ _ _ _ _ _ y)]
    unfold kernelRun0_C
    dsimp only
    sl_unfold_words
    simp only [View.readAt_eq_ld, Memref.IsWhole.read_unread, ld_whole,
      View.readCov_unit_zero (S := S1408x1024) _ hz, View.canon_unit_zero (S := S1408x1024) hz]
    exact congrArg (k0_pay3 _ _) ((Memref.isWhole_whole _).read_unread _)
  · rw [outsAt0_B m c t h (by omega) h3]
    dsimp only
    unfold sout0_B_0
    rw [View.read_writes_eq_canon _ _ _ (fun y => scover0_B_0 c _ _ _ _ _ _ _ _ _ _ _ _ _ _ _ y)]
    unfold kernelRun0_B
    dsimp only
    sl_unfold_words
    simp only [View.readAt_eq_ld, Memref.IsWhole.read_unread, ld_whole,
      View.readCov_unit_zero (S := S1408x1024) _ hz, View.canon_unit_zero (S := S1408x1024) hz]
    exact congrArg (k0_pay3 _ _) ((Memref.isWhole_whole _).read_unread _)

/-- The last block stores the accumulator in the result block. -/
theorem stored (t : Fin cfg0.N) (h : t.val % 4 = 3) : (outsAt0 m c t.val t.isLt).1 = k0_pay4 (outsAt0 m c t.val t.isLt).2 := by
  have ht : t.val < 32 := lt_of_lt_of_eq t.isLt N_0
  rw [acc_next m c t (by omega), outsAt0_C m c t (by omega) (by omega) h]
  dsimp only
  unfold out0_C_2
  rw [View.read_writes_eq_canon _ _ _ (fun y => cover0_C_2 c _ _ _ _ _ _ _ _ _ _ _ _ _ _ _ y)]
  unfold kernelRun0_C
  dsimp only
  sl_unfold_words
  simp only [View.readAt_eq_ld, Memref.IsWhole.read_unread, ld_whole,
    View.readCov_unit_zero (S := S1408x1024) _ hz, View.canon_unit_zero (S := S1408x1024) hz]
  exact congrArg (fun x => k0_pay4 (k0_pay3 _ _ x)) ((Memref.isWhole_whole _).read_unread _)

/-- What the accumulator holds after each point. -/
theorem acc_after (n : ℕ) (hn : n < cfg0.N) (r : Fin 1408) (l : Fin 1024) : (outsAt0 m c n hn).2 (ix2 r l)
    = dot ((n % 4 + 1) * 2048) (A m c) (B m c) (((n / 4) / 2) * 1408 + r.val) (((n / 4) % 2) * 1024 + l.val) := by
  refine dot_running 4 2048 (A m c) (B m c) (fun n => ((n / 4) / 2) * 1408 + r.val) (fun n => ((n / 4) % 2) * 1024 + l.val) (fun n hn => (outsAt0 m c n hn).2 (ix2 r l))
    (fun n hn h => ?_) (fun n hn h => ?_) (fun n h => by omega) n hn
  · rw [acc_first m c ⟨n, hn⟩ h]
    exact Eq.trans (by unfold k0_pay2; pointwise) (prod_blocks m c ⟨n, hn⟩ r l)
  · rw [acc_next m c ⟨n + 1, hn⟩ h]
    exact Eq.trans (by unfold k0_pay3; pointwise; rfl) (congrArg (_ + ·) (prod_blocks m c ⟨n + 1, hn⟩ r l))

/-- What the last block of the contracted axis leaves in the result block. -/
theorem val_after (t : Fin cfg0.N) (h : t.val % 4 = 3) (r : Fin 1408) (l : Fin 1024) :
    (outsAt0 m c t.val t.isLt).1 (ix2 r l) = val m c (((t.val / 4) / 2) * 1408 + r.val) (((t.val / 4) % 2) * 1024 + l.val) := by
  rw [stored m c t h]
  refine Eq.trans (by unfold k0_pay4; pointwise) ((acc_after m c t.val t.isLt r l).trans ?_)
  rw [h]
  rfl

attribute [local irreducible] dot

/-- The result array after the run. -/
theorem final : (dats m 0 c).arrAt 2 cfg0.N = arr m c := by
  refine (dats m 0 c).arrAt_eq_of_cover 2 (arr m c) (fun t hf => ?_) fun (i : S5632x2048.Idx) => ?_
  · rw [Value.flushed2]
    obtain ⟨h0, h1⟩ := index2 t
    funext y
    rw [View.read_apply]
    show (outsAt0 m c t.val t.isLt).1 y = val m c (win0_2.index t 0 * 1408 + 1 * (y 0).val) (win0_2.index t 1 * 1024 + 1 * (y 1).val)
    refine (congrArg _ (eq_ix2 y)).trans ((val_after m c t ((flush0_2 t).mp hf) _ _).trans ?_)
    rw [h0, h1]
    exact congrArg₂ (val m c) (by omega) (by omega)
  · have b0 : (i 0).val < 5632 := (i 0).isLt
    have b1 : (i 1).val < 2048 := (i 1).isLt
    have hN : cfg0.N = 32 := N_0
    obtain ⟨t, ht⟩ : ∃ t : Fin cfg0.N, t.val = ((i 0).val / 1408 * 2 + (i 1).val / 1024) * 4 + 3 := ⟨⟨_, by omega⟩, rfl⟩
    refine ⟨t, (flush0_2 t).mpr (by omega), ?_⟩
    show i ∈ ((View.whole main_v0).slice (win0_2.rect t)).set
    rw [View.set_slice_whole]
    exact mem_block (index2 t) (by omega) (by omega)

end Cert.DwDownIdeal.Final

end
-- ==== Proof.DwDownClaims.lean ====
/-
  The claims about the down-projection's weight gradient: the frames, and the equality of the kernel's result with the reference's over the extended reals.
-/
module

public import proofs.«01_k».proof.Defs
public import proofs.«01_k».proof.Proof.DwDownValue
public import proofs.«01_k».proof.Proof.Gen.DwDown.Frame
public import proofs.«01_k».proof.Proof.Gen.DwDownRefIdeal.Run

@[expose] public section

noncomputable section

namespace DwDownClaims

open Idealize.ShloMosaic Idealize.ShloMosaic.TcCoe Idealize.SL.Sem Cert Ffn

/-! The frames. -/

theorem frame_p : quiescent_DwDown := fun m ρ _ => Cert.DwDown.Gen.frame m ρ

theorem frame_pi : quiescent_DwDownIdeal := fun m ρ _ => Cert.DwDownIdeal.Gen.frame m ρ

theorem frame_ri : quiescent_DwDownRefIdeal := fun m ρ _ =>
  (θ_run _ _ _).mono (fun r h => ⟨fun c => (h c).2, sem_eq_zero_of_no_sems (by decide) r.2⟩) (Cert.DwDownRefIdeal.Value.run m ρ)

/-- No operation is rewritten. -/
theorem preserves : preserves_DwDown_DwDownIdeal := trivial

/-- The sum over the contracted axis, in the arrays' own entries. -/
theorem val_entries (x0 : Vec Ideal DwDownIdeal.S8192x5632 .bf16) (x1 : Vec Ideal DwDownIdeal.S8192x2048 .bf16) (i : Fin 5632) (j : Fin 2048) :
    (∑ k : Fin 8192, x0 (ix2 k i) * x1 (ix2 k j))
      = dot 8192 (fun r k => at2 (n0 := 8192) (n1 := 5632) x0 k r) (fun k q => at2 (n0 := 8192) (n1 := 2048) x1 k q) i.val j.val :=
  ((dot_eq 8192 (fun r k => at2 (n0 := 8192) (n1 := 5632) x0 k r) (fun k q => at2 (n0 := 8192) (n1 := 2048) x1 k q) i.val j.val).trans
    (Finset.sum_congr rfl fun k _ => congrArg₂ (· * ·) (at2_eq x0 k i _ _ rfl rfl) (at2_eq x1 k j _ _ rfl rfl))).symm

/-- The kernel's result is the reference's. -/
theorem algebraic : algebraic_DwDownIdeal_DwDownRefIdeal := by
  intro m ρ m' ρ' _ hargs
  refine ⟨DwDownIdeal.Final.arr m, ?_, ?_⟩
  · refine (θ_run _ _ _).mono (fun r h c => ?_) (Cert.DwDownIdeal.Value.run_blocks m ρ)
    exact ⟨(h c).1.trans (DwDownIdeal.Final.final m c), (h c).2⟩
  · refine (θ_run _ _ _).mono (fun r h c => ?_) (Cert.DwDownRefIdeal.Value.run m' ρ')
    obtain ⟨h0, hrest⟩ := h c
    obtain ⟨e0, e1⟩ := hargs c
    rw [e0, e1] at h0
    refine ⟨h0.trans (funext fun y => (congrArg _ (eq_ix2 y)).trans (Eq.trans ?_ (val_entries (m ((c.tc : Thread DwDownIdeal.nD DwDownIdeal.τ).loc DwDownIdeal.main_arg0)) (m ((c.tc : Thread DwDownIdeal.nD DwDownIdeal.τ).loc DwDownIdeal.main_arg1)) (y 0) (y 1)))), hrest⟩
    pointwise
    exact Finset.sum_congr rfl fun k _ => mul_comm _ _

end DwDownClaims

end
-- ==== Proof.DwInValue.lean ====
/-
  The input projection's weight gradient: what the kernel leaves in its result array, entry by entry — the whole sum over the contracted axis, gathered over 8 blocks of it.
-/
module

public import proofs.«01_k».proof.Proof.Product
public import proofs.«01_k».proof.Proof.Gen.DwInIdeal.Value
public import Idealize.ShloMosaic.Lib.Pipeline.ReadBack
public import Idealize.ShloMosaic.Lib.Pointwise

@[expose] public section

noncomputable section

namespace Cert.DwInIdeal.Final

open Cert.DwInIdeal Cert.DwInIdeal.Gen Idealize.ShloMosaic Idealize.ShloMosaic.TcCoe Idealize.SL.Sem Ffn

variable (m : (ℓ : Loc nD τ sig) → Buf (Elt Ideal) ℓ) (c : Dev nD)

/-- The left factor at launch: row `r`, contracted coordinate `k`. -/
abbrev A (r k : ℕ) : EReal := at2 (n0 := 8192) (n1 := 5888) (m ((c : Thread nD τ).loc main_arg0)) k r

/-- The right factor at launch: contracted coordinate `k`, column `q`. -/
abbrev B (k q : ℕ) : EReal := at2 (n0 := 8192) (n1 := 2048) (m ((c : Thread nD τ).loc main_arg1)) k q

theorem index0 : ∀ t : Fin cfg0.N, win0_0.index t 0 = t.val % 8 ∧ win0_0.index t 1 = (t.val / 8) / 2 :=
  (by decide +kernel : ∀ t : Fin grid0.N, win0_0.index t 0 = t.val % 8 ∧ win0_0.index t 1 = (t.val / 8) / 2)

/-- Window 0's block at a point, entry by entry. -/
theorem block0 (t : Fin cfg0.N) (r : Fin 1024) (l : Fin 2944) :
    (iblk m c 0 t : Vec Ideal S1024x2944 .bf16) (ix2 r l)
      = at2 (n0 := 8192) (n1 := 5888) (m ((c : Thread nD τ).loc main_arg0)) ((t.val % 8) * 1024 + r.val) (((t.val / 8) / 2) * 2944 + l.val) := by
  unfold iblk
  rw [View.read_apply]
  show V m c main_arg0 _ = _
  rw [V_main_arg0]
  exact at2_block (index0 t) rfl rfl

theorem index1 : ∀ t : Fin cfg0.N, win0_1.index t 0 = t.val % 8 ∧ win0_1.index t 1 = (t.val / 8) % 2 :=
  (by decide +kernel : ∀ t : Fin grid0.N, win0_1.index t 0 = t.val % 8 ∧ win0_1.index t 1 = (t.val / 8) % 2)

/-- Window 1's block at a point, entry by entry. -/
theorem block1 (t : Fin cfg0.N) (r : Fin 1024) (l : Fin 1024) :
    (iblk m c 1 t : Vec Ideal S1024x1024 .bf16) (ix2 r l)
      = at2 (n0 := 8192) (n1 := 2048) (m ((c : Thread nD τ).loc main_arg1)) ((t.val % 8) * 1024 + r.val) (((t.val / 8) % 2) * 1024 + l.val) := by
  unfold iblk
  rw [View.read_apply]
  show V m c main_arg1 _ = _
  rw [V_main_arg1]
  exact at2_block (index1 t) rfl rfl

theorem index2 : ∀ t : Fin cfg0.N, win0_2.index t 0 = (t.val / 8) / 2 ∧ win0_2.index t 1 = (t.val / 8) % 2 :=
  (by decide +kernel : ∀ t : Fin grid0.N, win0_2.index t 0 = (t.val / 8) / 2 ∧ win0_2.index t 1 = (t.val / 8) % 2)

/-- The product of two blocks, entry by entry. -/
theorem prod_apply (x0 : Vec Ideal S1024x2944 .bf16) (x1 : Vec Ideal S1024x1024 .bf16) (r : Fin 2944) (l : Fin 1024) :
    k0_pay1 x0 x1 (ix2 r l) = (∑ k : Fin 1024, x0 (ix2 k r) * x1 (ix2 k l)) := by
  unfold k0_pay1
  pointwise

/-- The product of the two blocks at a point is the point's block of the whole sum. -/
theorem prod_blocks (t : Fin cfg0.N) (r : Fin 2944) (l : Fin 1024) :
    k0_pay1 (iblk m c 0 t : Vec Ideal S1024x2944 .bf16) (iblk m c 1 t : Vec Ideal S1024x1024 .bf16) (ix2 r l)
      = (∑ k : Fin 1024, A m c (((t.val / 8) / 2) * 2944 + r.val) ((t.val % 8) * 1024 + k.val) * B m c ((t.val % 8) * 1024 + k.val) (((t.val / 8) % 2) * 1024 + l.val)) := by
  refine (prod_apply _ _ r l).trans (Finset.sum_congr rfl fun k _ => ?_)
  exact congrArg₂ (· * ·) (block0 m c t k r) (block1 m c t k l)

/-- The kernel's result at row `r` and column `q`. -/
def val (r q : ℕ) : EReal := dot 8192 (A m c) (B m c) r q

/-- The kernel's result array. -/
def arr : Buf (Elt Ideal) ((c : Thread nD τ).loc main_v0) := fun y : S5888x2048.Idx => val m c (y 0).val (y 1).val

/-- The first block of the contracted axis stores its product in the accumulator. -/
theorem acc_first (t : Fin cfg0.N) (h : t.val % 8 = 0) : (outsAt0 m c t.val t.isLt).2 = k0_pay2 (iblk m c 0 t) (iblk m c 1 t) := by
  have ht : t.val < 32 := lt_of_lt_of_eq t.isLt N_0
  rw [outsAt0_A m c t h (by omega) (by omega)]
  dsimp only
  unfold sout0_A_0
  rw [View.read_writes_eq_canon _ _ _ (fun y => scover0_A_0 c _ _ _ _ _ _ _ _ _ _ _ _ _ _ y)]
  unfold kernelRun0_A
  dsimp only
  sl_unfold_words
  simp only [View.readAt_eq_ld, Memref.IsWhole.read_unread, ld_whole,
    View.readCov_unit_zero (S := S2944x1024) _ hz, View.canon_unit_zero (S := S2944x1024) hz]

/-- A later block adds its product to the accumulator. -/
theorem acc_next (t : Fin cfg0.N) (h : ¬t.val % 8 = 0) : (outsAt0 m c t.val t.isLt).2 = k0_pay3 (iblk m c 0 t) (iblk m c 1 t) (outsAt0 m c (t.val - 1) (Nat.lt_of_le_of_lt (Nat.sub_le _ _) t.isLt)).2 := by
  have ht : t.val < 32 := lt_of_lt_of_eq t.isLt N_0
  by_cases h3 : t.val % 8 = 7
  · rw [outsAt0_C m c t h (by omega) h3]
    dsimp only
    unfold sout0_C_0
    rw [View.read_writes_eq_canon _ _ _ (fun y => scover0_C_0 c _ _ _ _ _ _ _ _ _ _ _ _ _ _ _ y)]
    unfold kernelRun0_C
    dsimp only
    sl_unfold_words
    simp only [View.readAt_eq_ld, Memref.IsWhole.read_unread, ld_whole,
      View.readCov_unit_zero (S := S2944x1024) _ hz, View.canon_unit_zero (S := S2944x1024) hz]
    exact congrArg (k0_pay3 _ _) ((Memref.isWhole_whole _).read_unread _)
  · rw [outsAt0_B m c t h (by omega) h3]
    dsimp only
    unfold sout0_B_0
    rw [View.read_writes_eq_canon _ _ _ (fun y => scover0_B_0 c _ _ _ _ _ _ _ _ _ _ _ _ _ _ _ y)]
    unfold kernelRun0_B
    dsimp only
    sl_unfold_words
    simp only [View.readAt_eq_ld, Memref.IsWhole.read_unread, ld_whole,
      View.readCov_unit_zero (S := S2944x1024) _ hz, View.canon_unit_zero (S := S2944x1024) hz]
    exact congrArg (k0_pay3 _ _) ((Memref.isWhole_whole _).read_unread _)

/-- The last block stores the accumulator in the result block. -/
theorem stored (t : Fin cfg0.N) (h : t.val % 8 = 7) : (outsAt0 m c t.val t.isLt).1 = k0_pay4 (outsAt0 m c t.val t.isLt).2 := by
  have ht : t.val < 32 := lt_of_lt_of_eq t.isLt N_0
  rw [acc_next m c t (by omega), outsAt0_C m c t (by omega) (by omega) h]
  dsimp only
  unfold out0_C_2
  rw [View.read_writes_eq_canon _ _ _ (fun y => cover0_C_2 c _ _ _ _ _ _ _ _ _ _ _ _ _ _ _ y)]
  unfold kernelRun0_C
  dsimp only
  sl_unfold_words
  simp only [View.readAt_eq_ld, Memref.IsWhole.read_unread, ld_whole,
    View.readCov_unit_zero (S := S2944x1024) _ hz, View.canon_unit_zero (S := S2944x1024) hz]
  exact congrArg (fun x => k0_pay4 (k0_pay3 _ _ x)) ((Memref.isWhole_whole _).read_unread _)

/-- What the accumulator holds after each point. -/
theorem acc_after (n : ℕ) (hn : n < cfg0.N) (r : Fin 2944) (l : Fin 1024) : (outsAt0 m c n hn).2 (ix2 r l)
    = dot ((n % 8 + 1) * 1024) (A m c) (B m c) (((n / 8) / 2) * 2944 + r.val) (((n / 8) % 2) * 1024 + l.val) := by
  refine dot_running 8 1024 (A m c) (B m c) (fun n => ((n / 8) / 2) * 2944 + r.val) (fun n => ((n / 8) % 2) * 1024 + l.val) (fun n hn => (outsAt0 m c n hn).2 (ix2 r l))
    (fun n hn h => ?_) (fun n hn h => ?_) (fun n h => by omega) n hn
  · rw [acc_first m c ⟨n, hn⟩ h]
    exact Eq.trans (by unfold k0_pay2; pointwise) (prod_blocks m c ⟨n, hn⟩ r l)
  · rw [acc_next m c ⟨n + 1, hn⟩ h]
    exact Eq.trans (by unfold k0_pay3; pointwise; rfl) (congrArg (_ + ·) (prod_blocks m c ⟨n + 1, hn⟩ r l))

/-- What the last block of the contracted axis leaves in the result block. -/
theorem val_after (t : Fin cfg0.N) (h : t.val % 8 = 7) (r : Fin 2944) (l : Fin 1024) :
    (outsAt0 m c t.val t.isLt).1 (ix2 r l) = val m c (((t.val / 8) / 2) * 2944 + r.val) (((t.val / 8) % 2) * 1024 + l.val) := by
  rw [stored m c t h]
  refine Eq.trans (by unfold k0_pay4; pointwise) ((acc_after m c t.val t.isLt r l).trans ?_)
  rw [h]
  rfl

attribute [local irreducible] dot

/-- The result array after the run. -/
theorem final : (dats m 0 c).arrAt 2 cfg0.N = arr m c := by
  refine (dats m 0 c).arrAt_eq_of_cover 2 (arr m c) (fun t hf => ?_) fun (i : S5888x2048.Idx) => ?_
  · rw [Value.flushed2]
    obtain ⟨h0, h1⟩ := index2 t
    funext y
    rw [View.read_apply]
    show (outsAt0 m c t.val t.isLt).1 y = val m c (win0_2.index t 0 * 2944 + 1 * (y 0).val) (win0_2.index t 1 * 1024 + 1 * (y 1).val)
    refine (congrArg _ (eq_ix2 y)).trans ((val_after m c t ((flush0_2 t).mp hf) _ _).trans ?_)
    rw [h0, h1]
    exact congrArg₂ (val m c) (by omega) (by omega)
  · have b0 : (i 0).val < 5888 := (i 0).isLt
    have b1 : (i 1).val < 2048 := (i 1).isLt
    have hN : cfg0.N = 32 := N_0
    obtain ⟨t, ht⟩ : ∃ t : Fin cfg0.N, t.val = ((i 0).val / 2944 * 2 + (i 1).val / 1024) * 8 + 7 := ⟨⟨_, by omega⟩, rfl⟩
    refine ⟨t, (flush0_2 t).mpr (by omega), ?_⟩
    show i ∈ ((View.whole main_v0).slice (win0_2.rect t)).set
    rw [View.set_slice_whole]
    exact mem_block (index2 t) (by omega) (by omega)

end Cert.DwInIdeal.Final

end
-- ==== Proof.DwInClaims.lean ====
/-
  The claims about the input projection's weight gradient: the frames, and the equality of the kernel's result with the reference's over the extended reals.
-/
module

public import proofs.«01_k».proof.Defs
public import proofs.«01_k».proof.Proof.DwInValue
public import proofs.«01_k».proof.Proof.Gen.DwIn.Frame
public import proofs.«01_k».proof.Proof.Gen.DwInRefIdeal.Run

@[expose] public section

noncomputable section

namespace DwInClaims

open Idealize.ShloMosaic Idealize.ShloMosaic.TcCoe Idealize.SL.Sem Cert Ffn

/-! The frames. -/

theorem frame_p : quiescent_DwIn := fun m ρ _ => Cert.DwIn.Gen.frame m ρ

theorem frame_pi : quiescent_DwInIdeal := fun m ρ _ => Cert.DwInIdeal.Gen.frame m ρ

theorem frame_ri : quiescent_DwInRefIdeal := fun m ρ _ =>
  (θ_run _ _ _).mono (fun r h => ⟨fun c => (h c).2, sem_eq_zero_of_no_sems (by decide) r.2⟩) (Cert.DwInRefIdeal.Value.run m ρ)

/-- No operation is rewritten. -/
theorem preserves : preserves_DwIn_DwInIdeal := trivial

/-- The sum over the contracted axis, in the arrays' own entries. -/
theorem val_entries (x0 : Vec Ideal DwInIdeal.S8192x5888 .bf16) (x1 : Vec Ideal DwInIdeal.S8192x2048 .bf16) (i : Fin 5888) (j : Fin 2048) :
    (∑ k : Fin 8192, x0 (ix2 k i) * x1 (ix2 k j))
      = dot 8192 (fun r k => at2 (n0 := 8192) (n1 := 5888) x0 k r) (fun k q => at2 (n0 := 8192) (n1 := 2048) x1 k q) i.val j.val :=
  ((dot_eq 8192 (fun r k => at2 (n0 := 8192) (n1 := 5888) x0 k r) (fun k q => at2 (n0 := 8192) (n1 := 2048) x1 k q) i.val j.val).trans
    (Finset.sum_congr rfl fun k _ => congrArg₂ (· * ·) (at2_eq x0 k i _ _ rfl rfl) (at2_eq x1 k j _ _ rfl rfl))).symm

/-- The kernel's result is the reference's. -/
theorem algebraic : algebraic_DwInIdeal_DwInRefIdeal := by
  intro m ρ m' ρ' _ hargs
  refine ⟨DwInIdeal.Final.arr m, ?_, ?_⟩
  · refine (θ_run _ _ _).mono (fun r h c => ?_) (Cert.DwInIdeal.Value.run_blocks m ρ)
    exact ⟨(h c).1.trans (DwInIdeal.Final.final m c), (h c).2⟩
  · refine (θ_run _ _ _).mono (fun r h c => ?_) (Cert.DwInRefIdeal.Value.run m' ρ')
    obtain ⟨h0, hrest⟩ := h c
    obtain ⟨e0, e1⟩ := hargs c
    rw [e0, e1] at h0
    refine ⟨h0.trans (funext fun y => (congrArg _ (eq_ix2 y)).trans (Eq.trans ?_ (val_entries (m ((c.tc : Thread DwInIdeal.nD DwInIdeal.τ).loc DwInIdeal.main_arg0)) (m ((c.tc : Thread DwInIdeal.nD DwInIdeal.τ).loc DwInIdeal.main_arg1)) (y 0) (y 1)))), hrest⟩
    pointwise

end DwInClaims

end
-- ==== Proof.DH1Value.lean ====
/-
  The gradient of the mixing block's normalised input: what the kernel leaves in its result array, entry by entry — the whole sum over the contracted axis, gathered over 2 blocks of it.
-/
module

public import proofs.«01_k».proof.Proof.Product
public import proofs.«01_k».proof.Proof.Gen.DH1Ideal.Value
public import Idealize.ShloMosaic.Lib.Pipeline.ReadBack
public import Idealize.ShloMosaic.Lib.Pointwise

@[expose] public section

noncomputable section

namespace Cert.DH1Ideal.Final

open Cert.DH1Ideal Cert.DH1Ideal.Gen Idealize.ShloMosaic Idealize.ShloMosaic.TcCoe Idealize.SL.Sem Ffn

variable (m : (ℓ : Loc nD τ sig) → Buf (Elt Ideal) ℓ) (c : Dev nD)

/-- The left factor at launch: row `r`, contracted coordinate `k`. -/
abbrev A (r k : ℕ) : EReal := at2 (n0 := 8192) (n1 := 5888) (m ((c : Thread nD τ).loc main_arg0)) r k

/-- The right factor at launch: contracted coordinate `k`, column `q`. -/
abbrev B (k q : ℕ) : EReal := at2 (n0 := 5888) (n1 := 2048) (m ((c : Thread nD τ).loc main_arg1)) k q

theorem index0 : ∀ t : Fin cfg0.N, win0_0.index t 0 = (t.val / 2) / 2 ∧ win0_0.index t 1 = t.val % 2 :=
  (by decide +kernel : ∀ t : Fin grid0.N, win0_0.index t 0 = (t.val / 2) / 2 ∧ win0_0.index t 1 = t.val % 2)

/-- Window 0's block at a point, entry by entry. -/
theorem block0 (t : Fin cfg0.N) (r : Fin 1024) (l : Fin 2944) :
    (iblk m c 0 t : Vec Ideal S1024x2944 .bf16) (ix2 r l)
      = at2 (n0 := 8192) (n1 := 5888) (m ((c : Thread nD τ).loc main_arg0)) (((t.val / 2) / 2) * 1024 + r.val) ((t.val % 2) * 2944 + l.val) := by
  unfold iblk
  rw [View.read_apply]
  show V m c main_arg0 _ = _
  rw [V_main_arg0]
  exact at2_block (index0 t) rfl rfl

theorem index1 : ∀ t : Fin cfg0.N, win0_1.index t 0 = t.val % 2 ∧ win0_1.index t 1 = (t.val / 2) % 2 :=
  (by decide +kernel : ∀ t : Fin grid0.N, win0_1.index t 0 = t.val % 2 ∧ win0_1.index t 1 = (t.val / 2) % 2)

/-- Window 1's block at a point, entry by entry. -/
theorem block1 (t : Fin cfg0.N) (r : Fin 2944) (l : Fin 1024) :
    (iblk m c 1 t : Vec Ideal S2944x1024 .bf16) (ix2 r l)
      = at2 (n0 := 5888) (n1 := 2048) (m ((c : Thread nD τ).loc main_arg1)) ((t.val % 2) * 2944 + r.val) (((t.val / 2) % 2) * 1024 + l.val) := by
  unfold iblk
  rw [View.read_apply]
  show V m c main_arg1 _ = _
  rw [V_main_arg1]
  exact at2_block (index1 t) rfl rfl

theorem index2 : ∀ t : Fin cfg0.N, win0_2.index t 0 = (t.val / 2) / 2 ∧ win0_2.index t 1 = (t.val / 2) % 2 :=
  (by decide +kernel : ∀ t : Fin grid0.N, win0_2.index t 0 = (t.val / 2) / 2 ∧ win0_2.index t 1 = (t.val / 2) % 2)

/-- The product of two blocks, entry by entry. -/
theorem prod_apply (x0 : Vec Ideal S1024x2944 .bf16) (x1 : Vec Ideal S2944x1024 .bf16) (r : Fin 1024) (l : Fin 1024) :
    k0_pay1 x0 x1 (ix2 r l) = (∑ k : Fin 2944, x0 (ix2 r k) * x1 (ix2 k l)) := by
  unfold k0_pay1
  pointwise

/-- The product of the two blocks at a point is the point's block of the whole sum. -/
theorem prod_blocks (t : Fin cfg0.N) (r : Fin 1024) (l : Fin 1024) :
    k0_pay1 (iblk m c 0 t : Vec Ideal S1024x2944 .bf16) (iblk m c 1 t : Vec Ideal S2944x1024 .bf16) (ix2 r l)
      = (∑ k : Fin 2944, A m c (((t.val / 2) / 2) * 1024 + r.val) ((t.val % 2) * 2944 + k.val) * B m c ((t.val % 2) * 2944 + k.val) (((t.val / 2) % 2) * 1024 + l.val)) := by
  refine (prod_apply _ _ r l).trans (Finset.sum_congr rfl fun k _ => ?_)
  exact congrArg₂ (· * ·) (block0 m c t r k) (block1 m c t k l)

/-- The kernel's result at row `r` and column `q`. -/
def val (r q : ℕ) : EReal := dot 5888 (A m c) (B m c) r q

/-- The kernel's result array. -/
def arr : Buf (Elt Ideal) ((c : Thread nD τ).loc main_v0) := fun y : S8192x2048.Idx => val m c (y 0).val (y 1).val

/-- The first block of the contracted axis stores its product in the accumulator. -/
theorem acc_first (t : Fin cfg0.N) (h : t.val % 2 = 0) : (outsAt0 m c t.val t.isLt).2 = k0_pay2 (iblk m c 0 t) (iblk m c 1 t) := by
  have ht : t.val < 32 := lt_of_lt_of_eq t.isLt N_0
  rw [outsAt0_A m c t h (by omega) (by omega)]
  dsimp only
  unfold sout0_A_0
  rw [View.read_writes_eq_canon _ _ _ (fun y => scover0_A_0 c _ _ _ _ _ _ _ _ _ _ _ _ _ _ y)]
  unfold kernelRun0_A
  dsimp only
  sl_unfold_words
  simp only [View.readAt_eq_ld, Memref.IsWhole.read_unread, ld_whole,
    View.readCov_unit_zero (S := S1024x1024) _ hz, View.canon_unit_zero (S := S1024x1024) hz]

/-- The last block adds its product to the accumulator. -/
theorem acc_next (t : Fin cfg0.N) (h : ¬t.val % 2 = 0) : (outsAt0 m c t.val t.isLt).2 = k0_pay3 (iblk m c 0 t) (iblk m c 1 t) (outsAt0 m c (t.val - 1) (Nat.lt_of_le_of_lt (Nat.sub_le _ _) t.isLt)).2 := by
  have ht : t.val < 32 := lt_of_lt_of_eq t.isLt N_0
  rw [outsAt0_B m c t h (by omega) (by omega)]
  dsimp only
  unfold sout0_B_0
  rw [View.read_writes_eq_canon _ _ _ (fun y => scover0_B_0 c _ _ _ _ _ _ _ _ _ _ _ _ _ _ _ y)]
  unfold kernelRun0_B
  dsimp only
  sl_unfold_words
  simp only [View.readAt_eq_ld, Memref.IsWhole.read_unread, ld_whole,
    View.readCov_unit_zero (S := S1024x1024) _ hz, View.canon_unit_zero (S := S1024x1024) hz]
  exact congrArg (k0_pay3 _ _) ((Memref.isWhole_whole _).read_unread _)

/-- The last block stores the accumulator in the result block. -/
theorem stored (t : Fin cfg0.N) (h : t.val % 2 = 1) : (outsAt0 m c t.val t.isLt).1 = k0_pay4 (outsAt0 m c t.val t.isLt).2 := by
  have ht : t.val < 32 := lt_of_lt_of_eq t.isLt N_0
  rw [acc_next m c t (by omega), outsAt0_B m c t (by omega) (by omega) h]
  dsimp only
  unfold out0_B_2
  rw [View.read_writes_eq_canon _ _ _ (fun y => cover0_B_2 c _ _ _ _ _ _ _ _ _ _ _ _ _ _ _ y)]
  unfold kernelRun0_B
  dsimp only
  sl_unfold_words
  simp only [View.readAt_eq_ld, Memref.IsWhole.read_unread, ld_whole,
    View.readCov_unit_zero (S := S1024x1024) _ hz, View.canon_unit_zero (S := S1024x1024) hz]
  exact congrArg (fun x => k0_pay4 (k0_pay3 _ _ x)) ((Memref.isWhole_whole _).read_unread _)

/-- What the accumulator holds after each point. -/
theorem acc_after (n : ℕ) (hn : n < cfg0.N) (r : Fin 1024) (l : Fin 1024) : (outsAt0 m c n hn).2 (ix2 r l)
    = dot ((n % 2 + 1) * 2944) (A m c) (B m c) (((n / 2) / 2) * 1024 + r.val) (((n / 2) % 2) * 1024 + l.val) := by
  refine dot_running 2 2944 (A m c) (B m c) (fun n => ((n / 2) / 2) * 1024 + r.val) (fun n => ((n / 2) % 2) * 1024 + l.val) (fun n hn => (outsAt0 m c n hn).2 (ix2 r l))
    (fun n hn h => ?_) (fun n hn h => ?_) (fun n h => by omega) n hn
  · rw [acc_first m c ⟨n, hn⟩ h]
    exact Eq.trans (by unfold k0_pay2; pointwise) (prod_blocks m c ⟨n, hn⟩ r l)
  · rw [acc_next m c ⟨n + 1, hn⟩ h]
    exact Eq.trans (by unfold k0_pay3; pointwise; rfl) (congrArg (_ + ·) (prod_blocks m c ⟨n + 1, hn⟩ r l))

/-- What the last block of the contracted axis leaves in the result block. -/
theorem val_after (t : Fin cfg0.N) (h : t.val % 2 = 1) (r : Fin 1024) (l : Fin 1024) :
    (outsAt0 m c t.val t.isLt).1 (ix2 r l) = val m c (((t.val / 2) / 2) * 1024 + r.val) (((t.val / 2) % 2) * 1024 + l.val) := by
  rw [stored m c t h]
  refine Eq.trans (by unfold k0_pay4; pointwise) ((acc_after m c t.val t.isLt r l).trans ?_)
  rw [h]
  rfl

attribute [local irreducible] dot

/-- The result array after the run. -/
theorem final : (dats m 0 c).arrAt 2 cfg0.N = arr m c := by
  refine (dats m 0 c).arrAt_eq_of_cover 2 (arr m c) (fun t hf => ?_) fun (i : S8192x2048.Idx) => ?_
  · rw [Value.flushed2]
    obtain ⟨h0, h1⟩ := index2 t
    funext y
    rw [View.read_apply]
    show (outsAt0 m c t.val t.isLt).1 y = val m c (win0_2.index t 0 * 1024 + 1 * (y 0).val) (win0_2.index t 1 * 1024 + 1 * (y 1).val)
    refine (congrArg _ (eq_ix2 y)).trans ((val_after m c t ((flush0_2 t).mp hf) _ _).trans ?_)
    rw [h0, h1]
    exact congrArg₂ (val m c) (by omega) (by omega)
  · have b0 : (i 0).val < 8192 := (i 0).isLt
    have b1 : (i 1).val < 2048 := (i 1).isLt
    have hN : cfg0.N = 32 := N_0
    obtain ⟨t, ht⟩ : ∃ t : Fin cfg0.N, t.val = ((i 0).val / 1024 * 2 + (i 1).val / 1024) * 2 + 1 := ⟨⟨_, by omega⟩, rfl⟩
    refine ⟨t, (flush0_2 t).mpr (by omega), ?_⟩
    show i ∈ ((View.whole main_v0).slice (win0_2.rect t)).set
    rw [View.set_slice_whole]
    exact mem_block (index2 t) (by omega) (by omega)

end Cert.DH1Ideal.Final

end
-- ==== Proof.DH1Claims.lean ====
/-
  The claims about the gradient of the mixing block's normalised input: the frames, and the equality of the kernel's result with the reference's over the extended reals.
-/
module

public import proofs.«01_k».proof.Defs
public import proofs.«01_k».proof.Proof.DH1Value
public import proofs.«01_k».proof.Proof.Gen.DH1.Frame
public import proofs.«01_k».proof.Proof.Gen.DH1RefIdeal.Run

@[expose] public section

noncomputable section

namespace DH1Claims

open Idealize.ShloMosaic Idealize.ShloMosaic.TcCoe Idealize.SL.Sem Cert Ffn

/-! The frames. -/

theorem frame_p : quiescent_DH1 := fun m ρ _ => Cert.DH1.Gen.frame m ρ

theorem frame_pi : quiescent_DH1Ideal := fun m ρ _ => Cert.DH1Ideal.Gen.frame m ρ

theorem frame_ri : quiescent_DH1RefIdeal := fun m ρ _ =>
  (θ_run _ _ _).mono (fun r h => ⟨fun c => (h c).2, sem_eq_zero_of_no_sems (by decide) r.2⟩) (Cert.DH1RefIdeal.Value.run m ρ)

/-- No operation is rewritten. -/
theorem preserves : preserves_DH1_DH1Ideal := trivial

/-- The sum over the contracted axis, in the arrays' own entries. -/
theorem val_entries (x0 : Vec Ideal DH1Ideal.S8192x5888 .bf16) (x1 : Vec Ideal DH1Ideal.S5888x2048 .bf16) (i : Fin 8192) (j : Fin 2048) :
    (∑ k : Fin 5888, x0 (ix2 i k) * x1 (ix2 k j))
      = dot 5888 (fun r k => at2 (n0 := 8192) (n1 := 5888) x0 r k) (fun k q => at2 (n0 := 5888) (n1 := 2048) x1 k q) i.val j.val :=
  ((dot_eq 5888 (fun r k => at2 (n0 := 8192) (n1 := 5888) x0 r k) (fun k q => at2 (n0 := 5888) (n1 := 2048) x1 k q) i.val j.val).trans
    (Finset.sum_congr rfl fun k _ => congrArg₂ (· * ·) (at2_eq x0 i k _ _ rfl rfl) (at2_eq x1 k j _ _ rfl rfl))).symm

/-- The kernel's result is the reference's. -/
theorem algebraic : algebraic_DH1Ideal_DH1RefIdeal := by
  intro m ρ m' ρ' _ hargs
  refine ⟨DH1Ideal.Final.arr m, ?_, ?_⟩
  · refine (θ_run _ _ _).mono (fun r h c => ?_) (Cert.DH1Ideal.Value.run_blocks m ρ)
    exact ⟨(h c).1.trans (DH1Ideal.Final.final m c), (h c).2⟩
  · refine (θ_run _ _ _).mono (fun r h c => ?_) (Cert.DH1RefIdeal.Value.run m' ρ')
    obtain ⟨h0, hrest⟩ := h c
    obtain ⟨e0, e1⟩ := hargs c
    rw [e0, e1] at h0
    refine ⟨h0.trans (funext fun y => (congrArg _ (eq_ix2 y)).trans (Eq.trans ?_ (val_entries (m ((c.tc : Thread DH1Ideal.nD DH1Ideal.τ).loc DH1Ideal.main_arg0)) (m ((c.tc : Thread DH1Ideal.nD DH1Ideal.τ).loc DH1Ideal.main_arg1)) (y 0) (y 1)))), hrest⟩
    pointwise

end DH1Claims

end
-- ==== Proof.DwOutValue.lean ====
/-
  The output projection's weight gradient: what the kernel leaves in its result array, entry by entry — the whole sum over the contracted axis, gathered over 4 blocks of it.
-/
module

public import proofs.«01_k».proof.Proof.Product
public import proofs.«01_k».proof.Proof.Gen.DwOutIdeal.Value
public import Idealize.ShloMosaic.Lib.Pipeline.ReadBack
public import Idealize.ShloMosaic.Lib.Pointwise

@[expose] public section

noncomputable section

namespace Cert.DwOutIdeal.Final

open Cert.DwOutIdeal Cert.DwOutIdeal.Gen Idealize.ShloMosaic Idealize.ShloMosaic.TcCoe Idealize.SL.Sem Ffn

variable (m : (ℓ : Loc nD τ sig) → Buf (Elt Ideal) ℓ) (c : Dev nD)

/-- The left factor at launch: row `r`, contracted coordinate `k`. -/
abbrev A (r k : ℕ) : EReal := at2 (n0 := 8192) (n1 := 2048) (m ((c : Thread nD τ).loc main_arg0)) k r

/-- The right factor at launch: contracted coordinate `k`, column `q`. -/
abbrev B (k q : ℕ) : EReal := at2 (n0 := 8192) (n1 := 2048) (m ((c : Thread nD τ).loc main_arg1)) k q

theorem index0 : ∀ t : Fin cfg0.N, win0_0.index t 0 = t.val % 4 ∧ win0_0.index t 1 = (t.val / 4) / 2 :=
  (by decide +kernel : ∀ t : Fin grid0.N, win0_0.index t 0 = t.val % 4 ∧ win0_0.index t 1 = (t.val / 4) / 2)

/-- Window 0's block at a point, entry by entry. -/
theorem block0 (t : Fin cfg0.N) (r : Fin 2048) (l : Fin 1024) :
    (iblk m c 0 t : Vec Ideal S2048x1024 .bf16) (ix2 r l)
      = at2 (n0 := 8192) (n1 := 2048) (m ((c : Thread nD τ).loc main_arg0)) ((t.val % 4) * 2048 + r.val) (((t.val / 4) / 2) * 1024 + l.val) := by
  unfold iblk
  rw [View.read_apply]
  show V m c main_arg0 _ = _
  rw [V_main_arg0]
  exact at2_block (index0 t) rfl rfl

theorem index1 : ∀ t : Fin cfg0.N, win0_1.index t 0 = t.val % 4 ∧ win0_1.index t 1 = (t.val / 4) % 2 :=
  (by decide +kernel : ∀ t : Fin grid0.N, win0_1.index t 0 = t.val % 4 ∧ win0_1.index t 1 = (t.val / 4) % 2)

/-- Window 1's block at a point, entry by entry. -/
theorem block1 (t : Fin cfg0.N) (r : Fin 2048) (l : Fin 1024) :
    (iblk m c 1 t : Vec Ideal S2048x1024 .bf16) (ix2 r l)
      = at2 (n0 := 8192) (n1 := 2048) (m ((c : Thread nD τ).loc main_arg1)) ((t.val % 4) * 2048 + r.val) (((t.val / 4) % 2) * 1024 + l.val) := by
  unfold iblk
  rw [View.read_apply]
  show V m c main_arg1 _ = _
  rw [V_main_arg1]
  exact at2_block (index1 t) rfl rfl

theorem index2 : ∀ t : Fin cfg0.N, win0_2.index t 0 = (t.val / 4) / 2 ∧ win0_2.index t 1 = (t.val / 4) % 2 :=
  (by decide +kernel : ∀ t : Fin grid0.N, win0_2.index t 0 = (t.val / 4) / 2 ∧ win0_2.index t 1 = (t.val / 4) % 2)

/-- The product of two blocks, entry by entry. -/
theorem prod_apply (x0 : Vec Ideal S2048x1024 .bf16) (x1 : Vec Ideal S2048x1024 .bf16) (r : Fin 1024) (l : Fin 1024) :
    k0_pay1 x0 x1 (ix2 r l) = (∑ k : Fin 2048, x0 (ix2 k r) * x1 (ix2 k l)) := by
  unfold k0_pay1
  pointwise

/-- The product of the two blocks at a point is the point's block of the whole sum. -/
theorem prod_blocks (t : Fin cfg0.N) (r : Fin 1024) (l : Fin 1024) :
    k0_pay1 (iblk m c 0 t : Vec Ideal S2048x1024 .bf16) (iblk m c 1 t : Vec Ideal S2048x1024 .bf16) (ix2 r l)
      = (∑ k : Fin 2048, A m c (((t.val / 4) / 2) * 1024 + r.val) ((t.val % 4) * 2048 + k.val) * B m c ((t.val % 4) * 2048 + k.val) (((t.val / 4) % 2) * 1024 + l.val)) := by
  refine (prod_apply _ _ r l).trans (Finset.sum_congr rfl fun k _ => ?_)
  exact congrArg₂ (· * ·) (block0 m c t k r) (block1 m c t k l)

/-- The kernel's result at row `r` and column `q`. -/
def val (r q : ℕ) : EReal := dot 8192 (A m c) (B m c) r q

/-- The kernel's result array. -/
def arr : Buf (Elt Ideal) ((c : Thread nD τ).loc main_v0) := fun y : S2048x2048.Idx => val m c (y 0).val (y 1).val

/-- The first block of the contracted axis stores its product in the accumulator. -/
theorem acc_first (t : Fin cfg0.N) (h : t.val % 4 = 0) : (outsAt0 m c t.val t.isLt).2 = k0_pay2 (iblk m c 0 t) (iblk m c 1 t) := by
  have ht : t.val < 16 := lt_of_lt_of_eq t.isLt N_0
  rw [outsAt0_A m c t h (by omega) (by omega)]
  dsimp only
  unfold sout0_A_0
  rw [View.read_writes_eq_canon _ _ _ (fun y => scover0_A_0 c _ _ _ _ _ _ _ _ _ _ _ _ _ _ y)]
  unfold kernelRun0_A
  dsimp only
  sl_unfold_words
  simp only [View.readAt_eq_ld, Memref.IsWhole.read_unread, ld_whole,
    View.readCov_unit_zero (S := S1024x1024) _ hz, View.canon_unit_zero (S := S1024x1024) hz]

/-- A later block adds its product to the accumulator. -/
theorem acc_next (t : Fin cfg0.N) (h : ¬t.val % 4 = 0) : (outsAt0 m c t.val t.isLt).2 = k0_pay3 (iblk m c 0 t) (iblk m c 1 t) (outsAt0 m c (t.val - 1) (Nat.lt_of_le_of_lt (Nat.sub_le _ _) t.isLt)).2 := by
  have ht : t.val < 16 := lt_of_lt_of_eq t.isLt N_0
  by_cases h3 : t.val % 4 = 3
  · rw [outsAt0_C m c t h (by omega) h3]
    dsimp only
    unfold sout0_C_0
    rw [View.read_writes_eq_canon _ _ _ (fun y => scover0_C_0 c _ _ _ _ _ _ _ _ _ _ _ _ _ _ _ y)]
    unfold kernelRun0_C
    dsimp only
    sl_unfold_words
    simp only [View.readAt_eq_ld, Memref.IsWhole.read_unread, ld_whole,
      View.readCov_unit_zero (S := S1024x1024) _ hz, View.canon_unit_zero (S := S1024x1024) hz]
    exact congrArg (k0_pay3 _ _) ((Memref.isWhole_whole _).read_unread _)
  · rw [outsAt0_B m c t h (by omega) h3]
    dsimp only
    unfold sout0_B_0
    rw [View.read_writes_eq_canon _ _ _ (fun y => scover0_B_0 c _ _ _ _ _ _ _ _ _ _ _ _ _ _ _ y)]
    unfold kernelRun0_B
    dsimp only
    sl_unfold_words
    simp only [View.readAt_eq_ld, Memref.IsWhole.read_unread, ld_whole,
      View.readCov_unit_zero (S := S1024x1024) _ hz, View.canon_unit_zero (S := S1024x1024) hz]
    exact congrArg (k0_pay3 _ _) ((Memref.isWhole_whole _).read_unread _)

/-- The last block stores the accumulator in the result block. -/
theorem stored (t : Fin cfg0.N) (h : t.val % 4 = 3) : (outsAt0 m c t.val t.isLt).1 = k0_pay4 (outsAt0 m c t.val t.isLt).2 := by
  have ht : t.val < 16 := lt_of_lt_of_eq t.isLt N_0
  rw [acc_next m c t (by omega), outsAt0_C m c t (by omega) (by omega) h]
  dsimp only
  unfold out0_C_2
  rw [View.read_writes_eq_canon _ _ _ (fun y => cover0_C_2 c _ _ _ _ _ _ _ _ _ _ _ _ _ _ _ y)]
  unfold kernelRun0_C
  dsimp only
  sl_unfold_words
  simp only [View.readAt_eq_ld, Memref.IsWhole.read_unread, ld_whole,
    View.readCov_unit_zero (S := S1024x1024) _ hz, View.canon_unit_zero (S := S1024x1024) hz]
  exact congrArg (fun x => k0_pay4 (k0_pay3 _ _ x)) ((Memref.isWhole_whole _).read_unread _)

/-- What the accumulator holds after each point. -/
theorem acc_after (n : ℕ) (hn : n < cfg0.N) (r : Fin 1024) (l : Fin 1024) : (outsAt0 m c n hn).2 (ix2 r l)
    = dot ((n % 4 + 1) * 2048) (A m c) (B m c) (((n / 4) / 2) * 1024 + r.val) (((n / 4) % 2) * 1024 + l.val) := by
  refine dot_running 4 2048 (A m c) (B m c) (fun n => ((n / 4) / 2) * 1024 + r.val) (fun n => ((n / 4) % 2) * 1024 + l.val) (fun n hn => (outsAt0 m c n hn).2 (ix2 r l))
    (fun n hn h => ?_) (fun n hn h => ?_) (fun n h => by omega) n hn
  · rw [acc_first m c ⟨n, hn⟩ h]
    exact Eq.trans (by unfold k0_pay2; pointwise) (prod_blocks m c ⟨n, hn⟩ r l)
  · rw [acc_next m c ⟨n + 1, hn⟩ h]
    exact Eq.trans (by unfold k0_pay3; pointwise; rfl) (congrArg (_ + ·) (prod_blocks m c ⟨n + 1, hn⟩ r l))

/-- What the last block of the contracted axis leaves in the result block. -/
theorem val_after (t : Fin cfg0.N) (h : t.val % 4 = 3) (r : Fin 1024) (l : Fin 1024) :
    (outsAt0 m c t.val t.isLt).1 (ix2 r l) = val m c (((t.val / 4) / 2) * 1024 + r.val) (((t.val / 4) % 2) * 1024 + l.val) := by
  rw [stored m c t h]
  refine Eq.trans (by unfold k0_pay4; pointwise) ((acc_after m c t.val t.isLt r l).trans ?_)
  rw [h]
  rfl

attribute [local irreducible] dot

/-- The result array after the run. -/
theorem final : (dats m 0 c).arrAt 2 cfg0.N = arr m c := by
  refine (dats m 0 c).arrAt_eq_of_cover 2 (arr m c) (fun t hf => ?_) fun (i : S2048x2048.Idx) => ?_
  · rw [Value.flushed2]
    obtain ⟨h0, h1⟩ := index2 t
    funext y
    rw [View.read_apply]
    show (outsAt0 m c t.val t.isLt).1 y = val m c (win0_2.index t 0 * 1024 + 1 * (y 0).val) (win0_2.index t 1 * 1024 + 1 * (y 1).val)
    refine (congrArg _ (eq_ix2 y)).trans ((val_after m c t ((flush0_2 t).mp hf) _ _).trans ?_)
    rw [h0, h1]
    exact congrArg₂ (val m c) (by omega) (by omega)
  · have b0 : (i 0).val < 2048 := (i 0).isLt
    have b1 : (i 1).val < 2048 := (i 1).isLt
    have hN : cfg0.N = 16 := N_0
    obtain ⟨t, ht⟩ : ∃ t : Fin cfg0.N, t.val = ((i 0).val / 1024 * 2 + (i 1).val / 1024) * 4 + 3 := ⟨⟨_, by omega⟩, rfl⟩
    refine ⟨t, (flush0_2 t).mpr (by omega), ?_⟩
    show i ∈ ((View.whole main_v0).slice (win0_2.rect t)).set
    rw [View.set_slice_whole]
    exact mem_block (index2 t) (by omega) (by omega)

end Cert.DwOutIdeal.Final

end
-- ==== Proof.DwOutClaims.lean ====
/-
  The claims about the output projection's weight gradient: the frames, and the equality of the kernel's result with the reference's over the extended reals.
-/
module

public import proofs.«01_k».proof.Defs
public import proofs.«01_k».proof.Proof.DwOutValue
public import proofs.«01_k».proof.Proof.Gen.DwOut.Frame
public import proofs.«01_k».proof.Proof.Gen.DwOutRefIdeal.Run

@[expose] public section

noncomputable section

namespace DwOutClaims

open Idealize.ShloMosaic Idealize.ShloMosaic.TcCoe Idealize.SL.Sem Cert Ffn

/-! The frames. -/

theorem frame_p : quiescent_DwOut := fun m ρ _ => Cert.DwOut.Gen.frame m ρ

theorem frame_pi : quiescent_DwOutIdeal := fun m ρ _ => Cert.DwOutIdeal.Gen.frame m ρ

theorem frame_ri : quiescent_DwOutRefIdeal := fun m ρ _ =>
  (θ_run _ _ _).mono (fun r h => ⟨fun c => (h c).2, sem_eq_zero_of_no_sems (by decide) r.2⟩) (Cert.DwOutRefIdeal.Value.run m ρ)

/-- No operation is rewritten. -/
theorem preserves : preserves_DwOut_DwOutIdeal := trivial

/-- The sum over the contracted axis, in the arrays' own entries. -/
theorem val_entries (x0 : Vec Ideal DwOutIdeal.S8192x2048 .bf16) (x1 : Vec Ideal DwOutIdeal.S8192x2048 .bf16) (i : Fin 2048) (j : Fin 2048) :
    (∑ k : Fin 8192, x0 (ix2 k i) * x1 (ix2 k j))
      = dot 8192 (fun r k => at2 (n0 := 8192) (n1 := 2048) x0 k r) (fun k q => at2 (n0 := 8192) (n1 := 2048) x1 k q) i.val j.val :=
  ((dot_eq 8192 (fun r k => at2 (n0 := 8192) (n1 := 2048) x0 k r) (fun k q => at2 (n0 := 8192) (n1 := 2048) x1 k q) i.val j.val).trans
    (Finset.sum_congr rfl fun k _ => congrArg₂ (· * ·) (at2_eq x0 k i _ _ rfl rfl) (at2_eq x1 k j _ _ rfl rfl))).symm

/-- The kernel's result is the reference's. -/
theorem algebraic : algebraic_DwOutIdeal_DwOutRefIdeal := by
  intro m ρ m' ρ' _ hargs
  refine ⟨DwOutIdeal.Final.arr m, ?_, ?_⟩
  · refine (θ_run _ _ _).mono (fun r h c => ?_) (Cert.DwOutIdeal.Value.run_blocks m ρ)
    exact ⟨(h c).1.trans (DwOutIdeal.Final.final m c), (h c).2⟩
  · refine (θ_run _ _ _).mono (fun r h c => ?_) (Cert.DwOutRefIdeal.Value.run m' ρ')
    obtain ⟨h0, hrest⟩ := h c
    obtain ⟨e0, e1⟩ := hargs c
    rw [e0, e1] at h0
    refine ⟨h0.trans (funext fun y => (congrArg _ (eq_ix2 y)).trans (Eq.trans ?_ (val_entries (m ((c.tc : Thread DwOutIdeal.nD DwOutIdeal.τ).loc DwOutIdeal.main_arg0)) (m ((c.tc : Thread DwOutIdeal.nD DwOutIdeal.τ).loc DwOutIdeal.main_arg1)) (y 0) (y 1)))), hrest⟩
    pointwise
    exact Finset.sum_congr rfl fun k _ => mul_comm _ _

end DwOutClaims

end
-- ==== Proof.DAttnValue.lean ====
/-
  The gradient of the attention's result: what the kernel leaves in its result array, entry by entry — the whole sum over the contracted axis.
-/
module

public import proofs.«01_k».proof.Proof.Product
public import proofs.«01_k».proof.Proof.Gen.DAttnIdeal.Value
public import Idealize.ShloMosaic.Lib.Pipeline.ReadBack
public import Idealize.ShloMosaic.Lib.Pointwise

@[expose] public section

noncomputable section

namespace Cert.DAttnIdeal.Final

open Cert.DAttnIdeal Cert.DAttnIdeal.Gen Idealize.ShloMosaic Idealize.ShloMosaic.TcCoe Idealize.SL.Sem Ffn

variable (m : (ℓ : Loc nD τ sig) → Buf (Elt Ideal) ℓ) (c : Dev nD)

/-- The left factor at launch: row `r`, contracted coordinate `k`. -/
abbrev A (r k : ℕ) : EReal := at2 (n0 := 8192) (n1 := 2048) (m ((c : Thread nD τ).loc main_arg0)) r k

/-- The right factor at launch: contracted coordinate `k`, column `q`. -/
abbrev B (k q : ℕ) : EReal := at2 (n0 := 1024) (n1 := 2048) (m ((c : Thread nD τ).loc main_arg1)) q k

theorem index0 : ∀ t : Fin cfg0.N, win0_0.index t 0 = t.val ∧ win0_0.index t 1 = 0 :=
  (by decide +kernel : ∀ t : Fin grid0.N, win0_0.index t 0 = t.val ∧ win0_0.index t 1 = 0)

/-- Window 0's block at a point, entry by entry. -/
theorem block0 (t : Fin cfg0.N) (r : Fin 1024) (l : Fin 2048) :
    (iblk m c 0 t : Vec Ideal S1024x2048 .bf16) (ix2 r l)
      = at2 (n0 := 8192) (n1 := 2048) (m ((c : Thread nD τ).loc main_arg0)) ((t.val) * 1024 + r.val) ((0) * 2048 + l.val) := by
  unfold iblk
  rw [View.read_apply]
  show V m c main_arg0 _ = _
  rw [V_main_arg0]
  exact at2_block (index0 t) rfl rfl

theorem index1 : ∀ t : Fin cfg0.N, win0_1.index t 0 = 0 ∧ win0_1.index t 1 = 0 :=
  (by decide +kernel : ∀ t : Fin grid0.N, win0_1.index t 0 = 0 ∧ win0_1.index t 1 = 0)

/-- Window 1's block at a point, entry by entry. -/
theorem block1 (t : Fin cfg0.N) (r : Fin 1024) (l : Fin 2048) :
    (iblk m c 1 t : Vec Ideal S1024x2048 .bf16) (ix2 r l)
      = at2 (n0 := 1024) (n1 := 2048) (m ((c : Thread nD τ).loc main_arg1)) ((0) * 1024 + r.val) ((0) * 2048 + l.val) := by
  unfold iblk
  rw [View.read_apply]
  show V m c main_arg1 _ = _
  rw [V_main_arg1]
  exact at2_block (index1 t) rfl rfl

theorem index2 : ∀ t : Fin cfg0.N, win0_2.index t 0 = t.val ∧ win0_2.index t 1 = 0 :=
  (by decide +kernel : ∀ t : Fin grid0.N, win0_2.index t 0 = t.val ∧ win0_2.index t 1 = 0)

/-- The product of two blocks, entry by entry. -/
theorem prod_apply (x0 : Vec Ideal S1024x2048 .bf16) (x1 : Vec Ideal S1024x2048 .bf16) (r : Fin 1024) (l : Fin 1024) :
    k0_pay1 x0 x1 (ix2 r l) = (∑ k : Fin 2048, x0 (ix2 r k) * x1 (ix2 l k)) := by
  unfold k0_pay1
  pointwise

/-- The product of the two blocks at a point is the point's block of the whole sum. -/
theorem prod_blocks (t : Fin cfg0.N) (r : Fin 1024) (l : Fin 1024) :
    k0_pay1 (iblk m c 0 t : Vec Ideal S1024x2048 .bf16) (iblk m c 1 t : Vec Ideal S1024x2048 .bf16) (ix2 r l)
      = (∑ k : Fin 2048, A m c ((t.val) * 1024 + r.val) ((0) * 2048 + k.val) * B m c ((0) * 2048 + k.val) ((0) * 1024 + l.val)) := by
  refine (prod_apply _ _ r l).trans (Finset.sum_congr rfl fun k _ => ?_)
  exact congrArg₂ (· * ·) (block0 m c t r k) (block1 m c t l k)

/-- The kernel's result at row `r` and column `q`. -/
def val (r q : ℕ) : EReal := dot 2048 (A m c) (B m c) r q

/-- The kernel's result array. -/
def arr : Buf (Elt Ideal) ((c : Thread nD τ).loc main_v0) := fun y : S8192x1024.Idx => val m c (y 0).val (y 1).val

/-- What a point leaves in the result block. -/
theorem val_after (t : Fin cfg0.N) (r : Fin 1024) (l : Fin 1024) :
    out0_2 (iblk m c 0 t) (iblk m c 1 t) (ix2 r l) = val m c ((t.val) * 1024 + r.val) ((0) * 1024 + l.val) := by
  unfold out0_2
  refine (congrFun (View.canon_unit_zero (S := S1024x1024) hz _ _) (ix2 r l)).trans ?_
  simp only [ld_whole]
  refine (prod_blocks m c t r l).trans ((dot_first 2048 _ _ _ _ _ rfl).trans rfl)

attribute [local irreducible] dot

/-- The result array after the run. -/
theorem final : (dats m 0 c).arrAt 2 cfg0.N = arr m c := by
  refine (dats m 0 c).arrAt_eq_of_cover 2 (arr m c) (fun t hf => ?_) fun (i : S8192x1024.Idx) => ?_
  · rw [Value.flushed2]
    obtain ⟨h0, h1⟩ := index2 t
    funext y
    rw [View.read_apply]
    show out0_2 (iblk m c 0 t) (iblk m c 1 t) y = val m c (win0_2.index t 0 * 1024 + 1 * (y 0).val) (win0_2.index t 1 * 1024 + 1 * (y 1).val)
    refine (congrArg _ (eq_ix2 y)).trans ((val_after m c t _ _).trans ?_)
    rw [h0, h1]
    exact congrArg₂ (val m c) (by omega) (by omega)
  · have b0 : (i 0).val < 8192 := (i 0).isLt
    have b1 : (i 1).val < 1024 := (i 1).isLt
    have hN : cfg0.N = 8 := N_0
    obtain ⟨t, ht⟩ : ∃ t : Fin cfg0.N, t.val = ((i 1).val / 1024 * 8 + (i 0).val / 1024) := ⟨⟨_, by omega⟩, rfl⟩
    refine ⟨t, flush0_2 t, ?_⟩
    show i ∈ ((View.whole main_v0).slice (win0_2.rect t)).set
    rw [View.set_slice_whole]
    exact mem_block (index2 t) (by omega) (by omega)

end Cert.DAttnIdeal.Final

end
-- ==== Proof.DAttnClaims.lean ====
/-
  The claims about the gradient of the attention's result: the frames, and the equality of the kernel's result with the reference's over the extended reals.
-/
module

public import proofs.«01_k».proof.Defs
public import proofs.«01_k».proof.Proof.DAttnValue
public import proofs.«01_k».proof.Proof.Gen.DAttn.Frame
public import proofs.«01_k».proof.Proof.Gen.DAttnRefIdeal.Run

@[expose] public section

noncomputable section

namespace DAttnClaims

open Idealize.ShloMosaic Idealize.ShloMosaic.TcCoe Idealize.SL.Sem Cert Ffn

/-! The frames. -/

theorem frame_p : quiescent_DAttn := fun m ρ _ => Cert.DAttn.Gen.frame m ρ

theorem frame_pi : quiescent_DAttnIdeal := fun m ρ _ => Cert.DAttnIdeal.Gen.frame m ρ

theorem frame_ri : quiescent_DAttnRefIdeal := fun m ρ _ =>
  (θ_run _ _ _).mono (fun r h => ⟨fun c => (h c).2, sem_eq_zero_of_no_sems (by decide) r.2⟩) (Cert.DAttnRefIdeal.Value.run m ρ)

/-- No operation is rewritten. -/
theorem preserves : preserves_DAttn_DAttnIdeal := trivial

/-- The sum over the contracted axis, in the arrays' own entries. -/
theorem val_entries (x0 : Vec Ideal DAttnIdeal.S8192x2048 .bf16) (x1 : Vec Ideal DAttnIdeal.S1024x2048 .bf16) (i : Fin 8192) (j : Fin 1024) :
    (∑ k : Fin 2048, x0 (ix2 i k) * x1 (ix2 j k))
      = dot 2048 (fun r k => at2 (n0 := 8192) (n1 := 2048) x0 r k) (fun k q => at2 (n0 := 1024) (n1 := 2048) x1 q k) i.val j.val :=
  ((dot_eq 2048 (fun r k => at2 (n0 := 8192) (n1 := 2048) x0 r k) (fun k q => at2 (n0 := 1024) (n1 := 2048) x1 q k) i.val j.val).trans
    (Finset.sum_congr rfl fun k _ => congrArg₂ (· * ·) (at2_eq x0 i k _ _ rfl rfl) (at2_eq x1 j k _ _ rfl rfl))).symm

/-- The kernel's result is the reference's. -/
theorem algebraic : algebraic_DAttnIdeal_DAttnRefIdeal := by
  intro m ρ m' ρ' _ hargs
  refine ⟨DAttnIdeal.Final.arr m, ?_, ?_⟩
  · refine (θ_run _ _ _).mono (fun r h c => ?_) (Cert.DAttnIdeal.Value.run_blocks m ρ)
    exact ⟨(h c).1.trans (DAttnIdeal.Final.final m c), (h c).2⟩
  · refine (θ_run _ _ _).mono (fun r h c => ?_) (Cert.DAttnRefIdeal.Value.run m' ρ')
    obtain ⟨h0, hrest⟩ := h c
    obtain ⟨e0, e1⟩ := hargs c
    rw [e0, e1] at h0
    refine ⟨h0.trans (funext fun y => (congrArg _ (eq_ix2 y)).trans (Eq.trans ?_ (val_entries (m ((c.tc : Thread DAttnIdeal.nD DAttnIdeal.τ).loc DAttnIdeal.main_arg0)) (m ((c.tc : Thread DAttnIdeal.nD DAttnIdeal.τ).loc DAttnIdeal.main_arg1)) (y 0) (y 1)))), hrest⟩
    pointwise

end DAttnClaims

end
-- ==== Proof.DwBaValue.lean ====
/-
  The attention branch's weight gradient: what the kernel leaves in its result array, entry by entry — the whole sum over the contracted axis, gathered over 4 blocks of it.
-/
module

public import proofs.«01_k».proof.Proof.Product
public import proofs.«01_k».proof.Proof.Gen.DwBaIdeal.Value
public import Idealize.ShloMosaic.Lib.Pipeline.ReadBack
public import Idealize.ShloMosaic.Lib.Pointwise

@[expose] public section

noncomputable section

namespace Cert.DwBaIdeal.Final

open Cert.DwBaIdeal Cert.DwBaIdeal.Gen Idealize.ShloMosaic Idealize.ShloMosaic.TcCoe Idealize.SL.Sem Ffn

variable (m : (ℓ : Loc nD τ sig) → Buf (Elt Ideal) ℓ) (c : Dev nD)

/-- The left factor at launch: row `r`, contracted coordinate `k`. -/
abbrev A (r k : ℕ) : EReal := at2 (n0 := 8192) (n1 := 1024) (m ((c : Thread nD τ).loc main_arg0)) k r

/-- The right factor at launch: contracted coordinate `k`, column `q`. -/
abbrev B (k q : ℕ) : EReal := at2 (n0 := 8192) (n1 := 2048) (m ((c : Thread nD τ).loc main_arg1)) k q

theorem index0 : ∀ t : Fin cfg0.N, win0_0.index t 0 = t.val % 4 ∧ win0_0.index t 1 = 0 :=
  (by decide +kernel : ∀ t : Fin grid0.N, win0_0.index t 0 = t.val % 4 ∧ win0_0.index t 1 = 0)

/-- Window 0's block at a point, entry by entry. -/
theorem block0 (t : Fin cfg0.N) (r : Fin 2048) (l : Fin 1024) :
    (iblk m c 0 t : Vec Ideal S2048x1024 .bf16) (ix2 r l)
      = at2 (n0 := 8192) (n1 := 1024) (m ((c : Thread nD τ).loc main_arg0)) ((t.val % 4) * 2048 + r.val) ((0) * 1024 + l.val) := by
  unfold iblk
  rw [View.read_apply]
  show V m c main_arg0 _ = _
  rw [V_main_arg0]
  exact at2_block (index0 t) rfl rfl

theorem index1 : ∀ t : Fin cfg0.N, win0_1.index t 0 = t.val % 4 ∧ win0_1.index t 1 = (t.val / 4) :=
  (by decide +kernel : ∀ t : Fin grid0.N, win0_1.index t 0 = t.val % 4 ∧ win0_1.index t 1 = (t.val / 4))

/-- Window 1's block at a point, entry by entry. -/
theorem block1 (t : Fin cfg0.N) (r : Fin 2048) (l : Fin 1024) :
    (iblk m c 1 t : Vec Ideal S2048x1024 .bf16) (ix2 r l)
      = at2 (n0 := 8192) (n1 := 2048) (m ((c : Thread nD τ).loc main_arg1)) ((t.val % 4) * 2048 + r.val) (((t.val / 4)) * 1024 + l.val) := by
  unfold iblk
  rw [View.read_apply]
  show V m c main_arg1 _ = _
  rw [V_main_arg1]
  exact at2_block (index1 t) rfl rfl

theorem index2 : ∀ t : Fin cfg0.N, win0_2.index t 0 = 0 ∧ win0_2.index t 1 = (t.val / 4) :=
  (by decide +kernel : ∀ t : Fin grid0.N, win0_2.index t 0 = 0 ∧ win0_2.index t 1 = (t.val / 4))

/-- The product of two blocks, entry by entry. -/
theorem prod_apply (x0 : Vec Ideal S2048x1024 .bf16) (x1 : Vec Ideal S2048x1024 .bf16) (r : Fin 1024) (l : Fin 1024) :
    k0_pay1 x0 x1 (ix2 r l) = (∑ k : Fin 2048, x0 (ix2 k r) * x1 (ix2 k l)) := by
  unfold k0_pay1
  pointwise

/-- The product of the two blocks at a point is the point's block of the whole sum. -/
theorem prod_blocks (t : Fin cfg0.N) (r : Fin 1024) (l : Fin 1024) :
    k0_pay1 (iblk m c 0 t : Vec Ideal S2048x1024 .bf16) (iblk m c 1 t : Vec Ideal S2048x1024 .bf16) (ix2 r l)
      = (∑ k : Fin 2048, A m c ((0) * 1024 + r.val) ((t.val % 4) * 2048 + k.val) * B m c ((t.val % 4) * 2048 + k.val) (((t.val / 4)) * 1024 + l.val)) := by
  refine (prod_apply _ _ r l).trans (Finset.sum_congr rfl fun k _ => ?_)
  exact congrArg₂ (· * ·) (block0 m c t k r) (block1 m c t k l)

/-- The kernel's result at row `r` and column `q`. -/
def val (r q : ℕ) : EReal := dot 8192 (A m c) (B m c) r q

/-- The kernel's result array. -/
def arr : Buf (Elt Ideal) ((c : Thread nD τ).loc main_v0) := fun y : S1024x2048.Idx => val m c (y 0).val (y 1).val

/-- The first block of the contracted axis stores its product in the accumulator. -/
theorem acc_first (t : Fin cfg0.N) (h : t.val % 4 = 0) : (outsAt0 m c t.val t.isLt).2 = k0_pay2 (iblk m c 0 t) (iblk m c 1 t) := by
  have ht : t.val < 8 := lt_of_lt_of_eq t.isLt N_0
  rw [outsAt0_A m c t h (by omega) (by omega)]
  dsimp only
  unfold sout0_A_0
  rw [View.read_writes_eq_canon _ _ _ (fun y => scover0_A_0 c _ _ _ _ _ _ _ _ _ _ _ _ _ _ y)]
  unfold kernelRun0_A
  dsimp only
  sl_unfold_words
  simp only [View.readAt_eq_ld, Memref.IsWhole.read_unread, ld_whole,
    View.readCov_unit_zero (S := S1024x1024) _ hz, View.canon_unit_zero (S := S1024x1024) hz]

/-- A later block adds its product to the accumulator. -/
theorem acc_next (t : Fin cfg0.N) (h : ¬t.val % 4 = 0) : (outsAt0 m c t.val t.isLt).2 = k0_pay3 (iblk m c 0 t) (iblk m c 1 t) (outsAt0 m c (t.val - 1) (Nat.lt_of_le_of_lt (Nat.sub_le _ _) t.isLt)).2 := by
  have ht : t.val < 8 := lt_of_lt_of_eq t.isLt N_0
  by_cases h3 : t.val % 4 = 3
  · rw [outsAt0_C m c t h (by omega) h3]
    dsimp only
    unfold sout0_C_0
    rw [View.read_writes_eq_canon _ _ _ (fun y => scover0_C_0 c _ _ _ _ _ _ _ _ _ _ _ _ _ _ _ y)]
    unfold kernelRun0_C
    dsimp only
    sl_unfold_words
    simp only [View.readAt_eq_ld, Memref.IsWhole.read_unread, ld_whole,
      View.readCov_unit_zero (S := S1024x1024) _ hz, View.canon_unit_zero (S := S1024x1024) hz]
    exact congrArg (k0_pay3 _ _) ((Memref.isWhole_whole _).read_unread _)
  · rw [outsAt0_B m c t h (by omega) h3]
    dsimp only
    unfold sout0_B_0
    rw [View.read_writes_eq_canon _ _ _ (fun y => scover0_B_0 c _ _ _ _ _ _ _ _ _ _ _ _ _ _ _ y)]
    unfold kernelRun0_B
    dsimp only
    sl_unfold_words
    simp only [View.readAt_eq_ld, Memref.IsWhole.read_unread, ld_whole,
      View.readCov_unit_zero (S := S1024x1024) _ hz, View.canon_unit_zero (S := S1024x1024) hz]
    exact congrArg (k0_pay3 _ _) ((Memref.isWhole_whole _).read_unread _)

/-- The last block stores the accumulator in the result block. -/
theorem stored (t : Fin cfg0.N) (h : t.val % 4 = 3) : (outsAt0 m c t.val t.isLt).1 = k0_pay4 (outsAt0 m c t.val t.isLt).2 := by
  have ht : t.val < 8 := lt_of_lt_of_eq t.isLt N_0
  rw [acc_next m c t (by omega), outsAt0_C m c t (by omega) (by omega) h]
  dsimp only
  unfold out0_C_2
  rw [View.read_writes_eq_canon _ _ _ (fun y => cover0_C_2 c _ _ _ _ _ _ _ _ _ _ _ _ _ _ _ y)]
  unfold kernelRun0_C
  dsimp only
  sl_unfold_words
  simp only [View.readAt_eq_ld, Memref.IsWhole.read_unread, ld_whole,
    View.readCov_unit_zero (S := S1024x1024) _ hz, View.canon_unit_zero (S := S1024x1024) hz]
  exact congrArg (fun x => k0_pay4 (k0_pay3 _ _ x)) ((Memref.isWhole_whole _).read_unread _)

/-- What the accumulator holds after each point. -/
theorem acc_after (n : ℕ) (hn : n < cfg0.N) (r : Fin 1024) (l : Fin 1024) : (outsAt0 m c n hn).2 (ix2 r l)
    = dot ((n % 4 + 1) * 2048) (A m c) (B m c) ((0) * 1024 + r.val) (((n / 4)) * 1024 + l.val) := by
  refine dot_running 4 2048 (A m c) (B m c) (fun n => (0) * 1024 + r.val) (fun n => ((n / 4)) * 1024 + l.val) (fun n hn => (outsAt0 m c n hn).2 (ix2 r l))
    (fun n hn h => ?_) (fun n hn h => ?_) (fun n h => by omega) n hn
  · rw [acc_first m c ⟨n, hn⟩ h]
    exact Eq.trans (by unfold k0_pay2; pointwise) (prod_blocks m c ⟨n, hn⟩ r l)
  · rw [acc_next m c ⟨n + 1, hn⟩ h]
    exact Eq.trans (by unfold k0_pay3; pointwise; rfl) (congrArg (_ + ·) (prod_blocks m c ⟨n + 1, hn⟩ r l))

/-- What the last block of the contracted axis leaves in the result block. -/
theorem val_after (t : Fin cfg0.N) (h : t.val % 4 = 3) (r : Fin 1024) (l : Fin 1024) :
    (outsAt0 m c t.val t.isLt).1 (ix2 r l) = val m c ((0) * 1024 + r.val) (((t.val / 4)) * 1024 + l.val) := by
  rw [stored m c t h]
  refine Eq.trans (by unfold k0_pay4; pointwise) ((acc_after m c t.val t.isLt r l).trans ?_)
  rw [h]
  rfl

attribute [local irreducible] dot

/-- The result array after the run. -/
theorem final : (dats m 0 c).arrAt 2 cfg0.N = arr m c := by
  refine (dats m 0 c).arrAt_eq_of_cover 2 (arr m c) (fun t hf => ?_) fun (i : S1024x2048.Idx) => ?_
  · rw [Value.flushed2]
    obtain ⟨h0, h1⟩ := index2 t
    funext y
    rw [View.read_apply]
    show (outsAt0 m c t.val t.isLt).1 y = val m c (win0_2.index t 0 * 1024 + 1 * (y 0).val) (win0_2.index t 1 * 1024 + 1 * (y 1).val)
    refine (congrArg _ (eq_ix2 y)).trans ((val_after m c t ((flush0_2 t).mp hf) _ _).trans ?_)
    rw [h0, h1]
    exact congrArg₂ (val m c) (by omega) (by omega)
  · have b0 : (i 0).val < 1024 := (i 0).isLt
    have b1 : (i 1).val < 2048 := (i 1).isLt
    have hN : cfg0.N = 8 := N_0
    obtain ⟨t, ht⟩ : ∃ t : Fin cfg0.N, t.val = ((i 0).val / 1024 * 2 + (i 1).val / 1024) * 4 + 3 := ⟨⟨_, by omega⟩, rfl⟩
    refine ⟨t, (flush0_2 t).mpr (by omega), ?_⟩
    show i ∈ ((View.whole main_v0).slice (win0_2.rect t)).set
    rw [View.set_slice_whole]
    exact mem_block (index2 t) (by omega) (by omega)

end Cert.DwBaIdeal.Final

end
-- ==== Proof.DwBaClaims.lean ====
/-
  The claims about the attention branch's weight gradient: the frames, and the equality of the kernel's result with the reference's over the extended reals.
-/
module

public import proofs.«01_k».proof.Defs
public import proofs.«01_k».proof.Proof.DwBaValue
public import proofs.«01_k».proof.Proof.Gen.DwBa.Frame
public import proofs.«01_k».proof.Proof.Gen.DwBaRefIdeal.Run

@[expose] public section

noncomputable section

namespace DwBaClaims

open Idealize.ShloMosaic Idealize.ShloMosaic.TcCoe Idealize.SL.Sem Cert Ffn

/-! The frames. -/

theorem frame_p : quiescent_DwBa := fun m ρ _ => Cert.DwBa.Gen.frame m ρ

theorem frame_pi : quiescent_DwBaIdeal := fun m ρ _ => Cert.DwBaIdeal.Gen.frame m ρ

theorem frame_ri : quiescent_DwBaRefIdeal := fun m ρ _ =>
  (θ_run _ _ _).mono (fun r h => ⟨fun c => (h c).2, sem_eq_zero_of_no_sems (by decide) r.2⟩) (Cert.DwBaRefIdeal.Value.run m ρ)

/-- No operation is rewritten. -/
theorem preserves : preserves_DwBa_DwBaIdeal := trivial

/-- The sum over the contracted axis, in the arrays' own entries. -/
theorem val_entries (x0 : Vec Ideal DwBaIdeal.S8192x1024 .bf16) (x1 : Vec Ideal DwBaIdeal.S8192x2048 .bf16) (i : Fin 1024) (j : Fin 2048) :
    (∑ k : Fin 8192, x0 (ix2 k i) * x1 (ix2 k j))
      = dot 8192 (fun r k => at2 (n0 := 8192) (n1 := 1024) x0 k r) (fun k q => at2 (n0 := 8192) (n1 := 2048) x1 k q) i.val j.val :=
  ((dot_eq 8192 (fun r k => at2 (n0 := 8192) (n1 := 1024) x0 k r) (fun k q => at2 (n0 := 8192) (n1 := 2048) x1 k q) i.val j.val).trans
    (Finset.sum_congr rfl fun k _ => congrArg₂ (· * ·) (at2_eq x0 k i _ _ rfl rfl) (at2_eq x1 k j _ _ rfl rfl))).symm

/-- The kernel's result is the reference's. -/
theorem algebraic : algebraic_DwBaIdeal_DwBaRefIdeal := by
  intro m ρ m' ρ' _ hargs
  refine ⟨DwBaIdeal.Final.arr m, ?_, ?_⟩
  · refine (θ_run _ _ _).mono (fun r h c => ?_) (Cert.DwBaIdeal.Value.run_blocks m ρ)
    exact ⟨(h c).1.trans (DwBaIdeal.Final.final m c), (h c).2⟩
  · refine (θ_run _ _ _).mono (fun r h c => ?_) (Cert.DwBaRefIdeal.Value.run m' ρ')
    obtain ⟨h0, hrest⟩ := h c
    obtain ⟨e0, e1⟩ := hargs c
    rw [e0, e1] at h0
    refine ⟨h0.trans (funext fun y => (congrArg _ (eq_ix2 y)).trans (Eq.trans ?_ (val_entries (m ((c.tc : Thread DwBaIdeal.nD DwBaIdeal.τ).loc DwBaIdeal.main_arg0)) (m ((c.tc : Thread DwBaIdeal.nD DwBaIdeal.τ).loc DwBaIdeal.main_arg1)) (y 0) (y 1)))), hrest⟩
    pointwise
    exact Finset.sum_congr rfl fun k _ => mul_comm _ _

end DwBaClaims

end
-- ==== Proof.DwBsValue.lean ====
/-
  The state-space branch's weight gradient: what the kernel leaves in its result array, entry by entry — the whole sum over the contracted axis, gathered over 4 blocks of it.
-/
module

public import proofs.«01_k».proof.Proof.Product
public import proofs.«01_k».proof.Proof.Gen.DwBsIdeal.Value
public import Idealize.ShloMosaic.Lib.Pipeline.ReadBack
public import Idealize.ShloMosaic.Lib.Pointwise

@[expose] public section

noncomputable section

namespace Cert.DwBsIdeal.Final

open Cert.DwBsIdeal Cert.DwBsIdeal.Gen Idealize.ShloMosaic Idealize.ShloMosaic.TcCoe Idealize.SL.Sem Ffn

variable (m : (ℓ : Loc nD τ sig) → Buf (Elt Ideal) ℓ) (c : Dev nD)

/-- The left factor at launch: row `r`, contracted coordinate `k`. -/
abbrev A (r k : ℕ) : EReal := at2 (n0 := 8192) (n1 := 512) (m ((c : Thread nD τ).loc main_arg0)) k r

/-- The right factor at launch: contracted coordinate `k`, column `q`. -/
abbrev B (k q : ℕ) : EReal := at2 (n0 := 8192) (n1 := 2048) (m ((c : Thread nD τ).loc main_arg1)) k q

theorem index0 : ∀ t : Fin cfg0.N, win0_0.index t 0 = t.val % 4 ∧ win0_0.index t 1 = 0 :=
  (by decide +kernel : ∀ t : Fin grid0.N, win0_0.index t 0 = t.val % 4 ∧ win0_0.index t 1 = 0)

/-- Window 0's block at a point, entry by entry. -/
theorem block0 (t : Fin cfg0.N) (r : Fin 2048) (l : Fin 512) :
    (iblk m c 0 t : Vec Ideal S2048x512 .bf16) (ix2 r l)
      = at2 (n0 := 8192) (n1 := 512) (m ((c : Thread nD τ).loc main_arg0)) ((t.val % 4) * 2048 + r.val) ((0) * 512 + l.val) := by
  unfold iblk
  rw [View.read_apply]
  show V m c main_arg0 _ = _
  rw [V_main_arg0]
  exact at2_block (index0 t) rfl rfl

theorem index1 : ∀ t : Fin cfg0.N, win0_1.index t 0 = t.val % 4 ∧ win0_1.index t 1 = (t.val / 4) :=
  (by decide +kernel : ∀ t : Fin grid0.N, win0_1.index t 0 = t.val % 4 ∧ win0_1.index t 1 = (t.val / 4))

/-- Window 1's block at a point, entry by entry. -/
theorem block1 (t : Fin cfg0.N) (r : Fin 2048) (l : Fin 1024) :
    (iblk m c 1 t : Vec Ideal S2048x1024 .bf16) (ix2 r l)
      = at2 (n0 := 8192) (n1 := 2048) (m ((c : Thread nD τ).loc main_arg1)) ((t.val % 4) * 2048 + r.val) (((t.val / 4)) * 1024 + l.val) := by
  unfold iblk
  rw [View.read_apply]
  show V m c main_arg1 _ = _
  rw [V_main_arg1]
  exact at2_block (index1 t) rfl rfl

theorem index2 : ∀ t : Fin cfg0.N, win0_2.index t 0 = 0 ∧ win0_2.index t 1 = (t.val / 4) :=
  (by decide +kernel : ∀ t : Fin grid0.N, win0_2.index t 0 = 0 ∧ win0_2.index t 1 = (t.val / 4))

/-- The product of two blocks, entry by entry. -/
theorem prod_apply (x0 : Vec Ideal S2048x512 .bf16) (x1 : Vec Ideal S2048x1024 .bf16) (r : Fin 512) (l : Fin 1024) :
    k0_pay1 x0 x1 (ix2 r l) = (∑ k : Fin 2048, x0 (ix2 k r) * x1 (ix2 k l)) := by
  unfold k0_pay1
  pointwise

/-- The product of the two blocks at a point is the point's block of the whole sum. -/
theorem prod_blocks (t : Fin cfg0.N) (r : Fin 512) (l : Fin 1024) :
    k0_pay1 (iblk m c 0 t : Vec Ideal S2048x512 .bf16) (iblk m c 1 t : Vec Ideal S2048x1024 .bf16) (ix2 r l)
      = (∑ k : Fin 2048, A m c ((0) * 512 + r.val) ((t.val % 4) * 2048 + k.val) * B m c ((t.val % 4) * 2048 + k.val) (((t.val / 4)) * 1024 + l.val)) := by
  refine (prod_apply _ _ r l).trans (Finset.sum_congr rfl fun k _ => ?_)
  exact congrArg₂ (· * ·) (block0 m c t k r) (block1 m c t k l)

/-- The kernel's result at row `r` and column `q`. -/
def val (r q : ℕ) : EReal := dot 8192 (A m c) (B m c) r q

/-- The kernel's result array. -/
def arr : Buf (Elt Ideal) ((c : Thread nD τ).loc main_v0) := fun y : S512x2048.Idx => val m c (y 0).val (y 1).val

/-- The first block of the contracted axis stores its product in the accumulator. -/
theorem acc_first (t : Fin cfg0.N) (h : t.val % 4 = 0) : (outsAt0 m c t.val t.isLt).2 = k0_pay2 (iblk m c 0 t) (iblk m c 1 t) := by
  have ht : t.val < 8 := lt_of_lt_of_eq t.isLt N_0
  rw [outsAt0_A m c t h (by omega) (by omega)]
  dsimp only
  unfold sout0_A_0
  rw [View.read_writes_eq_canon _ _ _ (fun y => scover0_A_0 c _ _ _ _ _ _ _ _ _ _ _ _ _ _ y)]
  unfold kernelRun0_A
  dsimp only
  sl_unfold_words
  simp only [View.readAt_eq_ld, Memref.IsWhole.read_unread, ld_whole,
    View.readCov_unit_zero (S := S512x1024) _ hz, View.canon_unit_zero (S := S512x1024) hz]

/-- A later block adds its product to the accumulator. -/
theorem acc_next (t : Fin cfg0.N) (h : ¬t.val % 4 = 0) : (outsAt0 m c t.val t.isLt).2 = k0_pay3 (iblk m c 0 t) (iblk m c 1 t) (outsAt0 m c (t.val - 1) (Nat.lt_of_le_of_lt (Nat.sub_le _ _) t.isLt)).2 := by
  have ht : t.val < 8 := lt_of_lt_of_eq t.isLt N_0
  by_cases h3 : t.val % 4 = 3
  · rw [outsAt0_C m c t h (by omega) h3]
    dsimp only
    unfold sout0_C_0
    rw [View.read_writes_eq_canon _ _ _ (fun y => scover0_C_0 c _ _ _ _ _ _ _ _ _ _ _ _ _ _ _ y)]
    unfold kernelRun0_C
    dsimp only
    sl_unfold_words
    simp only [View.readAt_eq_ld, Memref.IsWhole.read_unread, ld_whole,
      View.readCov_unit_zero (S := S512x1024) _ hz, View.canon_unit_zero (S := S512x1024) hz]
    exact congrArg (k0_pay3 _ _) ((Memref.isWhole_whole _).read_unread _)
  · rw [outsAt0_B m c t h (by omega) h3]
    dsimp only
    unfold sout0_B_0
    rw [View.read_writes_eq_canon _ _ _ (fun y => scover0_B_0 c _ _ _ _ _ _ _ _ _ _ _ _ _ _ _ y)]
    unfold kernelRun0_B
    dsimp only
    sl_unfold_words
    simp only [View.readAt_eq_ld, Memref.IsWhole.read_unread, ld_whole,
      View.readCov_unit_zero (S := S512x1024) _ hz, View.canon_unit_zero (S := S512x1024) hz]
    exact congrArg (k0_pay3 _ _) ((Memref.isWhole_whole _).read_unread _)

/-- The last block stores the accumulator in the result block. -/
theorem stored (t : Fin cfg0.N) (h : t.val % 4 = 3) : (outsAt0 m c t.val t.isLt).1 = k0_pay4 (outsAt0 m c t.val t.isLt).2 := by
  have ht : t.val < 8 := lt_of_lt_of_eq t.isLt N_0
  rw [acc_next m c t (by omega), outsAt0_C m c t (by omega) (by omega) h]
  dsimp only
  unfold out0_C_2
  rw [View.read_writes_eq_canon _ _ _ (fun y => cover0_C_2 c _ _ _ _ _ _ _ _ _ _ _ _ _ _ _ y)]
  unfold kernelRun0_C
  dsimp only
  sl_unfold_words
  simp only [View.readAt_eq_ld, Memref.IsWhole.read_unread, ld_whole,
    View.readCov_unit_zero (S := S512x1024) _ hz, View.canon_unit_zero (S := S512x1024) hz]
  exact congrArg (fun x => k0_pay4 (k0_pay3 _ _ x)) ((Memref.isWhole_whole _).read_unread _)

/-- What the accumulator holds after each point. -/
theorem acc_after (n : ℕ) (hn : n < cfg0.N) (r : Fin 512) (l : Fin 1024) : (outsAt0 m c n hn).2 (ix2 r l)
    = dot ((n % 4 + 1) * 2048) (A m c) (B m c) ((0) * 512 + r.val) (((n / 4)) * 1024 + l.val) := by
  refine dot_running 4 2048 (A m c) (B m c) (fun n => (0) * 512 + r.val) (fun n => ((n / 4)) * 1024 + l.val) (fun n hn => (outsAt0 m c n hn).2 (ix2 r l))
    (fun n hn h => ?_) (fun n hn h => ?_) (fun n h => by omega) n hn
  · rw [acc_first m c ⟨n, hn⟩ h]
    exact Eq.trans (by unfold k0_pay2; pointwise) (prod_blocks m c ⟨n, hn⟩ r l)
  · rw [acc_next m c ⟨n + 1, hn⟩ h]
    exact Eq.trans (by unfold k0_pay3; pointwise; rfl) (congrArg (_ + ·) (prod_blocks m c ⟨n + 1, hn⟩ r l))

/-- What the last block of the contracted axis leaves in the result block. -/
theorem val_after (t : Fin cfg0.N) (h : t.val % 4 = 3) (r : Fin 512) (l : Fin 1024) :
    (outsAt0 m c t.val t.isLt).1 (ix2 r l) = val m c ((0) * 512 + r.val) (((t.val / 4)) * 1024 + l.val) := by
  rw [stored m c t h]
  refine Eq.trans (by unfold k0_pay4; pointwise) ((acc_after m c t.val t.isLt r l).trans ?_)
  rw [h]
  rfl

attribute [local irreducible] dot

/-- The result array after the run. -/
theorem final : (dats m 0 c).arrAt 2 cfg0.N = arr m c := by
  refine (dats m 0 c).arrAt_eq_of_cover 2 (arr m c) (fun t hf => ?_) fun (i : S512x2048.Idx) => ?_
  · rw [Value.flushed2]
    obtain ⟨h0, h1⟩ := index2 t
    funext y
    rw [View.read_apply]
    show (outsAt0 m c t.val t.isLt).1 y = val m c (win0_2.index t 0 * 512 + 1 * (y 0).val) (win0_2.index t 1 * 1024 + 1 * (y 1).val)
    refine (congrArg _ (eq_ix2 y)).trans ((val_after m c t ((flush0_2 t).mp hf) _ _).trans ?_)
    rw [h0, h1]
    exact congrArg₂ (val m c) (by omega) (by omega)
  · have b0 : (i 0).val < 512 := (i 0).isLt
    have b1 : (i 1).val < 2048 := (i 1).isLt
    have hN : cfg0.N = 8 := N_0
    obtain ⟨t, ht⟩ : ∃ t : Fin cfg0.N, t.val = ((i 0).val / 512 * 2 + (i 1).val / 1024) * 4 + 3 := ⟨⟨_, by omega⟩, rfl⟩
    refine ⟨t, (flush0_2 t).mpr (by omega), ?_⟩
    show i ∈ ((View.whole main_v0).slice (win0_2.rect t)).set
    rw [View.set_slice_whole]
    exact mem_block (index2 t) (by omega) (by omega)

end Cert.DwBsIdeal.Final

end
-- ==== Proof.DwBsClaims.lean ====
/-
  The claims about the state-space branch's weight gradient: the frames, and the equality of the kernel's result with the reference's over the extended reals.
-/
module

public import proofs.«01_k».proof.Defs
public import proofs.«01_k».proof.Proof.DwBsValue
public import proofs.«01_k».proof.Proof.Gen.DwBs.Frame
public import proofs.«01_k».proof.Proof.Gen.DwBsRefIdeal.Run

@[expose] public section

noncomputable section

namespace DwBsClaims

open Idealize.ShloMosaic Idealize.ShloMosaic.TcCoe Idealize.SL.Sem Cert Ffn

/-! The frames. -/

theorem frame_p : quiescent_DwBs := fun m ρ _ => Cert.DwBs.Gen.frame m ρ

theorem frame_pi : quiescent_DwBsIdeal := fun m ρ _ => Cert.DwBsIdeal.Gen.frame m ρ

theorem frame_ri : quiescent_DwBsRefIdeal := fun m ρ _ =>
  (θ_run _ _ _).mono (fun r h => ⟨fun c => (h c).2, sem_eq_zero_of_no_sems (by decide) r.2⟩) (Cert.DwBsRefIdeal.Value.run m ρ)

/-- No operation is rewritten. -/
theorem preserves : preserves_DwBs_DwBsIdeal := trivial

/-- The sum over the contracted axis, in the arrays' own entries. -/
theorem val_entries (x0 : Vec Ideal DwBsIdeal.S8192x512 .bf16) (x1 : Vec Ideal DwBsIdeal.S8192x2048 .bf16) (i : Fin 512) (j : Fin 2048) :
    (∑ k : Fin 8192, x0 (ix2 k i) * x1 (ix2 k j))
      = dot 8192 (fun r k => at2 (n0 := 8192) (n1 := 512) x0 k r) (fun k q => at2 (n0 := 8192) (n1 := 2048) x1 k q) i.val j.val :=
  ((dot_eq 8192 (fun r k => at2 (n0 := 8192) (n1 := 512) x0 k r) (fun k q => at2 (n0 := 8192) (n1 := 2048) x1 k q) i.val j.val).trans
    (Finset.sum_congr rfl fun k _ => congrArg₂ (· * ·) (at2_eq x0 k i _ _ rfl rfl) (at2_eq x1 k j _ _ rfl rfl))).symm

/-- The kernel's result is the reference's. -/
theorem algebraic : algebraic_DwBsIdeal_DwBsRefIdeal := by
  intro m ρ m' ρ' _ hargs
  refine ⟨DwBsIdeal.Final.arr m, ?_, ?_⟩
  · refine (θ_run _ _ _).mono (fun r h c => ?_) (Cert.DwBsIdeal.Value.run_blocks m ρ)
    exact ⟨(h c).1.trans (DwBsIdeal.Final.final m c), (h c).2⟩
  · refine (θ_run _ _ _).mono (fun r h c => ?_) (Cert.DwBsRefIdeal.Value.run m' ρ')
    obtain ⟨h0, hrest⟩ := h c
    obtain ⟨e0, e1⟩ := hargs c
    rw [e0, e1] at h0
    refine ⟨h0.trans (funext fun y => (congrArg _ (eq_ix2 y)).trans (Eq.trans ?_ (val_entries (m ((c.tc : Thread DwBsIdeal.nD DwBsIdeal.τ).loc DwBsIdeal.main_arg0)) (m ((c.tc : Thread DwBsIdeal.nD DwBsIdeal.τ).loc DwBsIdeal.main_arg1)) (y 0) (y 1)))), hrest⟩
    pointwise
    exact Finset.sum_congr rfl fun k _ => mul_comm _ _

end DwBsClaims

end
-- ==== Proof.DwGluValue.lean ====
/-
  The gated linear unit's weight gradient: what the kernel leaves in its result array, entry by entry — the whole sum over the contracted axis, gathered over 4 blocks of it.
-/
module

public import proofs.«01_k».proof.Proof.Product
public import proofs.«01_k».proof.Proof.Gen.DwGluIdeal.Value
public import Idealize.ShloMosaic.Lib.Pipeline.ReadBack
public import Idealize.ShloMosaic.Lib.Pointwise

@[expose] public section

noncomputable section

namespace Cert.DwGluIdeal.Final

open Cert.DwGluIdeal Cert.DwGluIdeal.Gen Idealize.ShloMosaic Idealize.ShloMosaic.TcCoe Idealize.SL.Sem Ffn

variable (m : (ℓ : Loc nD τ sig) → Buf (Elt Ideal) ℓ) (c : Dev nD)

/-- The left factor at launch: row `r`, contracted coordinate `k`. -/
abbrev A (r k : ℕ) : EReal := at2 (n0 := 8192) (n1 := 512) (m ((c : Thread nD τ).loc main_arg0)) k r

/-- The right factor at launch: contracted coordinate `k`, column `q`. -/
abbrev B (k q : ℕ) : EReal := at2 (n0 := 8192) (n1 := 1024) (m ((c : Thread nD τ).loc main_arg1)) k q

theorem index0 : ∀ t : Fin cfg0.N, win0_0.index t 0 = t.val % 4 ∧ win0_0.index t 1 = 0 :=
  (by decide +kernel : ∀ t : Fin grid0.N, win0_0.index t 0 = t.val % 4 ∧ win0_0.index t 1 = 0)

/-- Window 0's block at a point, entry by entry. -/
theorem block0 (t : Fin cfg0.N) (r : Fin 2048) (l : Fin 512) :
    (iblk m c 0 t : Vec Ideal S2048x512 .bf16) (ix2 r l)
      = at2 (n0 := 8192) (n1 := 512) (m ((c : Thread nD τ).loc main_arg0)) ((t.val % 4) * 2048 + r.val) ((0) * 512 + l.val) := by
  unfold iblk
  rw [View.read_apply]
  show V m c main_arg0 _ = _
  rw [V_main_arg0]
  exact at2_block (index0 t) rfl rfl

theorem index1 : ∀ t : Fin cfg0.N, win0_1.index t 0 = t.val % 4 ∧ win0_1.index t 1 = 0 :=
  (by decide +kernel : ∀ t : Fin grid0.N, win0_1.index t 0 = t.val % 4 ∧ win0_1.index t 1 = 0)

/-- Window 1's block at a point, entry by entry. -/
theorem block1 (t : Fin cfg0.N) (r : Fin 2048) (l : Fin 1024) :
    (iblk m c 1 t : Vec Ideal S2048x1024 .bf16) (ix2 r l)
      = at2 (n0 := 8192) (n1 := 1024) (m ((c : Thread nD τ).loc main_arg1)) ((t.val % 4) * 2048 + r.val) ((0) * 1024 + l.val) := by
  unfold iblk
  rw [View.read_apply]
  show V m c main_arg1 _ = _
  rw [V_main_arg1]
  exact at2_block (index1 t) rfl rfl

theorem index2 : ∀ t : Fin cfg0.N, win0_2.index t 0 = 0 ∧ win0_2.index t 1 = 0 :=
  (by decide +kernel : ∀ t : Fin grid0.N, win0_2.index t 0 = 0 ∧ win0_2.index t 1 = 0)

/-- The product of two blocks, entry by entry. -/
theorem prod_apply (x0 : Vec Ideal S2048x512 .bf16) (x1 : Vec Ideal S2048x1024 .bf16) (r : Fin 512) (l : Fin 1024) :
    k0_pay1 x0 x1 (ix2 r l) = (∑ k : Fin 2048, x0 (ix2 k r) * x1 (ix2 k l)) := by
  unfold k0_pay1
  pointwise

/-- The product of the two blocks at a point is the point's block of the whole sum. -/
theorem prod_blocks (t : Fin cfg0.N) (r : Fin 512) (l : Fin 1024) :
    k0_pay1 (iblk m c 0 t : Vec Ideal S2048x512 .bf16) (iblk m c 1 t : Vec Ideal S2048x1024 .bf16) (ix2 r l)
      = (∑ k : Fin 2048, A m c ((0) * 512 + r.val) ((t.val % 4) * 2048 + k.val) * B m c ((t.val % 4) * 2048 + k.val) ((0) * 1024 + l.val)) := by
  refine (prod_apply _ _ r l).trans (Finset.sum_congr rfl fun k _ => ?_)
  exact congrArg₂ (· * ·) (block0 m c t k r) (block1 m c t k l)

/-- The kernel's result at row `r` and column `q`. -/
def val (r q : ℕ) : EReal := dot 8192 (A m c) (B m c) r q

/-- The kernel's result array. -/
def arr : Buf (Elt Ideal) ((c : Thread nD τ).loc main_v0) := fun y : S512x1024.Idx => val m c (y 0).val (y 1).val

/-- The first block of the contracted axis stores its product in the accumulator. -/
theorem acc_first (t : Fin cfg0.N) (h : t.val % 4 = 0) : (outsAt0 m c t.val t.isLt).2 = k0_pay2 (iblk m c 0 t) (iblk m c 1 t) := by
  have ht : t.val < 4 := lt_of_lt_of_eq t.isLt N_0
  rw [outsAt0_A m c t h (by omega) (by omega)]
  dsimp only
  unfold sout0_A_0
  rw [View.read_writes_eq_canon _ _ _ (fun y => scover0_A_0 c _ _ _ _ _ _ _ _ _ _ _ _ _ _ y)]
  unfold kernelRun0_A
  dsimp only
  sl_unfold_words
  simp only [View.readAt_eq_ld, Memref.IsWhole.read_unread, ld_whole,
    View.readCov_unit_zero (S := S512x1024) _ hz, View.canon_unit_zero (S := S512x1024) hz]

/-- A later block adds its product to the accumulator. -/
theorem acc_next (t : Fin cfg0.N) (h : ¬t.val % 4 = 0) : (outsAt0 m c t.val t.isLt).2 = k0_pay3 (iblk m c 0 t) (iblk m c 1 t) (outsAt0 m c (t.val - 1) (Nat.lt_of_le_of_lt (Nat.sub_le _ _) t.isLt)).2 := by
  have ht : t.val < 4 := lt_of_lt_of_eq t.isLt N_0
  by_cases h3 : t.val % 4 = 3
  · rw [outsAt0_C m c t h (by omega) h3]
    dsimp only
    unfold sout0_C_0
    rw [View.read_writes_eq_canon _ _ _ (fun y => scover0_C_0 c _ _ _ _ _ _ _ _ _ _ _ _ _ _ _ y)]
    unfold kernelRun0_C
    dsimp only
    sl_unfold_words
    simp only [View.readAt_eq_ld, Memref.IsWhole.read_unread, ld_whole,
      View.readCov_unit_zero (S := S512x1024) _ hz, View.canon_unit_zero (S := S512x1024) hz]
    exact congrArg (k0_pay3 _ _) ((Memref.isWhole_whole _).read_unread _)
  · rw [outsAt0_B m c t h (by omega) h3]
    dsimp only
    unfold sout0_B_0
    rw [View.read_writes_eq_canon _ _ _ (fun y => scover0_B_0 c _ _ _ _ _ _ _ _ _ _ _ _ _ _ _ y)]
    unfold kernelRun0_B
    dsimp only
    sl_unfold_words
    simp only [View.readAt_eq_ld, Memref.IsWhole.read_unread, ld_whole,
      View.readCov_unit_zero (S := S512x1024) _ hz, View.canon_unit_zero (S := S512x1024) hz]
    exact congrArg (k0_pay3 _ _) ((Memref.isWhole_whole _).read_unread _)

/-- The last block stores the accumulator in the result block. -/
theorem stored (t : Fin cfg0.N) (h : t.val % 4 = 3) : (outsAt0 m c t.val t.isLt).1 = k0_pay4 (outsAt0 m c t.val t.isLt).2 := by
  have ht : t.val < 4 := lt_of_lt_of_eq t.isLt N_0
  rw [acc_next m c t (by omega), outsAt0_C m c t (by omega) (by omega) h]
  dsimp only
  unfold out0_C_2
  rw [View.read_writes_eq_canon _ _ _ (fun y => cover0_C_2 c _ _ _ _ _ _ _ _ _ _ _ _ _ _ _ y)]
  unfold kernelRun0_C
  dsimp only
  sl_unfold_words
  simp only [View.readAt_eq_ld, Memref.IsWhole.read_unread, ld_whole,
    View.readCov_unit_zero (S := S512x1024) _ hz, View.canon_unit_zero (S := S512x1024) hz]
  exact congrArg (fun x => k0_pay4 (k0_pay3 _ _ x)) ((Memref.isWhole_whole _).read_unread _)

/-- What the accumulator holds after each point. -/
theorem acc_after (n : ℕ) (hn : n < cfg0.N) (r : Fin 512) (l : Fin 1024) : (outsAt0 m c n hn).2 (ix2 r l)
    = dot ((n % 4 + 1) * 2048) (A m c) (B m c) ((0) * 512 + r.val) ((0) * 1024 + l.val) := by
  refine dot_running 4 2048 (A m c) (B m c) (fun n => (0) * 512 + r.val) (fun n => (0) * 1024 + l.val) (fun n hn => (outsAt0 m c n hn).2 (ix2 r l))
    (fun n hn h => ?_) (fun n hn h => ?_) (fun n h => by omega) n hn
  · rw [acc_first m c ⟨n, hn⟩ h]
    exact Eq.trans (by unfold k0_pay2; pointwise) (prod_blocks m c ⟨n, hn⟩ r l)
  · rw [acc_next m c ⟨n + 1, hn⟩ h]
    exact Eq.trans (by unfold k0_pay3; pointwise; rfl) (congrArg (_ + ·) (prod_blocks m c ⟨n + 1, hn⟩ r l))

/-- What the last block of the contracted axis leaves in the result block. -/
theorem val_after (t : Fin cfg0.N) (h : t.val % 4 = 3) (r : Fin 512) (l : Fin 1024) :
    (outsAt0 m c t.val t.isLt).1 (ix2 r l) = val m c ((0) * 512 + r.val) ((0) * 1024 + l.val) := by
  rw [stored m c t h]
  refine Eq.trans (by unfold k0_pay4; pointwise) ((acc_after m c t.val t.isLt r l).trans ?_)
  rw [h]
  rfl

attribute [local irreducible] dot

/-- The result array after the run. -/
theorem final : (dats m 0 c).arrAt 2 cfg0.N = arr m c := by
  refine (dats m 0 c).arrAt_eq_of_cover 2 (arr m c) (fun t hf => ?_) fun (i : S512x1024.Idx) => ?_
  · rw [Value.flushed2]
    obtain ⟨h0, h1⟩ := index2 t
    funext y
    rw [View.read_apply]
    show (outsAt0 m c t.val t.isLt).1 y = val m c (win0_2.index t 0 * 512 + 1 * (y 0).val) (win0_2.index t 1 * 1024 + 1 * (y 1).val)
    refine (congrArg _ (eq_ix2 y)).trans ((val_after m c t ((flush0_2 t).mp hf) _ _).trans ?_)
    rw [h0, h1]
    exact congrArg₂ (val m c) (by omega) (by omega)
  · have b0 : (i 0).val < 512 := (i 0).isLt
    have b1 : (i 1).val < 1024 := (i 1).isLt
    have hN : cfg0.N = 4 := N_0
    obtain ⟨t, ht⟩ : ∃ t : Fin cfg0.N, t.val = ((i 0).val / 512 * 1 + (i 1).val / 1024) * 4 + 3 := ⟨⟨_, by omega⟩, rfl⟩
    refine ⟨t, (flush0_2 t).mpr (by omega), ?_⟩
    show i ∈ ((View.whole main_v0).slice (win0_2.rect t)).set
    rw [View.set_slice_whole]
    exact mem_block (index2 t) (by omega) (by omega)

end Cert.DwGluIdeal.Final

end
-- ==== Proof.DwGluClaims.lean ====
/-
  The claims about the gated linear unit's weight gradient: the frames, and the equality of the kernel's result with the reference's over the extended reals.
-/
module

public import proofs.«01_k».proof.Defs
public import proofs.«01_k».proof.Proof.DwGluValue
public import proofs.«01_k».proof.Proof.Gen.DwGlu.Frame
public import proofs.«01_k».proof.Proof.Gen.DwGluRefIdeal.Run

@[expose] public section

noncomputable section

namespace DwGluClaims

open Idealize.ShloMosaic Idealize.ShloMosaic.TcCoe Idealize.SL.Sem Cert Ffn

/-! The frames. -/

theorem frame_p : quiescent_DwGlu := fun m ρ _ => Cert.DwGlu.Gen.frame m ρ

theorem frame_pi : quiescent_DwGluIdeal := fun m ρ _ => Cert.DwGluIdeal.Gen.frame m ρ

theorem frame_ri : quiescent_DwGluRefIdeal := fun m ρ _ =>
  (θ_run _ _ _).mono (fun r h => ⟨fun c => (h c).2, sem_eq_zero_of_no_sems (by decide) r.2⟩) (Cert.DwGluRefIdeal.Value.run m ρ)

/-- No operation is rewritten. -/
theorem preserves : preserves_DwGlu_DwGluIdeal := trivial

/-- The sum over the contracted axis, in the arrays' own entries. -/
theorem val_entries (x0 : Vec Ideal DwGluIdeal.S8192x512 .bf16) (x1 : Vec Ideal DwGluIdeal.S8192x1024 .bf16) (i : Fin 512) (j : Fin 1024) :
    (∑ k : Fin 8192, x0 (ix2 k i) * x1 (ix2 k j))
      = dot 8192 (fun r k => at2 (n0 := 8192) (n1 := 512) x0 k r) (fun k q => at2 (n0 := 8192) (n1 := 1024) x1 k q) i.val j.val :=
  ((dot_eq 8192 (fun r k => at2 (n0 := 8192) (n1 := 512) x0 k r) (fun k q => at2 (n0 := 8192) (n1 := 1024) x1 k q) i.val j.val).trans
    (Finset.sum_congr rfl fun k _ => congrArg₂ (· * ·) (at2_eq x0 k i _ _ rfl rfl) (at2_eq x1 k j _ _ rfl rfl))).symm

/-- The kernel's result is the reference's. -/
theorem algebraic : algebraic_DwGluIdeal_DwGluRefIdeal := by
  intro m ρ m' ρ' _ hargs
  refine ⟨DwGluIdeal.Final.arr m, ?_, ?_⟩
  · refine (θ_run _ _ _).mono (fun r h c => ?_) (Cert.DwGluIdeal.Value.run_blocks m ρ)
    exact ⟨(h c).1.trans (DwGluIdeal.Final.final m c), (h c).2⟩
  · refine (θ_run _ _ _).mono (fun r h c => ?_) (Cert.DwGluRefIdeal.Value.run m' ρ')
    obtain ⟨h0, hrest⟩ := h c
    obtain ⟨e0, e1⟩ := hargs c
    rw [e0, e1] at h0
    refine ⟨h0.trans (funext fun y => (congrArg _ (eq_ix2 y)).trans (Eq.trans ?_ (val_entries (m ((c.tc : Thread DwGluIdeal.nD DwGluIdeal.τ).loc DwGluIdeal.main_arg0)) (m ((c.tc : Thread DwGluIdeal.nD DwGluIdeal.τ).loc DwGluIdeal.main_arg1)) (y 0) (y 1)))), hrest⟩
    pointwise
    exact Finset.sum_congr rfl fun k _ => mul_comm _ _

end DwGluClaims

end
-- ==== Proof.DGyValue.lean ====
/-
  The gradient of the gated linear unit's input: what the kernel leaves in its result array, entry by entry — the whole sum over the contracted axis.
-/
module

public import proofs.«01_k».proof.Proof.Product
public import proofs.«01_k».proof.Proof.Gen.DGyIdeal.Value
public import Idealize.ShloMosaic.Lib.Pipeline.ReadBack
public import Idealize.ShloMosaic.Lib.Pointwise

@[expose] public section

noncomputable section

namespace Cert.DGyIdeal.Final

open Cert.DGyIdeal Cert.DGyIdeal.Gen Idealize.ShloMosaic Idealize.ShloMosaic.TcCoe Idealize.SL.Sem Ffn

variable (m : (ℓ : Loc nD τ sig) → Buf (Elt Ideal) ℓ) (c : Dev nD)

/-- The left factor at launch: row `r`, contracted coordinate `k`. -/
abbrev A (r k : ℕ) : EReal := at2 (n0 := 8192) (n1 := 1024) (m ((c : Thread nD τ).loc main_arg0)) r k

/-- The right factor at launch: contracted coordinate `k`, column `q`. -/
abbrev B (k q : ℕ) : EReal := at2 (n0 := 512) (n1 := 1024) (m ((c : Thread nD τ).loc main_arg1)) q k

theorem index0 : ∀ t : Fin cfg0.N, win0_0.index t 0 = t.val ∧ win0_0.index t 1 = 0 :=
  (by decide +kernel : ∀ t : Fin grid0.N, win0_0.index t 0 = t.val ∧ win0_0.index t 1 = 0)

/-- Window 0's block at a point, entry by entry. -/
theorem block0 (t : Fin cfg0.N) (r : Fin 1024) (l : Fin 1024) :
    (iblk m c 0 t : Vec Ideal S1024x1024 .bf16) (ix2 r l)
      = at2 (n0 := 8192) (n1 := 1024) (m ((c : Thread nD τ).loc main_arg0)) ((t.val) * 1024 + r.val) ((0) * 1024 + l.val) := by
  unfold iblk
  rw [View.read_apply]
  show V m c main_arg0 _ = _
  rw [V_main_arg0]
  exact at2_block (index0 t) rfl rfl

theorem index1 : ∀ t : Fin cfg0.N, win0_1.index t 0 = 0 ∧ win0_1.index t 1 = 0 :=
  (by decide +kernel : ∀ t : Fin grid0.N, win0_1.index t 0 = 0 ∧ win0_1.index t 1 = 0)

/-- Window 1's block at a point, entry by entry. -/
theorem block1 (t : Fin cfg0.N) (r : Fin 512) (l : Fin 1024) :
    (iblk m c 1 t : Vec Ideal S512x1024 .bf16) (ix2 r l)
      = at2 (n0 := 512) (n1 := 1024) (m ((c : Thread nD τ).loc main_arg1)) ((0) * 512 + r.val) ((0) * 1024 + l.val) := by
  unfold iblk
  rw [View.read_apply]
  show V m c main_arg1 _ = _
  rw [V_main_arg1]
  exact at2_block (index1 t) rfl rfl

theorem index2 : ∀ t : Fin cfg0.N, win0_2.index t 0 = t.val ∧ win0_2.index t 1 = 0 :=
  (by decide +kernel : ∀ t : Fin grid0.N, win0_2.index t 0 = t.val ∧ win0_2.index t 1 = 0)

/-- The product of two blocks, entry by entry. -/
theorem prod_apply (x0 : Vec Ideal S1024x1024 .bf16) (x1 : Vec Ideal S512x1024 .bf16) (r : Fin 1024) (l : Fin 512) :
    k0_pay1 x0 x1 (ix2 r l) = (∑ k : Fin 1024, x0 (ix2 r k) * x1 (ix2 l k)) := by
  unfold k0_pay1
  pointwise

/-- The product of the two blocks at a point is the point's block of the whole sum. -/
theorem prod_blocks (t : Fin cfg0.N) (r : Fin 1024) (l : Fin 512) :
    k0_pay1 (iblk m c 0 t : Vec Ideal S1024x1024 .bf16) (iblk m c 1 t : Vec Ideal S512x1024 .bf16) (ix2 r l)
      = (∑ k : Fin 1024, A m c ((t.val) * 1024 + r.val) ((0) * 1024 + k.val) * B m c ((0) * 1024 + k.val) ((0) * 512 + l.val)) := by
  refine (prod_apply _ _ r l).trans (Finset.sum_congr rfl fun k _ => ?_)
  exact congrArg₂ (· * ·) (block0 m c t r k) (block1 m c t l k)

/-- The kernel's result at row `r` and column `q`. -/
def val (r q : ℕ) : EReal := dot 1024 (A m c) (B m c) r q

/-- The kernel's result array. -/
def arr : Buf (Elt Ideal) ((c : Thread nD τ).loc main_v0) := fun y : S8192x512.Idx => val m c (y 0).val (y 1).val

/-- What a point leaves in the result block. -/
theorem val_after (t : Fin cfg0.N) (r : Fin 1024) (l : Fin 512) :
    out0_2 (iblk m c 0 t) (iblk m c 1 t) (ix2 r l) = val m c ((t.val) * 1024 + r.val) ((0) * 512 + l.val) := by
  unfold out0_2
  refine (congrFun (View.canon_unit_zero (S := S1024x512) hz _ _) (ix2 r l)).trans ?_
  simp only [ld_whole]
  refine (prod_blocks m c t r l).trans ((dot_first 1024 _ _ _ _ _ rfl).trans rfl)

attribute [local irreducible] dot

/-- The result array after the run. -/
theorem final : (dats m 0 c).arrAt 2 cfg0.N = arr m c := by
  refine (dats m 0 c).arrAt_eq_of_cover 2 (arr m c) (fun t hf => ?_) fun (i : S8192x512.Idx) => ?_
  · rw [Value.flushed2]
    obtain ⟨h0, h1⟩ := index2 t
    funext y
    rw [View.read_apply]
    show out0_2 (iblk m c 0 t) (iblk m c 1 t) y = val m c (win0_2.index t 0 * 1024 + 1 * (y 0).val) (win0_2.index t 1 * 512 + 1 * (y 1).val)
    refine (congrArg _ (eq_ix2 y)).trans ((val_after m c t _ _).trans ?_)
    rw [h0, h1]
    exact congrArg₂ (val m c) (by omega) (by omega)
  · have b0 : (i 0).val < 8192 := (i 0).isLt
    have b1 : (i 1).val < 512 := (i 1).isLt
    have hN : cfg0.N = 8 := N_0
    obtain ⟨t, ht⟩ : ∃ t : Fin cfg0.N, t.val = ((i 1).val / 512 * 8 + (i 0).val / 1024) := ⟨⟨_, by omega⟩, rfl⟩
    refine ⟨t, flush0_2 t, ?_⟩
    show i ∈ ((View.whole main_v0).slice (win0_2.rect t)).set
    rw [View.set_slice_whole]
    exact mem_block (index2 t) (by omega) (by omega)

end Cert.DGyIdeal.Final

end
-- ==== Proof.DGyClaims.lean ====
/-
  The claims about the gradient of the gated linear unit's input: the frames, and the equality of the kernel's result with the reference's over the extended reals.
-/
module

public import proofs.«01_k».proof.Defs
public import proofs.«01_k».proof.Proof.DGyValue
public import proofs.«01_k».proof.Proof.Gen.DGy.Frame
public import proofs.«01_k».proof.Proof.Gen.DGyRefIdeal.Run

@[expose] public section

noncomputable section

namespace DGyClaims

open Idealize.ShloMosaic Idealize.ShloMosaic.TcCoe Idealize.SL.Sem Cert Ffn

/-! The frames. -/

theorem frame_p : quiescent_DGy := fun m ρ _ => Cert.DGy.Gen.frame m ρ

theorem frame_pi : quiescent_DGyIdeal := fun m ρ _ => Cert.DGyIdeal.Gen.frame m ρ

theorem frame_ri : quiescent_DGyRefIdeal := fun m ρ _ =>
  (θ_run _ _ _).mono (fun r h => ⟨fun c => (h c).2, sem_eq_zero_of_no_sems (by decide) r.2⟩) (Cert.DGyRefIdeal.Value.run m ρ)

/-- No operation is rewritten. -/
theorem preserves : preserves_DGy_DGyIdeal := trivial

/-- The sum over the contracted axis, in the arrays' own entries. -/
theorem val_entries (x0 : Vec Ideal DGyIdeal.S8192x1024 .bf16) (x1 : Vec Ideal DGyIdeal.S512x1024 .bf16) (i : Fin 8192) (j : Fin 512) :
    (∑ k : Fin 1024, x0 (ix2 i k) * x1 (ix2 j k))
      = dot 1024 (fun r k => at2 (n0 := 8192) (n1 := 1024) x0 r k) (fun k q => at2 (n0 := 512) (n1 := 1024) x1 q k) i.val j.val :=
  ((dot_eq 1024 (fun r k => at2 (n0 := 8192) (n1 := 1024) x0 r k) (fun k q => at2 (n0 := 512) (n1 := 1024) x1 q k) i.val j.val).trans
    (Finset.sum_congr rfl fun k _ => congrArg₂ (· * ·) (at2_eq x0 i k _ _ rfl rfl) (at2_eq x1 j k _ _ rfl rfl))).symm

/-- The kernel's result is the reference's. -/
theorem algebraic : algebraic_DGyIdeal_DGyRefIdeal := by
  intro m ρ m' ρ' _ hargs
  refine ⟨DGyIdeal.Final.arr m, ?_, ?_⟩
  · refine (θ_run _ _ _).mono (fun r h c => ?_) (Cert.DGyIdeal.Value.run_blocks m ρ)
    exact ⟨(h c).1.trans (DGyIdeal.Final.final m c), (h c).2⟩
  · refine (θ_run _ _ _).mono (fun r h c => ?_) (Cert.DGyRefIdeal.Value.run m' ρ')
    obtain ⟨h0, hrest⟩ := h c
    obtain ⟨e0, e1⟩ := hargs c
    rw [e0, e1] at h0
    refine ⟨h0.trans (funext fun y => (congrArg _ (eq_ix2 y)).trans (Eq.trans ?_ (val_entries (m ((c.tc : Thread DGyIdeal.nD DGyIdeal.τ).loc DGyIdeal.main_arg0)) (m ((c.tc : Thread DGyIdeal.nD DGyIdeal.τ).loc DGyIdeal.main_arg1)) (y 0) (y 1)))), hrest⟩
    pointwise

end DGyClaims

end
-- ==== Proof.ProjInValue.lean ====
/-
  The input projection: what the kernel leaves in its result array, entry by entry — the whole sum over the contracted axis.
-/
module

public import proofs.«01_k».proof.Proof.Product
public import proofs.«01_k».proof.Proof.Gen.ProjInIdeal.Value
public import Idealize.ShloMosaic.Lib.Pipeline.ReadBack
public import Idealize.ShloMosaic.Lib.Pointwise

@[expose] public section

noncomputable section

namespace Cert.ProjInIdeal.Final

open Cert.ProjInIdeal Cert.ProjInIdeal.Gen Idealize.ShloMosaic Idealize.ShloMosaic.TcCoe Idealize.SL.Sem Ffn

variable (m : (ℓ : Loc nD τ sig) → Buf (Elt Ideal) ℓ) (c : Dev nD)

/-- The left factor at launch: row `r`, contracted coordinate `k`. -/
abbrev A (r k : ℕ) : EReal := at2 (n0 := 8192) (n1 := 2048) (m ((c : Thread nD τ).loc main_arg0)) r k

/-- The right factor at launch: contracted coordinate `k`, column `q`. -/
abbrev B (k q : ℕ) : EReal := at2 (n0 := 5888) (n1 := 2048) (m ((c : Thread nD τ).loc main_arg1)) q k

theorem index0 : ∀ t : Fin cfg0.N, win0_0.index t 0 = t.val % 16 ∧ win0_0.index t 1 = 0 :=
  (by decide +kernel : ∀ t : Fin grid0.N, win0_0.index t 0 = t.val % 16 ∧ win0_0.index t 1 = 0)

/-- Window 0's block at a point, entry by entry. -/
theorem block0 (t : Fin cfg0.N) (r : Fin 512) (l : Fin 2048) :
    (iblk m c 0 t : Vec Ideal S512x2048 .bf16) (ix2 r l)
      = at2 (n0 := 8192) (n1 := 2048) (m ((c : Thread nD τ).loc main_arg0)) ((t.val % 16) * 512 + r.val) ((0) * 2048 + l.val) := by
  unfold iblk
  rw [View.read_apply]
  show V m c main_arg0 _ = _
  rw [V_main_arg0]
  exact at2_block (index0 t) rfl rfl

theorem index1 : ∀ t : Fin cfg0.N, win0_1.index t 0 = t.val / 16 ∧ win0_1.index t 1 = 0 :=
  (by decide +kernel : ∀ t : Fin grid0.N, win0_1.index t 0 = t.val / 16 ∧ win0_1.index t 1 = 0)

/-- Window 1's block at a point, entry by entry. -/
theorem block1 (t : Fin cfg0.N) (r : Fin 2944) (l : Fin 2048) :
    (iblk m c 1 t : Vec Ideal S2944x2048 .bf16) (ix2 r l)
      = at2 (n0 := 5888) (n1 := 2048) (m ((c : Thread nD τ).loc main_arg1)) ((t.val / 16) * 2944 + r.val) ((0) * 2048 + l.val) := by
  unfold iblk
  rw [View.read_apply]
  show V m c main_arg1 _ = _
  rw [V_main_arg1]
  exact at2_block (index1 t) rfl rfl

theorem index2 : ∀ t : Fin cfg0.N, win0_2.index t 0 = 0 ∧ win0_2.index t 1 = t.val / 16 :=
  (by decide +kernel : ∀ t : Fin grid0.N, win0_2.index t 0 = 0 ∧ win0_2.index t 1 = t.val / 16)

/-- Window 2's block at a point, entry by entry. -/
theorem block2 (t : Fin cfg0.N) (r : Fin 1) (l : Fin 2944) :
    (iblk m c 2 t : Vec Ideal S1x2944 .f32) (ix2 r l)
      = at2 (n0 := 1) (n1 := 5888) (m ((c : Thread nD τ).loc main_arg2)) ((0) * 1 + r.val) ((t.val / 16) * 2944 + l.val) := by
  unfold iblk
  rw [View.read_apply]
  show V m c main_arg2 _ = _
  rw [V_main_arg2]
  exact at2_block (index2 t) rfl rfl

theorem index3 : ∀ t : Fin cfg0.N, win0_3.index t 0 = t.val % 16 ∧ win0_3.index t 1 = t.val / 16 :=
  (by decide +kernel : ∀ t : Fin grid0.N, win0_3.index t 0 = t.val % 16 ∧ win0_3.index t 1 = t.val / 16)

/-- The product of two blocks, plus the bias, entry by entry. -/
theorem prod_apply (x0 : Vec Ideal S512x2048 .bf16) (x1 : Vec Ideal S2944x2048 .bf16) (x2 : Vec Ideal S1x2944 .f32) (r : Fin 512) (l : Fin 2944) :
    k0_pay1 x0 x1 x2 (ix2 r l) = (∑ k : Fin 2048, x0 (ix2 r k) * x1 (ix2 l k)) + x2 (ix2 (0 : Fin 1) l) := by
  unfold k0_pay1
  pointwise

/-- The product of the two blocks at a point is the point's block of the whole sum. -/
theorem prod_blocks (t : Fin cfg0.N) (r : Fin 512) (l : Fin 2944) :
    k0_pay1 (iblk m c 0 t : Vec Ideal S512x2048 .bf16) (iblk m c 1 t : Vec Ideal S2944x2048 .bf16) (iblk m c 2 t : Vec Ideal S1x2944 .f32) (ix2 r l)
      = (∑ k : Fin 2048, A m c ((t.val % 16) * 512 + r.val) ((0) * 2048 + k.val) * B m c ((0) * 2048 + k.val) ((t.val / 16) * 2944 + l.val)) + (iblk m c 2 t : Vec Ideal S1x2944 .f32) (ix2 (0 : Fin 1) l) := by
  refine (prod_apply _ _ _ r l).trans (congrArg (· + _) (Finset.sum_congr rfl fun k _ => ?_))
  exact congrArg₂ (· * ·) (block0 m c t r k) (block1 m c t l k)

/-- The kernel's result at row `r` and column `q`. -/
def val (r q : ℕ) : EReal := dot 2048 (A m c) (B m c) r q + at2 (n0 := 1) (n1 := 5888) (m ((c : Thread nD τ).loc main_arg2)) 0 q

/-- The kernel's result array. -/
def arr : Buf (Elt Ideal) ((c : Thread nD τ).loc main_v0) := fun y : S8192x5888.Idx => val m c (y 0).val (y 1).val

/-- What a point leaves in the result block. -/
theorem val_after (t : Fin cfg0.N) (r : Fin 512) (l : Fin 2944) :
    out0_3 (iblk m c 0 t) (iblk m c 1 t) (iblk m c 2 t) (ix2 r l) = val m c ((t.val % 16) * 512 + r.val) ((t.val / 16) * 2944 + l.val) := by
  unfold out0_3
  refine (congrFun (View.canon_unit_zero (S := S512x2944) hz _ _) (ix2 r l)).trans ?_
  simp only [ld_whole]
  refine (prod_blocks m c t r l).trans (congrArg₂ (· + ·) (dot_first 2048 _ _ _ _ _ rfl) (block2 m c t 0 l))

attribute [local irreducible] dot

/-- The result array after the run. -/
theorem final : (dats m 0 c).arrAt 3 cfg0.N = arr m c := by
  refine (dats m 0 c).arrAt_eq_of_cover 3 (arr m c) (fun t hf => ?_) fun (i : S8192x5888.Idx) => ?_
  · rw [Value.flushed3]
    obtain ⟨h0, h1⟩ := index3 t
    funext y
    rw [View.read_apply]
    show out0_3 (iblk m c 0 t) (iblk m c 1 t) (iblk m c 2 t) y = val m c (win0_3.index t 0 * 512 + 1 * (y 0).val) (win0_3.index t 1 * 2944 + 1 * (y 1).val)
    refine (congrArg _ (eq_ix2 y)).trans ((val_after m c t _ _).trans ?_)
    rw [h0, h1]
    exact congrArg₂ (val m c) (by omega) (by omega)
  · have b0 : (i 0).val < 8192 := (i 0).isLt
    have b1 : (i 1).val < 5888 := (i 1).isLt
    have hN : cfg0.N = 32 := N_0
    obtain ⟨t, ht⟩ : ∃ t : Fin cfg0.N, t.val = ((i 1).val / 2944 * 16 + (i 0).val / 512) := ⟨⟨_, by omega⟩, rfl⟩
    refine ⟨t, flush0_3 t, ?_⟩
    show i ∈ ((View.whole main_v0).slice (win0_3.rect t)).set
    rw [View.set_slice_whole]
    exact mem_block (index3 t) (by omega) (by omega)

end Cert.ProjInIdeal.Final

end
-- ==== Proof.ProjInClaims.lean ====
/-
  The claims about the input projection: the frames, and the equality of the kernel's result with the reference's over the extended reals.
-/
module

public import proofs.«01_k».proof.Defs
public import proofs.«01_k».proof.Proof.ProjInValue
public import proofs.«01_k».proof.Proof.Gen.ProjIn.Frame
public import proofs.«01_k».proof.Proof.Gen.ProjInRefIdeal.Run

@[expose] public section

noncomputable section

namespace ProjInClaims

open Idealize.ShloMosaic Idealize.ShloMosaic.TcCoe Idealize.SL.Sem Cert Ffn

/-! The frames. -/

theorem frame_p : quiescent_ProjIn := fun m ρ _ => Cert.ProjIn.Gen.frame m ρ

theorem frame_pi : quiescent_ProjInIdeal := fun m ρ _ => Cert.ProjInIdeal.Gen.frame m ρ

theorem frame_ri : quiescent_ProjInRefIdeal := fun m ρ _ =>
  (θ_run _ _ _).mono (fun r h => ⟨fun c => (h c).2, sem_eq_zero_of_no_sems (by decide) r.2⟩) (Cert.ProjInRefIdeal.Value.run m ρ)

/-- No operation is rewritten. -/
theorem preserves : preserves_ProjIn_ProjInIdeal := trivial

/-- The sum over the contracted axis, in the arrays' own entries. -/
theorem val_entries (x0 : Vec Ideal ProjInIdeal.S8192x2048 .bf16) (x1 : Vec Ideal ProjInIdeal.S5888x2048 .bf16) (x2 : Vec Ideal ProjInIdeal.S1x5888 .f32) (i : Fin 8192) (j : Fin 5888) :
    (∑ k : Fin 2048, x0 (ix2 i k) * x1 (ix2 j k)) + x2 (ix2 (0 : Fin 1) j)
      = dot 2048 (fun r k => at2 (n0 := 8192) (n1 := 2048) x0 r k) (fun k q => at2 (n0 := 5888) (n1 := 2048) x1 q k) i.val j.val + at2 (n0 := 1) (n1 := 5888) x2 0 j.val :=
  (congrArg₂ (· + ·) ((dot_eq 2048 (fun r k => at2 (n0 := 8192) (n1 := 2048) x0 r k) (fun k q => at2 (n0 := 5888) (n1 := 2048) x1 q k) i.val j.val).trans
    (Finset.sum_congr rfl fun k _ => congrArg₂ (· * ·) (at2_eq x0 i k _ _ rfl rfl) (at2_eq x1 j k _ _ rfl rfl)))
    (at2_eq x2 (0 : Fin 1) j _ _ rfl rfl)).symm

/-- The kernel's result is the reference's. -/
theorem algebraic : algebraic_ProjInIdeal_ProjInRefIdeal := by
  intro m ρ m' ρ' _ hargs
  refine ⟨ProjInIdeal.Final.arr m, ?_, ?_⟩
  · refine (θ_run _ _ _).mono (fun r h c => ?_) (Cert.ProjInIdeal.Value.run_blocks m ρ)
    exact ⟨(h c).1.trans (ProjInIdeal.Final.final m c), (h c).2⟩
  · refine (θ_run _ _ _).mono (fun r h c => ?_) (Cert.ProjInRefIdeal.Value.run m' ρ')
    obtain ⟨h0, hrest⟩ := h c
    obtain ⟨e0, e1, e2⟩ := hargs c
    rw [e0, e1, e2] at h0
    refine ⟨h0.trans (funext fun y => (congrArg _ (eq_ix2 y)).trans (Eq.trans ?_ (val_entries (m ((c.tc : Thread ProjInIdeal.nD ProjInIdeal.τ).loc ProjInIdeal.main_arg0)) (m ((c.tc : Thread ProjInIdeal.nD ProjInIdeal.τ).loc ProjInIdeal.main_arg1)) (m ((c.tc : Thread ProjInIdeal.nD ProjInIdeal.τ).loc ProjInIdeal.main_arg2)) (y 0) (y 1)))), hrest⟩
    pointwise

end ProjInClaims

end
-- ==== Proof.BranchAValue.lean ====
/-
  The attention branch's projection: what the kernel leaves in its result array, entry by entry — the whole sum over the contracted axis.
-/
module

public import proofs.«01_k».proof.Proof.Product
public import proofs.«01_k».proof.Proof.Gen.BranchAIdeal.Value
public import Idealize.ShloMosaic.Lib.Pipeline.ReadBack
public import Idealize.ShloMosaic.Lib.Pointwise

@[expose] public section

noncomputable section

namespace Cert.BranchAIdeal.Final

open Cert.BranchAIdeal Cert.BranchAIdeal.Gen Idealize.ShloMosaic Idealize.ShloMosaic.TcCoe Idealize.SL.Sem Ffn

variable (m : (ℓ : Loc nD τ sig) → Buf (Elt Ideal) ℓ) (c : Dev nD)

/-- The left factor at launch: row `r`, contracted coordinate `k`. -/
abbrev A (r k : ℕ) : EReal := at2 (n0 := 8192) (n1 := 1024) (m ((c : Thread nD τ).loc main_arg0)) r k

/-- The right factor at launch: contracted coordinate `k`, column `q`. -/
abbrev B (k q : ℕ) : EReal := at2 (n0 := 1024) (n1 := 2048) (m ((c : Thread nD τ).loc main_arg1)) k q

theorem index0 : ∀ t : Fin cfg0.N, win0_0.index t 0 = t.val / 2 ∧ win0_0.index t 1 = 0 :=
  (by decide +kernel : ∀ t : Fin grid0.N, win0_0.index t 0 = t.val / 2 ∧ win0_0.index t 1 = 0)

/-- Window 0's block at a point, entry by entry. -/
theorem block0 (t : Fin cfg0.N) (r : Fin 1024) (l : Fin 1024) :
    (iblk m c 0 t : Vec Ideal S1024x1024 .bf16) (ix2 r l)
      = at2 (n0 := 8192) (n1 := 1024) (m ((c : Thread nD τ).loc main_arg0)) ((t.val / 2) * 1024 + r.val) ((0) * 1024 + l.val) := by
  unfold iblk
  rw [View.read_apply]
  show V m c main_arg0 _ = _
  rw [V_main_arg0]
  exact at2_block (index0 t) rfl rfl

theorem index1 : ∀ t : Fin cfg0.N, win0_1.index t 0 = 0 ∧ win0_1.index t 1 = t.val % 2 :=
  (by decide +kernel : ∀ t : Fin grid0.N, win0_1.index t 0 = 0 ∧ win0_1.index t 1 = t.val % 2)

/-- Window 1's block at a point, entry by entry. -/
theorem block1 (t : Fin cfg0.N) (r : Fin 1024) (l : Fin 1024) :
    (iblk m c 1 t : Vec Ideal S1024x1024 .bf16) (ix2 r l)
      = at2 (n0 := 1024) (n1 := 2048) (m ((c : Thread nD τ).loc main_arg1)) ((0) * 1024 + r.val) ((t.val % 2) * 1024 + l.val) := by
  unfold iblk
  rw [View.read_apply]
  show V m c main_arg1 _ = _
  rw [V_main_arg1]
  exact at2_block (index1 t) rfl rfl

theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- The product of two blocks, entry by entry. -/
theorem prod_apply (x0 : Vec Ideal S1024x1024 .bf16) (x1 : Vec Ideal S1024x1024 .bf16) (r : Fin 1024) (l : Fin 1024) :
    k0_pay1 x0 x1 (ix2 r l) = (∑ k : Fin 1024, x0 (ix2 r k) * x1 (ix2 k l)) := by
  unfold k0_pay1
  pointwise

/-- The product of the two blocks at a point is the point's block of the whole sum. -/
theorem prod_blocks (t : Fin cfg0.N) (r : Fin 1024) (l : Fin 1024) :
    k0_pay1 (iblk m c 0 t : Vec Ideal S1024x1024 .bf16) (iblk m c 1 t : Vec Ideal S1024x1024 .bf16) (ix2 r l)
      = (∑ k : Fin 1024, A m c ((t.val / 2) * 1024 + r.val) ((0) * 1024 + k.val) * B m c ((0) * 1024 + k.val) ((t.val % 2) * 1024 + l.val)) := by
  refine (prod_apply _ _ r l).trans (Finset.sum_congr rfl fun k _ => ?_)
  exact congrArg₂ (· * ·) (block0 m c t r k) (block1 m c t k l)

/-- The kernel's result at row `r` and column `q`. -/
def val (r q : ℕ) : EReal := dot 1024 (A m c) (B m c) r q

/-- The kernel's result array. -/
def arr : Buf (Elt Ideal) ((c : Thread nD τ).loc main_v0) := fun y : S8192x2048.Idx => val m c (y 0).val (y 1).val

/-- What a point leaves in the result block. -/
theorem val_after (t : Fin cfg0.N) (r : Fin 1024) (l : Fin 1024) :
    out0_2 (iblk m c 0 t) (iblk m c 1 t) (ix2 r l) = val m c ((t.val / 2) * 1024 + r.val) ((t.val % 2) * 1024 + l.val) := by
  unfold out0_2
  refine (congrFun (View.canon_unit_zero (S := S1024x1024) hz _ _) (ix2 r l)).trans ?_
  simp only [ld_whole]
  refine (prod_blocks m c t r l).trans ((dot_first 1024 _ _ _ _ _ rfl).trans rfl)

attribute [local irreducible] dot

/-- The result array after the run. -/
theorem final : (dats m 0 c).arrAt 2 cfg0.N = arr m c := by
  refine (dats m 0 c).arrAt_eq_of_cover 2 (arr m c) (fun t hf => ?_) fun (i : S8192x2048.Idx) => ?_
  · rw [Value.flushed2]
    obtain ⟨h0, h1⟩ := index2 t
    funext y
    rw [View.read_apply]
    show out0_2 (iblk m c 0 t) (iblk m c 1 t) y = val m c (win0_2.index t 0 * 1024 + 1 * (y 0).val) (win0_2.index t 1 * 1024 + 1 * (y 1).val)
    refine (congrArg _ (eq_ix2 y)).trans ((val_after m c t _ _).trans ?_)
    rw [h0, h1]
    exact congrArg₂ (val m c) (by omega) (by omega)
  · have b0 : (i 0).val < 8192 := (i 0).isLt
    have b1 : (i 1).val < 2048 := (i 1).isLt
    have hN : cfg0.N = 16 := N_0
    obtain ⟨t, ht⟩ : ∃ t : Fin cfg0.N, t.val = ((i 0).val / 1024 * 2 + (i 1).val / 1024) := ⟨⟨_, by omega⟩, rfl⟩
    refine ⟨t, flush0_2 t, ?_⟩
    show i ∈ ((View.whole main_v0).slice (win0_2.rect t)).set
    rw [View.set_slice_whole]
    exact mem_block (index2 t) (by omega) (by omega)

end Cert.BranchAIdeal.Final

end
-- ==== Proof.BranchAClaims.lean ====
/-
  The claims about the attention branch's projection: the frames, and the equality of the kernel's result with the reference's over the extended reals.
-/
module

public import proofs.«01_k».proof.Defs
public import proofs.«01_k».proof.Proof.BranchAValue
public import proofs.«01_k».proof.Proof.Gen.BranchA.Frame
public import proofs.«01_k».proof.Proof.Gen.BranchARefIdeal.Run

@[expose] public section

noncomputable section

namespace BranchAClaims

open Idealize.ShloMosaic Idealize.ShloMosaic.TcCoe Idealize.SL.Sem Cert Ffn

/-! The frames. -/

theorem frame_p : quiescent_BranchA := fun m ρ _ => Cert.BranchA.Gen.frame m ρ

theorem frame_pi : quiescent_BranchAIdeal := fun m ρ _ => Cert.BranchAIdeal.Gen.frame m ρ

theorem frame_ri : quiescent_BranchARefIdeal := fun m ρ _ =>
  (θ_run _ _ _).mono (fun r h => ⟨fun c => (h c).2, sem_eq_zero_of_no_sems (by decide) r.2⟩) (Cert.BranchARefIdeal.Value.run m ρ)

/-- No operation is rewritten. -/
theorem preserves : preserves_BranchA_BranchAIdeal := trivial

/-- The sum over the contracted axis, in the arrays' own entries. -/
theorem val_entries (x0 : Vec Ideal BranchAIdeal.S8192x1024 .bf16) (x1 : Vec Ideal BranchAIdeal.S1024x2048 .bf16) (i : Fin 8192) (j : Fin 2048) :
    (∑ k : Fin 1024, x0 (ix2 i k) * x1 (ix2 k j))
      = dot 1024 (fun r k => at2 (n0 := 8192) (n1 := 1024) x0 r k) (fun k q => at2 (n0 := 1024) (n1 := 2048) x1 k q) i.val j.val :=
  ((dot_eq 1024 (fun r k => at2 (n0 := 8192) (n1 := 1024) x0 r k) (fun k q => at2 (n0 := 1024) (n1 := 2048) x1 k q) i.val j.val).trans
    (Finset.sum_congr rfl fun k _ => congrArg₂ (· * ·) (at2_eq x0 i k _ _ rfl rfl) (at2_eq x1 k j _ _ rfl rfl))).symm

/-- The kernel's result is the reference's. -/
theorem algebraic : algebraic_BranchAIdeal_BranchARefIdeal := by
  intro m ρ m' ρ' _ hargs
  refine ⟨BranchAIdeal.Final.arr m, ?_, ?_⟩
  · refine (θ_run _ _ _).mono (fun r h c => ?_) (Cert.BranchAIdeal.Value.run_blocks m ρ)
    exact ⟨(h c).1.trans (BranchAIdeal.Final.final m c), (h c).2⟩
  · refine (θ_run _ _ _).mono (fun r h c => ?_) (Cert.BranchARefIdeal.Value.run m' ρ')
    obtain ⟨h0, hrest⟩ := h c
    obtain ⟨e0, e1⟩ := hargs c
    rw [e0, e1] at h0
    refine ⟨h0.trans (funext fun y => (congrArg _ (eq_ix2 y)).trans (Eq.trans ?_ (val_entries (m ((c.tc : Thread BranchAIdeal.nD BranchAIdeal.τ).loc BranchAIdeal.main_arg0)) (m ((c.tc : Thread BranchAIdeal.nD BranchAIdeal.τ).loc BranchAIdeal.main_arg1)) (y 0) (y 1)))), hrest⟩
    pointwise

end BranchAClaims

end
-- ==== Proof.BranchSValue.lean ====
/-
  The state-space branch's projection: what the kernel leaves in its result array, entry by entry — the whole sum over the contracted axis.
-/
module

public import proofs.«01_k».proof.Proof.Product
public import proofs.«01_k».proof.Proof.Gen.BranchSIdeal.Value
public import Idealize.ShloMosaic.Lib.Pipeline.ReadBack
public import Idealize.ShloMosaic.Lib.Pointwise

@[expose] public section

noncomputable section

namespace Cert.BranchSIdeal.Final

open Cert.BranchSIdeal Cert.BranchSIdeal.Gen Idealize.ShloMosaic Idealize.ShloMosaic.TcCoe Idealize.SL.Sem Ffn

variable (m : (ℓ : Loc nD τ sig) → Buf (Elt Ideal) ℓ) (c : Dev nD)

/-- The left factor at launch: row `r`, contracted coordinate `k`. -/
abbrev A (r k : ℕ) : EReal := at2 (n0 := 8192) (n1 := 512) (m ((c : Thread nD τ).loc main_arg0)) r k

/-- The right factor at launch: contracted coordinate `k`, column `q`. -/
abbrev B (k q : ℕ) : EReal := at2 (n0 := 512) (n1 := 2048) (m ((c : Thread nD τ).loc main_arg1)) k q

theorem index0 : ∀ t : Fin cfg0.N, win0_0.index t 0 = t.val / 2 ∧ win0_0.index t 1 = 0 :=
  (by decide +kernel : ∀ t : Fin grid0.N, win0_0.index t 0 = t.val / 2 ∧ win0_0.index t 1 = 0)

/-- Window 0's block at a point, entry by entry. -/
theorem block0 (t : Fin cfg0.N) (r : Fin 1024) (l : Fin 512) :
    (iblk m c 0 t : Vec Ideal S1024x512 .bf16) (ix2 r l)
      = at2 (n0 := 8192) (n1 := 512) (m ((c : Thread nD τ).loc main_arg0)) ((t.val / 2) * 1024 + r.val) ((0) * 512 + l.val) := by
  unfold iblk
  rw [View.read_apply]
  show V m c main_arg0 _ = _
  rw [V_main_arg0]
  exact at2_block (index0 t) rfl rfl

theorem index1 : ∀ t : Fin cfg0.N, win0_1.index t 0 = 0 ∧ win0_1.index t 1 = t.val % 2 :=
  (by decide +kernel : ∀ t : Fin grid0.N, win0_1.index t 0 = 0 ∧ win0_1.index t 1 = t.val % 2)

/-- Window 1's block at a point, entry by entry. -/
theorem block1 (t : Fin cfg0.N) (r : Fin 512) (l : Fin 1024) :
    (iblk m c 1 t : Vec Ideal S512x1024 .bf16) (ix2 r l)
      = at2 (n0 := 512) (n1 := 2048) (m ((c : Thread nD τ).loc main_arg1)) ((0) * 512 + r.val) ((t.val % 2) * 1024 + l.val) := by
  unfold iblk
  rw [View.read_apply]
  show V m c main_arg1 _ = _
  rw [V_main_arg1]
  exact at2_block (index1 t) rfl rfl

theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- The product of two blocks, entry by entry. -/
theorem prod_apply (x0 : Vec Ideal S1024x512 .bf16) (x1 : Vec Ideal S512x1024 .bf16) (r : Fin 1024) (l : Fin 1024) :
    k0_pay1 x0 x1 (ix2 r l) = (∑ k : Fin 512, x0 (ix2 r k) * x1 (ix2 k l)) := by
  unfold k0_pay1
  pointwise

/-- The product of the two blocks at a point is the point's block of the whole sum. -/
theorem prod_blocks (t : Fin cfg0.N) (r : Fin 1024) (l : Fin 1024) :
    k0_pay1 (iblk m c 0 t : Vec Ideal S1024x512 .bf16) (iblk m c 1 t : Vec Ideal S512x1024 .bf16) (ix2 r l)
      = (∑ k : Fin 512, A m c ((t.val / 2) * 1024 + r.val) ((0) * 512 + k.val) * B m c ((0) * 512 + k.val) ((t.val % 2) * 1024 + l.val)) := by
  refine (prod_apply _ _ r l).trans (Finset.sum_congr rfl fun k _ => ?_)
  exact congrArg₂ (· * ·) (block0 m c t r k) (block1 m c t k l)

/-- The kernel's result at row `r` and column `q`. -/
def val (r q : ℕ) : EReal := dot 512 (A m c) (B m c) r q

/-- The kernel's result array. -/
def arr : Buf (Elt Ideal) ((c : Thread nD τ).loc main_v0) := fun y : S8192x2048.Idx => val m c (y 0).val (y 1).val

/-- What a point leaves in the result block. -/
theorem val_after (t : Fin cfg0.N) (r : Fin 1024) (l : Fin 1024) :
    out0_2 (iblk m c 0 t) (iblk m c 1 t) (ix2 r l) = val m c ((t.val / 2) * 1024 + r.val) ((t.val % 2) * 1024 + l.val) := by
  unfold out0_2
  refine (congrFun (View.canon_unit_zero (S := S1024x1024) hz _ _) (ix2 r l)).trans ?_
  simp only [ld_whole]
  refine (prod_blocks m c t r l).trans ((dot_first 512 _ _ _ _ _ rfl).trans rfl)

attribute [local irreducible] dot

/-- The result array after the run. -/
theorem final : (dats m 0 c).arrAt 2 cfg0.N = arr m c := by
  refine (dats m 0 c).arrAt_eq_of_cover 2 (arr m c) (fun t hf => ?_) fun (i : S8192x2048.Idx) => ?_
  · rw [Value.flushed2]
    obtain ⟨h0, h1⟩ := index2 t
    funext y
    rw [View.read_apply]
    show out0_2 (iblk m c 0 t) (iblk m c 1 t) y = val m c (win0_2.index t 0 * 1024 + 1 * (y 0).val) (win0_2.index t 1 * 1024 + 1 * (y 1).val)
    refine (congrArg _ (eq_ix2 y)).trans ((val_after m c t _ _).trans ?_)
    rw [h0, h1]
    exact congrArg₂ (val m c) (by omega) (by omega)
  · have b0 : (i 0).val < 8192 := (i 0).isLt
    have b1 : (i 1).val < 2048 := (i 1).isLt
    have hN : cfg0.N = 16 := N_0
    obtain ⟨t, ht⟩ : ∃ t : Fin cfg0.N, t.val = ((i 0).val / 1024 * 2 + (i 1).val / 1024) := ⟨⟨_, by omega⟩, rfl⟩
    refine ⟨t, flush0_2 t, ?_⟩
    show i ∈ ((View.whole main_v0).slice (win0_2.rect t)).set
    rw [View.set_slice_whole]
    exact mem_block (index2 t) (by omega) (by omega)

end Cert.BranchSIdeal.Final

end
-- ==== Proof.BranchSClaims.lean ====
/-
  The claims about the state-space branch's projection: the frames, and the equality of the kernel's result with the reference's over the extended reals.
-/
module

public import proofs.«01_k».proof.Defs
public import proofs.«01_k».proof.Proof.BranchSValue
public import proofs.«01_k».proof.Proof.Gen.BranchS.Frame
public import proofs.«01_k».proof.Proof.Gen.BranchSRefIdeal.Run

@[expose] public section

noncomputable section

namespace BranchSClaims

open Idealize.ShloMosaic Idealize.ShloMosaic.TcCoe Idealize.SL.Sem Cert Ffn

/-! The frames. -/

theorem frame_p : quiescent_BranchS := fun m ρ _ => Cert.BranchS.Gen.frame m ρ

theorem frame_pi : quiescent_BranchSIdeal := fun m ρ _ => Cert.BranchSIdeal.Gen.frame m ρ

theorem frame_ri : quiescent_BranchSRefIdeal := fun m ρ _ =>
  (θ_run _ _ _).mono (fun r h => ⟨fun c => (h c).2, sem_eq_zero_of_no_sems (by decide) r.2⟩) (Cert.BranchSRefIdeal.Value.run m ρ)

/-- No operation is rewritten. -/
theorem preserves : preserves_BranchS_BranchSIdeal := trivial

/-- The sum over the contracted axis, in the arrays' own entries. -/
theorem val_entries (x0 : Vec Ideal BranchSIdeal.S8192x512 .bf16) (x1 : Vec Ideal BranchSIdeal.S512x2048 .bf16) (i : Fin 8192) (j : Fin 2048) :
    (∑ k : Fin 512, x0 (ix2 i k) * x1 (ix2 k j))
      = dot 512 (fun r k => at2 (n0 := 8192) (n1 := 512) x0 r k) (fun k q => at2 (n0 := 512) (n1 := 2048) x1 k q) i.val j.val :=
  ((dot_eq 512 (fun r k => at2 (n0 := 8192) (n1 := 512) x0 r k) (fun k q => at2 (n0 := 512) (n1 := 2048) x1 k q) i.val j.val).trans
    (Finset.sum_congr rfl fun k _ => congrArg₂ (· * ·) (at2_eq x0 i k _ _ rfl rfl) (at2_eq x1 k j _ _ rfl rfl))).symm

/-- The kernel's result is the reference's. -/
theorem algebraic : algebraic_BranchSIdeal_BranchSRefIdeal := by
  intro m ρ m' ρ' _ hargs
  refine ⟨BranchSIdeal.Final.arr m, ?_, ?_⟩
  · refine (θ_run _ _ _).mono (fun r h c => ?_) (Cert.BranchSIdeal.Value.run_blocks m ρ)
    exact ⟨(h c).1.trans (BranchSIdeal.Final.final m c), (h c).2⟩
  · refine (θ_run _ _ _).mono (fun r h c => ?_) (Cert.BranchSRefIdeal.Value.run m' ρ')
    obtain ⟨h0, hrest⟩ := h c
    obtain ⟨e0, e1⟩ := hargs c
    rw [e0, e1] at h0
    refine ⟨h0.trans (funext fun y => (congrArg _ (eq_ix2 y)).trans (Eq.trans ?_ (val_entries (m ((c.tc : Thread BranchSIdeal.nD BranchSIdeal.τ).loc BranchSIdeal.main_arg0)) (m ((c.tc : Thread BranchSIdeal.nD BranchSIdeal.τ).loc BranchSIdeal.main_arg1)) (y 0) (y 1)))), hrest⟩
    pointwise

end BranchSClaims

end
-- ==== Proof.ProjOutValue.lean ====
/-
  The output projection added to the residual: what the kernel leaves in its result array, entry by entry — the whole sum over the contracted axis.
-/
module

public import proofs.«01_k».proof.Proof.Product
public import proofs.«01_k».proof.Proof.Gen.ProjOutIdeal.Value
public import Idealize.ShloMosaic.Lib.Pipeline.ReadBack
public import Idealize.ShloMosaic.Lib.Pointwise

@[expose] public section

noncomputable section

namespace Cert.ProjOutIdeal.Final

open Cert.ProjOutIdeal Cert.ProjOutIdeal.Gen Idealize.ShloMosaic Idealize.ShloMosaic.TcCoe Idealize.SL.Sem Ffn

variable (m : (ℓ : Loc nD τ sig) → Buf (Elt Ideal) ℓ) (c : Dev nD)

/-- The left factor at launch: row `r`, contracted coordinate `k`. -/
abbrev A (r k : ℕ) : EReal := at2 (n0 := 8192) (n1 := 2048) (m ((c : Thread nD τ).loc main_arg0)) r k

/-- The right factor at launch: contracted coordinate `k`, column `q`. -/
abbrev B (k q : ℕ) : EReal := at2 (n0 := 2048) (n1 := 2048) (m ((c : Thread nD τ).loc main_arg1)) k q

theorem index0 : ∀ t : Fin cfg0.N, win0_0.index t 0 = t.val % 8 ∧ win0_0.index t 1 = 0 :=
  (by decide +kernel : ∀ t : Fin grid0.N, win0_0.index t 0 = t.val % 8 ∧ win0_0.index t 1 = 0)

/-- Window 0's block at a point, entry by entry. -/
theorem block0 (t : Fin cfg0.N) (r : Fin 1024) (l : Fin 2048) :
    (iblk m c 0 t : Vec Ideal S1024x2048 .bf16) (ix2 r l)
      = at2 (n0 := 8192) (n1 := 2048) (m ((c : Thread nD τ).loc main_arg0)) ((t.val % 8) * 1024 + r.val) ((0) * 2048 + l.val) := by
  unfold iblk
  rw [View.read_apply]
  show V m c main_arg0 _ = _
  rw [V_main_arg0]
  exact at2_block (index0 t) rfl rfl

theorem index1 : ∀ t : Fin cfg0.N, win0_1.index t 0 = 0 ∧ win0_1.index t 1 = t.val / 8 :=
  (by decide +kernel : ∀ t : Fin grid0.N, win0_1.index t 0 = 0 ∧ win0_1.index t 1 = t.val / 8)

/-- Window 1's block at a point, entry by entry. -/
theorem block1 (t : Fin cfg0.N) (r : Fin 2048) (l : Fin 1024) :
    (iblk m c 1 t : Vec Ideal S2048x1024 .bf16) (ix2 r l)
      = at2 (n0 := 2048) (n1 := 2048) (m ((c : Thread nD τ).loc main_arg1)) ((0) * 2048 + r.val) ((t.val / 8) * 1024 + l.val) := by
  unfold iblk
  rw [View.read_apply]
  show V m c main_arg1 _ = _
  rw [V_main_arg1]
  exact at2_block (index1 t) rfl rfl

theorem index2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

/-- Window 2's block at a point, entry by entry. -/
theorem block2 (t : Fin cfg0.N) (r : Fin 1024) (l : Fin 1024) :
    (iblk m c 2 t : Vec Ideal S1024x1024 .f32) (ix2 r l)
      = at2 (n0 := 8192) (n1 := 2048) (m ((c : Thread nD τ).loc main_arg2)) ((t.val % 8) * 1024 + r.val) ((t.val / 8) * 1024 + l.val) := by
  unfold iblk
  rw [View.read_apply]
  show V m c main_arg2 _ = _
  rw [V_main_arg2]
  exact at2_block (index2 t) rfl rfl

theorem index3 : ∀ t : Fin cfg0.N, win0_3.index t 0 = t.val % 8 ∧ win0_3.index t 1 = t.val / 8 :=
  (by decide +kernel : ∀ t : Fin grid0.N, win0_3.index t 0 = t.val % 8 ∧ win0_3.index t 1 = t.val / 8)

/-- The product of two blocks, plus the residual, entry by entry. -/
theorem prod_apply (x0 : Vec Ideal S1024x2048 .bf16) (x1 : Vec Ideal S2048x1024 .bf16) (x2 : Vec Ideal S1024x1024 .f32) (r : Fin 1024) (l : Fin 1024) :
    k0_pay1 x0 x1 x2 (ix2 r l) = (∑ k : Fin 2048, x0 (ix2 r k) * x1 (ix2 k l)) + x2 (ix2 r l) := by
  unfold k0_pay1
  pointwise

/-- The product of the two blocks at a point is the point's block of the whole sum. -/
theorem prod_blocks (t : Fin cfg0.N) (r : Fin 1024) (l : Fin 1024) :
    k0_pay1 (iblk m c 0 t : Vec Ideal S1024x2048 .bf16) (iblk m c 1 t : Vec Ideal S2048x1024 .bf16) (iblk m c 2 t : Vec Ideal S1024x1024 .f32) (ix2 r l)
      = (∑ k : Fin 2048, A m c ((t.val % 8) * 1024 + r.val) ((0) * 2048 + k.val) * B m c ((0) * 2048 + k.val) ((t.val / 8) * 1024 + l.val)) + (iblk m c 2 t : Vec Ideal S1024x1024 .f32) (ix2 r l) := by
  refine (prod_apply _ _ _ r l).trans (congrArg (· + _) (Finset.sum_congr rfl fun k _ => ?_))
  exact congrArg₂ (· * ·) (block0 m c t r k) (block1 m c t k l)

/-- The kernel's result at row `r` and column `q`. -/
def val (r q : ℕ) : EReal := dot 2048 (A m c) (B m c) r q + at2 (n0 := 8192) (n1 := 2048) (m ((c : Thread nD τ).loc main_arg2)) r q

/-- The kernel's result array. -/
def arr : Buf (Elt Ideal) ((c : Thread nD τ).loc main_v0) := fun y : S8192x2048.Idx => val m c (y 0).val (y 1).val

/-- What a point leaves in the result block. -/
theorem val_after (t : Fin cfg0.N) (r : Fin 1024) (l : Fin 1024) :
    out0_3 (iblk m c 0 t) (iblk m c 1 t) (iblk m c 2 t) (ix2 r l) = val m c ((t.val % 8) * 1024 + r.val) ((t.val / 8) * 1024 + l.val) := by
  unfold out0_3
  refine (congrFun (View.canon_unit_zero (S := S1024x1024) hz _ _) (ix2 r l)).trans ?_
  simp only [ld_whole]
  refine (prod_blocks m c t r l).trans (congrArg₂ (· + ·) (dot_first 2048 _ _ _ _ _ rfl) (block2 m c t r l))

attribute [local irreducible] dot

/-- The result array after the run. -/
theorem final : (dats m 0 c).arrAt 3 cfg0.N = arr m c := by
  refine (dats m 0 c).arrAt_eq_of_cover 3 (arr m c) (fun t hf => ?_) fun (i : S8192x2048.Idx) => ?_
  · rw [Value.flushed3]
    obtain ⟨h0, h1⟩ := index3 t
    funext y
    rw [View.read_apply]
    show out0_3 (iblk m c 0 t) (iblk m c 1 t) (iblk m c 2 t) y = val m c (win0_3.index t 0 * 1024 + 1 * (y 0).val) (win0_3.index t 1 * 1024 + 1 * (y 1).val)
    refine (congrArg _ (eq_ix2 y)).trans ((val_after m c t _ _).trans ?_)
    rw [h0, h1]
    exact congrArg₂ (val m c) (by omega) (by omega)
  · have b0 : (i 0).val < 8192 := (i 0).isLt
    have b1 : (i 1).val < 2048 := (i 1).isLt
    have hN : cfg0.N = 16 := N_0
    obtain ⟨t, ht⟩ : ∃ t : Fin cfg0.N, t.val = ((i 1).val / 1024 * 8 + (i 0).val / 1024) := ⟨⟨_, by omega⟩, rfl⟩
    refine ⟨t, flush0_3 t, ?_⟩
    show i ∈ ((View.whole main_v0).slice (win0_3.rect t)).set
    rw [View.set_slice_whole]
    exact mem_block (index3 t) (by omega) (by omega)

end Cert.ProjOutIdeal.Final

end
-- ==== Proof.ProjOutClaims.lean ====
/-
  The claims about the output projection: the frames, and the equality of the kernel's result with the reference's over the extended reals.
-/
module

public import proofs.«01_k».proof.Defs
public import proofs.«01_k».proof.Proof.ProjOutValue
public import proofs.«01_k».proof.Proof.Gen.ProjOut.Frame
public import proofs.«01_k».proof.Proof.Gen.ProjOutRefIdeal.Run

@[expose] public section

noncomputable section

namespace ProjOutClaims

open Idealize.ShloMosaic Idealize.ShloMosaic.TcCoe Idealize.SL.Sem Cert Ffn

/-! The frames. -/

theorem frame_p : quiescent_ProjOut := fun m ρ _ => Cert.ProjOut.Gen.frame m ρ

theorem frame_pi : quiescent_ProjOutIdeal := fun m ρ _ => Cert.ProjOutIdeal.Gen.frame m ρ

theorem frame_ri : quiescent_ProjOutRefIdeal := fun m ρ _ =>
  (θ_run _ _ _).mono (fun r h => ⟨fun c => (h c).2, sem_eq_zero_of_no_sems (by decide) r.2⟩) (Cert.ProjOutRefIdeal.Value.run m ρ)

/-- No operation is rewritten. -/
theorem preserves : preserves_ProjOut_ProjOutIdeal := trivial

/-- The sum over the contracted axis, in the arrays' own entries. -/
theorem val_entries (x0 : Vec Ideal ProjOutIdeal.S8192x2048 .bf16) (x1 : Vec Ideal ProjOutIdeal.S2048x2048 .bf16) (x2 : Vec Ideal ProjOutIdeal.S8192x2048 .f32) (i : Fin 8192) (j : Fin 2048) :
    (∑ k : Fin 2048, x0 (ix2 i k) * x1 (ix2 k j)) + x2 (ix2 i j)
      = dot 2048 (fun r k => at2 (n0 := 8192) (n1 := 2048) x0 r k) (fun k q => at2 (n0 := 2048) (n1 := 2048) x1 k q) i.val j.val + at2 (n0 := 8192) (n1 := 2048) x2 i.val j.val :=
  (congrArg₂ (· + ·) ((dot_eq 2048 (fun r k => at2 (n0 := 8192) (n1 := 2048) x0 r k) (fun k q => at2 (n0 := 2048) (n1 := 2048) x1 k q) i.val j.val).trans
    (Finset.sum_congr rfl fun k _ => congrArg₂ (· * ·) (at2_eq x0 i k _ _ rfl rfl) (at2_eq x1 k j _ _ rfl rfl)))
    (at2_eq x2 i j _ _ rfl rfl)).symm

/-- The kernel's result is the reference's. -/
theorem algebraic : algebraic_ProjOutIdeal_ProjOutRefIdeal := by
  intro m ρ m' ρ' _ hargs
  refine ⟨ProjOutIdeal.Final.arr m, ?_, ?_⟩
  · refine (θ_run _ _ _).mono (fun r h c => ?_) (Cert.ProjOutIdeal.Value.run_blocks m ρ)
    exact ⟨(h c).1.trans (ProjOutIdeal.Final.final m c), (h c).2⟩
  · refine (θ_run _ _ _).mono (fun r h c => ?_) (Cert.ProjOutRefIdeal.Value.run m' ρ')
    obtain ⟨h0, hrest⟩ := h c
    obtain ⟨e0, e1, e2⟩ := hargs c
    rw [e0, e1, e2] at h0
    refine ⟨h0.trans (funext fun y => (congrArg _ (eq_ix2 y)).trans (Eq.trans ?_ (val_entries (m ((c.tc : Thread ProjOutIdeal.nD ProjOutIdeal.τ).loc ProjOutIdeal.main_arg0)) (m ((c.tc : Thread ProjOutIdeal.nD ProjOutIdeal.τ).loc ProjOutIdeal.main_arg1)) (m ((c.tc : Thread ProjOutIdeal.nD ProjOutIdeal.τ).loc ProjOutIdeal.main_arg2)) (y 0) (y 1)))), hrest⟩
    pointwise
    exact add_comm _ _

end ProjOutClaims

end
-- ==== Proof.ProjUpValue.lean ====
/-
  The up-projection: what the kernel leaves in its result array, entry by entry — the whole sum over the contracted axis.
-/
module

public import proofs.«01_k».proof.Proof.Product
public import proofs.«01_k».proof.Proof.Gen.ProjUpIdeal.Value
public import Idealize.ShloMosaic.Lib.Pipeline.ReadBack
public import Idealize.ShloMosaic.Lib.Pointwise

@[expose] public section

noncomputable section

namespace Cert.ProjUpIdeal.Final

open Cert.ProjUpIdeal Cert.ProjUpIdeal.Gen Idealize.ShloMosaic Idealize.ShloMosaic.TcCoe Idealize.SL.Sem Ffn

variable (m : (ℓ : Loc nD τ sig) → Buf (Elt Ideal) ℓ) (c : Dev nD)

/-- The left factor at launch: row `r`, contracted coordinate `k`. -/
abbrev A (r k : ℕ) : EReal := at2 (n0 := 8192) (n1 := 2048) (m ((c : Thread nD τ).loc main_arg0)) r k

/-- The right factor at launch: contracted coordinate `k`, column `q`. -/
abbrev B (k q : ℕ) : EReal := at2 (n0 := 2048) (n1 := 11264) (m ((c : Thread nD τ).loc main_arg1)) k q

theorem index0 : ∀ t : Fin cfg0.N, win0_0.index t 0 = t.val / 11 ∧ win0_0.index t 1 = 0 :=
  (by decide +kernel : ∀ t : Fin grid0.N, win0_0.index t 0 = t.val / 11 ∧ win0_0.index t 1 = 0)

/-- Window 0's block at a point, entry by entry. -/
theorem block0 (t : Fin cfg0.N) (r : Fin 1024) (l : Fin 2048) :
    (iblk m c 0 t : Vec Ideal S1024x2048 .bf16) (ix2 r l)
      = at2 (n0 := 8192) (n1 := 2048) (m ((c : Thread nD τ).loc main_arg0)) ((t.val / 11) * 1024 + r.val) ((0) * 2048 + l.val) := by
  unfold iblk
  rw [View.read_apply]
  show V m c main_arg0 _ = _
  rw [V_main_arg0]
  exact at2_block (index0 t) rfl rfl

theorem index1 : ∀ t : Fin cfg0.N, win0_1.index t 0 = 0 ∧ win0_1.index t 1 = t.val % 11 :=
  (by decide +kernel : ∀ t : Fin grid0.N, win0_1.index t 0 = 0 ∧ win0_1.index t 1 = t.val % 11)

/-- Window 1's block at a point, entry by entry. -/
theorem block1 (t : Fin cfg0.N) (r : Fin 2048) (l : Fin 1024) :
    (iblk m c 1 t : Vec Ideal S2048x1024 .bf16) (ix2 r l)
      = at2 (n0 := 2048) (n1 := 11264) (m ((c : Thread nD τ).loc main_arg1)) ((0) * 2048 + r.val) ((t.val % 11) * 1024 + l.val) := by
  unfold iblk
  rw [View.read_apply]
  show V m c main_arg1 _ = _
  rw [V_main_arg1]
  exact at2_block (index1 t) rfl rfl

theorem index2 : ∀ t : Fin cfg0.N, win0_2.index t 0 = t.val / 11 ∧ win0_2.index t 1 = t.val % 11 :=
  (by decide +kernel : ∀ t : Fin grid0.N, win0_2.index t 0 = t.val / 11 ∧ win0_2.index t 1 = t.val % 11)

/-- The product of two blocks, entry by entry. -/
theorem prod_apply (x0 : Vec Ideal S1024x2048 .bf16) (x1 : Vec Ideal S2048x1024 .bf16) (r : Fin 1024) (l : Fin 1024) :
    k0_pay1 x0 x1 (ix2 r l) = (∑ k : Fin 2048, x0 (ix2 r k) * x1 (ix2 k l)) := by
  unfold k0_pay1
  pointwise

/-- The product of the two blocks at a point is the point's block of the whole sum. -/
theorem prod_blocks (t : Fin cfg0.N) (r : Fin 1024) (l : Fin 1024) :
    k0_pay1 (iblk m c 0 t : Vec Ideal S1024x2048 .bf16) (iblk m c 1 t : Vec Ideal S2048x1024 .bf16) (ix2 r l)
      = (∑ k : Fin 2048, A m c ((t.val / 11) * 1024 + r.val) ((0) * 2048 + k.val) * B m c ((0) * 2048 + k.val) ((t.val % 11) * 1024 + l.val)) := by
  refine (prod_apply _ _ r l).trans (Finset.sum_congr rfl fun k _ => ?_)
  exact congrArg₂ (· * ·) (block0 m c t r k) (block1 m c t k l)

/-- The kernel's result at row `r` and column `q`. -/
def val (r q : ℕ) : EReal := dot 2048 (A m c) (B m c) r q

/-- The kernel's result array. -/
def arr : Buf (Elt Ideal) ((c : Thread nD τ).loc main_v0) := fun y : S8192x11264.Idx => val m c (y 0).val (y 1).val

/-- What a point leaves in the result block. -/
theorem val_after (t : Fin cfg0.N) (r : Fin 1024) (l : Fin 1024) :
    out0_2 (iblk m c 0 t) (iblk m c 1 t) (ix2 r l) = val m c ((t.val / 11) * 1024 + r.val) ((t.val % 11) * 1024 + l.val) := by
  unfold out0_2
  refine (congrFun (View.canon_unit_zero (S := S1024x1024) hz _ _) (ix2 r l)).trans ?_
  simp only [ld_whole]
  refine (prod_blocks m c t r l).trans ((dot_first 2048 _ _ _ _ _ rfl).trans rfl)

attribute [local irreducible] dot

/-- The result array after the run. -/
theorem final : (dats m 0 c).arrAt 2 cfg0.N = arr m c := by
  refine (dats m 0 c).arrAt_eq_of_cover 2 (arr m c) (fun t hf => ?_) fun (i : S8192x11264.Idx) => ?_
  · rw [Value.flushed2]
    obtain ⟨h0, h1⟩ := index2 t
    funext y
    rw [View.read_apply]
    show out0_2 (iblk m c 0 t) (iblk m c 1 t) y = val m c (win0_2.index t 0 * 1024 + 1 * (y 0).val) (win0_2.index t 1 * 1024 + 1 * (y 1).val)
    refine (congrArg _ (eq_ix2 y)).trans ((val_after m c t _ _).trans ?_)
    rw [h0, h1]
    exact congrArg₂ (val m c) (by omega) (by omega)
  · have b0 : (i 0).val < 8192 := (i 0).isLt
    have b1 : (i 1).val < 11264 := (i 1).isLt
    have hN : cfg0.N = 88 := N_0
    obtain ⟨t, ht⟩ : ∃ t : Fin cfg0.N, t.val = ((i 0).val / 1024 * 11 + (i 1).val / 1024) := ⟨⟨_, by omega⟩, rfl⟩
    refine ⟨t, flush0_2 t, ?_⟩
    show i ∈ ((View.whole main_v0).slice (win0_2.rect t)).set
    rw [View.set_slice_whole]
    exact mem_block (index2 t) (by omega) (by omega)

end Cert.ProjUpIdeal.Final

end
-- ==== Proof.ProjUpClaims.lean ====
/-
  The claims about the up-projection: the frames, and the equality of the kernel's result with the reference's over the extended reals.
-/
module

public import proofs.«01_k».proof.Defs
public import proofs.«01_k».proof.Proof.ProjUpValue
public import proofs.«01_k».proof.Proof.Gen.ProjUp.Frame
public import proofs.«01_k».proof.Proof.Gen.ProjUpRefIdeal.Run

@[expose] public section

noncomputable section

namespace ProjUpClaims

open Idealize.ShloMosaic Idealize.ShloMosaic.TcCoe Idealize.SL.Sem Cert Ffn

/-! The frames. -/

theorem frame_p : quiescent_ProjUp := fun m ρ _ => Cert.ProjUp.Gen.frame m ρ

theorem frame_pi : quiescent_ProjUpIdeal := fun m ρ _ => Cert.ProjUpIdeal.Gen.frame m ρ

theorem frame_ri : quiescent_ProjUpRefIdeal := fun m ρ _ =>
  (θ_run _ _ _).mono (fun r h => ⟨fun c => (h c).2, sem_eq_zero_of_no_sems (by decide) r.2⟩) (Cert.ProjUpRefIdeal.Value.run m ρ)

/-- No operation is rewritten. -/
theorem preserves : preserves_ProjUp_ProjUpIdeal := trivial

/-- The sum over the contracted axis, in the arrays' own entries. -/
theorem val_entries (x0 : Vec Ideal ProjUpIdeal.S8192x2048 .bf16) (x1 : Vec Ideal ProjUpIdeal.S2048x11264 .bf16) (i : Fin 8192) (j : Fin 11264) :
    (∑ k : Fin 2048, x0 (ix2 i k) * x1 (ix2 k j))
      = dot 2048 (fun r k => at2 (n0 := 8192) (n1 := 2048) x0 r k) (fun k q => at2 (n0 := 2048) (n1 := 11264) x1 k q) i.val j.val :=
  ((dot_eq 2048 (fun r k => at2 (n0 := 8192) (n1 := 2048) x0 r k) (fun k q => at2 (n0 := 2048) (n1 := 11264) x1 k q) i.val j.val).trans
    (Finset.sum_congr rfl fun k _ => congrArg₂ (· * ·) (at2_eq x0 i k _ _ rfl rfl) (at2_eq x1 k j _ _ rfl rfl))).symm

/-- The kernel's result is the reference's. -/
theorem algebraic : algebraic_ProjUpIdeal_ProjUpRefIdeal := by
  intro m ρ m' ρ' _ hargs
  refine ⟨ProjUpIdeal.Final.arr m, ?_, ?_⟩
  · refine (θ_run _ _ _).mono (fun r h c => ?_) (Cert.ProjUpIdeal.Value.run_blocks m ρ)
    exact ⟨(h c).1.trans (ProjUpIdeal.Final.final m c), (h c).2⟩
  · refine (θ_run _ _ _).mono (fun r h c => ?_) (Cert.ProjUpRefIdeal.Value.run m' ρ')
    obtain ⟨h0, hrest⟩ := h c
    obtain ⟨e0, e1⟩ := hargs c
    rw [e0, e1] at h0
    refine ⟨h0.trans (funext fun y => (congrArg _ (eq_ix2 y)).trans (Eq.trans ?_ (val_entries (m ((c.tc : Thread ProjUpIdeal.nD ProjUpIdeal.τ).loc ProjUpIdeal.main_arg0)) (m ((c.tc : Thread ProjUpIdeal.nD ProjUpIdeal.τ).loc ProjUpIdeal.main_arg1)) (y 0) (y 1)))), hrest⟩
    pointwise

end ProjUpClaims

end
-- ==== Proof.ProjDownValue.lean ====
/-
  The down-projection added to the residual: what the kernel leaves in its result array, entry by entry — the whole sum over the contracted axis, gathered over 2 blocks of it.
-/
module

public import proofs.«01_k».proof.Proof.Product
public import proofs.«01_k».proof.Proof.Gen.ProjDownIdeal.Value
public import Idealize.ShloMosaic.Lib.Pipeline.ReadBack
public import Idealize.ShloMosaic.Lib.Pointwise

@[expose] public section

noncomputable section

namespace Cert.ProjDownIdeal.Final

open Cert.ProjDownIdeal Cert.ProjDownIdeal.Gen Idealize.ShloMosaic Idealize.ShloMosaic.TcCoe Idealize.SL.Sem Ffn

variable (m : (ℓ : Loc nD τ sig) → Buf (Elt Ideal) ℓ) (c : Dev nD)

/-- The left factor at launch: row `r`, contracted coordinate `k`. -/
abbrev A (r k : ℕ) : EReal := at2 (n0 := 8192) (n1 := 5632) (m ((c : Thread nD τ).loc main_arg0)) r k

/-- The right factor at launch: contracted coordinate `k`, column `q`. -/
abbrev B (k q : ℕ) : EReal := at2 (n0 := 5632) (n1 := 2048) (m ((c : Thread nD τ).loc main_arg1)) k q

theorem index0 : ∀ t : Fin cfg0.N, win0_0.index t 0 = (t.val / 2) / 2 ∧ win0_0.index t 1 = t.val % 2 :=
  (by decide +kernel : ∀ t : Fin grid0.N, win0_0.index t 0 = (t.val / 2) / 2 ∧ win0_0.index t 1 = t.val % 2)

/-- Window 0's block at a point, entry by entry. -/
theorem block0 (t : Fin cfg0.N) (r : Fin 1024) (l : Fin 2816) :
    (iblk m c 0 t : Vec Ideal S1024x2816 .bf16) (ix2 r l)
      = at2 (n0 := 8192) (n1 := 5632) (m ((c : Thread nD τ).loc main_arg0)) (((t.val / 2) / 2) * 1024 + r.val) ((t.val % 2) * 2816 + l.val) := by
  unfold iblk
  rw [View.read_apply]
  show V m c main_arg0 _ = _
  rw [V_main_arg0]
  exact at2_block (index0 t) rfl rfl

theorem index1 : ∀ t : Fin cfg0.N, win0_1.index t 0 = t.val % 2 ∧ win0_1.index t 1 = (t.val / 2) % 2 :=
  (by decide +kernel : ∀ t : Fin grid0.N, win0_1.index t 0 = t.val % 2 ∧ win0_1.index t 1 = (t.val / 2) % 2)

/-- Window 1's block at a point, entry by entry. -/
theorem block1 (t : Fin cfg0.N) (r : Fin 2816) (l : Fin 1024) :
    (iblk m c 1 t : Vec Ideal S2816x1024 .bf16) (ix2 r l)
      = at2 (n0 := 5632) (n1 := 2048) (m ((c : Thread nD τ).loc main_arg1)) ((t.val % 2) * 2816 + r.val) (((t.val / 2) % 2) * 1024 + l.val) := by
  unfold iblk
  rw [View.read_apply]
  show V m c main_arg1 _ = _
  rw [V_main_arg1]
  exact at2_block (index1 t) rfl rfl

theorem index2 : ∀ t : Fin cfg0.N, win0_2.index t 0 = (t.val / 2) / 2 ∧ win0_2.index t 1 = (t.val / 2) % 2 :=
  (by decide +kernel : ∀ t : Fin grid0.N, win0_2.index t 0 = (t.val / 2) / 2 ∧ win0_2.index t 1 = (t.val / 2) % 2)

/-- Window 2's block at a point, entry by entry. -/
theorem block2 (t : Fin cfg0.N) (r : Fin 1024) (l : Fin 1024) :
    (iblk m c 2 t : Vec Ideal S1024x1024 .f32) (ix2 r l)
      = at2 (n0 := 8192) (n1 := 2048) (m ((c : Thread nD τ).loc main_arg2)) (((t.val / 2) / 2) * 1024 + r.val) (((t.val / 2) % 2) * 1024 + l.val) := by
  unfold iblk
  rw [View.read_apply]
  show V m c main_arg2 _ = _
  rw [V_main_arg2]
  exact at2_block (index2 t) rfl rfl

theorem index3 : ∀ t : Fin cfg0.N, win0_3.index t 0 = (t.val / 2) / 2 ∧ win0_3.index t 1 = (t.val / 2) % 2 :=
  (by decide +kernel : ∀ t : Fin grid0.N, win0_3.index t 0 = (t.val / 2) / 2 ∧ win0_3.index t 1 = (t.val / 2) % 2)

/-- The product of two blocks, entry by entry. -/
theorem prod_apply (x0 : Vec Ideal S1024x2816 .bf16) (x1 : Vec Ideal S2816x1024 .bf16) (r : Fin 1024) (l : Fin 1024) :
    k0_pay1 x0 x1 (ix2 r l) = (∑ k : Fin 2816, x0 (ix2 r k) * x1 (ix2 k l)) := by
  unfold k0_pay1
  pointwise

/-- The product of the two blocks at a point is the point's block of the whole sum. -/
theorem prod_blocks (t : Fin cfg0.N) (r : Fin 1024) (l : Fin 1024) :
    k0_pay1 (iblk m c 0 t : Vec Ideal S1024x2816 .bf16) (iblk m c 1 t : Vec Ideal S2816x1024 .bf16) (ix2 r l)
      = (∑ k : Fin 2816, A m c (((t.val / 2) / 2) * 1024 + r.val) ((t.val % 2) * 2816 + k.val) * B m c ((t.val % 2) * 2816 + k.val) (((t.val / 2) % 2) * 1024 + l.val)) := by
  refine (prod_apply _ _ r l).trans (Finset.sum_congr rfl fun k _ => ?_)
  exact congrArg₂ (· * ·) (block0 m c t r k) (block1 m c t k l)

/-- The kernel's result at row `r` and column `q`. -/
def val (r q : ℕ) : EReal := dot 5632 (A m c) (B m c) r q + at2 (n0 := 8192) (n1 := 2048) (m ((c : Thread nD τ).loc main_arg2)) r q

/-- The kernel's result array. -/
def arr : Buf (Elt Ideal) ((c : Thread nD τ).loc main_v0) := fun y : S8192x2048.Idx => val m c (y 0).val (y 1).val

/-- The first block of the contracted axis stores its product in the accumulator. -/
theorem acc_first (t : Fin cfg0.N) (h : t.val % 2 = 0) : (outsAt0 m c t.val t.isLt).2 = k0_pay2 (iblk m c 0 t) (iblk m c 1 t) := by
  have ht : t.val < 32 := lt_of_lt_of_eq t.isLt N_0
  rw [outsAt0_A m c t h (by omega) (by omega)]
  dsimp only
  unfold sout0_A_0
  rw [View.read_writes_eq_canon _ _ _ (fun y => scover0_A_0 c _ _ _ _ _ _ _ _ _ _ _ _ _ _ _ _ _ y)]
  unfold kernelRun0_A
  dsimp only
  sl_unfold_words
  simp only [View.readAt_eq_ld, Memref.IsWhole.read_unread, ld_whole,
    View.readCov_unit_zero (S := S1024x1024) _ hz, View.canon_unit_zero (S := S1024x1024) hz]

/-- The last block adds its product to the accumulator. -/
theorem acc_next (t : Fin cfg0.N) (h : ¬t.val % 2 = 0) : (outsAt0 m c t.val t.isLt).2 = k0_pay3 (iblk m c 0 t) (iblk m c 1 t) (outsAt0 m c (t.val - 1) (Nat.lt_of_le_of_lt (Nat.sub_le _ _) t.isLt)).2 := by
  have ht : t.val < 32 := lt_of_lt_of_eq t.isLt N_0
  rw [outsAt0_B m c t h (by omega) (by omega)]
  dsimp only
  unfold sout0_B_0
  rw [View.read_writes_eq_canon _ _ _ (fun y => scover0_B_0 c _ _ _ _ _ _ _ _ _ _ _ _ _ _ _ _ _ _ y)]
  unfold kernelRun0_B
  dsimp only
  sl_unfold_words
  simp only [View.readAt_eq_ld, Memref.IsWhole.read_unread, ld_whole,
    View.readCov_unit_zero (S := S1024x1024) _ hz, View.canon_unit_zero (S := S1024x1024) hz]
  exact congrArg (k0_pay3 _ _) ((Memref.isWhole_whole _).read_unread _)

/-- The last block stores the accumulator in the result block. -/
theorem stored (t : Fin cfg0.N) (h : t.val % 2 = 1) : (outsAt0 m c t.val t.isLt).1 = k0_pay4 (outsAt0 m c t.val t.isLt).2 (iblk m c 2 t) := by
  have ht : t.val < 32 := lt_of_lt_of_eq t.isLt N_0
  rw [acc_next m c t (by omega), outsAt0_B m c t (by omega) (by omega) h]
  dsimp only
  unfold out0_B_3
  rw [View.read_writes_eq_canon _ _ _ (fun y => cover0_B_3 c _ _ _ _ _ _ _ _ _ _ _ _ _ _ _ _ _ _ y)]
  unfold kernelRun0_B
  dsimp only
  sl_unfold_words
  simp only [View.readAt_eq_ld, Memref.IsWhole.read_unread, ld_whole,
    View.readCov_unit_zero (S := S1024x1024) _ hz, View.canon_unit_zero (S := S1024x1024) hz]
  exact congrArg (fun x => k0_pay4 (k0_pay3 _ _ x) _) ((Memref.isWhole_whole _).read_unread _)

/-- What the accumulator holds after each point. -/
theorem acc_after (n : ℕ) (hn : n < cfg0.N) (r : Fin 1024) (l : Fin 1024) : (outsAt0 m c n hn).2 (ix2 r l)
    = dot ((n % 2 + 1) * 2816) (A m c) (B m c) (((n / 2) / 2) * 1024 + r.val) (((n / 2) % 2) * 1024 + l.val) := by
  refine dot_running 2 2816 (A m c) (B m c) (fun n => ((n / 2) / 2) * 1024 + r.val) (fun n => ((n / 2) % 2) * 1024 + l.val) (fun n hn => (outsAt0 m c n hn).2 (ix2 r l))
    (fun n hn h => ?_) (fun n hn h => ?_) (fun n h => by omega) n hn
  · rw [acc_first m c ⟨n, hn⟩ h]
    exact Eq.trans (by unfold k0_pay2; pointwise) (prod_blocks m c ⟨n, hn⟩ r l)
  · rw [acc_next m c ⟨n + 1, hn⟩ h]
    exact Eq.trans (by unfold k0_pay3; pointwise; rfl) (congrArg (_ + ·) (prod_blocks m c ⟨n + 1, hn⟩ r l))

/-- What the last block of the contracted axis leaves in the result block. -/
theorem val_after (t : Fin cfg0.N) (h : t.val % 2 = 1) (r : Fin 1024) (l : Fin 1024) :
    (outsAt0 m c t.val t.isLt).1 (ix2 r l) = val m c (((t.val / 2) / 2) * 1024 + r.val) (((t.val / 2) % 2) * 1024 + l.val) := by
  have h1 := acc_after m c t.val t.isLt r l
  rw [h] at h1
  rw [stored m c t h]
  exact Eq.trans (by unfold k0_pay4; pointwise) (congrArg₂ (· + ·) h1 (block2 m c t r l))

attribute [local irreducible] dot

/-- The result array after the run. -/
theorem final : (dats m 0 c).arrAt 3 cfg0.N = arr m c := by
  refine (dats m 0 c).arrAt_eq_of_cover 3 (arr m c) (fun t hf => ?_) fun (i : S8192x2048.Idx) => ?_
  · rw [Value.flushed3]
    obtain ⟨h0, h1⟩ := index3 t
    funext y
    rw [View.read_apply]
    show (outsAt0 m c t.val t.isLt).1 y = val m c (win0_3.index t 0 * 1024 + 1 * (y 0).val) (win0_3.index t 1 * 1024 + 1 * (y 1).val)
    refine (congrArg _ (eq_ix2 y)).trans ((val_after m c t ((flush0_3 t).mp hf) _ _).trans ?_)
    rw [h0, h1]
    exact congrArg₂ (val m c) (by omega) (by omega)
  · have b0 : (i 0).val < 8192 := (i 0).isLt
    have b1 : (i 1).val < 2048 := (i 1).isLt
    have hN : cfg0.N = 32 := N_0
    obtain ⟨t, ht⟩ : ∃ t : Fin cfg0.N, t.val = ((i 0).val / 1024 * 2 + (i 1).val / 1024) * 2 + 1 := ⟨⟨_, by omega⟩, rfl⟩
    refine ⟨t, (flush0_3 t).mpr (by omega), ?_⟩
    show i ∈ ((View.whole main_v0).slice (win0_3.rect t)).set
    rw [View.set_slice_whole]
    exact mem_block (index3 t) (by omega) (by omega)

end Cert.ProjDownIdeal.Final

end
-- ==== Proof.ProjDownClaims.lean ====
/-
  The claims about the down-projection: the frames, and the equality of the kernel's result with the reference's over the extended reals.
-/
module

public import proofs.«01_k».proof.Defs
public import proofs.«01_k».proof.Proof.ProjDownValue
public import proofs.«01_k».proof.Proof.Gen.ProjDown.Frame
public import proofs.«01_k».proof.Proof.Gen.ProjDownRefIdeal.Run

@[expose] public section

noncomputable section

namespace ProjDownClaims

open Idealize.ShloMosaic Idealize.ShloMosaic.TcCoe Idealize.SL.Sem Cert Ffn

/-! The frames. -/

theorem frame_p : quiescent_ProjDown := fun m ρ _ => Cert.ProjDown.Gen.frame m ρ

theorem frame_pi : quiescent_ProjDownIdeal := fun m ρ _ => Cert.ProjDownIdeal.Gen.frame m ρ

theorem frame_ri : quiescent_ProjDownRefIdeal := fun m ρ _ =>
  (θ_run _ _ _).mono (fun r h => ⟨fun c => (h c).2, sem_eq_zero_of_no_sems (by decide) r.2⟩) (Cert.ProjDownRefIdeal.Value.run m ρ)

/-- No operation is rewritten. -/
theorem preserves : preserves_ProjDown_ProjDownIdeal := trivial

/-- The sum over the contracted axis, in the arrays' own entries. -/
theorem val_entries (x0 : Vec Ideal ProjDownIdeal.S8192x5632 .bf16) (x1 : Vec Ideal ProjDownIdeal.S5632x2048 .bf16) (x2 : Vec Ideal ProjDownIdeal.S8192x2048 .f32) (i : Fin 8192) (j : Fin 2048) :
    (∑ k : Fin 5632, x0 (ix2 i k) * x1 (ix2 k j)) + x2 (ix2 i j)
      = dot 5632 (fun r k => at2 (n0 := 8192) (n1 := 5632) x0 r k) (fun k q => at2 (n0 := 5632) (n1 := 2048) x1 k q) i.val j.val + at2 (n0 := 8192) (n1 := 2048) x2 i.val j.val :=
  (congrArg₂ (· + ·) ((dot_eq 5632 (fun r k => at2 (n0 := 8192) (n1 := 5632) x0 r k) (fun k q => at2 (n0 := 5632) (n1 := 2048) x1 k q) i.val j.val).trans
    (Finset.sum_congr rfl fun k _ => congrArg₂ (· * ·) (at2_eq x0 i k _ _ rfl rfl) (at2_eq x1 k j _ _ rfl rfl)))
    (at2_eq x2 i j _ _ rfl rfl)).symm

/-- The kernel's result is the reference's. -/
theorem algebraic : algebraic_ProjDownIdeal_ProjDownRefIdeal := by
  intro m ρ m' ρ' _ hargs
  refine ⟨ProjDownIdeal.Final.arr m, ?_, ?_⟩
  · refine (θ_run _ _ _).mono (fun r h c => ?_) (Cert.ProjDownIdeal.Value.run_blocks m ρ)
    exact ⟨(h c).1.trans (ProjDownIdeal.Final.final m c), (h c).2⟩
  · refine (θ_run _ _ _).mono (fun r h c => ?_) (Cert.ProjDownRefIdeal.Value.run m' ρ')
    obtain ⟨h0, hrest⟩ := h c
    obtain ⟨e0, e1, e2⟩ := hargs c
    rw [e0, e1, e2] at h0
    refine ⟨h0.trans (funext fun y => (congrArg _ (eq_ix2 y)).trans (Eq.trans ?_ (val_entries (m ((c.tc : Thread ProjDownIdeal.nD ProjDownIdeal.τ).loc ProjDownIdeal.main_arg0)) (m ((c.tc : Thread ProjDownIdeal.nD ProjDownIdeal.τ).loc ProjDownIdeal.main_arg1)) (m ((c.tc : Thread ProjDownIdeal.nD ProjDownIdeal.τ).loc ProjDownIdeal.main_arg2)) (y 0) (y 1)))), hrest⟩
    pointwise
    exact add_comm _ _

end ProjDownClaims

end
-- ==== Proof.Gate.lean ====
/-
  The sigmoid of the gates, as the kernels and as the references write it.
-/
module

public import Idealize.ShloMosaic.Lib.Pointwise

@[expose] public section

noncomputable section

namespace Ffn

open Idealize.ShloMosaic

/-- The sigmoid as the kernels write it: they negate by subtracting from zero. -/
def sg (x : EReal) : EReal := Ideal.div 1 (1 + Ideal.exp (0 - x))

/-- The sigmoid as the references write it. -/
theorem sg_eq (x : EReal) : sg x = Ideal.div 1 (1 + Ideal.exp (-x)) := by
  rw [sg, zero_sub]

end Ffn

end
-- ==== Proof.Norm.lean ====
/-
  The root-mean-square norm of a row of 2048 numbers.
-/
module

public import proofs.«01_k».proof.Proof.Spec
public import Idealize.ShloMosaic.Lib.Pointwise

@[expose] public section

noncomputable section

namespace Ffn

open Idealize.ShloMosaic

/-- The number of a row's entries, as the programs write it. -/
def width : EReal := Ideal.ofBits .f32 0x45000000#32

/-- What the norm adds under its root. -/
def eps : EReal := Ideal.ofBits .f32 0x358637BD#32

/-- The mean over a row. -/
def mean (x : Fin 2048 → EReal) : EReal := Ideal.div (∑ k, x k) width

/-- One over the root of the row's mean square. -/
def rms (x : Fin 2048 → EReal) : EReal := Ideal.rsqrt (mean (fun k => x k * x k) + eps)

end Ffn

end
-- ==== Proof.DMergedValue.lean ====
/-
  The gradient of the gates: what the kernel leaves in its four result arrays, entry by entry.
-/
module

public import proofs.«01_k».proof.Proof.Product
public import proofs.«01_k».proof.Proof.Gate
public import proofs.«01_k».proof.Proof.Norm
public import proofs.«01_k».proof.Proof.Gen.DMergedIdeal.Value
public import Idealize.ShloMosaic.Lib.Pipeline.ReadBack
public import Idealize.ShloMosaic.Lib.Pointwise

@[expose] public section

noncomputable section

namespace Cert.DMergedIdeal.Final

open Cert.DMergedIdeal Cert.DMergedIdeal.Gen Idealize.ShloMosaic Idealize.ShloMosaic.TcCoe Idealize.SL.Sem Ffn

variable (m : (ℓ : Loc nD τ sig) → Buf (Elt Ideal) ℓ) (c : Dev nD)

/-- The left factor at launch: row `r`, contracted coordinate `k`. -/
abbrev A (r k : ℕ) : EReal := at2 (n0 := 8192) (n1 := 2048) (m ((c : Thread nD τ).loc main_arg0)) r k

/-- The right factor at launch: contracted coordinate `k`, column `q`. -/
abbrev B (k q : ℕ) : EReal := at2 (n0 := 2048) (n1 := 2048) (m ((c : Thread nD τ).loc main_arg1)) q k

/-- The attention's gate before its sigmoid: columns 1792 and on of the projection. -/
abbrev gateA (r q : ℕ) : EReal := at2 (n0 := 8192) (n1 := 5888) (m ((c : Thread nD τ).loc main_arg2)) r (1792 + q)

/-- The recurrence's gate before its sigmoid: columns 3840 and on of the projection. -/
abbrev gateS (r q : ℕ) : EReal := at2 (n0 := 8192) (n1 := 5888) (m ((c : Thread nD τ).loc main_arg2)) r (3840 + q)

/-- The attention's branch. -/
abbrev brA (r q : ℕ) : EReal := at2 (n0 := 8192) (n1 := 2048) (m ((c : Thread nD τ).loc main_arg3)) r q

/-- The recurrence's branch. -/
abbrev brS (r q : ℕ) : EReal := at2 (n0 := 8192) (n1 := 2048) (m ((c : Thread nD τ).loc main_arg4)) r q

theorem index0 : ∀ t : Fin cfg0.N, win0_0.index t 0 = t.val / 8 ∧ win0_0.index t 1 = 0 :=
  (by decide +kernel : ∀ t : Fin grid0.N, win0_0.index t 0 = t.val / 8 ∧ win0_0.index t 1 = 0)

/-- Window 0's block at a point, entry by entry. -/
theorem block0 (t : Fin cfg0.N) (r : Fin 1024) (l : Fin 2048) :
    (iblk m c 0 t : Vec Ideal S1024x2048 .bf16) (ix2 r l)
      = at2 (n0 := 8192) (n1 := 2048) (m ((c : Thread nD τ).loc main_arg0)) ((t.val / 8) * 1024 + r.val) ((0) * 2048 + l.val) := by
  unfold iblk
  rw [View.read_apply]
  show V m c main_arg0 _ = _
  rw [V_main_arg0]
  exact at2_block (index0 t) rfl rfl

theorem index1 : ∀ t : Fin cfg0.N, win0_1.index t 0 = t.val % 8 ∧ win0_1.index t 1 = 0 :=
  (by decide +kernel : ∀ t : Fin grid0.N, win0_1.index t 0 = t.val % 8 ∧ win0_1.index t 1 = 0)

/-- Window 1's block at a point, entry by entry. -/
theorem block1 (t : Fin cfg0.N) (r : Fin 256) (l : Fin 2048) :
    (iblk m c 1 t : Vec Ideal S256x2048 .bf16) (ix2 r l)
      = at2 (n0 := 2048) (n1 := 2048) (m ((c : Thread nD τ).loc main_arg1)) ((t.val % 8) * 256 + r.val) ((0) * 2048 + l.val) := by
  unfold iblk
  rw [View.read_apply]
  show V m c main_arg1 _ = _
  rw [V_main_arg1]
  exact at2_block (index1 t) rfl rfl

theorem index2 : ∀ t : Fin cfg0.N, win0_2.index t 0 = t.val / 8 ∧ win0_2.index t 1 = 7 + t.val % 8 :=
  (by decide +kernel : ∀ t : Fin grid0.N, win0_2.index t 0 = t.val / 8 ∧ win0_2.index t 1 = 7 + t.val % 8)

/-- Window 2's block at a point, entry by entry. -/
theorem block2 (t : Fin cfg0.N) (r : Fin 1024) (l : Fin 256) :
    (iblk m c 2 t : Vec Ideal S1024x256 .f32) (ix2 r l)
      = at2 (n0 := 8192) (n1 := 5888) (m ((c : Thread nD τ).loc main_arg2)) ((t.val / 8) * 1024 + r.val) ((7 + t.val % 8) * 256 + l.val) := by
  unfold iblk
  rw [View.read_apply]
  show V m c main_arg2 _ = _
  rw [V_main_arg2]
  exact at2_block (index2 t) rfl rfl

theorem index3 : ∀ t : Fin cfg0.N, win0_3.index t 0 = t.val / 8 ∧ win0_3.index t 1 = 15 + t.val % 8 :=
  (by decide +kernel : ∀ t : Fin grid0.N, win0_3.index t 0 = t.val / 8 ∧ win0_3.index t 1 = 15 + t.val % 8)

/-- Window 3's block at a point, entry by entry. -/
theorem block3 (t : Fin cfg0.N) (r : Fin 1024) (l : Fin 256) :
    (iblk m c 3 t : Vec Ideal S1024x256 .f32) (ix2 r l)
      = at2 (n0 := 8192) (n1 := 5888) (m ((c : Thread nD τ).loc main_arg2)) ((t.val / 8) * 1024 + r.val) ((15 + t.val % 8) * 256 + l.val) := by
  unfold iblk
  rw [View.read_apply]
  show V m c main_arg2 _ = _
  rw [V_main_arg2]
  exact at2_block (index3 t) rfl rfl

theorem index4 : ∀ t : Fin cfg0.N, win0_4.index t 0 = t.val / 8 ∧ win0_4.index t 1 = t.val % 8 :=
  (by decide +kernel : ∀ t : Fin grid0.N, win0_4.index t 0 = t.val / 8 ∧ win0_4.index t 1 = t.val % 8)

/-- Window 4's block at a point, entry by entry. -/
theorem block4 (t : Fin cfg0.N) (r : Fin 1024) (l : Fin 256) :
    (iblk m c 4 t : Vec Ideal S1024x256 .bf16) (ix2 r l)
      = at2 (n0 := 8192) (n1 := 2048) (m ((c : Thread nD τ).loc main_arg3)) ((t.val / 8) * 1024 + r.val) ((t.val % 8) * 256 + l.val) := by
  unfold iblk
  rw [View.read_apply]
  show V m c main_arg3 _ = _
  rw [V_main_arg3]
  exact at2_block (index4 t) rfl rfl

theorem index5 : ∀ t : Fin cfg0.N, win0_5.index t 0 = t.val / 8 ∧ win0_5.index t 1 = t.val % 8 :=
  (by decide +kernel : ∀ t : Fin grid0.N, win0_5.index t 0 = t.val / 8 ∧ win0_5.index t 1 = t.val % 8)

/-- Window 5's block at a point, entry by entry. -/
theorem block5 (t : Fin cfg0.N) (r : Fin 1024) (l : Fin 256) :
    (iblk m c 5 t : Vec Ideal S1024x256 .bf16) (ix2 r l)
      = at2 (n0 := 8192) (n1 := 2048) (m ((c : Thread nD τ).loc main_arg4)) ((t.val / 8) * 1024 + r.val) ((t.val % 8) * 256 + l.val) := by
  unfold iblk
  rw [View.read_apply]
  show V m c main_arg4 _ = _
  rw [V_main_arg4]
  exact at2_block (index5 t) rfl rfl

theorem index6 : ∀ t : Fin cfg0.N, win0_6.index t 0 = t.val / 8 ∧ win0_6.index t 1 = t.val % 8 :=
  (by decide +kernel : ∀ t : Fin grid0.N, win0_6.index t 0 = t.val / 8 ∧ win0_6.index t 1 = t.val % 8)

theorem index7 : ∀ t : Fin cfg0.N, win0_7.index t 0 = t.val / 8 ∧ win0_7.index t 1 = t.val % 8 :=
  (by decide +kernel : ∀ t : Fin grid0.N, win0_7.index t 0 = t.val / 8 ∧ win0_7.index t 1 = t.val % 8)

theorem index8 : ∀ t : Fin cfg0.N, win0_8.index t 0 = t.val / 8 ∧ win0_8.index t 1 = t.val % 8 :=
  (by decide +kernel : ∀ t : Fin grid0.N, win0_8.index t 0 = t.val / 8 ∧ win0_8.index t 1 = t.val % 8)

theorem index9 : ∀ t : Fin cfg0.N, win0_9.index t 0 = t.val / 8 ∧ win0_9.index t 1 = t.val % 8 :=
  (by decide +kernel : ∀ t : Fin grid0.N, win0_9.index t 0 = t.val / 8 ∧ win0_9.index t 1 = t.val % 8)

/-- The product of two blocks, entry by entry. -/
theorem prod_apply (x0 : Vec Ideal S1024x2048 .bf16) (x1 : Vec Ideal S256x2048 .bf16) (r : Fin 1024) (l : Fin 256) :
    k0_pay2 x0 x1 (ix2 r l) = ∑ k : Fin 2048, x0 (ix2 r k) * x1 (ix2 l k) := by
  unfold k0_pay2
  pointwise

/-- The gradient of the merged branches at row `r` and column `q`: the whole sum over the contracted axis. -/
def D (r q : ℕ) : EReal := dot 2048 (A m c) (B m c) r q

/-- The product of the two blocks at a point is the point's block of the whole sum. -/
theorem prod_blocks (t : Fin cfg0.N) (r : Fin 1024) (l : Fin 256) :
    k0_pay2 (iblk m c 0 t : Vec Ideal S1024x2048 .bf16) (iblk m c 1 t : Vec Ideal S256x2048 .bf16) (ix2 r l)
      = D m c (t.val / 8 * 1024 + r.val) (t.val % 8 * 256 + l.val) := by
  refine (prod_apply _ _ r l).trans (Eq.trans (Finset.sum_congr rfl fun k _ => ?_)
    ((dot_first 2048 (A m c) (B m c) (t.val / 8 * 1024 + r.val) (t.val % 8 * 256 + l.val) 0 rfl).trans rfl))
  exact congrArg₂ (· * ·) (block0 m c t r k) (block1 m c t l k)

/-- The gates' blocks lie in their own columns of the projection. -/
theorem gateA_block (t : Fin cfg0.N) (r : Fin 1024) (l : Fin 256) :
    (iblk m c 2 t : Vec Ideal S1024x256 .f32) (ix2 r l)
      = gateA m c (t.val / 8 * 1024 + r.val) (t.val % 8 * 256 + l.val) :=
  (block2 m c t r l).trans (congrArg (at2 (n0 := 8192) (n1 := 5888) (m ((c : Thread nD τ).loc main_arg2)) _) (by omega))

theorem gateS_block (t : Fin cfg0.N) (r : Fin 1024) (l : Fin 256) :
    (iblk m c 3 t : Vec Ideal S1024x256 .f32) (ix2 r l)
      = gateS m c (t.val / 8 * 1024 + r.val) (t.val % 8 * 256 + l.val) :=
  (block3 m c t r l).trans (congrArg (at2 (n0 := 8192) (n1 := 5888) (m ((c : Thread nD τ).loc main_arg2)) _) (by omega))

/-! Each stored value, entry by entry, from the product `d` of its two blocks. -/

section Stores

variable (x0 : Vec Ideal S1024x2048 .bf16) (x1 : Vec Ideal S256x2048 .bf16) (g : Vec Ideal S1024x256 .f32)
  (b : Vec Ideal S1024x256 .bf16) (r : Fin 1024) (l : Fin 256)

theorem pay5_apply : k0_pay5 x0 x1 g (ix2 r l) = k0_pay2 x0 x1 (ix2 r l) * sg (g (ix2 r l)) := by
  unfold k0_pay5 k0_pay3 sg
  pointwise

theorem pay6_apply : k0_pay6 x0 x1 g (ix2 r l) = k0_pay2 x0 x1 (ix2 r l) * sg (g (ix2 r l)) := by
  unfold k0_pay6 k0_pay4 sg
  pointwise

theorem pay7_apply : k0_pay7 x0 x1 g b (ix2 r l)
    = k0_pay2 x0 x1 (ix2 r l) * b (ix2 r l) * sg (g (ix2 r l)) * (1 - sg (g (ix2 r l))) := by
  unfold k0_pay7 k0_pay3 sg
  pointwise

theorem pay1_apply : k0_pay1 (k0_pay2 x0 x1) (k0_pay4 g) b (ix2 r l)
    = k0_pay2 x0 x1 (ix2 r l) * b (ix2 r l) * sg (g (ix2 r l)) * (1 - sg (g (ix2 r l))) := by
  unfold k0_pay1 k0_pay4 sg
  pointwise

end Stores

/-- The gradient of the attention's branch. -/
def val6 (r q : ℕ) : EReal := D m c r q * sg (gateA m c r q)

/-- The gradient of the recurrence's branch. -/
def val7 (r q : ℕ) : EReal := D m c r q * sg (gateS m c r q)

/-- The gradient of the attention's gate. -/
def val8 (r q : ℕ) : EReal := D m c r q * brA m c r q * sg (gateA m c r q) * (1 - sg (gateA m c r q))

/-- The gradient of the recurrence's gate. -/
def val9 (r q : ℕ) : EReal := D m c r q * brS m c r q * sg (gateS m c r q) * (1 - sg (gateS m c r q))

/-! The four result arrays. -/

def arr6 : Buf (Elt Ideal) ((c : Thread nD τ).loc main_v0_0) := fun y : S8192x2048.Idx => val6 m c (y 0).val (y 1).val

def arr7 : Buf (Elt Ideal) ((c : Thread nD τ).loc main_v0_1) := fun y : S8192x2048.Idx => val7 m c (y 0).val (y 1).val

def arr8 : Buf (Elt Ideal) ((c : Thread nD τ).loc main_v0_2) := fun y : S8192x2048.Idx => val8 m c (y 0).val (y 1).val

def arr9 : Buf (Elt Ideal) ((c : Thread nD τ).loc main_v0_3) := fun y : S8192x2048.Idx => val9 m c (y 0).val (y 1).val

/-! What a point leaves in each result block. -/

theorem val6_after (t : Fin cfg0.N) (r : Fin 1024) (l : Fin 256) :
    out0_6 (iblk m c 0 t) (iblk m c 1 t) (iblk m c 2 t) (iblk m c 3 t) (iblk m c 4 t) (iblk m c 5 t) (ix2 r l)
      = val6 m c (t.val / 8 * 1024 + r.val) (t.val % 8 * 256 + l.val) := by
  unfold out0_6
  refine (congrFun (View.canon_unit_zero (S := S1024x256) hz _ _) (ix2 r l)).trans ?_
  simp only [ld_whole]
  exact (pay5_apply _ _ _ r l).trans
    (congrArg₂ (fun d g => d * sg g) (prod_blocks m c t r l) (gateA_block m c t r l))

theorem val7_after (t : Fin cfg0.N) (r : Fin 1024) (l : Fin 256) :
    out0_7 (iblk m c 0 t) (iblk m c 1 t) (iblk m c 2 t) (iblk m c 3 t) (iblk m c 4 t) (iblk m c 5 t) (ix2 r l)
      = val7 m c (t.val / 8 * 1024 + r.val) (t.val % 8 * 256 + l.val) := by
  unfold out0_7
  refine (congrFun (View.canon_unit_zero (S := S1024x256) hz _ _) (ix2 r l)).trans ?_
  simp only [ld_whole]
  exact (pay6_apply _ _ _ r l).trans
    (congrArg₂ (fun d g => d * sg g) (prod_blocks m c t r l) (gateS_block m c t r l))

theorem val8_after (t : Fin cfg0.N) (r : Fin 1024) (l : Fin 256) :
    out0_8 (iblk m c 0 t) (iblk m c 1 t) (iblk m c 2 t) (iblk m c 3 t) (iblk m c 4 t) (iblk m c 5 t) (ix2 r l)
      = val8 m c (t.val / 8 * 1024 + r.val) (t.val % 8 * 256 + l.val) := by
  unfold out0_8
  refine (congrFun (View.canon_unit_zero (S := S1024x256) hz _ _) (ix2 r l)).trans ?_
  simp only [ld_whole]
  exact (pay7_apply _ _ _ _ r l).trans
    (congrArg₂ (fun d g => d * sg g * (1 - sg g)) (congrArg₂ (· * ·) (prod_blocks m c t r l) (block4 m c t r l)) (gateA_block m c t r l))

theorem val9_after (t : Fin cfg0.N) (r : Fin 1024) (l : Fin 256) :
    out0_9 (iblk m c 0 t) (iblk m c 1 t) (iblk m c 2 t) (iblk m c 3 t) (iblk m c 4 t) (iblk m c 5 t) (ix2 r l)
      = val9 m c (t.val / 8 * 1024 + r.val) (t.val % 8 * 256 + l.val) := by
  unfold out0_9
  refine (congrFun (View.canon_unit_zero (S := S1024x256) hz _ _) (ix2 r l)).trans ?_
  simp only [ld_whole]
  exact (pay1_apply _ _ _ _ r l).trans
    (congrArg₂ (fun d g => d * sg g * (1 - sg g)) (congrArg₂ (· * ·) (prod_blocks m c t r l) (block5 m c t r l)) (gateS_block m c t r l))

attribute [local irreducible] dot D

/-! The result arrays after the run. -/

theorem final6 : (dats m 0 c).arrAt 6 cfg0.N = arr6 m c := by
  refine (dats m 0 c).arrAt_eq_of_cover 6 (arr6 m c) (fun t hf => ?_) fun (i : S8192x2048.Idx) => ?_
  · rw [Value.flushed6]
    obtain ⟨h0, h1⟩ := index6 t
    funext y
    rw [View.read_apply]
    show out0_6 (iblk m c 0 t) (iblk m c 1 t) (iblk m c 2 t) (iblk m c 3 t) (iblk m c 4 t) (iblk m c 5 t) y = val6 m c (win0_6.index t 0 * 1024 + 1 * (y 0).val) (win0_6.index t 1 * 256 + 1 * (y 1).val)
    refine (congrArg _ (eq_ix2 y)).trans ((val6_after m c t _ _).trans ?_)
    rw [h0, h1]
    exact congrArg₂ (val6 m c) (by omega) (by omega)
  · have b0 : (i 0).val < 8192 := (i 0).isLt
    have b1 : (i 1).val < 2048 := (i 1).isLt
    have hN : cfg0.N = 64 := N_0
    obtain ⟨t, ht⟩ : ∃ t : Fin cfg0.N, t.val = ((i 0).val / 1024 * 8 + (i 1).val / 256) := ⟨⟨_, by omega⟩, rfl⟩
    refine ⟨t, flush0_6 t, ?_⟩
    show i ∈ ((View.whole main_v0_0).slice (win0_6.rect t)).set
    rw [View.set_slice_whole]
    exact mem_block (index6 t) (by omega) (by omega)

theorem final7 : (dats m 0 c).arrAt 7 cfg0.N = arr7 m c := by
  refine (dats m 0 c).arrAt_eq_of_cover 7 (arr7 m c) (fun t hf => ?_) fun (i : S8192x2048.Idx) => ?_
  · rw [Value.flushed7]
    obtain ⟨h0, h1⟩ := index7 t
    funext y
    rw [View.read_apply]
    show out0_7 (iblk m c 0 t) (iblk m c 1 t) (iblk m c 2 t) (iblk m c 3 t) (iblk m c 4 t) (iblk m c 5 t) y = val7 m c (win0_7.index t 0 * 1024 + 1 * (y 0).val) (win0_7.index t 1 * 256 + 1 * (y 1).val)
    refine (congrArg _ (eq_ix2 y)).trans ((val7_after m c t _ _).trans ?_)
    rw [h0, h1]
    exact congrArg₂ (val7 m c) (by omega) (by omega)
  · have b0 : (i 0).val < 8192 := (i 0).isLt
    have b1 : (i 1).val < 2048 := (i 1).isLt
    have hN : cfg0.N = 64 := N_0
    obtain ⟨t, ht⟩ : ∃ t : Fin cfg0.N, t.val = ((i 0).val / 1024 * 8 + (i 1).val / 256) := ⟨⟨_, by omega⟩, rfl⟩
    refine ⟨t, flush0_7 t, ?_⟩
    show i ∈ ((View.whole main_v0_1).slice (win0_7.rect t)).set
    rw [View.set_slice_whole]
    exact mem_block (index7 t) (by omega) (by omega)

theorem final8 : (dats m 0 c).arrAt 8 cfg0.N = arr8 m c := by
  refine (dats m 0 c).arrAt_eq_of_cover 8 (arr8 m c) (fun t hf => ?_) fun (i : S8192x2048.Idx) => ?_
  · rw [Value.flushed8]
    obtain ⟨h0, h1⟩ := index8 t
    funext y
    rw [View.read_apply]
    show out0_8 (iblk m c 0 t) (iblk m c 1 t) (iblk m c 2 t) (iblk m c 3 t) (iblk m c 4 t) (iblk m c 5 t) y = val8 m c (win0_8.index t 0 * 1024 + 1 * (y 0).val) (win0_8.index t 1 * 256 + 1 * (y 1).val)
    refine (congrArg _ (eq_ix2 y)).trans ((val8_after m c t _ _).trans ?_)
    rw [h0, h1]
    exact congrArg₂ (val8 m c) (by omega) (by omega)
  · have b0 : (i 0).val < 8192 := (i 0).isLt
    have b1 : (i 1).val < 2048 := (i 1).isLt
    have hN : cfg0.N = 64 := N_0
    obtain ⟨t, ht⟩ : ∃ t : Fin cfg0.N, t.val = ((i 0).val / 1024 * 8 + (i 1).val / 256) := ⟨⟨_, by omega⟩, rfl⟩
    refine ⟨t, flush0_8 t, ?_⟩
    show i ∈ ((View.whole main_v0_2).slice (win0_8.rect t)).set
    rw [View.set_slice_whole]
    exact mem_block (index8 t) (by omega) (by omega)

theorem final9 : (dats m 0 c).arrAt 9 cfg0.N = arr9 m c := by
  refine (dats m 0 c).arrAt_eq_of_cover 9 (arr9 m c) (fun t hf => ?_) fun (i : S8192x2048.Idx) => ?_
  · rw [Value.flushed9]
    obtain ⟨h0, h1⟩ := index9 t
    funext y
    rw [View.read_apply]
    show out0_9 (iblk m c 0 t) (iblk m c 1 t) (iblk m c 2 t) (iblk m c 3 t) (iblk m c 4 t) (iblk m c 5 t) y = val9 m c (win0_9.index t 0 * 1024 + 1 * (y 0).val) (win0_9.index t 1 * 256 + 1 * (y 1).val)
    refine (congrArg _ (eq_ix2 y)).trans ((val9_after m c t _ _).trans ?_)
    rw [h0, h1]
    exact congrArg₂ (val9 m c) (by omega) (by omega)
  · have b0 : (i 0).val < 8192 := (i 0).isLt
    have b1 : (i 1).val < 2048 := (i 1).isLt
    have hN : cfg0.N = 64 := N_0
    obtain ⟨t, ht⟩ : ∃ t : Fin cfg0.N, t.val = ((i 0).val / 1024 * 8 + (i 1).val / 256) := ⟨⟨_, by omega⟩, rfl⟩
    refine ⟨t, flush0_9 t, ?_⟩
    show i ∈ ((View.whole main_v0_3).slice (win0_9.rect t)).set
    rw [View.set_slice_whole]
    exact mem_block (index9 t) (by omega) (by omega)

end Cert.DMergedIdeal.Final

end
-- ==== Proof.DMergedClaims.lean ====
/-
  The claims about the gradient of the gates: the frames, and the equality of the four results with the reference's over the extended reals.
-/
module

public import proofs.«01_k».proof.Defs
public import proofs.«01_k».proof.Proof.DMergedValue
public import proofs.«01_k».proof.Proof.Gen.DMerged.Frame
public import proofs.«01_k».proof.Proof.Gen.DMergedRefIdeal.Run

@[expose] public section

noncomputable section

namespace DMergedClaims

open Idealize.ShloMosaic Idealize.ShloMosaic.TcCoe Idealize.SL.Sem Cert Ffn

/-! The frames. -/

theorem frame_p : quiescent_DMerged := fun m ρ _ => Cert.DMerged.Gen.frame m ρ

theorem frame_pi : quiescent_DMergedIdeal := fun m ρ _ => Cert.DMergedIdeal.Gen.frame m ρ

theorem frame_ri : quiescent_DMergedRefIdeal := fun m ρ _ =>
  (θ_run _ _ _).mono (fun r h => ⟨fun c => (h c).2.2.2.2, sem_eq_zero_of_no_sems (by decide) r.2⟩) (Cert.DMergedRefIdeal.Value.run m ρ)

/-- No operation is rewritten. -/
theorem preserves : preserves_DMerged_DMergedIdeal := trivial

section Entries

variable (m : (ℓ : Loc DMergedIdeal.nD DMergedIdeal.τ DMergedIdeal.sig) → Buf (Elt Ideal) ℓ) (c : Dev DMergedIdeal.nD)
  (i : Fin 8192) (j : Fin 2048)

/-- The gradient of the merged branches in the arrays' own entries. -/
theorem D_entries (x0 : Vec Ideal DMergedIdeal.S8192x2048 .bf16) (x1 : Vec Ideal DMergedIdeal.S2048x2048 .bf16)
    (h0 : x0 = m ((c.tc : Thread DMergedIdeal.nD DMergedIdeal.τ).loc DMergedIdeal.main_arg0))
    (h1 : x1 = m ((c.tc : Thread DMergedIdeal.nD DMergedIdeal.τ).loc DMergedIdeal.main_arg1)) :
    DMergedIdeal.Final.D m c i.val j.val = ∑ k : Fin 2048, x0 (ix2 i k) * x1 (ix2 j k) := by
  subst h0 h1
  exact (dot_eq 2048 (DMergedIdeal.Final.A m c) (DMergedIdeal.Final.B m c) i.val j.val).trans
    (Finset.sum_congr rfl fun k _ => congrArg₂ (· * ·) (at2_eq _ i k _ _ rfl rfl) (at2_eq _ j k _ _ rfl rfl))

end Entries

/-- The kernel's results are the reference's. -/
theorem algebraic : algebraic_DMergedIdeal_DMergedRefIdeal := by
  intro m ρ m' ρ' _ hargs
  refine ⟨DMergedIdeal.Final.arr6 m, DMergedIdeal.Final.arr7 m, DMergedIdeal.Final.arr8 m, DMergedIdeal.Final.arr9 m, ?_, ?_⟩
  · refine (θ_run _ _ _).mono (fun r h c => ?_) (Cert.DMergedIdeal.Value.run_blocks m ρ)
    obtain ⟨h6, h7, h8, h9, hrest⟩ := h c
    exact ⟨h6.trans (DMergedIdeal.Final.final6 m c), h7.trans (DMergedIdeal.Final.final7 m c),
      h8.trans (DMergedIdeal.Final.final8 m c), h9.trans (DMergedIdeal.Final.final9 m c), hrest⟩
  · refine (θ_run _ _ _).mono (fun r h c => ?_) (Cert.DMergedRefIdeal.Value.run m' ρ')
    obtain ⟨h6, h7, h8, h9, hrest⟩ := h c
    obtain ⟨e0, e1, e2, e3, e4⟩ := hargs c
    rw [e0, e1, e2] at h6 h7
    rw [e0, e1, e2, e3] at h8
    rw [e0, e1, e2, e4] at h9
    refine ⟨h6.trans (funext fun y => (congrArg _ (eq_ix2 y)).trans ?_), h7.trans (funext fun y => (congrArg _ (eq_ix2 y)).trans ?_),
      h8.trans (funext fun y => (congrArg _ (eq_ix2 y)).trans ?_), h9.trans (funext fun y => (congrArg _ (eq_ix2 y)).trans ?_), hrest⟩
    · refine Eq.trans ?_ (congrArg₂ (fun d g => d * sg g) (D_entries m c (y 0) (y 1) _ _ rfl rfl) (at2_eq (m ((c.tc : Thread DMergedIdeal.nD DMergedIdeal.τ).loc DMergedIdeal.main_arg2)) (y 0) ⟨1792 + (y 1).val, by have : (y 1).val < 2048 := (y 1).isLt; omega⟩ _ _ rfl rfl)).symm
      simp only [sg_eq]
      pointwise
      exact mul_comm _ _
    · refine Eq.trans ?_ (congrArg₂ (fun d g => d * sg g) (D_entries m c (y 0) (y 1) _ _ rfl rfl) (at2_eq (m ((c.tc : Thread DMergedIdeal.nD DMergedIdeal.τ).loc DMergedIdeal.main_arg2)) (y 0) ⟨3840 + (y 1).val, by have : (y 1).val < 2048 := (y 1).isLt; omega⟩ _ _ rfl rfl)).symm
      simp only [sg_eq]
      pointwise
      exact mul_comm _ _
    · refine Eq.trans ?_ (congrArg₂ (fun d g => d * sg g * (1 - sg g)) (congrArg₂ (· * ·) (D_entries m c (y 0) (y 1) _ _ rfl rfl) (at2_eq (m ((c.tc : Thread DMergedIdeal.nD DMergedIdeal.τ).loc DMergedIdeal.main_arg3)) (y 0) (y 1) _ _ rfl rfl)) (at2_eq (m ((c.tc : Thread DMergedIdeal.nD DMergedIdeal.τ).loc DMergedIdeal.main_arg2)) (y 0) ⟨1792 + (y 1).val, by have : (y 1).val < 2048 := (y 1).isLt; omega⟩ _ _ rfl rfl)).symm
      simp only [sg_eq]
      pointwise
      exact (mul_assoc _ _ _).symm
    · refine Eq.trans ?_ (congrArg₂ (fun d g => d * sg g * (1 - sg g)) (congrArg₂ (· * ·) (D_entries m c (y 0) (y 1) _ _ rfl rfl) (at2_eq (m ((c.tc : Thread DMergedIdeal.nD DMergedIdeal.τ).loc DMergedIdeal.main_arg4)) (y 0) (y 1) _ _ rfl rfl)) (at2_eq (m ((c.tc : Thread DMergedIdeal.nD DMergedIdeal.τ).loc DMergedIdeal.main_arg2)) (y 0) ⟨3840 + (y 1).val, by have : (y 1).val < 2048 := (y 1).isLt; omega⟩ _ _ rfl rfl)).symm
      simp only [sg_eq]
      pointwise
      exact (mul_assoc _ _ _).symm

end DMergedClaims

end
-- ==== Proof.NormGrad.lean ====
/-
  The gradient of the root-mean-square norm, along a row: the form the kernels compute and the form that
  reverse-mode differentiation of the norm gives are the same number, whatever the row holds.
-/
module

public import proofs.«01_k».proof.Proof.Norm

@[expose] public section

noncomputable section

namespace Ffn

open Idealize.ShloMosaic

/-- The factor that is taken from each summand goes in front of the sum, for a real factor that is not negative. -/
theorem sum_mul_real {ι : Type} (s : Finset ι) (f : ι → EReal) {a : ℝ} (ha : 0 ≤ a) : ∑ k ∈ s, f k * a = (∑ k ∈ s, f k) * a := by
  classical
  induction s using Finset.induction_on with
  | empty => simp
  | insert k s hk ih =>
    rw [Finset.sum_insert hk, Finset.sum_insert hk, ih,
      EReal.right_distrib_of_nonneg_of_ne_top (EReal.coe_nonneg.mpr ha) (EReal.coe_ne_top a)]

theorem width_eq : width = (2048 : ℝ) := by
  simp [width, Ideal.ofBits, Ideal.ieee, -EReal.coe_mul]; norm_num

theorem eps_pos : ∃ e : ℝ, 0 < e ∧ eps = e := by
  refine ⟨8796093 * 2 ^ (-43 : ℤ), by norm_num, ?_⟩
  simp [eps, Ideal.ofBits, Ideal.ieee, -EReal.coe_mul]

/-- Dividing by the width is multiplying by 1/2048. -/
theorem div_width (x : EReal) : Ideal.div x width = x * ((2048 : ℝ)⁻¹ : ℝ) := by
  rw [width_eq, Ideal.div, if_neg (by norm_num [← EReal.coe_zero]), EReal.coe_inv]

theorem mul_self_nonneg (x : EReal) : 0 ≤ x * x := by
  induction x using EReal.rec with
  | bot => simp
  | top => simp
  | coe r => exact_mod_cast _root_.mul_self_nonneg r

/-- What is under the norm's root: positive and real with the root's inverse real, or infinite with the root's inverse 0. -/
theorem rms_cases (x : Fin 2048 → EReal) :
    (∃ s : ℝ, 0 < s ∧ mean (fun k => x k * x k) + eps = s ∧ rms x = ((Real.sqrt s)⁻¹ : ℝ))
      ∨ (mean (fun k => x k * x k) + eps = ⊤ ∧ rms x = 0) := by
  obtain ⟨e, he, h⟩ := eps_pos
  have h0 : 0 ≤ mean fun k => x k * x k := by
    rw [mean, div_width]
    exact mul_nonneg (Finset.sum_nonneg fun k _ => mul_self_nonneg (x k)) (EReal.coe_nonneg.mpr (by norm_num))
  rw [rms, h]
  generalize mean (fun k => x k * x k) = a at h0
  induction a using EReal.rec with
  | bot => simp at h0
  | top => exact .inr ⟨EReal.top_add_coe e, by rw [EReal.top_add_coe]; rfl⟩
  | coe r =>
    have hr : 0 < r + e := add_pos_of_nonneg_of_pos (EReal.coe_nonneg.mp h0) he
    refine .inl ⟨r + e, hr, rfl, ?_⟩
    rw [← EReal.coe_add]
    exact (if_neg hr.not_gt).trans (if_neg hr.ne')

/-- An entry of the row's gradient as the kernels compute it, from the row `x`, the gradient `e` of the norm before
    the gain, and the entry's own `a` of the one and `b` of the other. -/
def normGrad (x e : Fin 2048 → EReal) (a b : EReal) : EReal :=
  rms x * (b - a * rms x * mean fun k => e k * (x k * rms x))

theorem normGrad_congr {x x' e e' : Fin 2048 → EReal} {a a' b b' : EReal} (hx : ∀ k, x k = x' k) (he : ∀ k, e k = e' k) (ha : a = a') (hb : b = b') :
    normGrad x e a b = normGrad x' e' a' b' := by
  rw [funext hx, funext he, ha, hb]

/-- The part of the row's gradient that comes through the root, as differentiation gives it, up to the factor `2 x`. -/
def rootGrad (x e : Fin 2048 → EReal) : EReal :=
  Ideal.div ((∑ k, x k * e k) * (-half * Ideal.div (rms x) (mean (fun k => x k * x k) + eps))) width

/-- Twice a multiple of a number. -/
theorem add_self_neg (y : EReal) {a : ℝ} (ha : 0 ≤ a) : y * ((-a : ℝ) : EReal) + y * ((-a : ℝ) : EReal) = -(y * ((a + a : ℝ) : EReal)) := by
  have ha' : (0 : EReal) ≤ a := EReal.coe_nonneg.mpr ha
  rw [EReal.coe_add, EReal.left_distrib_of_nonneg ha' ha', EReal.coe_neg, mul_comm y (-_), EReal.neg_mul, mul_comm _ y]
  generalize y * (a : EReal) = z
  induction z using EReal.rec with
  | bot => simp
  | top => simp
  | coe r => norm_cast; ring

/-- The two forms of the row's gradient agree. -/
theorem normGrad_eq (x e : Fin 2048 → EReal) (a b : EReal) :
    normGrad x e a b = b * rms x + a * rootGrad x e + rootGrad x e * a := by
  obtain ⟨s, hs, h, hr⟩ | ⟨h, hr⟩ := rms_cases x
  · have hR : 0 < (Real.sqrt s)⁻¹ := inv_pos.mpr (Real.sqrt_pos.mpr hs)
    have hs' : s⁻¹ = (Real.sqrt s)⁻¹ * (Real.sqrt s)⁻¹ := by rw [← mul_inv, Real.mul_self_sqrt hs.le]
    have hd : Ideal.div ((Real.sqrt s)⁻¹ : ℝ) (s : EReal) = (((Real.sqrt s)⁻¹ * s⁻¹ : ℝ) : EReal) := by
      rw [Ideal.div, if_neg (by exact_mod_cast hs.ne'), ← EReal.coe_inv, ← EReal.coe_mul]
    rw [normGrad, rootGrad, mean, div_width, div_width, h, hr, hd, hs']
    generalize (Real.sqrt s)⁻¹ = R at hR
    have hR' : (0 : EReal) ≤ R := EReal.coe_nonneg.mpr hR.le
    have hsum : ∑ k, e k * (x k * R) = (∑ k, x k * e k) * R := by
      rw [← sum_mul_real _ _ hR.le]
      exact Finset.sum_congr rfl fun k _ => by rw [mul_comm (x k) (e k), mul_assoc]
    have hhalf : -half * ((R * (R * R) : ℝ) : EReal) = ((-(1 / 2) * (R * (R * R)) : ℝ) : EReal) := by
      rw [half, ← EReal.coe_neg, ← EReal.coe_mul]
    have ha : -(1 / 2) * (R * (R * R)) * (2048 : ℝ)⁻¹ = -((1 / 2) * (R * (R * R)) * (2048 : ℝ)⁻¹) := by ring
    have h2 : (1 / 2) * (R * (R * R)) * (2048 : ℝ)⁻¹ + (1 / 2) * (R * (R * R)) * (2048 : ℝ)⁻¹ = R * (R * (R * (2048 : ℝ)⁻¹)) := by ring
    rw [hsum, hhalf]
    generalize ∑ k, x k * e k = S
    rw [mul_assoc S (R : EReal), mul_assoc S _ (((2048 : ℝ)⁻¹ : ℝ) : EReal), ← EReal.coe_mul, ← EReal.coe_mul, ha, mul_comm (S * _) (a), ← mul_assoc (a) S, add_assoc, add_self_neg _ (by positivity), h2,
      sub_eq_add_neg, EReal.left_distrib_of_nonneg_of_ne_top hR' (EReal.coe_ne_top R), mul_comm b, mul_comm (R : EReal) (-_), EReal.neg_mul]
    simp only [EReal.coe_mul]
    congr 2
    ac_rfl
  · have hd : Ideal.div 0 ⊤ = 0 := by simp [Ideal.div]
    rw [normGrad, rootGrad, div_width, h, hr, hd]
    simp only [mul_zero, zero_mul, add_zero]

end Ffn

end
-- ==== Proof.RowTile.lean ====
/-
  A tile of 256 rows that is worked in two chunks of 128: what is stored chunk by chunk, what is loaded chunk by chunk,
  and the norm's gradient over such a tile.
-/
module

public import proofs.«01_k».proof.Proof.NormGrad
public import Idealize.ShloMosaic.Lib.Pipeline.ReadBack
public import Idealize.ShloMosaic.Lib.Pipeline.Value

@[expose] public section

noncomputable section

namespace Ffn

open Idealize.ShloMosaic Idealize.ShloMosaic.TcCoe Idealize.SL.Sem

/-- A tile. -/
abbrev Tile : Shape := ⟨2, ![256, 2048]⟩

/-- A chunk of a tile. -/
abbrev Chunk : Shape := ⟨2, ![128, 2048]⟩

/-- A row of a block of one row is its column. -/
theorem eq_row {n : ℕ} (x : (⟨2, ![1, n]⟩ : Shape).Idx) : x = ix2 0 (x 1) := by
  have h0 : x 0 = (0 : Fin 1) := Fin.ext (by have := (x 0).isLt; change (x 0).val < 1 at this; show (x 0).val = 0; omega)
  exact (eq_ix2 x).trans (congrArg (fun k => ix2 k (x 1)) h0)

/-- Two chunks, stored one after the other, are the tile: entry by entry the function whose rows they are. -/
theorem tile_of_chunks {φ : EltTy} (E : Fin 256 → Fin 2048 → Elt Ideal φ)
    (inb1 : ∀ a, (![128, 0] : Fin 2 → ℕ) a + (![128, 2048] : Fin 2 → ℕ) a ≤ Tile.size a)
    (inb0 : ∀ a, (![0, 0] : Fin 2 → ℕ) a + (![128, 2048] : Fin 2 → ℕ) a ≤ Tile.size a) (w1 w0 : Vec Ideal Chunk φ)
    (h1 : ∀ (r : Fin 128) (l : Fin 2048) (s : Fin 256), s.val = 128 + r.val → w1 (ix2 r l) = E s l)
    (h0 : ∀ (r : Fin 128) (l : Fin 2048) (s : Fin 256), s.val = 0 + r.val → w0 (ix2 r l) = E s l) (r : Fin 256) (p : Fin 2048) :
    View.canon ([⟨Rect.unit ![128, 0] ![128, 2048] inb1, w1⟩, ⟨Rect.unit ![0, 0] ![128, 2048] inb0, w0⟩] : List (View.Piece (Elt Ideal) Tile φ)) (ix2 r p)
      = E r p := by
  have hr := r.isLt
  have hp := p.isLt
  refine View.canon_append_of_piecesOf (fun y : Tile.Idx => E (y 0) (y 1)) [] [_, _] ⟨?_, ?_, trivial⟩ _ ?_
  · intro x
    exact (congrArg w1 (eq_ix2 x)).trans ((h1 (x 0) (x 1) _ (by show 128 + 1 * (x 0).val = _; omega)).trans
      (congrArg (E _) (Fin.ext (by show (x 1).val = 0 + 1 * (x 1).val; omega))))
  · intro x
    exact (congrArg w0 (eq_ix2 x)).trans ((h0 (x 0) (x 1) _ (by show 0 + 1 * (x 0).val = _; omega)).trans
      (congrArg (E _) (Fin.ext (by show (x 1).val = 0 + 1 * (x 1).val; omega))))
  · by_cases h : r.val < 128
    · refine ⟨_, .tail _ (.head _), (Rect.mem_set_unit (inb := inb0)).2 fun a => ?_⟩
      match a with
      | ⟨0, _⟩ => exact ⟨Nat.zero_le _, by show r.val < 0 + 128; omega⟩
      | ⟨1, _⟩ => exact ⟨Nat.zero_le _, by show p.val < 0 + 2048; omega⟩
    · refine ⟨_, .head _, (Rect.mem_set_unit (inb := inb1)).2 fun a => ?_⟩
      match a with
      | ⟨0, _⟩ => exact ⟨by show 128 ≤ r.val; omega, by show r.val < 128 + 128; omega⟩
      | ⟨1, _⟩ => exact ⟨Nat.zero_le _, by show p.val < 0 + 2048; omega⟩

/-- A sum over a tile's rows is the first chunk's and then the last chunk's. -/
theorem sum_chunks (f : Fin 256 → EReal) (g0 g1 : Fin 128 → EReal) (w : EReal)
    (h0 : ∀ (r : Fin 128) (s : Fin 256), s.val = 0 + r.val → g0 r = f s) (h1 : ∀ (r : Fin 128) (s : Fin 256), s.val = 128 + r.val → g1 r = f s) :
    w + ∑ r, g0 r + ∑ r, g1 r = w + ∑ r, f r := by
  rw [add_assoc, Fin.sum_univ_add (a := 128) (b := 128) f]
  exact congrArg (w + ·) (congrArg₂ (· + ·) (Finset.sum_congr rfl fun r _ => h0 r (Fin.castAdd 128 r) (Nat.zero_add _).symm)
    (Finset.sum_congr rfl fun r _ => h1 r (Fin.natAdd 128 r) rfl))

section Load

variable (o : ℕ) (inb : ∀ a, (![o, 0] : Fin 2 → ℕ) a + (![128, 2048] : Fin 2 → ℕ) a ≤ Tile.size a) (r : Fin 128) (p : Fin 2048) (s : Fin 256)
  (h : s.val = o + r.val)
include h

/-- A load of the chunk from row `o` on, entry by entry. -/
theorem ld_rows {φ : EltTy} (v : Vec Ideal Tile φ) : View.ld v (Rect.unit ![o, 0] ![128, 2048] inb) (ix2 r p) = v (ix2 s p) := by
  refine congrArg v (funext fun a => Fin.ext ?_)
  match a with
  | ⟨0, _⟩ => show o + 1 * r.val = s.val; omega
  | ⟨1, _⟩ => show 0 + 1 * p.val = p.val; omega

end Load

/-- The gradient of a tile's row, added to the gradient that passes the norm by. -/
def rowGrad (dy : Vec Ideal Tile .bf16) (x : Vec Ideal Tile .f32) (g : Vec Ideal ⟨2, ![1, 2048]⟩ .f32) (d : Vec Ideal Tile .bf16) (r : Fin 256) (p : Fin 2048) : EReal :=
  normGrad (fun k => x (ix2 r k)) (fun k => dy (ix2 r k) * g (ix2 0 k)) (x (ix2 r p)) (dy (ix2 r p) * g (ix2 0 p)) + d (ix2 r p)

/-- What a tile's row adds to the gain's gradient. -/
def gainTerm (dy : Vec Ideal Tile .bf16) (x : Vec Ideal Tile .f32) (r : Fin 256) (p : Fin 2048) : EReal :=
  dy (ix2 r p) * (x (ix2 r p) * rms fun k => x (ix2 r k))

section Load

variable (x0 : Vec Ideal Tile .bf16) (x1 : Vec Ideal Tile .f32) (x2 : Vec Ideal ⟨2, ![1, 2048]⟩ .f32) (x3 : Vec Ideal Tile .bf16)
  (o : ℕ) (inb : ∀ a, (![o, 0] : Fin 2 → ℕ) a + (![128, 2048] : Fin 2 → ℕ) a ≤ Tile.size a) (r : Fin 128) (p : Fin 2048) (s : Fin 256)
  (h : s.val = o + r.val)
include h

/-- The gradient's expression over a chunk's load is the tile's row's. -/
theorem rowGrad_load : normGrad (fun k => View.ld x1 (Rect.unit ![o, 0] ![128, 2048] inb) (ix2 r k))
      (fun k => (View.ld x0 (Rect.unit ![o, 0] ![128, 2048] inb) (ix2 r k) : EReal) * x2 (ix2 0 k))
      (View.ld x1 (Rect.unit ![o, 0] ![128, 2048] inb) (ix2 r p))
      ((View.ld x0 (Rect.unit ![o, 0] ![128, 2048] inb) (ix2 r p) : EReal) * x2 (ix2 0 p))
        + (View.ld x3 (Rect.unit ![o, 0] ![128, 2048] inb) (ix2 r p) : EReal)
    = rowGrad x0 x1 x2 x3 s p :=
  congrArg₂ (· + ·) (normGrad_congr (fun k => ld_rows o inb r k s h x1) (fun k => congrArg (· * x2 (ix2 0 k)) (ld_rows o inb r k s h x0))
    (ld_rows o inb r p s h x1) (congrArg (· * x2 (ix2 0 p)) (ld_rows o inb r p s h x0))) (ld_rows o inb r p s h x3)

/-- The gain's term over a chunk's load is the tile's row's. -/
theorem gainTerm_load : (View.ld x0 (Rect.unit ![o, 0] ![128, 2048] inb) (ix2 r p) : EReal)
      * ((View.ld x1 (Rect.unit ![o, 0] ![128, 2048] inb) (ix2 r p) : EReal) * rms fun k => View.ld x1 (Rect.unit ![o, 0] ![128, 2048] inb) (ix2 r k))
    = gainTerm x0 x1 s p :=
  congrArg₂ (· * ·) (ld_rows o inb r p s h x0) (congrArg₂ (· * ·) (ld_rows o inb r p s h x1) (congrArg rms (funext fun k => ld_rows o inb r k s h x1)))

end Load

end Ffn

end
-- ==== Proof.Tiles.lean ====
/-
  Sums over the rows of an array, gathered over its row tiles one after another.
-/
module

public import proofs.«01_k».proof.Proof.Spec

@[expose] public section

noncomputable section

namespace Ffn

/-- A running sum that starts with the first tile of `b` terms and takes in one more tile at each step
    is the sum of all the terms of the tiles so far. -/
theorem running_sum {N b : ℕ} (f : ℕ → EReal) (g : (n : ℕ) → n < N → EReal)
    (h0 : ∀ h : 0 < N, g 0 h = ∑ r : Fin b, f (0 * b + r.val))
    (hs : ∀ (n : ℕ) (h : n + 1 < N), g (n + 1) h = g n (Nat.lt_of_succ_lt h) + ∑ r : Fin b, f ((n + 1) * b + r.val)) :
    ∀ (n : ℕ) (h : n < N), g n h = ∑ r ∈ Finset.range ((n + 1) * b), f r
  | 0, h => by
    rw [h0 h, Nat.zero_add, Nat.one_mul, Finset.sum_range]
    simp only [Nat.zero_mul, Nat.zero_add]
  | n + 1, h => by
    rw [hs n h, running_sum f g h0 hs n, Nat.add_mul (n + 1) 1 b, Nat.one_mul, Finset.sum_range_add, Finset.sum_range fun r => f ((n + 1) * b + r)]

end Ffn

end
-- ==== Proof.Rms2BwdValue.lean ====
/-
  The backward call of the second norm: what the kernel leaves in its two result arrays, entry by entry — the gradient of the
  normed rows added to the one that passes them by, and the gain's gradient gathered over 32 row tiles.
-/
module

public import proofs.«01_k».proof.Proof.Product
public import proofs.«01_k».proof.Proof.RowTile
public import proofs.«01_k».proof.Proof.Tiles
public import proofs.«01_k».proof.Proof.Gen.Rms2BwdIdeal.Value
public import Idealize.ShloMosaic.Lib.Pipeline.ReadBack
public import Idealize.ShloMosaic.Lib.Pointwise

@[expose] public section

noncomputable section

namespace Cert.Rms2BwdIdeal.Final

open Cert.Rms2BwdIdeal Cert.Rms2BwdIdeal.Gen Idealize.ShloMosaic Idealize.ShloMosaic.TcCoe Idealize.SL.Sem Ffn

/-- The stored zeros. -/
theorem pay2_apply (l : Fin 2048) : k0_pay2 (F := Ideal) (ix2 0 l) = 0 := by
  unfold k0_pay2
  pointwise

section Chunk

variable (dy : Vec Ideal S128x2048 .bf16) (x : Vec Ideal S128x2048 .f32) (g : Vec Ideal S1x2048 .f32) (d : Vec Ideal S128x2048 .bf16)
  (w : Vec Ideal S1x2048 .f32)

/-- The rows' gradient, for a tile's first 128 rows. -/
theorem grad0_apply (r : Fin 128) (l : Fin 2048) :
    k0_pay6 dy x g d (ix2 r l)
      = normGrad (fun k => x (ix2 r k)) (fun k => dy (ix2 r k) * g (ix2 0 k)) (x (ix2 r l)) (dy (ix2 r l) * g (ix2 0 l)) + d (ix2 r l) := by
  unfold k0_pay6 k0_pay5 k0_pay4 k0_pay3
  pointwise
  rfl

/-- The rows' gradient, for the last 128 rows. -/
theorem grad1_apply (r : Fin 128) (l : Fin 2048) :
    k0_pay13 dy x g d (ix2 r l)
      = normGrad (fun k => x (ix2 r k)) (fun k => dy (ix2 r k) * g (ix2 0 k)) (x (ix2 r l)) (dy (ix2 r l) * g (ix2 0 l)) + d (ix2 r l) := by
  unfold k0_pay13 k0_pay12 k0_pay11 k0_pay10
  pointwise
  rfl

/-- The gain's running gradient, with the first 128 rows' added. -/
theorem gain0_apply (l : Fin 2048) :
    k0_pay9 (k0_pay7 w) (k0_pay8 dy x) (ix2 0 l)
      = w (ix2 0 l) + ∑ r : Fin 128, dy (ix2 r l) * (x (ix2 r l) * rms fun k => x (ix2 r k)) := by
  unfold k0_pay9 k0_pay7 k0_pay8 k0_pay5 k0_pay4 k0_pay3
  pointwise
  rfl

/-- The gain's running gradient, with the last 128 rows' added. -/
theorem gain1_apply (l : Fin 2048) :
    k0_pay1 (k0_pay14 w) (k0_pay15 dy x) (ix2 0 l)
      = w (ix2 0 l) + ∑ r : Fin 128, dy (ix2 r l) * (x (ix2 r l) * rms fun k => x (ix2 r k)) := by
  unfold k0_pay1 k0_pay14 k0_pay15 k0_pay12 k0_pay11 k0_pay10
  pointwise
  rfl

end Chunk

section Point

variable (x0 : Vec Ideal S256x2048 .bf16) (x1 : Vec Ideal S256x2048 .f32) (x2 : Vec Ideal S1x2048 .f32) (x3 : Vec Ideal S256x2048 .bf16)
  (xo5 : Vec Ideal S1x2048 .f32)

/-- The two chunks a point stores are the tile's gradient. -/
theorem halves (r : Fin 256) (p : Fin 2048) :
    View.canon ([⟨Rect.unit ![128, 0] ![128, 2048] inb_S256x2048_S128x2048_128_0, k0_pay13 (View.ld x0 (Rect.unit ![128, 0] ![128, 2048] inb_S256x2048_S128x2048_128_0)) (View.ld x1 (Rect.unit ![128, 0] ![128, 2048] inb_S256x2048_S128x2048_128_0)) x2 (View.ld x3 (Rect.unit ![128, 0] ![128, 2048] inb_S256x2048_S128x2048_128_0))⟩,
        ⟨Rect.unit ![0, 0] ![128, 2048] inb_S256x2048_S128x2048_0_0, k0_pay6 (View.ld x0 (Rect.unit ![0, 0] ![128, 2048] inb_S256x2048_S128x2048_0_0)) (View.ld x1 (Rect.unit ![0, 0] ![128, 2048] inb_S256x2048_S128x2048_0_0)) x2 (View.ld x3 (Rect.unit ![0, 0] ![128, 2048] inb_S256x2048_S128x2048_0_0))⟩] : List (View.Piece (Elt Ideal) S256x2048 .bf16)) (ix2 r p)
      = rowGrad x0 x1 x2 x3 r p :=
  tile_of_chunks (φ := .bf16) (rowGrad x0 x1 x2 x3) _ _ _ _ (fun r l s h => (grad1_apply _ _ _ _ r l).trans (rowGrad_load x0 x1 x2 x3 128 _ r l s h))
    (fun r l s h => (grad0_apply _ _ _ _ r l).trans (rowGrad_load x0 x1 x2 x3 0 _ r l s h)) r p

/-- The row a point stores last is the gain's running gradient with the tile's rows added. -/
theorem sums (p : Fin 2048) :
    k0_pay1 (k0_pay14 (k0_pay9 (k0_pay7 xo5) (k0_pay8 (View.ld x0 (Rect.unit ![0, 0] ![128, 2048] inb_S256x2048_S128x2048_0_0)) (View.ld x1 (Rect.unit ![0, 0] ![128, 2048] inb_S256x2048_S128x2048_0_0))))) (k0_pay15 (View.ld x0 (Rect.unit ![128, 0] ![128, 2048] inb_S256x2048_S128x2048_128_0)) (View.ld x1 (Rect.unit ![128, 0] ![128, 2048] inb_S256x2048_S128x2048_128_0))) (ix2 0 p)
      = xo5 (ix2 0 p) + ∑ r : Fin 256, gainTerm x0 x1 r p :=
  (gain1_apply _ _ _ p).trans ((congrArg₂ (· + ·) (gain0_apply _ _ _ p) rfl).trans
    (sum_chunks _ _ _ _ (fun r s h => gainTerm_load x0 x1 0 _ r p s h) (fun r s h => gainTerm_load x0 x1 128 _ r p s h)))

variable (c : Dev nD) (i : grid0.Coords) (arg1 : Memref sig .tc .vmem S256x2048 .bf16) (harg1 : arg1.IsWhole)
    (arg2 : Memref sig .tc .vmem S256x2048 .f32) (harg2 : arg2.IsWhole)
    (arg3 : Memref sig .tc .vmem S1x2048 .f32) (harg3 : arg3.IsWhole)
    (arg4 : Memref sig .tc .vmem S256x2048 .bf16) (harg4 : arg4.IsWhole)
    (arg5 : Memref sig .tc .vmem S256x2048 .bf16) (harg5 : arg5.IsWhole)
    (arg6 : Memref sig .tc .vmem S1x2048 .f32) (harg6 : arg6.IsWhole)

/-! What the first point leaves in the two result blocks, and what a later point does. -/

theorem out_A_4 (hc : cond0_0 i) (r : Fin 256) (p : Fin 2048) : out0_A_4 c i arg1 harg1 arg2 harg2 arg3 harg3 arg4 harg4 arg5 harg5 arg6 harg6 hc x0 x1 x2 x3 (ix2 r p) = rowGrad x0 x1 x2 x3 r p := by
  unfold out0_A_4
  rw [View.read_writes_eq_canon _ _ _ (fun y => cover0_A_4 _ _ _ _ _ _ _ _ _ _ _ _ _ _ _ _ _ _ _ y)]
  unfold kernelRun0_A
  dsimp only
  sl_unfold_words
  simp only [View.readAt_eq_ld, harg1.read_unread, harg2.read_unread, harg3.read_unread, harg4.read_unread,
    ld_whole]
  exact halves x0 x1 x2 x3 r p

theorem out_B_4 (hc : ¬cond0_0 i) (r : Fin 256) (p : Fin 2048) : out0_B_4 c i arg1 harg1 arg2 harg2 arg3 harg3 arg4 harg4 arg5 harg5 arg6 harg6 hc x0 x1 x2 x3 xo5 (ix2 r p) = rowGrad x0 x1 x2 x3 r p := by
  unfold out0_B_4
  rw [View.read_writes_eq_canon _ _ _ (fun y => cover0_B_4 _ _ _ _ _ _ _ _ _ _ _ _ _ _ _ _ _ _ _ _ y)]
  unfold kernelRun0_B
  dsimp only
  sl_unfold_words
  simp only [View.readAt_eq_ld, harg1.read_unread, harg2.read_unread, harg3.read_unread, harg4.read_unread, harg6.read_unread,
    ld_whole]
  exact halves x0 x1 x2 x3 r p

theorem out_A_5 (hc : cond0_0 i) (p : Fin 2048) : out0_A_5 c i arg1 harg1 arg2 harg2 arg3 harg3 arg4 harg4 arg5 harg5 arg6 harg6 hc x0 x1 x2 x3 (ix2 0 p) = ∑ r : Fin 256, gainTerm x0 x1 r p := by
  unfold out0_A_5
  rw [View.read_writes_eq_canon _ _ _ (fun y => cover0_A_5 _ _ _ _ _ _ _ _ _ _ _ _ _ _ _ _ _ _ _ y)]
  unfold kernelRun0_A
  dsimp only
  sl_unfold_words
  simp only [View.readAt_eq_ld, harg1.read_unread, harg2.read_unread, harg3.read_unread, harg4.read_unread,
    ld_whole]
  simp only [View.canon_cons_unit_zero (S := S1x2048) hz, View.readCov_cons_toLoadRect]
  refine (sums x0 x1 (k0_pay2 (F := Ideal)) p).trans ?_
  rw [pay2_apply, zero_add]

theorem out_B_5 (hc : ¬cond0_0 i) (p : Fin 2048) :
    out0_B_5 c i arg1 harg1 arg2 harg2 arg3 harg3 arg4 harg4 arg5 harg5 arg6 harg6 hc x0 x1 x2 x3 xo5 (ix2 0 p) = xo5 (ix2 0 p) + ∑ r : Fin 256, gainTerm x0 x1 r p := by
  unfold out0_B_5
  rw [View.read_writes_eq_canon _ _ _ (fun y => cover0_B_5 _ _ _ _ _ _ _ _ _ _ _ _ _ _ _ _ _ _ _ _ y)]
  unfold kernelRun0_B
  dsimp only
  sl_unfold_words
  simp only [View.readAt_eq_ld, harg1.read_unread, harg2.read_unread, harg3.read_unread, harg4.read_unread, harg6.read_unread,
    ld_whole]
  simp only [View.canon_cons_unit_zero (S := S1x2048) hz, View.readCov_cons_toLoadRect]
  exact sums x0 x1 xo5 p

end Point

variable (m : (ℓ : Loc nD τ sig) → Buf (Elt Ideal) ℓ) (c : Dev nD)

/-- The gradient of the normed rows. -/
abbrev D (r q : ℕ) : EReal := at2 (n0 := 8192) (n1 := 2048) (m ((c : Thread nD τ).loc main_arg0)) r q

/-- The rows before the norm. -/
abbrev A (r q : ℕ) : EReal := at2 (n0 := 8192) (n1 := 2048) (m ((c : Thread nD τ).loc main_arg1)) r q

/-- The gain. -/
abbrev G (q : ℕ) : EReal := at2 (n0 := 1) (n1 := 2048) (m ((c : Thread nD τ).loc main_arg2)) 0 q

/-- The gradient that passes the norm by. -/
abbrev P (r q : ℕ) : EReal := at2 (n0 := 8192) (n1 := 2048) (m ((c : Thread nD τ).loc main_arg3)) r q

theorem index0 : ∀ t : Fin cfg0.N, win0_0.index t 0 = t.val ∧ win0_0.index t 1 = 0 :=
  (by decide +kernel : ∀ t : Fin grid0.N, win0_0.index t 0 = t.val ∧ win0_0.index t 1 = 0)

/-- Window 0's block at a point, entry by entry. -/
theorem block0 (t : Fin cfg0.N) (r : Fin 256) (l : Fin 2048) :
    (iblk m c 0 t : Vec Ideal S256x2048 .bf16) (ix2 r l)
      = at2 (n0 := 8192) (n1 := 2048) (m ((c : Thread nD τ).loc main_arg0)) ((t.val) * 256 + r.val) ((0) * 2048 + l.val) := by
  unfold iblk
  rw [View.read_apply]
  show V m c main_arg0 _ = _
  rw [V_main_arg0]
  exact at2_block (index0 t) rfl rfl

theorem index1 : ∀ t : Fin cfg0.N, win0_1.index t 0 = t.val ∧ win0_1.index t 1 = 0 :=
  (by decide +kernel : ∀ t : Fin grid0.N, win0_1.index t 0 = t.val ∧ win0_1.index t 1 = 0)

/-- Window 1's block at a point, entry by entry. -/
theorem block1 (t : Fin cfg0.N) (r : Fin 256) (l : Fin 2048) :
    (iblk m c 1 t : Vec Ideal S256x2048 .f32) (ix2 r l)
      = at2 (n0 := 8192) (n1 := 2048) (m ((c : Thread nD τ).loc main_arg1)) ((t.val) * 256 + r.val) ((0) * 2048 + l.val) := by
  unfold iblk
  rw [View.read_apply]
  show V m c main_arg1 _ = _
  rw [V_main_arg1]
  exact at2_block (index1 t) rfl rfl

theorem index2 : ∀ t : Fin cfg0.N, win0_2.index t 0 = 0 ∧ win0_2.index t 1 = 0 :=
  (by decide +kernel : ∀ t : Fin grid0.N, win0_2.index t 0 = 0 ∧ win0_2.index t 1 = 0)

/-- Window 2's block at a point, entry by entry. -/
theorem block2 (t : Fin cfg0.N) (r : Fin 1) (l : Fin 2048) :
    (iblk m c 2 t : Vec Ideal S1x2048 .f32) (ix2 r l)
      = at2 (n0 := 1) (n1 := 2048) (m ((c : Thread nD τ).loc main_arg2)) ((0) * 1 + r.val) ((0) * 2048 + l.val) := by
  unfold iblk
  rw [View.read_apply]
  show V m c main_arg2 _ = _
  rw [V_main_arg2]
  exact at2_block (index2 t) rfl rfl

theorem index3 : ∀ t : Fin cfg0.N, win0_3.index t 0 = t.val ∧ win0_3.index t 1 = 0 :=
  (by decide +kernel : ∀ t : Fin grid0.N, win0_3.index t 0 = t.val ∧ win0_3.index t 1 = 0)

/-- Window 3's block at a point, entry by entry. -/
theorem block3 (t : Fin cfg0.N) (r : Fin 256) (l : Fin 2048) :
    (iblk m c 3 t : Vec Ideal S256x2048 .bf16) (ix2 r l)
      = at2 (n0 := 8192) (n1 := 2048) (m ((c : Thread nD τ).loc main_arg3)) ((t.val) * 256 + r.val) ((0) * 2048 + l.val) := by
  unfold iblk
  rw [View.read_apply]
  show V m c main_arg3 _ = _
  rw [V_main_arg3]
  exact at2_block (index3 t) rfl rfl

theorem index4 : ∀ t : Fin cfg0.N, win0_4.index t 0 = t.val ∧ win0_4.index t 1 = 0 :=
  (by decide +kernel : ∀ t : Fin grid0.N, win0_4.index t 0 = t.val ∧ win0_4.index t 1 = 0)

theorem index5 : ∀ t : Fin cfg0.N, win0_5.index t 0 = 0 ∧ win0_5.index t 1 = 0 :=
  (by decide +kernel : ∀ t : Fin grid0.N, win0_5.index t 0 = 0 ∧ win0_5.index t 1 = 0)

/-- The rows' gradient. -/
def val4 (r q : ℕ) : EReal :=
  normGrad (fun k => A m c r k.val) (fun k => D m c r k.val * G m c k.val) (A m c r q) (D m c r q * G m c q) + P m c r q

/-- What row `r` adds to the gain's gradient. -/
def term5 (r q : ℕ) : EReal := D m c r q * (A m c r q * rms fun k => A m c r k.val)

/-- The gain's gradient. -/
def val5 (q : ℕ) : EReal := ∑ r ∈ Finset.range 8192, term5 m c r q

section Blocks

variable (t : Fin cfg0.N) (r : Fin 256) (k : Fin 2048)

theorem d_block : (iblk m c 0 t : Vec Ideal S256x2048 .bf16) (ix2 r k) = D m c (t.val * 256 + r.val) k.val :=
  (block0 m c t r k).trans (congrArg (D m c _) (by omega))

theorem a_block : (iblk m c 1 t : Vec Ideal S256x2048 .f32) (ix2 r k) = A m c (t.val * 256 + r.val) k.val :=
  (block1 m c t r k).trans (congrArg (A m c _) (by omega))

theorem g_block : (iblk m c 2 t : Vec Ideal S1x2048 .f32) (ix2 0 k) = G m c k.val :=
  (block2 m c t 0 k).trans (congrArg₂ (at2 (n0 := 1) (n1 := 2048) (m ((c : Thread nD τ).loc main_arg2))) rfl (by omega))

theorem p_block : (iblk m c 3 t : Vec Ideal S256x2048 .bf16) (ix2 r k) = P m c (t.val * 256 + r.val) k.val :=
  (block3 m c t r k).trans (congrArg (P m c _) (by omega))

/-- The gradient of a point's rows. -/
theorem rowGrad_blocks : rowGrad (iblk m c 0 t : Vec Ideal S256x2048 .bf16) (iblk m c 1 t : Vec Ideal S256x2048 .f32)
      (iblk m c 2 t : Vec Ideal S1x2048 .f32) (iblk m c 3 t : Vec Ideal S256x2048 .bf16) r k
    = val4 m c (t.val * 256 + r.val) k.val := by
  unfold rowGrad val4
  simp only [d_block, a_block, g_block, p_block]

/-- What a point's rows add to the gain's gradient. -/
theorem gainTerm_blocks : gainTerm (iblk m c 0 t : Vec Ideal S256x2048 .bf16) (iblk m c 1 t : Vec Ideal S256x2048 .f32) r k
    = term5 m c (t.val * 256 + r.val) k.val := by
  unfold gainTerm term5
  simp only [d_block, a_block]

end Blocks

attribute [local irreducible] val4 term5 rowGrad gainTerm

/-! What a point leaves in each result block. -/

theorem val4_after (t : Fin cfg0.N) (r : Fin 256) (p : Fin 2048) :
    (outsAt0 m c t.val t.isLt).1 (ix2 r p) = val4 m c (t.val * 256 + r.val) p.val := by
  refine Eq.trans ?_ (rowGrad_blocks m c t r p)
  by_cases h : t.val % 32 = 0
  · rw [outsAt0_A m c t h]
    dsimp only
    exact out_A_4 ..
  · rw [outsAt0_B m c t h]
    dsimp only
    exact out_B_4 ..

theorem sum_after (p : Fin 2048) (n : ℕ) (hn : n < cfg0.N) :
    (outsAt0 m c n hn).2 (ix2 0 p) = ∑ r ∈ Finset.range ((n + 1) * 256), term5 m c r p.val := by
  refine running_sum (N := cfg0.N) (b := 256) (fun r => term5 m c r p.val) (fun n hn => (outsAt0 m c n hn).2 (ix2 0 p)) (fun hn => ?_) (fun n hn => ?_) n hn
  · refine Eq.trans ?_ (Finset.sum_congr rfl fun r _ => gainTerm_blocks m c ⟨0, hn⟩ r p)
    show (outsAt0 m c (⟨0, hn⟩ : Fin cfg0.N).val _).2 _ = _
    rw [outsAt0_A m c ⟨0, hn⟩ rfl]
    dsimp only
    exact out_A_5 ..
  · have hN : n + 1 < 32 := lt_of_lt_of_eq hn N_0
    refine Eq.trans ?_ (congrArg (_ + ·) (Finset.sum_congr rfl fun r _ => gainTerm_blocks m c ⟨n + 1, hn⟩ r p))
    show (outsAt0 m c (⟨n + 1, hn⟩ : Fin cfg0.N).val _).2 _ = _
    rw [outsAt0_B m c ⟨n + 1, hn⟩ (by dsimp only; omega)]
    dsimp only
    exact out_B_5 ..

/-! The two result arrays. -/

def arr4 : Buf (Elt Ideal) ((c : Thread nD τ).loc main_v0_0) := fun y : S8192x2048.Idx => val4 m c (y 0).val (y 1).val

def arr5 : Buf (Elt Ideal) ((c : Thread nD τ).loc main_v0_1) := fun y : S1x2048.Idx => val5 m c (y 1).val

/-- The gain's gradient after the last point. -/
theorem sum_all (q : ℕ) : ∑ r ∈ Finset.range ((31 + 1) * 256), term5 m c r q = val5 m c q := rfl

attribute [local irreducible] val5

/-! The result arrays after the run. -/

theorem final4 : (dats m 0 c).arrAt 4 cfg0.N = arr4 m c := by
  refine (dats m 0 c).arrAt_eq_of_cover 4 (arr4 m c) (fun t hf => ?_) fun (i : S8192x2048.Idx) => ?_
  · rw [Value.flushed4]
    obtain ⟨h0, h1⟩ := index4 t
    funext y
    rw [View.read_apply]
    show (outsAt0 m c t.val t.isLt).1 y = val4 m c (win0_4.index t 0 * 256 + 1 * (y 0).val) (win0_4.index t 1 * 2048 + 1 * (y 1).val)
    refine (congrArg _ (eq_ix2 y)).trans ((val4_after m c t _ _).trans ?_)
    rw [h0, h1]
    exact congrArg₂ (val4 m c) (by omega) (by omega)
  · have b0 : (i 0).val < 8192 := (i 0).isLt
    have b1 : (i 1).val < 2048 := (i 1).isLt
    have hN : cfg0.N = 32 := N_0
    obtain ⟨t, ht⟩ : ∃ t : Fin cfg0.N, t.val = (i 0).val / 256 := ⟨⟨_, by omega⟩, rfl⟩
    refine ⟨t, flush0_4 t, ?_⟩
    show i ∈ ((View.whole main_v0_0).slice (win0_4.rect t)).set
    rw [View.set_slice_whole]
    exact mem_block (index4 t) (by omega) (by omega)

theorem final5 : (dats m 0 c).arrAt 5 cfg0.N = arr5 m c := by
  refine (dats m 0 c).arrAt_eq_of_cover 5 (arr5 m c) (fun t hf => ?_) fun (i : S1x2048.Idx) => ?_
  · rw [Value.flushed5]
    obtain ⟨h0, h1⟩ := index5 t
    have ht : t.val = 31 := by have := (flush0_5 t).mp hf; have := lt_of_lt_of_eq t.isLt N_0; omega
    funext y
    rw [View.read_apply]
    show (outsAt0 m c t.val t.isLt).2 y = val5 m c (win0_5.index t 1 * 2048 + 1 * (y 1).val)
    refine (congrArg _ (eq_row y)).trans ((sum_after m c _ t.val t.isLt).trans ?_)
    rw [h1, ht]
    exact (sum_all m c _).trans (congrArg (val5 m c) (by omega))
  · have b0 : (i 0).val < 1 := (i 0).isLt
    have b1 : (i 1).val < 2048 := (i 1).isLt
    have hN : cfg0.N = 32 := N_0
    obtain ⟨t, ht⟩ : ∃ t : Fin cfg0.N, t.val = 31 := ⟨⟨_, by omega⟩, rfl⟩
    refine ⟨t, (flush0_5 t).mpr (by omega), ?_⟩
    show i ∈ ((View.whole main_v0_1).slice (win0_5.rect t)).set
    rw [View.set_slice_whole]
    exact mem_block (index5 t) (by omega) (by omega)

end Cert.Rms2BwdIdeal.Final

end
-- ==== Proof.Rms2BwdClaims.lean ====
/-
  The claims about the backward call of the second norm: the frames, and the equality of the two results with the reference's over
  the extended reals.
-/
module

public import proofs.«01_k».proof.Defs
public import proofs.«01_k».proof.Proof.Rms2BwdValue
public import proofs.«01_k».proof.Proof.Gen.Rms2Bwd.Frame
public import proofs.«01_k».proof.Proof.Gen.Rms2BwdRefIdeal.Run

@[expose] public section

noncomputable section

namespace Rms2BwdClaims

open Idealize.ShloMosaic Idealize.ShloMosaic.TcCoe Idealize.SL.Sem Cert Ffn

/-! The frames. -/

theorem frame_p : quiescent_Rms2Bwd := fun m ρ _ => Cert.Rms2Bwd.Gen.frame m ρ

theorem frame_pi : quiescent_Rms2BwdIdeal := fun m ρ _ => Cert.Rms2BwdIdeal.Gen.frame m ρ

theorem frame_ri : quiescent_Rms2BwdRefIdeal := fun m ρ _ =>
  (θ_run _ _ _).mono (fun r h => ⟨fun c => (h c).2.2, sem_eq_zero_of_no_sems (by decide) r.2⟩) (Cert.Rms2BwdRefIdeal.Value.run m ρ)

/-- No operation is rewritten. -/
theorem preserves : preserves_Rms2Bwd_Rms2BwdIdeal := trivial

section Entries

variable (m : (ℓ : Loc Rms2BwdIdeal.nD Rms2BwdIdeal.τ Rms2BwdIdeal.sig) → Buf (Elt Ideal) ℓ) (c : Dev Rms2BwdIdeal.nD)
  (x0 : Vec Ideal Rms2BwdIdeal.S8192x2048 .bf16) (x1 : Vec Ideal Rms2BwdIdeal.S8192x2048 .f32) (x2 : Vec Ideal Rms2BwdIdeal.S1x2048 .f32) (x3 : Vec Ideal Rms2BwdIdeal.S8192x2048 .bf16)
  (h0 : x0 = m ((c.tc : Thread Rms2BwdIdeal.nD Rms2BwdIdeal.τ).loc Rms2BwdIdeal.main_arg0))
  (h1 : x1 = m ((c.tc : Thread Rms2BwdIdeal.nD Rms2BwdIdeal.τ).loc Rms2BwdIdeal.main_arg1))
include h0 h1

/-- What a row adds to the gain's gradient, in the arrays' own entries. -/
theorem term5_entries (i : Fin 8192) (j : Fin 2048) : Rms2BwdIdeal.Final.term5 m c i.val j.val = x1 (ix2 i j) * (rms fun k => x1 (ix2 i k)) * x0 (ix2 i j) := by
  subst h0 h1
  refine Eq.trans (congrArg₂ (· * ·) (at2_eq _ i j _ _ rfl rfl) (congrArg₂ (· * ·) (at2_eq _ i j _ _ rfl rfl)
    (congrArg rms (funext fun k => at2_eq _ i k _ _ rfl rfl)))) (mul_comm _ _)

variable (h2 : x2 = m ((c.tc : Thread Rms2BwdIdeal.nD Rms2BwdIdeal.τ).loc Rms2BwdIdeal.main_arg2))
  (h3 : x3 = m ((c.tc : Thread Rms2BwdIdeal.nD Rms2BwdIdeal.τ).loc Rms2BwdIdeal.main_arg3))
include h2 h3

/-- The rows' gradient in the arrays' own entries, with its parts as the reference adds them. -/
theorem val4_entries (i : Fin 8192) (j : Fin 2048) :
    Rms2BwdIdeal.Final.val4 m c i.val j.val
      = x3 (ix2 i j) + (x0 (ix2 i j) * x2 (ix2 0 j) * (rms fun k => x1 (ix2 i k))
          + x1 (ix2 i j) * rootGrad (fun k => x1 (ix2 i k)) (fun k => x0 (ix2 i k) * x2 (ix2 0 k))
          + rootGrad (fun k => x1 (ix2 i k)) (fun k => x0 (ix2 i k) * x2 (ix2 0 k)) * x1 (ix2 i j)) := by
  subst h0 h1 h2 h3
  rw [← normGrad_eq, add_comm]
  unfold Rms2BwdIdeal.Final.val4
  have hx : ∀ k : Fin 2048, Rms2BwdIdeal.Final.A m c i.val k.val = _ := fun k => at2_eq _ i k _ _ rfl rfl
  have hd : ∀ k : Fin 2048, Rms2BwdIdeal.Final.D m c i.val k.val = _ := fun k => at2_eq _ i k _ _ rfl rfl
  have hg : ∀ k : Fin 2048, Rms2BwdIdeal.Final.G m c k.val = _ := fun k => at2_eq _ 0 k _ _ rfl rfl
  have hp : Rms2BwdIdeal.Final.P m c i.val j.val = _ := at2_eq _ i j _ _ rfl rfl
  simp only [hx, hd, hg, hp]

end Entries

/-- The kernel's results are the reference's. -/
theorem algebraic : algebraic_Rms2BwdIdeal_Rms2BwdRefIdeal := by
  intro m ρ m' ρ' _ hargs
  refine ⟨Rms2BwdIdeal.Final.arr4 m, Rms2BwdIdeal.Final.arr5 m, ?_, ?_⟩
  · refine (θ_run _ _ _).mono (fun r h c => ?_) (Cert.Rms2BwdIdeal.Value.run_blocks m ρ)
    obtain ⟨h4, h5, hrest⟩ := h c
    exact ⟨h4.trans (Rms2BwdIdeal.Final.final4 m c), h5.trans (Rms2BwdIdeal.Final.final5 m c), hrest⟩
  · refine (θ_run _ _ _).mono (fun r h c => ?_) (Cert.Rms2BwdRefIdeal.Value.run m' ρ')
    obtain ⟨h4, h5, hrest⟩ := h c
    obtain ⟨e0, e1, e2, e3⟩ := hargs c
    rw [e0, e1, e2, e3] at h4
    rw [e0, e1] at h5
    refine ⟨h4.trans (funext fun y => (congrArg _ (eq_ix2 y)).trans ?_), h5.trans (funext fun y => (congrArg _ (eq_row y)).trans ?_), hrest⟩
    · refine Eq.trans ?_ (val4_entries m c _ _ _ _ rfl rfl rfl rfl (y 0) (y 1)).symm
      unfold rootGrad rms mean eps width
      rw [← ofBits_neg_half]
      pointwise
      simp only [Fin.sum_univ_one]
    · refine Eq.trans ?_ ((Finset.sum_range fun r => Rms2BwdIdeal.Final.term5 m c r (y 1).val).trans
        (Finset.sum_congr rfl fun r _ => term5_entries m c _ _ rfl rfl r (y 1))).symm
      unfold rms mean eps width
      pointwise

end Rms2BwdClaims

end
-- ==== Proof.Rms1BwdValue.lean ====
/-
  The backward call of the first norm: what the kernel leaves in its two result arrays, entry by entry — the gradient of the
  normed rows added to the one that passes them by, and the gain's gradient gathered over 32 row tiles.
-/
module

public import proofs.«01_k».proof.Proof.Product
public import proofs.«01_k».proof.Proof.RowTile
public import proofs.«01_k».proof.Proof.Tiles
public import proofs.«01_k».proof.Proof.Gen.Rms1BwdIdeal.Value
public import Idealize.ShloMosaic.Lib.Pipeline.ReadBack
public import Idealize.ShloMosaic.Lib.Pointwise

@[expose] public section

noncomputable section

namespace Cert.Rms1BwdIdeal.Final

open Cert.Rms1BwdIdeal Cert.Rms1BwdIdeal.Gen Idealize.ShloMosaic Idealize.ShloMosaic.TcCoe Idealize.SL.Sem Ffn

/-- The stored zeros. -/
theorem pay2_apply (l : Fin 2048) : k0_pay2 (F := Ideal) (ix2 0 l) = 0 := by
  unfold k0_pay2
  pointwise

section Chunk

variable (dy : Vec Ideal S128x2048 .bf16) (x : Vec Ideal S128x2048 .f32) (g : Vec Ideal S1x2048 .f32) (d : Vec Ideal S128x2048 .bf16)
  (w : Vec Ideal S1x2048 .f32)

/-- The rows' gradient, for a tile's first 128 rows. -/
theorem grad0_apply (r : Fin 128) (l : Fin 2048) :
    k0_pay6 dy x g d (ix2 r l)
      = normGrad (fun k => x (ix2 r k)) (fun k => dy (ix2 r k) * g (ix2 0 k)) (x (ix2 r l)) (dy (ix2 r l) * g (ix2 0 l)) + d (ix2 r l) := by
  unfold k0_pay6 k0_pay5 k0_pay4 k0_pay3
  pointwise
  rfl

/-- The rows' gradient, for the last 128 rows. -/
theorem grad1_apply (r : Fin 128) (l : Fin 2048) :
    k0_pay13 dy x g d (ix2 r l)
      = normGrad (fun k => x (ix2 r k)) (fun k => dy (ix2 r k) * g (ix2 0 k)) (x (ix2 r l)) (dy (ix2 r l) * g (ix2 0 l)) + d (ix2 r l) := by
  unfold k0_pay13 k0_pay12 k0_pay11 k0_pay10
  pointwise
  rfl

/-- The gain's running gradient, with the first 128 rows' added. -/
theorem gain0_apply (l : Fin 2048) :
    k0_pay9 (k0_pay7 w) (k0_pay8 dy x) (ix2 0 l)
      = w (ix2 0 l) + ∑ r : Fin 128, dy (ix2 r l) * (x (ix2 r l) * rms fun k => x (ix2 r k)) := by
  unfold k0_pay9 k0_pay7 k0_pay8 k0_pay5 k0_pay4 k0_pay3
  pointwise
  rfl

/-- The gain's running gradient, with the last 128 rows' added. -/
theorem gain1_apply (l : Fin 2048) :
    k0_pay1 (k0_pay14 w) (k0_pay15 dy x) (ix2 0 l)
      = w (ix2 0 l) + ∑ r : Fin 128, dy (ix2 r l) * (x (ix2 r l) * rms fun k => x (ix2 r k)) := by
  unfold k0_pay1 k0_pay14 k0_pay15 k0_pay12 k0_pay11 k0_pay10
  pointwise
  rfl

end Chunk

section Point

variable (x0 : Vec Ideal S256x2048 .bf16) (x1 : Vec Ideal S256x2048 .f32) (x2 : Vec Ideal S1x2048 .f32) (x3 : Vec Ideal S256x2048 .bf16)
  (xo5 : Vec Ideal S1x2048 .f32)

/-- The two chunks a point stores are the tile's gradient. -/
theorem halves (r : Fin 256) (p : Fin 2048) :
    View.canon ([⟨Rect.unit ![128, 0] ![128, 2048] inb_S256x2048_S128x2048_128_0, k0_pay13 (View.ld x0 (Rect.unit ![128, 0] ![128, 2048] inb_S256x2048_S128x2048_128_0)) (View.ld x1 (Rect.unit ![128, 0] ![128, 2048] inb_S256x2048_S128x2048_128_0)) x2 (View.ld x3 (Rect.unit ![128, 0] ![128, 2048] inb_S256x2048_S128x2048_128_0))⟩,
        ⟨Rect.unit ![0, 0] ![128, 2048] inb_S256x2048_S128x2048_0_0, k0_pay6 (View.ld x0 (Rect.unit ![0, 0] ![128, 2048] inb_S256x2048_S128x2048_0_0)) (View.ld x1 (Rect.unit ![0, 0] ![128, 2048] inb_S256x2048_S128x2048_0_0)) x2 (View.ld x3 (Rect.unit ![0, 0] ![128, 2048] inb_S256x2048_S128x2048_0_0))⟩] : List (View.Piece (Elt Ideal) S256x2048 .f32)) (ix2 r p)
      = rowGrad x0 x1 x2 x3 r p :=
  tile_of_chunks (φ := .f32) (rowGrad x0 x1 x2 x3) _ _ _ _ (fun r l s h => (grad1_apply _ _ _ _ r l).trans (rowGrad_load x0 x1 x2 x3 128 _ r l s h))
    (fun r l s h => (grad0_apply _ _ _ _ r l).trans (rowGrad_load x0 x1 x2 x3 0 _ r l s h)) r p

/-- The row a point stores last is the gain's running gradient with the tile's rows added. -/
theorem sums (p : Fin 2048) :
    k0_pay1 (k0_pay14 (k0_pay9 (k0_pay7 xo5) (k0_pay8 (View.ld x0 (Rect.unit ![0, 0] ![128, 2048] inb_S256x2048_S128x2048_0_0)) (View.ld x1 (Rect.unit ![0, 0] ![128, 2048] inb_S256x2048_S128x2048_0_0))))) (k0_pay15 (View.ld x0 (Rect.unit ![128, 0] ![128, 2048] inb_S256x2048_S128x2048_128_0)) (View.ld x1 (Rect.unit ![128, 0] ![128, 2048] inb_S256x2048_S128x2048_128_0))) (ix2 0 p)
      = xo5 (ix2 0 p) + ∑ r : Fin 256, gainTerm x0 x1 r p :=
  (gain1_apply _ _ _ p).trans ((congrArg₂ (· + ·) (gain0_apply _ _ _ p) rfl).trans
    (sum_chunks _ _ _ _ (fun r s h => gainTerm_load x0 x1 0 _ r p s h) (fun r s h => gainTerm_load x0 x1 128 _ r p s h)))

variable (c : Dev nD) (i : grid0.Coords) (arg1 : Memref sig .tc .vmem S256x2048 .bf16) (harg1 : arg1.IsWhole)
    (arg2 : Memref sig .tc .vmem S256x2048 .f32) (harg2 : arg2.IsWhole)
    (arg3 : Memref sig .tc .vmem S1x2048 .f32) (harg3 : arg3.IsWhole)
    (arg4 : Memref sig .tc .vmem S256x2048 .bf16) (harg4 : arg4.IsWhole)
    (arg5 : Memref sig .tc .vmem S256x2048 .f32) (harg5 : arg5.IsWhole)
    (arg6 : Memref sig .tc .vmem S1x2048 .f32) (harg6 : arg6.IsWhole)

/-! What the first point leaves in the two result blocks, and what a later point does. -/

theorem out_A_4 (hc : cond0_0 i) (r : Fin 256) (p : Fin 2048) : out0_A_4 c i arg1 harg1 arg2 harg2 arg3 harg3 arg4 harg4 arg5 harg5 arg6 harg6 hc x0 x1 x2 x3 (ix2 r p) = rowGrad x0 x1 x2 x3 r p := by
  unfold out0_A_4
  rw [View.read_writes_eq_canon _ _ _ (fun y => cover0_A_4 _ _ _ _ _ _ _ _ _ _ _ _ _ _ _ _ _ _ _ y)]
  unfold kernelRun0_A
  dsimp only
  sl_unfold_words
  simp only [View.readAt_eq_ld, harg1.read_unread, harg2.read_unread, harg3.read_unread, harg4.read_unread,
    ld_whole]
  exact halves x0 x1 x2 x3 r p

theorem out_B_4 (hc : ¬cond0_0 i) (r : Fin 256) (p : Fin 2048) : out0_B_4 c i arg1 harg1 arg2 harg2 arg3 harg3 arg4 harg4 arg5 harg5 arg6 harg6 hc x0 x1 x2 x3 xo5 (ix2 r p) = rowGrad x0 x1 x2 x3 r p := by
  unfold out0_B_4
  rw [View.read_writes_eq_canon _ _ _ (fun y => cover0_B_4 _ _ _ _ _ _ _ _ _ _ _ _ _ _ _ _ _ _ _ _ y)]
  unfold kernelRun0_B
  dsimp only
  sl_unfold_words
  simp only [View.readAt_eq_ld, harg1.read_unread, harg2.read_unread, harg3.read_unread, harg4.read_unread, harg6.read_unread,
    ld_whole]
  exact halves x0 x1 x2 x3 r p

theorem out_A_5 (hc : cond0_0 i) (p : Fin 2048) : out0_A_5 c i arg1 harg1 arg2 harg2 arg3 harg3 arg4 harg4 arg5 harg5 arg6 harg6 hc x0 x1 x2 x3 (ix2 0 p) = ∑ r : Fin 256, gainTerm x0 x1 r p := by
  unfold out0_A_5
  rw [View.read_writes_eq_canon _ _ _ (fun y => cover0_A_5 _ _ _ _ _ _ _ _ _ _ _ _ _ _ _ _ _ _ _ y)]
  unfold kernelRun0_A
  dsimp only
  sl_unfold_words
  simp only [View.readAt_eq_ld, harg1.read_unread, harg2.read_unread, harg3.read_unread, harg4.read_unread,
    ld_whole]
  simp only [View.canon_cons_unit_zero (S := S1x2048) hz, View.readCov_cons_toLoadRect]
  refine (sums x0 x1 (k0_pay2 (F := Ideal)) p).trans ?_
  rw [pay2_apply, zero_add]

theorem out_B_5 (hc : ¬cond0_0 i) (p : Fin 2048) :
    out0_B_5 c i arg1 harg1 arg2 harg2 arg3 harg3 arg4 harg4 arg5 harg5 arg6 harg6 hc x0 x1 x2 x3 xo5 (ix2 0 p) = xo5 (ix2 0 p) + ∑ r : Fin 256, gainTerm x0 x1 r p := by
  unfold out0_B_5
  rw [View.read_writes_eq_canon _ _ _ (fun y => cover0_B_5 _ _ _ _ _ _ _ _ _ _ _ _ _ _ _ _ _ _ _ _ y)]
  unfold kernelRun0_B
  dsimp only
  sl_unfold_words
  simp only [View.readAt_eq_ld, harg1.read_unread, harg2.read_unread, harg3.read_unread, harg4.read_unread, harg6.read_unread,
    ld_whole]
  simp only [View.canon_cons_unit_zero (S := S1x2048) hz, View.readCov_cons_toLoadRect]
  exact sums x0 x1 xo5 p

end Point

variable (m : (ℓ : Loc nD τ sig) → Buf (Elt Ideal) ℓ) (c : Dev nD)

/-- The gradient of the normed rows. -/
abbrev D (r q : ℕ) : EReal := at2 (n0 := 8192) (n1 := 2048) (m ((c : Thread nD τ).loc main_arg0)) r q

/-- The rows before the norm. -/
abbrev A (r q : ℕ) : EReal := at2 (n0 := 8192) (n1 := 2048) (m ((c : Thread nD τ).loc main_arg1)) r q

/-- The gain. -/
abbrev G (q : ℕ) : EReal := at2 (n0 := 1) (n1 := 2048) (m ((c : Thread nD τ).loc main_arg2)) 0 q

/-- The gradient that passes the norm by. -/
abbrev P (r q : ℕ) : EReal := at2 (n0 := 8192) (n1 := 2048) (m ((c : Thread nD τ).loc main_arg3)) r q

theorem index0 : ∀ t : Fin cfg0.N, win0_0.index t 0 = t.val ∧ win0_0.index t 1 = 0 :=
  (by decide +kernel : ∀ t : Fin grid0.N, win0_0.index t 0 = t.val ∧ win0_0.index t 1 = 0)

/-- Window 0's block at a point, entry by entry. -/
theorem block0 (t : Fin cfg0.N) (r : Fin 256) (l : Fin 2048) :
    (iblk m c 0 t : Vec Ideal S256x2048 .bf16) (ix2 r l)
      = at2 (n0 := 8192) (n1 := 2048) (m ((c : Thread nD τ).loc main_arg0)) ((t.val) * 256 + r.val) ((0) * 2048 + l.val) := by
  unfold iblk
  rw [View.read_apply]
  show V m c main_arg0 _ = _
  rw [V_main_arg0]
  exact at2_block (index0 t) rfl rfl

theorem index1 : ∀ t : Fin cfg0.N, win0_1.index t 0 = t.val ∧ win0_1.index t 1 = 0 :=
  (by decide +kernel : ∀ t : Fin grid0.N, win0_1.index t 0 = t.val ∧ win0_1.index t 1 = 0)

/-- Window 1's block at a point, entry by entry. -/
theorem block1 (t : Fin cfg0.N) (r : Fin 256) (l : Fin 2048) :
    (iblk m c 1 t : Vec Ideal S256x2048 .f32) (ix2 r l)
      = at2 (n0 := 8192) (n1 := 2048) (m ((c : Thread nD τ).loc main_arg1)) ((t.val) * 256 + r.val) ((0) * 2048 + l.val) := by
  unfold iblk
  rw [View.read_apply]
  show V m c main_arg1 _ = _
  rw [V_main_arg1]
  exact at2_block (index1 t) rfl rfl

theorem index2 : ∀ t : Fin cfg0.N, win0_2.index t 0 = 0 ∧ win0_2.index t 1 = 0 :=
  (by decide +kernel : ∀ t : Fin grid0.N, win0_2.index t 0 = 0 ∧ win0_2.index t 1 = 0)

/-- Window 2's block at a point, entry by entry. -/
theorem block2 (t : Fin cfg0.N) (r : Fin 1) (l : Fin 2048) :
    (iblk m c 2 t : Vec Ideal S1x2048 .f32) (ix2 r l)
      = at2 (n0 := 1) (n1 := 2048) (m ((c : Thread nD τ).loc main_arg2)) ((0) * 1 + r.val) ((0) * 2048 + l.val) := by
  unfold iblk
  rw [View.read_apply]
  show V m c main_arg2 _ = _
  rw [V_main_arg2]
  exact at2_block (index2 t) rfl rfl

theorem index3 : ∀ t : Fin cfg0.N, win0_3.index t 0 = t.val ∧ win0_3.index t 1 = 0 :=
  (by decide +kernel : ∀ t : Fin grid0.N, win0_3.index t 0 = t.val ∧ win0_3.index t 1 = 0)

/-- Window 3's block at a point, entry by entry. -/
theorem block3 (t : Fin cfg0.N) (r : Fin 256) (l : Fin 2048) :
    (iblk m c 3 t : Vec Ideal S256x2048 .bf16) (ix2 r l)
      = at2 (n0 := 8192) (n1 := 2048) (m ((c : Thread nD τ).loc main_arg3)) ((t.val) * 256 + r.val) ((0) * 2048 + l.val) := by
  unfold iblk
  rw [View.read_apply]
  show V m c main_arg3 _ = _
  rw [V_main_arg3]
  exact at2_block (index3 t) rfl rfl

theorem index4 : ∀ t : Fin cfg0.N, win0_4.index t 0 = t.val ∧ win0_4.index t 1 = 0 :=
  (by decide +kernel : ∀ t : Fin grid0.N, win0_4.index t 0 = t.val ∧ win0_4.index t 1 = 0)

theorem index5 : ∀ t : Fin cfg0.N, win0_5.index t 0 = 0 ∧ win0_5.index t 1 = 0 :=
  (by decide +kernel : ∀ t : Fin grid0.N, win0_5.index t 0 = 0 ∧ win0_5.index t 1 = 0)

/-- The rows' gradient. -/
def val4 (r q : ℕ) : EReal :=
  normGrad (fun k => A m c r k.val) (fun k => D m c r k.val * G m c k.val) (A m c r q) (D m c r q * G m c q) + P m c r q

/-- What row `r` adds to the gain's gradient. -/
def term5 (r q : ℕ) : EReal := D m c r q * (A m c r q * rms fun k => A m c r k.val)

/-- The gain's gradient. -/
def val5 (q : ℕ) : EReal := ∑ r ∈ Finset.range 8192, term5 m c r q

section Blocks

variable (t : Fin cfg0.N) (r : Fin 256) (k : Fin 2048)

theorem d_block : (iblk m c 0 t : Vec Ideal S256x2048 .bf16) (ix2 r k) = D m c (t.val * 256 + r.val) k.val :=
  (block0 m c t r k).trans (congrArg (D m c _) (by omega))

theorem a_block : (iblk m c 1 t : Vec Ideal S256x2048 .f32) (ix2 r k) = A m c (t.val * 256 + r.val) k.val :=
  (block1 m c t r k).trans (congrArg (A m c _) (by omega))

theorem g_block : (iblk m c 2 t : Vec Ideal S1x2048 .f32) (ix2 0 k) = G m c k.val :=
  (block2 m c t 0 k).trans (congrArg₂ (at2 (n0 := 1) (n1 := 2048) (m ((c : Thread nD τ).loc main_arg2))) rfl (by omega))

theorem p_block : (iblk m c 3 t : Vec Ideal S256x2048 .bf16) (ix2 r k) = P m c (t.val * 256 + r.val) k.val :=
  (block3 m c t r k).trans (congrArg (P m c _) (by omega))

/-- The gradient of a point's rows. -/
theorem rowGrad_blocks : rowGrad (iblk m c 0 t : Vec Ideal S256x2048 .bf16) (iblk m c 1 t : Vec Ideal S256x2048 .f32)
      (iblk m c 2 t : Vec Ideal S1x2048 .f32) (iblk m c 3 t : Vec Ideal S256x2048 .bf16) r k
    = val4 m c (t.val * 256 + r.val) k.val := by
  unfold rowGrad val4
  simp only [d_block, a_block, g_block, p_block]

/-- What a point's rows add to the gain's gradient. -/
theorem gainTerm_blocks : gainTerm (iblk m c 0 t : Vec Ideal S256x2048 .bf16) (iblk m c 1 t : Vec Ideal S256x2048 .f32) r k
    = term5 m c (t.val * 256 + r.val) k.val := by
  unfold gainTerm term5
  simp only [d_block, a_block]

end Blocks

attribute [local irreducible] val4 term5 rowGrad gainTerm

/-! What a point leaves in each result block. -/

theorem val4_after (t : Fin cfg0.N) (r : Fin 256) (p : Fin 2048) :
    (outsAt0 m c t.val t.isLt).1 (ix2 r p) = val4 m c (t.val * 256 + r.val) p.val := by
  refine Eq.trans ?_ (rowGrad_blocks m c t r p)
  by_cases h : t.val % 32 = 0
  · rw [outsAt0_A m c t h]
    dsimp only
    exact out_A_4 ..
  · rw [outsAt0_B m c t h]
    dsimp only
    exact out_B_4 ..

theorem sum_after (p : Fin 2048) (n : ℕ) (hn : n < cfg0.N) :
    (outsAt0 m c n hn).2 (ix2 0 p) = ∑ r ∈ Finset.range ((n + 1) * 256), term5 m c r p.val := by
  refine running_sum (N := cfg0.N) (b := 256) (fun r => term5 m c r p.val) (fun n hn => (outsAt0 m c n hn).2 (ix2 0 p)) (fun hn => ?_) (fun n hn => ?_) n hn
  · refine Eq.trans ?_ (Finset.sum_congr rfl fun r _ => gainTerm_blocks m c ⟨0, hn⟩ r p)
    show (outsAt0 m c (⟨0, hn⟩ : Fin cfg0.N).val _).2 _ = _
    rw [outsAt0_A m c ⟨0, hn⟩ rfl]
    dsimp only
    exact out_A_5 ..
  · have hN : n + 1 < 32 := lt_of_lt_of_eq hn N_0
    refine Eq.trans ?_ (congrArg (_ + ·) (Finset.sum_congr rfl fun r _ => gainTerm_blocks m c ⟨n + 1, hn⟩ r p))
    show (outsAt0 m c (⟨n + 1, hn⟩ : Fin cfg0.N).val _).2 _ = _
    rw [outsAt0_B m c ⟨n + 1, hn⟩ (by dsimp only; omega)]
    dsimp only
    exact out_B_5 ..

/-! The two result arrays. -/

def arr4 : Buf (Elt Ideal) ((c : Thread nD τ).loc main_v0_0) := fun y : S8192x2048.Idx => val4 m c (y 0).val (y 1).val

def arr5 : Buf (Elt Ideal) ((c : Thread nD τ).loc main_v0_1) := fun y : S1x2048.Idx => val5 m c (y 1).val

/-- The gain's gradient after the last point. -/
theorem sum_all (q : ℕ) : ∑ r ∈ Finset.range ((31 + 1) * 256), term5 m c r q = val5 m c q := rfl

attribute [local irreducible] val5

/-! The result arrays after the run. -/

theorem final4 : (dats m 0 c).arrAt 4 cfg0.N = arr4 m c := by
  refine (dats m 0 c).arrAt_eq_of_cover 4 (arr4 m c) (fun t hf => ?_) fun (i : S8192x2048.Idx) => ?_
  · rw [Value.flushed4]
    obtain ⟨h0, h1⟩ := index4 t
    funext y
    rw [View.read_apply]
    show (outsAt0 m c t.val t.isLt).1 y = val4 m c (win0_4.index t 0 * 256 + 1 * (y 0).val) (win0_4.index t 1 * 2048 + 1 * (y 1).val)
    refine (congrArg _ (eq_ix2 y)).trans ((val4_after m c t _ _).trans ?_)
    rw [h0, h1]
    exact congrArg₂ (val4 m c) (by omega) (by omega)
  · have b0 : (i 0).val < 8192 := (i 0).isLt
    have b1 : (i 1).val < 2048 := (i 1).isLt
    have hN : cfg0.N = 32 := N_0
    obtain ⟨t, ht⟩ : ∃ t : Fin cfg0.N, t.val = (i 0).val / 256 := ⟨⟨_, by omega⟩, rfl⟩
    refine ⟨t, flush0_4 t, ?_⟩
    show i ∈ ((View.whole main_v0_0).slice (win0_4.rect t)).set
    rw [View.set_slice_whole]
    exact mem_block (index4 t) (by omega) (by omega)

theorem final5 : (dats m 0 c).arrAt 5 cfg0.N = arr5 m c := by
  refine (dats m 0 c).arrAt_eq_of_cover 5 (arr5 m c) (fun t hf => ?_) fun (i : S1x2048.Idx) => ?_
  · rw [Value.flushed5]
    obtain ⟨h0, h1⟩ := index5 t
    have ht : t.val = 31 := by have := (flush0_5 t).mp hf; have := lt_of_lt_of_eq t.isLt N_0; omega
    funext y
    rw [View.read_apply]
    show (outsAt0 m c t.val t.isLt).2 y = val5 m c (win0_5.index t 1 * 2048 + 1 * (y 1).val)
    refine (congrArg _ (eq_row y)).trans ((sum_after m c _ t.val t.isLt).trans ?_)
    rw [h1, ht]
    exact (sum_all m c _).trans (congrArg (val5 m c) (by omega))
  · have b0 : (i 0).val < 1 := (i 0).isLt
    have b1 : (i 1).val < 2048 := (i 1).isLt
    have hN : cfg0.N = 32 := N_0
    obtain ⟨t, ht⟩ : ∃ t : Fin cfg0.N, t.val = 31 := ⟨⟨_, by omega⟩, rfl⟩
    refine ⟨t, (flush0_5 t).mpr (by omega), ?_⟩
    show i ∈ ((View.whole main_v0_1).slice (win0_5.rect t)).set
    rw [View.set_slice_whole]
    exact mem_block (index5 t) (by omega) (by omega)

end Cert.Rms1BwdIdeal.Final

end
-- ==== Proof.Rms1BwdClaims.lean ====
/-
  The claims about the backward call of the first norm: the frames, and the equality of the two results with the reference's over
  the extended reals.
-/
module

public import proofs.«01_k».proof.Defs
public import proofs.«01_k».proof.Proof.Rms1BwdValue
public import proofs.«01_k».proof.Proof.Gen.Rms1Bwd.Frame
public import proofs.«01_k».proof.Proof.Gen.Rms1BwdRefIdeal.Run

@[expose] public section

noncomputable section

namespace Rms1BwdClaims

open Idealize.ShloMosaic Idealize.ShloMosaic.TcCoe Idealize.SL.Sem Cert Ffn

/-! The frames. -/

theorem frame_p : quiescent_Rms1Bwd := fun m ρ _ => Cert.Rms1Bwd.Gen.frame m ρ

theorem frame_pi : quiescent_Rms1BwdIdeal := fun m ρ _ => Cert.Rms1BwdIdeal.Gen.frame m ρ

theorem frame_ri : quiescent_Rms1BwdRefIdeal := fun m ρ _ =>
  (θ_run _ _ _).mono (fun r h => ⟨fun c => (h c).2.2, sem_eq_zero_of_no_sems (by decide) r.2⟩) (Cert.Rms1BwdRefIdeal.Value.run m ρ)

/-- No operation is rewritten. -/
theorem preserves : preserves_Rms1Bwd_Rms1BwdIdeal := trivial

section Entries

variable (m : (ℓ : Loc Rms1BwdIdeal.nD Rms1BwdIdeal.τ Rms1BwdIdeal.sig) → Buf (Elt Ideal) ℓ) (c : Dev Rms1BwdIdeal.nD)
  (x0 : Vec Ideal Rms1BwdIdeal.S8192x2048 .bf16) (x1 : Vec Ideal Rms1BwdIdeal.S8192x2048 .f32) (x2 : Vec Ideal Rms1BwdIdeal.S1x2048 .f32) (x3 : Vec Ideal Rms1BwdIdeal.S8192x2048 .bf16)
  (h0 : x0 = m ((c.tc : Thread Rms1BwdIdeal.nD Rms1BwdIdeal.τ).loc Rms1BwdIdeal.main_arg0))
  (h1 : x1 = m ((c.tc : Thread Rms1BwdIdeal.nD Rms1BwdIdeal.τ).loc Rms1BwdIdeal.main_arg1))
include h0 h1

/-- What a row adds to the gain's gradient, in the arrays' own entries. -/
theorem term5_entries (i : Fin 8192) (j : Fin 2048) : Rms1BwdIdeal.Final.term5 m c i.val j.val = x1 (ix2 i j) * (rms fun k => x1 (ix2 i k)) * x0 (ix2 i j) := by
  subst h0 h1
  refine Eq.trans (congrArg₂ (· * ·) (at2_eq _ i j _ _ rfl rfl) (congrArg₂ (· * ·) (at2_eq _ i j _ _ rfl rfl)
    (congrArg rms (funext fun k => at2_eq _ i k _ _ rfl rfl)))) (mul_comm _ _)

variable (h2 : x2 = m ((c.tc : Thread Rms1BwdIdeal.nD Rms1BwdIdeal.τ).loc Rms1BwdIdeal.main_arg2))
  (h3 : x3 = m ((c.tc : Thread Rms1BwdIdeal.nD Rms1BwdIdeal.τ).loc Rms1BwdIdeal.main_arg3))
include h2 h3

/-- The rows' gradient in the arrays' own entries, with its parts as the reference adds them. -/
theorem val4_entries (i : Fin 8192) (j : Fin 2048) :
    Rms1BwdIdeal.Final.val4 m c i.val j.val
      = x3 (ix2 i j) + (x0 (ix2 i j) * x2 (ix2 0 j) * (rms fun k => x1 (ix2 i k))
          + x1 (ix2 i j) * rootGrad (fun k => x1 (ix2 i k)) (fun k => x0 (ix2 i k) * x2 (ix2 0 k))
          + rootGrad (fun k => x1 (ix2 i k)) (fun k => x0 (ix2 i k) * x2 (ix2 0 k)) * x1 (ix2 i j)) := by
  subst h0 h1 h2 h3
  rw [← normGrad_eq, add_comm]
  unfold Rms1BwdIdeal.Final.val4
  have hx : ∀ k : Fin 2048, Rms1BwdIdeal.Final.A m c i.val k.val = _ := fun k => at2_eq _ i k _ _ rfl rfl
  have hd : ∀ k : Fin 2048, Rms1BwdIdeal.Final.D m c i.val k.val = _ := fun k => at2_eq _ i k _ _ rfl rfl
  have hg : ∀ k : Fin 2048, Rms1BwdIdeal.Final.G m c k.val = _ := fun k => at2_eq _ 0 k _ _ rfl rfl
  have hp : Rms1BwdIdeal.Final.P m c i.val j.val = _ := at2_eq _ i j _ _ rfl rfl
  simp only [hx, hd, hg, hp]

end Entries

/-- The kernel's results are the reference's. -/
theorem algebraic : algebraic_Rms1BwdIdeal_Rms1BwdRefIdeal := by
  intro m ρ m' ρ' _ hargs
  refine ⟨Rms1BwdIdeal.Final.arr4 m, Rms1BwdIdeal.Final.arr5 m, ?_, ?_⟩
  · refine (θ_run _ _ _).mono (fun r h c => ?_) (Cert.Rms1BwdIdeal.Value.run_blocks m ρ)
    obtain ⟨h4, h5, hrest⟩ := h c
    exact ⟨h4.trans (Rms1BwdIdeal.Final.final4 m c), h5.trans (Rms1BwdIdeal.Final.final5 m c), hrest⟩
  · refine (θ_run _ _ _).mono (fun r h c => ?_) (Cert.Rms1BwdRefIdeal.Value.run m' ρ')
    obtain ⟨h4, h5, hrest⟩ := h c
    obtain ⟨e0, e1, e2, e3⟩ := hargs c
    rw [e0, e1, e2, e3] at h4
    rw [e0, e1] at h5
    refine ⟨h4.trans (funext fun y => (congrArg _ (eq_ix2 y)).trans ?_), h5.trans (funext fun y => (congrArg _ (eq_row y)).trans ?_), hrest⟩
    · refine Eq.trans ?_ (val4_entries m c _ _ _ _ rfl rfl rfl rfl (y 0) (y 1)).symm
      unfold rootGrad rms mean eps width
      rw [← ofBits_neg_half]
      pointwise
      simp only [Fin.sum_univ_one]
    · refine Eq.trans ?_ ((Finset.sum_range fun r => Rms1BwdIdeal.Final.term5 m c r (y 1).val).trans
        (Finset.sum_congr rfl fun r _ => term5_entries m c _ _ rfl rfl r (y 1))).symm
      unfold rms mean eps width
      pointwise

end Rms1BwdClaims

end
-- ==== Proof.LossRow.lean ====
/-
  The loss along a row, and its gradient: half the mean square of the normed row's distance from the target.
-/
module

public import proofs.«01_k».proof.Proof.NormGrad

@[expose] public section

noncomputable section

namespace Ffn

open Idealize.ShloMosaic

/-- 1/2048, as the kernel writes it. -/
def share : EReal := Ideal.ofBits .f32 0x3A000000#32

variable (x g t : Fin 2048 → EReal) (a b c : EReal)

/-- An entry's distance from its target: the entry `a` of the row `x`, its gain `b`, its target `c`. -/
def diff : EReal := a * rms x * b - c

/-- The loss's gradient at an entry of the normed row. -/
def dout : EReal := diff x a b c * share

/-- The loss's gradient at an entry of the row `x`. -/
def dloss : EReal := normGrad x (fun k => dout x (x k) (g k) (t k) * g k) a (dout x a b c * b)

/-- What an entry adds to its gain's gradient. -/
def dgain : EReal := dout x a b c * (a * rms x)

/-- A row's loss. -/
def rowLoss : EReal := mean (fun k => diff x (x k) (g k) (t k) * diff x (x k) (g k) (t k)) * half

/-- The gradient as differentiation gives it: half of 1/2048 times twice the distance. -/
theorem dout_eq : dout x a b c = Ideal.div half width * (Ideal.ofBits .f32 0x40000000#32 * diff x a b c) := by
  have hs : share = ((2048 : ℝ)⁻¹ : ℝ) := by
    simp [share, Ideal.ofBits, Ideal.ieee, -EReal.coe_mul]; norm_num
  have h2 : Ideal.ofBits .f32 0x40000000#32 = ((2 : ℝ) : EReal) := by
    simp [Ideal.ofBits, Ideal.ieee, -EReal.coe_mul]; norm_num
  have hc : (1 / 2 : ℝ) * (2048 : ℝ)⁻¹ * 2 = (2048 : ℝ)⁻¹ := by norm_num
  rw [dout, div_width, hs, h2, half, ← mul_assoc, ← EReal.coe_mul, ← EReal.coe_mul, hc, mul_comm]

/-- Half of a sum of means is the sum of the halves. -/
theorem half_sum {ι : Type} (s : Finset ι) (f : ι → EReal) : half * ∑ r ∈ s, f r = ∑ r ∈ s, f r * half := by
  rw [half, sum_mul_real _ _ (by norm_num), mul_comm]

end Ffn

end
-- ==== Proof.FinalLossValue.lean ====
/-
  The loss and its gradient: what the kernel leaves in its three result arrays, entry by entry — the gradient of the
  rows, and the gain's gradient and the loss gathered over 32 row tiles.
-/
module

public import proofs.«01_k».proof.Proof.Product
public import proofs.«01_k».proof.Proof.RowTile
public import proofs.«01_k».proof.Proof.LossRow
public import proofs.«01_k».proof.Proof.Tiles
public import proofs.«01_k».proof.Proof.Gen.FinalLossIdeal.Value
public import Idealize.ShloMosaic.Lib.Pipeline.ReadBack
public import Idealize.ShloMosaic.Lib.Pointwise

@[expose] public section

noncomputable section

namespace Cert.FinalLossIdeal.Final

open Cert.FinalLossIdeal Cert.FinalLossIdeal.Gen Idealize.ShloMosaic Idealize.ShloMosaic.TcCoe Idealize.SL.Sem Ffn

/-! The stored zeros. -/

theorem pay4_apply (l : Fin 2048) : k0_pay4 (F := Ideal) (ix2 0 l) = 0 := by
  unfold k0_pay4
  pointwise

theorem pay5_apply (l : Fin 1) : k0_pay5 (F := Ideal) (ix2 0 l) = 0 := by
  unfold k0_pay5
  pointwise

section Chunk

variable (x : Vec Ideal S128x2048 .f32) (g : Vec Ideal S1x2048 .f32) (t : Vec Ideal S128x2048 .f32) (w : Vec Ideal S1x2048 .f32) (v : Vec Ideal S1x1 .f32)

/-- The rows' gradient, for a tile's first 128 rows. -/
theorem grad0_apply (r : Fin 128) (l : Fin 2048) :
    k0_pay10 g x t (ix2 r l) = dloss (fun k => x (ix2 r k)) (fun k => g (ix2 0 k)) (fun k => t (ix2 r k)) (x (ix2 r l)) (g (ix2 0 l)) (t (ix2 r l)) := by
  unfold k0_pay10 k0_pay9 k0_pay8 k0_pay7 k0_pay6
  pointwise
  rfl

/-- The rows' gradient, for the last 128 rows. -/
theorem grad1_apply (r : Fin 128) (l : Fin 2048) :
    k0_pay1 (k0_pay15 x) (k0_pay16 x) (k0_pay19 g x t) (k0_pay20 g x t) (ix2 r l) = dloss (fun k => x (ix2 r k)) (fun k => g (ix2 0 k)) (fun k => t (ix2 r k)) (x (ix2 r l)) (g (ix2 0 l)) (t (ix2 r l)) := by
  unfold k0_pay1 k0_pay20 k0_pay19 k0_pay18 k0_pay17 k0_pay16 k0_pay15
  pointwise
  rfl

/-- The gain's running gradient, with the first 128 rows' added. -/
theorem gain0_apply (l : Fin 2048) :
    k0_pay13 (k0_pay11 w) (k0_pay12 g x t) (ix2 0 l) = w (ix2 0 l) + ∑ r : Fin 128, dgain (fun k => x (ix2 r k)) (x (ix2 r l)) (g (ix2 0 l)) (t (ix2 r l)) := by
  unfold k0_pay13 k0_pay11 k0_pay12 k0_pay9 k0_pay8 k0_pay7 k0_pay6
  pointwise
  rfl

/-- The gain's running gradient, with the last 128 rows' added. -/
theorem gain1_apply (l : Fin 2048) :
    k0_pay2 (k0_pay16 x) (k0_pay18 g x t) w (ix2 0 l) = w (ix2 0 l) + ∑ r : Fin 128, dgain (fun k => x (ix2 r k)) (x (ix2 r l)) (g (ix2 0 l)) (t (ix2 r l)) := by
  unfold k0_pay2 k0_pay18 k0_pay17 k0_pay16 k0_pay15
  pointwise
  rfl

/-- The running loss, with the first 128 rows' added. -/
theorem loss0_apply (l : Fin 1) :
    k0_pay14 (k0_pay8 g x t) v (ix2 0 l) = v (ix2 0 l) + ∑ r : Fin 128, rowLoss (fun k => x (ix2 r k)) (fun k => g (ix2 0 k)) (fun k => t (ix2 r k)) := by
  unfold rowLoss
  rw [← half_sum, ← ofBits_half]
  unfold k0_pay14 k0_pay8 k0_pay7 k0_pay6
  pointwise
  rfl

/-- The running loss, with the last 128 rows' added. -/
theorem loss1_apply (l : Fin 1) :
    k0_pay3 (k0_pay17 g x t) v (ix2 0 l) = v (ix2 0 l) + ∑ r : Fin 128, rowLoss (fun k => x (ix2 r k)) (fun k => g (ix2 0 k)) (fun k => t (ix2 r k)) := by
  unfold rowLoss
  rw [← half_sum, ← ofBits_half]
  unfold k0_pay3 k0_pay17 k0_pay16 k0_pay15
  pointwise
  rfl

end Chunk

section Point

variable (x0 : Vec Ideal S256x2048 .f32) (x1 : Vec Ideal S1x2048 .f32) (x2 : Vec Ideal S256x2048 .f32) (xo4 : Vec Ideal S1x2048 .f32) (xo5 : Vec Ideal S1x1 .f32)

/-- An expression in a row, its target and an entry of each, over a chunk's load, is the tile's row's. -/
theorem row_load (f : (Fin 2048 → EReal) → (Fin 2048 → EReal) → EReal → EReal → EReal) (o : ℕ)
    (inb : ∀ a, (![o, 0] : Fin 2 → ℕ) a + (![128, 2048] : Fin 2 → ℕ) a ≤ S256x2048.size a) (r : Fin 128) (p : Fin 2048) (s : Fin 256) (h : s.val = o + r.val) :
    f (fun k => View.ld x0 (Rect.unit ![o, 0] ![128, 2048] inb) (ix2 r k)) (fun k => View.ld x2 (Rect.unit ![o, 0] ![128, 2048] inb) (ix2 r k))
        (View.ld x0 (Rect.unit ![o, 0] ![128, 2048] inb) (ix2 r p)) (View.ld x2 (Rect.unit ![o, 0] ![128, 2048] inb) (ix2 r p))
      = f (fun k => x0 (ix2 s k)) (fun k => x2 (ix2 s k)) (x0 (ix2 s p)) (x2 (ix2 s p)) :=
  congr (congr (congr (congrArg f (funext fun k => ld_rows o inb r k s h x0)) (funext fun k => ld_rows o inb r k s h x2)) (ld_rows o inb r p s h x0))
    (ld_rows o inb r p s h x2)

/-- The gradient of a tile's row. -/
def rowGrad3 (r : Fin 256) (p : Fin 2048) : EReal :=
  dloss (fun k => x0 (ix2 r k)) (fun k => x1 (ix2 0 k)) (fun k => x2 (ix2 r k)) (x0 (ix2 r p)) (x1 (ix2 0 p)) (x2 (ix2 r p))

/-- What a tile's row adds to the gain's gradient. -/
def gainTerm4 (r : Fin 256) (p : Fin 2048) : EReal := dgain (fun k => x0 (ix2 r k)) (x0 (ix2 r p)) (x1 (ix2 0 p)) (x2 (ix2 r p))

/-- What a tile's row adds to the loss. -/
def lossTerm5 (r : Fin 256) : EReal := rowLoss (fun k => x0 (ix2 r k)) (fun k => x1 (ix2 0 k)) (fun k => x2 (ix2 r k))

/-- The two chunks a point stores are the tile's gradient. -/
theorem halves (r : Fin 256) (p : Fin 2048) :
    View.canon ([⟨Rect.unit ![128, 0] ![128, 2048] inb_S256x2048_S128x2048_128_0,
          k0_pay1 (k0_pay15 (View.ld x0 (Rect.unit ![128, 0] ![128, 2048] inb_S256x2048_S128x2048_128_0))) (k0_pay16 (View.ld x0 (Rect.unit ![128, 0] ![128, 2048] inb_S256x2048_S128x2048_128_0))) (k0_pay19 x1 (View.ld x0 (Rect.unit ![128, 0] ![128, 2048] inb_S256x2048_S128x2048_128_0)) (View.ld x2 (Rect.unit ![128, 0] ![128, 2048] inb_S256x2048_S128x2048_128_0)))
            (k0_pay20 x1 (View.ld x0 (Rect.unit ![128, 0] ![128, 2048] inb_S256x2048_S128x2048_128_0)) (View.ld x2 (Rect.unit ![128, 0] ![128, 2048] inb_S256x2048_S128x2048_128_0)))⟩,
        ⟨Rect.unit ![0, 0] ![128, 2048] inb_S256x2048_S128x2048_0_0, k0_pay10 x1 (View.ld x0 (Rect.unit ![0, 0] ![128, 2048] inb_S256x2048_S128x2048_0_0)) (View.ld x2 (Rect.unit ![0, 0] ![128, 2048] inb_S256x2048_S128x2048_0_0))⟩] : List (View.Piece (Elt Ideal) S256x2048 .bf16)) (ix2 r p)
      = rowGrad3 x0 x1 x2 r p :=
  tile_of_chunks (φ := .bf16) (rowGrad3 x0 x1 x2) _ _ _ _
    (fun r l s h => (grad1_apply _ _ _ r l).trans (row_load x0 x2 (fun x t a c => dloss x (fun k => x1 (ix2 0 k)) t a (x1 (ix2 0 l)) c) 128 _ r l s h))
    (fun r l s h => (grad0_apply _ _ _ r l).trans (row_load x0 x2 (fun x t a c => dloss x (fun k => x1 (ix2 0 k)) t a (x1 (ix2 0 l)) c) 0 _ r l s h)) r p

/-- The row a point stores last is the gain's running gradient with the tile's rows added. -/
theorem sums (p : Fin 2048) :
    k0_pay2 (k0_pay16 (View.ld x0 (Rect.unit ![128, 0] ![128, 2048] inb_S256x2048_S128x2048_128_0))) (k0_pay18 x1 (View.ld x0 (Rect.unit ![128, 0] ![128, 2048] inb_S256x2048_S128x2048_128_0)) (View.ld x2 (Rect.unit ![128, 0] ![128, 2048] inb_S256x2048_S128x2048_128_0)))
        (k0_pay13 (k0_pay11 xo4) (k0_pay12 x1 (View.ld x0 (Rect.unit ![0, 0] ![128, 2048] inb_S256x2048_S128x2048_0_0)) (View.ld x2 (Rect.unit ![0, 0] ![128, 2048] inb_S256x2048_S128x2048_0_0)))) (ix2 0 p)
      = xo4 (ix2 0 p) + ∑ r : Fin 256, gainTerm4 x0 x1 x2 r p :=
  (gain1_apply _ _ _ _ p).trans ((congrArg₂ (· + ·) (gain0_apply _ _ _ _ p) rfl).trans
    (sum_chunks _ _ _ _ (fun r s h => row_load x0 x2 (fun x _ a c => dgain x a (x1 (ix2 0 p)) c) 0 _ r p s h)
      (fun r s h => row_load x0 x2 (fun x _ a c => dgain x a (x1 (ix2 0 p)) c) 128 _ r p s h)))

/-- The number a point stores last is the running loss with the tile's rows added. -/
theorem losses (p : Fin 1) :
    k0_pay3 (k0_pay17 x1 (View.ld x0 (Rect.unit ![128, 0] ![128, 2048] inb_S256x2048_S128x2048_128_0)) (View.ld x2 (Rect.unit ![128, 0] ![128, 2048] inb_S256x2048_S128x2048_128_0))) (k0_pay14 (k0_pay8 x1 (View.ld x0 (Rect.unit ![0, 0] ![128, 2048] inb_S256x2048_S128x2048_0_0)) (View.ld x2 (Rect.unit ![0, 0] ![128, 2048] inb_S256x2048_S128x2048_0_0))) xo5) (ix2 0 p)
      = xo5 (ix2 0 p) + ∑ r : Fin 256, lossTerm5 x0 x1 x2 r :=
  (loss1_apply _ _ _ _ p).trans ((congrArg₂ (· + ·) (loss0_apply _ _ _ _ p) rfl).trans
    (sum_chunks _ _ _ _ (fun r s h => row_load x0 x2 (fun x t _ _ => rowLoss x (fun k => x1 (ix2 0 k)) t) 0 _ r 0 s h)
      (fun r s h => row_load x0 x2 (fun x t _ _ => rowLoss x (fun k => x1 (ix2 0 k)) t) 128 _ r 0 s h)))

variable (c : Dev nD) (i : grid0.Coords) (arg1 : Memref sig .tc .vmem S256x2048 .f32) (harg1 : arg1.IsWhole)
    (arg2 : Memref sig .tc .vmem S1x2048 .f32) (harg2 : arg2.IsWhole)
    (arg3 : Memref sig .tc .vmem S256x2048 .f32) (harg3 : arg3.IsWhole)
    (arg4 : Memref sig .tc .vmem S256x2048 .bf16) (harg4 : arg4.IsWhole)
    (arg5 : Memref sig .tc .vmem S1x2048 .f32) (harg5 : arg5.IsWhole)
    (arg6 : Memref sig .tc .vmem S1x1 .f32) (harg6 : arg6.IsWhole)

/-! What the first point leaves in the three result blocks, and what a later point does. -/

theorem out_A_3 (hc : cond0_0 i) (r : Fin 256) (p : Fin 2048) : out0_A_3 c i arg1 harg1 arg2 harg2 arg3 harg3 arg4 harg4 arg5 harg5 arg6 harg6 hc x0 x1 x2 (ix2 r p) = rowGrad3 x0 x1 x2 r p := by
  unfold out0_A_3
  rw [View.read_writes_eq_canon _ _ _ (fun y => cover0_A_3 _ _ _ _ _ _ _ _ _ _ _ _ _ _ _ _ _ _ y)]
  unfold kernelRun0_A
  dsimp only
  sl_unfold_words
  simp only [View.readAt_eq_ld, harg1.read_unread, harg2.read_unread, harg3.read_unread,
    ld_whole]
  exact halves x0 x1 x2 r p

theorem out_B_3 (hc : ¬cond0_0 i) (r : Fin 256) (p : Fin 2048) : out0_B_3 c i arg1 harg1 arg2 harg2 arg3 harg3 arg4 harg4 arg5 harg5 arg6 harg6 hc x0 x1 x2 xo4 xo5 (ix2 r p) = rowGrad3 x0 x1 x2 r p := by
  unfold out0_B_3
  rw [View.read_writes_eq_canon _ _ _ (fun y => cover0_B_3 _ _ _ _ _ _ _ _ _ _ _ _ _ _ _ _ _ _ _ _ y)]
  unfold kernelRun0_B
  dsimp only
  sl_unfold_words
  simp only [View.readAt_eq_ld, harg1.read_unread, harg2.read_unread, harg3.read_unread, harg5.read_unread, harg6.read_unread,
    ld_whole]
  exact halves x0 x1 x2 r p

theorem out_A_4 (hc : cond0_0 i) (p : Fin 2048) : out0_A_4 c i arg1 harg1 arg2 harg2 arg3 harg3 arg4 harg4 arg5 harg5 arg6 harg6 hc x0 x1 x2 (ix2 0 p) = ∑ r : Fin 256, gainTerm4 x0 x1 x2 r p := by
  unfold out0_A_4
  rw [View.read_writes_eq_canon _ _ _ (fun y => cover0_A_4 _ _ _ _ _ _ _ _ _ _ _ _ _ _ _ _ _ _ y)]
  unfold kernelRun0_A
  dsimp only
  sl_unfold_words
  simp only [View.readAt_eq_ld, harg1.read_unread, harg2.read_unread, harg3.read_unread,
    ld_whole]
  simp only [View.canon_cons_unit_zero (S := S1x2048) hz, View.readCov_cons_toLoadRect]
  refine (sums x0 x1 x2 (k0_pay4 (F := Ideal)) p).trans ?_
  rw [pay4_apply, zero_add]

theorem out_B_4 (hc : ¬cond0_0 i) (p : Fin 2048) :
    out0_B_4 c i arg1 harg1 arg2 harg2 arg3 harg3 arg4 harg4 arg5 harg5 arg6 harg6 hc x0 x1 x2 xo4 xo5 (ix2 0 p) = xo4 (ix2 0 p) + ∑ r : Fin 256, gainTerm4 x0 x1 x2 r p := by
  unfold out0_B_4
  rw [View.read_writes_eq_canon _ _ _ (fun y => cover0_B_4 _ _ _ _ _ _ _ _ _ _ _ _ _ _ _ _ _ _ _ _ y)]
  unfold kernelRun0_B
  dsimp only
  sl_unfold_words
  simp only [View.readAt_eq_ld, harg1.read_unread, harg2.read_unread, harg3.read_unread, harg5.read_unread, harg6.read_unread,
    ld_whole]
  simp only [View.canon_cons_unit_zero (S := S1x2048) hz, View.readCov_cons_toLoadRect]
  exact sums x0 x1 x2 xo4 p

theorem out_A_5 (hc : cond0_0 i) (p : Fin 1) : out0_A_5 c i arg1 harg1 arg2 harg2 arg3 harg3 arg4 harg4 arg5 harg5 arg6 harg6 hc x0 x1 x2 (ix2 0 p) = ∑ r : Fin 256, lossTerm5 x0 x1 x2 r := by
  unfold out0_A_5
  rw [View.read_writes_eq_canon _ _ _ (fun y => cover0_A_5 _ _ _ _ _ _ _ _ _ _ _ _ _ _ _ _ _ _ y)]
  unfold kernelRun0_A
  dsimp only
  sl_unfold_words
  simp only [View.readAt_eq_ld, harg1.read_unread, harg2.read_unread, harg3.read_unread,
    ld_whole]
  simp only [View.canon_cons_unit_zero (S := S1x1) hz, View.readCov_cons_toLoadRect]
  refine (losses x0 x1 x2 (k0_pay5 (F := Ideal)) p).trans ?_
  rw [pay5_apply, zero_add]

theorem out_B_5 (hc : ¬cond0_0 i) (p : Fin 1) :
    out0_B_5 c i arg1 harg1 arg2 harg2 arg3 harg3 arg4 harg4 arg5 harg5 arg6 harg6 hc x0 x1 x2 xo4 xo5 (ix2 0 p) = xo5 (ix2 0 p) + ∑ r : Fin 256, lossTerm5 x0 x1 x2 r := by
  unfold out0_B_5
  rw [View.read_writes_eq_canon _ _ _ (fun y => cover0_B_5 _ _ _ _ _ _ _ _ _ _ _ _ _ _ _ _ _ _ _ _ y)]
  unfold kernelRun0_B
  dsimp only
  sl_unfold_words
  simp only [View.readAt_eq_ld, harg1.read_unread, harg2.read_unread, harg3.read_unread, harg5.read_unread, harg6.read_unread,
    ld_whole]
  simp only [View.canon_cons_unit_zero (S := S1x1) hz, View.readCov_cons_toLoadRect]
  exact losses x0 x1 x2 xo5 p

end Point

variable (m : (ℓ : Loc nD τ sig) → Buf (Elt Ideal) ℓ) (c : Dev nD)

/-- The rows before the norm. -/
abbrev A (r q : ℕ) : EReal := at2 (n0 := 8192) (n1 := 2048) (m ((c : Thread nD τ).loc main_arg0)) r q

/-- The gain. -/
abbrev G (q : ℕ) : EReal := at2 (n0 := 1) (n1 := 2048) (m ((c : Thread nD τ).loc main_arg1)) 0 q

/-- The target. -/
abbrev Y (r q : ℕ) : EReal := at2 (n0 := 8192) (n1 := 2048) (m ((c : Thread nD τ).loc main_arg2)) r q

theorem index0 : ∀ t : Fin cfg0.N, win0_0.index t 0 = t.val ∧ win0_0.index t 1 = 0 :=
  (by decide +kernel : ∀ t : Fin grid0.N, win0_0.index t 0 = t.val ∧ win0_0.index t 1 = 0)

/-- Window 0's block at a point, entry by entry. -/
theorem block0 (t : Fin cfg0.N) (r : Fin 256) (l : Fin 2048) :
    (iblk m c 0 t : Vec Ideal S256x2048 .f32) (ix2 r l)
      = at2 (n0 := 8192) (n1 := 2048) (m ((c : Thread nD τ).loc main_arg0)) ((t.val) * 256 + r.val) ((0) * 2048 + l.val) := by
  unfold iblk
  rw [View.read_apply]
  show V m c main_arg0 _ = _
  rw [V_main_arg0]
  exact at2_block (index0 t) rfl rfl

theorem index1 : ∀ t : Fin cfg0.N, win0_1.index t 0 = 0 ∧ win0_1.index t 1 = 0 :=
  (by decide +kernel : ∀ t : Fin grid0.N, win0_1.index t 0 = 0 ∧ win0_1.index t 1 = 0)

/-- Window 1's block at a point, entry by entry. -/
theorem block1 (t : Fin cfg0.N) (r : Fin 1) (l : Fin 2048) :
    (iblk m c 1 t : Vec Ideal S1x2048 .f32) (ix2 r l)
      = at2 (n0 := 1) (n1 := 2048) (m ((c : Thread nD τ).loc main_arg1)) ((0) * 1 + r.val) ((0) * 2048 + l.val) := by
  unfold iblk
  rw [View.read_apply]
  show V m c main_arg1 _ = _
  rw [V_main_arg1]
  exact at2_block (index1 t) rfl rfl

theorem index2 : ∀ t : Fin cfg0.N, win0_2.index t 0 = t.val ∧ win0_2.index t 1 = 0 :=
  (by decide +kernel : ∀ t : Fin grid0.N, win0_2.index t 0 = t.val ∧ win0_2.index t 1 = 0)

/-- Window 2's block at a point, entry by entry. -/
theorem block2 (t : Fin cfg0.N) (r : Fin 256) (l : Fin 2048) :
    (iblk m c 2 t : Vec Ideal S256x2048 .f32) (ix2 r l)
      = at2 (n0 := 8192) (n1 := 2048) (m ((c : Thread nD τ).loc main_arg2)) ((t.val) * 256 + r.val) ((0) * 2048 + l.val) := by
  unfold iblk
  rw [View.read_apply]
  show V m c main_arg2 _ = _
  rw [V_main_arg2]
  exact at2_block (index2 t) rfl rfl

theorem index3 : ∀ t : Fin cfg0.N, win0_3.index t 0 = t.val ∧ win0_3.index t 1 = 0 :=
  (by decide +kernel : ∀ t : Fin grid0.N, win0_3.index t 0 = t.val ∧ win0_3.index t 1 = 0)

theorem index4 : ∀ t : Fin cfg0.N, win0_4.index t 0 = 0 ∧ win0_4.index t 1 = 0 :=
  (by decide +kernel : ∀ t : Fin grid0.N, win0_4.index t 0 = 0 ∧ win0_4.index t 1 = 0)

theorem index5 : ∀ t : Fin cfg0.N, win0_5.index t 0 = 0 ∧ win0_5.index t 1 = 0 :=
  (by decide +kernel : ∀ t : Fin grid0.N, win0_5.index t 0 = 0 ∧ win0_5.index t 1 = 0)

/-- The rows' gradient. -/
def val3 (r q : ℕ) : EReal := dloss (fun k => A m c r k.val) (fun k => G m c k.val) (fun k => Y m c r k.val) (A m c r q) (G m c q) (Y m c r q)

/-- What row `r` adds to the gain's gradient. -/
def term4 (r q : ℕ) : EReal := dgain (fun k => A m c r k.val) (A m c r q) (G m c q) (Y m c r q)

/-- The gain's gradient. -/
def val4 (q : ℕ) : EReal := ∑ r ∈ Finset.range 8192, term4 m c r q

/-- What row `r` adds to the loss. -/
def term5 (r _q : ℕ) : EReal := rowLoss (fun k => A m c r k.val) (fun k => G m c k.val) (fun k => Y m c r k.val)

/-- The loss. -/
def val5 (q : ℕ) : EReal := ∑ r ∈ Finset.range 8192, term5 m c r q

section Blocks

variable (t : Fin cfg0.N) (r : Fin 256) (k : Fin 2048)

theorem a_block : (iblk m c 0 t : Vec Ideal S256x2048 .f32) (ix2 r k) = A m c (t.val * 256 + r.val) k.val :=
  (block0 m c t r k).trans (congrArg (A m c _) (by omega))

theorem g_block : (iblk m c 1 t : Vec Ideal S1x2048 .f32) (ix2 0 k) = G m c k.val :=
  (block1 m c t 0 k).trans (congrArg₂ (at2 (n0 := 1) (n1 := 2048) (m ((c : Thread nD τ).loc main_arg1))) rfl (by omega))

theorem y_block : (iblk m c 2 t : Vec Ideal S256x2048 .f32) (ix2 r k) = Y m c (t.val * 256 + r.val) k.val :=
  (block2 m c t r k).trans (congrArg (Y m c _) (by omega))

/-! A point's rows' gradient, and what they add to the gain's gradient and to the loss. -/

theorem rowGrad3_blocks : rowGrad3 (iblk m c 0 t : Vec Ideal S256x2048 .f32) (iblk m c 1 t : Vec Ideal S1x2048 .f32) (iblk m c 2 t : Vec Ideal S256x2048 .f32) r k = val3 m c (t.val * 256 + r.val) k.val := by
  unfold rowGrad3 val3
  simp only [a_block, g_block, y_block]

theorem gainTerm4_blocks : gainTerm4 (iblk m c 0 t : Vec Ideal S256x2048 .f32) (iblk m c 1 t : Vec Ideal S1x2048 .f32) (iblk m c 2 t : Vec Ideal S256x2048 .f32) r k = term4 m c (t.val * 256 + r.val) k.val := by
  unfold gainTerm4 term4
  simp only [a_block, g_block, y_block]

theorem lossTerm5_blocks : lossTerm5 (iblk m c 0 t : Vec Ideal S256x2048 .f32) (iblk m c 1 t : Vec Ideal S1x2048 .f32) (iblk m c 2 t : Vec Ideal S256x2048 .f32) r = term5 m c (t.val * 256 + r.val) 0 := by
  unfold lossTerm5 term5
  simp only [a_block, g_block, y_block]

end Blocks

attribute [local irreducible] val3 term4 term5 rowGrad3 gainTerm4 lossTerm5

/-! What a point leaves in each result block. -/

theorem val3_after (t : Fin cfg0.N) (r : Fin 256) (p : Fin 2048) :
    (outsAt0 m c t.val t.isLt).1 (ix2 r p) = val3 m c (t.val * 256 + r.val) p.val := by
  refine Eq.trans ?_ (rowGrad3_blocks m c t r p)
  by_cases h : t.val % 32 = 0
  · rw [outsAt0_A m c t h]
    dsimp only
    exact out_A_3 ..
  · rw [outsAt0_B m c t h]
    dsimp only
    exact out_B_3 ..

theorem sum_after (p : Fin 2048) (n : ℕ) (hn : n < cfg0.N) :
    (outsAt0 m c n hn).2.1 (ix2 0 p) = ∑ r ∈ Finset.range ((n + 1) * 256), term4 m c r p.val := by
  refine running_sum (N := cfg0.N) (b := 256) (fun r => term4 m c r p.val) (fun n hn => (outsAt0 m c n hn).2.1 (ix2 0 p)) (fun hn => ?_) (fun n hn => ?_) n hn
  · refine Eq.trans ?_ (Finset.sum_congr rfl fun r _ => gainTerm4_blocks m c ⟨0, hn⟩ r p)
    show (outsAt0 m c (⟨0, hn⟩ : Fin cfg0.N).val _).2.1 _ = _
    rw [outsAt0_A m c ⟨0, hn⟩ rfl]
    dsimp only
    exact out_A_4 ..
  · have hN : n + 1 < 32 := lt_of_lt_of_eq hn N_0
    refine Eq.trans ?_ (congrArg (_ + ·) (Finset.sum_congr rfl fun r _ => gainTerm4_blocks m c ⟨n + 1, hn⟩ r p))
    show (outsAt0 m c (⟨n + 1, hn⟩ : Fin cfg0.N).val _).2.1 _ = _
    rw [outsAt0_B m c ⟨n + 1, hn⟩ (by dsimp only; omega)]
    dsimp only
    exact out_B_4 ..

theorem loss_after (p : Fin 1) (n : ℕ) (hn : n < cfg0.N) :
    (outsAt0 m c n hn).2.2 (ix2 0 p) = ∑ r ∈ Finset.range ((n + 1) * 256), term5 m c r 0 := by
  refine running_sum (N := cfg0.N) (b := 256) (fun r => term5 m c r 0) (fun n hn => (outsAt0 m c n hn).2.2 (ix2 0 p)) (fun hn => ?_) (fun n hn => ?_) n hn
  · refine Eq.trans ?_ (Finset.sum_congr rfl fun r _ => lossTerm5_blocks m c ⟨0, hn⟩ r)
    show (outsAt0 m c (⟨0, hn⟩ : Fin cfg0.N).val _).2.2 _ = _
    rw [outsAt0_A m c ⟨0, hn⟩ rfl]
    dsimp only
    exact out_A_5 ..
  · have hN : n + 1 < 32 := lt_of_lt_of_eq hn N_0
    refine Eq.trans ?_ (congrArg (_ + ·) (Finset.sum_congr rfl fun r _ => lossTerm5_blocks m c ⟨n + 1, hn⟩ r))
    show (outsAt0 m c (⟨n + 1, hn⟩ : Fin cfg0.N).val _).2.2 _ = _
    rw [outsAt0_B m c ⟨n + 1, hn⟩ (by dsimp only; omega)]
    dsimp only
    exact out_B_5 ..

/-! The three result arrays. -/

def arr3 : Buf (Elt Ideal) ((c : Thread nD τ).loc main_v0_0) := fun y : S8192x2048.Idx => val3 m c (y 0).val (y 1).val

def arr4 : Buf (Elt Ideal) ((c : Thread nD τ).loc main_v0_1) := fun y : S1x2048.Idx => val4 m c (y 1).val

def arr5 : Buf (Elt Ideal) ((c : Thread nD τ).loc main_v0_2) := fun y : S1x1.Idx => val5 m c (y 1).val

/-- The gain's gradient after the last point. -/
theorem sum_all (q : ℕ) : ∑ r ∈ Finset.range ((31 + 1) * 256), term4 m c r q = val4 m c q := rfl

/-- The loss after the last point. -/
theorem loss_all (q : ℕ) : ∑ r ∈ Finset.range ((31 + 1) * 256), term5 m c r q = val5 m c q := rfl

attribute [local irreducible] val4 val5

/-! The result arrays after the run. -/

theorem final3 : (dats m 0 c).arrAt 3 cfg0.N = arr3 m c := by
  refine (dats m 0 c).arrAt_eq_of_cover 3 (arr3 m c) (fun t hf => ?_) fun (i : S8192x2048.Idx) => ?_
  · rw [Value.flushed3]
    obtain ⟨h0, h1⟩ := index3 t
    funext y
    rw [View.read_apply]
    show (outsAt0 m c t.val t.isLt).1 y = val3 m c (win0_3.index t 0 * 256 + 1 * (y 0).val) (win0_3.index t 1 * 2048 + 1 * (y 1).val)
    refine (congrArg _ (eq_ix2 y)).trans ((val3_after m c t _ _).trans ?_)
    rw [h0, h1]
    exact congrArg₂ (val3 m c) (by omega) (by omega)
  · have b0 : (i 0).val < 8192 := (i 0).isLt
    have b1 : (i 1).val < 2048 := (i 1).isLt
    have hN : cfg0.N = 32 := N_0
    obtain ⟨t, ht⟩ : ∃ t : Fin cfg0.N, t.val = (i 0).val / 256 := ⟨⟨_, by omega⟩, rfl⟩
    refine ⟨t, flush0_3 t, ?_⟩
    show i ∈ ((View.whole main_v0_0).slice (win0_3.rect t)).set
    rw [View.set_slice_whole]
    exact mem_block (index3 t) (by omega) (by omega)

theorem final4 : (dats m 0 c).arrAt 4 cfg0.N = arr4 m c := by
  refine (dats m 0 c).arrAt_eq_of_cover 4 (arr4 m c) (fun t hf => ?_) fun (i : S1x2048.Idx) => ?_
  · rw [Value.flushed4]
    obtain ⟨h0, h1⟩ := index4 t
    have ht : t.val = 31 := by have := (flush0_4 t).mp hf; have := lt_of_lt_of_eq t.isLt N_0; omega
    funext y
    rw [View.read_apply]
    show (outsAt0 m c t.val t.isLt).2.1 y = val4 m c (win0_4.index t 1 * 2048 + 1 * (y 1).val)
    refine (congrArg _ (eq_row y)).trans ((sum_after m c _ t.val t.isLt).trans ?_)
    rw [h1, ht]
    exact (sum_all m c _).trans (congrArg (val4 m c) (by omega))
  · have b0 : (i 0).val < 1 := (i 0).isLt
    have b1 : (i 1).val < 2048 := (i 1).isLt
    have hN : cfg0.N = 32 := N_0
    obtain ⟨t, ht⟩ : ∃ t : Fin cfg0.N, t.val = 31 := ⟨⟨_, by omega⟩, rfl⟩
    refine ⟨t, (flush0_4 t).mpr (by omega), ?_⟩
    show i ∈ ((View.whole main_v0_1).slice (win0_4.rect t)).set
    rw [View.set_slice_whole]
    exact mem_block (index4 t) (by omega) (by omega)

theorem final5 : (dats m 0 c).arrAt 5 cfg0.N = arr5 m c := by
  refine (dats m 0 c).arrAt_eq_of_cover 5 (arr5 m c) (fun t hf => ?_) fun (i : S1x1.Idx) => ?_
  · rw [Value.flushed5]
    obtain ⟨h0, h1⟩ := index5 t
    have ht : t.val = 31 := by have := (flush0_5 t).mp hf; have := lt_of_lt_of_eq t.isLt N_0; omega
    funext y
    rw [View.read_apply]
    show (outsAt0 m c t.val t.isLt).2.2 y = val5 m c (win0_5.index t 1 * 1 + 1 * (y 1).val)
    refine (congrArg _ (eq_row y)).trans ((loss_after m c _ t.val t.isLt).trans ?_)
    rw [h1, ht]
    exact (loss_all m c _).trans (congrArg (val5 m c) (by have : (y 1).val < 1 := (y 1).isLt; omega))
  · have b0 : (i 0).val < 1 := (i 0).isLt
    have b1 : (i 1).val < 1 := (i 1).isLt
    have hN : cfg0.N = 32 := N_0
    obtain ⟨t, ht⟩ : ∃ t : Fin cfg0.N, t.val = 31 := ⟨⟨_, by omega⟩, rfl⟩
    refine ⟨t, (flush0_5 t).mpr (by omega), ?_⟩
    show i ∈ ((View.whole main_v0_2).slice (win0_5.rect t)).set
    rw [View.set_slice_whole]
    exact mem_block (index5 t) (by omega) (by omega)

end Cert.FinalLossIdeal.Final

end
-- ==== Proof.FinalLossClaims.lean ====
/-
  The claims about the loss and its gradient: the frames, and the equality of the three results with the reference's over
  the extended reals.
-/
module

public import proofs.«01_k».proof.Defs
public import proofs.«01_k».proof.Proof.FinalLossValue
public import proofs.«01_k».proof.Proof.Gen.FinalLoss.Frame
public import proofs.«01_k».proof.Proof.Gen.FinalLossRefIdeal.Run

@[expose] public section

noncomputable section

namespace FinalLossClaims

open Idealize.ShloMosaic Idealize.ShloMosaic.TcCoe Idealize.SL.Sem Cert Ffn

/-! The frames. -/

theorem frame_p : quiescent_FinalLoss := fun m ρ _ => Cert.FinalLoss.Gen.frame m ρ

theorem frame_pi : quiescent_FinalLossIdeal := fun m ρ _ => Cert.FinalLossIdeal.Gen.frame m ρ

theorem frame_ri : quiescent_FinalLossRefIdeal := fun m ρ _ =>
  (θ_run _ _ _).mono (fun r h => ⟨fun c => (h c).2.2.2, sem_eq_zero_of_no_sems (by decide) r.2⟩) (Cert.FinalLossRefIdeal.Value.run m ρ)

/-- No operation is rewritten. -/
theorem preserves : preserves_FinalLoss_FinalLossIdeal := trivial

section Entries

variable (m : (ℓ : Loc FinalLossIdeal.nD FinalLossIdeal.τ FinalLossIdeal.sig) → Buf (Elt Ideal) ℓ) (c : Dev FinalLossIdeal.nD)
  (x0 : Vec Ideal FinalLossIdeal.S8192x2048 .f32) (x1 : Vec Ideal FinalLossIdeal.S1x2048 .f32) (x2 : Vec Ideal FinalLossIdeal.S8192x2048 .f32)
  (h0 : x0 = m ((c.tc : Thread FinalLossIdeal.nD FinalLossIdeal.τ).loc FinalLossIdeal.main_arg0))
  (h1 : x1 = m ((c.tc : Thread FinalLossIdeal.nD FinalLossIdeal.τ).loc FinalLossIdeal.main_arg1))
  (h2 : x2 = m ((c.tc : Thread FinalLossIdeal.nD FinalLossIdeal.τ).loc FinalLossIdeal.main_arg2)) (i : Fin 8192) (j : Fin 2048)
include h0 h1 h2

/-- The rows' gradient in the arrays' own entries, with its parts as the reference adds them. -/
theorem val3_entries : FinalLossIdeal.Final.val3 m c i.val j.val
      = (Ideal.div half width * (Ideal.ofBits .f32 0x40000000#32 * diff (fun k => x0 (ix2 i k)) (x0 (ix2 i j)) (x1 (ix2 0 j)) (x2 (ix2 i j)))) * x1 (ix2 0 j) * (rms fun k => x0 (ix2 i k))
        + x0 (ix2 i j) * rootGrad (fun k => x0 (ix2 i k)) (fun k => (Ideal.div half width * (Ideal.ofBits .f32 0x40000000#32 * diff (fun k => x0 (ix2 i k)) (x0 (ix2 i k)) (x1 (ix2 0 k)) (x2 (ix2 i k)))) * x1 (ix2 0 k))
        + rootGrad (fun k => x0 (ix2 i k)) (fun k => (Ideal.div half width * (Ideal.ofBits .f32 0x40000000#32 * diff (fun k => x0 (ix2 i k)) (x0 (ix2 i k)) (x1 (ix2 0 k)) (x2 (ix2 i k)))) * x1 (ix2 0 k)) * x0 (ix2 i j) := by
  subst h0 h1 h2
  have hx : ∀ k : Fin 2048, FinalLossIdeal.Final.A m c i.val k.val = _ := fun k => at2_eq _ i k _ _ rfl rfl
  have hg : ∀ k : Fin 2048, FinalLossIdeal.Final.G m c k.val = _ := fun k => at2_eq _ 0 k _ _ rfl rfl
  have hy : ∀ k : Fin 2048, FinalLossIdeal.Final.Y m c i.val k.val = _ := fun k => at2_eq _ i k _ _ rfl rfl
  simp only [FinalLossIdeal.Final.val3, dloss, normGrad_eq, dout_eq, hx, hg, hy]

/-- What a row adds to the gain's gradient, in the arrays' own entries. -/
theorem term4_entries : FinalLossIdeal.Final.term4 m c i.val j.val = x0 (ix2 i j) * (rms fun k => x0 (ix2 i k)) * (Ideal.div half width * (Ideal.ofBits .f32 0x40000000#32 * diff (fun k => x0 (ix2 i k)) (x0 (ix2 i j)) (x1 (ix2 0 j)) (x2 (ix2 i j)))) := by
  subst h0 h1 h2
  have hx : ∀ k : Fin 2048, FinalLossIdeal.Final.A m c i.val k.val = _ := fun k => at2_eq _ i k _ _ rfl rfl
  have hg : ∀ k : Fin 2048, FinalLossIdeal.Final.G m c k.val = _ := fun k => at2_eq _ 0 k _ _ rfl rfl
  have hy : ∀ k : Fin 2048, FinalLossIdeal.Final.Y m c i.val k.val = _ := fun k => at2_eq _ i k _ _ rfl rfl
  simp only [FinalLossIdeal.Final.term4, dgain, dout_eq, hx, hg, hy]
  exact mul_comm _ _

/-- What a row adds to the loss, in the arrays' own entries. -/
theorem term5_entries (q : ℕ) : FinalLossIdeal.Final.term5 m c i.val q
    = rowLoss (fun k => x0 (ix2 i k)) (fun k => x1 (ix2 0 k)) (fun k => x2 (ix2 i k)) := by
  subst h0 h1 h2
  have hx : ∀ k : Fin 2048, FinalLossIdeal.Final.A m c i.val k.val = _ := fun k => at2_eq _ i k _ _ rfl rfl
  have hg : ∀ k : Fin 2048, FinalLossIdeal.Final.G m c k.val = _ := fun k => at2_eq _ 0 k _ _ rfl rfl
  have hy : ∀ k : Fin 2048, FinalLossIdeal.Final.Y m c i.val k.val = _ := fun k => at2_eq _ i k _ _ rfl rfl
  simp only [FinalLossIdeal.Final.term5, hx, hg, hy]

end Entries

/-- The kernel's results are the reference's. -/
theorem algebraic : algebraic_FinalLossIdeal_FinalLossRefIdeal := by
  intro m ρ m' ρ' _ hargs
  refine ⟨FinalLossIdeal.Final.arr3 m, FinalLossIdeal.Final.arr4 m, FinalLossIdeal.Final.arr5 m, ?_, ?_⟩
  · refine (θ_run _ _ _).mono (fun r h c => ?_) (Cert.FinalLossIdeal.Value.run_blocks m ρ)
    obtain ⟨h3, h4, h5, hrest⟩ := h c
    exact ⟨h3.trans (FinalLossIdeal.Final.final3 m c), h4.trans (FinalLossIdeal.Final.final4 m c), h5.trans (FinalLossIdeal.Final.final5 m c), hrest⟩
  · refine (θ_run _ _ _).mono (fun r h c => ?_) (Cert.FinalLossRefIdeal.Value.run m' ρ')
    obtain ⟨h3, h4, h5, hrest⟩ := h c
    obtain ⟨e0, e1, e2⟩ := hargs c
    unfold FinalLossRefIdeal.Value.res_main_v49 at h3
    rw [e0, e1, e2] at h3 h4 h5
    refine ⟨h3.trans (funext fun y => (congrArg _ (eq_ix2 y)).trans ?_), h4.trans (funext fun y => (congrArg _ (eq_row y)).trans ?_),
      h5.trans (funext fun y => (congrArg _ (eq_row y)).trans ?_), hrest⟩
    · refine Eq.trans ?_ (val3_entries m c _ _ _ rfl rfl rfl (y 0) (y 1)).symm
      unfold rootGrad diff rms mean eps width
      rw [← ofBits_neg_half, ← ofBits_half]
      pointwise
      simp only [Fin.sum_univ_one]
    · refine Eq.trans ?_ ((Finset.sum_range fun r => FinalLossIdeal.Final.term4 m c r (y 1).val).trans
        (Finset.sum_congr rfl fun r _ => term4_entries m c _ _ _ rfl rfl rfl r (y 1))).symm
      unfold diff rms mean eps width
      rw [← ofBits_half]
      pointwise
    · refine Eq.trans ?_ ((Finset.sum_range fun r => FinalLossIdeal.Final.term5 m c r (y 1).val).trans
        (Finset.sum_congr rfl fun r _ => term5_entries m c _ _ _ rfl rfl rfl r _)).symm
      unfold rowLoss
      rw [← half_sum, ← ofBits_half]
      unfold diff rms mean eps width
      pointwise

end FinalLossClaims

end
-- ==== Proof.RmsFwdValue.lean ====
/-
  The norm's forward call: what the kernel leaves in its result array, entry by entry.
-/
module

public import proofs.«01_k».proof.Proof.Product
public import proofs.«01_k».proof.Proof.Gate
public import proofs.«01_k».proof.Proof.Norm
public import proofs.«01_k».proof.Proof.Gen.RmsFwdIdeal.Value
public import Idealize.ShloMosaic.Lib.Pipeline.ReadBack
public import Idealize.ShloMosaic.Lib.Pointwise

@[expose] public section

noncomputable section

namespace Cert.RmsFwdIdeal.Final

open Cert.RmsFwdIdeal Cert.RmsFwdIdeal.Gen Idealize.ShloMosaic Idealize.ShloMosaic.TcCoe Idealize.SL.Sem Ffn

variable (m : (ℓ : Loc nD τ sig) → Buf (Elt Ideal) ℓ) (c : Dev nD)

/-- Row `r` of the norm's argument at launch. -/
abbrev row (r : ℕ) (k : Fin 2048) : EReal := at2 (n0 := 8192) (n1 := 2048) (m ((c : Thread nD τ).loc main_arg0)) r k.val

theorem index0 : ∀ t : Fin cfg0.N, win0_0.index t 0 = t.val ∧ win0_0.index t 1 = 0 :=
  (by decide +kernel : ∀ t : Fin grid0.N, win0_0.index t 0 = t.val ∧ win0_0.index t 1 = 0)

/-- Window 0's block at a point, entry by entry. -/
theorem block0 (t : Fin cfg0.N) (r : Fin 256) (l : Fin 2048) :
    (iblk m c 0 t : Vec Ideal S256x2048 .f32) (ix2 r l)
      = at2 (n0 := 8192) (n1 := 2048) (m ((c : Thread nD τ).loc main_arg0)) ((t.val) * 256 + r.val) ((0) * 2048 + l.val) := by
  unfold iblk
  rw [View.read_apply]
  show V m c main_arg0 _ = _
  rw [V_main_arg0]
  exact at2_block (index0 t) rfl rfl

theorem index1 : ∀ t : Fin cfg0.N, win0_1.index t 0 = 0 ∧ win0_1.index t 1 = 0 :=
  (by decide +kernel : ∀ t : Fin grid0.N, win0_1.index t 0 = 0 ∧ win0_1.index t 1 = 0)

/-- Window 1's block at a point, entry by entry. -/
theorem block1 (t : Fin cfg0.N) (r : Fin 1) (l : Fin 2048) :
    (iblk m c 1 t : Vec Ideal S1x2048 .f32) (ix2 r l)
      = at2 (n0 := 1) (n1 := 2048) (m ((c : Thread nD τ).loc main_arg1)) ((0) * 1 + r.val) ((0) * 2048 + l.val) := by
  unfold iblk
  rw [View.read_apply]
  show V m c main_arg1 _ = _
  rw [V_main_arg1]
  exact at2_block (index1 t) rfl rfl

theorem index2 : ∀ t : Fin cfg0.N, win0_2.index t 0 = t.val ∧ win0_2.index t 1 = 0 :=
  (by decide +kernel : ∀ t : Fin grid0.N, win0_2.index t 0 = t.val ∧ win0_2.index t 1 = 0)

/-- What a point stores, entry by entry. -/
theorem pay1_apply (x : Vec Ideal S256x2048 .f32) (g : Vec Ideal S1x2048 .f32) (r : Fin 256) (l : Fin 2048) :
    k0_pay1 x g (ix2 r l) = x (ix2 r l) * rms (fun k => x (ix2 r k)) * g (ix2 0 l) := by
  unfold k0_pay1 rms mean width eps
  pointwise

/-- The normed row at row `r` and column `q`. -/
def val (r q : ℕ) : EReal := at2 (n0 := 8192) (n1 := 2048) (m ((c : Thread nD τ).loc main_arg0)) r q * rms (row m c r) * at2 (n0 := 1) (n1 := 2048) (m ((c : Thread nD τ).loc main_arg1)) 0 q

/-- What a point leaves in the result block. -/
theorem val_after (t : Fin cfg0.N) (r : Fin 256) (l : Fin 2048) :
    out0_2 (iblk m c 0 t) (iblk m c 1 t) (ix2 r l) = val m c (t.val * 256 + r.val) l.val := by
  unfold out0_2
  refine (congrFun (View.canon_unit_zero (S := S256x2048) hz _ _) (ix2 r l)).trans ?_
  simp only [ld_whole]
  have hx : ∀ k : Fin 2048, (iblk m c 0 t : Vec Ideal S256x2048 .f32) (ix2 r k) = at2 (n0 := 8192) (n1 := 2048) (m ((c : Thread nD τ).loc main_arg0)) (t.val * 256 + r.val) k.val :=
    fun k => (block0 m c t r k).trans (congrArg (at2 (n0 := 8192) (n1 := 2048) (m ((c : Thread nD τ).loc main_arg0)) _) (by omega))
  exact (pay1_apply _ _ r l).trans (congrArg₂ (· * ·) (congrArg₂ (fun x f => x * rms f) (hx l) (funext hx))
    ((block1 m c t 0 l).trans (congrArg₂ (at2 (n0 := 1) (n1 := 2048) (m ((c : Thread nD τ).loc main_arg1))) (by omega) (by omega))))

/-- The result array. -/
def arr : Buf (Elt Ideal) ((c : Thread nD τ).loc main_v0) := fun y : S8192x2048.Idx => val m c (y 0).val (y 1).val

/-- The result array after the run. -/
theorem final : (dats m 0 c).arrAt 2 cfg0.N = arr m c := by
  refine (dats m 0 c).arrAt_eq_of_cover 2 (arr m c) (fun t hf => ?_) fun (i : S8192x2048.Idx) => ?_
  · rw [Value.flushed2]
    obtain ⟨h0, h1⟩ := index2 t
    funext y
    rw [View.read_apply]
    show out0_2 (iblk m c 0 t) (iblk m c 1 t) y = val m c (win0_2.index t 0 * 256 + 1 * (y 0).val) (win0_2.index t 1 * 2048 + 1 * (y 1).val)
    refine (congrArg _ (eq_ix2 y)).trans ((val_after m c t _ _).trans ?_)
    rw [h0, h1]
    exact congrArg₂ (val m c) (by omega) (by omega)
  · have b0 : (i 0).val < 8192 := (i 0).isLt
    have b1 : (i 1).val < 2048 := (i 1).isLt
    have hN : cfg0.N = 32 := N_0
    obtain ⟨t, ht⟩ : ∃ t : Fin cfg0.N, t.val = (i 0).val / 256 := ⟨⟨_, by omega⟩, rfl⟩
    refine ⟨t, flush0_2 t, ?_⟩
    show i ∈ ((View.whole main_v0).slice (win0_2.rect t)).set
    rw [View.set_slice_whole]
    exact mem_block (index2 t) (by omega) (by omega)

end Cert.RmsFwdIdeal.Final

end
-- ==== Proof.RmsFwdClaims.lean ====
/-
  The claims about the norm's forward call: the frames, and the equality of the result with the reference's over the extended reals.
-/
module

public import proofs.«01_k».proof.Defs
public import proofs.«01_k».proof.Proof.RmsFwdValue
public import proofs.«01_k».proof.Proof.Gen.RmsFwd.Frame
public import proofs.«01_k».proof.Proof.Gen.RmsFwdRefIdeal.Run

@[expose] public section

noncomputable section

namespace RmsFwdClaims

open Idealize.ShloMosaic Idealize.ShloMosaic.TcCoe Idealize.SL.Sem Cert Ffn

/-! The frames. -/

theorem frame_p : quiescent_RmsFwd := fun m ρ _ => Cert.RmsFwd.Gen.frame m ρ

theorem frame_pi : quiescent_RmsFwdIdeal := fun m ρ _ => Cert.RmsFwdIdeal.Gen.frame m ρ

theorem frame_ri : quiescent_RmsFwdRefIdeal := fun m ρ _ =>
  (θ_run _ _ _).mono (fun r h => ⟨fun c => (h c).2, sem_eq_zero_of_no_sems (by decide) r.2⟩) (Cert.RmsFwdRefIdeal.Value.run m ρ)

/-- No operation is rewritten. -/
theorem preserves : preserves_RmsFwd_RmsFwdIdeal := trivial

/-- The kernel's result is the reference's. -/
theorem algebraic : algebraic_RmsFwdIdeal_RmsFwdRefIdeal := by
  intro m ρ m' ρ' _ hargs
  refine ⟨RmsFwdIdeal.Final.arr m, ?_, ?_⟩
  · refine (θ_run _ _ _).mono (fun r h c => ?_) (Cert.RmsFwdIdeal.Value.run_blocks m ρ)
    exact ⟨(h c).1.trans (RmsFwdIdeal.Final.final m c), (h c).2⟩
  · refine (θ_run _ _ _).mono (fun r h c => ?_) (Cert.RmsFwdRefIdeal.Value.run m' ρ')
    obtain ⟨h0, hrest⟩ := h c
    obtain ⟨e0, e1⟩ := hargs c
    rw [e0, e1] at h0
    refine ⟨h0.trans (funext fun y => (congrArg _ (eq_ix2 y)).trans ?_), hrest⟩
    refine Eq.trans ?_ (congrArg₂ (· * ·) (congrArg₂ (fun x f => x * rms f) (at2_eq (m ((c.tc : Thread RmsFwdIdeal.nD RmsFwdIdeal.τ).loc RmsFwdIdeal.main_arg0)) (y 0) (y 1) _ _ rfl rfl)
      (funext fun k : Fin 2048 => at2_eq (m ((c.tc : Thread RmsFwdIdeal.nD RmsFwdIdeal.τ).loc RmsFwdIdeal.main_arg0)) (y 0) k _ _ rfl rfl)) (at2_eq (m ((c.tc : Thread RmsFwdIdeal.nD RmsFwdIdeal.τ).loc RmsFwdIdeal.main_arg1)) 0 (y 1) _ _ rfl rfl)).symm
    unfold rms mean width eps
    pointwise

end RmsFwdClaims

end
-- ==== Proof.DSsmValue.lean ====
/-
  The gated linear unit's backward call: what the kernel leaves in its two result arrays, entry by entry — the
  gradient of the unit's input, and its column sums gathered over eight row tiles.
-/
module

public import proofs.«01_k».proof.Proof.Product
public import proofs.«01_k».proof.Proof.Gate
public import proofs.«01_k».proof.Proof.Tiles
public import proofs.«01_k».proof.Proof.RowTile
public import proofs.«01_k».proof.Proof.Gen.DSsmIdeal.Value
public import Idealize.ShloMosaic.Lib.Pipeline.ReadBack
public import Idealize.ShloMosaic.Lib.Pointwise

@[expose] public section

noncomputable section

namespace Cert.DSsmIdeal.Final

open Cert.DSsmIdeal Cert.DSsmIdeal.Gen Idealize.ShloMosaic Idealize.ShloMosaic.TcCoe Idealize.SL.Sem Ffn

/-- Adding a column's sum to a running sum, for the gate half. -/
theorem pay1_apply (v : Vec Ideal S1024x512 .f32) (w : Vec Ideal S1x512 .f32) (l : Fin 512) :
    k0_pay1 v w (ix2 0 l) = w (ix2 0 l) + ∑ r, v (ix2 r l) := by
  unfold k0_pay1
  pointwise

/-- The stored zeros. -/
theorem pay8_apply (l : Fin 1024) : k0_pay8 (F := Ideal) (ix2 0 l) = 0 := by
  unfold k0_pay8
  pointwise

/-- The value columns and the gate columns cover the block of the gradient. -/
theorem cover_4 (r p : Fin 1024) (w1 w0 : Vec Ideal S1024x512 .bf16) :
    ∃ q ∈ ([⟨Rect.unit ![0, 512] ![1024, 512] inb_S1024x1024_S1024x512_0_512, w1⟩,
        ⟨Rect.unit ![0, 0] ![1024, 512] inb_S1024x1024_S1024x512_0_0, w0⟩] : List (View.Piece (Elt Ideal) S1024x1024 .bf16)),
      ix2 r p ∈ q.1.set := by
  have hr := r.isLt
  have hp := p.isLt
  by_cases h : p.val < 512
  · refine ⟨_, .tail _ (.head _), (Rect.mem_set_unit (inb := inb_S1024x1024_S1024x512_0_0)).2 fun a => ?_⟩
    match a with
    | ⟨0, _⟩ => exact ⟨Nat.zero_le _, by show r.val < 0 + 1024; omega⟩
    | ⟨1, _⟩ => exact ⟨Nat.zero_le _, by show p.val < 0 + 512; omega⟩
  · refine ⟨_, .head _, (Rect.mem_set_unit (inb := inb_S1024x1024_S1024x512_0_512)).2 fun a => ?_⟩
    match a with
    | ⟨0, _⟩ => exact ⟨Nat.zero_le _, by show r.val < 0 + 1024; omega⟩
    | ⟨1, _⟩ => exact ⟨by show 512 ≤ p.val; omega, by show p.val < 512 + 512; omega⟩

/-- The value columns and the gate columns cover the row of column sums. -/
theorem cover_5 (p : Fin 1024) (w1 w0 : Vec Ideal S1x512 .f32) :
    ∃ q ∈ ([⟨Rect.unit ![0, 512] ![1, 512] inb_S1x1024_S1x512_0_512, w1⟩,
        ⟨Rect.unit ![0, 0] ![1, 512] inb_S1x1024_S1x512_0_0, w0⟩] : List (View.Piece (Elt Ideal) S1x1024 .f32)),
      ix2 0 p ∈ q.1.set := by
  have hp := p.isLt
  by_cases h : p.val < 512
  · refine ⟨_, .tail _ (.head _), (Rect.mem_set_unit (inb := inb_S1x1024_S1x512_0_0)).2 fun a => ?_⟩
    match a with
    | ⟨0, _⟩ => exact ⟨Nat.zero_le _, Nat.one_pos⟩
    | ⟨1, _⟩ => exact ⟨Nat.zero_le _, by show p.val < 0 + 512; omega⟩
  · refine ⟨_, .head _, (Rect.mem_set_unit (inb := inb_S1x1024_S1x512_0_512)).2 fun a => ?_⟩
    match a with
    | ⟨0, _⟩ => exact ⟨Nat.zero_le _, Nat.one_pos⟩
    | ⟨1, _⟩ => exact ⟨by show 512 ≤ p.val; omega, by show p.val < 512 + 512; omega⟩

section Point

variable (x0 : Vec Ideal S1024x2048 .bf16) (x1 : Vec Ideal S512x2048 .bf16) (x2 x3 : Vec Ideal S1024x512 .f32) (xo5 : Vec Ideal S1x1024 .f32)

/-- Adding a column's sum to a running sum, for the value half. -/
theorem pay9_apply (w : Vec Ideal S1x512 .f32) (l : Fin 512) :
    k0_pay9 x0 x1 x3 w (ix2 0 l) = w (ix2 0 l) + ∑ r, k0_pay4 x0 x1 x3 (ix2 r l) := by
  unfold k0_pay9
  pointwise

/-- The product of two blocks, entry by entry. -/
theorem pay2_apply (r : Fin 1024) (l : Fin 512) : k0_pay2 x0 x1 (ix2 r l) = ∑ k : Fin 2048, x0 (ix2 r k) * x1 (ix2 l k) := by
  unfold k0_pay2
  pointwise

/-- The value half of the gradient, entry by entry. -/
theorem pay4_apply (r : Fin 1024) (l : Fin 512) :
    k0_pay4 x0 x1 x3 (ix2 r l) = k0_pay2 x0 x1 (ix2 r l) * sg (x3 (ix2 r l)) := by
  unfold k0_pay4 k0_pay3 sg
  pointwise

/-- The gate half of the gradient, entry by entry. -/
theorem pay5_apply (r : Fin 1024) (l : Fin 512) :
    k0_pay5 x0 x1 x3 x2 (ix2 r l)
      = k0_pay2 x0 x1 (ix2 r l) * x2 (ix2 r l) * sg (x3 (ix2 r l)) * (1 - sg (x3 (ix2 r l))) := by
  unfold k0_pay5 k0_pay3 sg
  pointwise

variable {E : ℕ → ℕ → EReal} {R : ℕ} (h4 : ∀ (r : Fin 1024) (l : Fin 512), k0_pay4 x0 x1 x3 (ix2 r l) = E (R + r.val) l.val)
    (h5 : ∀ (r : Fin 1024) (l : Fin 512), k0_pay5 x0 x1 x3 x2 (ix2 r l) = E (R + r.val) (512 + l.val))
include h4 h5

/-- The two halves a point stores are its rows of the gradient. -/
theorem halves (r p : Fin 1024) :
    View.canon ([⟨Rect.unit ![0, 512] ![1024, 512] inb_S1024x1024_S1024x512_0_512, k0_pay7 x0 x1 x3 x2⟩,
        ⟨Rect.unit ![0, 0] ![1024, 512] inb_S1024x1024_S1024x512_0_0, k0_pay6 x0 x1 x3⟩] : List (View.Piece (Elt Ideal) S1024x1024 .bf16)) (ix2 r p)
      = E (R + r.val) p.val := by
  refine (View.canon_append_of_piecesOf (fun y => E (R + (y 0).val) (y 1).val) [] [_, _] ⟨?_, ?_, trivial⟩ _ (cover_4 r p _ _))
  · intro x
    refine (congrArg _ (eq_ix2 x)).trans (Eq.trans (by unfold k0_pay7; pointwise) ((h5 (x 0) (x 1)).trans ?_))
    exact congrArg₂ E (by show _ = _ + (0 + 1 * (x 0).val); omega) (by show _ = 512 + 1 * (x 1).val; omega)
  · intro x
    refine (congrArg _ (eq_ix2 x)).trans (Eq.trans (by unfold k0_pay6; pointwise) ((h4 (x 0) (x 1)).trans ?_))
    exact congrArg₂ E (by show _ = _ + (0 + 1 * (x 0).val); omega) (by show _ = 0 + 1 * (x 1).val; omega)

/-- The two rows a point stores are the running column sums with the point's own added. -/
theorem sums (L : List (View.Piece (Elt Ideal) S1x1024 .f32)) (p : Fin 1024) :
    View.canon (([⟨Rect.unit ![0, 512] ![1, 512] inb_S1x1024_S1x512_0_512,
          k0_pay1 (k0_pay5 x0 x1 x3 x2) (View.ld xo5 (Rect.unit ![0, 512] ![1, 512] inb_S1x1024_S1x512_0_512))⟩,
        ⟨Rect.unit ![0, 0] ![1, 512] inb_S1x1024_S1x512_0_0,
          k0_pay9 x0 x1 x3 (View.ld xo5 (Rect.unit ![0, 0] ![1, 512] inb_S1x1024_S1x512_0_0))⟩] : List (View.Piece (Elt Ideal) S1x1024 .f32)) ++ L) (ix2 0 p)
      = xo5 (ix2 0 p) + ∑ r : Fin 1024, E (R + r.val) p.val := by
  have hx : ∀ (o : ℕ) (x : S1x512.Idx) (y : S1x1024.Idx) (_ : (y 1).val = o + 1 * (x 1).val) (z : S1x1024.Idx) (_ : (z 1).val = o + 1 * (x 1).val),
      xo5 y = xo5 z := fun o x y hy z hz => congrArg xo5 ((eq_row y).trans ((congrArg (fun k => ix2 0 k) (Fin.ext (hy.trans hz.symm))).trans (eq_row z).symm))
  refine (View.canon_append_of_piecesOf (fun y => xo5 (ix2 0 (y 1)) + ∑ r : Fin 1024, E (R + r.val) (y 1).val) L [_, _] ⟨?_, ?_, trivial⟩ _ (cover_5 p _ _))
  · intro x
    refine (congrArg _ (eq_row x)).trans ((pay1_apply _ _ (x 1)).trans (congrArg₂ (· + ·) (hx 512 x _ rfl _ rfl) ?_))
    exact Finset.sum_congr rfl fun r _ => (h5 r (x 1)).trans (congrArg (E _) (by show _ = 512 + 1 * (x 1).val; omega))
  · intro x
    refine (congrArg _ (eq_row x)).trans ((pay9_apply x0 x1 x3 _ (x 1)).trans (congrArg₂ (· + ·) (hx 0 x _ rfl _ rfl) ?_))
    exact Finset.sum_congr rfl fun r _ => (h4 r (x 1)).trans (congrArg (E _) (by show _ = 0 + 1 * (x 1).val; omega))

variable (c : Dev nD) (i : grid0.Coords) (arg3 : Memref sig .tc .vmem S1024x2048 .bf16) (harg3 : arg3.IsWhole)
    (arg4 : Memref sig .tc .vmem S512x2048 .bf16) (harg4 : arg4.IsWhole)
    (arg5 : Memref sig .tc .vmem S1024x512 .f32) (harg5 : arg5.IsWhole)
    (arg6 : Memref sig .tc .vmem S1024x512 .f32) (harg6 : arg6.IsWhole)
    (arg7 : Memref sig .tc .vmem S1024x1024 .bf16) (harg7 : arg7.IsWhole)
    (arg8 : Memref sig .tc .vmem S1x1024 .f32) (harg8 : arg8.IsWhole)

/-! What the first point leaves in the two result blocks, and what a later point does. -/

theorem out_A_4 (hc : cond0_0 i) (r p : Fin 1024) : out0_A_4 c i arg3 harg3 arg4 harg4 arg5 harg5 arg6 harg6 arg7 harg7 arg8 harg8 hc x0 x1 x2 x3 (ix2 r p) = E (R + r.val) p.val := by
  unfold out0_A_4
  rw [View.read_writes_eq_canon _ _ _ (fun y => cover0_A_4 _ _ _ _ _ _ _ _ _ _ _ _ _ _ _ _ _ _ _ y)]
  unfold kernelRun0_A
  dsimp only
  sl_unfold_words
  simp only [View.readAt_eq_ld, harg3.read_unread, harg4.read_unread, harg5.read_unread, harg6.read_unread,
    ld_whole]
  exact halves x0 x1 x2 x3 h4 h5 r p

theorem out_B_4 (hc : ¬cond0_0 i) (r p : Fin 1024) : out0_B_4 c i arg3 harg3 arg4 harg4 arg5 harg5 arg6 harg6 arg7 harg7 arg8 harg8 hc x0 x1 x2 x3 xo5 (ix2 r p) = E (R + r.val) p.val := by
  unfold out0_B_4
  rw [View.read_writes_eq_canon _ _ _ (fun y => cover0_B_4 _ _ _ _ _ _ _ _ _ _ _ _ _ _ _ _ _ _ _ _ y)]
  unfold kernelRun0_B
  dsimp only
  sl_unfold_words
  simp only [View.readAt_eq_ld, harg3.read_unread, harg4.read_unread, harg5.read_unread, harg6.read_unread, harg8.read_unread,
    ld_whole]
  exact halves x0 x1 x2 x3 h4 h5 r p

theorem out_A_5 (hc : cond0_0 i) (p : Fin 1024) : out0_A_5 c i arg3 harg3 arg4 harg4 arg5 harg5 arg6 harg6 arg7 harg7 arg8 harg8 hc x0 x1 x2 x3 (ix2 0 p) = ∑ r : Fin 1024, E (R + r.val) p.val := by
  unfold out0_A_5
  rw [View.read_writes_eq_canon _ _ _ (fun y => cover0_A_5 _ _ _ _ _ _ _ _ _ _ _ _ _ _ _ _ _ _ _ y)]
  unfold kernelRun0_A
  dsimp only
  sl_unfold_words
  simp only [View.readAt_eq_ld, harg3.read_unread, harg4.read_unread, harg5.read_unread, harg6.read_unread,
    ld_whole]
  simp only [fun w L => View.readCov_skip arg8.view (Rect.unit ![0, 0] ![1, 512] inb_S1x1024_S1x512_0_0) w L
      (Rect.unit ![0, 512] ![1, 512] inb_S1x1024_S1x512_0_512).toLoadRect (by decide),
    fun Z L r => View.readCov_fill arg8.view inb_S1x1024_S1x1024_0_0 Z L r (congrFun hz)]
  refine (sums x0 x1 x2 x3 (k0_pay8 (F := Ideal)) h4 h5 _ p).trans ?_
  rw [pay8_apply, zero_add]

theorem out_B_5 (hc : ¬cond0_0 i) (p : Fin 1024) :
    out0_B_5 c i arg3 harg3 arg4 harg4 arg5 harg5 arg6 harg6 arg7 harg7 arg8 harg8 hc x0 x1 x2 x3 xo5 (ix2 0 p) = xo5 (ix2 0 p) + ∑ r : Fin 1024, E (R + r.val) p.val := by
  unfold out0_B_5
  rw [View.read_writes_eq_canon _ _ _ (fun y => cover0_B_5 _ _ _ _ _ _ _ _ _ _ _ _ _ _ _ _ _ _ _ _ y)]
  unfold kernelRun0_B
  dsimp only
  sl_unfold_words
  simp only [View.readAt_eq_ld, harg3.read_unread, harg4.read_unread, harg5.read_unread, harg6.read_unread, harg8.read_unread,
    ld_whole]
  exact sums x0 x1 x2 x3 xo5 h4 h5 [] p

end Point

variable (m : (ℓ : Loc nD τ sig) → Buf (Elt Ideal) ℓ) (c : Dev nD)

/-- The gradient of the unit's result, before the product: row `r`, contracted coordinate `k`. -/
abbrev A (r k : ℕ) : EReal := at2 (n0 := 8192) (n1 := 2048) (m ((c : Thread nD τ).loc main_arg0)) r k

/-- The weights, transposed: contracted coordinate `k`, column `q`. -/
abbrev B (k q : ℕ) : EReal := at2 (n0 := 512) (n1 := 2048) (m ((c : Thread nD τ).loc main_arg1)) q k

/-- The unit's input: 512 value columns, then 512 gate columns. -/
abbrev Z (r q : ℕ) : EReal := at2 (n0 := 8192) (n1 := 1024) (m ((c : Thread nD τ).loc main_arg2)) r q

theorem index0 : ∀ t : Fin cfg0.N, win0_0.index t 0 = t.val ∧ win0_0.index t 1 = 0 :=
  (by decide +kernel : ∀ t : Fin grid0.N, win0_0.index t 0 = t.val ∧ win0_0.index t 1 = 0)

/-- Window 0's block at a point, entry by entry. -/
theorem block0 (t : Fin cfg0.N) (r : Fin 1024) (l : Fin 2048) :
    (iblk m c 0 t : Vec Ideal S1024x2048 .bf16) (ix2 r l)
      = at2 (n0 := 8192) (n1 := 2048) (m ((c : Thread nD τ).loc main_arg0)) ((t.val) * 1024 + r.val) ((0) * 2048 + l.val) := by
  unfold iblk
  rw [View.read_apply]
  show V m c main_arg0 _ = _
  rw [V_main_arg0]
  exact at2_block (index0 t) rfl rfl

theorem index1 : ∀ t : Fin cfg0.N, win0_1.index t 0 = 0 ∧ win0_1.index t 1 = 0 :=
  (by decide +kernel : ∀ t : Fin grid0.N, win0_1.index t 0 = 0 ∧ win0_1.index t 1 = 0)

/-- Window 1's block at a point, entry by entry. -/
theorem block1 (t : Fin cfg0.N) (r : Fin 512) (l : Fin 2048) :
    (iblk m c 1 t : Vec Ideal S512x2048 .bf16) (ix2 r l)
      = at2 (n0 := 512) (n1 := 2048) (m ((c : Thread nD τ).loc main_arg1)) ((0) * 512 + r.val) ((0) * 2048 + l.val) := by
  unfold iblk
  rw [View.read_apply]
  show V m c main_arg1 _ = _
  rw [V_main_arg1]
  exact at2_block (index1 t) rfl rfl

theorem index2 : ∀ t : Fin cfg0.N, win0_2.index t 0 = t.val ∧ win0_2.index t 1 = 0 :=
  (by decide +kernel : ∀ t : Fin grid0.N, win0_2.index t 0 = t.val ∧ win0_2.index t 1 = 0)

/-- Window 2's block at a point, entry by entry. -/
theorem block2 (t : Fin cfg0.N) (r : Fin 1024) (l : Fin 512) :
    (iblk m c 2 t : Vec Ideal S1024x512 .f32) (ix2 r l)
      = at2 (n0 := 8192) (n1 := 1024) (m ((c : Thread nD τ).loc main_arg2)) ((t.val) * 1024 + r.val) ((0) * 512 + l.val) := by
  unfold iblk
  rw [View.read_apply]
  show V m c main_arg2 _ = _
  rw [V_main_arg2]
  exact at2_block (index2 t) rfl rfl

theorem index3 : ∀ t : Fin cfg0.N, win0_3.index t 0 = t.val ∧ win0_3.index t 1 = 1 :=
  (by decide +kernel : ∀ t : Fin grid0.N, win0_3.index t 0 = t.val ∧ win0_3.index t 1 = 1)

/-- Window 3's block at a point, entry by entry. -/
theorem block3 (t : Fin cfg0.N) (r : Fin 1024) (l : Fin 512) :
    (iblk m c 3 t : Vec Ideal S1024x512 .f32) (ix2 r l)
      = at2 (n0 := 8192) (n1 := 1024) (m ((c : Thread nD τ).loc main_arg2)) ((t.val) * 1024 + r.val) ((1) * 512 + l.val) := by
  unfold iblk
  rw [View.read_apply]
  show V m c main_arg2 _ = _
  rw [V_main_arg2]
  exact at2_block (index3 t) rfl rfl

theorem index4 : ∀ t : Fin cfg0.N, win0_4.index t 0 = t.val ∧ win0_4.index t 1 = 0 :=
  (by decide +kernel : ∀ t : Fin grid0.N, win0_4.index t 0 = t.val ∧ win0_4.index t 1 = 0)

theorem index5 : ∀ t : Fin cfg0.N, win0_5.index t 0 = 0 ∧ win0_5.index t 1 = 0 :=
  (by decide +kernel : ∀ t : Fin grid0.N, win0_5.index t 0 = 0 ∧ win0_5.index t 1 = 0)

/-- The value half of the gradient at row `r` and column `q`. -/
def half0 (r q : ℕ) : EReal := dot 2048 (A m c) (B m c) r q * sg (Z m c r (512 + q))

/-- The gate half of the gradient at row `r` and column `q`. -/
def half1 (r q : ℕ) : EReal := dot 2048 (A m c) (B m c) r q * Z m c r q * sg (Z m c r (512 + q)) * (1 - sg (Z m c r (512 + q)))

/-- The gradient of the unit's input. -/
def val4 (r q : ℕ) : EReal := if q < 512 then half0 m c r q else half1 m c r (q - 512)

/-- The gradient's column sums. -/
def val5 (q : ℕ) : EReal := ∑ r ∈ Finset.range 8192, val4 m c r q

/-- The product a point computes. -/
theorem prod_blocks (t : Fin cfg0.N) (r : Fin 1024) (l : Fin 512) :
    k0_pay2 (iblk m c 0 t : Vec Ideal S1024x2048 .bf16) (iblk m c 1 t : Vec Ideal S512x2048 .bf16) (ix2 r l)
      = dot 2048 (A m c) (B m c) (t.val * 1024 + r.val) l.val := by
  refine (pay2_apply _ _ r l).trans (Eq.trans (Finset.sum_congr rfl fun k _ => ?_) (dot_eq 2048 (A m c) (B m c) (t.val * 1024 + r.val) l.val).symm)
  exact congrArg₂ (· * ·) ((block0 m c t r k).trans (congrArg (at2 (n0 := 8192) (n1 := 2048) (m ((c : Thread nD τ).loc main_arg0)) _) (by omega)))
    ((block1 m c t l k).trans (congrArg₂ (at2 (n0 := 512) (n1 := 2048) (m ((c : Thread nD τ).loc main_arg1))) (by omega) (by omega)))

theorem value_block (t : Fin cfg0.N) (r : Fin 1024) (l : Fin 512) :
    (iblk m c 2 t : Vec Ideal S1024x512 .f32) (ix2 r l) = Z m c (t.val * 1024 + r.val) l.val :=
  (block2 m c t r l).trans (congrArg (Z m c _) (by omega))

theorem gate_block (t : Fin cfg0.N) (r : Fin 1024) (l : Fin 512) :
    (iblk m c 3 t : Vec Ideal S1024x512 .f32) (ix2 r l) = Z m c (t.val * 1024 + r.val) (512 + l.val) :=
  (block3 m c t r l).trans (congrArg (Z m c _) (by omega))

/-- The value half a point computes. -/
theorem pay4_blocks (t : Fin cfg0.N) (r : Fin 1024) (l : Fin 512) :
    k0_pay4 (iblk m c 0 t : Vec Ideal S1024x2048 .bf16) (iblk m c 1 t : Vec Ideal S512x2048 .bf16) (iblk m c 3 t : Vec Ideal S1024x512 .f32) (ix2 r l)
      = val4 m c (t.val * 1024 + r.val) l.val := by
  rw [val4, if_pos l.isLt]
  exact (pay4_apply _ _ _ r l).trans (congrArg₂ (fun d g => d * sg g) (prod_blocks m c t r l) (gate_block m c t r l))

/-- The gate half a point computes. -/
theorem pay5_blocks (t : Fin cfg0.N) (r : Fin 1024) (l : Fin 512) :
    k0_pay5 (iblk m c 0 t : Vec Ideal S1024x2048 .bf16) (iblk m c 1 t : Vec Ideal S512x2048 .bf16) (iblk m c 3 t : Vec Ideal S1024x512 .f32)
        (iblk m c 2 t : Vec Ideal S1024x512 .f32) (ix2 r l)
      = val4 m c (t.val * 1024 + r.val) (512 + l.val) := by
  rw [val4, if_neg (by omega), Nat.add_sub_cancel_left]
  exact (pay5_apply _ _ _ _ r l).trans (congrArg₂ (fun d g => d * sg g * (1 - sg g))
    (congrArg₂ (· * ·) (prod_blocks m c t r l) (value_block m c t r l)) (gate_block m c t r l))

attribute [local irreducible] dot val4

/-! What a point leaves in each result block. -/

theorem val4_after (t : Fin cfg0.N) (r p : Fin 1024) :
    (outsAt0 m c t.val t.isLt).1 (ix2 r p) = val4 m c (t.val * 1024 + r.val) p.val := by
  by_cases h : t.val % 8 = 0
  · rw [outsAt0_A m c t h]
    dsimp only
    exact out_A_4 (E := val4 m c) (h4 := pay4_blocks m c t) (h5 := pay5_blocks m c t) ..
  · rw [outsAt0_B m c t h]
    dsimp only
    exact out_B_4 (E := val4 m c) (h4 := pay4_blocks m c t) (h5 := pay5_blocks m c t) ..

theorem sum_after (p : Fin 1024) (n : ℕ) (hn : n < cfg0.N) :
    (outsAt0 m c n hn).2 (ix2 0 p) = ∑ r ∈ Finset.range ((n + 1) * 1024), val4 m c r p.val := by
  refine running_sum (N := cfg0.N) (b := 1024) (fun r => val4 m c r p.val) (fun n hn => (outsAt0 m c n hn).2 (ix2 0 p)) (fun hn => ?_) (fun n hn => ?_) n hn
  · show (outsAt0 m c (⟨0, hn⟩ : Fin cfg0.N).val _).2 _ = _
    rw [outsAt0_A m c ⟨0, hn⟩ rfl]
    dsimp only
    exact out_A_5 (E := val4 m c) (h4 := pay4_blocks m c ⟨0, hn⟩) (h5 := pay5_blocks m c ⟨0, hn⟩) ..
  · have hN : n + 1 < 8 := lt_of_lt_of_eq hn N_0
    show (outsAt0 m c (⟨n + 1, hn⟩ : Fin cfg0.N).val _).2 _ = _
    rw [outsAt0_B m c ⟨n + 1, hn⟩ (by dsimp only; omega)]
    dsimp only
    exact out_B_5 (E := val4 m c) (h4 := pay4_blocks m c ⟨n + 1, hn⟩) (h5 := pay5_blocks m c ⟨n + 1, hn⟩) ..

/-! The two result arrays. -/

def arr4 : Buf (Elt Ideal) ((c : Thread nD τ).loc main_v0_0) := fun y : S8192x1024.Idx => val4 m c (y 0).val (y 1).val

def arr5 : Buf (Elt Ideal) ((c : Thread nD τ).loc main_v0_1) := fun y : S1x1024.Idx => val5 m c (y 1).val

/-- The column sums after the last point. -/
theorem sum_all (q : ℕ) : ∑ r ∈ Finset.range ((7 + 1) * 1024), val4 m c r q = val5 m c q := rfl

attribute [local irreducible] val5

/-! The result arrays after the run. -/

theorem final4 : (dats m 0 c).arrAt 4 cfg0.N = arr4 m c := by
  refine (dats m 0 c).arrAt_eq_of_cover 4 (arr4 m c) (fun t hf => ?_) fun (i : S8192x1024.Idx) => ?_
  · rw [Value.flushed4]
    obtain ⟨h0, h1⟩ := index4 t
    funext y
    rw [View.read_apply]
    show (outsAt0 m c t.val t.isLt).1 y = val4 m c (win0_4.index t 0 * 1024 + 1 * (y 0).val) (win0_4.index t 1 * 1024 + 1 * (y 1).val)
    refine (congrArg _ (eq_ix2 y)).trans ((val4_after m c t _ _).trans ?_)
    rw [h0, h1]
    exact congrArg₂ (val4 m c) (by omega) (by omega)
  · have b0 : (i 0).val < 8192 := (i 0).isLt
    have b1 : (i 1).val < 1024 := (i 1).isLt
    have hN : cfg0.N = 8 := N_0
    obtain ⟨t, ht⟩ : ∃ t : Fin cfg0.N, t.val = (i 0).val / 1024 := ⟨⟨_, by omega⟩, rfl⟩
    refine ⟨t, flush0_4 t, ?_⟩
    show i ∈ ((View.whole main_v0_0).slice (win0_4.rect t)).set
    rw [View.set_slice_whole]
    exact mem_block (index4 t) (by omega) (by omega)

theorem final5 : (dats m 0 c).arrAt 5 cfg0.N = arr5 m c := by
  refine (dats m 0 c).arrAt_eq_of_cover 5 (arr5 m c) (fun t hf => ?_) fun (i : S1x1024.Idx) => ?_
  · rw [Value.flushed5]
    obtain ⟨h0, h1⟩ := index5 t
    have ht : t.val = 7 := by have := (flush0_5 t).mp hf; have := lt_of_lt_of_eq t.isLt N_0; omega
    funext y
    rw [View.read_apply]
    show (outsAt0 m c t.val t.isLt).2 y = val5 m c (win0_5.index t 1 * 1024 + 1 * (y 1).val)
    refine (congrArg _ (eq_row y)).trans ((sum_after m c _ t.val t.isLt).trans ?_)
    rw [h1, ht]
    exact (sum_all m c _).trans (congrArg (val5 m c) (by omega))
  · have b0 : (i 0).val < 1 := (i 0).isLt
    have b1 : (i 1).val < 1024 := (i 1).isLt
    have hN : cfg0.N = 8 := N_0
    obtain ⟨t, ht⟩ : ∃ t : Fin cfg0.N, t.val = 7 := ⟨⟨_, by omega⟩, rfl⟩
    refine ⟨t, (flush0_5 t).mpr (by omega), ?_⟩
    show i ∈ ((View.whole main_v0_1).slice (win0_5.rect t)).set
    rw [View.set_slice_whole]
    exact mem_block (index5 t) (by omega) (by omega)

end Cert.DSsmIdeal.Final

end
-- ==== Proof.DSsmClaims.lean ====
/-
  The claims about the gated linear unit's backward call: the frames, and the equality of the two results with the reference's
  over the extended reals.
-/
module

public import proofs.«01_k».proof.Defs
public import proofs.«01_k».proof.Proof.DSsmValue
public import proofs.«01_k».proof.Proof.Gen.DSsm.Frame
public import proofs.«01_k».proof.Proof.Gen.DSsmRefIdeal.Run

@[expose] public section

noncomputable section

namespace DSsmClaims

open Idealize.ShloMosaic Idealize.ShloMosaic.TcCoe Idealize.SL.Sem Cert Ffn

/-! The frames. -/

theorem frame_p : quiescent_DSsm := fun m ρ _ => Cert.DSsm.Gen.frame m ρ

theorem frame_pi : quiescent_DSsmIdeal := fun m ρ _ => Cert.DSsmIdeal.Gen.frame m ρ

theorem frame_ri : quiescent_DSsmRefIdeal := fun m ρ _ =>
  (θ_run _ _ _).mono (fun r h => ⟨fun c => (h c).2.2, sem_eq_zero_of_no_sems (by decide) r.2⟩) (Cert.DSsmRefIdeal.Value.run m ρ)

/-- No operation is rewritten. -/
theorem preserves : preserves_DSsm_DSsmIdeal := trivial

section Entries

variable (m : (ℓ : Loc DSsmIdeal.nD DSsmIdeal.τ DSsmIdeal.sig) → Buf (Elt Ideal) ℓ) (c : Dev DSsmIdeal.nD)
  (x0 : Vec Ideal DSsmIdeal.S8192x2048 .bf16) (x1 : Vec Ideal DSsmIdeal.S512x2048 .bf16) (x2 : Vec Ideal DSsmIdeal.S8192x1024 .f32)
  (h0 : x0 = m ((c.tc : Thread DSsmIdeal.nD DSsmIdeal.τ).loc DSsmIdeal.main_arg0))
  (h1 : x1 = m ((c.tc : Thread DSsmIdeal.nD DSsmIdeal.τ).loc DSsmIdeal.main_arg1))
  (h2 : x2 = m ((c.tc : Thread DSsmIdeal.nD DSsmIdeal.τ).loc DSsmIdeal.main_arg2)) (i : Fin 8192) (j : Fin 512)
include h0 h1 h2

/-- The value half in the arrays' own entries. -/
theorem half0_entries : DSsmIdeal.Final.half0 m c i.val j.val
    = (∑ k : Fin 2048, x0 (ix2 i k) * x1 (ix2 j k)) * sg (x2 (ix2 i ⟨512 + j.val, by omega⟩)) := by
  subst h0 h1 h2
  exact congrArg₂ (fun d g => d * sg g) ((dot_eq 2048 (DSsmIdeal.Final.A m c) (DSsmIdeal.Final.B m c) i.val j.val).trans
    (Finset.sum_congr rfl fun k _ => congrArg₂ (· * ·) (at2_eq _ i k _ _ rfl rfl) (at2_eq _ j k _ _ rfl rfl)))
    (at2_eq _ i ⟨512 + j.val, by omega⟩ _ _ rfl rfl)

/-- The gate half in the arrays' own entries, with its factors as the reference multiplies them. -/
theorem half1_entries : DSsmIdeal.Final.half1 m c i.val j.val
    = (x2 (ix2 i ⟨j.val, by omega⟩) * (∑ k : Fin 2048, x0 (ix2 i k) * x1 (ix2 j k)))
      * (sg (x2 (ix2 i ⟨512 + j.val, by omega⟩)) * (1 - sg (x2 (ix2 i ⟨512 + j.val, by omega⟩)))) := by
  subst h0 h1 h2
  refine Eq.trans (congrArg₂ (fun d g => d * sg g * (1 - sg g)) (congrArg₂ (· * ·) ((dot_eq 2048 (DSsmIdeal.Final.A m c) (DSsmIdeal.Final.B m c) i.val j.val).trans
    (Finset.sum_congr rfl fun k _ => congrArg₂ (· * ·) (at2_eq _ i k _ _ rfl rfl) (at2_eq _ j k _ _ rfl rfl)))
    (at2_eq _ i ⟨j.val, by omega⟩ _ _ rfl rfl)) (at2_eq _ i ⟨512 + j.val, by omega⟩ _ _ rfl rfl)) ?_
  rw [mul_assoc, mul_comm (∑ k : Fin 2048, _)]

end Entries

/-- The gradient of the unit's input in the arrays' own entries. -/
theorem val4_entries (m : (ℓ : Loc DSsmIdeal.nD DSsmIdeal.τ DSsmIdeal.sig) → Buf (Elt Ideal) ℓ) (c : Dev DSsmIdeal.nD)
    (x0 : Vec Ideal DSsmIdeal.S8192x2048 .bf16) (x1 : Vec Ideal DSsmIdeal.S512x2048 .bf16) (x2 : Vec Ideal DSsmIdeal.S8192x1024 .f32)
    (h0 : x0 = m ((c.tc : Thread DSsmIdeal.nD DSsmIdeal.τ).loc DSsmIdeal.main_arg0))
    (h1 : x1 = m ((c.tc : Thread DSsmIdeal.nD DSsmIdeal.τ).loc DSsmIdeal.main_arg1))
    (h2 : x2 = m ((c.tc : Thread DSsmIdeal.nD DSsmIdeal.τ).loc DSsmIdeal.main_arg2)) (i : Fin 8192) (p : Fin 1024) :
    DSsmIdeal.Final.val4 m c i.val p.val
      = if h : p.val < 512 then
          (∑ k : Fin 2048, x0 (ix2 i k) * x1 (ix2 ⟨p.val, h⟩ k)) * sg (x2 (ix2 i ⟨512 + p.val, by omega⟩))
        else
          (x2 (ix2 i ⟨p.val - 512, by omega⟩) * ∑ k : Fin 2048, x0 (ix2 i k) * x1 (ix2 ⟨p.val - 512, by omega⟩ k))
            * (sg (x2 (ix2 i ⟨512 + (p.val - 512), by omega⟩)) * (1 - sg (x2 (ix2 i ⟨512 + (p.val - 512), by omega⟩)))) := by
  by_cases h : p.val < 512
  · rw [DSsmIdeal.Final.val4, if_pos h, dif_pos h]
    exact half0_entries m c x0 x1 x2 h0 h1 h2 i ⟨p.val, h⟩
  · rw [DSsmIdeal.Final.val4, if_neg h, dif_neg h]
    exact half1_entries m c x0 x1 x2 h0 h1 h2 i ⟨p.val - 512, by omega⟩

/-- The kernel's results are the reference's. -/
theorem algebraic : algebraic_DSsmIdeal_DSsmRefIdeal := by
  intro m ρ m' ρ' _ hargs
  refine ⟨DSsmIdeal.Final.arr4 m, DSsmIdeal.Final.arr5 m, ?_, ?_⟩
  · refine (θ_run _ _ _).mono (fun r h c => ?_) (Cert.DSsmIdeal.Value.run_blocks m ρ)
    obtain ⟨h4, h5, hrest⟩ := h c
    exact ⟨h4.trans (DSsmIdeal.Final.final4 m c), h5.trans (DSsmIdeal.Final.final5 m c), hrest⟩
  · refine (θ_run _ _ _).mono (fun r h c => ?_) (Cert.DSsmRefIdeal.Value.run m' ρ')
    obtain ⟨h4, h5, hrest⟩ := h c
    obtain ⟨e0, e1, e2⟩ := hargs c
    rw [e0, e1, e2] at h4 h5
    refine ⟨h4.trans (funext fun y => (congrArg _ (eq_ix2 y)).trans ?_), h5.trans (funext fun y => (congrArg _ (eq_row y)).trans ?_), hrest⟩
    · refine Eq.trans ?_ (val4_entries m c _ _ _ rfl rfl rfl (y 0) (y 1)).symm
      simp only [sg_eq]
      pointwise
    · refine Eq.trans ?_ ((Finset.sum_range fun r => DSsmIdeal.Final.val4 m c r (y 1).val).trans
        (Finset.sum_congr rfl fun r _ => val4_entries m c _ _ _ rfl rfl rfl r (y 1))).symm
      simp only [sg_eq]
      pointwise

end DSsmClaims

end
-- ==== Proof.GluValue.lean ====
/-
  The gated linear unit's forward call: what the kernel leaves in its two result arrays, entry by entry.
-/
module

public import proofs.«01_k».proof.Proof.Product
public import proofs.«01_k».proof.Proof.Gate
public import proofs.«01_k».proof.Proof.Norm
public import proofs.«01_k».proof.Proof.Gen.GluIdeal.Value
public import Idealize.ShloMosaic.Lib.Pipeline.ReadBack
public import Idealize.ShloMosaic.Lib.Pointwise

@[expose] public section

noncomputable section

namespace Cert.GluIdeal.Final

open Cert.GluIdeal Cert.GluIdeal.Gen Idealize.ShloMosaic Idealize.ShloMosaic.TcCoe Idealize.SL.Sem Ffn

variable (m : (ℓ : Loc nD τ sig) → Buf (Elt Ideal) ℓ) (c : Dev nD)

/-- The left factor at launch. -/
abbrev A (r k : ℕ) : EReal := at2 (n0 := 8192) (n1 := 512) (m ((c : Thread nD τ).loc main_arg0)) r k

/-- The right factor at launch. -/
abbrev B (k q : ℕ) : EReal := at2 (n0 := 512) (n1 := 1024) (m ((c : Thread nD τ).loc main_arg1)) k q

/-- The bias at launch. -/
abbrev bias (q : ℕ) : EReal := at2 (n0 := 1) (n1 := 1024) (m ((c : Thread nD τ).loc main_arg2)) 0 q

theorem index0 : ∀ t : Fin cfg0.N, win0_0.index t 0 = t.val ∧ win0_0.index t 1 = 0 :=
  (by decide +kernel : ∀ t : Fin grid0.N, win0_0.index t 0 = t.val ∧ win0_0.index t 1 = 0)

/-- Window 0's block at a point, entry by entry. -/
theorem block0 (t : Fin cfg0.N) (r : Fin 1024) (l : Fin 512) :
    (iblk m c 0 t : Vec Ideal S1024x512 .bf16) (ix2 r l)
      = at2 (n0 := 8192) (n1 := 512) (m ((c : Thread nD τ).loc main_arg0)) ((t.val) * 1024 + r.val) ((0) * 512 + l.val) := by
  unfold iblk
  rw [View.read_apply]
  show V m c main_arg0 _ = _
  rw [V_main_arg0]
  exact at2_block (index0 t) rfl rfl

theorem index1 : ∀ t : Fin cfg0.N, win0_1.index t 0 = 0 ∧ win0_1.index t 1 = 0 :=
  (by decide +kernel : ∀ t : Fin grid0.N, win0_1.index t 0 = 0 ∧ win0_1.index t 1 = 0)

/-- Window 1's block at a point, entry by entry. -/
theorem block1 (t : Fin cfg0.N) (r : Fin 512) (l : Fin 1024) :
    (iblk m c 1 t : Vec Ideal S512x1024 .bf16) (ix2 r l)
      = at2 (n0 := 512) (n1 := 1024) (m ((c : Thread nD τ).loc main_arg1)) ((0) * 512 + r.val) ((0) * 1024 + l.val) := by
  unfold iblk
  rw [View.read_apply]
  show V m c main_arg1 _ = _
  rw [V_main_arg1]
  exact at2_block (index1 t) rfl rfl

theorem index2 : ∀ t : Fin cfg0.N, win0_2.index t 0 = 0 ∧ win0_2.index t 1 = 0 :=
  (by decide +kernel : ∀ t : Fin grid0.N, win0_2.index t 0 = 0 ∧ win0_2.index t 1 = 0)

/-- Window 2's block at a point, entry by entry. -/
theorem block2 (t : Fin cfg0.N) (r : Fin 1) (l : Fin 1024) :
    (iblk m c 2 t : Vec Ideal S1x1024 .f32) (ix2 r l)
      = at2 (n0 := 1) (n1 := 1024) (m ((c : Thread nD τ).loc main_arg2)) ((0) * 1 + r.val) ((0) * 1024 + l.val) := by
  unfold iblk
  rw [View.read_apply]
  show V m c main_arg2 _ = _
  rw [V_main_arg2]
  exact at2_block (index2 t) rfl rfl

theorem index3 : ∀ t : Fin cfg0.N, win0_3.index t 0 = t.val ∧ win0_3.index t 1 = 0 :=
  (by decide +kernel : ∀ t : Fin grid0.N, win0_3.index t 0 = t.val ∧ win0_3.index t 1 = 0)

theorem index4 : ∀ t : Fin cfg0.N, win0_4.index t 0 = t.val ∧ win0_4.index t 1 = 0 :=
  (by decide +kernel : ∀ t : Fin grid0.N, win0_4.index t 0 = t.val ∧ win0_4.index t 1 = 0)

/-- The product of two blocks and the bias, entry by entry. -/
theorem pay1_apply (x0 : Vec Ideal S1024x512 .bf16) (x1 : Vec Ideal S512x1024 .bf16) (x2 : Vec Ideal S1x1024 .f32) (r : Fin 1024) (l : Fin 1024) :
    k0_pay1 x0 x1 x2 (ix2 r l) = (∑ k : Fin 512, x0 (ix2 r k) * x1 (ix2 k l)) + x2 (ix2 0 l) := by
  unfold k0_pay1
  pointwise

/-- The gated half, entry by entry. -/
theorem pay2_apply (x0 : Vec Ideal S1024x512 .bf16) (x1 : Vec Ideal S512x1024 .bf16) (x2 : Vec Ideal S1x1024 .f32) (r : Fin 1024) (l : Fin 512) :
    k0_pay2 x0 x1 x2 (ix2 r l)
      = k0_pay1 x0 x1 x2 (ix2 r ⟨l.val, by omega⟩) * sg (k0_pay1 x0 x1 x2 (ix2 r ⟨512 + l.val, by omega⟩)) := by
  unfold k0_pay2 sg
  pointwise

/-- The unit's input at row `r` and column `q`. -/
def val3 (r q : ℕ) : EReal := dot 512 (A m c) (B m c) r q + bias m c q

/-- The unit's output: the value half times the sigmoid of the gate half. -/
def val4 (r q : ℕ) : EReal := val3 m c r q * sg (val3 m c r (512 + q))

/-- What a point computes is its rows of the unit's input. -/
theorem pay1_blocks (t : Fin cfg0.N) (r : Fin 1024) (l : Fin 1024) :
    k0_pay1 (iblk m c 0 t : Vec Ideal S1024x512 .bf16) (iblk m c 1 t : Vec Ideal S512x1024 .bf16) (iblk m c 2 t : Vec Ideal S1x1024 .f32) (ix2 r l)
      = val3 m c (t.val * 1024 + r.val) l.val := by
  refine (pay1_apply _ _ _ r l).trans (congrArg₂ (· + ·) (Eq.trans (Finset.sum_congr rfl fun k _ => ?_)
    ((dot_first 512 (A m c) (B m c) (t.val * 1024 + r.val) l.val 0 rfl).trans rfl))
    ((block2 m c t 0 l).trans (congrArg₂ (at2 (n0 := 1) (n1 := 1024) (m ((c : Thread nD τ).loc main_arg2))) (by omega) (by omega))))
  exact congrArg₂ (· * ·) (block0 m c t r k)
    ((block1 m c t k l).trans (congrArg (at2 (n0 := 512) (n1 := 1024) (m ((c : Thread nD τ).loc main_arg1)) _) (by omega)))

/-! What a point leaves in each result block. -/

theorem val3_after (t : Fin cfg0.N) (r : Fin 1024) (l : Fin 1024) :
    out0_3 (iblk m c 0 t) (iblk m c 1 t) (iblk m c 2 t) (ix2 r l) = val3 m c (t.val * 1024 + r.val) l.val := by
  unfold out0_3
  refine (congrFun (View.canon_unit_zero (S := S1024x1024) hz _ _) (ix2 r l)).trans ?_
  simp only [ld_whole]
  exact pay1_blocks m c t r l

theorem val4_after (t : Fin cfg0.N) (r : Fin 1024) (l : Fin 512) :
    out0_4 (iblk m c 0 t) (iblk m c 1 t) (iblk m c 2 t) (ix2 r l) = val4 m c (t.val * 1024 + r.val) l.val := by
  unfold out0_4
  refine (congrFun (View.canon_unit_zero (S := S1024x512) hz _ _) (ix2 r l)).trans ?_
  simp only [ld_whole]
  exact (pay2_apply _ _ _ r l).trans (congrArg₂ (fun v g => v * sg g) (pay1_blocks m c t r ⟨l.val, by omega⟩)
    (pay1_blocks m c t r ⟨512 + l.val, by omega⟩))

/-! The two result arrays. -/

def arr3 : Buf (Elt Ideal) ((c : Thread nD τ).loc main_v0_0) := fun y : S8192x1024.Idx => val3 m c (y 0).val (y 1).val

def arr4 : Buf (Elt Ideal) ((c : Thread nD τ).loc main_v0_1) := fun y : S8192x512.Idx => val4 m c (y 0).val (y 1).val

attribute [local irreducible] dot val3

/-! The result arrays after the run. -/

theorem final3 : (dats m 0 c).arrAt 3 cfg0.N = arr3 m c := by
  refine (dats m 0 c).arrAt_eq_of_cover 3 (arr3 m c) (fun t hf => ?_) fun (i : S8192x1024.Idx) => ?_
  · rw [Value.flushed3]
    obtain ⟨h0, h1⟩ := index3 t
    funext y
    rw [View.read_apply]
    show out0_3 (iblk m c 0 t) (iblk m c 1 t) (iblk m c 2 t) y = val3 m c (win0_3.index t 0 * 1024 + 1 * (y 0).val) (win0_3.index t 1 * 1024 + 1 * (y 1).val)
    refine (congrArg _ (eq_ix2 y)).trans ((val3_after m c t _ _).trans ?_)
    rw [h0, h1]
    exact congrArg₂ (val3 m c) (by omega) (by omega)
  · have b0 : (i 0).val < 8192 := (i 0).isLt
    have b1 : (i 1).val < 1024 := (i 1).isLt
    have hN : cfg0.N = 8 := N_0
    obtain ⟨t, ht⟩ : ∃ t : Fin cfg0.N, t.val = (i 0).val / 1024 := ⟨⟨_, by omega⟩, rfl⟩
    refine ⟨t, flush0_3 t, ?_⟩
    show i ∈ ((View.whole main_v0_0).slice (win0_3.rect t)).set
    rw [View.set_slice_whole]
    exact mem_block (index3 t) (by omega) (by omega)

theorem final4 : (dats m 0 c).arrAt 4 cfg0.N = arr4 m c := by
  refine (dats m 0 c).arrAt_eq_of_cover 4 (arr4 m c) (fun t hf => ?_) fun (i : S8192x512.Idx) => ?_
  · rw [Value.flushed4]
    obtain ⟨h0, h1⟩ := index4 t
    funext y
    rw [View.read_apply]
    show out0_4 (iblk m c 0 t) (iblk m c 1 t) (iblk m c 2 t) y = val4 m c (win0_4.index t 0 * 1024 + 1 * (y 0).val) (win0_4.index t 1 * 512 + 1 * (y 1).val)
    refine (congrArg _ (eq_ix2 y)).trans ((val4_after m c t _ _).trans ?_)
    rw [h0, h1]
    exact congrArg₂ (val4 m c) (by omega) (by omega)
  · have b0 : (i 0).val < 8192 := (i 0).isLt
    have b1 : (i 1).val < 512 := (i 1).isLt
    have hN : cfg0.N = 8 := N_0
    obtain ⟨t, ht⟩ : ∃ t : Fin cfg0.N, t.val = (i 0).val / 1024 := ⟨⟨_, by omega⟩, rfl⟩
    refine ⟨t, flush0_4 t, ?_⟩
    show i ∈ ((View.whole main_v0_1).slice (win0_4.rect t)).set
    rw [View.set_slice_whole]
    exact mem_block (index4 t) (by omega) (by omega)

end Cert.GluIdeal.Final

end
-- ==== Proof.GluClaims.lean ====
/-
  The claims about the gated linear unit's forward call: the frames, and the equality of the two results with the reference's over the extended reals.
-/
module

public import proofs.«01_k».proof.Defs
public import proofs.«01_k».proof.Proof.GluValue
public import proofs.«01_k».proof.Proof.Gen.Glu.Frame
public import proofs.«01_k».proof.Proof.Gen.GluRefIdeal.Run

@[expose] public section

noncomputable section

namespace GluClaims

open Idealize.ShloMosaic Idealize.ShloMosaic.TcCoe Idealize.SL.Sem Cert Ffn

/-! The frames. -/

theorem frame_p : quiescent_Glu := fun m ρ _ => Cert.Glu.Gen.frame m ρ

theorem frame_pi : quiescent_GluIdeal := fun m ρ _ => Cert.GluIdeal.Gen.frame m ρ

theorem frame_ri : quiescent_GluRefIdeal := fun m ρ _ =>
  (θ_run _ _ _).mono (fun r h => ⟨fun c => (h c).2.2, sem_eq_zero_of_no_sems (by decide) r.2⟩) (Cert.GluRefIdeal.Value.run m ρ)

/-- No operation is rewritten. -/
theorem preserves : preserves_Glu_GluIdeal := trivial

/-- The unit's input in the arrays' own entries. -/
theorem val3_entries (m : (ℓ : Loc GluIdeal.nD GluIdeal.τ GluIdeal.sig) → Buf (Elt Ideal) ℓ) (c : Dev GluIdeal.nD)
    (x0 : Vec Ideal GluIdeal.S8192x512 .bf16) (x1 : Vec Ideal GluIdeal.S512x1024 .bf16) (x2 : Vec Ideal GluIdeal.S1x1024 .f32)
    (h0 : x0 = m ((c.tc : Thread GluIdeal.nD GluIdeal.τ).loc GluIdeal.main_arg0))
    (h1 : x1 = m ((c.tc : Thread GluIdeal.nD GluIdeal.τ).loc GluIdeal.main_arg1))
    (h2 : x2 = m ((c.tc : Thread GluIdeal.nD GluIdeal.τ).loc GluIdeal.main_arg2)) (i : Fin 8192) (j : Fin 1024) :
    GluIdeal.Final.val3 m c i.val j.val = (∑ k : Fin 512, x0 (ix2 i k) * x1 (ix2 k j)) + x2 (ix2 0 j) := by
  subst h0 h1 h2
  exact congrArg₂ (· + ·) ((dot_eq 512 (GluIdeal.Final.A m c) (GluIdeal.Final.B m c) i.val j.val).trans
    (Finset.sum_congr rfl fun k _ => congrArg₂ (· * ·) (at2_eq _ i k _ _ rfl rfl) (at2_eq _ k j _ _ rfl rfl)))
    (at2_eq _ 0 j _ _ rfl rfl)

/-- The kernel's results are the reference's. -/
theorem algebraic : algebraic_GluIdeal_GluRefIdeal := by
  intro m ρ m' ρ' _ hargs
  refine ⟨GluIdeal.Final.arr3 m, GluIdeal.Final.arr4 m, ?_, ?_⟩
  · refine (θ_run _ _ _).mono (fun r h c => ?_) (Cert.GluIdeal.Value.run_blocks m ρ)
    obtain ⟨h3, h4, hrest⟩ := h c
    exact ⟨h3.trans (GluIdeal.Final.final3 m c), h4.trans (GluIdeal.Final.final4 m c), hrest⟩
  · refine (θ_run _ _ _).mono (fun r h c => ?_) (Cert.GluRefIdeal.Value.run m' ρ')
    obtain ⟨h3, h4, hrest⟩ := h c
    obtain ⟨e0, e1, e2⟩ := hargs c
    rw [e0, e1, e2] at h3 h4
    refine ⟨h3.trans (funext fun y => (congrArg _ (eq_ix2 y)).trans ?_), h4.trans (funext fun y => (congrArg _ (eq_ix2 y)).trans ?_), hrest⟩
    · refine Eq.trans ?_ (val3_entries m c _ _ _ rfl rfl rfl (y 0) (y 1)).symm
      pointwise
    · have hy : (y 1).val < 512 := (y 1).isLt
      refine Eq.trans ?_ (congrArg₂ (fun v g => v * sg g) (val3_entries m c _ _ _ rfl rfl rfl (y 0) ⟨(y 1).val, by omega⟩)
        (val3_entries m c _ _ _ rfl rfl rfl (y 0) ⟨512 + (y 1).val, by omega⟩)).symm
      simp only [sg_eq]
      pointwise

end GluClaims

end
-- ==== Proof.MergeFwdValue.lean ====
/-
  The branch gates' forward call: what the kernel leaves in its result array, entry by entry.
-/
module

public import proofs.«01_k».proof.Proof.Product
public import proofs.«01_k».proof.Proof.Gate
public import proofs.«01_k».proof.Proof.Norm
public import proofs.«01_k».proof.Proof.Gen.MergeFwdIdeal.Value
public import Idealize.ShloMosaic.Lib.Pipeline.ReadBack
public import Idealize.ShloMosaic.Lib.Pointwise

@[expose] public section

noncomputable section

namespace Cert.MergeFwdIdeal.Final

open Cert.MergeFwdIdeal Cert.MergeFwdIdeal.Gen Idealize.ShloMosaic Idealize.ShloMosaic.TcCoe Idealize.SL.Sem Ffn

variable (m : (ℓ : Loc nD τ sig) → Buf (Elt Ideal) ℓ) (c : Dev nD)

/-- The attention's gate before its sigmoid: columns 1792 and on of the projection. -/
abbrev gateA (r q : ℕ) : EReal := at2 (n0 := 8192) (n1 := 5888) (m ((c : Thread nD τ).loc main_arg0)) r (1792 + q)

/-- The recurrence's gate before its sigmoid: columns 3840 and on of the projection. -/
abbrev gateS (r q : ℕ) : EReal := at2 (n0 := 8192) (n1 := 5888) (m ((c : Thread nD τ).loc main_arg0)) r (3840 + q)

/-- The attention's branch. -/
abbrev brA (r q : ℕ) : EReal := at2 (n0 := 8192) (n1 := 2048) (m ((c : Thread nD τ).loc main_arg1)) r q

/-- The recurrence's branch. -/
abbrev brS (r q : ℕ) : EReal := at2 (n0 := 8192) (n1 := 2048) (m ((c : Thread nD τ).loc main_arg2)) r q

theorem index0 : ∀ t : Fin cfg0.N, win0_0.index t 0 = t.val / 8 ∧ win0_0.index t 1 = 7 + t.val % 8 :=
  (by decide +kernel : ∀ t : Fin grid0.N, win0_0.index t 0 = t.val / 8 ∧ win0_0.index t 1 = 7 + t.val % 8)

/-- Window 0's block at a point, entry by entry. -/
theorem block0 (t : Fin cfg0.N) (r : Fin 2048) (l : Fin 256) :
    (iblk m c 0 t : Vec Ideal S2048x256 .f32) (ix2 r l)
      = at2 (n0 := 8192) (n1 := 5888) (m ((c : Thread nD τ).loc main_arg0)) ((t.val / 8) * 2048 + r.val) ((7 + t.val % 8) * 256 + l.val) := by
  unfold iblk
  rw [View.read_apply]
  show V m c main_arg0 _ = _
  rw [V_main_arg0]
  exact at2_block (index0 t) rfl rfl

theorem index1 : ∀ t : Fin cfg0.N, win0_1.index t 0 = t.val / 8 ∧ win0_1.index t 1 = 15 + t.val % 8 :=
  (by decide +kernel : ∀ t : Fin grid0.N, win0_1.index t 0 = t.val / 8 ∧ win0_1.index t 1 = 15 + t.val % 8)

/-- Window 1's block at a point, entry by entry. -/
theorem block1 (t : Fin cfg0.N) (r : Fin 2048) (l : Fin 256) :
    (iblk m c 1 t : Vec Ideal S2048x256 .f32) (ix2 r l)
      = at2 (n0 := 8192) (n1 := 5888) (m ((c : Thread nD τ).loc main_arg0)) ((t.val / 8) * 2048 + r.val) ((15 + t.val % 8) * 256 + l.val) := by
  unfold iblk
  rw [View.read_apply]
  show V m c main_arg0 _ = _
  rw [V_main_arg0]
  exact at2_block (index1 t) rfl rfl

theorem index2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

/-- Window 2's block at a point, entry by entry. -/
theorem block2 (t : Fin cfg0.N) (r : Fin 2048) (l : Fin 256) :
    (iblk m c 2 t : Vec Ideal S2048x256 .bf16) (ix2 r l)
      = at2 (n0 := 8192) (n1 := 2048) (m ((c : Thread nD τ).loc main_arg1)) ((t.val / 8) * 2048 + r.val) ((t.val % 8) * 256 + l.val) := by
  unfold iblk
  rw [View.read_apply]
  show V m c main_arg1 _ = _
  rw [V_main_arg1]
  exact at2_block (index2 t) rfl rfl

theorem index3 : ∀ t : Fin cfg0.N, win0_3.index t 0 = t.val / 8 ∧ win0_3.index t 1 = t.val % 8 :=
  (by decide +kernel : ∀ t : Fin grid0.N, win0_3.index t 0 = t.val / 8 ∧ win0_3.index t 1 = t.val % 8)

/-- Window 3's block at a point, entry by entry. -/
theorem block3 (t : Fin cfg0.N) (r : Fin 2048) (l : Fin 256) :
    (iblk m c 3 t : Vec Ideal S2048x256 .bf16) (ix2 r l)
      = at2 (n0 := 8192) (n1 := 2048) (m ((c : Thread nD τ).loc main_arg2)) ((t.val / 8) * 2048 + r.val) ((t.val % 8) * 256 + l.val) := by
  unfold iblk
  rw [View.read_apply]
  show V m c main_arg2 _ = _
  rw [V_main_arg2]
  exact at2_block (index3 t) rfl rfl

theorem index4 : ∀ t : Fin cfg0.N, win0_4.index t 0 = t.val / 8 ∧ win0_4.index t 1 = t.val % 8 :=
  (by decide +kernel : ∀ t : Fin grid0.N, win0_4.index t 0 = t.val / 8 ∧ win0_4.index t 1 = t.val % 8)

/-- What a point stores, entry by entry. -/
theorem pay1_apply (g : Vec Ideal S2048x256 .f32) (a : Vec Ideal S2048x256 .bf16) (h : Vec Ideal S2048x256 .f32) (s : Vec Ideal S2048x256 .bf16)
    (r : Fin 2048) (l : Fin 256) :
    k0_pay1 g a h s (ix2 r l) = sg (g (ix2 r l)) * a (ix2 r l) + sg (h (ix2 r l)) * s (ix2 r l) := by
  unfold k0_pay1 sg
  pointwise

/-- The merged branches at row `r` and column `q`. -/
def val (r q : ℕ) : EReal := sg (gateA m c r q) * brA m c r q + sg (gateS m c r q) * brS m c r q

/-- What a point leaves in the result block. -/
theorem val_after (t : Fin cfg0.N) (r : Fin 2048) (l : Fin 256) :
    out0_4 (iblk m c 0 t) (iblk m c 1 t) (iblk m c 2 t) (iblk m c 3 t) (ix2 r l) = val m c (t.val / 8 * 2048 + r.val) (t.val % 8 * 256 + l.val) := by
  unfold out0_4
  refine (congrFun (View.canon_unit_zero (S := S2048x256) hz _ _) (ix2 r l)).trans ?_
  simp only [ld_whole]
  exact (pay1_apply _ _ _ _ r l).trans (congrArg₂ (· + ·)
    (congrArg₂ (fun g a => sg g * a) ((block0 m c t r l).trans (congrArg (at2 (n0 := 8192) (n1 := 5888) (m ((c : Thread nD τ).loc main_arg0)) _) (by omega))) (block2 m c t r l))
    (congrArg₂ (fun g a => sg g * a) ((block1 m c t r l).trans (congrArg (at2 (n0 := 8192) (n1 := 5888) (m ((c : Thread nD τ).loc main_arg0)) _) (by omega))) (block3 m c t r l)))

/-- The result array. -/
def arr : Buf (Elt Ideal) ((c : Thread nD τ).loc main_v0) := fun y : S8192x2048.Idx => val m c (y 0).val (y 1).val

/-- The result array after the run. -/
theorem final : (dats m 0 c).arrAt 4 cfg0.N = arr m c := by
  refine (dats m 0 c).arrAt_eq_of_cover 4 (arr m c) (fun t hf => ?_) fun (i : S8192x2048.Idx) => ?_
  · rw [Value.flushed4]
    obtain ⟨h0, h1⟩ := index4 t
    funext y
    rw [View.read_apply]
    show out0_4 (iblk m c 0 t) (iblk m c 1 t) (iblk m c 2 t) (iblk m c 3 t) y = val m c (win0_4.index t 0 * 2048 + 1 * (y 0).val) (win0_4.index t 1 * 256 + 1 * (y 1).val)
    refine (congrArg _ (eq_ix2 y)).trans ((val_after m c t _ _).trans ?_)
    rw [h0, h1]
    exact congrArg₂ (val m c) (by omega) (by omega)
  · have b0 : (i 0).val < 8192 := (i 0).isLt
    have b1 : (i 1).val < 2048 := (i 1).isLt
    have hN : cfg0.N = 32 := N_0
    obtain ⟨t, ht⟩ : ∃ t : Fin cfg0.N, t.val = (i 0).val / 2048 * 8 + (i 1).val / 256 := ⟨⟨_, by omega⟩, rfl⟩
    refine ⟨t, flush0_4 t, ?_⟩
    show i ∈ ((View.whole main_v0).slice (win0_4.rect t)).set
    rw [View.set_slice_whole]
    exact mem_block (index4 t) (by omega) (by omega)

end Cert.MergeFwdIdeal.Final

end
-- ==== Proof.MergeFwdClaims.lean ====
/-
  The claims about the branch gates' forward call: the frames, and the equality of the result with the reference's over the extended reals.
-/
module

public import proofs.«01_k».proof.Defs
public import proofs.«01_k».proof.Proof.MergeFwdValue
public import proofs.«01_k».proof.Proof.Gen.MergeFwd.Frame
public import proofs.«01_k».proof.Proof.Gen.MergeFwdRefIdeal.Run

@[expose] public section

noncomputable section

namespace MergeFwdClaims

open Idealize.ShloMosaic Idealize.ShloMosaic.TcCoe Idealize.SL.Sem Cert Ffn

/-! The frames. -/

theorem frame_p : quiescent_MergeFwd := fun m ρ _ => Cert.MergeFwd.Gen.frame m ρ

theorem frame_pi : quiescent_MergeFwdIdeal := fun m ρ _ => Cert.MergeFwdIdeal.Gen.frame m ρ

theorem frame_ri : quiescent_MergeFwdRefIdeal := fun m ρ _ =>
  (θ_run _ _ _).mono (fun r h => ⟨fun c => (h c).2, sem_eq_zero_of_no_sems (by decide) r.2⟩) (Cert.MergeFwdRefIdeal.Value.run m ρ)

/-- No operation is rewritten. -/
theorem preserves : preserves_MergeFwd_MergeFwdIdeal := trivial

/-- The kernel's result is the reference's. -/
theorem algebraic : algebraic_MergeFwdIdeal_MergeFwdRefIdeal := by
  intro m ρ m' ρ' _ hargs
  refine ⟨MergeFwdIdeal.Final.arr m, ?_, ?_⟩
  · refine (θ_run _ _ _).mono (fun r h c => ?_) (Cert.MergeFwdIdeal.Value.run_blocks m ρ)
    exact ⟨(h c).1.trans (MergeFwdIdeal.Final.final m c), (h c).2⟩
  · refine (θ_run _ _ _).mono (fun r h c => ?_) (Cert.MergeFwdRefIdeal.Value.run m' ρ')
    obtain ⟨h0, hrest⟩ := h c
    obtain ⟨e0, e1, e2⟩ := hargs c
    rw [e0, e1, e2] at h0
    refine ⟨h0.trans (funext fun y => (congrArg _ (eq_ix2 y)).trans ?_), hrest⟩
    have hy : (y 1).val < 2048 := (y 1).isLt
    refine Eq.trans ?_ (congrArg₂ (· + ·)
      (congrArg₂ (fun g a => sg g * a) (at2_eq (m ((c.tc : Thread MergeFwdIdeal.nD MergeFwdIdeal.τ).loc MergeFwdIdeal.main_arg0)) (y 0) ⟨1792 + (y 1).val, by omega⟩ _ _ rfl rfl) (at2_eq (m ((c.tc : Thread MergeFwdIdeal.nD MergeFwdIdeal.τ).loc MergeFwdIdeal.main_arg1)) (y 0) (y 1) _ _ rfl rfl))
      (congrArg₂ (fun g a => sg g * a) (at2_eq (m ((c.tc : Thread MergeFwdIdeal.nD MergeFwdIdeal.τ).loc MergeFwdIdeal.main_arg0)) (y 0) ⟨3840 + (y 1).val, by omega⟩ _ _ rfl rfl) (at2_eq (m ((c.tc : Thread MergeFwdIdeal.nD MergeFwdIdeal.τ).loc MergeFwdIdeal.main_arg2)) (y 0) (y 1) _ _ rfl rfl))).symm
    simp only [sg_eq]
    pointwise

end MergeFwdClaims

end
-- ==== Proof.Attn.lean ====
/-
  One row of the attention: its weights against the keys and the sink, and the gradient of its scores, as the
  kernel writes it and as differentiating the softmax line by line writes it.
-/
module

public import Idealize.ShloMosaic.Lib.IdealHost
public import Idealize.ShloMosaic.Lib.Pointwise

@[expose] public section

noncomputable section

namespace Ffn

open Idealize.ShloMosaic

/-- The scores' scale. -/
def eighth : EReal := Ideal.ofBits .f32 0x3E000000#32

theorem eighth_eq : eighth = ((1 / 8 : ℝ) : EReal) := by
  simp [eighth, Ideal.ofBits, Ideal.ieee, -EReal.coe_mul]; norm_num

/-- The literal minus infinity. -/
theorem ofBits_bot : Ideal.ofBits .f32 0xFF800000#32 = ⊥ := by
  simp [Ideal.ofBits, Ideal.ieee]

section Row

variable {n : ℕ} (s d : Fin n → EReal) (t : EReal)

/-- The largest of a row's scores and its sink. -/
def top : EReal := max (Finset.univ.fold max ⊥ s) t

/-- A key's weight before it is divided. -/
def wgt (j : Fin n) : EReal := Ideal.exp (s j - top s t)

/-- The sink's weight before it is divided. -/
def sinkWgt : EReal := Ideal.exp (t - top s t)

/-- What the weights are divided by. -/
def den : EReal := (∑ j, wgt s t j) + sinkWgt s t

/-- A key's weight. -/
def prob (j : Fin n) : EReal := wgt s t j * Ideal.div 1 (den s t)

/-- The gradient of a key's score before the scale, from the gradients `d` of the weights: as the kernel writes it. -/
def dsc (j : Fin n) : EReal := prob s t j * (d j - ∑ k, prob s t k * d k) * eighth

/-- The gradient of the row's sink, as the kernel writes it. -/
def dSink : EReal := (0 - sinkWgt s t * Ideal.div 1 (den s t)) * ∑ k, prob s t k * d k

/-- The gradient that comes through the division's denominator. -/
def dDen : EReal := -∑ k, d k * Ideal.div 1 (den s t * den s t) * wgt s t k

/-- The gradient of a key's score where the maximum is held fixed. -/
def dExp (j : Fin n) : EReal := (Ideal.div (d j) (den s t) + dDen s d t) * wgt s t j

/-- The gradient that comes through the maximum. -/
def dTop : EReal := -(dDen s d t * sinkWgt s t) + ∑ k, -dExp s d t k

end Row

/-- The real identities behind `dTop_eq` and `dExp_eq`. -/
theorem real_row {n : ℕ} (E D : Fin n → ℝ) (e Z : ℝ) (hZ : Z = (∑ k, E k) + e) (hp : 0 < Z) :
    (-(-(∑ k, D k * (1 / (Z * Z)) * E k) * e) + ∑ k, -((D k / Z + -(∑ k, D k * (1 / (Z * Z)) * E k)) * E k) = 0)
      ∧ ∀ j, (D j / Z + -(∑ k, D k * (1 / (Z * Z)) * E k)) * E j = E j * (1 / Z) * (D j - ∑ k, E k * (1 / Z) * D k) := by
  have h1 : ∑ k, D k * (1 / (Z * Z)) * E k = (∑ k, E k * D k) / (Z * Z) := by
    rw [Finset.sum_div]
    exact Finset.sum_congr rfl fun k _ => by ring
  have h2 : ∑ k, E k * (1 / Z) * D k = (∑ k, E k * D k) / Z := by
    rw [Finset.sum_div]
    exact Finset.sum_congr rfl fun k _ => by ring
  have hne := hp.ne'
  rw [h1, h2]
  generalize hS : ∑ k, E k * D k = S
  constructor
  · have h3 : ∑ k, -((D k / Z + -(S / (Z * Z))) * E k) = -(S / Z) + S / (Z * Z) * ∑ k, E k := by
      have h5 : ∀ k, -((D k / Z + -(S / (Z * Z))) * E k) = S / (Z * Z) * E k - E k * D k / Z := fun k => by ring
      rw [Finset.sum_congr rfl fun k _ => h5 k, Finset.sum_sub_distrib, ← Finset.mul_sum, ← Finset.sum_div, hS]
      ring
    have h4 : ∑ k, E k = Z - e := by linarith
    rw [h3, h4]
    field_simp
    ring
  · intro j
    field_simp
    try ring

theorem coe_sum {ι : Type} (s : Finset ι) (f : ι → ℝ) : ∑ k ∈ s, ((f k : ℝ) : EReal) = ((∑ k ∈ s, f k : ℝ) : EReal) := by
  classical
  induction s using Finset.induction_on with
  | empty => simp
  | insert k s hk ih => rw [Finset.sum_insert hk, Finset.sum_insert hk, ih, EReal.coe_add]

theorem coe_div (x : ℝ) {y : ℝ} (hy : y ≠ 0) : Ideal.div (x : EReal) y = ((x / y : ℝ) : EReal) := by
  rw [Ideal.div, if_neg (by exact_mod_cast hy), ← EReal.coe_inv, ← EReal.coe_mul, div_eq_mul_inv]

section Real

variable {n : ℕ} {s : Fin n → EReal} {t : EReal} (hs : ∀ j, s j ≠ ⊤) (ht : ∃ x : ℝ, t = x)
include hs ht

theorem top_real : ∃ m : ℝ, top s t = m := by
  obtain ⟨x, rfl⟩ := ht
  have h1 : top s x < ⊤ := max_lt ((Finset.fold_max_lt _).mpr ⟨bot_lt_top, fun j _ => lt_top_iff_ne_top.mpr (hs j)⟩) (EReal.coe_lt_top x)
  have h2 : ⊥ < top s x := lt_of_lt_of_le (EReal.bot_lt_coe x) (le_max_right _ _)
  exact ⟨_, (EReal.coe_toReal h1.ne h2.ne').symm⟩

/-- The weights are real numbers, zero where the score is masked, and the denominator is positive. -/
theorem wgt_real : ∃ (E : Fin n → ℝ) (e : ℝ), (∀ j, wgt s t j = E j) ∧ sinkWgt s t = e ∧ 0 < (∑ k, E k) + e ∧ ∀ j, s j = ⊥ → E j = 0 := by
  obtain ⟨m, hm⟩ := top_real hs ht
  obtain ⟨x, rfl⟩ := ht
  have h : ∀ j, ∃ E : ℝ, wgt s x j = E ∧ 0 ≤ E ∧ (s j = ⊥ → E = 0) := by
    intro j
    rw [wgt, hm]
    have hj := hs j
    generalize s j = y at hj
    induction y using EReal.rec with
    | bot => exact ⟨0, by rw [EReal.bot_sub]; rfl, le_rfl, fun _ => rfl⟩
    | top => exact absurd rfl hj
    | coe y => exact ⟨Real.exp (y - m), rfl, (Real.exp_pos _).le, fun h => absurd h (EReal.coe_ne_bot y)⟩
  choose E hE h0 hb using h
  refine ⟨E, Real.exp (x - m), hE, by rw [sinkWgt, hm]; rfl, ?_, hb⟩
  exact add_pos_of_nonneg_of_pos (Finset.sum_nonneg fun j _ => h0 j) (Real.exp_pos _)

theorem dsc_masked (d : Fin n → EReal) (j : Fin n) (h : s j = ⊥) : dsc s d t j = 0 := by
  obtain ⟨E, e, hE, -, -, h0⟩ := wgt_real hs ht
  rw [dsc, prob, hE, h0 j h]
  simp

theorem prob_eq (j : Fin n) : Ideal.div (wgt s t j) (den s t) = prob s t j := by
  obtain ⟨E, e, hE, hK, hZ, -⟩ := wgt_real hs ht
  have hden : den s t = (((∑ k, E k) + e : ℝ) : EReal) := by
    rw [den, hK, Finset.sum_congr rfl fun j _ => hE j, coe_sum, ← EReal.coe_add]
  rw [prob, hden, hE, ← EReal.coe_one, coe_div _ hZ.ne', coe_div _ hZ.ne', ← EReal.coe_mul]
  exact congrArg _ (by ring)

/-- The gradient through the maximum is zero, and the two ways to write the gradients of the scores and of the sink agree. -/
theorem grads_eq {d d' : Fin n → EReal} (hd : ∀ j, ∃ x : ℝ, d j = x) (hd' : ∀ j, ∃ x : ℝ, d' j = x) (he : ∀ j, s j ≠ ⊥ → d j = d' j) :
    dTop s d' t = 0 ∧ (∀ j, dExp s d' t j * eighth = dsc s d t j) ∧ dDen s d' t * sinkWgt s t = dSink s d t := by
  obtain ⟨E, e, hE, hK, hZ, h0⟩ := wgt_real hs ht
  choose D hD using hd
  choose D' hD' using hd'
  have hDE : ∀ j, E j * D j = E j * D' j := by
    intro j
    by_cases h : s j = ⊥
    · rw [h0 j h, zero_mul, zero_mul]
    · have := he j h
      rw [hD, hD'] at this
      rw [EReal.coe_injective this]
  have hZ' : (∑ k, E k) + e ≠ 0 := hZ.ne'
  have hden : den s t = (((∑ k, E k) + e : ℝ) : EReal) := by
    rw [den, hK, Finset.sum_congr rfl fun j _ => hE j, coe_sum, ← EReal.coe_add]
  obtain ⟨r1, r2⟩ := real_row E D' e _ rfl hZ
  generalize (∑ k, E k) + e = Z at hZ hZ' hden r1 r2
  have hDen : dDen s d' t = ((-(∑ k, D' k * (1 / (Z * Z)) * E k) : ℝ) : EReal) := by
    rw [dDen, hden, ← EReal.coe_mul, ← EReal.coe_one, coe_div 1 (mul_ne_zero hZ' hZ'), EReal.coe_neg, ← coe_sum]
    refine congrArg _ (Finset.sum_congr rfl fun k _ => ?_)
    rw [hD', hE, ← EReal.coe_mul, ← EReal.coe_mul]
  have hExp : ∀ j, dExp s d' t j = (((D' j / Z + -(∑ k, D' k * (1 / (Z * Z)) * E k)) * E j : ℝ) : EReal) := by
    intro j
    rw [dExp, hDen, hden, hD', hE, coe_div _ hZ', ← EReal.coe_add, ← EReal.coe_mul]
  have hp : ∀ k, prob s t k = ((E k * (1 / Z) : ℝ) : EReal) := by
    intro k
    rw [prob, hE, hden, ← EReal.coe_one, coe_div 1 hZ', ← EReal.coe_mul]
  have hS : ∑ k, prob s t k * d k = ((∑ k, E k * (1 / Z) * D' k : ℝ) : EReal) := by
    rw [← coe_sum]
    refine Finset.sum_congr rfl fun k _ => ?_
    rw [hp, hD, ← EReal.coe_mul]
    exact congrArg _ (by linear_combination (1 / Z) * hDE k)
  refine ⟨?_, ?_, ?_⟩
  · rw [dTop, hDen, hK, Finset.sum_congr rfl fun k _ => congrArg Neg.neg (hExp k), ← EReal.coe_mul]
    simp only [← EReal.coe_neg]
    rw [coe_sum, ← EReal.coe_add, r1, EReal.coe_zero]
  · intro j
    rw [dsc, hExp, hS, hp, hD, eighth_eq, r2 j, ← EReal.coe_sub, ← EReal.coe_mul, ← EReal.coe_mul, ← EReal.coe_mul]
    exact congrArg _ (by linear_combination (-(1 / 8) * (1 / Z)) * hDE j)
  · have h1 : ∑ k, E k * (1 / Z) * D' k = Z * ∑ k, D' k * (1 / (Z * Z)) * E k := by
      rw [Finset.mul_sum]
      exact Finset.sum_congr rfl fun k _ => by field_simp
    rw [dSink, hS, hDen, hK, hden, ← EReal.coe_one, coe_div 1 hZ', h1, ← EReal.coe_zero, ← EReal.coe_mul, ← EReal.coe_mul, ← EReal.coe_sub, ← EReal.coe_mul]
    exact congrArg _ (by field_simp; try ring)

end Real

/-! ## The attention's gradients

`P` holds a position's row: 16 query heads of 64, then two key heads, then two value heads. `T` is a head's sink
and `O` the gradient of the attention's result. A query sits at place `i` of block `n`; its 256 keys are those of
the block before and of its own. -/

/-- The row that holds a block's `j`-th key. -/
def keyRow (n j : ℕ) : ℕ := if j < 128 then (n - 1) * 128 + j else n * 128 + (j - 128)

/-- How far the key lies before the query. -/
def dist (i j : ℕ) : BitVec 32 := IntOp.subi (IntOp.addi (BitVec.ofNat 32 i) 128#32) (BitVec.ofNat 32 j)

/-- Whether the query sees the key: from 0 to 127 places before it, and in the array. -/
def sees (n i j : ℕ) : BitVec 1 :=
  IntOp.andi (IntOp.andi (IntOp.cmpi .sge (dist i j) 0#32) (IntOp.cmpi .slt (dist i j) 128#32))
    (IntOp.ori (IntOp.cmpi .sgt (BitVec.ofNat 32 n) 0#32) (IntOp.cmpi .sge (BitVec.ofNat 32 j) 128#32))

/-- A place as a word. -/
theorem row_word {i : ℕ} (h : i < 1024) : IntOp.andi (BitVec.ofNat 32 i) 127#32 = BitVec.ofNat 32 (i % 128) := by
  have : ∀ i : Fin 1024, IntOp.andi (BitVec.ofNat 32 i.val) 127#32 = BitVec.ofNat 32 (i.val % 128) := by decide +kernel
  exact this ⟨i, h⟩

/-- The words of the heads' slopes. -/
def slopeWord : ℕ → BitVec 32
  | 0 => 0x3F3504F3#32 | 1 => 0x3F000000#32 | 2 => 0x3EB504F3#32 | 3 => 0x3E800000#32
  | 4 => 0x3E3504F3#32 | 5 => 0x3E000000#32 | 6 => 0x3DB504F3#32 | 7 => 0x3D800000#32
  | 8 => 0x3D3504F3#32 | 9 => 0x3D000000#32 | 10 => 0x3CB504F3#32 | 11 => 0x3C800000#32
  | 12 => 0x3C3504F3#32 | 13 => 0x3C000000#32 | 14 => 0x3BB504F3#32 | 15 => 0x3B800000#32
  | _ => 0#32

/-- A head's slope: how fast its scores fall with the distance. -/
def headSlope (h : ℕ) : EReal := Ideal.ofBits .f32 (slopeWord h)

section Heads

variable (P O : ℕ → ℕ → EReal) (T : ℕ → EReal) (n h i : ℕ)

/-- A query's score against a key it sees. -/
def rawScore (j : ℕ) : EReal :=
  (∑ d : Fin 64, P (n * 128 + i) (h * 64 + d.val) * P (keyRow n j) (1024 + h / 8 * 64 + d.val)) * eighth
    - headSlope h * FloatOps.sitofp (F := Ideal) .f32 (dist i j)

/-- A query's scores, minus infinity where the key is not seen. -/
def score (j : Fin 256) : EReal := Scalar.select (sees n i j.val) (rawScore P n h i j.val) ⊥

/-- The gradients of a query's weights. -/
def dprob (j : Fin 256) : EReal := ∑ d : Fin 64, O (n * 128 + i) (h * 64 + d.val) * P (keyRow n j.val) (1152 + h / 8 * 64 + d.val)

/-- The gradient of a query's entry `d`. -/
def dquery (d : ℕ) : EReal :=
  ∑ j : Fin 256, dsc (score P n h i) (dprob P O n h i) (T h) j * P (keyRow n j.val) (1024 + h / 8 * 64 + d)

/-- The gradient of entry `d` of group `g`'s `j`-th key, from the block's queries in the group's eight heads. -/
def dkey (g : ℕ) (j : Fin 256) (d : ℕ) : EReal :=
  ∑ a : Fin 8, ∑ i : Fin 128, dsc (score P n (g * 8 + a.val) i.val) (dprob P O n (g * 8 + a.val) i.val) (T (g * 8 + a.val)) j
    * P (n * 128 + i.val) ((g * 8 + a.val) * 64 + d)

/-- The gradient of entry `d` of group `g`'s `j`-th value. -/
def dvalue (g : ℕ) (j : Fin 256) (d : ℕ) : EReal :=
  ∑ a : Fin 8, ∑ i : Fin 128, prob (score P n (g * 8 + a.val) i.val) (T (g * 8 + a.val)) j * O (n * 128 + i.val) ((g * 8 + a.val) * 64 + d)

/-- A block's part of the gradient of a head's sink. -/
def dsinkAt : EReal := ∑ i : Fin 128, dSink (score P n h i.val) (dprob P O n h i.val) (T h)

end Heads

/-- A sum over eight heads' rows, one head under the other. -/
theorem sum_rows (f : ℕ → ℕ → EReal) : ∑ r : Fin 1024, f (r.val / 128) (r.val % 128) = ∑ a : Fin 8, ∑ i : Fin 128, f a.val i.val := by
  rw [← Fintype.sum_prod_type' fun (a : Fin 8) (i : Fin 128) => f a.val i.val]
  refine (Fintype.sum_equiv (finProdFinEquiv (m := 8) (n := 128)) _ _ fun x => ?_).symm
  have h := x.2.isLt
  have e : (finProdFinEquiv x).val = x.2.val + 128 * x.1.val := rfl
  exact congrArg₂ f (by rw [e]; omega) (by rw [e]; omega)

/-- A sum over the rows of a masked stack, added to itself half a row on: each head's lanes count once. -/
theorem sum_stack (w X : Fin 1024 → EReal) (Y : Fin 1024 → EReal) (f Q : ℕ → ℕ → EReal) (l : ℕ) (hl : l < 128)
    (hw : ∀ r, w r = f (r.val / 128) (r.val % 128))
    (hX : ∀ r, X r = if l / 64 = r.val / 128 % 2 then Q (r.val % 128) (128 * (r.val / 256) + l) else 0)
    (hY : ∀ r, Y r = if (l + 128 - 64) % 128 / 64 = r.val / 128 % 2 then Q (r.val % 128) (128 * (r.val / 256) + (l + 128 - 64) % 128) else 0) :
    ∑ r, w r * X r + ∑ r, w r * Y r = ∑ a : Fin 8, ∑ i : Fin 128, f a.val i.val * Q i.val (a.val * 64 + l % 64) := by
  rw [← sum_rows fun a i => f a i * Q i (a * 64 + l % 64), ← Finset.sum_add_distrib]
  refine Finset.sum_congr rfl fun r _ => ?_
  rw [hw, hX, hY]
  have h1 : ¬l / 64 = r.val / 128 % 2 → (l + 128 - 64) % 128 / 64 = r.val / 128 % 2 := by omega
  have h2 : l / 64 = r.val / 128 % 2 → ¬(l + 128 - 64) % 128 / 64 = r.val / 128 % 2 := by omega
  have h3 : l / 64 = r.val / 128 % 2 → 128 * (r.val / 256) + l = r.val / 128 * 64 + l % 64 := by omega
  have h4 : ¬l / 64 = r.val / 128 % 2 → 128 * (r.val / 256) + (l + 128 - 64) % 128 = r.val / 128 * 64 + l % 64 := by omega
  by_cases h : l / 64 = r.val / 128 % 2
  · rw [if_pos h, if_neg (h2 h), mul_zero, add_zero, h3 h]
  · rw [if_neg h, if_pos (h1 h), mul_zero, zero_add, h4 h]

/-- A sum over the lanes of two heads where one head's are zero. -/
theorem sum_lanes (f : ℕ → EReal) {b : ℕ} (hb : b < 2) :
    ∑ l : Fin 128, (if l.val / 64 = b then f l.val else 0) = ∑ d : Fin 64, f (b * 64 + d.val) := by
  rw [Fin.sum_univ_eq_sum_range (fun l => if l / 64 = b then f l else 0) 128, Fin.sum_univ_eq_sum_range (fun d => f (b * 64 + d)) 64,
    show (128 : ℕ) = 64 + 64 from rfl, Finset.sum_range_add]
  have h0 : ∀ l ∈ Finset.range 64, l / 64 = 0 ∧ (64 + l) / 64 = 1 := fun l hl => by
    have := Finset.mem_range.mp hl
    omega
  obtain rfl | rfl : b = 0 ∨ b = 1 := by omega
  · rw [Finset.sum_congr rfl fun l hl => if_pos (h0 l hl).1, Finset.sum_eq_zero fun l hl => if_neg (by rw [(h0 l hl).2]; decide), add_zero]
    simp only [zero_mul, zero_add]
  · rw [Finset.sum_eq_zero fun l hl => if_neg (by rw [(h0 l hl).1]; decide), zero_add, Finset.sum_congr rfl fun l hl => if_pos (h0 l hl).2]

end Ffn

end
-- ==== Proof.AttnBwdValue.lean ====
/-
  The attention's backward call: what the kernel leaves in the gradient of the queries, entry by entry. A point of
  the grid takes the 128 queries of a block, the keys and values of that block and of the one before it, and the
  two groups of eight heads that share a key.
-/
module

public import proofs.«01_k».proof.Proof.Attn
public import proofs.«01_k».proof.Proof.Product
public import proofs.«01_k».proof.Proof.Tiles
public import proofs.«01_k».proof.Proof.Gen.AttnBwdIdeal.Value
public import Idealize.ShloMosaic.Lib.Pipeline.ReadBack
public import Idealize.ShloMosaic.Lib.Pointwise

@[expose] public section

noncomputable section

namespace Cert.AttnBwdIdeal.Final

open Cert.AttnBwdIdeal Cert.AttnBwdIdeal.Gen Idealize.ShloMosaic Idealize.ShloMosaic.TcCoe Idealize.SL.Sem Ffn

/-! ## The payloads, entry by entry -/

/-- The lower lanes of a pair of heads, the upper ones zeroed. -/
theorem lane_even (l : Fin 128) (x : EReal) : Scalar.select (k0_pay8 (ix2 0 l)) x 0 = if l.val / 64 = 0 then x else 0 := by
  have h : ∀ l : Fin 128, (k0_pay8 (ix2 0 l) = 1) = (l.val / 64 = 0) := by decide +kernel
  unfold Scalar.select
  exact if_congr (iff_of_eq (h l)) rfl rfl

/-- The upper lanes of a pair of heads, the lower ones zeroed. -/
theorem lane_odd (l : Fin 128) (x : EReal) : Scalar.select (IntOp.xori (k0_pay8 (ix2 0 l)) 1#1) x 0 = if l.val / 64 = 1 then x else 0 := by
  have h : ∀ l : Fin 128, (IntOp.xori (k0_pay8 (ix2 0 l)) 1#1 = 1) = (l.val / 64 = 1) := by decide +kernel
  unfold Scalar.select
  exact if_congr (iff_of_eq (h l)) rfl rfl

/-- Choosing between the lower and the upper lanes. -/
theorem lane_pick (l : Fin 128) (x y : EReal) : Scalar.select (k0_pay8 (ix2 0 l)) x y = if l.val / 64 = 0 then x else y := by
  have h : ∀ l : Fin 128, (k0_pay8 (ix2 0 l) = 1) = (l.val / 64 = 0) := by decide +kernel
  unfold Scalar.select
  exact if_congr (iff_of_eq (h l)) rfl rfl

/-- The key's position before the query's, by lane. -/
theorem pay7_apply (r : Fin 1024) (j : Fin 256) : k0_pay7 (F := Ideal) (ix2 r j) = FloatOps.sitofp (F := Ideal) .f32 (dist (r.val % 128) j.val) := by
  have h : k0_pay7 (F := Ideal) (ix2 r j) = FloatOps.sitofp (F := Ideal) .f32 (IntOp.subi (IntOp.addi (IntOp.andi (BitVec.ofNat 32 r.val) 127#32) 128#32) (BitVec.ofNat 32 j.val)) := by
    unfold k0_pay7 k0_pay5
    pointwise
  rw [h, row_word r.isLt]
  rfl

/-- Which keys a block's queries see, by lane. -/
theorem pay6_apply (i : grid0.Coords) (r : Fin 1024) (j : Fin 256) : k0_pay6 i (ix2 r j) = sees (i 0).val (r.val % 128) j.val := by
  have h : k0_pay6 i (ix2 r j)
      = IntOp.andi (IntOp.andi (IntOp.cmpi .sge (IntOp.subi (IntOp.addi (IntOp.andi (BitVec.ofNat 32 r.val) 127#32) 128#32) (BitVec.ofNat 32 j.val)) 0#32)
          (IntOp.cmpi .slt (IntOp.subi (IntOp.addi (IntOp.andi (BitVec.ofNat 32 r.val) 127#32) 128#32) (BitVec.ofNat 32 j.val)) 128#32))
        (IntOp.ori (IntOp.cmpi .sgt (BitVec.ofNat 32 (i 0).val) 0#32) (IntOp.cmpi .sge (BitVec.ofNat 32 j.val) 128#32)) := by
    unfold k0_pay6 k0_pay5
    pointwise
    rfl
  rw [h, row_word r.isLt]
  rfl

/-- The slopes of the first eight heads. -/
theorem pay27_apply (r : Fin 1024) : k0_pay27 (F := Ideal) (ix2 r 0) = headSlope (r.val / 128) := by
  have hr := r.isLt
  unfold k0_pay27
  pointwise
  have h : r.val / 128 < 8 := by omega
  interval_cases hk : r.val / 128 <;> split_ifs <;> first | rfl | (exfalso; omega)

/-- The slopes of the last eight heads. -/
theorem pay69_apply (r : Fin 1024) : k0_pay69 (F := Ideal) (ix2 r 0) = headSlope (8 + r.val / 128) := by
  have hr := r.isLt
  unfold k0_pay69
  pointwise
  have h : r.val / 128 < 8 := by omega
  interval_cases hk : r.val / 128 <;> split_ifs <;> first | rfl | (exfalso; omega)

/-- Eight heads' sinks, one under the other. -/
theorem pay28_apply (s : ℕ → Elt Ideal .f32) (r : Fin 1024) :
    k0_pay28 (s 0) (s 1) (s 2) (s 3) (s 4) (s 5) (s 6) (s 7) (ix2 r 0) = s (r.val / 128) := by
  have hr := r.isLt
  unfold k0_pay28
  pointwise
  split_ifs <;> exact congrArg s (by omega)

section Stack

variable (q : Fin 4 → Vec Ideal S128x128 .f32) (o : Fin 4 → Vec Ideal S128x128 .bf16)

/-- Four pairs of heads, one head under the other, the other lanes zeroed: of the queries. -/
def stackQ : FVec Ideal S1024x128 .bf16 :=
  k0_pay20 k0_pay8 (k0_pay14 k0_pay8 (q 0)) (k0_pay15 k0_pay8 (q 0)) (k0_pay16 k0_pay8 (q 1)) (k0_pay17 k0_pay8 (q 1))
    (k0_pay18 k0_pay8 (q 2)) (k0_pay19 k0_pay8 (q 2)) (q 3) (q 3)

/-- The same of the gradient of the attention's result. -/
def stackO : FVec Ideal S1024x128 .bf16 :=
  k0_pay26 k0_pay8 (k0_pay21 k0_pay8 (o 0)) (k0_pay22 k0_pay8 (o 0)) (k0_pay23 k0_pay8 (o 1)) (k0_pay24 k0_pay8 (o 1))
    (o 2) k0_pay25 (o 2) (o 3) (o 3)

variable (Q : ℕ → ℕ → EReal)

theorem stackQ_apply (hq : ∀ (k : Fin 4) (r l : Fin 128), q k (ix2 r l) = Q r.val (128 * k.val + l.val)) (r : Fin 1024) (l : Fin 128) :
    stackQ q (ix2 r l) = if l.val / 64 = r.val / 128 % 2 then Q (r.val % 128) (128 * (r.val / 256) + l.val) else 0 := by
  have hr := r.isLt
  have h0 : ∀ r l : Fin 128, q 0 (ix2 r l) = Q r.val (0 + l.val) := hq 0
  have h1 : ∀ r l : Fin 128, q 1 (ix2 r l) = Q r.val (128 + l.val) := hq 1
  have h2 : ∀ r l : Fin 128, q 2 (ix2 r l) = Q r.val (256 + l.val) := hq 2
  have h3 : ∀ r l : Fin 128, q 3 (ix2 r l) = Q r.val (384 + l.val) := hq 3
  unfold stackQ k0_pay20 k0_pay14 k0_pay15 k0_pay16 k0_pay17 k0_pay18 k0_pay19
  pointwise
  simp only [lane_even, lane_odd, h0, h1, h2, h3]
  split_ifs
  all_goals first
    | rfl
    | (exfalso; omega)
    | exact congrArg₂ Q (by omega) (by omega)

theorem stackO_apply (ho : ∀ (k : Fin 4) (r l : Fin 128), o k (ix2 r l) = Q r.val (128 * k.val + l.val)) (r : Fin 1024) (l : Fin 128) :
    stackO o (ix2 r l) = if l.val / 64 = r.val / 128 % 2 then Q (r.val % 128) (128 * (r.val / 256) + l.val) else 0 :=
  Eq.trans (congrFun (show stackO o = stackQ o from rfl) _) (stackQ_apply o Q ho r l)

end Stack

section Pair

variable (a b : Vec Ideal S128x128 .f32) (G : ℕ → ℕ → EReal) (ha : ∀ r l : Fin 128, a (ix2 r l) = G r.val l.val)
    (hb : ∀ r l : Fin 128, b (ix2 r l) = G (128 + r.val) l.val) (j : Fin 256) (l : Fin 128)
include ha hb

/-- Two blocks, one under the other. -/
theorem pay9_apply : k0_pay9 a b (ix2 j l) = G j.val l.val := by
  unfold k0_pay9
  pointwise
  by_cases h : j.val < 128
  · rw [dif_pos h]
    exact ha _ _
  · rw [dif_neg h]
    exact (hb ⟨j.val - 128, by omega⟩ l).trans (congrArg (fun j => G j l.val) (by show 128 + (j.val - 128) = j.val; omega))

/-- The first group's keys, in the lanes of both heads. -/
theorem pay12_apply : k0_pay12 a b (ix2 j l) = G j.val (l.val % 64) := by
  have hl := l.isLt
  unfold k0_pay12
  pointwise
  simp only [lane_pick, pay9_apply a b G ha hb]
  split_ifs <;> exact congrArg (G j.val) (by omega)

/-- The second group's keys, in the lanes of both heads. -/
theorem pay51_apply : k0_pay51 k0_pay8 (k0_pay9 a b) (ix2 j l) = G j.val (64 + l.val % 64) := by
  have hl := l.isLt
  unfold k0_pay51
  pointwise
  simp only [lane_pick, pay9_apply a b G ha hb]
  split_ifs <;> exact congrArg (G j.val) (by omega)

end Pair

/-! ## A row of the softmax -/

section Softmax

variable (v17 : IVec S1024x256 1) (v18 : FVec Ideal S1024x256 .f32) (v34 v38 : FVec Ideal S256x128 .bf16) (v91 v136 : FVec Ideal S1024x128 .bf16)
    (v145 : FVec Ideal S1024x1 .f32) (s : ℕ → Elt Ideal .f32) (r : Fin 1024) (j : Fin 256)

/-- A row's scores. -/
abbrev rowS (j : Fin 256) : EReal := k0_pay29 v17 v18 v34 v91 v145 (ix2 r j)

theorem pay30_apply : k0_pay30 v17 v18 v34 v91 v145 (s 0) (s 1) (s 2) (s 3) (s 4) (s 5) (s 6) (s 7) (ix2 r 0)
    = top (rowS v17 v18 v34 v91 v145 r) (s (r.val / 128)) := by
  unfold k0_pay30
  pointwise
  rw [pay28_apply, ofBits_bot]
  rfl

theorem pay31_apply : k0_pay31 v17 v18 v34 v91 v145 (s 0) (s 1) (s 2) (s 3) (s 4) (s 5) (s 6) (s 7) (ix2 r j)
    = wgt (rowS v17 v18 v34 v91 v145 r) (s (r.val / 128)) j := by
  unfold k0_pay31
  pointwise
  rw [pay30_apply]
  rfl

theorem pay32_apply : k0_pay32 v17 v18 v34 v91 v145 (s 0) (s 1) (s 2) (s 3) (s 4) (s 5) (s 6) (s 7) (ix2 r 0)
    = sinkWgt (rowS v17 v18 v34 v91 v145 r) (s (r.val / 128)) := by
  unfold k0_pay32
  pointwise
  rw [pay30_apply, pay28_apply]
  rfl

theorem pay34_apply : k0_pay34 v17 v18 v34 v91 v145 (s 0) (s 1) (s 2) (s 3) (s 4) (s 5) (s 6) (s 7) (ix2 r j)
    = prob (rowS v17 v18 v34 v91 v145 r) (s (r.val / 128)) j := by
  unfold k0_pay34 k0_pay33
  pointwise
  simp only [pay31_apply, pay32_apply]
  rfl

theorem pay37_apply : k0_pay37 v17 v18 v34 v38 v91 v136 v145 (s 0) (s 1) (s 2) (s 3) (s 4) (s 5) (s 6) (s 7) (ix2 r j)
    = dsc (rowS v17 v18 v34 v91 v145 r) (fun j => ∑ l : Fin 128, v136 (ix2 r l) * v38 (ix2 j l)) (s (r.val / 128)) j := by
  unfold k0_pay37 k0_pay36 k0_pay35
  pointwise
  simp only [pay34_apply]
  rfl

end Softmax

/-! ## A group of eight heads -/

section Group

variable (i : grid0.Coords) (K V : FVec Ideal S256x128 .bf16) (sl : FVec Ideal S1024x1 .f32) (q : Fin 4 → Vec Ideal S128x128 .f32)
    (o : Fin 4 → Vec Ideal S128x128 .bf16) (s : ℕ → Elt Ideal .f32)

/-- The gradients of the group's scores, times the scale. -/
def scores : FVec Ideal S1024x256 .bf16 :=
  k0_pay37 (k0_pay6 i) k0_pay7 K V (stackQ q) (stackO o) sl (s 0) (s 1) (s 2) (s 3) (s 4) (s 5) (s 6) (s 7)

/-- The gradients of the group's queries. -/
def queries : FVec Ideal S1024x128 .f32 := k0_pay43 K (scores i K V sl q o s)

variable (P O : ℕ → ℕ → EReal) (T : ℕ → EReal) (g : ℕ)
    (hq : ∀ (k : Fin 4) (r l : Fin 128), q k (ix2 r l) = P ((i 0).val * 128 + r.val) (g * 512 + (128 * k.val + l.val)))
    (ho : ∀ (k : Fin 4) (r l : Fin 128), o k (ix2 r l) = O ((i 0).val * 128 + r.val) (g * 512 + (128 * k.val + l.val)))
    (hK : ∀ (j : Fin 256) (l : Fin 128), K (ix2 j l) = P (keyRow (i 0).val j.val) (1024 + g * 64 + l.val % 64))
    (hV : ∀ (j : Fin 256) (l : Fin 128), V (ix2 j l) = P (keyRow (i 0).val j.val) (1152 + g * 64 + l.val % 64))
    (hs : ∀ a, a < 8 → s a = T (g * 8 + a)) (hsl : ∀ r : Fin 1024, sl (ix2 r 0) = headSlope (g * 8 + r.val / 128))

include hq hK in
/-- A product of a head's queries with the keys. -/
theorem dotQ (r : Fin 1024) (j : Fin 256) :
    ∑ l : Fin 128, stackQ q (ix2 r l) * K (ix2 j l)
      = ∑ d : Fin 64, P ((i 0).val * 128 + r.val % 128) ((g * 8 + r.val / 128) * 64 + d.val) * P (keyRow (i 0).val j.val) (1024 + (g * 8 + r.val / 128) / 8 * 64 + d.val) := by
  have hr := r.isLt
  have h1 : (g * 8 + r.val / 128) / 8 = g := by omega
  refine Eq.trans (Finset.sum_congr rfl fun l _ => ?_) (Eq.trans (sum_lanes (fun l => P ((i 0).val * 128 + r.val % 128) (g * 512 + (128 * (r.val / 256) + l)) * P (keyRow (i 0).val j.val) (1024 + g * 64 + l % 64)) (b := r.val / 128 % 2) (by omega)) (Finset.sum_congr rfl fun d _ => ?_))
  · rw [stackQ_apply q (fun r l => P ((i 0).val * 128 + r) (g * 512 + l)) hq, hK, ite_mul, zero_mul]
  · have hd := d.isLt
    rw [h1]
    exact congrArg₂ (· * ·) (congrArg (P _) (by omega)) (congrArg (P _) (by omega))

include ho hV in
/-- A product of a head's gradient with the values. -/
theorem dotO (r : Fin 1024) (j : Fin 256) :
    ∑ l : Fin 128, stackO o (ix2 r l) * V (ix2 j l)
      = ∑ d : Fin 64, O ((i 0).val * 128 + r.val % 128) ((g * 8 + r.val / 128) * 64 + d.val) * P (keyRow (i 0).val j.val) (1152 + (g * 8 + r.val / 128) / 8 * 64 + d.val) := by
  have hr := r.isLt
  have h1 : (g * 8 + r.val / 128) / 8 = g := by omega
  refine Eq.trans (Finset.sum_congr rfl fun l _ => ?_) (Eq.trans (sum_lanes (fun l => O ((i 0).val * 128 + r.val % 128) (g * 512 + (128 * (r.val / 256) + l)) * P (keyRow (i 0).val j.val) (1152 + g * 64 + l % 64)) (b := r.val / 128 % 2) (by omega)) (Finset.sum_congr rfl fun d _ => ?_))
  · rw [stackO_apply o (fun r l => O ((i 0).val * 128 + r) (g * 512 + l)) ho, hV, ite_mul, zero_mul]
  · have hd := d.isLt
    rw [h1]
    exact congrArg₂ (· * ·) (congrArg (O _) (by omega)) (congrArg (P _) (by omega))

include hq hK hsl in
/-- The group's scores. -/
theorem rowS_eq (r : Fin 1024) :
    rowS (k0_pay6 i) k0_pay7 K (stackQ q) sl r = score P (i 0).val (g * 8 + r.val / 128) (r.val % 128) := by
  funext j
  have h : rowS (k0_pay6 i) k0_pay7 K (stackQ q) sl r j
      = Scalar.select (k0_pay6 i (ix2 r j)) ((∑ l : Fin 128, stackQ q (ix2 r l) * K (ix2 j l)) * eighth - (sl (ix2 r 0) : EReal) * (k0_pay7 (F := Ideal) (ix2 r j) : EReal)) ⊥ := by
    unfold rowS k0_pay29
    pointwise
    rfl
  rw [h, pay6_apply, pay7_apply, hsl, dotQ i K q P g hq hK]
  rfl

include hq ho hK hV hs hsl in
/-- The gradients of the group's scores, times the scale. -/
theorem scores_apply (r : Fin 1024) (j : Fin 256) :
    scores i K V sl q o s (ix2 r j)
      = dsc (score P (i 0).val (g * 8 + r.val / 128) (r.val % 128)) (dprob P O (i 0).val (g * 8 + r.val / 128) (r.val % 128)) (T (g * 8 + r.val / 128)) j := by
  unfold scores
  rw [pay37_apply, rowS_eq i K sl q P g hq hK hsl, hs _ (by omega), funext fun j => dotO i V o P O g ho hV r j]
  rfl

include hq ho hK hV hs hsl in
/-- The gradients of the group's queries. -/
theorem queries_apply (r : Fin 1024) (l : Fin 128) :
    queries i K V sl q o s (ix2 r l) = dquery P O T (i 0).val (g * 8 + r.val / 128) (r.val % 128) (l.val % 64) := by
  have hr := r.isLt
  have h1 : (g * 8 + r.val / 128) / 8 = g := by omega
  have h : queries i K V sl q o s (ix2 r l) = ∑ j : Fin 256, scores i K V sl q o s (ix2 r j) * K (ix2 j l) := by
    unfold queries k0_pay43
    pointwise
  rw [h]
  refine Finset.sum_congr rfl fun j _ => ?_
  rw [scores_apply i K V sl q o s P O T g hq ho hK hV hs hsl, hK, h1]

end Group

/-! ## The eight blocks of columns a point stores -/

/-- Two heads side by side, taken from where they lie one under the other. -/
def pairOf (X : FVec Ideal S1024x128 .f32) (k : ℕ) (hk : k < 4) (r l : Fin 128) : EReal :=
  X (ix2 ⟨k * 256 + l.val / 64 * 128 + r.val, by omega⟩ l)

theorem pairs (K : FVec Ideal S256x128 .bf16) (D : FVec Ideal S1024x256 .bf16) (r l : Fin 128) :
    k0_pay45 (k0_pay44 k0_pay8 K D) (ix2 r l) = pairOf (k0_pay43 K D) 0 (by decide) r l
      ∧ k0_pay46 k0_pay8 (k0_pay43 K D) (ix2 r l) = pairOf (k0_pay43 K D) 1 (by decide) r l
      ∧ k0_pay47 k0_pay8 (k0_pay43 K D) (ix2 r l) = pairOf (k0_pay43 K D) 2 (by decide) r l
      ∧ k0_pay48 k0_pay8 (k0_pay43 K D) (ix2 r l) = pairOf (k0_pay43 K D) 3 (by decide) r l := by
  have hl := l.isLt
  generalize hX : k0_pay43 K D = X
  have key : ∀ (k : ℕ) (hk : k < 4) (a b : Fin 1024), a.val = k * 256 + r.val → b.val = k * 256 + 128 + r.val →
      Scalar.select (k0_pay8 (ix2 0 l)) (X (ix2 a l)) (X (ix2 b l)) = pairOf X k hk r l := by
    intro k hk a b h1 h2
    rw [lane_pick]
    unfold pairOf
    split_ifs with h
    · exact congrArg (fun a => X (ix2 a l)) (Fin.ext (by dsimp only; omega))
    · exact congrArg (fun a => X (ix2 a l)) (Fin.ext (by dsimp only; omega))
  refine ⟨?_, ?_, ?_, ?_⟩
  · unfold k0_pay45 k0_pay44
    pointwise
    rw [hX]
    exact key 0 _ _ _ (by dsimp only; omega) (by dsimp only)
  · unfold k0_pay46
    pointwise
    exact key 1 _ _ _ (by dsimp only) (by dsimp only)
  · unfold k0_pay47
    pointwise
    exact key 2 _ _ _ (by dsimp only) (by dsimp only)
  · unfold k0_pay48
    pointwise
    exact key 3 _ _ _ (by dsimp only) (by dsimp only)

theorem inb_cols (k : Fin 8) : ∀ a, (![0, 128 * k.val] : Fin 2 → ℕ) a + S128x128.size a ≤ S128x1024.size a := by
  intro a
  match a with
  | ⟨0, _⟩ => exact le_rfl
  | ⟨1, _⟩ => show 128 * k.val + 128 ≤ 1024; omega

/-- A block of 128 columns. -/
def cols {e : EltTy} (x : Vec Ideal S128x1024 e) (k : Fin 8) : Vec Ideal S128x128 e := View.ld x (Rect.unit ![0, 128 * k.val] S128x128.size (inb_cols k))

theorem cols_apply {e : EltTy} (x : Vec Ideal S128x1024 e) (k : Fin 8) (r l : Fin 128) : cols x k (ix2 r l) = x (ix2 r ⟨128 * k.val + l.val, by omega⟩) :=
  congrArg x (funext fun a => Fin.ext (match a with
    | ⟨0, _⟩ => by show 0 + 1 * r.val = r.val; omega
    | ⟨1, _⟩ => by show 128 * k.val + 1 * l.val = 128 * k.val + l.val; omega))

section Sink

variable (x0 : Vec Ideal S16 .f32)

/-- A head's sink. -/
def sink (a : ℕ) : Elt Ideal .f32 := if h : a < 16 then x0 (ix1 ⟨a, h⟩) else 0

theorem ld_sink {a : ℕ} (h : a < 16) (inb : ∀ d, (![a] : Fin 1 → ℕ) d + (![1] : Fin 1 → ℕ) d ≤ S16.size d) (k : S1.Idx) :
    View.ld x0 (Rect.unit ![a] ![1] inb) k = sink x0 a := by
  have hk : (k 0).val < 1 := (k 0).isLt
  unfold sink
  rw [dif_pos h]
  exact congrArg x0 (funext fun d => Fin.ext (match d with | ⟨0, _⟩ => by show a + 1 * (k 0).val = a; omega))

end Sink

/-! The second group's payloads are the first's. -/

theorem second_stackQ (q : Fin 4 → Vec Ideal S128x128 .f32) :
    k0_pay61 k0_pay8 (k0_pay54 k0_pay8 (k0_pay53 (q 0))) (k0_pay55 k0_pay8 (q 0)) (k0_pay56 k0_pay8 (q 1)) (k0_pay57 k0_pay8 (q 1))
      (k0_pay58 k0_pay8 (q 2)) (k0_pay59 k0_pay8 (q 2)) (k0_pay60 (q 3)) (q 3) = stackQ q := rfl

theorem second_stackO (o : Fin 4 → Vec Ideal S128x128 .bf16) :
    k0_pay68 k0_pay8 (k0_pay62 k0_pay8 (o 0)) (k0_pay63 k0_pay8 (o 0)) (k0_pay64 k0_pay8 (o 1)) (k0_pay65 k0_pay8 (o 1))
      (o 2) k0_pay66 (k0_pay67 k0_pay8) (o 2) (o 3) (o 3) = stackO o := rfl

theorem second_scores : k0_pay79 (F := Ideal) = k0_pay37 := rfl

theorem second_queries : k0_pay85 (F := Ideal) = k0_pay43 := rfl

theorem second_pairs (K : FVec Ideal S256x128 .bf16) (D : FVec Ideal S1024x256 .bf16) :
    k0_pay89 (k0_pay86 k0_pay8 K D) = k0_pay45 (k0_pay44 k0_pay8 K D)
      ∧ k0_pay90 k0_pay8 (k0_pay87 K D) (k0_pay88 K D) = k0_pay46 k0_pay8 (k0_pay43 K D)
      ∧ k0_pay91 (F := Ideal) = k0_pay47 ∧ k0_pay92 (F := Ideal) = k0_pay48 := ⟨rfl, rfl, rfl, rfl⟩

/-- The eight blocks of columns a point stores are its rows of the result. -/
theorem blocks (K0 K1 : FVec Ideal S256x128 .bf16) (D0 D1 : FVec Ideal S1024x256 .bf16) (E : ℕ → ℕ → EReal)
    (h0 : ∀ (r : Fin 1024) (l : Fin 128), k0_pay43 K0 D0 (ix2 r l) = E (r.val % 128) (r.val / 128 * 64 + l.val % 64))
    (h1 : ∀ (r : Fin 1024) (l : Fin 128), k0_pay43 K1 D1 (ix2 r l) = E (r.val % 128) (512 + r.val / 128 * 64 + l.val % 64)) (r : Fin 128) (p : Fin 1024) :
    View.canon ([⟨Rect.unit ![0, 896] ![128, 128] inb_S128x1024_S128x128_0_896, k0_pay48 k0_pay8 (k0_pay43 K1 D1)⟩,
        ⟨Rect.unit ![0, 768] ![128, 128] inb_S128x1024_S128x128_0_768, k0_pay47 k0_pay8 (k0_pay43 K1 D1)⟩,
        ⟨Rect.unit ![0, 640] ![128, 128] inb_S128x1024_S128x128_0_640, k0_pay46 k0_pay8 (k0_pay43 K1 D1)⟩,
        ⟨Rect.unit ![0, 512] ![128, 128] inb_S128x1024_S128x128_0_512, k0_pay45 (k0_pay44 k0_pay8 K1 D1)⟩,
        ⟨Rect.unit ![0, 384] ![128, 128] inb_S128x1024_S128x128_0_384, k0_pay48 k0_pay8 (k0_pay43 K0 D0)⟩,
        ⟨Rect.unit ![0, 256] ![128, 128] inb_S128x1024_S128x128_0_256, k0_pay47 k0_pay8 (k0_pay43 K0 D0)⟩,
        ⟨Rect.unit ![0, 128] ![128, 128] inb_S128x1024_S128x128_0_128, k0_pay46 k0_pay8 (k0_pay43 K0 D0)⟩,
        ⟨Rect.unit ![0, 0] ![128, 128] inb_S128x1024_S128x128_0_0, k0_pay45 (k0_pay44 k0_pay8 K0 D0)⟩] : List (View.Piece (Elt Ideal) S128x1024 .bf16)) (ix2 r p)
      = E r.val p.val := by
  have key : ∀ (X : FVec Ideal S1024x128 .f32) (o : ℕ) (_ : ∀ (r : Fin 1024) (l : Fin 128), X (ix2 r l) = E (r.val % 128) (o + r.val / 128 * 64 + l.val % 64))
      (k : ℕ) (hk : k < 4) (r l : Fin 128), pairOf X k hk r l = E r.val (o + 128 * k + l.val) := by
    intro X o hX k hk r l
    have hr := r.isLt
    have hl := l.isLt
    unfold pairOf
    rw [hX]
    exact congrArg₂ E (by dsimp only; omega) (by dsimp only; omega)
  have e0 : ∀ (r : Fin 1024) (l : Fin 128), k0_pay43 K0 D0 (ix2 r l) = E (r.val % 128) (0 + r.val / 128 * 64 + l.val % 64) :=
    fun r l => (h0 r l).trans (congrArg (E _) (by omega))
  refine View.canon_append_of_piecesOf (Val := Elt Ideal) (s := S128x1024) (e := .bf16) (fun y => E (y 0).val (y 1).val) [] [_, _, _, _, _, _, _, _] ⟨?_, ?_, ?_, ?_, ?_, ?_, ?_, ?_, trivial⟩ (ix2 r p)
    (View.cover_of_tiledL (s := S128x1024) _ S128x128.size (by sl_kernel_rfl) _)
  · intro x
    refine (congrArg _ (eq_ix2 x)).trans ((pairs K1 D1 (x 0) (x 1)).2.2.2.trans ((key _ 512 h1 3 (by decide) (x 0) (x 1)).trans ?_))
    exact congrArg₂ E (by show (x 0).val = 0 + 1 * (x 0).val; omega) (by show 512 + 128 * 3 + (x 1).val = 896 + 1 * (x 1).val; omega)
  · intro x
    refine (congrArg _ (eq_ix2 x)).trans ((pairs K1 D1 (x 0) (x 1)).2.2.1.trans ((key _ 512 h1 2 (by decide) (x 0) (x 1)).trans ?_))
    exact congrArg₂ E (by show (x 0).val = 0 + 1 * (x 0).val; omega) (by show 512 + 128 * 2 + (x 1).val = 768 + 1 * (x 1).val; omega)
  · intro x
    refine (congrArg _ (eq_ix2 x)).trans ((pairs K1 D1 (x 0) (x 1)).2.1.trans ((key _ 512 h1 1 (by decide) (x 0) (x 1)).trans ?_))
    exact congrArg₂ E (by show (x 0).val = 0 + 1 * (x 0).val; omega) (by show 512 + 128 * 1 + (x 1).val = 640 + 1 * (x 1).val; omega)
  · intro x
    refine (congrArg _ (eq_ix2 x)).trans ((pairs K1 D1 (x 0) (x 1)).1.trans ((key _ 512 h1 0 (by decide) (x 0) (x 1)).trans ?_))
    exact congrArg₂ E (by show (x 0).val = 0 + 1 * (x 0).val; omega) (by show 512 + 128 * 0 + (x 1).val = 512 + 1 * (x 1).val; omega)
  · intro x
    refine (congrArg _ (eq_ix2 x)).trans ((pairs K0 D0 (x 0) (x 1)).2.2.2.trans ((key _ 0 e0 3 (by decide) (x 0) (x 1)).trans ?_))
    exact congrArg₂ E (by show (x 0).val = 0 + 1 * (x 0).val; omega) (by show 0 + 128 * 3 + (x 1).val = 384 + 1 * (x 1).val; omega)
  · intro x
    refine (congrArg _ (eq_ix2 x)).trans ((pairs K0 D0 (x 0) (x 1)).2.2.1.trans ((key _ 0 e0 2 (by decide) (x 0) (x 1)).trans ?_))
    exact congrArg₂ E (by show (x 0).val = 0 + 1 * (x 0).val; omega) (by show 0 + 128 * 2 + (x 1).val = 256 + 1 * (x 1).val; omega)
  · intro x
    refine (congrArg _ (eq_ix2 x)).trans ((pairs K0 D0 (x 0) (x 1)).2.1.trans ((key _ 0 e0 1 (by decide) (x 0) (x 1)).trans ?_))
    exact congrArg₂ E (by show (x 0).val = 0 + 1 * (x 0).val; omega) (by show 0 + 128 * 1 + (x 1).val = 128 + 1 * (x 1).val; omega)
  · intro x
    refine (congrArg _ (eq_ix2 x)).trans ((pairs K0 D0 (x 0) (x 1)).1.trans ((key _ 0 e0 0 (by decide) (x 0) (x 1)).trans ?_))
    exact congrArg₂ E (by show (x 0).val = 0 + 1 * (x 0).val; omega) (by show 0 + 128 * 0 + (x 1).val = 0 + 1 * (x 1).val; omega)

variable (m : (ℓ : Loc nD τ sig) → Buf (Elt Ideal) ℓ) (c : Dev nD)

/-- A position's row: its queries, its keys and its values. -/
abbrev P (r q : ℕ) : EReal := at2 (n0 := 8192) (n1 := 5888) (m ((c : Thread nD τ).loc main_arg0)) r q

/-- The gradient of the attention's result. -/
abbrev O (r q : ℕ) : EReal := at2 (n0 := 8192) (n1 := 1024) (m ((c : Thread nD τ).loc main_arg2)) r q

/-- The heads' sinks. -/
abbrev T (a : ℕ) : EReal := sink (m ((c : Thread nD τ).loc main_arg1)) a

/-- A point's block of queries. -/
theorem coord0 : ∀ t : Fin cfg0.N, (grid0.coords t 0).val = t.val :=
  (by decide +kernel : ∀ t : Fin grid0.N, (grid0.coords t 0).val = t.val)

theorem index0 : ∀ t : Fin cfg0.N, win0_0.index t 0 = 0 := (by decide +kernel : ∀ t : Fin grid0.N, win0_0.index t 0 = 0)

/-- Window 0's block: all the sinks. -/
theorem block0 (t : Fin cfg0.N) : (iblk m c 0 t : Vec Ideal S16 .f32) = m ((c : Thread nD τ).loc main_arg1) := by
  have h0 := index0 t
  funext a
  unfold iblk
  rw [View.read_apply]
  show V m c main_arg1 _ = m ((c : Thread nD τ).loc main_arg1) _
  rw [V_main_arg1]
  refine congrArg (m ((c : Thread nD τ).loc main_arg1)) (funext fun d => Fin.ext ?_)
  match d with
  | ⟨0, _⟩ => show win0_0.index t 0 * 16 + 1 * (a 0).val = (a 0).val; rw [h0]; omega

theorem index1 : ∀ t : Fin cfg0.N, win0_1.index t 0 = t.val ∧ win0_1.index t 1 = 0 :=
  (by decide +kernel : ∀ t : Fin grid0.N, win0_1.index t 0 = t.val ∧ win0_1.index t 1 = 0)

/-- Window 1's block: the block's queries. -/
theorem block1 (t : Fin cfg0.N) (r : Fin 128) (l : Fin 1024) : (X0_1 m c t : Vec Ideal S128x1024 .f32) (ix2 r l) = P m c (t.val * 128 + r.val) l.val := by
  obtain ⟨h0, h1⟩ := index1 t
  unfold X0_1 Pipeline.Window.fill
  rw [dif_pos (moved0_1 t _)]
  unfold iblk
  rw [View.read_apply]
  show V m c main_arg0 _ = _
  rw [V_main_arg0]
  refine at2_of _ _ _ _ ?_ ?_
  · show win0_1.index t 0 * 128 + 1 * r.val = _; rw [h0]; omega
  · show win0_1.index t 1 * 1024 + 1 * l.val = _; rw [h1]; omega

theorem index2 : ∀ t : Fin cfg0.N, win0_2.index t 0 = t.val ∧ win0_2.index t 1 = 8 :=
  (by decide +kernel : ∀ t : Fin grid0.N, win0_2.index t 0 = t.val ∧ win0_2.index t 1 = 8)

/-- Window 2's block: the block's keys. -/
theorem block2 (t : Fin cfg0.N) (r l : Fin 128) : (iblk m c 2 t : Vec Ideal S128x128 .f32) (ix2 r l) = P m c ((t.val) * 128 + r.val) (8 * 128 + l.val) := by
  unfold iblk
  rw [View.read_apply]
  show V m c main_arg0 _ = _
  rw [V_main_arg0]
  exact at2_block (index2 t) rfl rfl

theorem index3 : ∀ t : Fin cfg0.N, win0_3.index t 0 = t.val - 1 ∧ win0_3.index t 1 = 8 :=
  (by decide +kernel : ∀ t : Fin grid0.N, win0_3.index t 0 = t.val - 1 ∧ win0_3.index t 1 = 8)

/-- Window 3's block: the keys of the block before. -/
theorem block3 (t : Fin cfg0.N) (r l : Fin 128) : (iblk m c 3 t : Vec Ideal S128x128 .f32) (ix2 r l) = P m c ((t.val - 1) * 128 + r.val) (8 * 128 + l.val) := by
  unfold iblk
  rw [View.read_apply]
  show V m c main_arg0 _ = _
  rw [V_main_arg0]
  exact at2_block (index3 t) rfl rfl

theorem index4 : ∀ t : Fin cfg0.N, win0_4.index t 0 = t.val ∧ win0_4.index t 1 = 9 :=
  (by decide +kernel : ∀ t : Fin grid0.N, win0_4.index t 0 = t.val ∧ win0_4.index t 1 = 9)

/-- Window 4's block: the block's values. -/
theorem block4 (t : Fin cfg0.N) (r l : Fin 128) : (iblk m c 4 t : Vec Ideal S128x128 .f32) (ix2 r l) = P m c ((t.val) * 128 + r.val) (9 * 128 + l.val) := by
  unfold iblk
  rw [View.read_apply]
  show V m c main_arg0 _ = _
  rw [V_main_arg0]
  exact at2_block (index4 t) rfl rfl

theorem index5 : ∀ t : Fin cfg0.N, win0_5.index t 0 = t.val - 1 ∧ win0_5.index t 1 = 9 :=
  (by decide +kernel : ∀ t : Fin grid0.N, win0_5.index t 0 = t.val - 1 ∧ win0_5.index t 1 = 9)

/-- Window 5's block: the values of the block before. -/
theorem block5 (t : Fin cfg0.N) (r l : Fin 128) : (iblk m c 5 t : Vec Ideal S128x128 .f32) (ix2 r l) = P m c ((t.val - 1) * 128 + r.val) (9 * 128 + l.val) := by
  unfold iblk
  rw [View.read_apply]
  show V m c main_arg0 _ = _
  rw [V_main_arg0]
  exact at2_block (index5 t) rfl rfl

theorem index6 : ∀ t : Fin cfg0.N, win0_6.index t 0 = t.val ∧ win0_6.index t 1 = 0 :=
  (by decide +kernel : ∀ t : Fin grid0.N, win0_6.index t 0 = t.val ∧ win0_6.index t 1 = 0)

/-- Window 6's block: the gradient at the block's queries. -/
theorem block6 (t : Fin cfg0.N) (r : Fin 128) (l : Fin 1024) : (iblk m c 6 t : Vec Ideal S128x1024 .bf16) (ix2 r l) = O m c (t.val * 128 + r.val) l.val := by
  unfold iblk
  rw [View.read_apply]
  show V m c main_arg2 _ = _
  rw [V_main_arg2]
  exact at2_block (index6 t) rfl rfl

theorem index7 : ∀ t : Fin cfg0.N, win0_7.index t 0 = t.val ∧ win0_7.index t 1 = 0 :=
  (by decide +kernel : ∀ t : Fin grid0.N, win0_7.index t 0 = t.val ∧ win0_7.index t 1 = 0)

/-- The gradient of the queries at row `r` and column `q`. -/
def val7 (r q : ℕ) : EReal := dquery (P m c) (O m c) (T m c) (r / 128) (q / 64) (r % 128) (q % 64)

section Point

variable (t : Fin cfg0.N)

/-- The keys and values a point takes, by their place among the 256. -/
theorem keys_at (b : ℕ) (hb : b = 8 ∨ b = 9) (a d : Vec Ideal S128x128 .f32)
    (ha : ∀ r l : Fin 128, a (ix2 r l) = P m c ((t.val - 1) * 128 + r.val) (b * 128 + l.val))
    (hd : ∀ r l : Fin 128, d (ix2 r l) = P m c (t.val * 128 + r.val) (b * 128 + l.val)) (j : Fin 256) (l : Fin 128) :
    k0_pay12 a d (ix2 j l) = P m c (keyRow t.val j.val) (b * 128 + l.val % 64)
      ∧ k0_pay51 k0_pay8 (k0_pay9 a d) (ix2 j l) = P m c (keyRow t.val j.val) (b * 128 + (64 + l.val % 64)) := by
  have h1 : ∀ r l : Fin 128, a (ix2 r l) = (fun j l => P m c (keyRow t.val j) (b * 128 + l)) r.val l.val := fun r l =>
    (ha r l).trans (congrArg (fun k => P m c k (b * 128 + l.val)) (by rw [keyRow, if_pos r.isLt]))
  have h2 : ∀ r l : Fin 128, d (ix2 r l) = (fun j l => P m c (keyRow t.val j) (b * 128 + l)) (128 + r.val) l.val := fun r l =>
    (hd r l).trans (congrArg (fun k => P m c k (b * 128 + l.val)) (by rw [keyRow, if_neg (by omega)]; omega))
  exact ⟨pay12_apply a d (fun j l => P m c (keyRow t.val j) (b * 128 + l)) h1 h2 j l, pay51_apply a d (fun j l => P m c (keyRow t.val j) (b * 128 + l)) h1 h2 j l⟩

/-- What a group of eight heads reads at a point: its queries, the gradients of its results, its keys, values, sinks and slopes. -/
structure Reads (K V : FVec Ideal S256x128 .bf16) (sl : FVec Ideal S1024x1 .f32) (q : Fin 4 → Vec Ideal S128x128 .f32)
    (o : Fin 4 → Vec Ideal S128x128 .bf16) (s : ℕ → Elt Ideal .f32) (g : ℕ) : Prop where
  q : ∀ (k : Fin 4) (r l : Fin 128), q k (ix2 r l) = P m c ((grid0.coords t 0).val * 128 + r.val) (g * 512 + (128 * k.val + l.val))
  o : ∀ (k : Fin 4) (r l : Fin 128), o k (ix2 r l) = O m c ((grid0.coords t 0).val * 128 + r.val) (g * 512 + (128 * k.val + l.val))
  K : ∀ (j : Fin 256) (l : Fin 128), K (ix2 j l) = P m c (keyRow (grid0.coords t 0).val j.val) (1024 + g * 64 + l.val % 64)
  V : ∀ (j : Fin 256) (l : Fin 128), V (ix2 j l) = P m c (keyRow (grid0.coords t 0).val j.val) (1152 + g * 64 + l.val % 64)
  s : ∀ a, a < 8 → s a = T m c (g * 8 + a)
  sl : ∀ r : Fin 1024, sl (ix2 r 0) = headSlope (g * 8 + r.val / 128)

/-- The first group's keys, values, queries, gradients and sinks; the second's. -/
abbrev K0 : FVec Ideal S256x128 .bf16 := k0_pay12 (iblk m c 3 t : Vec Ideal S128x128 .f32) (iblk m c 2 t : Vec Ideal S128x128 .f32)
abbrev V0 : FVec Ideal S256x128 .bf16 := k0_pay13 (iblk m c 5 t : Vec Ideal S128x128 .f32) (iblk m c 4 t : Vec Ideal S128x128 .f32)
abbrev K1 : FVec Ideal S256x128 .bf16 := k0_pay51 k0_pay8 (k0_pay9 (iblk m c 3 t : Vec Ideal S128x128 .f32) (iblk m c 2 t : Vec Ideal S128x128 .f32))
abbrev V1 : FVec Ideal S256x128 .bf16 := k0_pay52 k0_pay8 (k0_pay10 (iblk m c 5 t : Vec Ideal S128x128 .f32) (iblk m c 4 t : Vec Ideal S128x128 .f32))
abbrev q0 (k : Fin 4) : Vec Ideal S128x128 .f32 := cols (X0_1 m c t : Vec Ideal S128x1024 .f32) ⟨k.val, by omega⟩
abbrev q1 (k : Fin 4) : Vec Ideal S128x128 .f32 := cols (X0_1 m c t : Vec Ideal S128x1024 .f32) ⟨4 + k.val, by omega⟩
abbrev o0 (k : Fin 4) : Vec Ideal S128x128 .bf16 := cols (iblk m c 6 t : Vec Ideal S128x1024 .bf16) ⟨k.val, by omega⟩
abbrev o1 (k : Fin 4) : Vec Ideal S128x128 .bf16 := cols (iblk m c 6 t : Vec Ideal S128x1024 .bf16) ⟨4 + k.val, by omega⟩
abbrev s0 (a : ℕ) : Elt Ideal .f32 := sink (m ((c : Thread nD τ).loc main_arg1)) a
abbrev s1 (a : ℕ) : Elt Ideal .f32 := sink (m ((c : Thread nD τ).loc main_arg1)) (8 + a)

theorem reads_first : Reads m c t (K0 m c t) (V0 m c t) k0_pay27 (q0 m c t) (o0 m c t) (s0 m c) 0 := by
  refine ⟨fun k r l => ?_, fun k r l => ?_, fun j l => ?_, fun j l => ?_, fun a _ => ?_, fun r => ?_⟩
  · refine (cols_apply _ _ r l).trans ?_
    rw [block1, coord0]
    exact congrArg (P m c _) (by dsimp only; omega)
  · refine (cols_apply _ _ r l).trans ?_
    rw [block6, coord0]
    exact congrArg (O m c _) (by dsimp only; omega)
  · rw [coord0]
    exact (keys_at m c t 8 (.inl rfl) _ _ (block3 m c t) (block2 m c t) j l).1
  · rw [coord0]
    exact (keys_at m c t 9 (.inr rfl) _ _ (block5 m c t) (block4 m c t) j l).1
  · exact congrArg (T m c) (by omega)
  · exact (pay27_apply r).trans (congrArg headSlope (by omega))

theorem reads_second : Reads m c t (K1 m c t) (V1 m c t) k0_pay69 (q1 m c t) (o1 m c t) (s1 m c) 1 := by
  refine ⟨fun k r l => ?_, fun k r l => ?_, fun j l => ?_, fun j l => ?_, fun a _ => ?_, fun r => ?_⟩
  · refine (cols_apply _ _ r l).trans ?_
    rw [block1, coord0]
    exact congrArg (P m c _) (by dsimp only; omega)
  · refine (cols_apply _ _ r l).trans ?_
    rw [block6, coord0]
    exact congrArg (O m c _) (by dsimp only; omega)
  · rw [coord0]
    exact (keys_at m c t 8 (.inl rfl) _ _ (block3 m c t) (block2 m c t) j l).2.trans (congrArg (P m c _) (by omega))
  · rw [coord0]
    exact (keys_at m c t 9 (.inr rfl) _ _ (block5 m c t) (block4 m c t) j l).2.trans (congrArg (P m c _) (by omega))
  · exact congrArg (T m c) (by omega)
  · exact (pay69_apply r).trans (congrArg headSlope (by omega))

/-- A group's gradients of the queries are its columns of the result. -/
theorem queries_at {K V sl q o s g} (h : Reads m c t K V sl q o s g) (hg : g < 2) (r : Fin 1024) (l : Fin 128) :
    queries (grid0.coords t) K V sl q o s (ix2 r l) = val7 m c (t.val * 128 + r.val % 128) (g * 512 + r.val / 128 * 64 + l.val % 64) := by
  have hr := r.isLt
  refine (queries_apply _ _ _ _ _ _ _ (P m c) (O m c) (T m c) g h.q h.o h.K h.V h.s h.sl r l).trans ?_
  rw [coord0]
  unfold val7
  rw [show (t.val * 128 + r.val % 128) / 128 = t.val by omega, show (g * 512 + r.val / 128 * 64 + l.val % 64) / 64 = g * 8 + r.val / 128 by omega,
    show (t.val * 128 + r.val % 128) % 128 = r.val % 128 by omega, show (g * 512 + r.val / 128 * 64 + l.val % 64) % 64 = l.val % 64 by omega]

end Point

attribute [local irreducible] val7

/-- What a point leaves in its block of the result. -/
theorem val7_after (t : Fin cfg0.N) (r : Fin 128) (p : Fin 1024) : (outsAt0 m c t.val t.isLt).1 (ix2 r p) = val7 m c (t.val * 128 + r.val) p.val := by
  have hb := blocks _ _ _ _ (fun r p => val7 m c (t.val * 128 + r) p) (fun r l => (queries_at m c t (reads_first m c t) (by decide) r l).trans (congrArg (val7 m c _) (by omega))) (queries_at m c t (reads_second m c t) (by decide)) r p
  by_cases h : t.val % 64 = 0
  · rw [outsAt0_A m c t h]
    dsimp only
    unfold out0_A_7
    rw [View.read_writes_eq_canon _ _ _ (fun y => cover0_A_7 _ _ _ _ _ _ _ _ _ _ _ _ _ _ _ _ _ _ _ _ _ _ _ _ _ _ _ _ _ _ _ _ _ _ _ _ y)]
    unfold kernelRun0_A
    dsimp only
    sl_unfold_words
    simp only [View.readAt_eq_ld, (hs0_0 t).read_unread, (hs0_1 t).read_unread, (hs0_2 t).read_unread, (hs0_3 t).read_unread, (hs0_4 t).read_unread,
      (hs0_5 t).read_unread, (hs0_6 t).read_unread, ld_whole, block0]
    simp (discharger := decide) only [ld_sink (m ((c : Thread nD τ).loc main_arg1))]
    simp only [second_scores, second_queries, (second_pairs _ _).1, (second_pairs _ _).2.1]
    exact hb
  · rw [outsAt0_B m c t h]
    dsimp only
    unfold out0_B_7
    rw [View.read_writes_eq_canon _ _ _ (fun y => cover0_B_7 _ _ _ _ _ _ _ _ _ _ _ _ _ _ _ _ _ _ _ _ _ _ _ _ _ _ _ _ _ _ _ _ _ _ _ _ _ y)]
    unfold kernelRun0_B
    dsimp only
    sl_unfold_words
    simp only [View.readAt_eq_ld, (hs0_0 t).read_unread, (hs0_1 t).read_unread, (hs0_2 t).read_unread, (hs0_3 t).read_unread, (hs0_4 t).read_unread,
      (hs0_5 t).read_unread, (hs0_6 t).read_unread, ld_whole, block0]
    simp (discharger := decide) only [ld_sink (m ((c : Thread nD τ).loc main_arg1))]
    simp only [second_scores, second_queries, (second_pairs _ _).1, (second_pairs _ _).2.1]
    exact hb

/-! The result array after the run. -/

def arr7 : Buf (Elt Ideal) ((c : Thread nD τ).loc main_v0_0) := fun y : S8192x1024.Idx => val7 m c (y 0).val (y 1).val

theorem final7 : (dats m 0 c).arrAt 7 cfg0.N = arr7 m c := by
  refine (dats m 0 c).arrAt_eq_of_cover 7 (arr7 m c) (fun t hf => ?_) fun (i : S8192x1024.Idx) => ?_
  · rw [Value.flushed7]
    obtain ⟨h0, h1⟩ := index7 t
    funext y
    rw [View.read_apply]
    show (outsAt0 m c t.val t.isLt).1 y = val7 m c (win0_7.index t 0 * 128 + 1 * (y 0).val) (win0_7.index t 1 * 1024 + 1 * (y 1).val)
    refine (congrArg _ (eq_ix2 y)).trans ((val7_after m c t _ _).trans ?_)
    rw [h0, h1]
    exact congrArg₂ (val7 m c) (by omega) (by omega)
  · have b0 : (i 0).val < 8192 := (i 0).isLt
    have b1 : (i 1).val < 1024 := (i 1).isLt
    have hN : cfg0.N = 64 := N_0
    obtain ⟨t, ht⟩ : ∃ t : Fin cfg0.N, t.val = (i 0).val / 128 := ⟨⟨_, by omega⟩, rfl⟩
    refine ⟨t, flush0_7 t, ?_⟩
    show i ∈ ((View.whole main_v0_0).slice (win0_7.rect t)).set
    rw [View.set_slice_whole]
    exact mem_block (index7 t) (by omega) (by omega)

end Cert.AttnBwdIdeal.Final

end
-- ==== Proof.AttnBwdKeys.lean ====
/-
  The attention's backward call: what the kernel leaves in the gradients of the keys, of the values and of the
  sinks, entry by entry.
-/
module

public import proofs.«01_k».proof.Proof.AttnBwdValue

@[expose] public section

noncomputable section

namespace Cert.AttnBwdIdeal.Final

open Cert.AttnBwdIdeal Cert.AttnBwdIdeal.Gen Idealize.ShloMosaic Idealize.ShloMosaic.TcCoe Idealize.SL.Sem Ffn

/-! ## A group of eight heads -/

section Group

variable (i : grid0.Coords) (K V : FVec Ideal S256x128 .bf16) (sl : FVec Ideal S1024x1 .f32) (q : Fin 4 → Vec Ideal S128x128 .f32)
    (o : Fin 4 → Vec Ideal S128x128 .bf16) (s : ℕ → Elt Ideal .f32)

/-- The group's weights. -/
def probs : FVec Ideal S1024x256 .f32 :=
  k0_pay34 (k0_pay6 i) k0_pay7 K (stackQ q) sl (s 0) (s 1) (s 2) (s 3) (s 4) (s 5) (s 6) (s 7)

/-- The gradients of the group's keys, in the lanes of both heads. -/
def keys : FVec Ideal S256x128 .f32 := k0_pay49 (stackQ q) (scores i K V sl q o s)

/-- The gradients of the group's values, in the lanes of both heads. -/
def values : FVec Ideal S256x128 .f32 := k0_pay50 (stackO o) (probs i K sl q s)

/-- A query's part of the gradient of its head's sink. -/
def sinks : FVec Ideal S1024x1 .f32 :=
  k0_pay39 (k0_pay36 (k0_pay6 i) k0_pay7 K V (stackQ q) (stackO o) sl (s 0) (s 1) (s 2) (s 3) (s 4) (s 5) (s 6) (s 7))
    (k0_pay38 (k0_pay6 i) k0_pay7 K (stackQ q) sl (s 0) (s 1) (s 2) (s 3) (s 4) (s 5) (s 6) (s 7))

variable (P O : ℕ → ℕ → EReal) (T : ℕ → EReal) (g : ℕ)
    (hq : ∀ (k : Fin 4) (r l : Fin 128), q k (ix2 r l) = P ((i 0).val * 128 + r.val) (g * 512 + (128 * k.val + l.val)))
    (ho : ∀ (k : Fin 4) (r l : Fin 128), o k (ix2 r l) = O ((i 0).val * 128 + r.val) (g * 512 + (128 * k.val + l.val)))
    (hK : ∀ (j : Fin 256) (l : Fin 128), K (ix2 j l) = P (keyRow (i 0).val j.val) (1024 + g * 64 + l.val % 64))
    (hV : ∀ (j : Fin 256) (l : Fin 128), V (ix2 j l) = P (keyRow (i 0).val j.val) (1152 + g * 64 + l.val % 64))
    (hs : ∀ a, a < 8 → s a = T (g * 8 + a)) (hsl : ∀ r : Fin 1024, sl (ix2 r 0) = headSlope (g * 8 + r.val / 128))

include hq hK hs hsl in
/-- The group's weights. -/
theorem probs_apply (r : Fin 1024) (j : Fin 256) :
    probs i K sl q s (ix2 r j) = prob (score P (i 0).val (g * 8 + r.val / 128) (r.val % 128)) (T (g * 8 + r.val / 128)) j := by
  unfold probs
  rw [pay34_apply, rowS_eq i K sl q P g hq hK hsl, hs _ (by omega)]

/-- A column of a product over the stacked rows. -/
theorem pay49_apply (x : FVec Ideal S1024x128 .bf16) (y : FVec Ideal S1024x256 .bf16) (j : Fin 256) (l : Fin 128) :
    k0_pay49 x y (ix2 j l) = ∑ r : Fin 1024, y (ix2 r j) * x (ix2 r l) + ∑ r : Fin 1024, y (ix2 r j) * x (ix2 r ⟨(l.val + 128 - 64) % 128, Nat.mod_lt _ (by decide)⟩) := by
  unfold k0_pay49
  pointwise

theorem pay50_apply (x : FVec Ideal S1024x128 .bf16) (y : FVec Ideal S1024x256 .f32) (j : Fin 256) (l : Fin 128) :
    k0_pay50 x y (ix2 j l) = ∑ r : Fin 1024, y (ix2 r j) * x (ix2 r l) + ∑ r : Fin 1024, y (ix2 r j) * x (ix2 r ⟨(l.val + 128 - 64) % 128, Nat.mod_lt _ (by decide)⟩) := by
  unfold k0_pay50
  pointwise

include hq ho hK hV hs hsl in
/-- The gradients of the group's keys. -/
theorem keys_apply (j : Fin 256) (l : Fin 128) : keys i K V sl q o s (ix2 j l) = dkey P O T (i 0).val g j (l.val % 64) := by
  refine (pay49_apply _ _ j l).trans ((sum_stack (fun r => scores i K V sl q o s (ix2 r j)) _ _
    (fun a k => dsc (score P (i 0).val (g * 8 + a) k) (dprob P O (i 0).val (g * 8 + a) k) (T (g * 8 + a)) j)
    (fun r l => P ((i 0).val * 128 + r) (g * 512 + l)) l.val l.isLt
    (fun r => scores_apply i K V sl q o s P O T g hq ho hK hV hs hsl r j)
    (fun r => stackQ_apply q (fun r l => P ((i 0).val * 128 + r) (g * 512 + l)) hq r l)
    (fun r => stackQ_apply q (fun r l => P ((i 0).val * 128 + r) (g * 512 + l)) hq r _)).trans ?_)
  refine Finset.sum_congr rfl fun a _ => Finset.sum_congr rfl fun k _ => ?_
  dsimp only
  rw [show g * 512 + (a.val * 64 + l.val % 64) = (g * 8 + a.val) * 64 + l.val % 64 by omega]

include hq ho hK hs hsl in
/-- The gradients of the group's values. -/
theorem values_apply (j : Fin 256) (l : Fin 128) : values i K sl q o s (ix2 j l) = dvalue P O T (i 0).val g j (l.val % 64) := by
  refine (pay50_apply _ _ j l).trans ((sum_stack (fun r => probs i K sl q s (ix2 r j)) _ _
    (fun a k => prob (score P (i 0).val (g * 8 + a) k) (T (g * 8 + a)) j)
    (fun r l => O ((i 0).val * 128 + r) (g * 512 + l)) l.val l.isLt
    (fun r => probs_apply i K sl q s P T g hq hK hs hsl r j)
    (fun r => stackO_apply o (fun r l => O ((i 0).val * 128 + r) (g * 512 + l)) ho r l)
    (fun r => stackO_apply o (fun r l => O ((i 0).val * 128 + r) (g * 512 + l)) ho r _)).trans ?_)
  refine Finset.sum_congr rfl fun a _ => Finset.sum_congr rfl fun k _ => ?_
  dsimp only
  rw [show g * 512 + (a.val * 64 + l.val % 64) = (g * 8 + a.val) * 64 + l.val % 64 by omega]

include hq ho hK hV hs hsl in
/-- The queries' parts of the gradients of the group's sinks. -/
theorem sinks_apply (r : Fin 1024) : sinks i K V sl q o s (ix2 r 0)
    = dSink (score P (i 0).val (g * 8 + r.val / 128) (r.val % 128)) (dprob P O (i 0).val (g * 8 + r.val / 128) (r.val % 128)) (T (g * 8 + r.val / 128)) := by
  unfold sinks k0_pay39 k0_pay38 k0_pay36 k0_pay35 k0_pay33
  pointwise
  simp only [pay31_apply, pay32_apply, pay34_apply]
  rw [rowS_eq i K sl q P g hq hK hsl, hs _ (by omega), Finset.sum_congr rfl fun j _ => congrArg (_ * ·) (dotO i V o P O g ho hV r j)]
  rfl

end Group

/-- The first group's lanes, then the second's. -/
theorem pay93_apply (x : FVec Ideal S256x128 .f32) (y : FVec Ideal S1024x128 .bf16) (z : FVec Ideal S1024x256 .bf16) (j : Fin 256) (l : Fin 128) :
    k0_pay93 k0_pay8 x y z (ix2 j l) = if l.val / 64 = 0 then x (ix2 j l) else k0_pay49 y z (ix2 j l) := by
  rw [← lane_pick, pay49_apply]
  unfold k0_pay93
  pointwise

theorem pay94_apply (x : FVec Ideal S256x128 .f32) (y : FVec Ideal S1024x128 .bf16) (z : FVec Ideal S1024x256 .f32) (j : Fin 256) (l : Fin 128) :
    k0_pay94 k0_pay8 x y z (ix2 j l) = if l.val / 64 = 0 then x (ix2 j l) else k0_pay50 y z (ix2 j l) := by
  rw [← lane_pick, pay50_apply]
  unfold k0_pay94
  pointwise

theorem lower (X : FVec Ideal S256x128 .f32) (r l : Fin 128) : k0_pay1 X (ix2 r l) = X (ix2 ⟨r.val, by omega⟩ l) := by
  unfold k0_pay1
  pointwise

theorem upper (X : FVec Ideal S256x128 .f32) (r l : Fin 128) : k0_pay2 X (ix2 r l) = X (ix2 ⟨128 + r.val, by omega⟩ l) := by
  unfold k0_pay2
  pointwise

theorem pay95_eq (v : IVec S1x128 1) (x : FVec Ideal S256x128 .f32) (y : FVec Ideal S1024x128 .bf16) (z : FVec Ideal S1024x256 .bf16) :
    k0_pay95 v x y z = k0_pay1 (k0_pay93 v x y z) ∧ k0_pay96 v x y z = k0_pay2 (k0_pay93 v x y z) := ⟨rfl, rfl⟩

theorem second_probs : k0_pay76 (F := Ideal) = k0_pay34 := rfl

theorem second_sinks : k0_pay80 (F := Ideal) = fun a b c d e f g h0 h1 h2 h3 h4 h5 h6 h7 =>
  k0_pay39 (k0_pay36 a b c d e f g h0 h1 h2 h3 h4 h5 h6 h7) (k0_pay38 a b c e g h0 h1 h2 h3 h4 h5 h6 h7) := rfl

/-! ## The lanes of the sinks -/

/-- A lane's word against a constant's. -/
theorem lane_is (l : Fin 128) (k : ℕ) (hk : k < 16) (x : EReal) :
    Scalar.select (IntOp.cmpi .eq (BitVec.ofNat 32 l.val) (BitVec.ofNat 32 k)) x 0 = if l.val = k then x else 0 := by
  have h : ∀ (l : Fin 128) (k : Fin 16), (IntOp.cmpi .eq (BitVec.ofNat 32 l.val) (BitVec.ofNat 32 k.val) = 1) = (l.val = k.val) := by decide +kernel
  unfold Scalar.select
  exact if_congr (iff_of_eq (h l ⟨k, hk⟩)) rfl rfl

section Lanes

variable (X : FVec Ideal S1024x1 .f32) (f : ℕ → ℕ → EReal) (hX : ∀ r : Fin 1024, X (ix2 r 0) = f (r.val / 128) (r.val % 128))
include hX

/-- The sum of a head's rows. -/
theorem head_sum (o k : ℕ) (h : o = 128 * k) (hk : k < 8) :
    ∑ i : Fin 128, X (ix2 ⟨o + i.val, by omega⟩ 0) = ∑ i : Fin 128, f k i.val :=
  Finset.sum_congr rfl fun i _ => (hX _).trans (congrArg₂ f (by dsimp only; omega) (by dsimp only; omega))

theorem head_sum0 : ∑ i : Fin 128, X (ix2 ⟨i.val, by omega⟩ 0) = ∑ i : Fin 128, f 0 i.val :=
  Finset.sum_congr rfl fun i _ => (hX _).trans (congrArg₂ f (by dsimp only; omega) (by dsimp only; omega))

/-- The second group's heads, added in the lanes after the first's. -/
theorem lanes_second (w : FVec Ideal S1x128 .f32) (l : Fin 128) :
    k0_pay84 (iota .tc S1x128 32 [1] iota_S1x128_d1_w32) X (k0_pay82 (iota .tc S1x128 32 [1] iota_S1x128_d1_w32) w X (extractStridedSlice S128x1 ![0, 0] X slices_S1024x1_o0_0_S128x1)) (k0_pay83 X) (ix2 0 l)
      = w (ix2 0 l) + ∑ k ∈ Finset.range 8, if l.val = 8 + k then ∑ i : Fin 128, f k i.val else 0 := by
  unfold k0_pay84 k0_pay83 k0_pay82
  pointwise
  simp only [Fin.sum_univ_one]
  rw [head_sum0 X f hX, head_sum X f hX 128 1 rfl (by decide), head_sum X f hX 256 2 rfl (by decide), head_sum X f hX 384 3 rfl (by decide),
    head_sum X f hX 512 4 rfl (by decide), head_sum X f hX 640 5 rfl (by decide), head_sum X f hX 768 6 rfl (by decide), head_sum X f hX 896 7 rfl (by decide)]
  simp (discharger := decide) only [lane_is, Finset.sum_range_succ, Finset.sum_range_zero, zero_add, ← add_assoc]

end Lanes

/-- The first group's heads, each in its lane. -/
theorem lanes_first (a b : FVec Ideal S1024x1 .f32) (f : ℕ → ℕ → EReal) (hX : ∀ r : Fin 1024, k0_pay39 a b (ix2 r 0) = f (r.val / 128) (r.val % 128)) (l : Fin 128) :
    k0_pay42 (iota .tc S1x128 32 [1] iota_S1x128_d1_w32) (k0_pay39 a b) (k0_pay40 (iota .tc S1x128 32 [1] iota_S1x128_d1_w32) k0_pay11 a b) (k0_pay41 a b) (ix2 0 l)
      = ∑ k ∈ Finset.range 8, if l.val = k then ∑ i : Fin 128, f k i.val else 0 := by
  unfold k0_pay42 k0_pay41 k0_pay40 k0_pay11
  generalize k0_pay39 a b = X at hX
  pointwise
  simp only [Fin.sum_univ_one]
  rw [head_sum0 X f hX, head_sum X f hX 128 1 rfl (by decide), head_sum X f hX 256 2 rfl (by decide), head_sum X f hX 384 3 rfl (by decide),
    head_sum X f hX 512 4 rfl (by decide), head_sum X f hX 640 5 rfl (by decide), head_sum X f hX 768 6 rfl (by decide), head_sum X f hX 896 7 rfl (by decide)]
  simp (discharger := decide) only [lane_is, Finset.sum_range_succ, Finset.sum_range_zero, zero_add]

/-! ## What a point stores -/

variable (m : (ℓ : Loc nD τ sig) → Buf (Elt Ideal) ℓ) (c : Dev nD) (t : Fin cfg0.N)

/-- The gradients of the 256 keys. -/
def dkeys : FVec Ideal S256x128 .f32 :=
  k0_pay93 k0_pay8 (keys (grid0.coords t) (K0 m c t) (V0 m c t) k0_pay27 (q0 m c t) (o0 m c t) (s0 m c)) (stackQ (q1 m c t))
    (scores (grid0.coords t) (K1 m c t) (V1 m c t) k0_pay69 (q1 m c t) (o1 m c t) (s1 m c))

/-- The gradients of the 256 values. -/
def dvalues : FVec Ideal S256x128 .f32 :=
  k0_pay94 k0_pay8 (values (grid0.coords t) (K0 m c t) k0_pay27 (q0 m c t) (o0 m c t) (s0 m c)) (stackO (o1 m c t))
    (probs (grid0.coords t) (K1 m c t) k0_pay69 (q1 m c t) (s1 m c))

/-- The block's parts of the gradients of the sinks, by lane. -/
def dsinks : FVec Ideal S1x128 .f32 :=
  let a := k0_pay36 (k0_pay6 (grid0.coords t)) k0_pay7 (K0 m c t) (V0 m c t) (stackQ (q0 m c t)) (stackO (o0 m c t)) k0_pay27 (s0 m c 0) (s0 m c 1) (s0 m c 2) (s0 m c 3) (s0 m c 4) (s0 m c 5) (s0 m c 6) (s0 m c 7)
  let b := k0_pay38 (k0_pay6 (grid0.coords t)) k0_pay7 (K0 m c t) (stackQ (q0 m c t)) k0_pay27 (s0 m c 0) (s0 m c 1) (s0 m c 2) (s0 m c 3) (s0 m c 4) (s0 m c 5) (s0 m c 6) (s0 m c 7)
  let X := sinks (grid0.coords t) (K1 m c t) (V1 m c t) k0_pay69 (q1 m c t) (o1 m c t) (s1 m c)
  k0_pay84 (iota .tc S1x128 32 [1] iota_S1x128_d1_w32) X
    (k0_pay82 (iota .tc S1x128 32 [1] iota_S1x128_d1_w32)
      (k0_pay42 (iota .tc S1x128 32 [1] iota_S1x128_d1_w32) (k0_pay39 a b) (k0_pay40 (iota .tc S1x128 32 [1] iota_S1x128_d1_w32) k0_pay11 a b) (k0_pay41 a b))
      X (extractStridedSlice S128x1 ![0, 0] X slices_S1024x1_o0_0_S128x1)) (k0_pay83 X)

/-- The gradients of a block's 256 keys. -/
theorem dkeys_apply (j : Fin 256) (l : Fin 128) : dkeys m c t (ix2 j l) = dkey (P m c) (O m c) (T m c) t.val (l.val / 64) j (l.val % 64) := by
  have hl := l.isLt
  have h0 := reads_first m c t
  have h1 := reads_second m c t
  unfold dkeys
  rw [pay93_apply]
  split_ifs with h
  · rw [keys_apply _ _ _ _ _ _ _ (P m c) (O m c) (T m c) 0 h0.q h0.o h0.K h0.V h0.s h0.sl, coord0, h]
  · refine (keys_apply _ _ _ _ _ _ _ (P m c) (O m c) (T m c) 1 h1.q h1.o h1.K h1.V h1.s h1.sl j l).trans ?_
    rw [coord0, show l.val / 64 = 1 by omega]

/-- The gradients of a block's 256 values. -/
theorem dvalues_apply (j : Fin 256) (l : Fin 128) : dvalues m c t (ix2 j l) = dvalue (P m c) (O m c) (T m c) t.val (l.val / 64) j (l.val % 64) := by
  have hl := l.isLt
  have h0 := reads_first m c t
  have h1 := reads_second m c t
  unfold dvalues
  rw [pay94_apply]
  split_ifs with h
  · rw [values_apply _ _ _ _ _ _ (P m c) (O m c) (T m c) 0 h0.q h0.o h0.K h0.s h0.sl, coord0, h]
  · refine (values_apply _ _ _ _ _ _ (P m c) (O m c) (T m c) 1 h1.q h1.o h1.K h1.s h1.sl j l).trans ?_
    rw [coord0, show l.val / 64 = 1 by omega]

/-- The block's parts of the gradients of the sinks: zero in the lanes of no head. -/
theorem dsinks_apply (l : Fin 128) : dsinks m c t (ix2 0 l) = if l.val < 16 then dsinkAt (P m c) (O m c) (T m c) t.val l.val else 0 := by
  have h0 := reads_first m c t
  have h1 := reads_second m c t
  have e0 := sinks_apply _ _ _ _ _ _ _ (P m c) (O m c) (T m c) 0 h0.q h0.o h0.K h0.V h0.s h0.sl
  have e1 := sinks_apply _ _ _ _ _ _ _ (P m c) (O m c) (T m c) 1 h1.q h1.o h1.K h1.V h1.s h1.sl
  unfold dsinks
  dsimp only
  rw [lanes_second _ (fun a i => dSink (score (P m c) (grid0.coords t 0).val (1 * 8 + a) i) (dprob (P m c) (O m c) (grid0.coords t 0).val (1 * 8 + a) i) (T m c (1 * 8 + a))) e1,
    lanes_first _ _ (fun a i => dSink (score (P m c) (grid0.coords t 0).val (0 * 8 + a) i) (dprob (P m c) (O m c) (grid0.coords t 0).val (0 * 8 + a) i) (T m c (0 * 8 + a))) e0,
    coord0]
  refine Eq.trans (congrArg₂ (· + ·) (Finset.sum_congr rfl fun k _ => ?_) (Finset.sum_congr rfl fun k _ => ?_))
    (Eq.trans (Finset.sum_range_add (fun k => if l.val = k then dsinkAt (P m c) (O m c) (T m c) t.val k else 0) 8 8).symm ?_)
  · rw [show 0 * 8 + k = k by omega]
    rfl
  · rw [show 1 * 8 + k = 8 + k by omega]
    rfl
  · rw [Finset.sum_ite_eq]
    exact if_congr Finset.mem_range rfl rfl

/-- What the first point leaves in its blocks of the gradients of the keys and of the values. -/
theorem stored_first (h : t.val % 64 = 0) : (outsAt0 m c t.val t.isLt).2.1 = k0_pay2 (dkeys m c t) ∧ (outsAt0 m c t.val t.isLt).2.2.1 = k0_pay1 (dkeys m c t)
    ∧ (outsAt0 m c t.val t.isLt).2.2.2.1 = k0_pay2 (dvalues m c t) ∧ (outsAt0 m c t.val t.isLt).2.2.2.2.1 = k0_pay1 (dvalues m c t) := by
  rw [outsAt0_A m c t h]
  dsimp only
  unfold out0_A_8 out0_A_9 out0_A_10 out0_A_11
  refine ⟨(View.read_writes_eq_canon _ _ _ (fun y => cover0_A_8 _ _ _ _ _ _ _ _ _ _ _ _ _ _ _ _ _ _ _ _ _ _ _ _ _ _ _ _ _ _ _ _ _ _ _ _ y)).trans ?_,
    (View.read_writes_eq_canon _ _ _ (fun y => cover0_A_9 _ _ _ _ _ _ _ _ _ _ _ _ _ _ _ _ _ _ _ _ _ _ _ _ _ _ _ _ _ _ _ _ _ _ _ _ y)).trans ?_,
    (View.read_writes_eq_canon _ _ _ (fun y => cover0_A_10 _ _ _ _ _ _ _ _ _ _ _ _ _ _ _ _ _ _ _ _ _ _ _ _ _ _ _ _ _ _ _ _ _ _ _ _ y)).trans ?_,
    (View.read_writes_eq_canon _ _ _ (fun y => cover0_A_11 _ _ _ _ _ _ _ _ _ _ _ _ _ _ _ _ _ _ _ _ _ _ _ _ _ _ _ _ _ _ _ _ _ _ _ _ y)).trans ?_⟩
  all_goals
    unfold kernelRun0_A
    dsimp only
    sl_unfold_words
    simp only [View.readAt_eq_ld, (hs0_0 t).read_unread, (hs0_1 t).read_unread, (hs0_2 t).read_unread, (hs0_3 t).read_unread, (hs0_4 t).read_unread,
      (hs0_5 t).read_unread, (hs0_6 t).read_unread, ld_whole, block0]
    simp (discharger := decide) only [ld_sink (m ((c : Thread nD τ).loc main_arg1))]
    exact View.canon_unit_zero (S := S128x128) hz _ _

/-- What a later point leaves there. -/
theorem stored_next (h : ¬t.val % 64 = 0) : (outsAt0 m c t.val t.isLt).2.1 = k0_pay2 (dkeys m c t) ∧ (outsAt0 m c t.val t.isLt).2.2.1 = k0_pay1 (dkeys m c t)
    ∧ (outsAt0 m c t.val t.isLt).2.2.2.1 = k0_pay2 (dvalues m c t) ∧ (outsAt0 m c t.val t.isLt).2.2.2.2.1 = k0_pay1 (dvalues m c t) := by
  rw [outsAt0_B m c t h]
  dsimp only
  unfold out0_B_8 out0_B_9 out0_B_10 out0_B_11
  refine ⟨(View.read_writes_eq_canon _ _ _ (fun y => cover0_B_8 _ _ _ _ _ _ _ _ _ _ _ _ _ _ _ _ _ _ _ _ _ _ _ _ _ _ _ _ _ _ _ _ _ _ _ _ _ y)).trans ?_,
    (View.read_writes_eq_canon _ _ _ (fun y => cover0_B_9 _ _ _ _ _ _ _ _ _ _ _ _ _ _ _ _ _ _ _ _ _ _ _ _ _ _ _ _ _ _ _ _ _ _ _ _ _ y)).trans ?_,
    (View.read_writes_eq_canon _ _ _ (fun y => cover0_B_10 _ _ _ _ _ _ _ _ _ _ _ _ _ _ _ _ _ _ _ _ _ _ _ _ _ _ _ _ _ _ _ _ _ _ _ _ _ y)).trans ?_,
    (View.read_writes_eq_canon _ _ _ (fun y => cover0_B_11 _ _ _ _ _ _ _ _ _ _ _ _ _ _ _ _ _ _ _ _ _ _ _ _ _ _ _ _ _ _ _ _ _ _ _ _ _ y)).trans ?_⟩
  all_goals
    unfold kernelRun0_B
    dsimp only
    sl_unfold_words
    simp only [View.readAt_eq_ld, (hs0_0 t).read_unread, (hs0_1 t).read_unread, (hs0_2 t).read_unread, (hs0_3 t).read_unread, (hs0_4 t).read_unread,
      (hs0_5 t).read_unread, (hs0_6 t).read_unread, ld_whole, block0]
    simp (discharger := decide) only [ld_sink (m ((c : Thread nD τ).loc main_arg1))]
    exact View.canon_unit_zero (S := S128x128) hz _ _

/-- What a point leaves there. -/
theorem stored : (outsAt0 m c t.val t.isLt).2.1 = k0_pay2 (dkeys m c t) ∧ (outsAt0 m c t.val t.isLt).2.2.1 = k0_pay1 (dkeys m c t)
    ∧ (outsAt0 m c t.val t.isLt).2.2.2.1 = k0_pay2 (dvalues m c t) ∧ (outsAt0 m c t.val t.isLt).2.2.2.2.1 = k0_pay1 (dvalues m c t) :=
  (em (t.val % 64 = 0)).elim (stored_first m c t) (stored_next m c t)

/-- The first point stores its parts of the gradients of the sinks over a zero. -/
theorem sinks_first (h : t.val % 64 = 0) : (outsAt0 m c t.val t.isLt).2.2.2.2.2 = k0_pay4 (dsinks m c t) (k0_pay3 (F := Ideal)) := by
  rw [outsAt0_A m c t h]
  dsimp only
  unfold out0_A_12
  rw [View.read_writes_eq_canon _ _ _ (fun y => cover0_A_12 _ _ _ _ _ _ _ _ _ _ _ _ _ _ _ _ _ _ _ _ _ _ _ _ _ _ _ _ _ _ _ _ _ _ _ _ y)]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, ld_whole, block0, View.readCov_unit_zero (S := S1x128) _ hz,
    View.canon_cons_unit_zero (S := S1x128) hz]
  simp (discharger := decide) only [ld_sink (m ((c : Thread nD τ).loc main_arg1))]
  rfl

/-- A later point adds its parts to what the point before left. -/
theorem sinks_next (h : ¬t.val % 64 = 0) : (outsAt0 m c t.val t.isLt).2.2.2.2.2
    = k0_pay4 (dsinks m c t) (outsAt0 m c (t.val - 1) (Nat.lt_of_le_of_lt (Nat.sub_le _ _) t.isLt)).2.2.2.2.2 := by
  rw [outsAt0_B m c t h]
  dsimp only
  unfold out0_B_12
  rw [View.read_writes_eq_canon _ _ _ (fun y => cover0_B_12 _ _ _ _ _ _ _ _ _ _ _ _ _ _ _ _ _ _ _ _ _ _ _ _ _ _ _ _ _ _ _ _ _ _ _ _ _ y)]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_12 t).read_unread, ld_whole, block0,
    View.canon_cons_unit_zero (S := S1x128) hz]
  simp (discharger := decide) only [ld_sink (m ((c : Thread nD τ).loc main_arg1))]
  rfl

/-! ## The result arrays -/

/-- A block's own keys, by row and lane: their gradients. -/
def val8 (r q : ℕ) : EReal := dkey (P m c) (O m c) (T m c) (r / 128) (q / 64) ⟨128 + r % 128, by omega⟩ (q % 64)

/-- The keys of the block before: their gradients. -/
def val9 (r q : ℕ) : EReal := dkey (P m c) (O m c) (T m c) (r / 128) (q / 64) ⟨r % 128, by omega⟩ (q % 64)

/-- A block's own values: their gradients. -/
def val10 (r q : ℕ) : EReal := dvalue (P m c) (O m c) (T m c) (r / 128) (q / 64) ⟨128 + r % 128, by omega⟩ (q % 64)

/-- The values of the block before: their gradients. -/
def val11 (r q : ℕ) : EReal := dvalue (P m c) (O m c) (T m c) (r / 128) (q / 64) ⟨r % 128, by omega⟩ (q % 64)

/-- The gradients of the sinks, each in its head's lane. -/
def val12 (n q : ℕ) : EReal := ∑ k ∈ Finset.range n, if q < 16 then dsinkAt (P m c) (O m c) (T m c) k q else 0

theorem val8_after (r l : Fin 128) : (outsAt0 m c t.val t.isLt).2.1 (ix2 r l) = val8 m c (t.val * 128 + r.val) l.val := by
  rw [(stored m c t).1]
  refine (upper _ r l).trans ((dkeys_apply m c t _ l).trans ?_)
  unfold val8
  congr 1 <;> (try simp only [Fin.mk.injEq]) <;> omega

theorem val9_after (r l : Fin 128) : (outsAt0 m c t.val t.isLt).2.2.1 (ix2 r l) = val9 m c (t.val * 128 + r.val) l.val := by
  rw [(stored m c t).2.1]
  refine (lower _ r l).trans ((dkeys_apply m c t _ l).trans ?_)
  unfold val9
  congr 1 <;> (try simp only [Fin.mk.injEq]) <;> omega

theorem val10_after (r l : Fin 128) : (outsAt0 m c t.val t.isLt).2.2.2.1 (ix2 r l) = val10 m c (t.val * 128 + r.val) l.val := by
  rw [(stored m c t).2.2.1]
  refine (upper _ r l).trans ((dvalues_apply m c t _ l).trans ?_)
  unfold val10
  congr 1 <;> (try simp only [Fin.mk.injEq]) <;> omega

theorem val11_after (r l : Fin 128) : (outsAt0 m c t.val t.isLt).2.2.2.2.1 (ix2 r l) = val11 m c (t.val * 128 + r.val) l.val := by
  rw [(stored m c t).2.2.2]
  refine (lower _ r l).trans ((dvalues_apply m c t _ l).trans ?_)
  unfold val11
  congr 1 <;> (try simp only [Fin.mk.injEq]) <;> omega

theorem pay4_apply (x y : FVec Ideal S1x128 .f32) (l : Fin 128) : k0_pay4 x y (ix2 0 l) = y (ix2 0 l) + x (ix2 0 l) := by
  unfold k0_pay4
  pointwise

/-- After a point: the sums over the blocks so far. -/
theorem val12_after : ∀ (n : ℕ) (hn : n < cfg0.N) (l : Fin 128), (outsAt0 m c n hn).2.2.2.2.2 (ix2 0 l) = val12 m c (n + 1) l.val
  | 0, hn, l => by
    rw [sinks_first m c ⟨0, hn⟩ rfl, pay4_apply, dsinks_apply]
    unfold val12 k0_pay3
    rw [Finset.sum_range_one]
    pointwise
  | n + 1, hn, l => by
    have hN : cfg0.N = 64 := N_0
    rw [sinks_next m c ⟨n + 1, hn⟩ (by show ¬(n + 1) % 64 = 0; omega), pay4_apply, dsinks_apply]
    refine (congrArg (· + _) (val12_after n (by omega) l)).trans ?_
    exact (Finset.sum_range_succ (fun k => if l.val < 16 then dsinkAt (P m c) (O m c) (T m c) k l.val else 0) (n + 1)).symm

attribute [local irreducible] val8 val9 val10 val11 val12

theorem index8 : ∀ t : Fin cfg0.N, win0_8.index t 0 = t.val ∧ win0_8.index t 1 = 0 :=
  (by decide +kernel : ∀ t : Fin grid0.N, win0_8.index t 0 = t.val ∧ win0_8.index t 1 = 0)

theorem index9 : ∀ t : Fin cfg0.N, win0_9.index t 0 = t.val ∧ win0_9.index t 1 = 0 :=
  (by decide +kernel : ∀ t : Fin grid0.N, win0_9.index t 0 = t.val ∧ win0_9.index t 1 = 0)

theorem index10 : ∀ t : Fin cfg0.N, win0_10.index t 0 = t.val ∧ win0_10.index t 1 = 0 :=
  (by decide +kernel : ∀ t : Fin grid0.N, win0_10.index t 0 = t.val ∧ win0_10.index t 1 = 0)

theorem index11 : ∀ t : Fin cfg0.N, win0_11.index t 0 = t.val ∧ win0_11.index t 1 = 0 :=
  (by decide +kernel : ∀ t : Fin grid0.N, win0_11.index t 0 = t.val ∧ win0_11.index t 1 = 0)

theorem index12 : ∀ t : Fin cfg0.N, win0_12.index t 0 = 0 ∧ win0_12.index t 1 = 0 :=
  (by decide +kernel : ∀ t : Fin grid0.N, win0_12.index t 0 = 0 ∧ win0_12.index t 1 = 0)

def arr8 : Buf (Elt Ideal) ((c : Thread nD τ).loc main_v0_1) := fun y : S8192x128.Idx => val8 m c (y 0).val (y 1).val

theorem final8 : (dats m 0 c).arrAt 8 cfg0.N = arr8 m c := by
  refine (dats m 0 c).arrAt_eq_of_cover 8 (arr8 m c) (fun t hf => ?_) fun (i : S8192x128.Idx) => ?_
  · rw [Value.flushed8]
    obtain ⟨h0, h1⟩ := index8 t
    funext y
    rw [View.read_apply]
    show (outsAt0 m c t.val t.isLt).2.1 y = val8 m c (win0_8.index t 0 * 128 + 1 * (y 0).val) (win0_8.index t 1 * 128 + 1 * (y 1).val)
    refine (congrArg _ (eq_ix2 y)).trans ((val8_after m c t _ _).trans ?_)
    rw [h0, h1]
    exact congrArg₂ (val8 m c) (by omega) (by omega)
  · have b0 : (i 0).val < 8192 := (i 0).isLt
    have b1 : (i 1).val < 128 := (i 1).isLt
    have hN : cfg0.N = 64 := N_0
    obtain ⟨t, ht⟩ : ∃ t : Fin cfg0.N, t.val = (i 0).val / 128 := ⟨⟨_, by omega⟩, rfl⟩
    refine ⟨t, flush0_8 t, ?_⟩
    show i ∈ ((View.whole main_v0_1).slice (win0_8.rect t)).set
    rw [View.set_slice_whole]
    exact mem_block (index8 t) (by omega) (by omega)

def arr9 : Buf (Elt Ideal) ((c : Thread nD τ).loc main_v0_2) := fun y : S8192x128.Idx => val9 m c (y 0).val (y 1).val

theorem final9 : (dats m 0 c).arrAt 9 cfg0.N = arr9 m c := by
  refine (dats m 0 c).arrAt_eq_of_cover 9 (arr9 m c) (fun t hf => ?_) fun (i : S8192x128.Idx) => ?_
  · rw [Value.flushed9]
    obtain ⟨h0, h1⟩ := index9 t
    funext y
    rw [View.read_apply]
    show (outsAt0 m c t.val t.isLt).2.2.1 y = val9 m c (win0_9.index t 0 * 128 + 1 * (y 0).val) (win0_9.index t 1 * 128 + 1 * (y 1).val)
    refine (congrArg _ (eq_ix2 y)).trans ((val9_after m c t _ _).trans ?_)
    rw [h0, h1]
    exact congrArg₂ (val9 m c) (by omega) (by omega)
  · have b0 : (i 0).val < 8192 := (i 0).isLt
    have b1 : (i 1).val < 128 := (i 1).isLt
    have hN : cfg0.N = 64 := N_0
    obtain ⟨t, ht⟩ : ∃ t : Fin cfg0.N, t.val = (i 0).val / 128 := ⟨⟨_, by omega⟩, rfl⟩
    refine ⟨t, flush0_9 t, ?_⟩
    show i ∈ ((View.whole main_v0_2).slice (win0_9.rect t)).set
    rw [View.set_slice_whole]
    exact mem_block (index9 t) (by omega) (by omega)

def arr10 : Buf (Elt Ideal) ((c : Thread nD τ).loc main_v0_3) := fun y : S8192x128.Idx => val10 m c (y 0).val (y 1).val

theorem final10 : (dats m 0 c).arrAt 10 cfg0.N = arr10 m c := by
  refine (dats m 0 c).arrAt_eq_of_cover 10 (arr10 m c) (fun t hf => ?_) fun (i : S8192x128.Idx) => ?_
  · rw [Value.flushed10]
    obtain ⟨h0, h1⟩ := index10 t
    funext y
    rw [View.read_apply]
    show (outsAt0 m c t.val t.isLt).2.2.2.1 y = val10 m c (win0_10.index t 0 * 128 + 1 * (y 0).val) (win0_10.index t 1 * 128 + 1 * (y 1).val)
    refine (congrArg _ (eq_ix2 y)).trans ((val10_after m c t _ _).trans ?_)
    rw [h0, h1]
    exact congrArg₂ (val10 m c) (by omega) (by omega)
  · have b0 : (i 0).val < 8192 := (i 0).isLt
    have b1 : (i 1).val < 128 := (i 1).isLt
    have hN : cfg0.N = 64 := N_0
    obtain ⟨t, ht⟩ : ∃ t : Fin cfg0.N, t.val = (i 0).val / 128 := ⟨⟨_, by omega⟩, rfl⟩
    refine ⟨t, flush0_10 t, ?_⟩
    show i ∈ ((View.whole main_v0_3).slice (win0_10.rect t)).set
    rw [View.set_slice_whole]
    exact mem_block (index10 t) (by omega) (by omega)

def arr11 : Buf (Elt Ideal) ((c : Thread nD τ).loc main_v0_4) := fun y : S8192x128.Idx => val11 m c (y 0).val (y 1).val

theorem final11 : (dats m 0 c).arrAt 11 cfg0.N = arr11 m c := by
  refine (dats m 0 c).arrAt_eq_of_cover 11 (arr11 m c) (fun t hf => ?_) fun (i : S8192x128.Idx) => ?_
  · rw [Value.flushed11]
    obtain ⟨h0, h1⟩ := index11 t
    funext y
    rw [View.read_apply]
    show (outsAt0 m c t.val t.isLt).2.2.2.2.1 y = val11 m c (win0_11.index t 0 * 128 + 1 * (y 0).val) (win0_11.index t 1 * 128 + 1 * (y 1).val)
    refine (congrArg _ (eq_ix2 y)).trans ((val11_after m c t _ _).trans ?_)
    rw [h0, h1]
    exact congrArg₂ (val11 m c) (by omega) (by omega)
  · have b0 : (i 0).val < 8192 := (i 0).isLt
    have b1 : (i 1).val < 128 := (i 1).isLt
    have hN : cfg0.N = 64 := N_0
    obtain ⟨t, ht⟩ : ∃ t : Fin cfg0.N, t.val = (i 0).val / 128 := ⟨⟨_, by omega⟩, rfl⟩
    refine ⟨t, flush0_11 t, ?_⟩
    show i ∈ ((View.whole main_v0_4).slice (win0_11.rect t)).set
    rw [View.set_slice_whole]
    exact mem_block (index11 t) (by omega) (by omega)

def arr12 : Buf (Elt Ideal) ((c : Thread nD τ).loc main_v0_5) := fun y : S1x128.Idx => val12 m c 64 (y 1).val

theorem final12 : (dats m 0 c).arrAt 12 cfg0.N = arr12 m c := by
  have hN : cfg0.N = 64 := N_0
  refine (dats m 0 c).arrAt_eq_of_cover 12 (arr12 m c) (fun t hf => ?_) fun (i : S1x128.Idx) => ?_
  · have hf := (flush0_12 t).mp hf
    rw [Value.flushed12]
    obtain ⟨-, h1⟩ := index12 t
    funext y
    rw [View.read_apply]
    show (outsAt0 m c t.val t.isLt).2.2.2.2.2 y = val12 m c 64 (win0_12.index t 1 * 128 + 1 * (y 1).val)
    refine (congrArg _ ((eq_ix2 y).trans (congrArg (fun a => ix2 a (y 1)) (Subsingleton.elim (α := Fin 1) (y 0) 0)))).trans ((val12_after m c t.val t.isLt _).trans ?_)
    rw [h1]
    have ht := t.isLt
    exact congrArg₂ (val12 m c) (by omega) (by omega)
  · have b0 : (i 0).val < 1 := (i 0).isLt
    have b1 : (i 1).val < 128 := (i 1).isLt
    obtain ⟨t, ht⟩ : ∃ t : Fin cfg0.N, t.val = 63 := ⟨⟨63, by omega⟩, rfl⟩
    refine ⟨t, (flush0_12 t).mpr (by omega), ?_⟩
    show i ∈ ((View.whole main_v0_5).slice (win0_12.rect t)).set
    rw [View.set_slice_whole]
    exact mem_block (index12 t) (by omega) (by omega)

end Cert.AttnBwdIdeal.Final

end
-- ==== Proof.AttnBwdRefValue.lean ====
/-
  The reference of the attention's backward call, entry by entry: differentiating the softmax line by line gives the
  gradient of the queries that `Ffn.dquery` writes.
-/
module

public import proofs.«01_k».proof.Proof.AttnBwdValue
public import proofs.«01_k».proof.Proof.Gen.AttnBwdRefIdeal.Run
public import Idealize.ShloMosaic.Lib.IdealHost
public import Idealize.ShloMosaic.Lib.Pointwise

@[expose] public section

noncomputable section

namespace Cert.AttnBwdRefIdeal.Read

open Cert.AttnBwdRefIdeal Cert.AttnBwdRefIdeal.Gen Cert.AttnBwdRefIdeal.Value Idealize.ShloMosaic Idealize.ShloMosaic.TcCoe Idealize.SL.Sem Ffn

variable (V : Valuation τ sig (Elt Ideal))

/-- The projections' entry. -/
abbrev P (r q : ℕ) : EReal := at2 (n0 := 8192) (n1 := 5888) (V (Proc.devRef .tc main_arg0)) r q

/-- The entry of the gradient of the attention's result. -/
abbrev O (r q : ℕ) : EReal := at2 (n0 := 8192) (n1 := 1024) (V (Proc.devRef .tc main_arg2)) r q

/-- A head's sink. -/
abbrev T (a : ℕ) : EReal := Cert.AttnBwdIdeal.Final.sink (V (Proc.devRef .tc main_arg1)) a

/-- A row's entry where the key is not before the array's start, else zero. -/
def padded (n j q : ℕ) : EReal := if j < 128 ∧ n = 0 then 0 else P V (keyRow n j) q

/-- The integer zero as a float. -/
theorem sitofp_zero : FloatOps.sitofp (F := Ideal) .f32 (0#32 : BitVec 32) = (0 : EReal) := by
  show (((0#32 : BitVec 32).toInt : ℝ) : EReal) = 0
  simp

/-- The block before each block, with its own, of an array of 128 columns. -/
theorem pair_apply (x : Vec Ideal S64x128x2x64 .f32) (b : ℕ) (hx : ∀ (n : Fin 64) (i : Fin 128) (g : Fin 2) (d : Fin 64), x (ix4 n i g d) = P V (n.val * 128 + i.val) (b + g.val * 64 + d.val))
    (n : Fin 64) (j : Fin 256) (g : Fin 2) (d : Fin 64) :
    concatenate S64x256x2x64 1 [⟨S64x128x2x64, (extractStridedSlice S64x128x2x64 ![0, 0, 0, 0] (pad S65x128x2x64 ![1, 0, 0, 0] ![0, 0, 0, 0] ![0, 0, 0, 0] x (sitofp (F := Ideal) .f32 (constantI S_ 32 0#32)) pads_S64x128x2x64_S65x128x2x64_100_000_000_000 h_S_) slices_S65x128x2x64_S64x128x2x64_0_0_0_0)⟩, ⟨S64x128x2x64, x⟩] concatenates_S64x128x2x64_S64x128x2x64_S64x256x2x64_d1 (ix4 n j g d)
      = padded V n.val j.val (b + g.val * 64 + d.val) := by
  pointwise
  unfold padded keyRow
  by_cases hj : j.val < 128
  · refine (dif_pos hj).trans ?_
    by_cases hn : n.val = 0
    · refine (dif_neg fun h => ?_).trans (Eq.trans ?_ (if_pos ⟨hj, hn⟩).symm)
      · have := h.1.1
        omega
      · exact sitofp_zero
    · refine (dif_pos ⟨⟨by omega, by omega⟩, hj⟩).trans ((hx _ _ _ _).trans ((if_neg fun h => hn h.2).trans ?_).symm)
      rw [if_pos hj]
  · refine (dif_neg hj).trans ((hx _ _ _ _).trans ((if_neg fun h => hj h.1).trans ?_).symm)
    rw [if_neg hj]

theorem key_apply (n : Fin 64) (j : Fin 256) (g : Fin 2) (d : Fin 64) : res_main_v6 V (ix4 n j g d) = padded V n.val j.val (1024 + g.val * 64 + d.val) := by
  refine pair_apply V (res_main_v3 V) 1024 (fun n i g d => ?_) n j g d
  unfold res_main_v3
  pointwise
  exact (at2_eq _ _ _ _ _ rfl (by simp only []; omega)).symm

theorem value_apply (n : Fin 64) (j : Fin 256) (g : Fin 2) (d : Fin 64) : res_main_v10 V (ix4 n j g d) = padded V n.val j.val (1152 + g.val * 64 + d.val) := by
  refine pair_apply V (res_main_v7 V) 1152 (fun n i g d => ?_) n j g d
  unfold res_main_v7
  pointwise
  exact (at2_eq _ _ _ _ _ rfl (by simp only []; omega)).symm

theorem query_apply (n : Fin 64) (i : Fin 128) (g : Fin 2) (r : Fin 8) (d : Fin 64) :
    res_main_v11 V (ix5 n i g r d) = P V (n.val * 128 + i.val) ((g.val * 8 + r.val) * 64 + d.val) := by
  unfold res_main_v11
  pointwise
  exact (at2_eq _ _ _ _ _ rfl (by simp only []; omega)).symm

theorem cotangent_apply (n : Fin 64) (g : Fin 2) (d : Fin 64) (r : Fin 8) (i : Fin 128) :
    res_main_v105 V (ix5 n g d r i) = O V (n.val * 128 + i.val) ((g.val * 8 + r.val) * 64 + d.val) := by
  unfold res_main_v105
  pointwise
  exact (at2_eq _ _ _ _ _ rfl (by simp only []; omega)).symm

theorem valid_apply (n : Fin 64) (g : Fin 2) (r : Fin 8) (i : Fin 128) (j : Fin 256) : res_main_v56_1 V (ix5 n g r i j) = sees n.val i.val j.val := by
  unfold res_main_v56_1 res_main_v24 res_main_v19 sees Ffn.dist
  pointwise

/-- A key before the array's start is not seen. -/
theorem sees_start (n i j : ℕ) (h : j < 128 ∧ n = 0) : sees n i j = 0#1 := by
  obtain ⟨hj, rfl⟩ := h
  have : ∀ j : Fin 128, IntOp.ori (IntOp.cmpi .sgt (BitVec.ofNat 32 0) 0#32) (IntOp.cmpi .sge (BitVec.ofNat 32 j.val) 128#32) = 0#1 := by decide +kernel
  unfold sees
  rw [this ⟨j, hj⟩]
  exact BitVec.and_zero

theorem slope_apply (g : Fin 2) (r : Fin 8) : lit0 (S16.rowMajor (ix1 ⟨g.val * 8 + r.val, by omega⟩)) = slopeWord (g.val * 8 + r.val) := by
  revert g r
  decide +kernel

/-- The reference's scores. -/
theorem score_apply (n : Fin 64) (g : Fin 2) (r : Fin 8) (i : Fin 128) (j : Fin 256) :
    res_main_v56_0 V (ix5 n g r i j) = score (P V) n.val (g.val * 8 + r.val) i.val j := by
  unfold res_main_v56_0 res_main_v24 res_main_v19
  pointwise
  rw [valid_apply]
  unfold score Scalar.select
  by_cases h : sees n.val i.val j.val = 1
  · rw [if_pos h, if_pos h]
    unfold rawScore headSlope
    have hp : ∀ q, padded V n.val j.val q = P V (keyRow n.val j.val) q := fun q =>
      if_neg fun hs => by rw [sees_start _ _ _ hs] at h; exact absurd h (by decide)
    simp only [key_apply, query_apply, hp, slope_apply]
    rw [sub_eq_add_neg, ← EReal.neg_mul, show (g.val * 8 + r.val) / 8 = g.val by omega]
    refine congrArg₂ (· + ·) (congrArg (· * eighth) (Finset.sum_congr rfl fun d _ => mul_comm _ _)) rfl
  · rw [if_neg h, if_neg h]
    exact ofBits_bot

/-! ## A row's weights and gradients -/

/-- The head of a group's `r`-th place. -/
abbrev head (g : Fin 2) (r : Fin 8) : ℕ := g.val * 8 + r.val

/-- A row's scores. -/
abbrev row (n : Fin 64) (g : Fin 2) (r : Fin 8) (i : Fin 128) : Fin 256 → EReal := score (P V) n.val (head g r) i.val

/-- The gradients of a row's weights, with zeros for values before the array's start. -/
def dpad (n : Fin 64) (g : Fin 2) (r : Fin 8) (i : Fin 128) (j : Fin 256) : EReal :=
  ∑ d : Fin 64, O V (n.val * 128 + i.val) (head g r * 64 + d.val) * padded V n.val j.val (1152 + g.val * 64 + d.val)

variable (n : Fin 64) (g : Fin 2) (r : Fin 8) (i : Fin 128)

theorem sink_eq (x : Vec Ideal S16 .f32) {a : ℕ} (h : a < 16) : Cert.AttnBwdIdeal.Final.sink x a = x (ix1 ⟨a, h⟩) := dif_pos h

theorem sink_apply : res_main_v58 V (ix5 0 g r 0 0) = T V (head g r) := by
  unfold res_main_v58
  pointwise
  have h : head g r < 16 := by unfold head; omega
  exact (sink_eq _ h).symm

theorem max_apply : res_main_v59 V (ix4 n g r i) = Finset.univ.fold max ⊥ (row V n g r i) := by
  rw [row, ← funext fun j => score_apply V n g r i j]
  unfold res_main_v59
  generalize res_main_v56_0 V = x
  pointwise
  rw [ofBits_bot]
  exact Shape.ReducesTo.fold_fiber_r5_a4 (α := EReal) _ _ max _ _

theorem column_apply (k : Fin 1) : res_main_v65 V (ix5 n g r i k) = Finset.univ.fold max ⊥ (row V n g r i) := by
  rw [← max_apply]
  unfold res_main_v65
  generalize res_main_v59 V = x
  pointwise

theorem larger_apply (x : FVec Ideal S64x2x8x128x1 .f32) (y : FVec Ideal S1x2x8x1x1 .f32) (k : Fin 1) :
    (maximumf x (broadcastInDim S64x2x8x128x1 ![0, 1, 2, 3, 4] bcast_S1x2x8x1x1_S64x2x8x128x1_0_1_2_3_4 y) : FVec Ideal S64x2x8x128x1 .f32) (ix5 n g r i k)
      = max (x (ix5 n g r i k) : EReal) (y (ix5 0 g r 0 0)) := by
  refine congrArg (max (α := EReal) (x (ix5 n g r i k))) ?_
  pointwise

theorem top_apply (k : Fin 1) : res_main_v67 V (ix5 n g r i k) = top (row V n g r i) (T V (head g r)) := by
  unfold res_main_v67
  exact (larger_apply n g r i _ _ k).trans (congrArg₂ max (column_apply V n g r i k) (sink_apply V g r))

theorem hit_apply (j : Fin 256) : res_main_v63 V (ix5 n g r i j)
    = FloatOps.uitofp (F := Ideal) .f32 (BitVec.ofBool (decide (row V n g r i j = Finset.univ.fold max ⊥ (row V n g r i)))) := by
  rw [← max_apply, row, ← score_apply]
  unfold res_main_v63
  generalize res_main_v59 V = x
  generalize res_main_v56_0 V = y
  pointwise

theorem wgt_apply (j : Fin 256) : res_main_v88 V (ix5 n g r i j) = wgt (row V n g r i) (T V (head g r)) j := by
  rw [wgt, ← top_apply V n g r i 0, row, ← score_apply]
  unfold res_main_v88
  generalize res_main_v67 V = x
  generalize res_main_v56_0 V = y
  pointwise

theorem sinkWgt_apply (k : Fin 1) : res_main_v93 V (ix5 n g r i k) = sinkWgt (row V n g r i) (T V (head g r)) := by
  rw [sinkWgt, ← top_apply V n g r i k, ← sink_apply]
  unfold res_main_v93
  generalize res_main_v67 V = x
  generalize res_main_v58 V = y
  pointwise

theorem den_apply (k : Fin 1) : res_main_v94 V (ix5 n g r i k) = den (row V n g r i) (T V (head g r)) := by
  unfold res_main_v94
  generalize hx : res_main_v88 V = x
  generalize hy : res_main_v93 V = y
  pointwise
  subst hx hy
  exact congrArg₂ (· + ·) (Finset.sum_congr rfl fun j _ => wgt_apply V n g r i j) (sinkWgt_apply V n g r i k)

theorem dprob_apply (j : Fin 256) : res_main_v106 V (ix5 n g r i j) = dpad V n g r i j := by
  rw [dpad, Finset.sum_congr rfl fun d _ => congrArg₂ (· * ·) (cotangent_apply V n g d r i).symm (value_apply V n j g d).symm]
  unfold res_main_v106
  generalize res_main_v105 V = x
  generalize res_main_v10 V = y
  pointwise

theorem dDen_apply (k : Fin 1) : res_main_v114 V (ix5 n g r i k) = dDen (row V n g r i) (dpad V n g r i) (T V (head g r)) := by
  rw [dDen, ← den_apply V n g r i 0, Finset.sum_congr rfl fun j _ => congrArg₂ (· * ·) (congrArg (· * _) (dprob_apply V n g r i j).symm) (wgt_apply V n g r i j).symm]
  unfold res_main_v114
  generalize res_main_v106 V = x
  generalize res_main_v94 V = y
  generalize res_main_v88 V = z
  pointwise

theorem dExp_apply (j : Fin 256) : res_main_v124 V (ix5 n g r i j) = dExp (row V n g r i) (dpad V n g r i) (T V (head g r)) j := by
  rw [dExp, ← den_apply V n g r i 0, ← dDen_apply V n g r i 0, ← dprob_apply, ← wgt_apply]
  unfold res_main_v124
  generalize res_main_v106 V = x
  generalize res_main_v94 V = y
  generalize res_main_v88 V = z
  generalize res_main_v114 V = w
  pointwise
  rw [Fin.sum_univ_one]

theorem dTop_apply (k : Fin 1) : res_main_v128 V (ix5 n g r i k) = dTop (row V n g r i) (dpad V n g r i) (T V (head g r)) := by
  unfold res_main_v128 res_main_v117
  generalize hx : res_main_v114 V = x
  generalize hy : res_main_v93 V = y
  generalize hz : res_main_v124 V = z
  pointwise
  subst hx hy hz
  exact congrArg₂ (fun a b : EReal => -a + b) (congrArg₂ (· * ·) (dDen_apply V n g r i k) (sinkWgt_apply V n g r i k))
    (Finset.sum_congr rfl fun j _ => congrArg Neg.neg (dExp_apply V n g r i j))

/-- A score's gradient, with the part that comes through the maximum shared among the keys that attain it. -/
theorem dscore_apply : ∃ w : EReal, ∀ j : Fin 256, res_main_v144 V (ix5 n g j i r)
    = Scalar.select (sees n.val i.val j.val) ((dExp (row V n g r i) (dpad V n g r i) (T V (head g r)) j
        + Ideal.div (dTop (row V n g r i) (dpad V n g r i) (T V (head g r)) * w) (∑ x, (res_main_v63 V (ix5 n g r i x) : EReal)) * res_main_v63 V (ix5 n g r i j)) * eighth) 0 := by
  obtain ⟨w, hw⟩ : ∃ w : Vec Ideal S64x2x8x128x1 .f32, res_main_v144 V
      = transpose S64x2x256x128x8 [0, 1, 4, 3, 2] (mulf (select (res_main_v56_1 V) (addf (res_main_v124 V) (mulf (broadcastInDim S64x2x8x128x256 ![0, 1, 2, 3] bcast_S64x2x8x128_S64x2x8x128x256_0_1_2_3 (Host.divf (Host.reduceAdd (mulf (res_main_v128 V) w) (constant S_ .f32 0x00000000#32) reducesTo_S64x2x8x128x1_S64x2x8x128_d4 h_S_) (Host.reduceAdd (res_main_v63 V) (constant S_ .f32 0x00000000#32) reducesTo_S64x2x8x128x256_S64x2x8x128_d4 h_S_))) (res_main_v63 V))) (broadcastInDim S64x2x8x128x256 ![] bcast_S_S64x2x8x128x256 (constant S_ .f32 0x00000000#32))) (broadcastInDim S64x2x8x128x256 ![] bcast_S_S64x2x8x128x256 (constant S_ .f32 0x3E000000#32))) transposes_S64x2x8x128x256_S64x2x256x128x8_0_1_4_3_2 := ⟨_, rfl⟩
  refine ⟨w (ix5 n g r i 0), fun j => ?_⟩
  rw [← dTop_apply V n g r i 0, ← dExp_apply, ← valid_apply V n g r i j, hw, eighth]
  clear hw
  generalize res_main_v124 V = z
  generalize res_main_v128 V = z1
  generalize res_main_v63 V = z2
  generalize res_main_v56_1 V = z3
  pointwise
  rw [Fin.sum_univ_one]

/-- The gradient of the queries, from the scores' gradients and the keys. -/
theorem dquery_apply (x : Vec Ideal S64x2x256x128x8 .f32) (y : Vec Ideal S64x256x2x64 .f32) (p : Fin 8192) (q : Fin 1024) :
    (truncf .bf16 (shapeCast S8192x1024 (transpose S64x128x2x8x64 [0, 2, 1, 3, 4] (Host.dotGeneral (F := Ideal) (φ₁ := .f32) (φ₂ := .f32) dot_S64x2x256x128x8_S64x256x2x64_S64x2x128x8x64_2_1_34_3_01_02 none x y) transposes_S64x2x128x8x64_S64x128x2x8x64_0_2_1_3_4) shapeCasts_S64x128x2x8x64_S8192x1024) bitsLt_bf16_f32 : Vec Ideal S8192x1024 .bf16) (ix2 p q)
      = ∑ j : Fin 256, x (ix5 ⟨p.val / 128, by omega⟩ ⟨q.val / 512, by omega⟩ j ⟨p.val % 128, by omega⟩ ⟨q.val / 64 % 8, by omega⟩)
        * y (ix4 ⟨p.val / 128, by omega⟩ j ⟨q.val / 512, by omega⟩ ⟨q.val % 64, by omega⟩) := by
  pointwise

/-! ## The gradients where the arguments are finite -/

/-- A sum of products of real numbers is a real number. -/
theorem real_dot {n : ℕ} {f h : Fin n → EReal} (hf : ∀ k, ∃ y : ℝ, f k = y) (hh : ∀ k, ∃ y : ℝ, h k = y) : ∃ y : ℝ, ∑ k, f k * h k = y := by
  choose a ha using hf
  choose b hb using hh
  refine ⟨∑ k, a k * b k, ?_⟩
  rw [← coe_sum]
  exact Finset.sum_congr rfl fun k _ => by rw [ha, hb, EReal.coe_mul]

/-- A slope is a real number. -/
theorem slope_real (h : ℕ) : ∃ y : ℝ, headSlope h = y := by
  have e : ∀ h, ((slopeWord h).extractLsb' 23 8).toNat ≠ 2 ^ 8 - 1 := by
    intro h
    unfold slopeWord
    split <;> decide
  unfold headSlope Ideal.ofBits Ideal.ieee
  dsimp only
  rw [if_neg (e h)]
  split <;> exact ⟨_, rfl⟩

/-- The number of keys that attain a row's maximum is not zero. -/
theorem hits_ne_zero {n : ℕ} (s : Fin n → EReal) (k : Fin n) {f : Fin n → EReal}
    (hf : ∀ j, f j = FloatOps.uitofp (F := Ideal) .f32 (BitVec.ofBool (decide (s j = Finset.univ.fold max ⊥ s)))) : ∑ j, f j ≠ 0 := by
  rw [Finset.sum_congr rfl fun j _ => hf j]
  have hle : ∀ j, s j ≤ Finset.univ.fold max ⊥ s := fun j => Finset.le_fold_max _ |>.mpr (Or.inr ⟨j, Finset.mem_univ _, le_rfl⟩)
  obtain ⟨j, hj⟩ : ∃ j, s j = Finset.univ.fold max ⊥ s := by
    by_contra hc
    have hlt : ∀ j, s j < Finset.univ.fold max ⊥ s := fun j => lt_of_le_of_ne (hle j) fun h => hc ⟨j, h⟩
    exact lt_irrefl _ ((Finset.fold_max_lt _).mpr ⟨lt_of_le_of_lt bot_le (hlt k), fun j _ => hlt j⟩)
  have h0 : ∀ b : BitVec 1, (0 : EReal) ≤ FloatOps.uitofp (F := Ideal) .f32 b := fun b => EReal.coe_nonneg.mpr (Nat.cast_nonneg _)
  have h1 : (1 : EReal) ≤ ∑ j, FloatOps.uitofp (F := Ideal) .f32 (BitVec.ofBool (decide (s j = Finset.univ.fold max ⊥ s))) := by
    refine le_trans (le_of_eq ?_) (Finset.single_le_sum (fun j _ => h0 _) (Finset.mem_univ j))
    rw [decide_eq_true hj]
    show (1 : EReal) = (((1 : ℕ) : ℝ) : EReal)
    simp
  exact (lt_of_lt_of_le zero_lt_one h1).ne'

/-- A key that is seen is not before the array's start. -/
theorem padded_of_seen (j : Fin 256) (h : sees n.val i.val j.val = 1) (q : ℕ) : padded V n.val j.val q = P V (keyRow n.val j.val) q :=
  if_neg fun hs => by rw [sees_start _ _ _ hs] at h; exact absurd h (by decide)

/-- A sum over the blocks and their rows. -/
theorem sum_blocks (v : S64x2x8x128x1.Idx → EReal) (b : EReal) : Ideal.hostReduceAdd reducesTo_S64x2x8x128x1_S2x8x1_d0_3 v b (ix3 g r 0)
    = b + ∑ n : Fin 64, ∑ i : Fin 128, v (ix5 n g r i 0) := by
  refine congrArg (b + ·) ((Finset.sum_filter_eq_sum_of_fiber _ (fun k : Fin 64 × Fin 128 => ix5 k.1 g r k.2 (0 : Fin 1))
    (fun _ _ e => Prod.ext (congrFun e 0) (congrFun e 3)) (fun i => ⟨fun e => ⟨(i 0, i 3), ?_⟩, ?_⟩) v).trans (Fintype.sum_prod_type _))
  · funext a
    apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => exact (congrArg Fin.val (congrFun e 2)).symm
  · rintro ⟨k, rfl⟩
    funext a
    apply Fin.ext
    match a with
    | ⟨0, _⟩ => rfl
    | ⟨1, _⟩ => rfl
    | ⟨2, _⟩ => rfl

/-- A sum over axes that have one entry. -/
theorem sum_one (v : S1x2x8x1x1.Idx → EReal) (b : EReal) : Ideal.hostReduceAdd reducesTo_S1x2x8x1x1_S2x8_d0_3_4 v b (ix2 g r)
    = b + v (ix5 0 g r 0 0) := by
  refine congrArg (b + ·) ((Finset.sum_filter_eq_sum_of_fiber _ (fun k : Fin 1 => ix5 k g r (0 : Fin 1) (0 : Fin 1))
    (fun _ _ e => congrFun e 0) (fun i => ⟨fun e => ⟨i 0, ?_⟩, ?_⟩) v).trans (Fin.sum_univ_one _))
  · funext a
    apply Fin.ext
    match a with
    | ⟨0, _⟩ => rfl
    | ⟨1, _⟩ => exact (congrArg Fin.val (congrFun e 0)).symm
    | ⟨2, _⟩ => exact (congrArg Fin.val (congrFun e 1)).symm
    | ⟨3, _⟩ => exact (congrArg Fin.val (Subsingleton.elim (α := Fin 1) (i 3) 0)).symm
    | ⟨4, _⟩ => exact (congrArg Fin.val (Subsingleton.elim (α := Fin 1) (i 4) 0)).symm
  · rintro ⟨k, rfl⟩
    funext a
    apply Fin.ext
    match a with
    | ⟨0, _⟩ => rfl
    | ⟨1, _⟩ => rfl

/-- The sinks' row, of what each row of scores gives its head's sink. -/
theorem sinkRow_apply (x y w : Vec Ideal S64x2x8x128x1 .f32) (q : Fin 128) :
    (shapeCast S1x128 (pad S128 ![0] ![112] ![0] (shapeCast S16 (Host.reduceAdd (F := Ideal) (addf (shapeCast S1x2x8x1x1 (Host.reduceAdd (F := Ideal) x (constant S_ .f32 0x00000000#32) reducesTo_S64x2x8x128x1_S2x8x1_d0_3 h_S_) shapeCasts_S2x8x1_S1x2x8x1x1) (shapeCast S1x2x8x1x1 (Host.reduceAdd (F := Ideal) (mulf y w) (constant S_ .f32 0x00000000#32) reducesTo_S64x2x8x128x1_S2x8x1_d0_3 h_S_) shapeCasts_S2x8x1_S1x2x8x1x1)) (constant S_ .f32 0x00000000#32) reducesTo_S1x2x8x1x1_S2x8_d0_3_4 h_S_) shapeCasts_S2x8_S16) (sitofp (F := Ideal) .f32 (constantI S_ 32 0#32)) pads_S16_S128_01120 h_S_) shapeCasts_S128_S1x128 : Vec Ideal S1x128 .f32) (ix2 0 q)
      = if h : q.val < 16 then (∑ n : Fin 64, ∑ i : Fin 128, x (ix5 n ⟨q.val / 8, by omega⟩ ⟨q.val % 8, by omega⟩ i 0))
          + ∑ n : Fin 64, ∑ i : Fin 128, y (ix5 n ⟨q.val / 8, by omega⟩ ⟨q.val % 8, by omega⟩ i 0) * w (ix5 n ⟨q.val / 8, by omega⟩ ⟨q.val % 8, by omega⟩ i 0) else 0 := by
  pointwise
  split
  · rw [sum_one]
    pointwise
    exact congrArg₂ (· + ·) ((sum_blocks _ _ _ _).trans (zero_add _)) ((sum_blocks _ _ _ _).trans (zero_add _))
  · exact sitofp_zero

section Finite

variable (hP : ∀ r q, q < 1280 → ∃ y : ℝ, P V r q = y) (hO : ∀ r q, ∃ y : ℝ, O V r q = y) (hT : ∀ a, ∃ y : ℝ, T V a = y)
include hP hO hT

theorem row_ne_top (j : Fin 256) : row V n g r i j ≠ ⊤ := by
  unfold row score Scalar.select
  split
  · obtain ⟨x, hx⟩ := real_dot (fun d : Fin 64 => hP (n.val * 128 + i.val) (head g r * 64 + d.val) (by unfold head; omega))
      (fun d : Fin 64 => hP (keyRow n.val j.val) (1024 + head g r / 8 * 64 + d.val) (by unfold head; omega))
    obtain ⟨y, hy⟩ := slope_real (head g r)
    unfold rawScore
    rw [hx, hy, eighth_eq, ← EReal.coe_mul]
    show ((x * (1 / 8) : ℝ) : EReal) - (y : EReal) * (((Ffn.dist i.val j.val).toInt : ℝ) : EReal) ≠ ⊤
    rw [← EReal.coe_mul, ← EReal.coe_sub]
    exact EReal.coe_ne_top _
  · exact bot_ne_top

theorem padded_real (j q : ℕ) (hq : q < 1280) : ∃ y : ℝ, padded V n.val j q = y := by
  unfold padded
  split
  · exact ⟨0, rfl⟩
  · exact hP _ _ hq

/-- What differentiating the softmax gives, against what the kernel computes. -/
theorem grads : dTop (row V n g r i) (dpad V n g r i) (T V (head g r)) = 0
    ∧ (∀ j, dExp (row V n g r i) (dpad V n g r i) (T V (head g r)) j * eighth
        = dsc (row V n g r i) (dprob (P V) (O V) n.val (head g r) i.val) (T V (head g r)) j)
    ∧ dDen (row V n g r i) (dpad V n g r i) (T V (head g r)) * sinkWgt (row V n g r i) (T V (head g r))
        = dSink (row V n g r i) (dprob (P V) (O V) n.val (head g r) i.val) (T V (head g r)) := by
  have hg : head g r / 8 = g.val := by unfold head; omega
  refine grads_eq (row_ne_top V n g r i hP hO hT) (hT (head g r))
    (fun j => real_dot (fun d => hO _ _) fun d => hP _ _ (by omega))
    (fun j => real_dot (fun d => hO _ _) fun d => padded_real V n hP hO hT _ _ (by omega))
    (fun j hb => Finset.sum_congr rfl fun d _ => ?_)
  rw [padded_of_seen V n i j ?_, hg]
  by_contra hc
  exact hb (if_neg hc)

/-- A score's gradient: as the kernel has it. -/
theorem entry_apply (j : Fin 256) (x : EReal) (hx : x = res_main_v144 V (ix5 n g j i r)) :
    x = dsc (row V n g r i) (dprob (P V) (O V) n.val (head g r) i.val) (T V (head g r)) j := by
  obtain ⟨w, hw⟩ := dscore_apply V n g r i
  rw [hx, hw]
  unfold Scalar.select
  by_cases hj : sees n.val i.val j.val = 1
  · obtain ⟨h0, h1, -⟩ := grads V n g r i hP hO hT
    rw [if_pos hj, h0, zero_mul, Ideal.zero_div (hits_ne_zero _ 0 fun j => hit_apply V n g r i j), zero_mul, add_zero, h1]
  · rw [if_neg hj, dsc_masked (row_ne_top V n g r i hP hO hT) (hT _) _ j (if_neg hj)]

/-- A score's gradient times its key's entry: as the kernel has it. -/
theorem term_apply (j : Fin 256) (d : Fin 64) (x y : EReal) (hx : x = res_main_v144 V (ix5 n g j i r)) (hy : y = res_main_v6 V (ix4 n j g d)) :
    x * y = dsc (row V n g r i) (dprob (P V) (O V) n.val (head g r) i.val) (T V (head g r)) j * P V (keyRow n.val j.val) (1024 + head g r / 8 * 64 + d.val) := by
  have hg : head g r / 8 = g.val := by unfold head; omega
  rw [entry_apply V n g r i hP hO hT j x hx, hy, key_apply, hg]
  by_cases hj : sees n.val i.val j.val = 1
  · rw [padded_of_seen V n i j hj]
  · rw [dsc_masked (row_ne_top V n g r i hP hO hT) (hT _) _ j (if_neg hj), zero_mul, zero_mul]

/-- The reference's result. -/
theorem result_apply (p : Fin 8192) (q : Fin 1024) :
    (truncf .bf16 (shapeCast S8192x1024 (transpose S64x128x2x8x64 [0, 2, 1, 3, 4] (Host.dotGeneral (F := Ideal) (φ₁ := .f32) (φ₂ := .f32) dot_S64x2x256x128x8_S64x256x2x64_S64x2x128x8x64_2_1_34_3_01_02 none (res_main_v144 V) (res_main_v6 V)) transposes_S64x2x128x8x64_S64x128x2x8x64_0_2_1_3_4) shapeCasts_S64x128x2x8x64_S8192x1024) bitsLt_bf16_f32 : Vec Ideal S8192x1024 .bf16) (ix2 p q)
      = dquery (P V) (O V) (T V) (p.val / 128) (q.val / 64) (p.val % 128) (q.val % 64) := by
  have hh : head ⟨q.val / 512, by omega⟩ ⟨q.val / 64 % 8, by omega⟩ = q.val / 64 := by simp only [head]; omega
  refine (dquery_apply _ _ p q).trans (Eq.trans ?_ (congrArg (fun h => dquery (P V) (O V) (T V) (p.val / 128) h (p.val % 128) (q.val % 64)) hh))
  unfold dquery
  refine Finset.sum_congr rfl fun j _ => ?_
  exact term_apply V ⟨p.val / 128, by omega⟩ ⟨q.val / 512, by omega⟩ ⟨q.val / 64 % 8, by omega⟩ ⟨p.val % 128, by omega⟩ hP hO hT j ⟨q.val % 64, by omega⟩ _ _ rfl rfl

/-- The gradients of the keys, for a block's 256. -/
theorem dkeys_apply (j : Fin 256) (d : Fin 64) (x : EReal) (hx : x = res_main_v148 V (ix4 n j g d)) :
    x = dkey (P V) (O V) (T V) n.val g.val j d.val := by
  have e : ∀ (x : Vec Ideal S64x2x256x128x8 .f32) (y : Vec Ideal S64x128x2x8x64 .f32),
      (transpose S64x256x2x64 [0, 2, 1, 3] (Host.dotGeneral (F := Ideal) (φ₁ := .f32) (φ₂ := .f32) dot_S64x2x256x128x8_S64x128x2x8x64_S64x2x256x64_34_13_2_4_01_02 none x y) transposes_S64x2x256x64_S64x256x2x64_0_2_1_3 : Vec Ideal S64x256x2x64 .f32) (ix4 n j g d)
        = ∑ i : Fin 128, ∑ r : Fin 8, x (ix5 n g j i r) * y (ix5 n i g r d) := by
    intro x y
    pointwise
  refine hx.trans ((e (res_main_v144 V) (res_main_v11 V)).trans (Finset.sum_comm.trans ?_))
  exact Finset.sum_congr rfl fun r _ => Finset.sum_congr rfl fun i _ =>
    congrArg₂ (· * ·) (entry_apply V n g r i hP hO hT j _ rfl) (query_apply V n i g r d)

/-- The gradients of the values, for a block's 256. -/
theorem dvalues_apply (j : Fin 256) (d : Fin 64) (x : EReal) (hx : x = res_main_v108 V (ix4 n j g d)) :
    x = dvalue (P V) (O V) (T V) n.val g.val j d.val := by
  have e : ∀ (x : Vec Ideal S64x2x64x8x128 .f32) (y : Vec Ideal S64x2x8x128x256 .f32),
      (transpose S64x256x2x64 [0, 3, 1, 2] (Host.dotGeneral (F := Ideal) (φ₁ := .f32) (φ₂ := .f32) dot_S64x2x64x8x128_S64x2x8x128x256_S64x2x64x256_34_23_2_4_01_01 none x y) transposes_S64x2x64x256_S64x256x2x64_0_3_1_2 : Vec Ideal S64x256x2x64 .f32) (ix4 n j g d)
        = ∑ r : Fin 8, ∑ i : Fin 128, x (ix5 n g d r i) * y (ix5 n g r i j) := by
    intro x y
    pointwise
  have e' : ∀ r i (x : EReal), x = res_main_v96 V (ix5 n g r i j) → x = prob (row V n g r i) (T V (head g r)) j := by
    intro r i x hx
    rw [← prob_eq (row_ne_top V n g r i hP hO hT) (hT _), ← wgt_apply, ← den_apply V n g r i 0, hx]
    unfold res_main_v96
    generalize res_main_v88 V = y
    generalize res_main_v94 V = z
    pointwise
  refine hx.trans ((e (res_main_v105 V) (res_main_v96 V)).trans ?_)
  exact Finset.sum_congr rfl fun r _ => Finset.sum_congr rfl fun i _ =>
    (congrArg₂ (α := EReal) (β := EReal) (· * ·) (cotangent_apply V n g d r i) (e' r i _ rfl)).trans (mul_comm _ _)

/-- The sinks' gradients, each in its head's lane. -/
theorem dsinks_apply (q : Fin 128) :
    (shapeCast S1x128 (pad S128 ![0] ![112] ![0] (shapeCast S16 (Host.reduceAdd (F := Ideal) (addf (shapeCast S1x2x8x1x1 (Host.reduceAdd (F := Ideal) (res_main_v117 V) (constant S_ .f32 0x00000000#32) reducesTo_S64x2x8x128x1_S2x8x1_d0_3 h_S_) shapeCasts_S2x8x1_S1x2x8x1x1) (shapeCast S1x2x8x1x1 (Host.reduceAdd (F := Ideal) (mulf (res_main_v128 V) (select (cmpf .ogt (broadcastInDim S64x2x8x128x1 ![0, 1, 2, 3, 4] bcast_S1x2x8x1x1_S64x2x8x128x1_0_1_2_3_4 (res_main_v58 V)) (res_main_v65 V)) (broadcastInDim S64x2x8x128x1 ![] bcast_S_S64x2x8x128x1 (constant S_ .f32 0x3F800000#32)) (select (cmpf .oeq (broadcastInDim S64x2x8x128x1 ![0, 1, 2, 3, 4] bcast_S1x2x8x1x1_S64x2x8x128x1_0_1_2_3_4 (res_main_v58 V)) (res_main_v65 V)) (broadcastInDim S64x2x8x128x1 ![] bcast_S_S64x2x8x128x1 (constant S_ .f32 0x3F000000#32)) (broadcastInDim S64x2x8x128x1 ![] bcast_S_S64x2x8x128x1 (constant S_ .f32 0x00000000#32))))) (constant S_ .f32 0x00000000#32) reducesTo_S64x2x8x128x1_S2x8x1_d0_3 h_S_) shapeCasts_S2x8x1_S1x2x8x1x1)) (constant S_ .f32 0x00000000#32) reducesTo_S1x2x8x1x1_S2x8_d0_3_4 h_S_) shapeCasts_S2x8_S16) (sitofp (F := Ideal) .f32 (constantI S_ 32 0#32)) pads_S16_S128_01120 h_S_) shapeCasts_S128_S1x128 : Vec Ideal S1x128 .f32) (ix2 0 q)
      = if q.val < 16 then ∑ n : Fin 64, dsinkAt (P V) (O V) (T V) n.val q.val else 0 := by
  have e : ∀ n g r i (x : EReal), x = res_main_v117 V (ix5 n g r i 0)
      → x = dSink (row V n g r i) (dprob (P V) (O V) n.val (head g r) i.val) (T V (head g r)) := by
    intro n g r i x hx
    rw [← (grads V n g r i hP hO hT).2.2, ← dDen_apply V n g r i 0, ← sinkWgt_apply V n g r i 0, hx]
    unfold res_main_v117
    generalize res_main_v114 V = x
    generalize res_main_v93 V = y
    pointwise
  have z : ∀ n g r i (x : EReal), x = res_main_v128 V (ix5 n g r i 0) → x = 0 := fun n g r i x hx =>
    hx.trans ((dTop_apply V n g r i 0).trans (grads V n g r i hP hO hT).1)
  refine (sinkRow_apply (res_main_v117 V) (res_main_v128 V) _ q).trans ?_
  split
  · rename_i hq
    refine (congrArg (_ + ·) (Finset.sum_eq_zero fun n _ => Finset.sum_eq_zero fun i _ =>
      (congrArg (· * _) (z n ⟨q.val / 8, by omega⟩ ⟨q.val % 8, by omega⟩ i _ rfl)).trans (zero_mul _))).trans ((add_zero _).trans ?_)
    refine Finset.sum_congr rfl fun n _ => ?_
    have hh : head ⟨q.val / 8, by omega⟩ ⟨q.val % 8, by omega⟩ = q.val := by simp only [head]; omega
    refine Eq.trans ?_ (congrArg (fun h => dsinkAt (P V) (O V) (T V) n.val h) hh)
    unfold dsinkAt
    exact Finset.sum_congr rfl fun i _ => e n ⟨q.val / 8, by omega⟩ ⟨q.val % 8, by omega⟩ i _ rfl
  · rfl

end Finite

/-- The rows of a block's own keys or values. -/
theorem own_apply (x : Vec Ideal S64x256x2x64 .f32) (p : Fin 8192) (q : Fin 128) :
    (shapeCast S8192x128 (extractStridedSlice S64x128x2x64 ![0, 128, 0, 0] x slices_S64x256x2x64_S64x128x2x64_0_128_0_0) shapeCasts_S64x128x2x64_S8192x128 : Vec Ideal S8192x128 .f32) (ix2 p q)
      = x (ix4 ⟨p.val / 128, by omega⟩ ⟨128 + p.val % 128, by omega⟩ ⟨q.val / 64, by omega⟩ ⟨q.val % 64, by omega⟩) := by
  pointwise

/-- The rows of the block before. -/
theorem prev_apply (x : Vec Ideal S64x256x2x64 .f32) (p : Fin 8192) (q : Fin 128) :
    (shapeCast S8192x128 (extractStridedSlice S64x128x2x64 ![0, 0, 0, 0] x slices_S64x256x2x64_S64x128x2x64_0_0_0_0) shapeCasts_S64x128x2x64_S8192x128 : Vec Ideal S8192x128 .f32) (ix2 p q)
      = x (ix4 ⟨p.val / 128, by omega⟩ ⟨p.val % 128, by omega⟩ ⟨q.val / 64, by omega⟩ ⟨q.val % 64, by omega⟩) := by
  pointwise

end Cert.AttnBwdRefIdeal.Read

end
-- ==== Proof.AttnBwdClaims.lean ====
/-
  The claims about the attention's backward call: the frames, the named constant, and the equality of the six
  gradients with the reference's where the projections that the attention reads, the sinks and the cotangent are finite.
-/
module

public import proofs.«01_k».proof.Defs
public import proofs.«01_k».proof.Proof.AttnBwdKeys
public import proofs.«01_k».proof.Proof.AttnBwdRefValue
public import proofs.«01_k».proof.Proof.FfnClaims
public import proofs.«01_k».proof.Proof.Gen.AttnBwd.Frame
public import proofs.«01_k».proof.Proof.Gen.Pre_attn_finite

@[expose] public section

noncomputable section

namespace AttnBwdClaims

open Idealize.ShloMosaic Idealize.ShloMosaic.TcCoe Idealize.SL.Sem Cert Ffn FfnClaims

variable (a0 : Vec Ideal Pre_attn_finite.S8192x5888 .f32) (a1 : Vec Ideal Pre_attn_finite.S16 .f32) (a2 : Vec Ideal Pre_attn_finite.S8192x1024 .bf16)

/-- What the precondition says, entry by entry. -/
theorem finite_of_pre (h : (Pre_attn_finite.fn (F := Ideal) a0 a1 a2).1 = (fun _ => 1#1)
      ∧ (Pre_attn_finite.fn (F := Ideal) a0 a1 a2).2.1 = (fun _ => 1#1)
      ∧ (Pre_attn_finite.fn (F := Ideal) a0 a1 a2).2.2 = (fun _ => 1#1)) :
    (∀ r q, q < 1280 → ∃ y : ℝ, at2 a0 r q = y) ∧ (∀ r q, ∃ y : ℝ, at2 a2 r q = y) ∧ ∀ a, ∃ y : ℝ, AttnBwdIdeal.Final.sink a1 a = y := by
  obtain ⟨h0, h1, h2⟩ := h
  have z : ∃ y : ℝ, (0 : EReal) = y := ⟨0, rfl⟩
  refine ⟨fun r q hq => ?_, fun r q => ?_, fun a => ?_⟩
  · by_cases hb : r < 8192
    · rw [at2_eq a0 ⟨r, hb⟩ ⟨q, by omega⟩ r q rfl rfl]
      have e := congrFun h0 (ix2 ⟨r, hb⟩ ⟨q, hq⟩)
      have hs : a0 (ix2 ⟨r, hb⟩ ⟨q, by omega⟩) = extractStridedSlice Pre_attn_finite.S8192x1280 ![0, 0] a0
          Pre_attn_finite.Gen.slices_S8192x5888_S8192x1280_0_0 (ix2 ⟨r, hb⟩ ⟨q, hq⟩) := by
        pointwise
      unfold Pre_attn_finite.fn at e
      refine real_of_lt _ ?_
      rw [← ofBits_inf, hs]
      exact e
    · rw [at2_row _ _ _ (by omega)]; exact z
  · by_cases hb : r < 8192 ∧ q < 1024
    · rw [at2_eq a2 ⟨r, hb.1⟩ ⟨q, hb.2⟩ r q rfl rfl]
      have e := congrFun h2 (ix2 ⟨r, hb.1⟩ ⟨q, hb.2⟩)
      unfold Pre_attn_finite.fn at e
      refine real_of_lt _ ?_
      rw [← ofBits_inf]
      exact e
    · rw [at2, dif_neg hb]; exact z
  · by_cases ha : a < 16
    · rw [AttnBwdRefIdeal.Read.sink_eq a1 ha]
      have e := congrFun h1 (ix1 ⟨a, ha⟩)
      unfold Pre_attn_finite.fn at e
      refine real_of_lt _ ?_
      rw [← ofBits_inf]
      exact e
    · rw [AttnBwdIdeal.Final.sink, dif_neg ha]; exact z

/-! The frames. -/

theorem frame_p : quiescent_AttnBwd := fun m ρ _ => Cert.AttnBwd.Gen.frame m ρ

theorem frame_pi : quiescent_AttnBwdIdeal := fun m ρ _ => Cert.AttnBwdIdeal.Gen.frame m ρ

theorem frame_pi_pre : quiescent_AttnBwdIdeal_pre_attn_finite := fun m ρ _ => Cert.AttnBwdIdeal.Gen.frame m ρ

theorem frame_ri : quiescent_AttnBwdRefIdeal := fun m ρ _ =>
  (θ_run _ _ _).mono (fun r h => ⟨fun c => (h c).2.2.2.2.2.2, sem_eq_zero_of_no_sems (by decide) r.2⟩) (Cert.AttnBwdRefIdeal.Value.run m ρ)

theorem frame_ri_pre : quiescent_AttnBwdRefIdeal_pre_attn_finite := fun m ρ _ => frame_ri m ρ trivial

/-- The named constant is minus infinity. -/
theorem preserves : preserves_AttnBwd_AttnBwdIdeal :=
  IdealRules.named_const.statement Cert.AttnBwdIdeal.κ "mask" .f32 0xF149F2CA#32 ⊥ rfl

section Reference

open Cert.AttnBwdRefIdeal Cert.AttnBwdRefIdeal.Gen Cert.AttnBwdRefIdeal.Value

variable (V : Valuation AttnBwdRefIdeal.τ AttnBwdRefIdeal.sig (Elt Ideal))
  (e0 : V (Proc.devRef .tc main_arg0) = a0) (e1 : V (Proc.devRef .tc main_arg1) = a1) (e2 : V (Proc.devRef .tc main_arg2) = a2)
  (hP : ∀ r q, q < 1280 → ∃ y : ℝ, at2 a0 r q = y) (hO : ∀ r q, ∃ y : ℝ, at2 a2 r q = y)
  (hT : ∀ a, ∃ y : ℝ, AttnBwdIdeal.Final.sink a1 a = y)
include e0 e1 e2 hP hO hT

/-- The reference's gradient of the queries, from the arrays its arguments hold. -/
theorem ref_queries :
    (truncf .bf16 (shapeCast S8192x1024 (transpose S64x128x2x8x64 [0, 2, 1, 3, 4] (Host.dotGeneral (F := Ideal) (φ₁ := .f32) (φ₂ := .f32) dot_S64x2x256x128x8_S64x256x2x64_S64x2x128x8x64_2_1_34_3_01_02 none (res_main_v144 V) (res_main_v6 V)) transposes_S64x2x128x8x64_S64x128x2x8x64_0_2_1_3_4) shapeCasts_S64x128x2x8x64_S8192x1024) bitsLt_bf16_f32 : Vec Ideal S8192x1024 .bf16)
      = fun y : S8192x1024.Idx => dquery (at2 a0) (at2 a2) (AttnBwdIdeal.Final.sink a1) ((y 0).val / 128) ((y 1).val / 64) ((y 0).val % 128) ((y 1).val % 64) := by
  subst e0 e1 e2
  funext y
  exact (congrArg _ (eq_ix2 y)).trans (Read.result_apply V hP hO hT (y 0) (y 1))

/-- Its gradient of the keys as those of a block. -/
theorem ref_keys_own :
    (shapeCast S8192x128 (extractStridedSlice S64x128x2x64 ![0, 128, 0, 0] (res_main_v148 V) slices_S64x256x2x64_S64x128x2x64_0_128_0_0) shapeCasts_S64x128x2x64_S8192x128 : Vec Ideal S8192x128 .f32)
      = fun y : S8192x128.Idx => dkey (at2 a0) (at2 a2) (AttnBwdIdeal.Final.sink a1) ((y 0).val / 128) ((y 1).val / 64) ⟨128 + (y 0).val % 128, by omega⟩ ((y 1).val % 64) := by
  subst e0 e1 e2
  funext y
  have b0 : (y 0).val < 8192 := (y 0).isLt
  have b1 : (y 1).val < 128 := (y 1).isLt
  exact (congrArg _ (eq_ix2 y)).trans ((Read.own_apply _ (y 0) (y 1)).trans
    (Read.dkeys_apply V ⟨(y 0).val / 128, by omega⟩ ⟨(y 1).val / 64, by omega⟩ hP hO hT ⟨128 + (y 0).val % 128, by omega⟩ ⟨(y 1).val % 64, by omega⟩ _ rfl))

/-- Its gradient of the keys as those of the block before. -/
theorem ref_keys_prev :
    (shapeCast S8192x128 (extractStridedSlice S64x128x2x64 ![0, 0, 0, 0] (res_main_v148 V) slices_S64x256x2x64_S64x128x2x64_0_0_0_0) shapeCasts_S64x128x2x64_S8192x128 : Vec Ideal S8192x128 .f32)
      = fun y : S8192x128.Idx => dkey (at2 a0) (at2 a2) (AttnBwdIdeal.Final.sink a1) ((y 0).val / 128) ((y 1).val / 64) ⟨(y 0).val % 128, by omega⟩ ((y 1).val % 64) := by
  subst e0 e1 e2
  funext y
  have b0 : (y 0).val < 8192 := (y 0).isLt
  have b1 : (y 1).val < 128 := (y 1).isLt
  exact (congrArg _ (eq_ix2 y)).trans ((Read.prev_apply _ (y 0) (y 1)).trans
    (Read.dkeys_apply V ⟨(y 0).val / 128, by omega⟩ ⟨(y 1).val / 64, by omega⟩ hP hO hT ⟨(y 0).val % 128, by omega⟩ ⟨(y 1).val % 64, by omega⟩ _ rfl))

/-- Its gradient of the values as those of a block. -/
theorem ref_values_own :
    (shapeCast S8192x128 (extractStridedSlice S64x128x2x64 ![0, 128, 0, 0] (res_main_v108 V) slices_S64x256x2x64_S64x128x2x64_0_128_0_0) shapeCasts_S64x128x2x64_S8192x128 : Vec Ideal S8192x128 .f32)
      = fun y : S8192x128.Idx => dvalue (at2 a0) (at2 a2) (AttnBwdIdeal.Final.sink a1) ((y 0).val / 128) ((y 1).val / 64) ⟨128 + (y 0).val % 128, by omega⟩ ((y 1).val % 64) := by
  subst e0 e1 e2
  funext y
  have b0 : (y 0).val < 8192 := (y 0).isLt
  have b1 : (y 1).val < 128 := (y 1).isLt
  exact (congrArg _ (eq_ix2 y)).trans ((Read.own_apply _ (y 0) (y 1)).trans
    (Read.dvalues_apply V ⟨(y 0).val / 128, by omega⟩ ⟨(y 1).val / 64, by omega⟩ hP hO hT ⟨128 + (y 0).val % 128, by omega⟩ ⟨(y 1).val % 64, by omega⟩ _ rfl))

/-- Its gradient of the values as those of the block before. -/
theorem ref_values_prev :
    (shapeCast S8192x128 (extractStridedSlice S64x128x2x64 ![0, 0, 0, 0] (res_main_v108 V) slices_S64x256x2x64_S64x128x2x64_0_0_0_0) shapeCasts_S64x128x2x64_S8192x128 : Vec Ideal S8192x128 .f32)
      = fun y : S8192x128.Idx => dvalue (at2 a0) (at2 a2) (AttnBwdIdeal.Final.sink a1) ((y 0).val / 128) ((y 1).val / 64) ⟨(y 0).val % 128, by omega⟩ ((y 1).val % 64) := by
  subst e0 e1 e2
  funext y
  have b0 : (y 0).val < 8192 := (y 0).isLt
  have b1 : (y 1).val < 128 := (y 1).isLt
  exact (congrArg _ (eq_ix2 y)).trans ((Read.prev_apply _ (y 0) (y 1)).trans
    (Read.dvalues_apply V ⟨(y 0).val / 128, by omega⟩ ⟨(y 1).val / 64, by omega⟩ hP hO hT ⟨(y 0).val % 128, by omega⟩ ⟨(y 1).val % 64, by omega⟩ _ rfl))

/-- Its gradient of the sinks. -/
theorem ref_sinks :
    (shapeCast S1x128 (pad S128 ![0] ![112] ![0] (shapeCast S16 (Host.reduceAdd (F := Ideal) (addf (shapeCast S1x2x8x1x1 (Host.reduceAdd (F := Ideal) (res_main_v117 V) (constant S_ .f32 0x00000000#32) reducesTo_S64x2x8x128x1_S2x8x1_d0_3 h_S_) shapeCasts_S2x8x1_S1x2x8x1x1) (shapeCast S1x2x8x1x1 (Host.reduceAdd (F := Ideal) (mulf (res_main_v128 V) (select (cmpf .ogt (broadcastInDim S64x2x8x128x1 ![0, 1, 2, 3, 4] bcast_S1x2x8x1x1_S64x2x8x128x1_0_1_2_3_4 (res_main_v58 V)) (res_main_v65 V)) (broadcastInDim S64x2x8x128x1 ![] bcast_S_S64x2x8x128x1 (constant S_ .f32 0x3F800000#32)) (select (cmpf .oeq (broadcastInDim S64x2x8x128x1 ![0, 1, 2, 3, 4] bcast_S1x2x8x1x1_S64x2x8x128x1_0_1_2_3_4 (res_main_v58 V)) (res_main_v65 V)) (broadcastInDim S64x2x8x128x1 ![] bcast_S_S64x2x8x128x1 (constant S_ .f32 0x3F000000#32)) (broadcastInDim S64x2x8x128x1 ![] bcast_S_S64x2x8x128x1 (constant S_ .f32 0x00000000#32))))) (constant S_ .f32 0x00000000#32) reducesTo_S64x2x8x128x1_S2x8x1_d0_3 h_S_) shapeCasts_S2x8x1_S1x2x8x1x1)) (constant S_ .f32 0x00000000#32) reducesTo_S1x2x8x1x1_S2x8_d0_3_4 h_S_) shapeCasts_S2x8_S16) (sitofp (F := Ideal) .f32 (constantI S_ 32 0#32)) pads_S16_S128_01120 h_S_) shapeCasts_S128_S1x128 : Vec Ideal S1x128 .f32)
      = fun y : S1x128.Idx => ∑ k ∈ Finset.range 64, if (y 1).val < 16 then dsinkAt (at2 a0) (at2 a2) (AttnBwdIdeal.Final.sink a1) k (y 1).val else 0 := by
  subst e0 e1 e2
  funext y
  rw [Finset.sum_range]
  refine (congrArg _ ((eq_ix2 y).trans (congrArg (fun a => ix2 a (y 1)) (Subsingleton.elim (α := Fin 1) (y 0) 0)))).trans
    ((Read.dsinks_apply V hP hO hT (y 1)).trans ?_)
  by_cases h : (y 1).val < 16
  · rw [if_pos h]
    exact Finset.sum_congr rfl fun k _ => (if_pos h).symm
  · rw [if_neg h]
    exact (Finset.sum_eq_zero fun k _ => if_neg h).symm

end Reference

/-- The kernel's gradients are the reference's. -/
theorem algebraic : algebraic_AttnBwdIdeal_AttnBwdRefIdeal_pre_attn_finite := by
  intro m ρ m' ρ' hpre hargs
  refine ⟨AttnBwdIdeal.Final.arr7 m, AttnBwdIdeal.Final.arr8 m, AttnBwdIdeal.Final.arr9 m, AttnBwdIdeal.Final.arr10 m,
    AttnBwdIdeal.Final.arr11 m, AttnBwdIdeal.Final.arr12 m, ?_, ?_⟩
  · refine (θ_run _ _ _).mono (fun r h c => ?_) (Cert.AttnBwdIdeal.Value.run_blocks m ρ)
    obtain ⟨h7, h8, h9, h10, h11, h12, hrest⟩ := h c
    exact ⟨h7.trans (AttnBwdIdeal.Final.final7 m c), h8.trans (AttnBwdIdeal.Final.final8 m c), h9.trans (AttnBwdIdeal.Final.final9 m c),
      h10.trans (AttnBwdIdeal.Final.final10 m c), h11.trans (AttnBwdIdeal.Final.final11 m c), h12.trans (AttnBwdIdeal.Final.final12 m c), hrest⟩
  · refine (θ_run _ _ _).mono (fun r h c => ?_) (Cert.AttnBwdRefIdeal.Value.run m' ρ')
    obtain ⟨h7, h8, h9, h10, h11, h12, hrest⟩ := h c
    obtain ⟨e0, e1, e2⟩ := hargs c
    obtain ⟨hP, hO, hT⟩ := finite_of_pre _ _ _ (hpre c)
    exact ⟨h7.trans (ref_queries _ _ _ _ e0 e1 e2 hP hO hT), h8.trans (ref_keys_own _ _ _ _ e0 e1 e2 hP hO hT),
      h9.trans (ref_keys_prev _ _ _ _ e0 e1 e2 hP hO hT), h10.trans (ref_values_own _ _ _ _ e0 e1 e2 hP hO hT),
      h11.trans (ref_values_prev _ _ _ _ e0 e1 e2 hP hO hT), h12.trans (ref_sinks _ _ _ _ e0 e1 e2 hP hO hT), hrest⟩

end AttnBwdClaims

end
-- ==== Proof.SsmDiscBwdValue.lean ====
/-
  The gradient of the state-space recurrence's discretisation: what the kernel leaves in its result arrays, entry by entry.
-/
module

public import proofs.«01_k».proof.Proof.Product
public import proofs.«01_k».proof.Proof.Gen.SsmDiscBwdIdeal.Value
public import Idealize.ShloMosaic.Lib.Pointwise

@[expose] public section

noncomputable section

open Idealize.ShloMosaic

/-! The gradient of one state. `ar` and `ai` are the state's parameters and `ld` the logarithm of its step; `s` and `t` are the
gradients of the hold's imaginary and real factors, and `g` and `h` those of the discretised parameters. -/

namespace Hold

variable (ar ai ld s t g h : EReal)

/-- The discretised parameter's modulus. -/
def mag : EReal := Ideal.exp (ar * Ideal.exp ld)

/-- Its real part less one. -/
def re : EReal := mag ar ld * Ideal.cos (ai * Ideal.exp ld) - 1

/-- Its imaginary part. -/
def im : EReal := mag ar ld * Ideal.sin (ai * Ideal.exp ld)

/-- The squared modulus of the parameter. -/
def den : EReal := ar * ar + ai * ai

/-- The hold's real factor, before the division. -/
def up : EReal := re ar ai ld * ar + im ar ai ld * ai

/-- The hold's imaginary factor, before the division. -/
def dn : EReal := im ar ai ld * ar - re ar ai ld * ai

/-- The gradient of the squared modulus. -/
def dDen : EReal := -(s * Ideal.div 1 (den ar ai * den ar ai) * dn ar ai ld) + -(t * Ideal.div 1 (den ar ai * den ar ai) * up ar ai ld)

/-- The gradient of the discretised parameter's real part. -/
def dRe : EReal := g + -Ideal.div s (den ar ai) * ai + Ideal.div t (den ar ai) * ar

/-- The gradient of the discretised parameter's imaginary part. -/
def dIm : EReal := h + Ideal.div s (den ar ai) * ar + Ideal.div t (den ar ai) * ai

/-- The gradient of the angle, by way of the sine. -/
def dSin : EReal := mag ar ld * dIm ar ai s t h * Ideal.cos (ai * Ideal.exp ld)

/-- The gradient of the angle, by way of the cosine. -/
def dCos : EReal := -(mag ar ld * dRe ar ai s t g) * Ideal.sin (ai * Ideal.exp ld)

/-- The gradient of the modulus's exponent. -/
def dMag : EReal := (dIm ar ai s t h * Ideal.sin (ai * Ideal.exp ld) + dRe ar ai s t g * Ideal.cos (ai * Ideal.exp ld)) * mag ar ld

/-- The gradient of the parameter's real part. -/
def dAre : EReal := im ar ai ld * Ideal.div s (den ar ai) + re ar ai ld * Ideal.div t (den ar ai) + ar * dDen ar ai ld s t + dDen ar ai ld s t * ar
  + dMag ar ai ld s t g h * Ideal.exp ld

/-- The gradient of the parameter's imaginary part. -/
def dAim : EReal := re ar ai ld * -Ideal.div s (den ar ai) + im ar ai ld * Ideal.div t (den ar ai) + ai * dDen ar ai ld s t + dDen ar ai ld s t * ai
  + dSin ar ai ld s t h * Ideal.exp ld + dCos ar ai ld s t g * Ideal.exp ld

/-- The gradient of the step's logarithm. -/
def dStep : EReal := (ai * dSin ar ai ld s t h + ai * dCos ar ai ld s t g + ar * dMag ar ai ld s t g h) * Ideal.exp ld

/-- The gradient of an input weight's real part, from those of the discretised weight's parts `u` and `v`. -/
def dBre (u v : EReal) : EReal := Ideal.div (dn ar ai ld) (den ar ai) * v + Ideal.div (up ar ai ld) (den ar ai) * u

/-- The gradient of an input weight's imaginary part. -/
def dBim (u v : EReal) : EReal := Ideal.div (up ar ai ld) (den ar ai) * v + Ideal.div (dn ar ai ld) (den ar ai) * -u

end Hold

namespace Cert.SsmDiscBwdIdeal.Final

open Cert.SsmDiscBwdIdeal Cert.SsmDiscBwdIdeal.Gen Idealize.ShloMosaic Idealize.ShloMosaic.TcCoe Idealize.SL.Sem Ffn

variable (a0 a1 a2 : Vec Ideal S2048x1 .f32) (a3 a4 : Vec Ideal S2048x16 .f32) (a5 a6 : Vec Ideal S2048x1 .f32) (a7 a8 : Vec Ideal S2048x16 .f32)

/-- The gradient of a state's imaginary hold factor: a sum over its input weights. -/
def holdIm (r : Fin 2048) : EReal := (∑ k : Fin 16, a8 (ix2 r k) * a3 (ix2 r k)) + ∑ k : Fin 16, -a7 (ix2 r k) * a4 (ix2 r k)

/-- The gradient of a state's real hold factor. -/
def holdRe (r : Fin 2048) : EReal := (∑ k : Fin 16, a8 (ix2 r k) * a4 (ix2 r k)) + ∑ k : Fin 16, a7 (ix2 r k) * a3 (ix2 r k)

theorem pay30_apply (r : Fin 2048) : k0_pay30 a3 a4 a7 a8 (ix2 r 0) = holdIm a3 a4 a7 a8 r := by
  unfold k0_pay30 k0_pay26 k0_pay28 holdIm
  pointwise
  simp only [zero_sub]

theorem pay32_apply (r : Fin 2048) : k0_pay32 a3 a4 a7 a8 (ix2 r 0) = holdRe a3 a4 a7 a8 r := by
  unfold k0_pay32 k0_pay25 k0_pay27 holdRe
  pointwise

/-- The first result: the gradients of the parameters' real parts. -/
theorem real_part (r : Fin 2048) : Value.G9 a0 a1 a2 a3 a4 a5 a6 a7 a8 (ix2 r 0)
    = Hold.dAre (a0 (ix2 r 0)) (a1 (ix2 r 0)) (a2 (ix2 r 0)) (holdIm a3 a4 a7 a8 r) (holdRe a3 a4 a7 a8 r) (a5 (ix2 r 0)) (a6 (ix2 r 0)) := by
  rw [← pay30_apply, ← pay32_apply]
  simp only [Value.G9, Value.G10, Value.G11, k0_pay39, k0_pay41, k0_pay42, k0_pay43, k0_pay44, k0_pay45, k0_pay46, k0_pay47, k0_pay48, k0_pay49, k0_pay52, k0_pay53, k0_pay54, k0_pay55,
    ld_whole, k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24, k0_pay33, k0_pay34, k0_pay35, k0_pay36, k0_pay37, k0_pay38, k0_pay40]
  generalize k0_pay30 a3 a4 a7 a8 = s
  generalize k0_pay32 a3 a4 a7 a8 = t
  pointwise
  simp only [zero_sub]
  rfl

/-- The second result: the gradients of their imaginary parts. -/
theorem imaginary_part (r : Fin 2048) : Value.G10 a0 a1 a2 a3 a4 a5 a6 a7 a8 (ix2 r 0)
    = Hold.dAim (a0 (ix2 r 0)) (a1 (ix2 r 0)) (a2 (ix2 r 0)) (holdIm a3 a4 a7 a8 r) (holdRe a3 a4 a7 a8 r) (a5 (ix2 r 0)) (a6 (ix2 r 0)) := by
  rw [← pay30_apply, ← pay32_apply]
  simp only [Value.G9, Value.G10, Value.G11, k0_pay39, k0_pay41, k0_pay42, k0_pay43, k0_pay44, k0_pay45, k0_pay46, k0_pay47, k0_pay48, k0_pay49, k0_pay52, k0_pay53, k0_pay54, k0_pay55,
    ld_whole, k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24, k0_pay33, k0_pay34, k0_pay35, k0_pay36, k0_pay37, k0_pay38, k0_pay40]
  generalize k0_pay30 a3 a4 a7 a8 = s
  generalize k0_pay32 a3 a4 a7 a8 = t
  pointwise
  simp only [zero_sub]
  rfl

/-- The third result: the gradients of the steps' logarithms, state by state. -/
theorem step_part (r : Fin 2048) : Value.G11 a0 a1 a2 a3 a4 a5 a6 a7 a8 (ix2 r 0)
    = Hold.dStep (a0 (ix2 r 0)) (a1 (ix2 r 0)) (a2 (ix2 r 0)) (holdIm a3 a4 a7 a8 r) (holdRe a3 a4 a7 a8 r) (a5 (ix2 r 0)) (a6 (ix2 r 0)) := by
  rw [← pay30_apply, ← pay32_apply]
  simp only [Value.G9, Value.G10, Value.G11, k0_pay39, k0_pay41, k0_pay42, k0_pay43, k0_pay44, k0_pay45, k0_pay46, k0_pay47, k0_pay48, k0_pay49, k0_pay52, k0_pay53, k0_pay54, k0_pay55,
    ld_whole, k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24, k0_pay33, k0_pay34, k0_pay35, k0_pay36, k0_pay37, k0_pay38, k0_pay40]
  generalize k0_pay30 a3 a4 a7 a8 = s
  generalize k0_pay32 a3 a4 a7 a8 = t
  pointwise
  simp only [zero_sub]
  rfl

/-- The fourth result: the gradients of the input weights' real parts. -/
theorem weight_real (r : Fin 2048) (k : Fin 16) : Value.G12 a0 a1 a2 a3 a4 a5 a6 a7 a8 (ix2 r k)
    = Hold.dBre (a0 (ix2 r 0)) (a1 (ix2 r 0)) (a2 (ix2 r 0)) (a7 (ix2 r k)) (a8 (ix2 r k)) := by
  simp only [Value.G12, Value.G13, k0_pay25, k0_pay26, k0_pay27, k0_pay28, k0_pay29, k0_pay31, k0_pay50, k0_pay51, ld_whole, k0_pay8, k0_pay9, k0_pay10, k0_pay11,
    k0_pay13, k0_pay14, k0_pay16, k0_pay17, k0_pay18, k0_pay19, k0_pay20, k0_pay22, k0_pay23]
  pointwise
  rfl

/-- The fifth result: the gradients of the input weights' imaginary parts. -/
theorem weight_imaginary (r : Fin 2048) (k : Fin 16) : Value.G13 a0 a1 a2 a3 a4 a5 a6 a7 a8 (ix2 r k)
    = Hold.dBim (a0 (ix2 r 0)) (a1 (ix2 r 0)) (a2 (ix2 r 0)) (a7 (ix2 r k)) (a8 (ix2 r k)) := by
  simp only [Value.G12, Value.G13, k0_pay25, k0_pay26, k0_pay27, k0_pay28, k0_pay29, k0_pay31, k0_pay50, k0_pay51, ld_whole, k0_pay8, k0_pay9, k0_pay10, k0_pay11,
    k0_pay13, k0_pay14, k0_pay16, k0_pay17, k0_pay18, k0_pay19, k0_pay20, k0_pay22, k0_pay23]
  pointwise
  simp only [zero_sub]
  rfl

end Cert.SsmDiscBwdIdeal.Final

end
-- ==== Proof.SsmDiscBwdClaims.lean ====
/-
  The claims about the gradient of the recurrence's discretisation: the frames, and the equality of the five results with the
  reference's over the extended reals.
-/
module

public import proofs.«01_k».proof.Defs
public import proofs.«01_k».proof.Proof.SsmDiscBwdValue
public import proofs.«01_k».proof.Proof.Gen.SsmDiscBwd.Frame
public import proofs.«01_k».proof.Proof.Gen.SsmDiscBwdRefIdeal.Run

@[expose] public section

noncomputable section

namespace Cert.SsmDiscBwdRefIdeal.Entries

open Cert.SsmDiscBwdRefIdeal Cert.SsmDiscBwdRefIdeal.Gen Cert.SsmDiscBwdRefIdeal.Value Idealize.ShloMosaic Idealize.ShloMosaic.TcCoe Idealize.SL.Sem Ffn

/-- The group of a state's row. -/
abbrev grp (r : Fin 2048) : Fin 32 := ⟨r.val / 64, by omega⟩

/-- The state's place in its group. -/
abbrev pos (r : Fin 2048) : Fin 64 := ⟨r.val % 64, by omega⟩

/-- Rows made of groups and states, entry by entry. -/
theorem col_apply (x : Vec Ideal S32x64 .f32) (h : S32x64.ShapeCasts S2048x1) (r : Fin 2048) : shapeCast S2048x1 x h (ix2 r 0) = x (ix2 (grp r) (pos r)) :=
  shapeCast_apply _ _ _ _ (by simp only [Shape.rowMajor_val_two]; show r.val / 64 * 64 + r.val % 64 = r.val * 1 + 0; omega)

theorem rows_apply (x : Vec Ideal S32x64x16 .f32) (h : S32x64x16.ShapeCasts S2048x16) (r : Fin 2048) (k : Fin 16) :
    shapeCast S2048x16 x h (ix2 r k) = x (ix3 (grp r) (pos r) k) :=
  shapeCast_apply _ _ _ _ (by simp only [Shape.rowMajor_val_two, Shape.rowMajor_val_three]; show (r.val / 64 * 64 + r.val % 64) * 16 + k.val = r.val * 16 + k.val; omega)

/-- Groups and states made of rows, entry by entry. -/
theorem mat_apply (x : Vec Ideal S2048x1 .f32) (h : S2048x1.ShapeCasts S32x64) (r : Fin 2048) : shapeCast S32x64 x h (ix2 (grp r) (pos r)) = x (ix2 r 0) :=
  shapeCast_apply _ _ _ _ (by simp only [Shape.rowMajor_val_two]; show r.val * 1 + 0 = r.val / 64 * 64 + r.val % 64; omega)

theorem ten_apply (x : Vec Ideal S2048x16 .f32) (h : S2048x16.ShapeCasts S32x64x16) (r : Fin 2048) (k : Fin 16) :
    shapeCast S32x64x16 x h (ix3 (grp r) (pos r) k) = x (ix2 r k) :=
  shapeCast_apply _ _ _ _ (by simp only [Shape.rowMajor_val_two, Shape.rowMajor_val_three]; show r.val * 16 + k.val = (r.val / 64 * 64 + r.val % 64) * 16 + k.val; omega)

/-- A sum over the input weights of a state, as the reference writes it: in two reductions, the second over one term. -/
theorem sum_apply (x : Vec Ideal S32x64x16 .f32) (h : S32x64.ShapeCasts S32x64x1) (r : Fin 2048) :
    (Host.reduceAdd (F := Ideal) (shapeCast S32x64x1 (Host.reduceAdd (F := Ideal) x (constant S_ .f32 0x00000000#32) reducesTo_S32x64x16_S32x64_d2 h_S_) h) (constant S_ .f32 0x00000000#32) reducesTo_S32x64x1_S32x64_d2 h_S_ : Vec Ideal S32x64 .f32)
      (ix2 (grp r) (pos r)) = ∑ k : Fin 16, x (ix3 (grp r) (pos r) k) := by
  pointwise
  exact Fin.sum_univ_one _

open SsmDiscBwdIdeal.Final (holdIm holdRe)

/-- A sum over the input weights of each state, as the reference writes it. -/
def total (x : FVec Ideal S32x64x16 .f32) : FVec Ideal S32x64 .f32 :=
  Host.reduceAdd (F := Ideal) (shapeCast S32x64x1 (Host.reduceAdd (F := Ideal) x (constant S_ .f32 0x00000000#32) reducesTo_S32x64x16_S32x64_d2 h_S_) shapeCasts_S32x64_S32x64x1) (constant S_ .f32 0x00000000#32)
    reducesTo_S32x64x1_S32x64_d2 h_S_

theorem total_eq (x : FVec Ideal S32x64x16 .f32) :
    (Host.reduceAdd (F := Ideal) (shapeCast S32x64x1 (Host.reduceAdd (F := Ideal) x (constant S_ .f32 0x00000000#32) reducesTo_S32x64x16_S32x64_d2 h_S_) shapeCasts_S32x64_S32x64x1) (constant S_ .f32 0x00000000#32)
      reducesTo_S32x64x1_S32x64_d2 h_S_ : FVec Ideal S32x64 .f32) = total x := rfl

theorem total_apply (x : FVec Ideal S32x64x16 .f32) (r : Fin 2048) : (total x (ix2 (grp r) (pos r)) : EReal) = ∑ k : Fin 16, (x (ix3 (grp r) (pos r) k) : EReal) := by
  unfold total
  pointwise
  exact Fin.sum_univ_one _

variable (m : (ℓ : Loc nD τ sig) → Buf (Elt Ideal) ℓ) (c : Dev nD)
  {a0 a1 a2 : Vec Ideal S2048x1 .f32} {a3 a4 : Vec Ideal S2048x16 .f32} {a5 a6 : Vec Ideal S2048x1 .f32} {a7 a8 : Vec Ideal S2048x16 .f32}

/-- The gradient of a state's imaginary hold factor is the sum of two of these. -/
theorem holdIm_eq (r : Fin 2048) : holdIm a3 a4 a7 a8 r
    = (addf (F := Ideal) (total (mulf (F := Ideal) (shapeCast S32x64x16 a8 shapeCasts_S2048x16_S32x64x16) (shapeCast S32x64x16 a3 shapeCasts_S2048x16_S32x64x16)))
      (total (mulf (F := Ideal) (Host.negf (F := Ideal) (shapeCast S32x64x16 a7 shapeCasts_S2048x16_S32x64x16)) (shapeCast S32x64x16 a4 shapeCasts_S2048x16_S32x64x16))) : Vec Ideal S32x64 .f32) (ix2 (grp r) (pos r)) := by
  unfold holdIm
  simp only [← ten_apply _ shapeCasts_S2048x16_S32x64x16 r]
  refine Eq.trans ?_ (congrArg₂ (fun u v : EReal => u + v) (total_apply (mulf (F := Ideal) _ _) r) (total_apply (mulf (F := Ideal) _ _) r)).symm
  rfl

/-- And that of its real hold factor. -/
theorem holdRe_eq (r : Fin 2048) : holdRe a3 a4 a7 a8 r
    = (addf (F := Ideal) (total (mulf (F := Ideal) (shapeCast S32x64x16 a8 shapeCasts_S2048x16_S32x64x16) (shapeCast S32x64x16 a4 shapeCasts_S2048x16_S32x64x16)))
      (total (mulf (F := Ideal) (shapeCast S32x64x16 a7 shapeCasts_S2048x16_S32x64x16) (shapeCast S32x64x16 a3 shapeCasts_S2048x16_S32x64x16))) : Vec Ideal S32x64 .f32) (ix2 (grp r) (pos r)) := by
  unfold holdRe
  simp only [← ten_apply _ shapeCasts_S2048x16_S32x64x16 r]
  refine Eq.trans ?_ (congrArg₂ (fun u v : EReal => u + v) (total_apply (mulf (F := Ideal) _ _) r) (total_apply (mulf (F := Ideal) _ _) r)).symm
  rfl

variable (e0 : m ((c.tc : Thread nD τ).loc main_arg0) = a0) (e1 : m ((c.tc : Thread nD τ).loc main_arg1) = a1) (e2 : m ((c.tc : Thread nD τ).loc main_arg2) = a2)
  (e3 : m ((c.tc : Thread nD τ).loc main_arg3) = a3) (e4 : m ((c.tc : Thread nD τ).loc main_arg4) = a4) (e5 : m ((c.tc : Thread nD τ).loc main_arg5) = a5)
  (e6 : m ((c.tc : Thread nD τ).loc main_arg6) = a6) (e7 : m ((c.tc : Thread nD τ).loc main_arg7) = a7) (e8 : m ((c.tc : Thread nD τ).loc main_arg8) = a8)

include e0 e1 e2 e3 e4 e5 e6 e7 e8 in
/-- The reference's first result, entry by entry. -/
theorem real_part (r : Fin 2048) : (res_main_v135 m c : Vec Ideal S2048x1 .f32) (ix2 r 0)
    = Hold.dAre (a0 (ix2 r 0)) (a1 (ix2 r 0)) (a2 (ix2 r 0)) (holdIm a3 a4 a7 a8 r) (holdRe a3 a4 a7 a8 r) (a5 (ix2 r 0)) (a6 (ix2 r 0)) := by
  rw [holdIm_eq, holdRe_eq]
  unfold res_main_v135
  rw [e0, e1, e2, e3, e4, e5, e6, e7, e8]
  refine (col_apply _ _ r).trans ?_
  simp only [← mat_apply _ shapeCasts_S2048x1_S32x64, total_eq]
  generalize shapeCast S32x64 a0 shapeCasts_S2048x1_S32x64 = A0
  generalize shapeCast S32x64 a1 shapeCasts_S2048x1_S32x64 = A1
  generalize shapeCast S32x64 a2 shapeCasts_S2048x1_S32x64 = A2
  generalize shapeCast S32x64 a5 shapeCasts_S2048x1_S32x64 = A5
  generalize shapeCast S32x64 a6 shapeCasts_S2048x1_S32x64 = A6
  generalize addf (total _) (total _) = s
  generalize addf (total _) (total _) = t
  pointwise
  rfl

include e0 e1 e2 e3 e4 e5 e6 e7 e8 in
/-- Its second. -/
theorem imaginary_part (r : Fin 2048) : (res_main_v136 m c : Vec Ideal S2048x1 .f32) (ix2 r 0)
    = Hold.dAim (a0 (ix2 r 0)) (a1 (ix2 r 0)) (a2 (ix2 r 0)) (holdIm a3 a4 a7 a8 r) (holdRe a3 a4 a7 a8 r) (a5 (ix2 r 0)) (a6 (ix2 r 0)) := by
  rw [holdIm_eq, holdRe_eq]
  unfold res_main_v136
  rw [e0, e1, e2, e3, e4, e5, e6, e7, e8]
  refine (col_apply _ _ r).trans ?_
  simp only [← mat_apply _ shapeCasts_S2048x1_S32x64, total_eq]
  generalize shapeCast S32x64 a0 shapeCasts_S2048x1_S32x64 = A0
  generalize shapeCast S32x64 a1 shapeCasts_S2048x1_S32x64 = A1
  generalize shapeCast S32x64 a2 shapeCasts_S2048x1_S32x64 = A2
  generalize shapeCast S32x64 a5 shapeCasts_S2048x1_S32x64 = A5
  generalize shapeCast S32x64 a6 shapeCasts_S2048x1_S32x64 = A6
  generalize addf (total _) (total _) = s
  generalize addf (total _) (total _) = t
  pointwise
  rfl

include e0 e1 e2 e3 e4 e5 e6 e7 e8 in
/-- Its third. -/
theorem step_part (r : Fin 2048) : (res_main_v137 m c : Vec Ideal S2048x1 .f32) (ix2 r 0)
    = Hold.dStep (a0 (ix2 r 0)) (a1 (ix2 r 0)) (a2 (ix2 r 0)) (holdIm a3 a4 a7 a8 r) (holdRe a3 a4 a7 a8 r) (a5 (ix2 r 0)) (a6 (ix2 r 0)) := by
  rw [holdIm_eq, holdRe_eq]
  unfold res_main_v137
  rw [e0, e1, e2, e3, e4, e5, e6, e7, e8]
  refine (col_apply _ _ r).trans ?_
  simp only [← mat_apply _ shapeCasts_S2048x1_S32x64, total_eq]
  generalize shapeCast S32x64 a0 shapeCasts_S2048x1_S32x64 = A0
  generalize shapeCast S32x64 a1 shapeCasts_S2048x1_S32x64 = A1
  generalize shapeCast S32x64 a2 shapeCasts_S2048x1_S32x64 = A2
  generalize shapeCast S32x64 a5 shapeCasts_S2048x1_S32x64 = A5
  generalize shapeCast S32x64 a6 shapeCasts_S2048x1_S32x64 = A6
  generalize addf (total _) (total _) = s
  generalize addf (total _) (total _) = t
  pointwise
  rfl

end Cert.SsmDiscBwdRefIdeal.Entries

namespace SsmDiscBwdClaims

open Idealize.ShloMosaic Idealize.ShloMosaic.TcCoe Idealize.SL.Sem Cert Ffn

/-! The frames. -/

theorem frame_p : quiescent_SsmDiscBwd := fun m ρ _ => Cert.SsmDiscBwd.Gen.frame m ρ

theorem frame_pi : quiescent_SsmDiscBwdIdeal := fun m ρ _ => Cert.SsmDiscBwdIdeal.Gen.frame m ρ

theorem frame_ri : quiescent_SsmDiscBwdRefIdeal := fun m ρ _ =>
  (θ_run _ _ _).mono (fun r h => ⟨fun c => (h c).2.2.2.2.2, sem_eq_zero_of_no_sems (by decide) r.2⟩) (Cert.SsmDiscBwdRefIdeal.Value.run m ρ)

/-- No operation is rewritten. -/
theorem preserves : preserves_SsmDiscBwd_SsmDiscBwdIdeal := trivial

/-- Two columns agree where their entries do. -/
theorem col_ext {u v : Vec Ideal SsmDiscBwdIdeal.S2048x1 .f32} (h : ∀ r : Fin 2048, u (ix2 r 0) = v (ix2 r 0)) : u = v :=
  funext fun y => by
    have e : y = ix2 (y 0) 0 := (eq_ix2 y).trans (congrArg (ix2 (y 0)) (Subsingleton.elim (α := Fin 1) _ _))
    rw [e]; exact h _

/-- And two arrays of rows. -/
theorem rows_ext {u v : Vec Ideal SsmDiscBwdIdeal.S2048x16 .f32} (h : ∀ (r : Fin 2048) (k : Fin 16), u (ix2 r k) = v (ix2 r k)) : u = v :=
  funext fun y => by
    rw [eq_ix2 y]; exact h _ _

/-- The kernel's five results are the reference's. -/
theorem algebraic : algebraic_SsmDiscBwdIdeal_SsmDiscBwdRefIdeal := by
  intro m ρ m' ρ' _ hargs
  refine ⟨_, _, _, _, _, Cert.SsmDiscBwdIdeal.Value.run m ρ, ?_⟩
  refine (θ_run _ _ _).mono (fun r h c => ?_) (Cert.SsmDiscBwdRefIdeal.Value.run m' ρ')
  obtain ⟨h0, h1, h2, h3, h4, hrest⟩ := h c
  obtain ⟨e0, e1, e2, e3, e4, e5, e6, e7, e8⟩ := hargs c
  rw [e0, e1, e2, e7, e8] at h3 h4
  refine ⟨h0.trans (col_ext fun r => ?_), h1.trans (col_ext fun r => ?_), h2.trans (col_ext fun r => ?_), h3.trans (rows_ext fun r k => ?_), h4.trans (rows_ext fun r k => ?_), hrest⟩
  · exact (SsmDiscBwdRefIdeal.Entries.real_part m' c e0 e1 e2 e3 e4 e5 e6 e7 e8 r).trans (SsmDiscBwdIdeal.Final.real_part _ _ _ _ _ _ _ _ _ r).symm
  · exact (SsmDiscBwdRefIdeal.Entries.imaginary_part m' c e0 e1 e2 e3 e4 e5 e6 e7 e8 r).trans (SsmDiscBwdIdeal.Final.imaginary_part _ _ _ _ _ _ _ _ _ r).symm
  · exact (SsmDiscBwdRefIdeal.Entries.step_part m' c e0 e1 e2 e3 e4 e5 e6 e7 e8 r).trans (SsmDiscBwdIdeal.Final.step_part _ _ _ _ _ _ _ _ _ r).symm
  · refine ((SsmDiscBwdRefIdeal.Entries.rows_apply _ _ r k).trans ?_).trans (SsmDiscBwdIdeal.Final.weight_real _ _ _ _ _ _ _ _ _ r k).symm
    rw [← SsmDiscBwdRefIdeal.Entries.mat_apply (m ((c.tc : Thread SsmDiscBwdIdeal.nD SsmDiscBwdIdeal.τ).loc SsmDiscBwdIdeal.main_arg0)) SsmDiscBwdRefIdeal.Gen.shapeCasts_S2048x1_S32x64 r,
      ← SsmDiscBwdRefIdeal.Entries.mat_apply (m ((c.tc : Thread SsmDiscBwdIdeal.nD SsmDiscBwdIdeal.τ).loc SsmDiscBwdIdeal.main_arg1)) SsmDiscBwdRefIdeal.Gen.shapeCasts_S2048x1_S32x64 r,
      ← SsmDiscBwdRefIdeal.Entries.mat_apply (m ((c.tc : Thread SsmDiscBwdIdeal.nD SsmDiscBwdIdeal.τ).loc SsmDiscBwdIdeal.main_arg2)) SsmDiscBwdRefIdeal.Gen.shapeCasts_S2048x1_S32x64 r,
      ← SsmDiscBwdRefIdeal.Entries.ten_apply (m ((c.tc : Thread SsmDiscBwdIdeal.nD SsmDiscBwdIdeal.τ).loc SsmDiscBwdIdeal.main_arg7)) SsmDiscBwdRefIdeal.Gen.shapeCasts_S2048x16_S32x64x16 r k,
      ← SsmDiscBwdRefIdeal.Entries.ten_apply (m ((c.tc : Thread SsmDiscBwdIdeal.nD SsmDiscBwdIdeal.τ).loc SsmDiscBwdIdeal.main_arg8)) SsmDiscBwdRefIdeal.Gen.shapeCasts_S2048x16_S32x64x16 r k]
    generalize shapeCast _ _ _ = A0
    generalize shapeCast _ _ _ = A1
    generalize shapeCast _ _ _ = A2
    generalize shapeCast _ _ _ = A3
    generalize shapeCast _ _ _ = A4
    pointwise
    rfl
  · refine ((SsmDiscBwdRefIdeal.Entries.rows_apply _ _ r k).trans ?_).trans (SsmDiscBwdIdeal.Final.weight_imaginary _ _ _ _ _ _ _ _ _ r k).symm
    rw [← SsmDiscBwdRefIdeal.Entries.mat_apply (m ((c.tc : Thread SsmDiscBwdIdeal.nD SsmDiscBwdIdeal.τ).loc SsmDiscBwdIdeal.main_arg0)) SsmDiscBwdRefIdeal.Gen.shapeCasts_S2048x1_S32x64 r,
      ← SsmDiscBwdRefIdeal.Entries.mat_apply (m ((c.tc : Thread SsmDiscBwdIdeal.nD SsmDiscBwdIdeal.τ).loc SsmDiscBwdIdeal.main_arg1)) SsmDiscBwdRefIdeal.Gen.shapeCasts_S2048x1_S32x64 r,
      ← SsmDiscBwdRefIdeal.Entries.mat_apply (m ((c.tc : Thread SsmDiscBwdIdeal.nD SsmDiscBwdIdeal.τ).loc SsmDiscBwdIdeal.main_arg2)) SsmDiscBwdRefIdeal.Gen.shapeCasts_S2048x1_S32x64 r,
      ← SsmDiscBwdRefIdeal.Entries.ten_apply (m ((c.tc : Thread SsmDiscBwdIdeal.nD SsmDiscBwdIdeal.τ).loc SsmDiscBwdIdeal.main_arg7)) SsmDiscBwdRefIdeal.Gen.shapeCasts_S2048x16_S32x64x16 r k,
      ← SsmDiscBwdRefIdeal.Entries.ten_apply (m ((c.tc : Thread SsmDiscBwdIdeal.nD SsmDiscBwdIdeal.τ).loc SsmDiscBwdIdeal.main_arg8)) SsmDiscBwdRefIdeal.Gen.shapeCasts_S2048x16_S32x64x16 r k]
    generalize shapeCast _ _ _ = A0
    generalize shapeCast _ _ _ = A1
    generalize shapeCast _ _ _ = A2
    generalize shapeCast _ _ _ = A3
    generalize shapeCast _ _ _ = A4
    pointwise
    rfl

end SsmDiscBwdClaims

end
-- ==== Proof.SsmDiscFwdClaims.lean ====
/-
  The discretisation of the state-space recurrence, forward: what the kernel leaves in its result arrays, entry by entry, and the
  claims about it: the frames, and the equality of the four results with the reference's over the extended reals.
-/
module

public import proofs.«01_k».proof.Proof.SsmDiscBwdClaims
public import proofs.«01_k».proof.Proof.Gen.SsmDiscFwd.Frame
public import proofs.«01_k».proof.Proof.Gen.SsmDiscFwdIdeal.Value
public import proofs.«01_k».proof.Proof.Gen.SsmDiscFwdRefIdeal.Run

@[expose] public section

noncomputable section

namespace Hold

open Idealize.ShloMosaic

/-- The discretised parameter's real part. -/
def cosPart (ar ai ld : EReal) : EReal := mag ar ld * Ideal.cos (ai * Ideal.exp ld)

/-- A discretised input weight's real part, from the weight's parts `u` and `v`. -/
def bRe (ar ai ld u v : EReal) : EReal := Ideal.div (up ar ai ld) (den ar ai) * u - Ideal.div (dn ar ai ld) (den ar ai) * v

/-- Its imaginary part. -/
def bIm (ar ai ld u v : EReal) : EReal := Ideal.div (up ar ai ld) (den ar ai) * v + Ideal.div (dn ar ai ld) (den ar ai) * u

end Hold

namespace Cert.SsmDiscFwdIdeal.Final

open Cert.SsmDiscFwdIdeal Cert.SsmDiscFwdIdeal.Gen Idealize.ShloMosaic Idealize.ShloMosaic.TcCoe Idealize.SL.Sem Ffn

variable (a0 a1 a2 : Vec Ideal S2048x1 .f32) (a3 a4 : Vec Ideal S2048x16 .f32)

/-- The first result: the real parts of the discretised parameters. -/
theorem real_part (r : Fin 2048) : Value.G5 a0 a1 a2 a3 a4 (ix2 r 0) = Hold.cosPart (a0 (ix2 r 0)) (a1 (ix2 r 0)) (a2 (ix2 r 0)) := by
  simp only [Value.G5, Value.G6, Value.G7, Value.G8, k0_pay1, k0_pay2, k0_pay3, k0_pay4, k0_pay5, k0_pay6, k0_pay7, k0_pay8, k0_pay9, k0_pay10,
    ld_whole]
  pointwise
  rfl

/-- The second: their imaginary parts. -/
theorem imaginary_part (r : Fin 2048) : Value.G6 a0 a1 a2 a3 a4 (ix2 r 0) = Hold.im (a0 (ix2 r 0)) (a1 (ix2 r 0)) (a2 (ix2 r 0)) := by
  simp only [Value.G5, Value.G6, Value.G7, Value.G8, k0_pay1, k0_pay2, k0_pay3, k0_pay4, k0_pay5, k0_pay6, k0_pay7, k0_pay8, k0_pay9, k0_pay10,
    ld_whole]
  pointwise
  rfl

/-- The third: the real parts of the discretised input weights. -/
theorem weight_real (r : Fin 2048) (k : Fin 16) : Value.G7 a0 a1 a2 a3 a4 (ix2 r k) = Hold.bRe (a0 (ix2 r 0)) (a1 (ix2 r 0)) (a2 (ix2 r 0)) (a3 (ix2 r k)) (a4 (ix2 r k)) := by
  simp only [Value.G5, Value.G6, Value.G7, Value.G8, k0_pay1, k0_pay2, k0_pay3, k0_pay4, k0_pay5, k0_pay6, k0_pay7, k0_pay8, k0_pay9, k0_pay10,
    ld_whole]
  pointwise
  rfl

/-- The fourth: their imaginary parts. -/
theorem weight_imaginary (r : Fin 2048) (k : Fin 16) : Value.G8 a0 a1 a2 a3 a4 (ix2 r k) = Hold.bIm (a0 (ix2 r 0)) (a1 (ix2 r 0)) (a2 (ix2 r 0)) (a3 (ix2 r k)) (a4 (ix2 r k)) := by
  simp only [Value.G5, Value.G6, Value.G7, Value.G8, k0_pay1, k0_pay2, k0_pay3, k0_pay4, k0_pay5, k0_pay6, k0_pay7, k0_pay8, k0_pay9, k0_pay10,
    ld_whole]
  pointwise
  rfl

end Cert.SsmDiscFwdIdeal.Final

namespace SsmDiscFwdClaims

open Idealize.ShloMosaic Idealize.ShloMosaic.TcCoe Idealize.SL.Sem Cert Ffn
open SsmDiscBwdRefIdeal.Entries SsmDiscFwdRefIdeal.Gen
open SsmDiscBwdClaims (col_ext rows_ext)

/-! The frames. -/

theorem frame_p : quiescent_SsmDiscFwd := fun m ρ _ => Cert.SsmDiscFwd.Gen.frame m ρ

theorem frame_pi : quiescent_SsmDiscFwdIdeal := fun m ρ _ => Cert.SsmDiscFwdIdeal.Gen.frame m ρ

theorem frame_ri : quiescent_SsmDiscFwdRefIdeal := fun m ρ _ =>
  (θ_run _ _ _).mono (fun r h => ⟨fun c => (h c).2.2.2.2, sem_eq_zero_of_no_sems (by decide) r.2⟩) (Cert.SsmDiscFwdRefIdeal.Value.run m ρ)

/-- No operation is rewritten. -/
theorem preserves : preserves_SsmDiscFwd_SsmDiscFwdIdeal := trivial

/-- The kernel's four results are the reference's. -/
theorem algebraic : algebraic_SsmDiscFwdIdeal_SsmDiscFwdRefIdeal := by
  intro m ρ m' ρ' _ hargs
  refine ⟨_, _, _, _, Cert.SsmDiscFwdIdeal.Value.run m ρ, ?_⟩
  refine (θ_run _ _ _).mono (fun r h c => ?_) (Cert.SsmDiscFwdRefIdeal.Value.run m' ρ')
  obtain ⟨h0, h1, h2, h3, hrest⟩ := h c
  obtain ⟨e0, e1, e2, e3, e4⟩ := hargs c
  rw [e0, e1, e2] at h0 h1
  rw [e0, e1, e2, e3, e4] at h2 h3
  refine ⟨h0.trans (col_ext fun r => ?_), h1.trans (col_ext fun r => ?_), h2.trans (rows_ext fun r k => ?_), h3.trans (rows_ext fun r k => ?_), hrest⟩
  · refine ((col_apply _ _ r).trans ?_).trans (SsmDiscFwdIdeal.Final.real_part _ _ _ _ _ r).symm
    rw [← mat_apply (m ((c.tc : Thread SsmDiscFwdIdeal.nD SsmDiscFwdIdeal.τ).loc SsmDiscFwdIdeal.main_arg0)) shapeCasts_S2048x1_S32x64 r,
      ← mat_apply (m ((c.tc : Thread SsmDiscFwdIdeal.nD SsmDiscFwdIdeal.τ).loc SsmDiscFwdIdeal.main_arg1)) shapeCasts_S2048x1_S32x64 r,
      ← mat_apply (m ((c.tc : Thread SsmDiscFwdIdeal.nD SsmDiscFwdIdeal.τ).loc SsmDiscFwdIdeal.main_arg2)) shapeCasts_S2048x1_S32x64 r]
    generalize shapeCast _ _ _ = A0
    generalize shapeCast _ _ _ = A1
    generalize shapeCast _ _ _ = A2
    pointwise
    rfl
  · refine ((col_apply _ _ r).trans ?_).trans (SsmDiscFwdIdeal.Final.imaginary_part _ _ _ _ _ r).symm
    rw [← mat_apply (m ((c.tc : Thread SsmDiscFwdIdeal.nD SsmDiscFwdIdeal.τ).loc SsmDiscFwdIdeal.main_arg0)) shapeCasts_S2048x1_S32x64 r,
      ← mat_apply (m ((c.tc : Thread SsmDiscFwdIdeal.nD SsmDiscFwdIdeal.τ).loc SsmDiscFwdIdeal.main_arg1)) shapeCasts_S2048x1_S32x64 r,
      ← mat_apply (m ((c.tc : Thread SsmDiscFwdIdeal.nD SsmDiscFwdIdeal.τ).loc SsmDiscFwdIdeal.main_arg2)) shapeCasts_S2048x1_S32x64 r]
    generalize shapeCast _ _ _ = A0
    generalize shapeCast _ _ _ = A1
    generalize shapeCast _ _ _ = A2
    pointwise
    rfl
  · refine ((rows_apply _ _ r k).trans ?_).trans (SsmDiscFwdIdeal.Final.weight_real _ _ _ _ _ r k).symm
    rw [← mat_apply (m ((c.tc : Thread SsmDiscFwdIdeal.nD SsmDiscFwdIdeal.τ).loc SsmDiscFwdIdeal.main_arg0)) shapeCasts_S2048x1_S32x64 r,
      ← mat_apply (m ((c.tc : Thread SsmDiscFwdIdeal.nD SsmDiscFwdIdeal.τ).loc SsmDiscFwdIdeal.main_arg1)) shapeCasts_S2048x1_S32x64 r,
      ← mat_apply (m ((c.tc : Thread SsmDiscFwdIdeal.nD SsmDiscFwdIdeal.τ).loc SsmDiscFwdIdeal.main_arg2)) shapeCasts_S2048x1_S32x64 r,
      ← ten_apply (m ((c.tc : Thread SsmDiscFwdIdeal.nD SsmDiscFwdIdeal.τ).loc SsmDiscFwdIdeal.main_arg3)) shapeCasts_S2048x16_S32x64x16 r k,
      ← ten_apply (m ((c.tc : Thread SsmDiscFwdIdeal.nD SsmDiscFwdIdeal.τ).loc SsmDiscFwdIdeal.main_arg4)) shapeCasts_S2048x16_S32x64x16 r k]
    generalize shapeCast _ _ _ = A0
    generalize shapeCast _ _ _ = A1
    generalize shapeCast _ _ _ = A2
    generalize shapeCast _ _ _ = A3
    generalize shapeCast _ _ _ = A4
    pointwise
    rfl
  · refine ((rows_apply _ _ r k).trans ?_).trans (SsmDiscFwdIdeal.Final.weight_imaginary _ _ _ _ _ r k).symm
    rw [← mat_apply (m ((c.tc : Thread SsmDiscFwdIdeal.nD SsmDiscFwdIdeal.τ).loc SsmDiscFwdIdeal.main_arg0)) shapeCasts_S2048x1_S32x64 r,
      ← mat_apply (m ((c.tc : Thread SsmDiscFwdIdeal.nD SsmDiscFwdIdeal.τ).loc SsmDiscFwdIdeal.main_arg1)) shapeCasts_S2048x1_S32x64 r,
      ← mat_apply (m ((c.tc : Thread SsmDiscFwdIdeal.nD SsmDiscFwdIdeal.τ).loc SsmDiscFwdIdeal.main_arg2)) shapeCasts_S2048x1_S32x64 r,
      ← ten_apply (m ((c.tc : Thread SsmDiscFwdIdeal.nD SsmDiscFwdIdeal.τ).loc SsmDiscFwdIdeal.main_arg3)) shapeCasts_S2048x16_S32x64x16 r k,
      ← ten_apply (m ((c.tc : Thread SsmDiscFwdIdeal.nD SsmDiscFwdIdeal.τ).loc SsmDiscFwdIdeal.main_arg4)) shapeCasts_S2048x16_S32x64x16 r k]
    generalize shapeCast _ _ _ = A0
    generalize shapeCast _ _ _ = A1
    generalize shapeCast _ _ _ = A2
    generalize shapeCast _ _ _ = A3
    generalize shapeCast _ _ _ = A4
    pointwise
    rfl

end SsmDiscFwdClaims

end
-- ==== Proof.JoinDprojValue.lean ====
/-
  Joining the projection's gradient: what the kernel leaves in its two result arrays, entry by entry — the six parts side
  by side, the keys' and values' parts the sum of the gradients from the row's own block pair and from the next one's, and
  the column sums gathered over 64 row tiles.
-/
module

public import proofs.«01_k».proof.Proof.Product
public import proofs.«01_k».proof.Proof.Tiles
public import proofs.«01_k».proof.Proof.RowTile
public import proofs.«01_k».proof.Proof.Gen.JoinDprojIdeal.Value
public import Idealize.ShloMosaic.Lib.Pipeline.ReadBack
public import Idealize.ShloMosaic.Lib.Pointwise

@[expose] public section

noncomputable section

namespace Cert.JoinDprojIdeal.Final

open Cert.JoinDprojIdeal Cert.JoinDprojIdeal.Gen Idealize.ShloMosaic Idealize.ShloMosaic.TcCoe Idealize.SL.Sem Ffn

/-! The kernel's arithmetic, entry by entry: the stored zeros, the six running column sums, and the two sums of a tile's
own gradient and the next block pair's, which the last tile does without. -/

theorem pay3_apply (l : Fin 5888) : k0_pay3 (F := Ideal) (ix2 0 l) = 0 := by
  unfold k0_pay3
  pointwise

theorem pay6_apply (v : Vec Ideal S128x1024 .bf16) (w : Vec Ideal S1x1024 .f32) (l : Fin 1024) :
    k0_pay6 v w (ix2 0 l) = w (ix2 0 l) + ∑ r, v (ix2 r l) := by
  unfold k0_pay6
  pointwise

theorem pay7_apply (v : Vec Ideal S128x128 .bf16) (w : Vec Ideal S1x128 .f32) (l : Fin 128) :
    k0_pay7 v w (ix2 0 l) = w (ix2 0 l) + ∑ r, v (ix2 r l) := by
  unfold k0_pay7
  pointwise

theorem pay8_apply (v : Vec Ideal S128x128 .bf16) (w : Vec Ideal S1x128 .f32) (l : Fin 128) :
    k0_pay8 v w (ix2 0 l) = w (ix2 0 l) + ∑ r, v (ix2 r l) := by
  unfold k0_pay8
  pointwise

theorem pay9_apply (v : Vec Ideal S128x512 .bf16) (w : Vec Ideal S1x512 .f32) (l : Fin 512) :
    k0_pay9 v w (ix2 0 l) = w (ix2 0 l) + ∑ r, v (ix2 r l) := by
  unfold k0_pay9
  pointwise

theorem pay1_apply (v : Vec Ideal S128x2048 .bf16) (w : Vec Ideal S1x2048 .f32) (l : Fin 2048) :
    k0_pay1 (k0_pay10 w) (k0_pay11 v) (ix2 0 l) = w (ix2 0 l) + ∑ r, v (ix2 r l) := by
  unfold k0_pay1 k0_pay10 k0_pay11
  pointwise

theorem pay2_apply (v : Vec Ideal S128x2048 .bf16) (w : Vec Ideal S1x2048 .f32) (l : Fin 2048) :
    k0_pay2 v w (ix2 0 l) = w (ix2 0 l) + ∑ r, v (ix2 r l) := by
  unfold k0_pay2
  pointwise

/-- The comparison with the last tile's number. -/
theorem last_eq : ∀ n : Fin 64, Scalar.cmpi .eq (BitVec.ofNat 32 n.val) 63#32 = if n.val = 63 then 1#1 else 0#1 := by decide

theorem pay4_apply (i : grid0.Coords) (n : Fin 64) (hn : (i 0).val = n.val) (v w : Vec Ideal S128x128 .f32) (r l : Fin 128) :
    k0_pay4 i v w (ix2 r l) = v (ix2 r l) + (if n.val = 63 then 0 else w (ix2 r l)) := by
  unfold k0_pay4
  rw [hn]
  rw [last_eq]
  split <;> pointwise

theorem pay5_apply (i : grid0.Coords) (n : Fin 64) (hn : (i 0).val = n.val) (v w : Vec Ideal S128x128 .f32) (r l : Fin 128) :
    k0_pay5 i v w (ix2 r l) = v (ix2 r l) + (if n.val = 63 then 0 else w (ix2 r l)) := by
  unfold k0_pay5
  rw [hn]
  rw [last_eq]
  split <;> pointwise

/-- A column of a block of columns lies in the block. -/
theorem mem_cols {n o w : ℕ} (inb : ∀ a, (![0, o] : Fin 2 → ℕ) a + (![n, w] : Fin 2 → ℕ) a ≤ (⟨2, ![n, 5888]⟩ : Shape).size a) (r : Fin n) (p : Fin 5888)
    (h0 : o ≤ p.val) (h1 : p.val < o + w) : ix2 r p ∈ (Rect.unit (s := ⟨2, ![n, 5888]⟩) ![0, o] ![n, w] inb).set := by
  refine (Rect.mem_set_unit (inb := inb)).2 fun a => ?_
  match a with
  | ⟨0, _⟩ => exact ⟨Nat.zero_le _, by show r.val < 0 + n; have := r.isLt; omega⟩
  | ⟨1, _⟩ => exact ⟨h0, h1⟩

/-- The six parts cover the columns. -/
theorem cover {n : ℕ} {φ : EltTy} (r : Fin n) (p : Fin 5888) (i5 : ∀ a, (![0, 3840] : Fin 2 → ℕ) a + (![n, 2048] : Fin 2 → ℕ) a ≤ (⟨2, ![n, 5888]⟩ : Shape).size a)
    (i4 : ∀ a, (![0, 1792] : Fin 2 → ℕ) a + (![n, 2048] : Fin 2 → ℕ) a ≤ (⟨2, ![n, 5888]⟩ : Shape).size a)
    (i3 : ∀ a, (![0, 1280] : Fin 2 → ℕ) a + (![n, 512] : Fin 2 → ℕ) a ≤ (⟨2, ![n, 5888]⟩ : Shape).size a)
    (i2 : ∀ a, (![0, 1152] : Fin 2 → ℕ) a + (![n, 128] : Fin 2 → ℕ) a ≤ (⟨2, ![n, 5888]⟩ : Shape).size a)
    (i1 : ∀ a, (![0, 1024] : Fin 2 → ℕ) a + (![n, 128] : Fin 2 → ℕ) a ≤ (⟨2, ![n, 5888]⟩ : Shape).size a)
    (i0 : ∀ a, (![0, 0] : Fin 2 → ℕ) a + (![n, 1024] : Fin 2 → ℕ) a ≤ (⟨2, ![n, 5888]⟩ : Shape).size a)
    (w5 w4 : Vec Ideal ⟨2, ![n, 2048]⟩ φ) (w3 : Vec Ideal ⟨2, ![n, 512]⟩ φ) (w2 w1 : Vec Ideal ⟨2, ![n, 128]⟩ φ) (w0 : Vec Ideal ⟨2, ![n, 1024]⟩ φ) :
    ∃ q ∈ ([⟨Rect.unit ![0, 3840] ![n, 2048] i5, w5⟩, ⟨Rect.unit ![0, 1792] ![n, 2048] i4, w4⟩, ⟨Rect.unit ![0, 1280] ![n, 512] i3, w3⟩,
        ⟨Rect.unit ![0, 1152] ![n, 128] i2, w2⟩, ⟨Rect.unit ![0, 1024] ![n, 128] i1, w1⟩,
        ⟨Rect.unit ![0, 0] ![n, 1024] i0, w0⟩] : List (View.Piece (Elt Ideal) ⟨2, ![n, 5888]⟩ φ)),
      ix2 r p ∈ q.1.set := by
  have hp := p.isLt
  by_cases h5 : 3840 ≤ p.val
  · exact ⟨_, .head _, mem_cols i5 r p h5 (by omega)⟩
  by_cases h4 : 1792 ≤ p.val
  · exact ⟨_, .tail _ (.head _), mem_cols i4 r p h4 (by omega)⟩
  by_cases h3 : 1280 ≤ p.val
  · exact ⟨_, .tail _ (.tail _ (.head _)), mem_cols i3 r p h3 (by omega)⟩
  by_cases h2 : 1152 ≤ p.val
  · exact ⟨_, .tail _ (.tail _ (.tail _ (.head _))), mem_cols i2 r p h2 (by omega)⟩
  by_cases h1 : 1024 ≤ p.val
  · exact ⟨_, .tail _ (.tail _ (.tail _ (.tail _ (.head _)))), mem_cols i1 r p h1 (by omega)⟩
  · exact ⟨_, .tail _ (.tail _ (.tail _ (.tail _ (.tail _ (.head _))))), mem_cols i0 r p (Nat.zero_le _) (by omega)⟩

section Point

variable {E : ℕ → ℕ → EReal} {R : ℕ}

/-- A part stored from column `o` on, entry by entry. -/
theorem piece {o w : ℕ} (inb : ∀ a, (![0, o] : Fin 2 → ℕ) a + (![128, w] : Fin 2 → ℕ) a ≤ S128x5888.size a) (v : Vec Ideal ⟨2, ![128, w]⟩ .bf16)
    (h : ∀ (r : Fin 128) (l : Fin w), v (ix2 r l) = E (R + r.val) (o + l.val)) (x : (⟨2, ![128, w]⟩ : Shape).Idx) :
    v x = E (R + ((Rect.unit (s := S128x5888) ![0, o] ![128, w] inb).emb x 0).val) ((Rect.unit (s := S128x5888) ![0, o] ![128, w] inb).emb x 1).val :=
  (congrArg v (eq_ix2 x)).trans ((h (x 0) (x 1)).trans
    (congrArg₂ E (by show _ = _ + (0 + 1 * (x 0).val); omega) (by show _ = o + 1 * (x 1).val; omega)))

/-- A part of the running column sums, from column `o` on, entry by entry. -/
theorem piece_sum {o w : ℕ} (inb : ∀ a, (![0, o] : Fin 2 → ℕ) a + (![1, w] : Fin 2 → ℕ) a ≤ S1x5888.size a) (xo : Vec Ideal S1x5888 .f32)
    (v : Vec Ideal ⟨2, ![128, w]⟩ .bf16) (f : Vec Ideal ⟨2, ![1, w]⟩ .f32)
    (hf : ∀ l : Fin w, f (ix2 0 l) = View.ld xo (Rect.unit (s := S1x5888) ![0, o] ![1, w] inb) (ix2 0 l) + ∑ r, v (ix2 r l))
    (h : ∀ (r : Fin 128) (l : Fin w), v (ix2 r l) = E (R + r.val) (o + l.val)) (x : (⟨2, ![1, w]⟩ : Shape).Idx) :
    f x = xo (ix2 0 ((Rect.unit (s := S1x5888) ![0, o] ![1, w] inb).emb x 1))
      + ∑ r : Fin 128, E (R + r.val) ((Rect.unit (s := S1x5888) ![0, o] ![1, w] inb).emb x 1).val := by
  refine (congrArg f (eq_row x)).trans ((hf (x 1)).trans (congrArg₂ (· + ·) (congrArg xo ?_) (Finset.sum_congr rfl fun r _ => (h r (x 1)).trans ?_)))
  · exact eq_row (n := 5888) _
  · exact congrArg (E _) (by show _ = o + 1 * (x 1).val; omega)

variable (x0 : Vec Ideal S128x1024 .bf16) (x1 x2 x3 x4 : Vec Ideal S128x128 .f32) (x5 : Vec Ideal S128x512 .bf16) (x6 x7 : Vec Ideal S128x2048 .bf16)
  (xo9 : Vec Ideal S1x5888 .f32) (i : grid0.Coords)
  (h0 : ∀ (r : Fin 128) (l : Fin 1024), x0 (ix2 r l) = E (R + r.val) (0 + l.val))
  (h1 : ∀ (r : Fin 128) (l : Fin 128), k0_pay4 i x1 x2 (ix2 r l) = E (R + r.val) (1024 + l.val))
  (h2 : ∀ (r : Fin 128) (l : Fin 128), k0_pay5 i x3 x4 (ix2 r l) = E (R + r.val) (1152 + l.val))
  (h3 : ∀ (r : Fin 128) (l : Fin 512), x5 (ix2 r l) = E (R + r.val) (1280 + l.val))
  (h4 : ∀ (r : Fin 128) (l : Fin 2048), x6 (ix2 r l) = E (R + r.val) (1792 + l.val))
  (h5 : ∀ (r : Fin 128) (l : Fin 2048), x7 (ix2 r l) = E (R + r.val) (3840 + l.val))
include h0 h1 h2 h3 h4 h5

/-- The six parts a point stores are its rows of the joined gradient. -/
theorem parts (L : List (View.Piece (Elt Ideal) S128x5888 .bf16)) (r : Fin 128) (p : Fin 5888) :
    View.canon (([⟨Rect.unit ![0, 3840] ![128, 2048] inb_S128x5888_S128x2048_0_3840, x7⟩,
        ⟨Rect.unit ![0, 1792] ![128, 2048] inb_S128x5888_S128x2048_0_1792, x6⟩,
        ⟨Rect.unit ![0, 1280] ![128, 512] inb_S128x5888_S128x512_0_1280, x5⟩,
        ⟨Rect.unit ![0, 1152] ![128, 128] inb_S128x5888_S128x128_0_1152, k0_pay5 i x3 x4⟩,
        ⟨Rect.unit ![0, 1024] ![128, 128] inb_S128x5888_S128x128_0_1024, k0_pay4 i x1 x2⟩,
        ⟨Rect.unit ![0, 0] ![128, 1024] inb_S128x5888_S128x1024_0_0, x0⟩] : List (View.Piece (Elt Ideal) S128x5888 .bf16)) ++ L) (ix2 r p)
      = E (R + r.val) p.val := by
  refine View.canon_append_of_piecesOf (fun y : S128x5888.Idx => E (R + (y 0).val) (y 1).val) L _ ?_ _ (cover r p ..)
  exact ⟨piece inb_S128x5888_S128x2048_0_3840 x7 h5, piece inb_S128x5888_S128x2048_0_1792 x6 h4, piece inb_S128x5888_S128x512_0_1280 x5 h3, piece inb_S128x5888_S128x128_0_1152 (k0_pay5 i x3 x4) h2, piece inb_S128x5888_S128x128_0_1024 (k0_pay4 i x1 x2) h1, piece inb_S128x5888_S128x1024_0_0 x0 h0, trivial⟩

/-- The six rows a point stores are the running column sums with the point's own added. -/
theorem sums (L : List (View.Piece (Elt Ideal) S1x5888 .f32)) (p : Fin 5888) :
    View.canon (([⟨Rect.unit ![0, 3840] ![1, 2048] inb_S1x5888_S1x2048_0_3840, k0_pay2 x7 (View.ld xo9 (Rect.unit ![0, 3840] ![1, 2048] inb_S1x5888_S1x2048_0_3840))⟩,
        ⟨Rect.unit ![0, 1792] ![1, 2048] inb_S1x5888_S1x2048_0_1792,
          k0_pay1 (k0_pay10 (View.ld xo9 (Rect.unit ![0, 1792] ![1, 2048] inb_S1x5888_S1x2048_0_1792))) (k0_pay11 x6)⟩,
        ⟨Rect.unit ![0, 1280] ![1, 512] inb_S1x5888_S1x512_0_1280, k0_pay9 x5 (View.ld xo9 (Rect.unit ![0, 1280] ![1, 512] inb_S1x5888_S1x512_0_1280))⟩,
        ⟨Rect.unit ![0, 1152] ![1, 128] inb_S1x5888_S1x128_0_1152,
          k0_pay8 (k0_pay5 i x3 x4) (View.ld xo9 (Rect.unit ![0, 1152] ![1, 128] inb_S1x5888_S1x128_0_1152))⟩,
        ⟨Rect.unit ![0, 1024] ![1, 128] inb_S1x5888_S1x128_0_1024,
          k0_pay7 (k0_pay4 i x1 x2) (View.ld xo9 (Rect.unit ![0, 1024] ![1, 128] inb_S1x5888_S1x128_0_1024))⟩,
        ⟨Rect.unit ![0, 0] ![1, 1024] inb_S1x5888_S1x1024_0_0,
          k0_pay6 x0 (View.ld xo9 (Rect.unit ![0, 0] ![1, 1024] inb_S1x5888_S1x1024_0_0))⟩] : List (View.Piece (Elt Ideal) S1x5888 .f32)) ++ L) (ix2 0 p)
      = xo9 (ix2 0 p) + ∑ r : Fin 128, E (R + r.val) p.val := by
  refine View.canon_append_of_piecesOf (fun y : S1x5888.Idx => xo9 (ix2 0 (y 1)) + ∑ r : Fin 128, E (R + r.val) (y 1).val) L _ ?_ _ (cover 0 p ..)
  exact ⟨piece_sum inb_S1x5888_S1x2048_0_3840 xo9 x7 _ (pay2_apply x7 _) h5, piece_sum inb_S1x5888_S1x2048_0_1792 xo9 x6 _ (pay1_apply x6 _) h4, piece_sum inb_S1x5888_S1x512_0_1280 xo9 x5 _ (pay9_apply x5 _) h3,
      piece_sum inb_S1x5888_S1x128_0_1152 xo9 _ _ (pay8_apply _ _) h2, piece_sum inb_S1x5888_S1x128_0_1024 xo9 _ _ (pay7_apply _ _) h1, piece_sum inb_S1x5888_S1x1024_0_0 xo9 x0 _ (pay6_apply x0 _) h0, trivial⟩

variable (c : Dev nD) (arg1 : Memref sig .tc .vmem S128x1024 .bf16) (harg1 : arg1.IsWhole)
    (arg2 : Memref sig .tc .vmem S128x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S128x512 .bf16) (harg6 : arg6.IsWhole) (arg7 : Memref sig .tc .vmem S128x2048 .bf16) (harg7 : arg7.IsWhole)
    (arg8 : Memref sig .tc .vmem S128x2048 .bf16) (harg8 : arg8.IsWhole) (arg9 : Memref sig .tc .vmem S128x5888 .bf16) (harg9 : arg9.IsWhole)
    (arg10 : Memref sig .tc .vmem S1x5888 .f32) (harg10 : arg10.IsWhole)

/-! What the first point leaves in the two result blocks, and what a later point does. -/

theorem out_A_8 (hc : cond0_0 i) (r : Fin 128) (p : Fin 5888) : out0_A_8 c i arg1 harg1 arg2 harg2 arg3 harg3 arg4 harg4 arg5 harg5 arg6 harg6 arg7 harg7 arg8 harg8 arg9 harg9 arg10 harg10 hc x0 x1 x2 x3 x4 x5 x6 x7 (ix2 r p) = E (R + r.val) p.val := by
  unfold out0_A_8
  rw [View.read_writes_eq_canon _ _ _ (fun y => cover0_A_8 (y := y) ..)]
  unfold kernelRun0_A
  dsimp only
  sl_unfold_words
  simp only [View.readAt_eq_ld, harg1.read_unread, harg2.read_unread, harg3.read_unread, harg4.read_unread, harg5.read_unread, harg6.read_unread,
    harg7.read_unread, harg8.read_unread, ld_whole]
  exact parts x0 x1 x2 x3 x4 x5 x6 x7 i h0 h1 h2 h3 h4 h5 [] r p

theorem out_B_8 (hc : ¬cond0_0 i) (r : Fin 128) (p : Fin 5888) : out0_B_8 c i arg1 harg1 arg2 harg2 arg3 harg3 arg4 harg4 arg5 harg5 arg6 harg6 arg7 harg7 arg8 harg8 arg9 harg9 arg10 harg10 hc x0 x1 x2 x3 x4 x5 x6 x7 xo9 (ix2 r p) = E (R + r.val) p.val := by
  unfold out0_B_8
  rw [View.read_writes_eq_canon _ _ _ (fun y => cover0_B_8 (y := y) ..)]
  unfold kernelRun0_B
  dsimp only
  sl_unfold_words
  simp only [View.readAt_eq_ld, harg1.read_unread, harg2.read_unread, harg3.read_unread, harg4.read_unread, harg5.read_unread, harg6.read_unread,
    harg7.read_unread, harg8.read_unread, ld_whole]
  exact parts x0 x1 x2 x3 x4 x5 x6 x7 i h0 h1 h2 h3 h4 h5 [] r p

theorem out_A_9 (hc : cond0_0 i) (p : Fin 5888) : out0_A_9 c i arg1 harg1 arg2 harg2 arg3 harg3 arg4 harg4 arg5 harg5 arg6 harg6 arg7 harg7 arg8 harg8 arg9 harg9 arg10 harg10 hc x0 x1 x2 x3 x4 x5 x6 x7 (ix2 0 p) = ∑ r : Fin 128, E (R + r.val) p.val := by
  unfold out0_A_9
  rw [View.read_writes_eq_canon _ _ _ (fun y => cover0_A_9 (y := y) ..)]
  unfold kernelRun0_A
  dsimp only
  sl_unfold_words
  simp only [View.readAt_eq_ld, harg1.read_unread, harg2.read_unread, harg3.read_unread, harg4.read_unread, harg5.read_unread, harg6.read_unread,
    harg7.read_unread, harg8.read_unread, ld_whole]
  simp (disch := decide) only [View.readCov_skip, fun Z L r => View.readCov_fill arg10.view inb_S1x5888_S1x5888_0_0 Z L r (congrFun hz)]
  refine (sums x0 x1 x2 x3 x4 x5 x6 x7 (k0_pay3 (F := Ideal)) i h0 h1 h2 h3 h4 h5 _ p).trans ?_
  rw [pay3_apply, zero_add]

theorem out_B_9 (hc : ¬cond0_0 i) (p : Fin 5888) :
    out0_B_9 c i arg1 harg1 arg2 harg2 arg3 harg3 arg4 harg4 arg5 harg5 arg6 harg6 arg7 harg7 arg8 harg8 arg9 harg9 arg10 harg10 hc x0 x1 x2 x3 x4 x5 x6 x7 xo9 (ix2 0 p) = xo9 (ix2 0 p) + ∑ r : Fin 128, E (R + r.val) p.val := by
  unfold out0_B_9
  rw [View.read_writes_eq_canon _ _ _ (fun y => cover0_B_9 (y := y) ..)]
  unfold kernelRun0_B
  dsimp only
  sl_unfold_words
  simp only [View.readAt_eq_ld, harg1.read_unread, harg2.read_unread, harg3.read_unread, harg4.read_unread, harg5.read_unread, harg6.read_unread,
    harg7.read_unread, harg8.read_unread, harg10.read_unread, ld_whole]
  exact sums x0 x1 x2 x3 x4 x5 x6 x7 xo9 i h0 h1 h2 h3 h4 h5 [] p

end Point

variable (m : (ℓ : Loc nD τ sig) → Buf (Elt Ideal) ℓ) (c : Dev nD)

/-! The argument arrays, entry by entry: the queries' gradient, the keys' from the row's own block pair and from the next
one's, the values' likewise, the state-space branch's, and the two merge factors'. -/

abbrev Q (r q : ℕ) : EReal := at2 (n0 := 8192) (n1 := 1024) (m ((c : Thread nD τ).loc main_arg0)) r q

abbrev K (r q : ℕ) : EReal := at2 (n0 := 8192) (n1 := 128) (m ((c : Thread nD τ).loc main_arg1)) r q

abbrev Kn (r q : ℕ) : EReal := at2 (n0 := 8192) (n1 := 128) (m ((c : Thread nD τ).loc main_arg2)) r q

abbrev W (r q : ℕ) : EReal := at2 (n0 := 8192) (n1 := 128) (m ((c : Thread nD τ).loc main_arg3)) r q

abbrev Wn (r q : ℕ) : EReal := at2 (n0 := 8192) (n1 := 128) (m ((c : Thread nD τ).loc main_arg4)) r q

abbrev U (r q : ℕ) : EReal := at2 (n0 := 8192) (n1 := 512) (m ((c : Thread nD τ).loc main_arg5)) r q

abbrev Ga (r q : ℕ) : EReal := at2 (n0 := 8192) (n1 := 2048) (m ((c : Thread nD τ).loc main_arg6)) r q

abbrev Gs (r q : ℕ) : EReal := at2 (n0 := 8192) (n1 := 2048) (m ((c : Thread nD τ).loc main_arg7)) r q

/-- A point's tile number. -/
theorem coord : ∀ t : Fin cfg0.N, (grid0.coords t 0).val = t.val :=
  (by decide +kernel : ∀ t : Fin grid0.N, (grid0.coords t 0).val = t.val)

/-! Where the windows' blocks lie, and the input blocks, entry by entry. -/

theorem index0 : ∀ t : Fin cfg0.N, win0_0.index t 0 = t.val ∧ win0_0.index t 1 = 0 :=
  (by decide +kernel : ∀ t : Fin grid0.N, win0_0.index t 0 = t.val ∧ win0_0.index t 1 = 0)

theorem block0 (t : Fin cfg0.N) (r : Fin 128) (l : Fin 1024) :
    (iblk m c 0 t : Vec Ideal S128x1024 .bf16) (ix2 r l) = Q m c ((t.val) * 128 + r.val) l.val := by
  unfold iblk
  rw [View.read_apply]
  show V m c main_arg0 _ = _
  rw [V_main_arg0]
  exact at2_block (index0 t) rfl rfl

theorem index1 : ∀ t : Fin cfg0.N, win0_1.index t 0 = t.val ∧ win0_1.index t 1 = 0 :=
  (by decide +kernel : ∀ t : Fin grid0.N, win0_1.index t 0 = t.val ∧ win0_1.index t 1 = 0)

theorem block1 (t : Fin cfg0.N) (r : Fin 128) (l : Fin 128) :
    (iblk m c 1 t : Vec Ideal S128x128 .f32) (ix2 r l) = K m c ((t.val) * 128 + r.val) l.val := by
  unfold iblk
  rw [View.read_apply]
  show V m c main_arg1 _ = _
  rw [V_main_arg1]
  exact at2_block (index1 t) rfl rfl

theorem index2 : ∀ t : Fin cfg0.N, win0_2.index t 0 = min (t.val + 1) 63 ∧ win0_2.index t 1 = 0 :=
  (by decide +kernel : ∀ t : Fin grid0.N, win0_2.index t 0 = min (t.val + 1) 63 ∧ win0_2.index t 1 = 0)

theorem block2 (t : Fin cfg0.N) (r : Fin 128) (l : Fin 128) :
    (iblk m c 2 t : Vec Ideal S128x128 .f32) (ix2 r l) = Kn m c ((min (t.val + 1) 63) * 128 + r.val) l.val := by
  unfold iblk
  rw [View.read_apply]
  show V m c main_arg2 _ = _
  rw [V_main_arg2]
  exact at2_block (index2 t) rfl rfl

theorem index3 : ∀ t : Fin cfg0.N, win0_3.index t 0 = t.val ∧ win0_3.index t 1 = 0 :=
  (by decide +kernel : ∀ t : Fin grid0.N, win0_3.index t 0 = t.val ∧ win0_3.index t 1 = 0)

theorem block3 (t : Fin cfg0.N) (r : Fin 128) (l : Fin 128) :
    (iblk m c 3 t : Vec Ideal S128x128 .f32) (ix2 r l) = W m c ((t.val) * 128 + r.val) l.val := by
  unfold iblk
  rw [View.read_apply]
  show V m c main_arg3 _ = _
  rw [V_main_arg3]
  exact at2_block (index3 t) rfl rfl

theorem index4 : ∀ t : Fin cfg0.N, win0_4.index t 0 = min (t.val + 1) 63 ∧ win0_4.index t 1 = 0 :=
  (by decide +kernel : ∀ t : Fin grid0.N, win0_4.index t 0 = min (t.val + 1) 63 ∧ win0_4.index t 1 = 0)

theorem block4 (t : Fin cfg0.N) (r : Fin 128) (l : Fin 128) :
    (iblk m c 4 t : Vec Ideal S128x128 .f32) (ix2 r l) = Wn m c ((min (t.val + 1) 63) * 128 + r.val) l.val := by
  unfold iblk
  rw [View.read_apply]
  show V m c main_arg4 _ = _
  rw [V_main_arg4]
  exact at2_block (index4 t) rfl rfl

theorem index5 : ∀ t : Fin cfg0.N, win0_5.index t 0 = t.val ∧ win0_5.index t 1 = 0 :=
  (by decide +kernel : ∀ t : Fin grid0.N, win0_5.index t 0 = t.val ∧ win0_5.index t 1 = 0)

theorem block5 (t : Fin cfg0.N) (r : Fin 128) (l : Fin 512) :
    (iblk m c 5 t : Vec Ideal S128x512 .bf16) (ix2 r l) = U m c ((t.val) * 128 + r.val) l.val := by
  unfold iblk
  rw [View.read_apply]
  show V m c main_arg5 _ = _
  rw [V_main_arg5]
  exact at2_block (index5 t) rfl rfl

theorem index6 : ∀ t : Fin cfg0.N, win0_6.index t 0 = t.val ∧ win0_6.index t 1 = 0 :=
  (by decide +kernel : ∀ t : Fin grid0.N, win0_6.index t 0 = t.val ∧ win0_6.index t 1 = 0)

theorem block6 (t : Fin cfg0.N) (r : Fin 128) (l : Fin 2048) :
    (iblk m c 6 t : Vec Ideal S128x2048 .bf16) (ix2 r l) = Ga m c ((t.val) * 128 + r.val) l.val := by
  unfold iblk
  rw [View.read_apply]
  show V m c main_arg6 _ = _
  rw [V_main_arg6]
  exact at2_block (index6 t) rfl rfl

theorem index7 : ∀ t : Fin cfg0.N, win0_7.index t 0 = t.val ∧ win0_7.index t 1 = 0 :=
  (by decide +kernel : ∀ t : Fin grid0.N, win0_7.index t 0 = t.val ∧ win0_7.index t 1 = 0)

theorem block7 (t : Fin cfg0.N) (r : Fin 128) (l : Fin 2048) :
    (iblk m c 7 t : Vec Ideal S128x2048 .bf16) (ix2 r l) = Gs m c ((t.val) * 128 + r.val) l.val := by
  unfold iblk
  rw [View.read_apply]
  show V m c main_arg7 _ = _
  rw [V_main_arg7]
  exact at2_block (index7 t) rfl rfl

theorem index8 : ∀ t : Fin cfg0.N, win0_8.index t 0 = t.val ∧ win0_8.index t 1 = 0 :=
  (by decide +kernel : ∀ t : Fin grid0.N, win0_8.index t 0 = t.val ∧ win0_8.index t 1 = 0)

theorem index9 : ∀ t : Fin cfg0.N, win0_9.index t 0 = 0 ∧ win0_9.index t 1 = 0 :=
  (by decide +kernel : ∀ t : Fin grid0.N, win0_9.index t 0 = 0 ∧ win0_9.index t 1 = 0)

/-- The joined gradient: the queries' columns, the keys', the values', the state-space branch's, and the two merge
factors'. A key's or value's row has the gradient from the next block pair added; in the last block that row lies past the end and reads as zero. -/
def val8 (r q : ℕ) : EReal :=
  if q < 1024 then Q m c r q
  else if q < 1152 then K m c r (q - 1024) + Kn m c (r + 128) (q - 1024)
  else if q < 1280 then W m c r (q - 1152) + Wn m c (r + 128) (q - 1152)
  else if q < 1792 then U m c r (q - 1280)
  else if q < 3840 then Ga m c r (q - 1792)
  else Gs m c r (q - 3840)

/-- The joined gradient's column sums. -/
def val9 (q : ℕ) : EReal := ∑ r ∈ Finset.range 8192, val8 m c r q

section Blocks

variable (t : Fin cfg0.N) (r : Fin 128)

/-! The parts a point stores are the joined gradient's columns. -/

theorem part0 (l : Fin 1024) : (iblk m c 0 t : Vec Ideal S128x1024 .bf16) (ix2 r l) = val8 m c (t.val * 128 + r.val) (0 + l.val) := by
  rw [block0, val8, if_pos (by omega), Nat.zero_add]

theorem part1 (l : Fin 128) :
    k0_pay4 (grid0.coords t) (iblk m c 1 t : Vec Ideal S128x128 .f32) (iblk m c 2 t : Vec Ideal S128x128 .f32) (ix2 r l)
      = val8 m c (t.val * 128 + r.val) (1024 + l.val) := by
  have ht : t.val < 64 := lt_of_lt_of_eq t.isLt N_0
  have hr := r.isLt
  rw [val8, if_neg (by omega), if_pos (by omega), Nat.add_sub_cancel_left, pay4_apply _ ⟨t.val, ht⟩ (coord t), block1, block2]
  refine congrArg (_ + ·) ?_
  by_cases h : t.val = 63
  · exact (if_pos h).trans (at2_row _ _ _ (by omega)).symm
  · refine (if_neg h).trans (congrArg (Kn m c · _) (by rw [Nat.min_eq_left (by omega)]; omega))

theorem part2 (l : Fin 128) :
    k0_pay5 (grid0.coords t) (iblk m c 3 t : Vec Ideal S128x128 .f32) (iblk m c 4 t : Vec Ideal S128x128 .f32) (ix2 r l)
      = val8 m c (t.val * 128 + r.val) (1152 + l.val) := by
  have ht : t.val < 64 := lt_of_lt_of_eq t.isLt N_0
  have hr := r.isLt
  rw [val8, if_neg (by omega), if_neg (by omega), if_pos (by omega), Nat.add_sub_cancel_left, pay5_apply _ ⟨t.val, ht⟩ (coord t), block3, block4]
  refine congrArg (_ + ·) ?_
  by_cases h : t.val = 63
  · exact (if_pos h).trans (at2_row _ _ _ (by omega)).symm
  · refine (if_neg h).trans (congrArg (Wn m c · _) (by rw [Nat.min_eq_left (by omega)]; omega))

theorem part3 (l : Fin 512) : (iblk m c 5 t : Vec Ideal S128x512 .bf16) (ix2 r l) = val8 m c (t.val * 128 + r.val) (1280 + l.val) := by
  rw [block5, val8, if_neg (by omega), if_neg (by omega), if_neg (by omega), if_pos (by omega), Nat.add_sub_cancel_left]

theorem part4 (l : Fin 2048) : (iblk m c 6 t : Vec Ideal S128x2048 .bf16) (ix2 r l) = val8 m c (t.val * 128 + r.val) (1792 + l.val) := by
  rw [block6, val8, if_neg (by omega), if_neg (by omega), if_neg (by omega), if_neg (by omega), if_pos (by omega), Nat.add_sub_cancel_left]

theorem part5 (l : Fin 2048) : (iblk m c 7 t : Vec Ideal S128x2048 .bf16) (ix2 r l) = val8 m c (t.val * 128 + r.val) (3840 + l.val) := by
  rw [block7, val8, if_neg (by omega), if_neg (by omega), if_neg (by omega), if_neg (by omega), if_neg (by omega), Nat.add_sub_cancel_left]

end Blocks

attribute [local irreducible] val8

/-! What a point leaves in each result block. -/

theorem val8_after (t : Fin cfg0.N) (r : Fin 128) (p : Fin 5888) :
    (outsAt0 m c t.val t.isLt).1 (ix2 r p) = val8 m c (t.val * 128 + r.val) p.val := by
  by_cases h : t.val % 64 = 0
  · rw [outsAt0_A m c t h]
    dsimp only
    exact out_A_8 (E := val8 m c) (h0 := part0 m c t) (h1 := part1 m c t) (h2 := part2 m c t) (h3 := part3 m c t) (h4 := part4 m c t) (h5 := part5 m c t) ..
  · rw [outsAt0_B m c t h]
    dsimp only
    exact out_B_8 (E := val8 m c) (h0 := part0 m c t) (h1 := part1 m c t) (h2 := part2 m c t) (h3 := part3 m c t) (h4 := part4 m c t) (h5 := part5 m c t) ..

theorem sum_after (p : Fin 5888) (n : ℕ) (hn : n < cfg0.N) :
    (outsAt0 m c n hn).2 (ix2 0 p) = ∑ r ∈ Finset.range ((n + 1) * 128), val8 m c r p.val := by
  refine running_sum (N := cfg0.N) (b := 128) (fun r => val8 m c r p.val) (fun n hn => (outsAt0 m c n hn).2 (ix2 0 p)) (fun hn => ?_) (fun n hn => ?_) n hn
  · show (outsAt0 m c (⟨0, hn⟩ : Fin cfg0.N).val _).2 _ = _
    rw [outsAt0_A m c ⟨0, hn⟩ rfl]
    dsimp only
    exact out_A_9 (E := val8 m c) (h0 := part0 m c ⟨0, hn⟩) (h1 := part1 m c ⟨0, hn⟩) (h2 := part2 m c ⟨0, hn⟩) (h3 := part3 m c ⟨0, hn⟩) (h4 := part4 m c ⟨0, hn⟩) (h5 := part5 m c ⟨0, hn⟩) ..
  · have hN : n + 1 < 64 := lt_of_lt_of_eq hn N_0
    show (outsAt0 m c (⟨n + 1, hn⟩ : Fin cfg0.N).val _).2 _ = _
    rw [outsAt0_B m c ⟨n + 1, hn⟩ (by dsimp only; omega)]
    dsimp only
    exact out_B_9 (E := val8 m c) (h0 := part0 m c ⟨n + 1, hn⟩) (h1 := part1 m c ⟨n + 1, hn⟩) (h2 := part2 m c ⟨n + 1, hn⟩) (h3 := part3 m c ⟨n + 1, hn⟩) (h4 := part4 m c ⟨n + 1, hn⟩) (h5 := part5 m c ⟨n + 1, hn⟩) ..

/-! The two result arrays. -/

def arr8 : Buf (Elt Ideal) ((c : Thread nD τ).loc main_v0_0) := fun y : S8192x5888.Idx => val8 m c (y 0).val (y 1).val

def arr9 : Buf (Elt Ideal) ((c : Thread nD τ).loc main_v0_1) := fun y : S1x5888.Idx => val9 m c (y 1).val

/-- The column sums after the last point. -/
theorem sum_all (q : ℕ) : ∑ r ∈ Finset.range ((63 + 1) * 128), val8 m c r q = val9 m c q := rfl

attribute [local irreducible] val9

/-! The result arrays after the run. -/

theorem final8 : (dats m 0 c).arrAt 8 cfg0.N = arr8 m c := by
  refine (dats m 0 c).arrAt_eq_of_cover 8 (arr8 m c) (fun t hf => ?_) fun (i : S8192x5888.Idx) => ?_
  · rw [Value.flushed8]
    obtain ⟨h0, h1⟩ := index8 t
    funext y
    rw [View.read_apply]
    show (outsAt0 m c t.val t.isLt).1 y = val8 m c (win0_8.index t 0 * 128 + 1 * (y 0).val) (win0_8.index t 1 * 5888 + 1 * (y 1).val)
    refine (congrArg _ (eq_ix2 y)).trans ((val8_after m c t _ _).trans ?_)
    rw [h0, h1]
    exact congrArg₂ (val8 m c) (by omega) (by omega)
  · have b0 : (i 0).val < 8192 := (i 0).isLt
    have b1 : (i 1).val < 5888 := (i 1).isLt
    have hN : cfg0.N = 64 := N_0
    obtain ⟨t, ht⟩ : ∃ t : Fin cfg0.N, t.val = (i 0).val / 128 := ⟨⟨_, by omega⟩, rfl⟩
    refine ⟨t, flush0_8 t, ?_⟩
    show i ∈ ((View.whole main_v0_0).slice (win0_8.rect t)).set
    rw [View.set_slice_whole]
    exact mem_block (index8 t) (by omega) (by omega)

theorem final9 : (dats m 0 c).arrAt 9 cfg0.N = arr9 m c := by
  refine (dats m 0 c).arrAt_eq_of_cover 9 (arr9 m c) (fun t hf => ?_) fun (i : S1x5888.Idx) => ?_
  · rw [Value.flushed9]
    obtain ⟨h0, h1⟩ := index9 t
    have ht : t.val = 63 := by have := (flush0_9 t).mp hf; have := lt_of_lt_of_eq t.isLt N_0; omega
    funext y
    rw [View.read_apply]
    show (outsAt0 m c t.val t.isLt).2 y = val9 m c (win0_9.index t 1 * 5888 + 1 * (y 1).val)
    refine (congrArg _ (eq_row y)).trans ((sum_after m c _ t.val t.isLt).trans ?_)
    rw [h1, ht]
    exact (sum_all m c _).trans (congrArg (val9 m c) (by omega))
  · have b0 : (i 0).val < 1 := (i 0).isLt
    have b1 : (i 1).val < 5888 := (i 1).isLt
    have hN : cfg0.N = 64 := N_0
    obtain ⟨t, ht⟩ : ∃ t : Fin cfg0.N, t.val = 63 := ⟨⟨_, by omega⟩, rfl⟩
    refine ⟨t, (flush0_9 t).mpr (by omega), ?_⟩
    show i ∈ ((View.whole main_v0_1).slice (win0_9.rect t)).set
    rw [View.set_slice_whole]
    exact mem_block (index9 t) (by omega) (by omega)

end Cert.JoinDprojIdeal.Final

end
-- ==== Proof.JoinDprojClaims.lean ====
/-
  The claims about joining the projection's gradient: the frames, and the equality of the two results with the reference's
  over the extended reals.
-/
module

public import proofs.«01_k».proof.Defs
public import proofs.«01_k».proof.Proof.JoinDprojValue
public import proofs.«01_k».proof.Proof.Gen.JoinDproj.Frame
public import proofs.«01_k».proof.Proof.Gen.JoinDprojRefIdeal.Run

@[expose] public section

noncomputable section

namespace JoinDprojClaims

open Idealize.ShloMosaic Idealize.ShloMosaic.TcCoe Idealize.SL.Sem Cert Ffn

/-! The frames. -/

theorem frame_p : quiescent_JoinDproj := fun m ρ _ => Cert.JoinDproj.Gen.frame m ρ

theorem frame_pi : quiescent_JoinDprojIdeal := fun m ρ _ => Cert.JoinDprojIdeal.Gen.frame m ρ

theorem frame_ri : quiescent_JoinDprojRefIdeal := fun m ρ _ =>
  (θ_run _ _ _).mono (fun r h => ⟨fun c => (h c).2.2, sem_eq_zero_of_no_sems (by decide) r.2⟩) (Cert.JoinDprojRefIdeal.Value.run m ρ)

/-- No operation is rewritten. -/
theorem preserves : preserves_JoinDproj_JoinDprojIdeal := trivial

section Reference

open Cert.JoinDprojRefIdeal Cert.JoinDprojRefIdeal.Gen

/-- The sum of the gradient from the row's own block pair and the one from the next pair, as the reference forms it: the
two side by side, cut apart again, and the latter moved up by a block. -/
theorem pair_sum (x y : Vec Ideal S8192x128 .f32) (r : Fin 8192) (l : Fin 128) :
    (shapeCast S8192x128 (addf (F := Ideal) (φ := .f32) (extractStridedSlice S64x128x128 ![0, 128, 0] (concatenate S64x256x128 1 [⟨S64x128x128, (shapeCast _ y shapeCasts_S8192x128_S64x128x128)⟩, ⟨S64x128x128, (shapeCast _ x shapeCasts_S8192x128_S64x128x128)⟩] concatenates_S64x128x128_S64x128x128_S64x256x128_d1) slices_S64x256x128_S64x128x128_0_128_0) (pad S64x128x128 ![0, 0, 0] ![1, 0, 0] ![0, 0, 0] (extractStridedSlice S63x128x128 ![1, 0, 0] (extractStridedSlice S64x128x128 ![0, 0, 0] (concatenate S64x256x128 1 [⟨S64x128x128, (shapeCast _ y shapeCasts_S8192x128_S64x128x128)⟩, ⟨S64x128x128, (shapeCast _ x shapeCasts_S8192x128_S64x128x128)⟩] concatenates_S64x128x128_S64x128x128_S64x256x128_d1) slices_S64x256x128_S64x128x128_0_0_0) slices_S64x128x128_S63x128x128_1_0_0) (constant (F := Ideal) S_ .f32 0x00000000#32) pads_S63x128x128_S64x128x128_010_000_000 h_S_)) shapeCasts_S64x128x128_S8192x128 : Vec Ideal S8192x128 .f32) (ix2 r l)
      = at2 (n0 := 8192) (n1 := 128) x r.val l.val + at2 (n0 := 8192) (n1 := 128) y (r.val + 128) l.val := by
  have hr := r.isLt
  pointwise
  refine congrArg₂ (fun u v : EReal => u + v) ?_ ?_
  · exact (at2_eq _ _ _ _ _ rfl rfl).symm
  · by_cases h : r.val / 128 < 63
    · exact (dif_pos (by omega)).trans ((dif_pos (by omega)).trans (at2_eq _ _ _ _ _ (by simp only []; omega) rfl).symm)
    · exact (dif_neg (by omega)).trans (at2_row _ _ _ (by omega)).symm

/-- Six arrays side by side, entry by entry. -/
theorem join_apply (x0 : Vec Ideal S8192x1024 .f32) (x1 x2 : Vec Ideal S8192x128 .f32) (x3 : Vec Ideal S8192x512 .f32) (x4 x5 : Vec Ideal S8192x2048 .f32) (E : ℕ → ℕ → EReal)
    (h0 : ∀ r l, x0 (ix2 r l) = E r.val (0 + l.val)) (h1 : ∀ r l, x1 (ix2 r l) = E r.val (1024 + l.val)) (h2 : ∀ r l, x2 (ix2 r l) = E r.val (1152 + l.val))
    (h3 : ∀ r l, x3 (ix2 r l) = E r.val (1280 + l.val)) (h4 : ∀ r l, x4 (ix2 r l) = E r.val (1792 + l.val)) (h5 : ∀ r l, x5 (ix2 r l) = E r.val (3840 + l.val))
    (r : Fin 8192) (p : Fin 5888) :
    concatenate S8192x5888 1 [⟨S8192x1024, x0⟩, ⟨S8192x128, x1⟩, ⟨S8192x128, x2⟩, ⟨S8192x512, x3⟩, ⟨S8192x2048, x4⟩, ⟨S8192x2048, x5⟩]
        concatenates_S8192x1024_S8192x128_S8192x128_S8192x512_S8192x2048_S8192x2048_S8192x5888_d1 (ix2 r p)
      = E r.val p.val := by
  have hp := p.isLt
  pointwise
  by_cases c0 : p.val < 1024
  · exact (dif_pos c0).trans ((h0 _ _).trans (congrArg (E _) (by dsimp only; omega)))
  refine (dif_neg c0).trans ?_
  by_cases c1 : p.val - 1024 < 128
  · exact (dif_pos c1).trans ((h1 _ _).trans (congrArg (E _) (by dsimp only; omega)))
  refine (dif_neg c1).trans ?_
  by_cases c2 : p.val - 1024 - 128 < 128
  · exact (dif_pos c2).trans ((h2 _ _).trans (congrArg (E _) (by dsimp only; omega)))
  refine (dif_neg c2).trans ?_
  by_cases c3 : p.val - 1024 - 128 - 128 < 512
  · exact (dif_pos c3).trans ((h3 _ _).trans (congrArg (E _) (by dsimp only; omega)))
  refine (dif_neg c3).trans ?_
  by_cases c4 : p.val - 1024 - 128 - 128 - 512 < 2048
  · exact (dif_pos c4).trans ((h4 _ _).trans (congrArg (E _) (by dsimp only; omega)))
  exact (dif_neg c4).trans ((h5 _ _).trans (congrArg (E _) (by dsimp only; omega)))

/-- The host's column sums, entry by entry. -/
theorem sums_apply (x : Vec Ideal S8192x5888 .f32) (p : Fin 5888) :
    (shapeCast S1x5888 (Host.reduceAdd (F := Ideal) x (constant (F := Ideal) S_ .f32 0x00000000#32) reducesTo_S8192x5888_S5888_d0 h_S_) shapeCasts_S5888_S1x5888 : Vec Ideal S1x5888 .f32) (ix2 0 p)
      = ∑ r : Fin 8192, x (ix2 r p) := by
  pointwise

end Reference

section Parts

open JoinDprojIdeal JoinDprojIdeal.Final

variable (m : (ℓ : Loc JoinDprojIdeal.nD JoinDprojIdeal.τ JoinDprojIdeal.sig) → Buf (Elt Ideal) ℓ) (c : Dev JoinDprojIdeal.nD) (r : Fin 8192)

/-! The kernel's joined gradient, part by part. -/

theorem part0 (l : Fin 1024) : val8 m c r.val (0 + l.val) = Q m c r.val l.val := by
  rw [val8, if_pos (by omega), Nat.zero_add]

theorem part1 (l : Fin 128) : val8 m c r.val (1024 + l.val) = K m c r.val l.val + Kn m c (r.val + 128) l.val := by
  rw [val8, if_neg (by omega), if_pos (by omega), Nat.add_sub_cancel_left]

theorem part2 (l : Fin 128) : val8 m c r.val (1152 + l.val) = W m c r.val l.val + Wn m c (r.val + 128) l.val := by
  rw [val8, if_neg (by omega), if_neg (by omega), if_pos (by omega), Nat.add_sub_cancel_left]

theorem part3 (l : Fin 512) : val8 m c r.val (1280 + l.val) = U m c r.val l.val := by
  rw [val8, if_neg (by omega), if_neg (by omega), if_neg (by omega), if_pos (by omega), Nat.add_sub_cancel_left]

theorem part4 (l : Fin 2048) : val8 m c r.val (1792 + l.val) = Ga m c r.val l.val := by
  rw [val8, if_neg (by omega), if_neg (by omega), if_neg (by omega), if_neg (by omega), if_pos (by omega), Nat.add_sub_cancel_left]

theorem part5 (l : Fin 2048) : val8 m c r.val (3840 + l.val) = Gs m c r.val l.val := by
  rw [val8, if_neg (by omega), if_neg (by omega), if_neg (by omega), if_neg (by omega), if_neg (by omega), Nat.add_sub_cancel_left]

end Parts

/-- The kernel's results are the reference's. -/
theorem algebraic : algebraic_JoinDprojIdeal_JoinDprojRefIdeal := by
  intro m ρ m' ρ' _ hargs
  refine ⟨JoinDprojIdeal.Final.arr8 m, JoinDprojIdeal.Final.arr9 m, ?_, ?_⟩
  · refine (θ_run _ _ _).mono (fun r h c => ?_) (Cert.JoinDprojIdeal.Value.run_blocks m ρ)
    obtain ⟨h8, h9, hrest⟩ := h c
    exact ⟨h8.trans (JoinDprojIdeal.Final.final8 m c), h9.trans (JoinDprojIdeal.Final.final9 m c), hrest⟩
  · refine (θ_run _ _ _).mono (fun r h c => ?_) (Cert.JoinDprojRefIdeal.Value.run m' ρ')
    obtain ⟨h8, h9, hrest⟩ := h c
    obtain ⟨e0, e1, e2, e3, e4, e5, e6, e7⟩ := hargs c
    rw [e0, e1, e2, e3, e4, e5, e6, e7] at h8 h9
    have hv : ∀ (r : Fin 8192) (p : Fin 5888), _ = JoinDprojIdeal.Final.val8 m c r.val p.val :=
      join_apply _ _ _ _ _ _ (JoinDprojIdeal.Final.val8 m c)
        (fun r l => Eq.trans (at2_eq (n0 := 8192) (n1 := 1024) _ r l _ _ rfl rfl).symm (part0 m c r l).symm)
        (fun r l => (pair_sum _ _ r l).trans (part1 m c r l).symm)
        (fun r l => (pair_sum _ _ r l).trans (part2 m c r l).symm)
        (fun r l => Eq.trans (at2_eq (n0 := 8192) (n1 := 512) _ r l _ _ rfl rfl).symm (part3 m c r l).symm)
        (fun r l => Eq.trans (at2_eq (n0 := 8192) (n1 := 2048) _ r l _ _ rfl rfl).symm (part4 m c r l).symm)
        (fun r l => Eq.trans (at2_eq (n0 := 8192) (n1 := 2048) _ r l _ _ rfl rfl).symm (part5 m c r l).symm)
    refine ⟨h8.trans (funext fun y => (congrArg _ (eq_ix2 y)).trans (hv (y 0) (y 1))), h9.trans (funext fun y => (congrArg _ (eq_row y)).trans ?_), hrest⟩
    exact (sums_apply _ (y 1)).trans ((Finset.sum_congr rfl fun r _ => hv r (y 1)).trans
      (Finset.sum_range fun r => JoinDprojIdeal.Final.val8 m c r (y 1).val).symm)

end JoinDprojClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Frame
public import proofs.«01_k».proof.Proof.Gen.ReferenceIdeal.Value
public import proofs.«01_k».proof.Proof.Gen.ReferenceIdeal
public import proofs.«01_k».proof.Proof.Gen.Pre_ffn_finite
public import proofs.«01_k».proof.Proof.Gen.Pre_attn_finite
public import proofs.«01_k».proof.Proof.Gen.DwUp.Frame
public import proofs.«01_k».proof.Proof.Gen.DwUpIdeal.Value
public import proofs.«01_k».proof.Proof.Gen.DwUpRefIdeal.Run
public import proofs.«01_k».proof.Proof.Gen.DAct.Frame
public import proofs.«01_k».proof.Proof.Gen.DActIdeal.Value
public import proofs.«01_k».proof.Proof.Gen.DActRefIdeal.Run
public import proofs.«01_k».proof.Proof.Gen.DH2.Frame
public import proofs.«01_k».proof.Proof.Gen.DH2Ideal.Value
public import proofs.«01_k».proof.Proof.Gen.DH2RefIdeal.Run
public import proofs.«01_k».proof.Proof.Gen.DwDown.Frame
public import proofs.«01_k».proof.Proof.Gen.DwDownIdeal.Value
public import proofs.«01_k».proof.Proof.Gen.DwDownRefIdeal.Run
public import proofs.«01_k».proof.Proof.Gen.DwIn.Frame
public import proofs.«01_k».proof.Proof.Gen.DwInIdeal.Value
public import proofs.«01_k».proof.Proof.Gen.DwInRefIdeal.Run
public import proofs.«01_k».proof.Proof.Gen.DH1.Frame
public import proofs.«01_k».proof.Proof.Gen.DH1Ideal.Value
public import proofs.«01_k».proof.Proof.Gen.DH1RefIdeal.Run
public import proofs.«01_k».proof.Proof.Gen.DwOut.Frame
public import proofs.«01_k».proof.Proof.Gen.DwOutIdeal.Value
public import proofs.«01_k».proof.Proof.Gen.DwOutRefIdeal.Run
public import proofs.«01_k».proof.Proof.Gen.DAttn.Frame
public import proofs.«01_k».proof.Proof.Gen.DAttnIdeal.Value
public import proofs.«01_k».proof.Proof.Gen.DAttnRefIdeal.Run
public import proofs.«01_k».proof.Proof.Gen.DwBa.Frame
public import proofs.«01_k».proof.Proof.Gen.DwBaIdeal.Value
public import proofs.«01_k».proof.Proof.Gen.DwBaRefIdeal.Run
public import proofs.«01_k».proof.Proof.Gen.DwBs.Frame
public import proofs.«01_k».proof.Proof.Gen.DwBsIdeal.Value
public import proofs.«01_k».proof.Proof.Gen.DwBsRefIdeal.Run
public import proofs.«01_k».proof.Proof.Gen.DwGlu.Frame
public import proofs.«01_k».proof.Proof.Gen.DwGluIdeal.Value
public import proofs.«01_k».proof.Proof.Gen.DwGluRefIdeal.Run
public import proofs.«01_k».proof.Proof.Gen.DGy.Frame
public import proofs.«01_k».proof.Proof.Gen.DGyIdeal.Value
public import proofs.«01_k».proof.Proof.Gen.DGyRefIdeal.Run
public import proofs.«01_k».proof.Proof.Gen.ProjIn.Frame
public import proofs.«01_k».proof.Proof.Gen.ProjInIdeal.Value
public import proofs.«01_k».proof.Proof.Gen.ProjInRefIdeal.Run
public import proofs.«01_k».proof.Proof.Gen.BranchA.Frame
public import proofs.«01_k».proof.Proof.Gen.BranchAIdeal.Value
public import proofs.«01_k».proof.Proof.Gen.BranchARefIdeal.Run
public import proofs.«01_k».proof.Proof.Gen.BranchS.Frame
public import proofs.«01_k».proof.Proof.Gen.BranchSIdeal.Value
public import proofs.«01_k».proof.Proof.Gen.BranchSRefIdeal.Run
public import proofs.«01_k».proof.Proof.Gen.ProjOut.Frame
public import proofs.«01_k».proof.Proof.Gen.ProjOutIdeal.Value
public import proofs.«01_k».proof.Proof.Gen.ProjOutRefIdeal.Run
public import proofs.«01_k».proof.Proof.Gen.ProjUp.Frame
public import proofs.«01_k».proof.Proof.Gen.ProjUpIdeal.Value
public import proofs.«01_k».proof.Proof.Gen.ProjUpRefIdeal.Run
public import proofs.«01_k».proof.Proof.Gen.ProjDown.Frame
public import proofs.«01_k».proof.Proof.Gen.ProjDownIdeal.Value
public import proofs.«01_k».proof.Proof.Gen.ProjDownRefIdeal.Run
public import proofs.«01_k».proof.Proof.Gen.DMerged.Frame
public import proofs.«01_k».proof.Proof.Gen.DMergedIdeal.Value
public import proofs.«01_k».proof.Proof.Gen.DMergedRefIdeal.Run
public import proofs.«01_k».proof.Proof.Gen.Rms2Bwd.Frame
public import proofs.«01_k».proof.Proof.Gen.Rms2BwdIdeal.Value
public import proofs.«01_k».proof.Proof.Gen.Rms2BwdRefIdeal.Run
public import proofs.«01_k».proof.Proof.Gen.Rms1Bwd.Frame
public import proofs.«01_k».proof.Proof.Gen.Rms1BwdIdeal.Value
public import proofs.«01_k».proof.Proof.Gen.Rms1BwdRefIdeal.Run
public import proofs.«01_k».proof.Proof.Gen.FinalLoss.Frame
public import proofs.«01_k».proof.Proof.Gen.FinalLossIdeal.Value
public import proofs.«01_k».proof.Proof.Gen.FinalLossRefIdeal.Run
public import proofs.«01_k».proof.Proof.Gen.RmsFwd.Frame
public import proofs.«01_k».proof.Proof.Gen.RmsFwdIdeal.Value
public import proofs.«01_k».proof.Proof.Gen.RmsFwdRefIdeal.Run
public import proofs.«01_k».proof.Proof.Gen.DSsm.Frame
public import proofs.«01_k».proof.Proof.Gen.DSsmIdeal.Value
public import proofs.«01_k».proof.Proof.Gen.DSsmRefIdeal.Run
public import proofs.«01_k».proof.Proof.Gen.Glu.Frame
public import proofs.«01_k».proof.Proof.Gen.GluIdeal.Value
public import proofs.«01_k».proof.Proof.Gen.GluRefIdeal.Run
public import proofs.«01_k».proof.Proof.Gen.MergeFwd.Frame
public import proofs.«01_k».proof.Proof.Gen.MergeFwdIdeal.Value
public import proofs.«01_k».proof.Proof.Gen.MergeFwdRefIdeal.Run
public import proofs.«01_k».proof.Proof.Gen.AttnBwd.Frame
public import proofs.«01_k».proof.Proof.Gen.AttnBwdIdeal.Value
public import proofs.«01_k».proof.Proof.Gen.AttnBwdRefIdeal.Run
public import proofs.«01_k».proof.Proof.Gen.SsmDiscBwd.Frame
public import proofs.«01_k».proof.Proof.Gen.SsmDiscBwdIdeal.Value
public import proofs.«01_k».proof.Proof.Gen.SsmDiscBwdRefIdeal.Run
public import proofs.«01_k».proof.Proof.Gen.SsmDiscFwd.Frame
public import proofs.«01_k».proof.Proof.Gen.SsmDiscFwdIdeal.Value
public import proofs.«01_k».proof.Proof.Gen.SsmDiscFwdRefIdeal.Run
public import proofs.«01_k».proof.Proof.Gen.JoinDproj.Frame
public import proofs.«01_k».proof.Proof.Gen.JoinDprojIdeal.Value
public import proofs.«01_k».proof.Proof.Gen.JoinDprojRefIdeal.Run
public import proofs.«01_k».proof.Proof.FfnClaims
public import proofs.«01_k».proof.Proof.DwUpClaims
public import proofs.«01_k».proof.Proof.DActClaims
public import proofs.«01_k».proof.Proof.DH2Claims
public import proofs.«01_k».proof.Proof.DwDownClaims
public import proofs.«01_k».proof.Proof.DwInClaims
public import proofs.«01_k».proof.Proof.DH1Claims
public import proofs.«01_k».proof.Proof.DwOutClaims
public import proofs.«01_k».proof.Proof.DAttnClaims
public import proofs.«01_k».proof.Proof.DwBaClaims
public import proofs.«01_k».proof.Proof.DwBsClaims
public import proofs.«01_k».proof.Proof.DwGluClaims
public import proofs.«01_k».proof.Proof.DGyClaims
public import proofs.«01_k».proof.Proof.ProjInClaims
public import proofs.«01_k».proof.Proof.BranchAClaims
public import proofs.«01_k».proof.Proof.BranchSClaims
public import proofs.«01_k».proof.Proof.ProjOutClaims
public import proofs.«01_k».proof.Proof.ProjUpClaims
public import proofs.«01_k».proof.Proof.ProjDownClaims
public import proofs.«01_k».proof.Proof.DMergedClaims
public import proofs.«01_k».proof.Proof.Rms2BwdClaims
public import proofs.«01_k».proof.Proof.Rms1BwdClaims
public import proofs.«01_k».proof.Proof.FinalLossClaims
public import proofs.«01_k».proof.Proof.RmsFwdClaims
public import proofs.«01_k».proof.Proof.DSsmClaims
public import proofs.«01_k».proof.Proof.GluClaims
public import proofs.«01_k».proof.Proof.MergeFwdClaims
public import proofs.«01_k».proof.Proof.AttnBwdClaims
public import proofs.«01_k».proof.Proof.SsmDiscBwdClaims
public import proofs.«01_k».proof.Proof.SsmDiscFwdClaims
public import proofs.«01_k».proof.Proof.JoinDprojClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.DwUp.Gen.facts, Cert.DwUpIdeal.Gen.facts, Cert.DwUpRefIdeal.Gen.facts, Cert.DAct.Gen.facts,
  Cert.DActIdeal.Gen.facts, Cert.DActRefIdeal.Gen.facts, Cert.DH2.Gen.facts, Cert.DH2Ideal.Gen.facts,
  Cert.DH2RefIdeal.Gen.facts, Cert.DwDown.Gen.facts, Cert.DwDownIdeal.Gen.facts, Cert.DwDownRefIdeal.Gen.facts,
  Cert.DwIn.Gen.facts, Cert.DwInIdeal.Gen.facts, Cert.DwInRefIdeal.Gen.facts, Cert.DH1.Gen.facts,
  Cert.DH1Ideal.Gen.facts, Cert.DH1RefIdeal.Gen.facts, Cert.DwOut.Gen.facts, Cert.DwOutIdeal.Gen.facts,
  Cert.DwOutRefIdeal.Gen.facts, Cert.DAttn.Gen.facts, Cert.DAttnIdeal.Gen.facts, Cert.DAttnRefIdeal.Gen.facts,
  Cert.DwBa.Gen.facts, Cert.DwBaIdeal.Gen.facts, Cert.DwBaRefIdeal.Gen.facts, Cert.DwBs.Gen.facts,
  Cert.DwBsIdeal.Gen.facts, Cert.DwBsRefIdeal.Gen.facts, Cert.DwGlu.Gen.facts, Cert.DwGluIdeal.Gen.facts,
  Cert.DwGluRefIdeal.Gen.facts, Cert.DGy.Gen.facts, Cert.DGyIdeal.Gen.facts, Cert.DGyRefIdeal.Gen.facts,
  Cert.ProjIn.Gen.facts, Cert.ProjInIdeal.Gen.facts, Cert.ProjInRefIdeal.Gen.facts, Cert.BranchA.Gen.facts,
  Cert.BranchAIdeal.Gen.facts, Cert.BranchARefIdeal.Gen.facts, Cert.BranchS.Gen.facts, Cert.BranchSIdeal.Gen.facts,
  Cert.BranchSRefIdeal.Gen.facts, Cert.ProjOut.Gen.facts, Cert.ProjOutIdeal.Gen.facts, Cert.ProjOutRefIdeal.Gen.facts,
  Cert.ProjUp.Gen.facts, Cert.ProjUpIdeal.Gen.facts, Cert.ProjUpRefIdeal.Gen.facts, Cert.ProjDown.Gen.facts,
  Cert.ProjDownIdeal.Gen.facts, Cert.ProjDownRefIdeal.Gen.facts, Cert.DMerged.Gen.facts, Cert.DMergedIdeal.Gen.facts,
  Cert.DMergedRefIdeal.Gen.facts, Cert.Rms2Bwd.Gen.facts, Cert.Rms2BwdIdeal.Gen.facts, Cert.Rms2BwdRefIdeal.Gen.facts,
  Cert.Rms1Bwd.Gen.facts, Cert.Rms1BwdIdeal.Gen.facts, Cert.Rms1BwdRefIdeal.Gen.facts, Cert.FinalLoss.Gen.facts,
  Cert.FinalLossIdeal.Gen.facts, Cert.FinalLossRefIdeal.Gen.facts, Cert.RmsFwd.Gen.facts, Cert.RmsFwdIdeal.Gen.facts,
  Cert.RmsFwdRefIdeal.Gen.facts, Cert.DSsm.Gen.facts, Cert.DSsmIdeal.Gen.facts, Cert.DSsmRefIdeal.Gen.facts,
  Cert.Glu.Gen.facts, Cert.GluIdeal.Gen.facts, Cert.GluRefIdeal.Gen.facts, Cert.MergeFwd.Gen.facts,
  Cert.MergeFwdIdeal.Gen.facts, Cert.MergeFwdRefIdeal.Gen.facts, Cert.AttnBwd.Gen.facts, Cert.AttnBwdIdeal.Gen.facts,
  Cert.AttnBwdRefIdeal.Gen.facts, Cert.SsmDiscBwd.Gen.facts, Cert.SsmDiscBwdIdeal.Gen.facts,
  Cert.SsmDiscBwdRefIdeal.Gen.facts, Cert.SsmDiscFwd.Gen.facts, Cert.SsmDiscFwdIdeal.Gen.facts,
  Cert.SsmDiscFwdRefIdeal.Gen.facts, Cert.JoinDproj.Gen.facts, Cert.JoinDprojIdeal.Gen.facts,
  Cert.JoinDprojRefIdeal.Gen.facts, Cert.Pre_ffn_finite.Gen.facts, Cert.Pre_attn_finite.Gen.facts, FfnClaims.frame_p,
  FfnClaims.frame_pi, FfnClaims.frame_pi_pre, FfnClaims.frame_ri, FfnClaims.frame_ri_pre, DwUpClaims.frame_p,
  DwUpClaims.frame_pi, DwUpClaims.frame_ri, DActClaims.frame_p, DActClaims.frame_pi, DActClaims.frame_ri,
  DH2Claims.frame_p, DH2Claims.frame_pi, DH2Claims.frame_ri, DwDownClaims.frame_p, DwDownClaims.frame_pi,
  DwDownClaims.frame_ri, DwInClaims.frame_p, DwInClaims.frame_pi, DwInClaims.frame_ri, DH1Claims.frame_p,
  DH1Claims.frame_pi, DH1Claims.frame_ri, DwOutClaims.frame_p, DwOutClaims.frame_pi, DwOutClaims.frame_ri,
  DAttnClaims.frame_p, DAttnClaims.frame_pi, DAttnClaims.frame_ri, DwBaClaims.frame_p, DwBaClaims.frame_pi,
  DwBaClaims.frame_ri, DwBsClaims.frame_p, DwBsClaims.frame_pi, DwBsClaims.frame_ri, DwGluClaims.frame_p,
  DwGluClaims.frame_pi, DwGluClaims.frame_ri, DGyClaims.frame_p, DGyClaims.frame_pi, DGyClaims.frame_ri,
  ProjInClaims.frame_p, ProjInClaims.frame_pi, ProjInClaims.frame_ri, BranchAClaims.frame_p, BranchAClaims.frame_pi,
  BranchAClaims.frame_ri, BranchSClaims.frame_p, BranchSClaims.frame_pi, BranchSClaims.frame_ri, ProjOutClaims.frame_p,
  ProjOutClaims.frame_pi, ProjOutClaims.frame_ri, ProjUpClaims.frame_p, ProjUpClaims.frame_pi, ProjUpClaims.frame_ri,
  ProjDownClaims.frame_p, ProjDownClaims.frame_pi, ProjDownClaims.frame_ri, DMergedClaims.frame_p,
  DMergedClaims.frame_pi, DMergedClaims.frame_ri, Rms2BwdClaims.frame_p, Rms2BwdClaims.frame_pi, Rms2BwdClaims.frame_ri,
  Rms1BwdClaims.frame_p, Rms1BwdClaims.frame_pi, Rms1BwdClaims.frame_ri, FinalLossClaims.frame_p,
  FinalLossClaims.frame_pi, FinalLossClaims.frame_ri, RmsFwdClaims.frame_p, RmsFwdClaims.frame_pi,
  RmsFwdClaims.frame_ri, DSsmClaims.frame_p, DSsmClaims.frame_pi, DSsmClaims.frame_ri, GluClaims.frame_p,
  GluClaims.frame_pi, GluClaims.frame_ri, MergeFwdClaims.frame_p, MergeFwdClaims.frame_pi, MergeFwdClaims.frame_ri,
  AttnBwdClaims.frame_p, AttnBwdClaims.frame_pi, AttnBwdClaims.frame_pi_pre, AttnBwdClaims.frame_ri,
  AttnBwdClaims.frame_ri_pre, SsmDiscBwdClaims.frame_p, SsmDiscBwdClaims.frame_pi, SsmDiscBwdClaims.frame_ri,
  SsmDiscFwdClaims.frame_p, SsmDiscFwdClaims.frame_pi, SsmDiscFwdClaims.frame_ri, JoinDprojClaims.frame_p,
  JoinDprojClaims.frame_pi, JoinDprojClaims.frame_ri, FfnClaims.preserves, FfnClaims.algebraic, DwUpClaims.preserves,
  DwUpClaims.algebraic, DActClaims.preserves, DActClaims.algebraic, DH2Claims.preserves, DH2Claims.algebraic,
  DwDownClaims.preserves, DwDownClaims.algebraic, DwInClaims.preserves, DwInClaims.algebraic, DH1Claims.preserves,
  DH1Claims.algebraic, DwOutClaims.preserves, DwOutClaims.algebraic, DAttnClaims.preserves, DAttnClaims.algebraic,
  DwBaClaims.preserves, DwBaClaims.algebraic, DwBsClaims.preserves, DwBsClaims.algebraic, DwGluClaims.preserves,
  DwGluClaims.algebraic, DGyClaims.preserves, DGyClaims.algebraic, ProjInClaims.preserves, ProjInClaims.algebraic,
  BranchAClaims.preserves, BranchAClaims.algebraic, BranchSClaims.preserves, BranchSClaims.algebraic,
  ProjOutClaims.preserves, ProjOutClaims.algebraic, ProjUpClaims.preserves, ProjUpClaims.algebraic,
  ProjDownClaims.preserves, ProjDownClaims.algebraic, DMergedClaims.preserves, DMergedClaims.algebraic,
  Rms2BwdClaims.preserves, Rms2BwdClaims.algebraic, Rms1BwdClaims.preserves, Rms1BwdClaims.algebraic,
  FinalLossClaims.preserves, FinalLossClaims.algebraic, RmsFwdClaims.preserves, RmsFwdClaims.algebraic,
  DSsmClaims.preserves, DSsmClaims.algebraic, GluClaims.preserves, GluClaims.algebraic, MergeFwdClaims.preserves,
  MergeFwdClaims.algebraic, AttnBwdClaims.preserves, AttnBwdClaims.algebraic, SsmDiscBwdClaims.preserves,
  SsmDiscBwdClaims.algebraic, SsmDiscFwdClaims.preserves, SsmDiscFwdClaims.algebraic, JoinDprojClaims.preserves,
  JoinDprojClaims.algebraic⟩

end Cert.Proof

end
